-- ==== Defs.lean ====
def Pre_EvenTail (m : (ℓ : Loc Cert.EvenTail.nD Cert.EvenTail.τ Cert.EvenTail.sig) → Buf (Elt Bits) ℓ) : Prop :=
  True

def Pre_EvenTailIdeal (m : (ℓ : Loc Cert.EvenTailIdeal.nD Cert.EvenTailIdeal.τ Cert.EvenTailIdeal.sig) → Buf (Elt Ideal) ℓ) : Prop :=
  True

def Pre_EvenTailRefIdeal (m : (ℓ : Loc Cert.EvenTailRefIdeal.nD Cert.EvenTailRefIdeal.τ Cert.EvenTailRefIdeal.sig) → Buf (Elt Ideal) ℓ) : Prop :=
  True

def Pre_OddTail (m : (ℓ : Loc Cert.OddTail.nD Cert.OddTail.τ Cert.OddTail.sig) → Buf (Elt Bits) ℓ) : Prop :=
  True

def Pre_OddTailIdeal (m : (ℓ : Loc Cert.OddTailIdeal.nD Cert.OddTailIdeal.τ Cert.OddTailIdeal.sig) → Buf (Elt Ideal) ℓ) : Prop :=
  True

def Pre_OddTailIdeal_finite_lses [hPre_finite_lses : Cert.Pre_finite_lses.Facts] (m : (ℓ : Loc Cert.OddTailIdeal.nD Cert.OddTailIdeal.τ Cert.OddTailIdeal.sig) → Buf (Elt Ideal) ℓ) : Prop :=
  ∀ c : Dev Cert.OddTailIdeal.nD,
    (Cert.Pre_finite_lses.fn (F := Ideal) (m ((c.tc : Thread Cert.OddTailIdeal.nD Cert.OddTailIdeal.τ).loc Cert.OddTailIdeal.main_arg0)) (m ((c.tc : Thread Cert.OddTailIdeal.nD Cert.OddTailIdeal.τ).loc Cert.OddTailIdeal.main_arg1)) (m ((c.tc : Thread Cert.OddTailIdeal.nD Cert.OddTailIdeal.τ).loc Cert.OddTailIdeal.main_arg2)) (m ((c.tc : Thread Cert.OddTailIdeal.nD Cert.OddTailIdeal.τ).loc Cert.OddTailIdeal.main_arg3)) (m ((c.tc : Thread Cert.OddTailIdeal.nD Cert.OddTailIdeal.τ).loc Cert.OddTailIdeal.main_arg4)) (m ((c.tc : Thread Cert.OddTailIdeal.nD Cert.OddTailIdeal.τ).loc Cert.OddTailIdeal.main_arg5)) (m ((c.tc : Thread Cert.OddTailIdeal.nD Cert.OddTailIdeal.τ).loc Cert.OddTailIdeal.main_arg6)) (m ((c.tc : Thread Cert.OddTailIdeal.nD Cert.OddTailIdeal.τ).loc Cert.OddTailIdeal.main_arg7)) (m ((c.tc : Thread Cert.OddTailIdeal.nD Cert.OddTailIdeal.τ).loc Cert.OddTailIdeal.main_arg8)) (m ((c.tc : Thread Cert.OddTailIdeal.nD Cert.OddTailIdeal.τ).loc Cert.OddTailIdeal.main_arg9)) (m ((c.tc : Thread Cert.OddTailIdeal.nD Cert.OddTailIdeal.τ).loc Cert.OddTailIdeal.main_arg10)) (m ((c.tc : Thread Cert.OddTailIdeal.nD Cert.OddTailIdeal.τ).loc Cert.OddTailIdeal.main_arg11)) (m ((c.tc : Thread Cert.OddTailIdeal.nD Cert.OddTailIdeal.τ).loc Cert.OddTailIdeal.main_arg12))).1 = (fun _ => 1#1)
    ∧ (Cert.Pre_finite_lses.fn (F := Ideal) (m ((c.tc : Thread Cert.OddTailIdeal.nD Cert.OddTailIdeal.τ).loc Cert.OddTailIdeal.main_arg0)) (m ((c.tc : Thread Cert.OddTailIdeal.nD Cert.OddTailIdeal.τ).loc Cert.OddTailIdeal.main_arg1)) (m ((c.tc : Thread Cert.OddTailIdeal.nD Cert.OddTailIdeal.τ).loc Cert.OddTailIdeal.main_arg2)) (m ((c.tc : Thread Cert.OddTailIdeal.nD Cert.OddTailIdeal.τ).loc Cert.OddTailIdeal.main_arg3)) (m ((c.tc : Thread Cert.OddTailIdeal.nD Cert.OddTailIdeal.τ).loc Cert.OddTailIdeal.main_arg4)) (m ((c.tc : Thread Cert.OddTailIdeal.nD Cert.OddTailIdeal.τ).loc Cert.OddTailIdeal.main_arg5)) (m ((c.tc : Thread Cert.OddTailIdeal.nD Cert.OddTailIdeal.τ).loc Cert.OddTailIdeal.main_arg6)) (m ((c.tc : Thread Cert.OddTailIdeal.nD Cert.OddTailIdeal.τ).loc Cert.OddTailIdeal.main_arg7)) (m ((c.tc : Thread Cert.OddTailIdeal.nD Cert.OddTailIdeal.τ).loc Cert.OddTailIdeal.main_arg8)) (m ((c.tc : Thread Cert.OddTailIdeal.nD Cert.OddTailIdeal.τ).loc Cert.OddTailIdeal.main_arg9)) (m ((c.tc : Thread Cert.OddTailIdeal.nD Cert.OddTailIdeal.τ).loc Cert.OddTailIdeal.main_arg10)) (m ((c.tc : Thread Cert.OddTailIdeal.nD Cert.OddTailIdeal.τ).loc Cert.OddTailIdeal.main_arg11)) (m ((c.tc : Thread Cert.OddTailIdeal.nD Cert.OddTailIdeal.τ).loc Cert.OddTailIdeal.main_arg12))).2.1 = (fun _ => 1#1)
    ∧ (Cert.Pre_finite_lses.fn (F := Ideal) (m ((c.tc : Thread Cert.OddTailIdeal.nD Cert.OddTailIdeal.τ).loc Cert.OddTailIdeal.main_arg0)) (m ((c.tc : Thread Cert.OddTailIdeal.nD Cert.OddTailIdeal.τ).loc Cert.OddTailIdeal.main_arg1)) (m ((c.tc : Thread Cert.OddTailIdeal.nD Cert.OddTailIdeal.τ).loc Cert.OddTailIdeal.main_arg2)) (m ((c.tc : Thread Cert.OddTailIdeal.nD Cert.OddTailIdeal.τ).loc Cert.OddTailIdeal.main_arg3)) (m ((c.tc : Thread Cert.OddTailIdeal.nD Cert.OddTailIdeal.τ).loc Cert.OddTailIdeal.main_arg4)) (m ((c.tc : Thread Cert.OddTailIdeal.nD Cert.OddTailIdeal.τ).loc Cert.OddTailIdeal.main_arg5)) (m ((c.tc : Thread Cert.OddTailIdeal.nD Cert.OddTailIdeal.τ).loc Cert.OddTailIdeal.main_arg6)) (m ((c.tc : Thread Cert.OddTailIdeal.nD Cert.OddTailIdeal.τ).loc Cert.OddTailIdeal.main_arg7)) (m ((c.tc : Thread Cert.OddTailIdeal.nD Cert.OddTailIdeal.τ).loc Cert.OddTailIdeal.main_arg8)) (m ((c.tc : Thread Cert.OddTailIdeal.nD Cert.OddTailIdeal.τ).loc Cert.OddTailIdeal.main_arg9)) (m ((c.tc : Thread Cert.OddTailIdeal.nD Cert.OddTailIdeal.τ).loc Cert.OddTailIdeal.main_arg10)) (m ((c.tc : Thread Cert.OddTailIdeal.nD Cert.OddTailIdeal.τ).loc Cert.OddTailIdeal.main_arg11)) (m ((c.tc : Thread Cert.OddTailIdeal.nD Cert.OddTailIdeal.τ).loc Cert.OddTailIdeal.main_arg12))).2.2 = (fun _ => 1#1)

def Pre_OddTailRefIdeal (m : (ℓ : Loc Cert.OddTailRefIdeal.nD Cert.OddTailRefIdeal.τ Cert.OddTailRefIdeal.sig) → Buf (Elt Ideal) ℓ) : Prop :=
  True

def Pre_OddTailRefIdeal_finite_lses [hPre_finite_lses : Cert.Pre_finite_lses.Facts] (m : (ℓ : Loc Cert.OddTailRefIdeal.nD Cert.OddTailRefIdeal.τ Cert.OddTailRefIdeal.sig) → Buf (Elt Ideal) ℓ) : Prop :=
  ∀ c : Dev Cert.OddTailRefIdeal.nD,
    (Cert.Pre_finite_lses.fn (F := Ideal) (m ((c.tc : Thread Cert.OddTailRefIdeal.nD Cert.OddTailRefIdeal.τ).loc Cert.OddTailRefIdeal.main_arg0)) (m ((c.tc : Thread Cert.OddTailRefIdeal.nD Cert.OddTailRefIdeal.τ).loc Cert.OddTailRefIdeal.main_arg1)) (m ((c.tc : Thread Cert.OddTailRefIdeal.nD Cert.OddTailRefIdeal.τ).loc Cert.OddTailRefIdeal.main_arg2)) (m ((c.tc : Thread Cert.OddTailRefIdeal.nD Cert.OddTailRefIdeal.τ).loc Cert.OddTailRefIdeal.main_arg3)) (m ((c.tc : Thread Cert.OddTailRefIdeal.nD Cert.OddTailRefIdeal.τ).loc Cert.OddTailRefIdeal.main_arg4)) (m ((c.tc : Thread Cert.OddTailRefIdeal.nD Cert.OddTailRefIdeal.τ).loc Cert.OddTailRefIdeal.main_arg5)) (m ((c.tc : Thread Cert.OddTailRefIdeal.nD Cert.OddTailRefIdeal.τ).loc Cert.OddTailRefIdeal.main_arg6)) (m ((c.tc : Thread Cert.OddTailRefIdeal.nD Cert.OddTailRefIdeal.τ).loc Cert.OddTailRefIdeal.main_arg7)) (m ((c.tc : Thread Cert.OddTailRefIdeal.nD Cert.OddTailRefIdeal.τ).loc Cert.OddTailRefIdeal.main_arg8)) (m ((c.tc : Thread Cert.OddTailRefIdeal.nD Cert.OddTailRefIdeal.τ).loc Cert.OddTailRefIdeal.main_arg9)) (m ((c.tc : Thread Cert.OddTailRefIdeal.nD Cert.OddTailRefIdeal.τ).loc Cert.OddTailRefIdeal.main_arg10)) (m ((c.tc : Thread Cert.OddTailRefIdeal.nD Cert.OddTailRefIdeal.τ).loc Cert.OddTailRefIdeal.main_arg11)) (m ((c.tc : Thread Cert.OddTailRefIdeal.nD Cert.OddTailRefIdeal.τ).loc Cert.OddTailRefIdeal.main_arg12))).1 = (fun _ => 1#1)
    ∧ (Cert.Pre_finite_lses.fn (F := Ideal) (m ((c.tc : Thread Cert.OddTailRefIdeal.nD Cert.OddTailRefIdeal.τ).loc Cert.OddTailRefIdeal.main_arg0)) (m ((c.tc : Thread Cert.OddTailRefIdeal.nD Cert.OddTailRefIdeal.τ).loc Cert.OddTailRefIdeal.main_arg1)) (m ((c.tc : Thread Cert.OddTailRefIdeal.nD Cert.OddTailRefIdeal.τ).loc Cert.OddTailRefIdeal.main_arg2)) (m ((c.tc : Thread Cert.OddTailRefIdeal.nD Cert.OddTailRefIdeal.τ).loc Cert.OddTailRefIdeal.main_arg3)) (m ((c.tc : Thread Cert.OddTailRefIdeal.nD Cert.OddTailRefIdeal.τ).loc Cert.OddTailRefIdeal.main_arg4)) (m ((c.tc : Thread Cert.OddTailRefIdeal.nD Cert.OddTailRefIdeal.τ).loc Cert.OddTailRefIdeal.main_arg5)) (m ((c.tc : Thread Cert.OddTailRefIdeal.nD Cert.OddTailRefIdeal.τ).loc Cert.OddTailRefIdeal.main_arg6)) (m ((c.tc : Thread Cert.OddTailRefIdeal.nD Cert.OddTailRefIdeal.τ).loc Cert.OddTailRefIdeal.main_arg7)) (m ((c.tc : Thread Cert.OddTailRefIdeal.nD Cert.OddTailRefIdeal.τ).loc Cert.OddTailRefIdeal.main_arg8)) (m ((c.tc : Thread Cert.OddTailRefIdeal.nD Cert.OddTailRefIdeal.τ).loc Cert.OddTailRefIdeal.main_arg9)) (m ((c.tc : Thread Cert.OddTailRefIdeal.nD Cert.OddTailRefIdeal.τ).loc Cert.OddTailRefIdeal.main_arg10)) (m ((c.tc : Thread Cert.OddTailRefIdeal.nD Cert.OddTailRefIdeal.τ).loc Cert.OddTailRefIdeal.main_arg11)) (m ((c.tc : Thread Cert.OddTailRefIdeal.nD Cert.OddTailRefIdeal.τ).loc Cert.OddTailRefIdeal.main_arg12))).2.1 = (fun _ => 1#1)
    ∧ (Cert.Pre_finite_lses.fn (F := Ideal) (m ((c.tc : Thread Cert.OddTailRefIdeal.nD Cert.OddTailRefIdeal.τ).loc Cert.OddTailRefIdeal.main_arg0)) (m ((c.tc : Thread Cert.OddTailRefIdeal.nD Cert.OddTailRefIdeal.τ).loc Cert.OddTailRefIdeal.main_arg1)) (m ((c.tc : Thread Cert.OddTailRefIdeal.nD Cert.OddTailRefIdeal.τ).loc Cert.OddTailRefIdeal.main_arg2)) (m ((c.tc : Thread Cert.OddTailRefIdeal.nD Cert.OddTailRefIdeal.τ).loc Cert.OddTailRefIdeal.main_arg3)) (m ((c.tc : Thread Cert.OddTailRefIdeal.nD Cert.OddTailRefIdeal.τ).loc Cert.OddTailRefIdeal.main_arg4)) (m ((c.tc : Thread Cert.OddTailRefIdeal.nD Cert.OddTailRefIdeal.τ).loc Cert.OddTailRefIdeal.main_arg5)) (m ((c.tc : Thread Cert.OddTailRefIdeal.nD Cert.OddTailRefIdeal.τ).loc Cert.OddTailRefIdeal.main_arg6)) (m ((c.tc : Thread Cert.OddTailRefIdeal.nD Cert.OddTailRefIdeal.τ).loc Cert.OddTailRefIdeal.main_arg7)) (m ((c.tc : Thread Cert.OddTailRefIdeal.nD Cert.OddTailRefIdeal.τ).loc Cert.OddTailRefIdeal.main_arg8)) (m ((c.tc : Thread Cert.OddTailRefIdeal.nD Cert.OddTailRefIdeal.τ).loc Cert.OddTailRefIdeal.main_arg9)) (m ((c.tc : Thread Cert.OddTailRefIdeal.nD Cert.OddTailRefIdeal.τ).loc Cert.OddTailRefIdeal.main_arg10)) (m ((c.tc : Thread Cert.OddTailRefIdeal.nD Cert.OddTailRefIdeal.τ).loc Cert.OddTailRefIdeal.main_arg11)) (m ((c.tc : Thread Cert.OddTailRefIdeal.nD Cert.OddTailRefIdeal.τ).loc Cert.OddTailRefIdeal.main_arg12))).2.2 = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_AttnMid (m : (ℓ : Loc Cert.AttnMid.nD Cert.AttnMid.τ Cert.AttnMid.sig) → Buf (Elt Bits) ℓ) : Prop :=
  True

def Pre_AttnMidIdeal (m : (ℓ : Loc Cert.AttnMidIdeal.nD Cert.AttnMidIdeal.τ Cert.AttnMidIdeal.sig) → Buf (Elt Ideal) ℓ) : Prop :=
  True

def Pre_AttnMidRefIdeal (m : (ℓ : Loc Cert.AttnMidRefIdeal.nD Cert.AttnMidRefIdeal.τ Cert.AttnMidRefIdeal.sig) → Buf (Elt Ideal) ℓ) : Prop :=
  True

def Pre_Ab (m : (ℓ : Loc Cert.Ab.nD Cert.Ab.τ Cert.Ab.sig) → Buf (Elt Bits) ℓ) : Prop :=
  True

def Pre_AbIdeal (m : (ℓ : Loc Cert.AbIdeal.nD Cert.AbIdeal.τ Cert.AbIdeal.sig) → Buf (Elt Ideal) ℓ) : Prop :=
  True

def Pre_AbRefIdeal (m : (ℓ : Loc Cert.AbRefIdeal.nD Cert.AbRefIdeal.τ Cert.AbRefIdeal.sig) → Buf (Elt Ideal) ℓ) : Prop :=
  True

def quiescent_EvenTail [hEvenTail : Cert.EvenTail.Facts] : Prop :=
  ∀ (m : (ℓ : Loc Cert.EvenTail.nD Cert.EvenTail.τ Cert.EvenTail.sig) → Buf (Elt Bits) ℓ) (g : Dev Cert.EvenTail.nD → PrngReg), Pre_EvenTail m →
    θ_run (Cert.EvenTail.defs (F := Bits)) (onTc (τ := Cert.EvenTail.τ) (Cert.EvenTail.main (F := Bits))) ⟨m, fun _ => 0, g⟩ (fun r => (∀ c : Dev Cert.EvenTail.nD,
      r.2.mem ((c.tc : Thread Cert.EvenTail.nD Cert.EvenTail.τ).loc Cert.EvenTail.main_arg0) = m ((c.tc : Thread Cert.EvenTail.nD Cert.EvenTail.τ).loc Cert.EvenTail.main_arg0)
      ∧ r.2.mem ((c.tc : Thread Cert.EvenTail.nD Cert.EvenTail.τ).loc Cert.EvenTail.main_arg1) = m ((c.tc : Thread Cert.EvenTail.nD Cert.EvenTail.τ).loc Cert.EvenTail.main_arg1)
      ∧ r.2.mem ((c.tc : Thread Cert.EvenTail.nD Cert.EvenTail.τ).loc Cert.EvenTail.main_arg2) = m ((c.tc : Thread Cert.EvenTail.nD Cert.EvenTail.τ).loc Cert.EvenTail.main_arg2)
      ∧ r.2.mem ((c.tc : Thread Cert.EvenTail.nD Cert.EvenTail.τ).loc Cert.EvenTail.main_arg3) = m ((c.tc : Thread Cert.EvenTail.nD Cert.EvenTail.τ).loc Cert.EvenTail.main_arg3)
      ∧ r.2.mem ((c.tc : Thread Cert.EvenTail.nD Cert.EvenTail.τ).loc Cert.EvenTail.main_arg4) = m ((c.tc : Thread Cert.EvenTail.nD Cert.EvenTail.τ).loc Cert.EvenTail.main_arg4)
      ∧ r.2.mem ((c.tc : Thread Cert.EvenTail.nD Cert.EvenTail.τ).loc Cert.EvenTail.main_arg5) = m ((c.tc : Thread Cert.EvenTail.nD Cert.EvenTail.τ).loc Cert.EvenTail.main_arg5)
      ∧ r.2.mem ((c.tc : Thread Cert.EvenTail.nD Cert.EvenTail.τ).loc Cert.EvenTail.main_arg6) = m ((c.tc : Thread Cert.EvenTail.nD Cert.EvenTail.τ).loc Cert.EvenTail.main_arg6)
      ∧ r.2.mem ((c.tc : Thread Cert.EvenTail.nD Cert.EvenTail.τ).loc Cert.EvenTail.main_arg7) = m ((c.tc : Thread Cert.EvenTail.nD Cert.EvenTail.τ).loc Cert.EvenTail.main_arg7)
      ∧ r.2.mem ((c.tc : Thread Cert.EvenTail.nD Cert.EvenTail.τ).loc Cert.EvenTail.main_arg8) = m ((c.tc : Thread Cert.EvenTail.nD Cert.EvenTail.τ).loc Cert.EvenTail.main_arg8))
      ∧ r.2.sem = fun _ => 0)

def quiescent_EvenTailIdeal [hEvenTailIdeal : Cert.EvenTailIdeal.Facts] : Prop :=
  ∀ (m : (ℓ : Loc Cert.EvenTailIdeal.nD Cert.EvenTailIdeal.τ Cert.EvenTailIdeal.sig) → Buf (Elt Ideal) ℓ) (g : Dev Cert.EvenTailIdeal.nD → PrngReg), Pre_EvenTailIdeal m →
    θ_run (Cert.EvenTailIdeal.defs (F := Ideal)) (onTc (τ := Cert.EvenTailIdeal.τ) (Cert.EvenTailIdeal.main (F := Ideal))) ⟨m, fun _ => 0, g⟩ (fun r => (∀ c : Dev Cert.EvenTailIdeal.nD,
      r.2.mem ((c.tc : Thread Cert.EvenTailIdeal.nD Cert.EvenTailIdeal.τ).loc Cert.EvenTailIdeal.main_arg0) = m ((c.tc : Thread Cert.EvenTailIdeal.nD Cert.EvenTailIdeal.τ).loc Cert.EvenTailIdeal.main_arg0)
      ∧ r.2.mem ((c.tc : Thread Cert.EvenTailIdeal.nD Cert.EvenTailIdeal.τ).loc Cert.EvenTailIdeal.main_arg1) = m ((c.tc : Thread Cert.EvenTailIdeal.nD Cert.EvenTailIdeal.τ).loc Cert.EvenTailIdeal.main_arg1)
      ∧ r.2.mem ((c.tc : Thread Cert.EvenTailIdeal.nD Cert.EvenTailIdeal.τ).loc Cert.EvenTailIdeal.main_arg2) = m ((c.tc : Thread Cert.EvenTailIdeal.nD Cert.EvenTailIdeal.τ).loc Cert.EvenTailIdeal.main_arg2)
      ∧ r.2.mem ((c.tc : Thread Cert.EvenTailIdeal.nD Cert.EvenTailIdeal.τ).loc Cert.EvenTailIdeal.main_arg3) = m ((c.tc : Thread Cert.EvenTailIdeal.nD Cert.EvenTailIdeal.τ).loc Cert.EvenTailIdeal.main_arg3)
      ∧ r.2.mem ((c.tc : Thread Cert.EvenTailIdeal.nD Cert.EvenTailIdeal.τ).loc Cert.EvenTailIdeal.main_arg4) = m ((c.tc : Thread Cert.EvenTailIdeal.nD Cert.EvenTailIdeal.τ).loc Cert.EvenTailIdeal.main_arg4)
      ∧ r.2.mem ((c.tc : Thread Cert.EvenTailIdeal.nD Cert.EvenTailIdeal.τ).loc Cert.EvenTailIdeal.main_arg5) = m ((c.tc : Thread Cert.EvenTailIdeal.nD Cert.EvenTailIdeal.τ).loc Cert.EvenTailIdeal.main_arg5)
      ∧ r.2.mem ((c.tc : Thread Cert.EvenTailIdeal.nD Cert.EvenTailIdeal.τ).loc Cert.EvenTailIdeal.main_arg6) = m ((c.tc : Thread Cert.EvenTailIdeal.nD Cert.EvenTailIdeal.τ).loc Cert.EvenTailIdeal.main_arg6)
      ∧ r.2.mem ((c.tc : Thread Cert.EvenTailIdeal.nD Cert.EvenTailIdeal.τ).loc Cert.EvenTailIdeal.main_arg7) = m ((c.tc : Thread Cert.EvenTailIdeal.nD Cert.EvenTailIdeal.τ).loc Cert.EvenTailIdeal.main_arg7)
      ∧ r.2.mem ((c.tc : Thread Cert.EvenTailIdeal.nD Cert.EvenTailIdeal.τ).loc Cert.EvenTailIdeal.main_arg8) = m ((c.tc : Thread Cert.EvenTailIdeal.nD Cert.EvenTailIdeal.τ).loc Cert.EvenTailIdeal.main_arg8))
      ∧ r.2.sem = fun _ => 0)

def quiescent_EvenTailRefIdeal [hEvenTailRefIdeal : Cert.EvenTailRefIdeal.Facts] : Prop :=
  ∀ (m : (ℓ : Loc Cert.EvenTailRefIdeal.nD Cert.EvenTailRefIdeal.τ Cert.EvenTailRefIdeal.sig) → Buf (Elt Ideal) ℓ) (g : Dev Cert.EvenTailRefIdeal.nD → PrngReg), Pre_EvenTailRefIdeal m →
    θ_run (Cert.EvenTailRefIdeal.defs (F := Ideal)) (onTc (τ := Cert.EvenTailRefIdeal.τ) (Cert.EvenTailRefIdeal.main (F := Ideal))) ⟨m, fun _ => 0, g⟩ (fun r => (∀ c : Dev Cert.EvenTailRefIdeal.nD,
      r.2.mem ((c.tc : Thread Cert.EvenTailRefIdeal.nD Cert.EvenTailRefIdeal.τ).loc Cert.EvenTailRefIdeal.main_arg0) = m ((c.tc : Thread Cert.EvenTailRefIdeal.nD Cert.EvenTailRefIdeal.τ).loc Cert.EvenTailRefIdeal.main_arg0)
      ∧ r.2.mem ((c.tc : Thread Cert.EvenTailRefIdeal.nD Cert.EvenTailRefIdeal.τ).loc Cert.EvenTailRefIdeal.main_arg1) = m ((c.tc : Thread Cert.EvenTailRefIdeal.nD Cert.EvenTailRefIdeal.τ).loc Cert.EvenTailRefIdeal.main_arg1)
      ∧ r.2.mem ((c.tc : Thread Cert.EvenTailRefIdeal.nD Cert.EvenTailRefIdeal.τ).loc Cert.EvenTailRefIdeal.main_arg2) = m ((c.tc : Thread Cert.EvenTailRefIdeal.nD Cert.EvenTailRefIdeal.τ).loc Cert.EvenTailRefIdeal.main_arg2)
      ∧ r.2.mem ((c.tc : Thread Cert.EvenTailRefIdeal.nD Cert.EvenTailRefIdeal.τ).loc Cert.EvenTailRefIdeal.main_arg3) = m ((c.tc : Thread Cert.EvenTailRefIdeal.nD Cert.EvenTailRefIdeal.τ).loc Cert.EvenTailRefIdeal.main_arg3)
      ∧ r.2.mem ((c.tc : Thread Cert.EvenTailRefIdeal.nD Cert.EvenTailRefIdeal.τ).loc Cert.EvenTailRefIdeal.main_arg4) = m ((c.tc : Thread Cert.EvenTailRefIdeal.nD Cert.EvenTailRefIdeal.τ).loc Cert.EvenTailRefIdeal.main_arg4)
      ∧ r.2.mem ((c.tc : Thread Cert.EvenTailRefIdeal.nD Cert.EvenTailRefIdeal.τ).loc Cert.EvenTailRefIdeal.main_arg5) = m ((c.tc : Thread Cert.EvenTailRefIdeal.nD Cert.EvenTailRefIdeal.τ).loc Cert.EvenTailRefIdeal.main_arg5)
      ∧ r.2.mem ((c.tc : Thread Cert.EvenTailRefIdeal.nD Cert.EvenTailRefIdeal.τ).loc Cert.EvenTailRefIdeal.main_arg6) = m ((c.tc : Thread Cert.EvenTailRefIdeal.nD Cert.EvenTailRefIdeal.τ).loc Cert.EvenTailRefIdeal.main_arg6)
      ∧ r.2.mem ((c.tc : Thread Cert.EvenTailRefIdeal.nD Cert.EvenTailRefIdeal.τ).loc Cert.EvenTailRefIdeal.main_arg7) = m ((c.tc : Thread Cert.EvenTailRefIdeal.nD Cert.EvenTailRefIdeal.τ).loc Cert.EvenTailRefIdeal.main_arg7)
      ∧ r.2.mem ((c.tc : Thread Cert.EvenTailRefIdeal.nD Cert.EvenTailRefIdeal.τ).loc Cert.EvenTailRefIdeal.main_arg8) = m ((c.tc : Thread Cert.EvenTailRefIdeal.nD Cert.EvenTailRefIdeal.τ).loc Cert.EvenTailRefIdeal.main_arg8))
      ∧ r.2.sem = fun _ => 0)

def quiescent_OddTail [hOddTail : Cert.OddTail.Facts] : Prop :=
  ∀ (m : (ℓ : Loc Cert.OddTail.nD Cert.OddTail.τ Cert.OddTail.sig) → Buf (Elt Bits) ℓ) (g : Dev Cert.OddTail.nD → PrngReg), Pre_OddTail m →
    θ_run (Cert.OddTail.defs (F := Bits)) (onTc (τ := Cert.OddTail.τ) (Cert.OddTail.main (F := Bits))) ⟨m, fun _ => 0, g⟩ (fun r => (∀ c : Dev Cert.OddTail.nD,
      r.2.mem ((c.tc : Thread Cert.OddTail.nD Cert.OddTail.τ).loc Cert.OddTail.main_arg0) = m ((c.tc : Thread Cert.OddTail.nD Cert.OddTail.τ).loc Cert.OddTail.main_arg0)
      ∧ r.2.mem ((c.tc : Thread Cert.OddTail.nD Cert.OddTail.τ).loc Cert.OddTail.main_arg1) = m ((c.tc : Thread Cert.OddTail.nD Cert.OddTail.τ).loc Cert.OddTail.main_arg1)
      ∧ r.2.mem ((c.tc : Thread Cert.OddTail.nD Cert.OddTail.τ).loc Cert.OddTail.main_arg2) = m ((c.tc : Thread Cert.OddTail.nD Cert.OddTail.τ).loc Cert.OddTail.main_arg2)
      ∧ r.2.mem ((c.tc : Thread Cert.OddTail.nD Cert.OddTail.τ).loc Cert.OddTail.main_arg3) = m ((c.tc : Thread Cert.OddTail.nD Cert.OddTail.τ).loc Cert.OddTail.main_arg3)
      ∧ r.2.mem ((c.tc : Thread Cert.OddTail.nD Cert.OddTail.τ).loc Cert.OddTail.main_arg4) = m ((c.tc : Thread Cert.OddTail.nD Cert.OddTail.τ).loc Cert.OddTail.main_arg4)
      ∧ r.2.mem ((c.tc : Thread Cert.OddTail.nD Cert.OddTail.τ).loc Cert.OddTail.main_arg5) = m ((c.tc : Thread Cert.OddTail.nD Cert.OddTail.τ).loc Cert.OddTail.main_arg5)
      ∧ r.2.mem ((c.tc : Thread Cert.OddTail.nD Cert.OddTail.τ).loc Cert.OddTail.main_arg6) = m ((c.tc : Thread Cert.OddTail.nD Cert.OddTail.τ).loc Cert.OddTail.main_arg6)
      ∧ r.2.mem ((c.tc : Thread Cert.OddTail.nD Cert.OddTail.τ).loc Cert.OddTail.main_arg7) = m ((c.tc : Thread Cert.OddTail.nD Cert.OddTail.τ).loc Cert.OddTail.main_arg7)
      ∧ r.2.mem ((c.tc : Thread Cert.OddTail.nD Cert.OddTail.τ).loc Cert.OddTail.main_arg8) = m ((c.tc : Thread Cert.OddTail.nD Cert.OddTail.τ).loc Cert.OddTail.main_arg8)
      ∧ r.2.mem ((c.tc : Thread Cert.OddTail.nD Cert.OddTail.τ).loc Cert.OddTail.main_arg9) = m ((c.tc : Thread Cert.OddTail.nD Cert.OddTail.τ).loc Cert.OddTail.main_arg9)
      ∧ r.2.mem ((c.tc : Thread Cert.OddTail.nD Cert.OddTail.τ).loc Cert.OddTail.main_arg10) = m ((c.tc : Thread Cert.OddTail.nD Cert.OddTail.τ).loc Cert.OddTail.main_arg10)
      ∧ r.2.mem ((c.tc : Thread Cert.OddTail.nD Cert.OddTail.τ).loc Cert.OddTail.main_arg11) = m ((c.tc : Thread Cert.OddTail.nD Cert.OddTail.τ).loc Cert.OddTail.main_arg11)
      ∧ r.2.mem ((c.tc : Thread Cert.OddTail.nD Cert.OddTail.τ).loc Cert.OddTail.main_arg12) = m ((c.tc : Thread Cert.OddTail.nD Cert.OddTail.τ).loc Cert.OddTail.main_arg12))
      ∧ r.2.sem = fun _ => 0)

def quiescent_OddTailIdeal [hOddTailIdeal : Cert.OddTailIdeal.Facts] : Prop :=
  ∀ (m : (ℓ : Loc Cert.OddTailIdeal.nD Cert.OddTailIdeal.τ Cert.OddTailIdeal.sig) → Buf (Elt Ideal) ℓ) (g : Dev Cert.OddTailIdeal.nD → PrngReg), Pre_OddTailIdeal m →
    θ_run (Cert.OddTailIdeal.defs (F := Ideal)) (onTc (τ := Cert.OddTailIdeal.τ) (Cert.OddTailIdeal.main (F := Ideal))) ⟨m, fun _ => 0, g⟩ (fun r => (∀ c : Dev Cert.OddTailIdeal.nD,
      r.2.mem ((c.tc : Thread Cert.OddTailIdeal.nD Cert.OddTailIdeal.τ).loc Cert.OddTailIdeal.main_arg0) = m ((c.tc : Thread Cert.OddTailIdeal.nD Cert.OddTailIdeal.τ).loc Cert.OddTailIdeal.main_arg0)
      ∧ r.2.mem ((c.tc : Thread Cert.OddTailIdeal.nD Cert.OddTailIdeal.τ).loc Cert.OddTailIdeal.main_arg1) = m ((c.tc : Thread Cert.OddTailIdeal.nD Cert.OddTailIdeal.τ).loc Cert.OddTailIdeal.main_arg1)
      ∧ r.2.mem ((c.tc : Thread Cert.OddTailIdeal.nD Cert.OddTailIdeal.τ).loc Cert.OddTailIdeal.main_arg2) = m ((c.tc : Thread Cert.OddTailIdeal.nD Cert.OddTailIdeal.τ).loc Cert.OddTailIdeal.main_arg2)
      ∧ r.2.mem ((c.tc : Thread Cert.OddTailIdeal.nD Cert.OddTailIdeal.τ).loc Cert.OddTailIdeal.main_arg3) = m ((c.tc : Thread Cert.OddTailIdeal.nD Cert.OddTailIdeal.τ).loc Cert.OddTailIdeal.main_arg3)
      ∧ r.2.mem ((c.tc : Thread Cert.OddTailIdeal.nD Cert.OddTailIdeal.τ).loc Cert.OddTailIdeal.main_arg4) = m ((c.tc : Thread Cert.OddTailIdeal.nD Cert.OddTailIdeal.τ).loc Cert.OddTailIdeal.main_arg4)
      ∧ r.2.mem ((c.tc : Thread Cert.OddTailIdeal.nD Cert.OddTailIdeal.τ).loc Cert.OddTailIdeal.main_arg5) = m ((c.tc : Thread Cert.OddTailIdeal.nD Cert.OddTailIdeal.τ).loc Cert.OddTailIdeal.main_arg5)
      ∧ r.2.mem ((c.tc : Thread Cert.OddTailIdeal.nD Cert.OddTailIdeal.τ).loc Cert.OddTailIdeal.main_arg6) = m ((c.tc : Thread Cert.OddTailIdeal.nD Cert.OddTailIdeal.τ).loc Cert.OddTailIdeal.main_arg6)
      ∧ r.2.mem ((c.tc : Thread Cert.OddTailIdeal.nD Cert.OddTailIdeal.τ).loc Cert.OddTailIdeal.main_arg7) = m ((c.tc : Thread Cert.OddTailIdeal.nD Cert.OddTailIdeal.τ).loc Cert.OddTailIdeal.main_arg7)
      ∧ r.2.mem ((c.tc : Thread Cert.OddTailIdeal.nD Cert.OddTailIdeal.τ).loc Cert.OddTailIdeal.main_arg8) = m ((c.tc : Thread Cert.OddTailIdeal.nD Cert.OddTailIdeal.τ).loc Cert.OddTailIdeal.main_arg8)
      ∧ r.2.mem ((c.tc : Thread Cert.OddTailIdeal.nD Cert.OddTailIdeal.τ).loc Cert.OddTailIdeal.main_arg9) = m ((c.tc : Thread Cert.OddTailIdeal.nD Cert.OddTailIdeal.τ).loc Cert.OddTailIdeal.main_arg9)
      ∧ r.2.mem ((c.tc : Thread Cert.OddTailIdeal.nD Cert.OddTailIdeal.τ).loc Cert.OddTailIdeal.main_arg10) = m ((c.tc : Thread Cert.OddTailIdeal.nD Cert.OddTailIdeal.τ).loc Cert.OddTailIdeal.main_arg10)
      ∧ r.2.mem ((c.tc : Thread Cert.OddTailIdeal.nD Cert.OddTailIdeal.τ).loc Cert.OddTailIdeal.main_arg11) = m ((c.tc : Thread Cert.OddTailIdeal.nD Cert.OddTailIdeal.τ).loc Cert.OddTailIdeal.main_arg11)
      ∧ r.2.mem ((c.tc : Thread Cert.OddTailIdeal.nD Cert.OddTailIdeal.τ).loc Cert.OddTailIdeal.main_arg12) = m ((c.tc : Thread Cert.OddTailIdeal.nD Cert.OddTailIdeal.τ).loc Cert.OddTailIdeal.main_arg12))
      ∧ r.2.sem = fun _ => 0)

def quiescent_OddTailIdeal_pre_finite_lses [hOddTailIdeal : Cert.OddTailIdeal.Facts] [hPre_finite_lses : Cert.Pre_finite_lses.Facts] : Prop :=
  ∀ (m : (ℓ : Loc Cert.OddTailIdeal.nD Cert.OddTailIdeal.τ Cert.OddTailIdeal.sig) → Buf (Elt Ideal) ℓ) (g : Dev Cert.OddTailIdeal.nD → PrngReg), Pre_OddTailIdeal_finite_lses m →
    θ_run (Cert.OddTailIdeal.defs (F := Ideal)) (onTc (τ := Cert.OddTailIdeal.τ) (Cert.OddTailIdeal.main (F := Ideal))) ⟨m, fun _ => 0, g⟩ (fun r => (∀ c : Dev Cert.OddTailIdeal.nD,
      r.2.mem ((c.tc : Thread Cert.OddTailIdeal.nD Cert.OddTailIdeal.τ).loc Cert.OddTailIdeal.main_arg0) = m ((c.tc : Thread Cert.OddTailIdeal.nD Cert.OddTailIdeal.τ).loc Cert.OddTailIdeal.main_arg0)
      ∧ r.2.mem ((c.tc : Thread Cert.OddTailIdeal.nD Cert.OddTailIdeal.τ).loc Cert.OddTailIdeal.main_arg1) = m ((c.tc : Thread Cert.OddTailIdeal.nD Cert.OddTailIdeal.τ).loc Cert.OddTailIdeal.main_arg1)
      ∧ r.2.mem ((c.tc : Thread Cert.OddTailIdeal.nD Cert.OddTailIdeal.τ).loc Cert.OddTailIdeal.main_arg2) = m ((c.tc : Thread Cert.OddTailIdeal.nD Cert.OddTailIdeal.τ).loc Cert.OddTailIdeal.main_arg2)
      ∧ r.2.mem ((c.tc : Thread Cert.OddTailIdeal.nD Cert.OddTailIdeal.τ).loc Cert.OddTailIdeal.main_arg3) = m ((c.tc : Thread Cert.OddTailIdeal.nD Cert.OddTailIdeal.τ).loc Cert.OddTailIdeal.main_arg3)
      ∧ r.2.mem ((c.tc : Thread Cert.OddTailIdeal.nD Cert.OddTailIdeal.τ).loc Cert.OddTailIdeal.main_arg4) = m ((c.tc : Thread Cert.OddTailIdeal.nD Cert.OddTailIdeal.τ).loc Cert.OddTailIdeal.main_arg4)
      ∧ r.2.mem ((c.tc : Thread Cert.OddTailIdeal.nD Cert.OddTailIdeal.τ).loc Cert.OddTailIdeal.main_arg5) = m ((c.tc : Thread Cert.OddTailIdeal.nD Cert.OddTailIdeal.τ).loc Cert.OddTailIdeal.main_arg5)
      ∧ r.2.mem ((c.tc : Thread Cert.OddTailIdeal.nD Cert.OddTailIdeal.τ).loc Cert.OddTailIdeal.main_arg6) = m ((c.tc : Thread Cert.OddTailIdeal.nD Cert.OddTailIdeal.τ).loc Cert.OddTailIdeal.main_arg6)
      ∧ r.2.mem ((c.tc : Thread Cert.OddTailIdeal.nD Cert.OddTailIdeal.τ).loc Cert.OddTailIdeal.main_arg7) = m ((c.tc : Thread Cert.OddTailIdeal.nD Cert.OddTailIdeal.τ).loc Cert.OddTailIdeal.main_arg7)
      ∧ r.2.mem ((c.tc : Thread Cert.OddTailIdeal.nD Cert.OddTailIdeal.τ).loc Cert.OddTailIdeal.main_arg8) = m ((c.tc : Thread Cert.OddTailIdeal.nD Cert.OddTailIdeal.τ).loc Cert.OddTailIdeal.main_arg8)
      ∧ r.2.mem ((c.tc : Thread Cert.OddTailIdeal.nD Cert.OddTailIdeal.τ).loc Cert.OddTailIdeal.main_arg9) = m ((c.tc : Thread Cert.OddTailIdeal.nD Cert.OddTailIdeal.τ).loc Cert.OddTailIdeal.main_arg9)
      ∧ r.2.mem ((c.tc : Thread Cert.OddTailIdeal.nD Cert.OddTailIdeal.τ).loc Cert.OddTailIdeal.main_arg10) = m ((c.tc : Thread Cert.OddTailIdeal.nD Cert.OddTailIdeal.τ).loc Cert.OddTailIdeal.main_arg10)
      ∧ r.2.mem ((c.tc : Thread Cert.OddTailIdeal.nD Cert.OddTailIdeal.τ).loc Cert.OddTailIdeal.main_arg11) = m ((c.tc : Thread Cert.OddTailIdeal.nD Cert.OddTailIdeal.τ).loc Cert.OddTailIdeal.main_arg11)
      ∧ r.2.mem ((c.tc : Thread Cert.OddTailIdeal.nD Cert.OddTailIdeal.τ).loc Cert.OddTailIdeal.main_arg12) = m ((c.tc : Thread Cert.OddTailIdeal.nD Cert.OddTailIdeal.τ).loc Cert.OddTailIdeal.main_arg12))
      ∧ r.2.sem = fun _ => 0)

def quiescent_OddTailRefIdeal [hOddTailRefIdeal : Cert.OddTailRefIdeal.Facts] : Prop :=
  ∀ (m : (ℓ : Loc Cert.OddTailRefIdeal.nD Cert.OddTailRefIdeal.τ Cert.OddTailRefIdeal.sig) → Buf (Elt Ideal) ℓ) (g : Dev Cert.OddTailRefIdeal.nD → PrngReg), Pre_OddTailRefIdeal m →
    θ_run (Cert.OddTailRefIdeal.defs (F := Ideal)) (onTc (τ := Cert.OddTailRefIdeal.τ) (Cert.OddTailRefIdeal.main (F := Ideal))) ⟨m, fun _ => 0, g⟩ (fun r => (∀ c : Dev Cert.OddTailRefIdeal.nD,
      r.2.mem ((c.tc : Thread Cert.OddTailRefIdeal.nD Cert.OddTailRefIdeal.τ).loc Cert.OddTailRefIdeal.main_arg0) = m ((c.tc : Thread Cert.OddTailRefIdeal.nD Cert.OddTailRefIdeal.τ).loc Cert.OddTailRefIdeal.main_arg0)
      ∧ r.2.mem ((c.tc : Thread Cert.OddTailRefIdeal.nD Cert.OddTailRefIdeal.τ).loc Cert.OddTailRefIdeal.main_arg1) = m ((c.tc : Thread Cert.OddTailRefIdeal.nD Cert.OddTailRefIdeal.τ).loc Cert.OddTailRefIdeal.main_arg1)
      ∧ r.2.mem ((c.tc : Thread Cert.OddTailRefIdeal.nD Cert.OddTailRefIdeal.τ).loc Cert.OddTailRefIdeal.main_arg2) = m ((c.tc : Thread Cert.OddTailRefIdeal.nD Cert.OddTailRefIdeal.τ).loc Cert.OddTailRefIdeal.main_arg2)
      ∧ r.2.mem ((c.tc : Thread Cert.OddTailRefIdeal.nD Cert.OddTailRefIdeal.τ).loc Cert.OddTailRefIdeal.main_arg3) = m ((c.tc : Thread Cert.OddTailRefIdeal.nD Cert.OddTailRefIdeal.τ).loc Cert.OddTailRefIdeal.main_arg3)
      ∧ r.2.mem ((c.tc : Thread Cert.OddTailRefIdeal.nD Cert.OddTailRefIdeal.τ).loc Cert.OddTailRefIdeal.main_arg4) = m ((c.tc : Thread Cert.OddTailRefIdeal.nD Cert.OddTailRefIdeal.τ).loc Cert.OddTailRefIdeal.main_arg4)
      ∧ r.2.mem ((c.tc : Thread Cert.OddTailRefIdeal.nD Cert.OddTailRefIdeal.τ).loc Cert.OddTailRefIdeal.main_arg5) = m ((c.tc : Thread Cert.OddTailRefIdeal.nD Cert.OddTailRefIdeal.τ).loc Cert.OddTailRefIdeal.main_arg5)
      ∧ r.2.mem ((c.tc : Thread Cert.OddTailRefIdeal.nD Cert.OddTailRefIdeal.τ).loc Cert.OddTailRefIdeal.main_arg6) = m ((c.tc : Thread Cert.OddTailRefIdeal.nD Cert.OddTailRefIdeal.τ).loc Cert.OddTailRefIdeal.main_arg6)
      ∧ r.2.mem ((c.tc : Thread Cert.OddTailRefIdeal.nD Cert.OddTailRefIdeal.τ).loc Cert.OddTailRefIdeal.main_arg7) = m ((c.tc : Thread Cert.OddTailRefIdeal.nD Cert.OddTailRefIdeal.τ).loc Cert.OddTailRefIdeal.main_arg7)
      ∧ r.2.mem ((c.tc : Thread Cert.OddTailRefIdeal.nD Cert.OddTailRefIdeal.τ).loc Cert.OddTailRefIdeal.main_arg8) = m ((c.tc : Thread Cert.OddTailRefIdeal.nD Cert.OddTailRefIdeal.τ).loc Cert.OddTailRefIdeal.main_arg8)
      ∧ r.2.mem ((c.tc : Thread Cert.OddTailRefIdeal.nD Cert.OddTailRefIdeal.τ).loc Cert.OddTailRefIdeal.main_arg9) = m ((c.tc : Thread Cert.OddTailRefIdeal.nD Cert.OddTailRefIdeal.τ).loc Cert.OddTailRefIdeal.main_arg9)
      ∧ r.2.mem ((c.tc : Thread Cert.OddTailRefIdeal.nD Cert.OddTailRefIdeal.τ).loc Cert.OddTailRefIdeal.main_arg10) = m ((c.tc : Thread Cert.OddTailRefIdeal.nD Cert.OddTailRefIdeal.τ).loc Cert.OddTailRefIdeal.main_arg10)
      ∧ r.2.mem ((c.tc : Thread Cert.OddTailRefIdeal.nD Cert.OddTailRefIdeal.τ).loc Cert.OddTailRefIdeal.main_arg11) = m ((c.tc : Thread Cert.OddTailRefIdeal.nD Cert.OddTailRefIdeal.τ).loc Cert.OddTailRefIdeal.main_arg11)
      ∧ r.2.mem ((c.tc : Thread Cert.OddTailRefIdeal.nD Cert.OddTailRefIdeal.τ).loc Cert.OddTailRefIdeal.main_arg12) = m ((c.tc : Thread Cert.OddTailRefIdeal.nD Cert.OddTailRefIdeal.τ).loc Cert.OddTailRefIdeal.main_arg12))
      ∧ r.2.sem = fun _ => 0)

def quiescent_OddTailRefIdeal_pre_finite_lses [hOddTailRefIdeal : Cert.OddTailRefIdeal.Facts] [hPre_finite_lses : Cert.Pre_finite_lses.Facts] : Prop :=
  ∀ (m : (ℓ : Loc Cert.OddTailRefIdeal.nD Cert.OddTailRefIdeal.τ Cert.OddTailRefIdeal.sig) → Buf (Elt Ideal) ℓ) (g : Dev Cert.OddTailRefIdeal.nD → PrngReg), Pre_OddTailRefIdeal_finite_lses m →
    θ_run (Cert.OddTailRefIdeal.defs (F := Ideal)) (onTc (τ := Cert.OddTailRefIdeal.τ) (Cert.OddTailRefIdeal.main (F := Ideal))) ⟨m, fun _ => 0, g⟩ (fun r => (∀ c : Dev Cert.OddTailRefIdeal.nD,
      r.2.mem ((c.tc : Thread Cert.OddTailRefIdeal.nD Cert.OddTailRefIdeal.τ).loc Cert.OddTailRefIdeal.main_arg0) = m ((c.tc : Thread Cert.OddTailRefIdeal.nD Cert.OddTailRefIdeal.τ).loc Cert.OddTailRefIdeal.main_arg0)
      ∧ r.2.mem ((c.tc : Thread Cert.OddTailRefIdeal.nD Cert.OddTailRefIdeal.τ).loc Cert.OddTailRefIdeal.main_arg1) = m ((c.tc : Thread Cert.OddTailRefIdeal.nD Cert.OddTailRefIdeal.τ).loc Cert.OddTailRefIdeal.main_arg1)
      ∧ r.2.mem ((c.tc : Thread Cert.OddTailRefIdeal.nD Cert.OddTailRefIdeal.τ).loc Cert.OddTailRefIdeal.main_arg2) = m ((c.tc : Thread Cert.OddTailRefIdeal.nD Cert.OddTailRefIdeal.τ).loc Cert.OddTailRefIdeal.main_arg2)
      ∧ r.2.mem ((c.tc : Thread Cert.OddTailRefIdeal.nD Cert.OddTailRefIdeal.τ).loc Cert.OddTailRefIdeal.main_arg3) = m ((c.tc : Thread Cert.OddTailRefIdeal.nD Cert.OddTailRefIdeal.τ).loc Cert.OddTailRefIdeal.main_arg3)
      ∧ r.2.mem ((c.tc : Thread Cert.OddTailRefIdeal.nD Cert.OddTailRefIdeal.τ).loc Cert.OddTailRefIdeal.main_arg4) = m ((c.tc : Thread Cert.OddTailRefIdeal.nD Cert.OddTailRefIdeal.τ).loc Cert.OddTailRefIdeal.main_arg4)
      ∧ r.2.mem ((c.tc : Thread Cert.OddTailRefIdeal.nD Cert.OddTailRefIdeal.τ).loc Cert.OddTailRefIdeal.main_arg5) = m ((c.tc : Thread Cert.OddTailRefIdeal.nD Cert.OddTailRefIdeal.τ).loc Cert.OddTailRefIdeal.main_arg5)
      ∧ r.2.mem ((c.tc : Thread Cert.OddTailRefIdeal.nD Cert.OddTailRefIdeal.τ).loc Cert.OddTailRefIdeal.main_arg6) = m ((c.tc : Thread Cert.OddTailRefIdeal.nD Cert.OddTailRefIdeal.τ).loc Cert.OddTailRefIdeal.main_arg6)
      ∧ r.2.mem ((c.tc : Thread Cert.OddTailRefIdeal.nD Cert.OddTailRefIdeal.τ).loc Cert.OddTailRefIdeal.main_arg7) = m ((c.tc : Thread Cert.OddTailRefIdeal.nD Cert.OddTailRefIdeal.τ).loc Cert.OddTailRefIdeal.main_arg7)
      ∧ r.2.mem ((c.tc : Thread Cert.OddTailRefIdeal.nD Cert.OddTailRefIdeal.τ).loc Cert.OddTailRefIdeal.main_arg8) = m ((c.tc : Thread Cert.OddTailRefIdeal.nD Cert.OddTailRefIdeal.τ).loc Cert.OddTailRefIdeal.main_arg8)
      ∧ r.2.mem ((c.tc : Thread Cert.OddTailRefIdeal.nD Cert.OddTailRefIdeal.τ).loc Cert.OddTailRefIdeal.main_arg9) = m ((c.tc : Thread Cert.OddTailRefIdeal.nD Cert.OddTailRefIdeal.τ).loc Cert.OddTailRefIdeal.main_arg9)
      ∧ r.2.mem ((c.tc : Thread Cert.OddTailRefIdeal.nD Cert.OddTailRefIdeal.τ).loc Cert.OddTailRefIdeal.main_arg10) = m ((c.tc : Thread Cert.OddTailRefIdeal.nD Cert.OddTailRefIdeal.τ).loc Cert.OddTailRefIdeal.main_arg10)
      ∧ r.2.mem ((c.tc : Thread Cert.OddTailRefIdeal.nD Cert.OddTailRefIdeal.τ).loc Cert.OddTailRefIdeal.main_arg11) = m ((c.tc : Thread Cert.OddTailRefIdeal.nD Cert.OddTailRefIdeal.τ).loc Cert.OddTailRefIdeal.main_arg11)
      ∧ r.2.mem ((c.tc : Thread Cert.OddTailRefIdeal.nD Cert.OddTailRefIdeal.τ).loc Cert.OddTailRefIdeal.main_arg12) = m ((c.tc : Thread Cert.OddTailRefIdeal.nD Cert.OddTailRefIdeal.τ).loc Cert.OddTailRefIdeal.main_arg12))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnMid [hAttnMid : Cert.AttnMid.Facts] : Prop :=
  ∀ (m : (ℓ : Loc Cert.AttnMid.nD Cert.AttnMid.τ Cert.AttnMid.sig) → Buf (Elt Bits) ℓ) (g : Dev Cert.AttnMid.nD → PrngReg), Pre_AttnMid m →
    θ_run (Cert.AttnMid.defs (F := Bits)) (onTc (τ := Cert.AttnMid.τ) (Cert.AttnMid.main (F := Bits))) ⟨m, fun _ => 0, g⟩ (fun r => (∀ c : Dev Cert.AttnMid.nD,
      r.2.mem ((c.tc : Thread Cert.AttnMid.nD Cert.AttnMid.τ).loc Cert.AttnMid.main_arg0) = m ((c.tc : Thread Cert.AttnMid.nD Cert.AttnMid.τ).loc Cert.AttnMid.main_arg0)
      ∧ r.2.mem ((c.tc : Thread Cert.AttnMid.nD Cert.AttnMid.τ).loc Cert.AttnMid.main_arg1) = m ((c.tc : Thread Cert.AttnMid.nD Cert.AttnMid.τ).loc Cert.AttnMid.main_arg1))
      ∧ r.2.sem = fun _ => 0)

def quiescent_AttnMidIdeal [hAttnMidIdeal : Cert.AttnMidIdeal.Facts] : Prop :=
  ∀ (m : (ℓ : Loc Cert.AttnMidIdeal.nD Cert.AttnMidIdeal.τ Cert.AttnMidIdeal.sig) → Buf (Elt Ideal) ℓ) (g : Dev Cert.AttnMidIdeal.nD → PrngReg), Pre_AttnMidIdeal m →
    θ_run (Cert.AttnMidIdeal.defs (F := Ideal)) (onTc (τ := Cert.AttnMidIdeal.τ) (Cert.AttnMidIdeal.main (F := Ideal))) ⟨m, fun _ => 0, g⟩ (fun r => (∀ c : Dev Cert.AttnMidIdeal.nD,
      r.2.mem ((c.tc : Thread Cert.AttnMidIdeal.nD Cert.AttnMidIdeal.τ).loc Cert.AttnMidIdeal.main_arg0) = m ((c.tc : Thread Cert.AttnMidIdeal.nD Cert.AttnMidIdeal.τ).loc Cert.AttnMidIdeal.main_arg0)
      ∧ r.2.mem ((c.tc : Thread Cert.AttnMidIdeal.nD Cert.AttnMidIdeal.τ).loc Cert.AttnMidIdeal.main_arg1) = m ((c.tc : Thread Cert.AttnMidIdeal.nD Cert.AttnMidIdeal.τ).loc Cert.AttnMidIdeal.main_arg1))
      ∧ r.2.sem = fun _ => 0)

def quiescent_AttnMidRefIdeal [hAttnMidRefIdeal : Cert.AttnMidRefIdeal.Facts] : Prop :=
  ∀ (m : (ℓ : Loc Cert.AttnMidRefIdeal.nD Cert.AttnMidRefIdeal.τ Cert.AttnMidRefIdeal.sig) → Buf (Elt Ideal) ℓ) (g : Dev Cert.AttnMidRefIdeal.nD → PrngReg), Pre_AttnMidRefIdeal m →
    θ_run (Cert.AttnMidRefIdeal.defs (F := Ideal)) (onTc (τ := Cert.AttnMidRefIdeal.τ) (Cert.AttnMidRefIdeal.main (F := Ideal))) ⟨m, fun _ => 0, g⟩ (fun r => (∀ c : Dev Cert.AttnMidRefIdeal.nD,
      r.2.mem ((c.tc : Thread Cert.AttnMidRefIdeal.nD Cert.AttnMidRefIdeal.τ).loc Cert.AttnMidRefIdeal.main_arg0) = m ((c.tc : Thread Cert.AttnMidRefIdeal.nD Cert.AttnMidRefIdeal.τ).loc Cert.AttnMidRefIdeal.main_arg0)
      ∧ r.2.mem ((c.tc : Thread Cert.AttnMidRefIdeal.nD Cert.AttnMidRefIdeal.τ).loc Cert.AttnMidRefIdeal.main_arg1) = m ((c.tc : Thread Cert.AttnMidRefIdeal.nD Cert.AttnMidRefIdeal.τ).loc Cert.AttnMidRefIdeal.main_arg1))
      ∧ r.2.sem = fun _ => 0)

def quiescent_Ab [hAb : Cert.Ab.Facts] : Prop :=
  ∀ (m : (ℓ : Loc Cert.Ab.nD Cert.Ab.τ Cert.Ab.sig) → Buf (Elt Bits) ℓ) (g : Dev Cert.Ab.nD → PrngReg), Pre_Ab m →
    θ_run (Cert.Ab.defs (F := Bits)) (onTc (τ := Cert.Ab.τ) (Cert.Ab.main (F := Bits))) ⟨m, fun _ => 0, g⟩ (fun r => (∀ c : Dev Cert.Ab.nD,
      r.2.mem ((c.tc : Thread Cert.Ab.nD Cert.Ab.τ).loc Cert.Ab.main_arg0) = m ((c.tc : Thread Cert.Ab.nD Cert.Ab.τ).loc Cert.Ab.main_arg0)
      ∧ r.2.mem ((c.tc : Thread Cert.Ab.nD Cert.Ab.τ).loc Cert.Ab.main_arg1) = m ((c.tc : Thread Cert.Ab.nD Cert.Ab.τ).loc Cert.Ab.main_arg1)
      ∧ r.2.mem ((c.tc : Thread Cert.Ab.nD Cert.Ab.τ).loc Cert.Ab.main_arg2) = m ((c.tc : Thread Cert.Ab.nD Cert.Ab.τ).loc Cert.Ab.main_arg2)
      ∧ r.2.mem ((c.tc : Thread Cert.Ab.nD Cert.Ab.τ).loc Cert.Ab.main_arg3) = m ((c.tc : Thread Cert.Ab.nD Cert.Ab.τ).loc Cert.Ab.main_arg3)
      ∧ r.2.mem ((c.tc : Thread Cert.Ab.nD Cert.Ab.τ).loc Cert.Ab.main_arg4) = m ((c.tc : Thread Cert.Ab.nD Cert.Ab.τ).loc Cert.Ab.main_arg4))
      ∧ r.2.sem = fun _ => 0)

def quiescent_AbIdeal [hAbIdeal : Cert.AbIdeal.Facts] : Prop :=
  ∀ (m : (ℓ : Loc Cert.AbIdeal.nD Cert.AbIdeal.τ Cert.AbIdeal.sig) → Buf (Elt Ideal) ℓ) (g : Dev Cert.AbIdeal.nD → PrngReg), Pre_AbIdeal m →
    θ_run (Cert.AbIdeal.defs (F := Ideal)) (onTc (τ := Cert.AbIdeal.τ) (Cert.AbIdeal.main (F := Ideal))) ⟨m, fun _ => 0, g⟩ (fun r => (∀ c : Dev Cert.AbIdeal.nD,
      r.2.mem ((c.tc : Thread Cert.AbIdeal.nD Cert.AbIdeal.τ).loc Cert.AbIdeal.main_arg0) = m ((c.tc : Thread Cert.AbIdeal.nD Cert.AbIdeal.τ).loc Cert.AbIdeal.main_arg0)
      ∧ r.2.mem ((c.tc : Thread Cert.AbIdeal.nD Cert.AbIdeal.τ).loc Cert.AbIdeal.main_arg1) = m ((c.tc : Thread Cert.AbIdeal.nD Cert.AbIdeal.τ).loc Cert.AbIdeal.main_arg1)
      ∧ r.2.mem ((c.tc : Thread Cert.AbIdeal.nD Cert.AbIdeal.τ).loc Cert.AbIdeal.main_arg2) = m ((c.tc : Thread Cert.AbIdeal.nD Cert.AbIdeal.τ).loc Cert.AbIdeal.main_arg2)
      ∧ r.2.mem ((c.tc : Thread Cert.AbIdeal.nD Cert.AbIdeal.τ).loc Cert.AbIdeal.main_arg3) = m ((c.tc : Thread Cert.AbIdeal.nD Cert.AbIdeal.τ).loc Cert.AbIdeal.main_arg3)
      ∧ r.2.mem ((c.tc : Thread Cert.AbIdeal.nD Cert.AbIdeal.τ).loc Cert.AbIdeal.main_arg4) = m ((c.tc : Thread Cert.AbIdeal.nD Cert.AbIdeal.τ).loc Cert.AbIdeal.main_arg4))
      ∧ r.2.sem = fun _ => 0)

def quiescent_AbRefIdeal [hAbRefIdeal : Cert.AbRefIdeal.Facts] : Prop :=
  ∀ (m : (ℓ : Loc Cert.AbRefIdeal.nD Cert.AbRefIdeal.τ Cert.AbRefIdeal.sig) → Buf (Elt Ideal) ℓ) (g : Dev Cert.AbRefIdeal.nD → PrngReg), Pre_AbRefIdeal m →
    θ_run (Cert.AbRefIdeal.defs (F := Ideal)) (onTc (τ := Cert.AbRefIdeal.τ) (Cert.AbRefIdeal.main (F := Ideal))) ⟨m, fun _ => 0, g⟩ (fun r => (∀ c : Dev Cert.AbRefIdeal.nD,
      r.2.mem ((c.tc : Thread Cert.AbRefIdeal.nD Cert.AbRefIdeal.τ).loc Cert.AbRefIdeal.main_arg0) = m ((c.tc : Thread Cert.AbRefIdeal.nD Cert.AbRefIdeal.τ).loc Cert.AbRefIdeal.main_arg0)
      ∧ r.2.mem ((c.tc : Thread Cert.AbRefIdeal.nD Cert.AbRefIdeal.τ).loc Cert.AbRefIdeal.main_arg1) = m ((c.tc : Thread Cert.AbRefIdeal.nD Cert.AbRefIdeal.τ).loc Cert.AbRefIdeal.main_arg1)
      ∧ r.2.mem ((c.tc : Thread Cert.AbRefIdeal.nD Cert.AbRefIdeal.τ).loc Cert.AbRefIdeal.main_arg2) = m ((c.tc : Thread Cert.AbRefIdeal.nD Cert.AbRefIdeal.τ).loc Cert.AbRefIdeal.main_arg2)
      ∧ r.2.mem ((c.tc : Thread Cert.AbRefIdeal.nD Cert.AbRefIdeal.τ).loc Cert.AbRefIdeal.main_arg3) = m ((c.tc : Thread Cert.AbRefIdeal.nD Cert.AbRefIdeal.τ).loc Cert.AbRefIdeal.main_arg3)
      ∧ r.2.mem ((c.tc : Thread Cert.AbRefIdeal.nD Cert.AbRefIdeal.τ).loc Cert.AbRefIdeal.main_arg4) = m ((c.tc : Thread Cert.AbRefIdeal.nD Cert.AbRefIdeal.τ).loc Cert.AbRefIdeal.main_arg4))
      ∧ r.2.sem = fun _ => 0)

def preserves_EvenTail_EvenTailIdeal : Prop :=
  True

def algebraic_EvenTailIdeal_EvenTailRefIdeal [hEvenTailIdeal : Cert.EvenTailIdeal.Facts] [hEvenTailRefIdeal : Cert.EvenTailRefIdeal.Facts] : Prop :=
  ∀ (m : (ℓ : Loc Cert.EvenTailIdeal.nD Cert.EvenTailIdeal.τ Cert.EvenTailIdeal.sig) → Buf (Elt Ideal) ℓ) (g : Dev Cert.EvenTailIdeal.nD → PrngReg)
    (m' : (ℓ : Loc Cert.EvenTailRefIdeal.nD Cert.EvenTailRefIdeal.τ Cert.EvenTailRefIdeal.sig) → Buf (Elt Ideal) ℓ) (g' : Dev Cert.EvenTailRefIdeal.nD → PrngReg), Pre_EvenTailIdeal m →
    (∀ c : Dev Cert.EvenTailIdeal.nD,
      m' ((c.tc : Thread Cert.EvenTailRefIdeal.nD Cert.EvenTailRefIdeal.τ).loc Cert.EvenTailRefIdeal.main_arg0) = m ((c.tc : Thread Cert.EvenTailIdeal.nD Cert.EvenTailIdeal.τ).loc Cert.EvenTailIdeal.main_arg0)
      ∧ m' ((c.tc : Thread Cert.EvenTailRefIdeal.nD Cert.EvenTailRefIdeal.τ).loc Cert.EvenTailRefIdeal.main_arg1) = m ((c.tc : Thread Cert.EvenTailIdeal.nD Cert.EvenTailIdeal.τ).loc Cert.EvenTailIdeal.main_arg1)
      ∧ m' ((c.tc : Thread Cert.EvenTailRefIdeal.nD Cert.EvenTailRefIdeal.τ).loc Cert.EvenTailRefIdeal.main_arg2) = m ((c.tc : Thread Cert.EvenTailIdeal.nD Cert.EvenTailIdeal.τ).loc Cert.EvenTailIdeal.main_arg2)
      ∧ m' ((c.tc : Thread Cert.EvenTailRefIdeal.nD Cert.EvenTailRefIdeal.τ).loc Cert.EvenTailRefIdeal.main_arg3) = m ((c.tc : Thread Cert.EvenTailIdeal.nD Cert.EvenTailIdeal.τ).loc Cert.EvenTailIdeal.main_arg3)
      ∧ m' ((c.tc : Thread Cert.EvenTailRefIdeal.nD Cert.EvenTailRefIdeal.τ).loc Cert.EvenTailRefIdeal.main_arg4) = m ((c.tc : Thread Cert.EvenTailIdeal.nD Cert.EvenTailIdeal.τ).loc Cert.EvenTailIdeal.main_arg4)
      ∧ m' ((c.tc : Thread Cert.EvenTailRefIdeal.nD Cert.EvenTailRefIdeal.τ).loc Cert.EvenTailRefIdeal.main_arg5) = m ((c.tc : Thread Cert.EvenTailIdeal.nD Cert.EvenTailIdeal.τ).loc Cert.EvenTailIdeal.main_arg5)
      ∧ m' ((c.tc : Thread Cert.EvenTailRefIdeal.nD Cert.EvenTailRefIdeal.τ).loc Cert.EvenTailRefIdeal.main_arg6) = m ((c.tc : Thread Cert.EvenTailIdeal.nD Cert.EvenTailIdeal.τ).loc Cert.EvenTailIdeal.main_arg6)
      ∧ m' ((c.tc : Thread Cert.EvenTailRefIdeal.nD Cert.EvenTailRefIdeal.τ).loc Cert.EvenTailRefIdeal.main_arg7) = m ((c.tc : Thread Cert.EvenTailIdeal.nD Cert.EvenTailIdeal.τ).loc Cert.EvenTailIdeal.main_arg7)
      ∧ m' ((c.tc : Thread Cert.EvenTailRefIdeal.nD Cert.EvenTailRefIdeal.τ).loc Cert.EvenTailRefIdeal.main_arg8) = m ((c.tc : Thread Cert.EvenTailIdeal.nD Cert.EvenTailIdeal.τ).loc Cert.EvenTailIdeal.main_arg8)) →
    ∃ (v0 : (c : Dev Cert.EvenTailIdeal.nD) → Buf (Elt Ideal) ((c.tc : Thread Cert.EvenTailIdeal.nD Cert.EvenTailIdeal.τ).loc Cert.EvenTailIdeal.main_v1)),
      θ_run (Cert.EvenTailIdeal.defs (F := Ideal)) (onTc (τ := Cert.EvenTailIdeal.τ) (Cert.EvenTailIdeal.main (F := Ideal))) ⟨m, fun _ => 0, g⟩ (fun r => ∀ c : Dev Cert.EvenTailIdeal.nD,
          r.2.mem ((c.tc : Thread Cert.EvenTailIdeal.nD Cert.EvenTailIdeal.τ).loc Cert.EvenTailIdeal.main_v1) = v0 c
          ∧ r.2.mem ((c.tc : Thread Cert.EvenTailIdeal.nD Cert.EvenTailIdeal.τ).loc Cert.EvenTailIdeal.main_arg0) = m ((c.tc : Thread Cert.EvenTailIdeal.nD Cert.EvenTailIdeal.τ).loc Cert.EvenTailIdeal.main_arg0)
          ∧ r.2.mem ((c.tc : Thread Cert.EvenTailIdeal.nD Cert.EvenTailIdeal.τ).loc Cert.EvenTailIdeal.main_arg1) = m ((c.tc : Thread Cert.EvenTailIdeal.nD Cert.EvenTailIdeal.τ).loc Cert.EvenTailIdeal.main_arg1)
          ∧ r.2.mem ((c.tc : Thread Cert.EvenTailIdeal.nD Cert.EvenTailIdeal.τ).loc Cert.EvenTailIdeal.main_arg2) = m ((c.tc : Thread Cert.EvenTailIdeal.nD Cert.EvenTailIdeal.τ).loc Cert.EvenTailIdeal.main_arg2)
          ∧ r.2.mem ((c.tc : Thread Cert.EvenTailIdeal.nD Cert.EvenTailIdeal.τ).loc Cert.EvenTailIdeal.main_arg3) = m ((c.tc : Thread Cert.EvenTailIdeal.nD Cert.EvenTailIdeal.τ).loc Cert.EvenTailIdeal.main_arg3)
          ∧ r.2.mem ((c.tc : Thread Cert.EvenTailIdeal.nD Cert.EvenTailIdeal.τ).loc Cert.EvenTailIdeal.main_arg4) = m ((c.tc : Thread Cert.EvenTailIdeal.nD Cert.EvenTailIdeal.τ).loc Cert.EvenTailIdeal.main_arg4)
          ∧ r.2.mem ((c.tc : Thread Cert.EvenTailIdeal.nD Cert.EvenTailIdeal.τ).loc Cert.EvenTailIdeal.main_arg5) = m ((c.tc : Thread Cert.EvenTailIdeal.nD Cert.EvenTailIdeal.τ).loc Cert.EvenTailIdeal.main_arg5)
          ∧ r.2.mem ((c.tc : Thread Cert.EvenTailIdeal.nD Cert.EvenTailIdeal.τ).loc Cert.EvenTailIdeal.main_arg6) = m ((c.tc : Thread Cert.EvenTailIdeal.nD Cert.EvenTailIdeal.τ).loc Cert.EvenTailIdeal.main_arg6)
          ∧ r.2.mem ((c.tc : Thread Cert.EvenTailIdeal.nD Cert.EvenTailIdeal.τ).loc Cert.EvenTailIdeal.main_arg7) = m ((c.tc : Thread Cert.EvenTailIdeal.nD Cert.EvenTailIdeal.τ).loc Cert.EvenTailIdeal.main_arg7)
          ∧ r.2.mem ((c.tc : Thread Cert.EvenTailIdeal.nD Cert.EvenTailIdeal.τ).loc Cert.EvenTailIdeal.main_arg8) = m ((c.tc : Thread Cert.EvenTailIdeal.nD Cert.EvenTailIdeal.τ).loc Cert.EvenTailIdeal.main_arg8))
      ∧ θ_run (Cert.EvenTailRefIdeal.defs (F := Ideal)) (onTc (τ := Cert.EvenTailRefIdeal.τ) (Cert.EvenTailRefIdeal.main (F := Ideal))) ⟨m', fun _ => 0, g'⟩ (fun r => ∀ c : Dev Cert.EvenTailRefIdeal.nD,
          r.2.mem ((c.tc : Thread Cert.EvenTailRefIdeal.nD Cert.EvenTailRefIdeal.τ).loc Cert.EvenTailRefIdeal.main_v105) = v0 c
          ∧ r.2.mem ((c.tc : Thread Cert.EvenTailRefIdeal.nD Cert.EvenTailRefIdeal.τ).loc Cert.EvenTailRefIdeal.main_arg0) = m' ((c.tc : Thread Cert.EvenTailRefIdeal.nD Cert.EvenTailRefIdeal.τ).loc Cert.EvenTailRefIdeal.main_arg0)
          ∧ r.2.mem ((c.tc : Thread Cert.EvenTailRefIdeal.nD Cert.EvenTailRefIdeal.τ).loc Cert.EvenTailRefIdeal.main_arg1) = m' ((c.tc : Thread Cert.EvenTailRefIdeal.nD Cert.EvenTailRefIdeal.τ).loc Cert.EvenTailRefIdeal.main_arg1)
          ∧ r.2.mem ((c.tc : Thread Cert.EvenTailRefIdeal.nD Cert.EvenTailRefIdeal.τ).loc Cert.EvenTailRefIdeal.main_arg2) = m' ((c.tc : Thread Cert.EvenTailRefIdeal.nD Cert.EvenTailRefIdeal.τ).loc Cert.EvenTailRefIdeal.main_arg2)
          ∧ r.2.mem ((c.tc : Thread Cert.EvenTailRefIdeal.nD Cert.EvenTailRefIdeal.τ).loc Cert.EvenTailRefIdeal.main_arg3) = m' ((c.tc : Thread Cert.EvenTailRefIdeal.nD Cert.EvenTailRefIdeal.τ).loc Cert.EvenTailRefIdeal.main_arg3)
          ∧ r.2.mem ((c.tc : Thread Cert.EvenTailRefIdeal.nD Cert.EvenTailRefIdeal.τ).loc Cert.EvenTailRefIdeal.main_arg4) = m' ((c.tc : Thread Cert.EvenTailRefIdeal.nD Cert.EvenTailRefIdeal.τ).loc Cert.EvenTailRefIdeal.main_arg4)
          ∧ r.2.mem ((c.tc : Thread Cert.EvenTailRefIdeal.nD Cert.EvenTailRefIdeal.τ).loc Cert.EvenTailRefIdeal.main_arg5) = m' ((c.tc : Thread Cert.EvenTailRefIdeal.nD Cert.EvenTailRefIdeal.τ).loc Cert.EvenTailRefIdeal.main_arg5)
          ∧ r.2.mem ((c.tc : Thread Cert.EvenTailRefIdeal.nD Cert.EvenTailRefIdeal.τ).loc Cert.EvenTailRefIdeal.main_arg6) = m' ((c.tc : Thread Cert.EvenTailRefIdeal.nD Cert.EvenTailRefIdeal.τ).loc Cert.EvenTailRefIdeal.main_arg6)
          ∧ r.2.mem ((c.tc : Thread Cert.EvenTailRefIdeal.nD Cert.EvenTailRefIdeal.τ).loc Cert.EvenTailRefIdeal.main_arg7) = m' ((c.tc : Thread Cert.EvenTailRefIdeal.nD Cert.EvenTailRefIdeal.τ).loc Cert.EvenTailRefIdeal.main_arg7)
          ∧ r.2.mem ((c.tc : Thread Cert.EvenTailRefIdeal.nD Cert.EvenTailRefIdeal.τ).loc Cert.EvenTailRefIdeal.main_arg8) = m' ((c.tc : Thread Cert.EvenTailRefIdeal.nD Cert.EvenTailRefIdeal.τ).loc Cert.EvenTailRefIdeal.main_arg8))

def preserves_OddTail_OddTailIdeal : Prop :=
  True

def algebraic_OddTailIdeal_OddTailRefIdeal_pre_finite_lses [hOddTailIdeal : Cert.OddTailIdeal.Facts] [hOddTailRefIdeal : Cert.OddTailRefIdeal.Facts] [hPre_finite_lses : Cert.Pre_finite_lses.Facts] : Prop :=
  ∀ (m : (ℓ : Loc Cert.OddTailIdeal.nD Cert.OddTailIdeal.τ Cert.OddTailIdeal.sig) → Buf (Elt Ideal) ℓ) (g : Dev Cert.OddTailIdeal.nD → PrngReg)
    (m' : (ℓ : Loc Cert.OddTailRefIdeal.nD Cert.OddTailRefIdeal.τ Cert.OddTailRefIdeal.sig) → Buf (Elt Ideal) ℓ) (g' : Dev Cert.OddTailRefIdeal.nD → PrngReg), Pre_OddTailIdeal_finite_lses m →
    (∀ c : Dev Cert.OddTailIdeal.nD,
      m' ((c.tc : Thread Cert.OddTailRefIdeal.nD Cert.OddTailRefIdeal.τ).loc Cert.OddTailRefIdeal.main_arg0) = m ((c.tc : Thread Cert.OddTailIdeal.nD Cert.OddTailIdeal.τ).loc Cert.OddTailIdeal.main_arg0)
      ∧ m' ((c.tc : Thread Cert.OddTailRefIdeal.nD Cert.OddTailRefIdeal.τ).loc Cert.OddTailRefIdeal.main_arg1) = m ((c.tc : Thread Cert.OddTailIdeal.nD Cert.OddTailIdeal.τ).loc Cert.OddTailIdeal.main_arg1)
      ∧ m' ((c.tc : Thread Cert.OddTailRefIdeal.nD Cert.OddTailRefIdeal.τ).loc Cert.OddTailRefIdeal.main_arg2) = m ((c.tc : Thread Cert.OddTailIdeal.nD Cert.OddTailIdeal.τ).loc Cert.OddTailIdeal.main_arg2)
      ∧ m' ((c.tc : Thread Cert.OddTailRefIdeal.nD Cert.OddTailRefIdeal.τ).loc Cert.OddTailRefIdeal.main_arg3) = m ((c.tc : Thread Cert.OddTailIdeal.nD Cert.OddTailIdeal.τ).loc Cert.OddTailIdeal.main_arg3)
      ∧ m' ((c.tc : Thread Cert.OddTailRefIdeal.nD Cert.OddTailRefIdeal.τ).loc Cert.OddTailRefIdeal.main_arg4) = m ((c.tc : Thread Cert.OddTailIdeal.nD Cert.OddTailIdeal.τ).loc Cert.OddTailIdeal.main_arg4)
      ∧ m' ((c.tc : Thread Cert.OddTailRefIdeal.nD Cert.OddTailRefIdeal.τ).loc Cert.OddTailRefIdeal.main_arg5) = m ((c.tc : Thread Cert.OddTailIdeal.nD Cert.OddTailIdeal.τ).loc Cert.OddTailIdeal.main_arg5)
      ∧ m' ((c.tc : Thread Cert.OddTailRefIdeal.nD Cert.OddTailRefIdeal.τ).loc Cert.OddTailRefIdeal.main_arg6) = m ((c.tc : Thread Cert.OddTailIdeal.nD Cert.OddTailIdeal.τ).loc Cert.OddTailIdeal.main_arg6)
      ∧ m' ((c.tc : Thread Cert.OddTailRefIdeal.nD Cert.OddTailRefIdeal.τ).loc Cert.OddTailRefIdeal.main_arg7) = m ((c.tc : Thread Cert.OddTailIdeal.nD Cert.OddTailIdeal.τ).loc Cert.OddTailIdeal.main_arg7)
      ∧ m' ((c.tc : Thread Cert.OddTailRefIdeal.nD Cert.OddTailRefIdeal.τ).loc Cert.OddTailRefIdeal.main_arg8) = m ((c.tc : Thread Cert.OddTailIdeal.nD Cert.OddTailIdeal.τ).loc Cert.OddTailIdeal.main_arg8)
      ∧ m' ((c.tc : Thread Cert.OddTailRefIdeal.nD Cert.OddTailRefIdeal.τ).loc Cert.OddTailRefIdeal.main_arg9) = m ((c.tc : Thread Cert.OddTailIdeal.nD Cert.OddTailIdeal.τ).loc Cert.OddTailIdeal.main_arg9)
      ∧ m' ((c.tc : Thread Cert.OddTailRefIdeal.nD Cert.OddTailRefIdeal.τ).loc Cert.OddTailRefIdeal.main_arg10) = m ((c.tc : Thread Cert.OddTailIdeal.nD Cert.OddTailIdeal.τ).loc Cert.OddTailIdeal.main_arg10)
      ∧ m' ((c.tc : Thread Cert.OddTailRefIdeal.nD Cert.OddTailRefIdeal.τ).loc Cert.OddTailRefIdeal.main_arg11) = m ((c.tc : Thread Cert.OddTailIdeal.nD Cert.OddTailIdeal.τ).loc Cert.OddTailIdeal.main_arg11)
      ∧ m' ((c.tc : Thread Cert.OddTailRefIdeal.nD Cert.OddTailRefIdeal.τ).loc Cert.OddTailRefIdeal.main_arg12) = m ((c.tc : Thread Cert.OddTailIdeal.nD Cert.OddTailIdeal.τ).loc Cert.OddTailIdeal.main_arg12)) →
    ∃ (v0 : (c : Dev Cert.OddTailIdeal.nD) → Buf (Elt Ideal) ((c.tc : Thread Cert.OddTailIdeal.nD Cert.OddTailIdeal.τ).loc Cert.OddTailIdeal.main_v1)),
      θ_run (Cert.OddTailIdeal.defs (F := Ideal)) (onTc (τ := Cert.OddTailIdeal.τ) (Cert.OddTailIdeal.main (F := Ideal))) ⟨m, fun _ => 0, g⟩ (fun r => ∀ c : Dev Cert.OddTailIdeal.nD,
          r.2.mem ((c.tc : Thread Cert.OddTailIdeal.nD Cert.OddTailIdeal.τ).loc Cert.OddTailIdeal.main_v1) = v0 c
          ∧ r.2.mem ((c.tc : Thread Cert.OddTailIdeal.nD Cert.OddTailIdeal.τ).loc Cert.OddTailIdeal.main_arg0) = m ((c.tc : Thread Cert.OddTailIdeal.nD Cert.OddTailIdeal.τ).loc Cert.OddTailIdeal.main_arg0)
          ∧ r.2.mem ((c.tc : Thread Cert.OddTailIdeal.nD Cert.OddTailIdeal.τ).loc Cert.OddTailIdeal.main_arg1) = m ((c.tc : Thread Cert.OddTailIdeal.nD Cert.OddTailIdeal.τ).loc Cert.OddTailIdeal.main_arg1)
          ∧ r.2.mem ((c.tc : Thread Cert.OddTailIdeal.nD Cert.OddTailIdeal.τ).loc Cert.OddTailIdeal.main_arg2) = m ((c.tc : Thread Cert.OddTailIdeal.nD Cert.OddTailIdeal.τ).loc Cert.OddTailIdeal.main_arg2)
          ∧ r.2.mem ((c.tc : Thread Cert.OddTailIdeal.nD Cert.OddTailIdeal.τ).loc Cert.OddTailIdeal.main_arg3) = m ((c.tc : Thread Cert.OddTailIdeal.nD Cert.OddTailIdeal.τ).loc Cert.OddTailIdeal.main_arg3)
          ∧ r.2.mem ((c.tc : Thread Cert.OddTailIdeal.nD Cert.OddTailIdeal.τ).loc Cert.OddTailIdeal.main_arg4) = m ((c.tc : Thread Cert.OddTailIdeal.nD Cert.OddTailIdeal.τ).loc Cert.OddTailIdeal.main_arg4)
          ∧ r.2.mem ((c.tc : Thread Cert.OddTailIdeal.nD Cert.OddTailIdeal.τ).loc Cert.OddTailIdeal.main_arg5) = m ((c.tc : Thread Cert.OddTailIdeal.nD Cert.OddTailIdeal.τ).loc Cert.OddTailIdeal.main_arg5)
          ∧ r.2.mem ((c.tc : Thread Cert.OddTailIdeal.nD Cert.OddTailIdeal.τ).loc Cert.OddTailIdeal.main_arg6) = m ((c.tc : Thread Cert.OddTailIdeal.nD Cert.OddTailIdeal.τ).loc Cert.OddTailIdeal.main_arg6)
          ∧ r.2.mem ((c.tc : Thread Cert.OddTailIdeal.nD Cert.OddTailIdeal.τ).loc Cert.OddTailIdeal.main_arg7) = m ((c.tc : Thread Cert.OddTailIdeal.nD Cert.OddTailIdeal.τ).loc Cert.OddTailIdeal.main_arg7)
          ∧ r.2.mem ((c.tc : Thread Cert.OddTailIdeal.nD Cert.OddTailIdeal.τ).loc Cert.OddTailIdeal.main_arg8) = m ((c.tc : Thread Cert.OddTailIdeal.nD Cert.OddTailIdeal.τ).loc Cert.OddTailIdeal.main_arg8)
          ∧ r.2.mem ((c.tc : Thread Cert.OddTailIdeal.nD Cert.OddTailIdeal.τ).loc Cert.OddTailIdeal.main_arg9) = m ((c.tc : Thread Cert.OddTailIdeal.nD Cert.OddTailIdeal.τ).loc Cert.OddTailIdeal.main_arg9)
          ∧ r.2.mem ((c.tc : Thread Cert.OddTailIdeal.nD Cert.OddTailIdeal.τ).loc Cert.OddTailIdeal.main_arg10) = m ((c.tc : Thread Cert.OddTailIdeal.nD Cert.OddTailIdeal.τ).loc Cert.OddTailIdeal.main_arg10)
          ∧ r.2.mem ((c.tc : Thread Cert.OddTailIdeal.nD Cert.OddTailIdeal.τ).loc Cert.OddTailIdeal.main_arg11) = m ((c.tc : Thread Cert.OddTailIdeal.nD Cert.OddTailIdeal.τ).loc Cert.OddTailIdeal.main_arg11)
          ∧ r.2.mem ((c.tc : Thread Cert.OddTailIdeal.nD Cert.OddTailIdeal.τ).loc Cert.OddTailIdeal.main_arg12) = m ((c.tc : Thread Cert.OddTailIdeal.nD Cert.OddTailIdeal.τ).loc Cert.OddTailIdeal.main_arg12))
      ∧ θ_run (Cert.OddTailRefIdeal.defs (F := Ideal)) (onTc (τ := Cert.OddTailRefIdeal.τ) (Cert.OddTailRefIdeal.main (F := Ideal))) ⟨m', fun _ => 0, g'⟩ (fun r => ∀ c : Dev Cert.OddTailRefIdeal.nD,
          r.2.mem ((c.tc : Thread Cert.OddTailRefIdeal.nD Cert.OddTailRefIdeal.τ).loc Cert.OddTailRefIdeal.main_v147) = v0 c
          ∧ r.2.mem ((c.tc : Thread Cert.OddTailRefIdeal.nD Cert.OddTailRefIdeal.τ).loc Cert.OddTailRefIdeal.main_arg0) = m' ((c.tc : Thread Cert.OddTailRefIdeal.nD Cert.OddTailRefIdeal.τ).loc Cert.OddTailRefIdeal.main_arg0)
          ∧ r.2.mem ((c.tc : Thread Cert.OddTailRefIdeal.nD Cert.OddTailRefIdeal.τ).loc Cert.OddTailRefIdeal.main_arg1) = m' ((c.tc : Thread Cert.OddTailRefIdeal.nD Cert.OddTailRefIdeal.τ).loc Cert.OddTailRefIdeal.main_arg1)
          ∧ r.2.mem ((c.tc : Thread Cert.OddTailRefIdeal.nD Cert.OddTailRefIdeal.τ).loc Cert.OddTailRefIdeal.main_arg2) = m' ((c.tc : Thread Cert.OddTailRefIdeal.nD Cert.OddTailRefIdeal.τ).loc Cert.OddTailRefIdeal.main_arg2)
          ∧ r.2.mem ((c.tc : Thread Cert.OddTailRefIdeal.nD Cert.OddTailRefIdeal.τ).loc Cert.OddTailRefIdeal.main_arg3) = m' ((c.tc : Thread Cert.OddTailRefIdeal.nD Cert.OddTailRefIdeal.τ).loc Cert.OddTailRefIdeal.main_arg3)
          ∧ r.2.mem ((c.tc : Thread Cert.OddTailRefIdeal.nD Cert.OddTailRefIdeal.τ).loc Cert.OddTailRefIdeal.main_arg4) = m' ((c.tc : Thread Cert.OddTailRefIdeal.nD Cert.OddTailRefIdeal.τ).loc Cert.OddTailRefIdeal.main_arg4)
          ∧ r.2.mem ((c.tc : Thread Cert.OddTailRefIdeal.nD Cert.OddTailRefIdeal.τ).loc Cert.OddTailRefIdeal.main_arg5) = m' ((c.tc : Thread Cert.OddTailRefIdeal.nD Cert.OddTailRefIdeal.τ).loc Cert.OddTailRefIdeal.main_arg5)
          ∧ r.2.mem ((c.tc : Thread Cert.OddTailRefIdeal.nD Cert.OddTailRefIdeal.τ).loc Cert.OddTailRefIdeal.main_arg6) = m' ((c.tc : Thread Cert.OddTailRefIdeal.nD Cert.OddTailRefIdeal.τ).loc Cert.OddTailRefIdeal.main_arg6)
          ∧ r.2.mem ((c.tc : Thread Cert.OddTailRefIdeal.nD Cert.OddTailRefIdeal.τ).loc Cert.OddTailRefIdeal.main_arg7) = m' ((c.tc : Thread Cert.OddTailRefIdeal.nD Cert.OddTailRefIdeal.τ).loc Cert.OddTailRefIdeal.main_arg7)
          ∧ r.2.mem ((c.tc : Thread Cert.OddTailRefIdeal.nD Cert.OddTailRefIdeal.τ).loc Cert.OddTailRefIdeal.main_arg8) = m' ((c.tc : Thread Cert.OddTailRefIdeal.nD Cert.OddTailRefIdeal.τ).loc Cert.OddTailRefIdeal.main_arg8)
          ∧ r.2.mem ((c.tc : Thread Cert.OddTailRefIdeal.nD Cert.OddTailRefIdeal.τ).loc Cert.OddTailRefIdeal.main_arg9) = m' ((c.tc : Thread Cert.OddTailRefIdeal.nD Cert.OddTailRefIdeal.τ).loc Cert.OddTailRefIdeal.main_arg9)
          ∧ r.2.mem ((c.tc : Thread Cert.OddTailRefIdeal.nD Cert.OddTailRefIdeal.τ).loc Cert.OddTailRefIdeal.main_arg10) = m' ((c.tc : Thread Cert.OddTailRefIdeal.nD Cert.OddTailRefIdeal.τ).loc Cert.OddTailRefIdeal.main_arg10)
          ∧ r.2.mem ((c.tc : Thread Cert.OddTailRefIdeal.nD Cert.OddTailRefIdeal.τ).loc Cert.OddTailRefIdeal.main_arg11) = m' ((c.tc : Thread Cert.OddTailRefIdeal.nD Cert.OddTailRefIdeal.τ).loc Cert.OddTailRefIdeal.main_arg11)
          ∧ r.2.mem ((c.tc : Thread Cert.OddTailRefIdeal.nD Cert.OddTailRefIdeal.τ).loc Cert.OddTailRefIdeal.main_arg12) = m' ((c.tc : Thread Cert.OddTailRefIdeal.nD Cert.OddTailRefIdeal.τ).loc Cert.OddTailRefIdeal.main_arg12))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)) (v2 : (c : Dev Cert.QkvIdeal.nD) → Buf (Elt Ideal) ((c.tc : Thread Cert.QkvIdeal.nD Cert.QkvIdeal.τ).loc Cert.QkvIdeal.main_v0_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_v0_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v18) = v0 c
          ∧ r.2.mem ((c.tc : Thread Cert.QkvRefIdeal.nD Cert.QkvRefIdeal.τ).loc Cert.QkvRefIdeal.main_v23) = v1 c
          ∧ r.2.mem ((c.tc : Thread Cert.QkvRefIdeal.nD Cert.QkvRefIdeal.τ).loc Cert.QkvRefIdeal.main_v28) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v123_0)) (v1 : (c : Dev Cert.AttnIdeal.nD) → Buf (Elt Ideal) ((c.tc : Thread Cert.AttnIdeal.nD Cert.AttnIdeal.τ).loc Cert.AttnIdeal.main_v123_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v123_0) = v0 c
          ∧ r.2.mem ((c.tc : Thread Cert.AttnIdeal.nD Cert.AttnIdeal.τ).loc Cert.AttnIdeal.main_v123_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v72) = v0 c
          ∧ r.2.mem ((c.tc : Thread Cert.AttnRefIdeal.nD Cert.AttnRefIdeal.τ).loc Cert.AttnRefIdeal.main_v70) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_AttnMid_AttnMidIdeal : Prop :=
  True

def algebraic_AttnMidIdeal_AttnMidRefIdeal [hAttnMidIdeal : Cert.AttnMidIdeal.Facts] [hAttnMidRefIdeal : Cert.AttnMidRefIdeal.Facts] : Prop :=
  ∀ (m : (ℓ : Loc Cert.AttnMidIdeal.nD Cert.AttnMidIdeal.τ Cert.AttnMidIdeal.sig) → Buf (Elt Ideal) ℓ) (g : Dev Cert.AttnMidIdeal.nD → PrngReg)
    (m' : (ℓ : Loc Cert.AttnMidRefIdeal.nD Cert.AttnMidRefIdeal.τ Cert.AttnMidRefIdeal.sig) → Buf (Elt Ideal) ℓ) (g' : Dev Cert.AttnMidRefIdeal.nD → PrngReg), Pre_AttnMidIdeal m →
    (∀ c : Dev Cert.AttnMidIdeal.nD,
      m' ((c.tc : Thread Cert.AttnMidRefIdeal.nD Cert.AttnMidRefIdeal.τ).loc Cert.AttnMidRefIdeal.main_arg0) = m ((c.tc : Thread Cert.AttnMidIdeal.nD Cert.AttnMidIdeal.τ).loc Cert.AttnMidIdeal.main_arg0)
      ∧ m' ((c.tc : Thread Cert.AttnMidRefIdeal.nD Cert.AttnMidRefIdeal.τ).loc Cert.AttnMidRefIdeal.main_arg1) = m ((c.tc : Thread Cert.AttnMidIdeal.nD Cert.AttnMidIdeal.τ).loc Cert.AttnMidIdeal.main_arg1)) →
    ∃ (v0 : (c : Dev Cert.AttnMidIdeal.nD) → Buf (Elt Ideal) ((c.tc : Thread Cert.AttnMidIdeal.nD Cert.AttnMidIdeal.τ).loc Cert.AttnMidIdeal.main_v123_0)) (v1 : (c : Dev Cert.AttnMidIdeal.nD) → Buf (Elt Ideal) ((c.tc : Thread Cert.AttnMidIdeal.nD Cert.AttnMidIdeal.τ).loc Cert.AttnMidIdeal.main_v123_1)),
      θ_run (Cert.AttnMidIdeal.defs (F := Ideal)) (onTc (τ := Cert.AttnMidIdeal.τ) (Cert.AttnMidIdeal.main (F := Ideal))) ⟨m, fun _ => 0, g⟩ (fun r => ∀ c : Dev Cert.AttnMidIdeal.nD,
          r.2.mem ((c.tc : Thread Cert.AttnMidIdeal.nD Cert.AttnMidIdeal.τ).loc Cert.AttnMidIdeal.main_v123_0) = v0 c
          ∧ r.2.mem ((c.tc : Thread Cert.AttnMidIdeal.nD Cert.AttnMidIdeal.τ).loc Cert.AttnMidIdeal.main_v123_1) = v1 c
          ∧ r.2.mem ((c.tc : Thread Cert.AttnMidIdeal.nD Cert.AttnMidIdeal.τ).loc Cert.AttnMidIdeal.main_arg0) = m ((c.tc : Thread Cert.AttnMidIdeal.nD Cert.AttnMidIdeal.τ).loc Cert.AttnMidIdeal.main_arg0)
          ∧ r.2.mem ((c.tc : Thread Cert.AttnMidIdeal.nD Cert.AttnMidIdeal.τ).loc Cert.AttnMidIdeal.main_arg1) = m ((c.tc : Thread Cert.AttnMidIdeal.nD Cert.AttnMidIdeal.τ).loc Cert.AttnMidIdeal.main_arg1))
      ∧ θ_run (Cert.AttnMidRefIdeal.defs (F := Ideal)) (onTc (τ := Cert.AttnMidRefIdeal.τ) (Cert.AttnMidRefIdeal.main (F := Ideal))) ⟨m', fun _ => 0, g'⟩ (fun r => ∀ c : Dev Cert.AttnMidRefIdeal.nD,
          r.2.mem ((c.tc : Thread Cert.AttnMidRefIdeal.nD Cert.AttnMidRefIdeal.τ).loc Cert.AttnMidRefIdeal.main_v75) = v0 c
          ∧ r.2.mem ((c.tc : Thread Cert.AttnMidRefIdeal.nD Cert.AttnMidRefIdeal.τ).loc Cert.AttnMidRefIdeal.main_v73) = v1 c
          ∧ r.2.mem ((c.tc : Thread Cert.AttnMidRefIdeal.nD Cert.AttnMidRefIdeal.τ).loc Cert.AttnMidRefIdeal.main_arg0) = m' ((c.tc : Thread Cert.AttnMidRefIdeal.nD Cert.AttnMidRefIdeal.τ).loc Cert.AttnMidRefIdeal.main_arg0)
          ∧ r.2.mem ((c.tc : Thread Cert.AttnMidRefIdeal.nD Cert.AttnMidRefIdeal.τ).loc Cert.AttnMidRefIdeal.main_arg1) = m' ((c.tc : Thread Cert.AttnMidRefIdeal.nD Cert.AttnMidRefIdeal.τ).loc Cert.AttnMidRefIdeal.main_arg1))

def preserves_Ab_AbIdeal : Prop :=
  True

def algebraic_AbIdeal_AbRefIdeal [hAbIdeal : Cert.AbIdeal.Facts] [hAbRefIdeal : Cert.AbRefIdeal.Facts] : Prop :=
  ∀ (m : (ℓ : Loc Cert.AbIdeal.nD Cert.AbIdeal.τ Cert.AbIdeal.sig) → Buf (Elt Ideal) ℓ) (g : Dev Cert.AbIdeal.nD → PrngReg)
    (m' : (ℓ : Loc Cert.AbRefIdeal.nD Cert.AbRefIdeal.τ Cert.AbRefIdeal.sig) → Buf (Elt Ideal) ℓ) (g' : Dev Cert.AbRefIdeal.nD → PrngReg), Pre_AbIdeal m →
    (∀ c : Dev Cert.AbIdeal.nD,
      m' ((c.tc : Thread Cert.AbRefIdeal.nD Cert.AbRefIdeal.τ).loc Cert.AbRefIdeal.main_arg0) = m ((c.tc : Thread Cert.AbIdeal.nD Cert.AbIdeal.τ).loc Cert.AbIdeal.main_arg0)
      ∧ m' ((c.tc : Thread Cert.AbRefIdeal.nD Cert.AbRefIdeal.τ).loc Cert.AbRefIdeal.main_arg1) = m ((c.tc : Thread Cert.AbIdeal.nD Cert.AbIdeal.τ).loc Cert.AbIdeal.main_arg1)
      ∧ m' ((c.tc : Thread Cert.AbRefIdeal.nD Cert.AbRefIdeal.τ).loc Cert.AbRefIdeal.main_arg2) = m ((c.tc : Thread Cert.AbIdeal.nD Cert.AbIdeal.τ).loc Cert.AbIdeal.main_arg2)
      ∧ m' ((c.tc : Thread Cert.AbRefIdeal.nD Cert.AbRefIdeal.τ).loc Cert.AbRefIdeal.main_arg3) = m ((c.tc : Thread Cert.AbIdeal.nD Cert.AbIdeal.τ).loc Cert.AbIdeal.main_arg3)
      ∧ m' ((c.tc : Thread Cert.AbRefIdeal.nD Cert.AbRefIdeal.τ).loc Cert.AbRefIdeal.main_arg4) = m ((c.tc : Thread Cert.AbIdeal.nD Cert.AbIdeal.τ).loc Cert.AbIdeal.main_arg4)) →
    ∃ (v0 : (c : Dev Cert.AbIdeal.nD) → Buf (Elt Ideal) ((c.tc : Thread Cert.AbIdeal.nD Cert.AbIdeal.τ).loc Cert.AbIdeal.main_v4_0)) (v1 : (c : Dev Cert.AbIdeal.nD) → Buf (Elt Ideal) ((c.tc : Thread Cert.AbIdeal.nD Cert.AbIdeal.τ).loc Cert.AbIdeal.main_v4_1)) (v2 : (c : Dev Cert.AbIdeal.nD) → Buf (Elt Ideal) ((c.tc : Thread Cert.AbIdeal.nD Cert.AbIdeal.τ).loc Cert.AbIdeal.main_v4_2)),
      θ_run (Cert.AbIdeal.defs (F := Ideal)) (onTc (τ := Cert.AbIdeal.τ) (Cert.AbIdeal.main (F := Ideal))) ⟨m, fun _ => 0, g⟩ (fun r => ∀ c : Dev Cert.AbIdeal.nD,
          r.2.mem ((c.tc : Thread Cert.AbIdeal.nD Cert.AbIdeal.τ).loc Cert.AbIdeal.main_v4_0) = v0 c
          ∧ r.2.mem ((c.tc : Thread Cert.AbIdeal.nD Cert.AbIdeal.τ).loc Cert.AbIdeal.main_v4_1) = v1 c
          ∧ r.2.mem ((c.tc : Thread Cert.AbIdeal.nD Cert.AbIdeal.τ).loc Cert.AbIdeal.main_v4_2) = v2 c
          ∧ r.2.mem ((c.tc : Thread Cert.AbIdeal.nD Cert.AbIdeal.τ).loc Cert.AbIdeal.main_arg0) = m ((c.tc : Thread Cert.AbIdeal.nD Cert.AbIdeal.τ).loc Cert.AbIdeal.main_arg0)
          ∧ r.2.mem ((c.tc : Thread Cert.AbIdeal.nD Cert.AbIdeal.τ).loc Cert.AbIdeal.main_arg1) = m ((c.tc : Thread Cert.AbIdeal.nD Cert.AbIdeal.τ).loc Cert.AbIdeal.main_arg1)
          ∧ r.2.mem ((c.tc : Thread Cert.AbIdeal.nD Cert.AbIdeal.τ).loc Cert.AbIdeal.main_arg2) = m ((c.tc : Thread Cert.AbIdeal.nD Cert.AbIdeal.τ).loc Cert.AbIdeal.main_arg2)
          ∧ r.2.mem ((c.tc : Thread Cert.AbIdeal.nD Cert.AbIdeal.τ).loc Cert.AbIdeal.main_arg3) = m ((c.tc : Thread Cert.AbIdeal.nD Cert.AbIdeal.τ).loc Cert.AbIdeal.main_arg3)
          ∧ r.2.mem ((c.tc : Thread Cert.AbIdeal.nD Cert.AbIdeal.τ).loc Cert.AbIdeal.main_arg4) = m ((c.tc : Thread Cert.AbIdeal.nD Cert.AbIdeal.τ).loc Cert.AbIdeal.main_arg4))
      ∧ θ_run (Cert.AbRefIdeal.defs (F := Ideal)) (onTc (τ := Cert.AbRefIdeal.τ) (Cert.AbRefIdeal.main (F := Ideal))) ⟨m', fun _ => 0, g'⟩ (fun r => ∀ c : Dev Cert.AbRefIdeal.nD,
          r.2.mem ((c.tc : Thread Cert.AbRefIdeal.nD Cert.AbRefIdeal.τ).loc Cert.AbRefIdeal.main_v50) = v0 c
          ∧ r.2.mem ((c.tc : Thread Cert.AbRefIdeal.nD Cert.AbRefIdeal.τ).loc Cert.AbRefIdeal.main_v51) = v1 c
          ∧ r.2.mem ((c.tc : Thread Cert.AbRefIdeal.nD Cert.AbRefIdeal.τ).loc Cert.AbRefIdeal.main_v53) = v2 c
          ∧ r.2.mem ((c.tc : Thread Cert.AbRefIdeal.nD Cert.AbRefIdeal.τ).loc Cert.AbRefIdeal.main_arg0) = m' ((c.tc : Thread Cert.AbRefIdeal.nD Cert.AbRefIdeal.τ).loc Cert.AbRefIdeal.main_arg0)
          ∧ r.2.mem ((c.tc : Thread Cert.AbRefIdeal.nD Cert.AbRefIdeal.τ).loc Cert.AbRefIdeal.main_arg1) = m' ((c.tc : Thread Cert.AbRefIdeal.nD Cert.AbRefIdeal.τ).loc Cert.AbRefIdeal.main_arg1)
          ∧ r.2.mem ((c.tc : Thread Cert.AbRefIdeal.nD Cert.AbRefIdeal.τ).loc Cert.AbRefIdeal.main_arg2) = m' ((c.tc : Thread Cert.AbRefIdeal.nD Cert.AbRefIdeal.τ).loc Cert.AbRefIdeal.main_arg2)
          ∧ r.2.mem ((c.tc : Thread Cert.AbRefIdeal.nD Cert.AbRefIdeal.τ).loc Cert.AbRefIdeal.main_arg3) = m' ((c.tc : Thread Cert.AbRefIdeal.nD Cert.AbRefIdeal.τ).loc Cert.AbRefIdeal.main_arg3)
          ∧ r.2.mem ((c.tc : Thread Cert.AbRefIdeal.nD Cert.AbRefIdeal.τ).loc Cert.AbRefIdeal.main_arg4) = m' ((c.tc : Thread Cert.AbRefIdeal.nD Cert.AbRefIdeal.τ).loc Cert.AbRefIdeal.main_arg4))

def Claim : Prop :=
  ∃ (hEvenTail : Cert.EvenTail.Facts) (hEvenTailIdeal : Cert.EvenTailIdeal.Facts) (hEvenTailRefIdeal : Cert.EvenTailRefIdeal.Facts) (hOddTail : Cert.OddTail.Facts) (hOddTailIdeal : Cert.OddTailIdeal.Facts) (hOddTailRefIdeal : Cert.OddTailRefIdeal.Facts) (hQkv : Cert.Qkv.Facts) (hQkvIdeal : Cert.QkvIdeal.Facts) (hQkvRefIdeal : Cert.QkvRefIdeal.Facts) (hAttn : Cert.Attn.Facts) (hAttnIdeal : Cert.AttnIdeal.Facts) (hAttnRefIdeal : Cert.AttnRefIdeal.Facts) (hAttnMid : Cert.AttnMid.Facts) (hAttnMidIdeal : Cert.AttnMidIdeal.Facts) (hAttnMidRefIdeal : Cert.AttnMidRefIdeal.Facts) (hAb : Cert.Ab.Facts) (hAbIdeal : Cert.AbIdeal.Facts) (hAbRefIdeal : Cert.AbRefIdeal.Facts) (hPre_finite_lses : Cert.Pre_finite_lses.Facts),
    quiescent_EvenTail (hEvenTail := hEvenTail)
    ∧ quiescent_EvenTailIdeal (hEvenTailIdeal := hEvenTailIdeal)
    ∧ quiescent_EvenTailRefIdeal (hEvenTailRefIdeal := hEvenTailRefIdeal)
    ∧ quiescent_OddTail (hOddTail := hOddTail)
    ∧ quiescent_OddTailIdeal (hOddTailIdeal := hOddTailIdeal)
    ∧ quiescent_OddTailIdeal_pre_finite_lses (hOddTailIdeal := hOddTailIdeal) (hPre_finite_lses := hPre_finite_lses)
    ∧ quiescent_OddTailRefIdeal (hOddTailRefIdeal := hOddTailRefIdeal)
    ∧ quiescent_OddTailRefIdeal_pre_finite_lses (hOddTailRefIdeal := hOddTailRefIdeal) (hPre_finite_lses := hPre_finite_lses)
    ∧ quiescent_Qkv (hQkv := hQkv)
    ∧ quiescent_QkvIdeal (hQkvIdeal := hQkvIdeal)
    ∧ quiescent_QkvRefIdeal (hQkvRefIdeal := hQkvRefIdeal)
    ∧ quiescent_Attn (hAttn := hAttn)
    ∧ quiescent_AttnIdeal (hAttnIdeal := hAttnIdeal)
    ∧ quiescent_AttnRefIdeal (hAttnRefIdeal := hAttnRefIdeal)
    ∧ quiescent_AttnMid (hAttnMid := hAttnMid)
    ∧ quiescent_AttnMidIdeal (hAttnMidIdeal := hAttnMidIdeal)
    ∧ quiescent_AttnMidRefIdeal (hAttnMidRefIdeal := hAttnMidRefIdeal)
    ∧ quiescent_Ab (hAb := hAb)
    ∧ quiescent_AbIdeal (hAbIdeal := hAbIdeal)
    ∧ quiescent_AbRefIdeal (hAbRefIdeal := hAbRefIdeal)
    ∧ preserves_EvenTail_EvenTailIdeal
    ∧ algebraic_EvenTailIdeal_EvenTailRefIdeal (hEvenTailIdeal := hEvenTailIdeal) (hEvenTailRefIdeal := hEvenTailRefIdeal)
    ∧ preserves_OddTail_OddTailIdeal
    ∧ algebraic_OddTailIdeal_OddTailRefIdeal_pre_finite_lses (hOddTailIdeal := hOddTailIdeal) (hOddTailRefIdeal := hOddTailRefIdeal) (hPre_finite_lses := hPre_finite_lses)
    ∧ preserves_Qkv_QkvIdeal
    ∧ algebraic_QkvIdeal_QkvRefIdeal (hQkvIdeal := hQkvIdeal) (hQkvRefIdeal := hQkvRefIdeal)
    ∧ preserves_Attn_AttnIdeal
    ∧ algebraic_AttnIdeal_AttnRefIdeal (hAttnIdeal := hAttnIdeal) (hAttnRefIdeal := hAttnRefIdeal)
    ∧ preserves_AttnMid_AttnMidIdeal
    ∧ algebraic_AttnMidIdeal_AttnMidRefIdeal (hAttnMidIdeal := hAttnMidIdeal) (hAttnMidRefIdeal := hAttnMidRefIdeal)
    ∧ preserves_Ab_AbIdeal
    ∧ algebraic_AbIdeal_AbRefIdeal (hAbIdeal := hAbIdeal) (hAbRefIdeal := hAbRefIdeal)
-- ==== Pre_finite_lses.lean ====
abbrev S8x1x2048x512 : Shape := ⟨4, ![8, 1, 2048, 512]⟩
abbrev S8x4x512x512 : Shape := ⟨4, ![8, 4, 512, 512]⟩
abbrev S8x16x128x512 : Shape := ⟨4, ![8, 16, 128, 512]⟩
abbrev S8x1x2048x128 : Shape := ⟨4, ![8, 1, 2048, 128]⟩
abbrev S8x4x512x128 : Shape := ⟨4, ![8, 4, 512, 128]⟩
abbrev S8x16x128x128 : Shape := ⟨4, ![8, 16, 128, 128]⟩
abbrev S512x1024 : Shape := ⟨2, ![512, 1024]⟩
abbrev S8x2048x1024 : Shape := ⟨3, ![8, 2048, 1024]⟩
abbrev S8x6x1024 : Shape := ⟨3, ![8, 6, 1024]⟩
abbrev S2x2x1024 : Shape := ⟨3, ![2, 2, 1024]⟩
abbrev S2x1024x4096 : Shape := ⟨3, ![2, 1024, 4096]⟩
abbrev S2x4096x1024 : Shape := ⟨3, ![2, 4096, 1024]⟩
abbrev S8x1x2048x8 : Shape := ⟨4, ![8, 1, 2048, 8]⟩
abbrev S_ : Shape := ⟨0, ![]⟩
abbrev S8x4x512x8 : Shape := ⟨4, ![8, 4, 512, 8]⟩
abbrev S8x16x128x8 : Shape := ⟨4, ![8, 16, 128, 8]⟩

class Facts : Prop where
  slices_S8x1x2048x128_S8x1x2048x8_0_0_0_0 : S8x1x2048x128.Slices ![0, 0, 0, 0] S8x1x2048x8
  bcast_S_S8x1x2048x8 : S_.BroadcastsInDim S8x1x2048x8 (![] : Fin 0 → Fin S8x1x2048x8.rank)
  slices_S8x4x512x128_S8x4x512x8_0_0_0_0 : S8x4x512x128.Slices ![0, 0, 0, 0] S8x4x512x8
  bcast_S_S8x4x512x8 : S_.BroadcastsInDim S8x4x512x8 (![] : Fin 0 → Fin S8x4x512x8.rank)
  slices_S8x16x128x128_S8x16x128x8_0_0_0_0 : S8x16x128x128.Slices ![0, 0, 0, 0] S8x16x128x8
  bcast_S_S8x16x128x8 : S_.BroadcastsInDim S8x16x128x8 (![] : Fin 0 → Fin S8x16x128x8.rank)

variable [Facts]

def fn {F : FTy → Type} [FloatOps F] (main_arg0 : FVec F S8x1x2048x512 .bf16) (main_arg1 : FVec F S8x4x512x512 .bf16) (main_arg2 : FVec F S8x16x128x512 .bf16) (main_arg3 : FVec F S8x1x2048x128 .f32) (main_arg4 : FVec F S8x4x512x128 .f32) (main_arg5 : FVec F S8x16x128x128 .f32) (main_arg6 : FVec F S512x1024 .f32) (main_arg7 : FVec F S8x2048x1024 .f32) (main_arg8 : FVec F S8x6x1024 .f32) (main_arg9 : FVec F S2x2x1024 .f32) (main_arg10 : FVec F S2x2x1024 .f32) (main_arg11 : FVec F S2x1024x4096 .f32) (main_arg12 : FVec F S2x4096x1024 .f32) : IVec S8x1x2048x8 1 × IVec S8x4x512x8 1 × IVec S8x16x128x8 1 :=
  let main_v0 : FVec F S8x1x2048x8 .f32 := (extractStridedSlice S8x1x2048x8 ![0, 0, 0, 0] · slices_S8x1x2048x128_S8x1x2048x8_0_0_0_0) main_arg3
  let main_v1 : FVec F S8x1x2048x8 .f32 := Host.absf main_v0
  let main_cst : FVec F S_ .f32 := constant S_ .f32 0x7F800000#32
  let main_v2 : FVec F S8x1x2048x8 .f32 := broadcastInDim S8x1x2048x8 ![] bcast_S_S8x1x2048x8 main_cst
  let main_v3 : IVec S8x1x2048x8 1 := cmpf .olt main_v1 main_v2
  let main_v4 : FVec F S8x4x512x8 .f32 := (extractStridedSlice S8x4x512x8 ![0, 0, 0, 0] · slices_S8x4x512x128_S8x4x512x8_0_0_0_0) main_arg4
  let main_v5 : FVec F S8x4x512x8 .f32 := Host.absf main_v4
  let main_cst_0 : FVec F S_ .f32 := constant S_ .f32 0x7F800000#32
  let main_v6 : FVec F S8x4x512x8 .f32 := broadcastInDim S8x4x512x8 ![] bcast_S_S8x4x512x8 main_cst_0
  let main_v7 : IVec S8x4x512x8 1 := cmpf .olt main_v5 main_v6
  let main_v8 : FVec F S8x16x128x8 .f32 := (extractStridedSlice S8x16x128x8 ![0, 0, 0, 0] · slices_S8x16x128x128_S8x16x128x8_0_0_0_0) main_arg5
  let main_v9 : FVec F S8x16x128x8 .f32 := Host.absf main_v8
  let main_cst_1 : FVec F S_ .f32 := constant S_ .f32 0x7F800000#32
  let main_v10 : FVec F S8x16x128x8 .f32 := broadcastInDim S8x16x128x8 ![] bcast_S_S8x16x128x8 main_cst_1
  let main_v11 : IVec S8x16x128x8 1 := cmpf .olt main_v9 main_v10
  (main_v3, main_v7, main_v11)
-- ==== EvenTail.lean ====
abbrev S8x2048x512 : Shape := ⟨3, ![8, 2048, 512]⟩
abbrev S1024x1024 : Shape := ⟨2, ![1024, 1024]⟩
abbrev S8x2048x1024 : Shape := ⟨3, ![8, 2048, 1024]⟩
abbrev S8x6x1024 : Shape := ⟨3, ![8, 6, 1024]⟩
abbrev S2x2x1024 : Shape := ⟨3, ![2, 2, 1024]⟩
abbrev S2x1024x4096 : Shape := ⟨3, ![2, 1024, 4096]⟩
abbrev S2x4096x1024 : Shape := ⟨3, ![2, 4096, 1024]⟩
abbrev S1x512x512 : Shape := ⟨3, ![1, 512, 512]⟩
abbrev S1x512x1024 : Shape := ⟨3, ![1, 512, 1024]⟩
abbrev S1x6x1024 : Shape := ⟨3, ![1, 6, 1024]⟩
abbrev S1x2x1024 : Shape := ⟨3, ![1, 2, 1024]⟩
abbrev S1x1024x4096 : Shape := ⟨3, ![1, 1024, 4096]⟩
abbrev S1x4096x1024 : Shape := ⟨3, ![1, 4096, 1024]⟩
abbrev S6x1024 : Shape := ⟨2, ![6, 1024]⟩
abbrev S1x256x512 : Shape := ⟨3, ![1, 256, 512]⟩
abbrev S256x512 : Shape := ⟨2, ![256, 512]⟩
abbrev S512x1024 : Shape := ⟨2, ![512, 1024]⟩
abbrev S256x1024 : Shape := ⟨2, ![256, 1024]⟩
abbrev S1x256x1024 : Shape := ⟨3, ![1, 256, 1024]⟩
abbrev S1x1024 : Shape := ⟨2, ![1, 1024]⟩
abbrev S1x1x1024 : Shape := ⟨3, ![1, 1, 1024]⟩
abbrev S256 : Shape := ⟨1, ![256]⟩
abbrev S256x1 : Shape := ⟨2, ![256, 1]⟩
abbrev S1x1024x1024 : Shape := ⟨3, ![1, 1024, 1024]⟩

abbrev nBuf : Space → Nat
  | .hbm => 11
  | .vmem => 15
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S1024x1024, .f32⟩
  | .hbm, ⟨3, _⟩ => ⟨S8x2048x1024, .f32⟩
  | .hbm, ⟨4, _⟩ => ⟨S8x6x1024, .f32⟩
  | .hbm, ⟨5, _⟩ => ⟨S2x2x1024, .f32⟩
  | .hbm, ⟨6, _⟩ => ⟨S2x2x1024, .f32⟩
  | .hbm, ⟨7, _⟩ => ⟨S2x1024x4096, .f32⟩
  | .hbm, ⟨8, _⟩ => ⟨S2x4096x1024, .f32⟩
  | .hbm, ⟨9, _⟩ => ⟨S1024x1024, .bf16⟩
  | .hbm, ⟨10, _⟩ => ⟨S8x2048x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .vmem, ⟨7, _⟩ => ⟨S1x6x1024, .f32⟩
  | .local _ .vmem, ⟨8, _⟩ => ⟨S1x6x1024, .f32⟩
  | .local _ .vmem, ⟨9, _⟩ => ⟨S1x2x1024, .f32⟩
  | .local _ .vmem, ⟨10, _⟩ => ⟨S1x2x1024, .f32⟩
  | .local _ .vmem, ⟨11, _⟩ => ⟨S1x1024x4096, .f32⟩
  | .local _ .vmem, ⟨12, _⟩ => ⟨S1x4096x1024, .f32⟩
  | .local _ .vmem, ⟨13, _⟩ => ⟨S1x512x1024, .f32⟩
  | .local _ .vmem, ⟨14, _⟩ => ⟨S1x512x1024, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== EvenTailRefIdeal.lean ====
abbrev S8x2048x512 : Shape := ⟨3, ![8, 2048, 512]⟩
abbrev S1024x1024 : Shape := ⟨2, ![1024, 1024]⟩
abbrev S8x2048x1024 : Shape := ⟨3, ![8, 2048, 1024]⟩
abbrev S8x6x1024 : Shape := ⟨3, ![8, 6, 1024]⟩
abbrev S2x2x1024 : Shape := ⟨3, ![2, 2, 1024]⟩
abbrev S2x1024x4096 : Shape := ⟨3, ![2, 1024, 4096]⟩
abbrev S2x4096x1024 : Shape := ⟨3, ![2, 4096, 1024]⟩
abbrev S8x1x1024 : Shape := ⟨3, ![8, 1, 1024]⟩
abbrev S8x1024 : Shape := ⟨2, ![8, 1024]⟩
abbrev S_ : Shape := ⟨0, ![]⟩
abbrev S1x1x1024 : Shape := ⟨3, ![1, 1, 1024]⟩
abbrev S1024 : Shape := ⟨1, ![1024]⟩
abbrev S8x2048 : Shape := ⟨2, ![8, 2048]⟩
abbrev S8x2048x1 : Shape := ⟨3, ![8, 2048, 1]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩

abbrev nBuf : Space → Nat
  | .hbm => 132
  | .vmem => 0
  | .smem => 0
  | _ => 0

abbrev hbmTy0_0 (i : Nat) : BufTy := match i % 128 with
  | 0 => ⟨S8x2048x512, .bf16⟩
  | 1 => ⟨S8x2048x512, .bf16⟩
  | 2 => ⟨S1024x1024, .f32⟩
  | 3 => ⟨S8x2048x1024, .f32⟩
  | 4 => ⟨S8x6x1024, .f32⟩
  | 5 => ⟨S2x2x1024, .f32⟩
  | 6 => ⟨S2x2x1024, .f32⟩
  | 7 => ⟨S2x1024x4096, .f32⟩
  | 8 => ⟨S2x4096x1024, .f32⟩
  | 9 => ⟨S8x2048x512, .f32⟩
  | 10 => ⟨S8x2048x512, .f32⟩
  | 11 => ⟨S8x2048x1024, .f32⟩
  | 12 => ⟨S8x2048x1024, .f32⟩
  | 13 => ⟨S8x1x1024, .f32⟩
  | 14 => ⟨S8x1024, .f32⟩
  | 15 => ⟨S8x1x1024, .f32⟩
  | 16 => ⟨S8x1x1024, .f32⟩
  | 17 => ⟨S8x1024, .f32⟩
  | 18 => ⟨S8x1x1024, .f32⟩
  | 19 => ⟨S8x1x1024, .f32⟩
  | 20 => ⟨S8x1024, .f32⟩
  | 21 => ⟨S8x1x1024, .f32⟩
  | 22 => ⟨S8x1x1024, .f32⟩
  | 23 => ⟨S8x1024, .f32⟩
  | 24 => ⟨S8x1x1024, .f32⟩
  | 25 => ⟨S8x1x1024, .f32⟩
  | 26 => ⟨S8x1024, .f32⟩
  | 27 => ⟨S8x1x1024, .f32⟩
  | 28 => ⟨S8x1x1024, .f32⟩
  | 29 => ⟨S8x1024, .f32⟩
  | 30 => ⟨S8x1x1024, .f32⟩
  | 31 => ⟨S_, .f32⟩
  | 32 => ⟨S8x2048x1024, .f32⟩
  | 33 => ⟨S8x2048x1024, .f32⟩
  | 34 => ⟨S_, .f32⟩
  | 35 => ⟨S8x1x1024, .f32⟩
  | 36 => ⟨S8x1x1024, .f32⟩
  | 37 => ⟨S8x2048x1024, .f32⟩
  | 38 => ⟨S8x2048x1024, .f32⟩
  | 39 => ⟨S8x2048x1024, .f32⟩
  | 40 => ⟨S1x1x1024, .f32⟩
  | 41 => ⟨S1024, .f32⟩
  | 42 => ⟨S1x1x1024, .f32⟩
  | 43 => ⟨S1024, .f32⟩
  | 44 => ⟨S_, .f32⟩
  | 45 => ⟨S8x2048, .f32⟩
  | 46 => ⟨S8x2048x1, .f32⟩
  | 47 => ⟨S_, .f32⟩
  | 48 => ⟨S8x2048x1, .f32⟩
  | 49 => ⟨S8x2048x1, .f32⟩
  | 50 => ⟨S8x2048x1024, .f32⟩
  | 51 => ⟨S8x2048x1024, .f32⟩
  | 52 => ⟨S8x2048x1024, .f32⟩
  | 53 => ⟨S_, .f32⟩
  | 54 => ⟨S8x2048, .f32⟩
  | 55 => ⟨S8x2048x1, .f32⟩
  | 56 => ⟨S_, .f32⟩
  | 57 => ⟨S8x2048x1, .f32⟩
  | 58 => ⟨S8x2048x1, .f32⟩
  | 59 => ⟨S8x2048x1024, .f32⟩
  | 60 => ⟨S8x2048x1024, .f32⟩
  | 61 => ⟨S_, .f32⟩
  | 62 => ⟨S8x2048x1, .f32⟩
  | 63 => ⟨S8x2048x1, .f32⟩
  | 64 => ⟨S8x2048x1, .f32⟩
  | 65 => ⟨S8x2048x1024, .f32⟩
  | 66 => ⟨S8x2048x1024, .f32⟩
  | 67 => ⟨S1x1x1024, .f32⟩
  | 68 => ⟨S8x2048x1024, .f32⟩
  | 69 => ⟨S8x2048x1024, .f32⟩
  | 70 => ⟨S1x1x1024, .f32⟩
  | 71 => ⟨S8x2048x1024, .f32⟩
  | 72 => ⟨S8x2048x1024, .f32⟩
  | 73 => ⟨S_, .f32⟩
  | 74 => ⟨S8x1x1024, .f32⟩
  | 75 => ⟨S8x1x1024, .f32⟩
  | 76 => ⟨S8x2048x1024, .f32⟩
  | 77 => ⟨S8x2048x1024, .f32⟩
  | 78 => ⟨S8x2048x1024, .f32⟩
  | 79 => ⟨S8x2048x1024, .f32⟩
  | 80 => ⟨S1x1024x4096, .f32⟩
  | 81 => ⟨S1024x4096, .f32⟩
  | 82 => ⟨S8x2048x4096, .f32⟩
  | 83 => ⟨S_, .f32⟩
  | 84 => ⟨S8x2048x4096, .f32⟩
  | 85 => ⟨S8x2048x4096, .f32⟩
  | 86 => ⟨S8x2048x4096, .f32⟩
  | 87 => ⟨S1x4096x1024, .f32⟩
  | 88 => ⟨S4096x1024, .f32⟩
  | 89 => ⟨S8x2048x1024, .f32⟩
  | 90 => ⟨S_, .f32⟩
  | 91 => ⟨S8x2048x1024, .f32⟩
  | 92 => ⟨S8x2048x1024, .f32⟩
  | 93 => ⟨S_, .f32⟩
  | 94 => ⟨S8x1x1024, .f32⟩
  | 95 => ⟨S8x1x1024, .f32⟩
  | 96 => ⟨S8x2048x1024, .f32⟩
  | 97 => ⟨S8x2048x1024, .f32⟩
  | 98 => ⟨S8x2048x1024, .f32⟩
  | 99 => ⟨S1x1x1024, .f32⟩
  | 100 => ⟨S1024, .f32⟩
  | 101 => ⟨S1x1x1024, .f32⟩
  | 102 => ⟨S1024, .f32⟩
  | 103 => ⟨S_, .f32⟩
  | 104 => ⟨S8x2048, .f32⟩
  | 105 => ⟨S8x2048x1, .f32⟩
  | 106 => ⟨S_, .f32⟩
  | 107 => ⟨S8x2048x1, .f32⟩
  | 108 => ⟨S8x2048x1, .f32⟩
  | 109 => ⟨S8x2048x1024, .f32⟩
  | 110 => ⟨S8x2048x1024, .f32⟩
  | 111 => ⟨S8x2048x1024, .f32⟩
  | 112 => ⟨S_, .f32⟩
  | 113 => ⟨S8x2048, .f32⟩
  | 114 => ⟨S8x2048x1, .f32⟩
  | 115 => ⟨S_, .f32⟩
  | 116 => ⟨S8x2048x1, .f32⟩
  | 117 => ⟨S8x2048x1, .f32⟩
  | 118 => ⟨S8x2048x1024, .f32⟩
  | 119 => ⟨S8x2048x1024, .f32⟩
  | 120 => ⟨S_, .f32⟩
  | 121 => ⟨S8x2048x1, .f32⟩
  | 122 => ⟨S8x2048x1, .f32⟩
  | 123 => ⟨S8x2048x1, .f32⟩
  | 124 => ⟨S8x2048x1024, .f32⟩
  | 125 => ⟨S8x2048x1024, .f32⟩
  | 126 => ⟨S1x1x1024, .f32⟩
  | 127 => ⟨S8x2048x1024, .f32⟩
  | _ => ⟨S8x2048x512, .bf16⟩

abbrev hbmTy0_1 (i : Nat) : BufTy := match i % 128 with
  | 0 => ⟨S8x2048x1024, .f32⟩
  | 1 => ⟨S1x1x1024, .f32⟩
  | 2 => ⟨S8x2048x1024, .f32⟩
  | 3 => ⟨S8x2048x1024, .f32⟩
  | _ => ⟨S8x2048x512, .bf16⟩

abbrev hbmTy (i : Nat) : BufTy := match i / 128 with
  | 0 => hbmTy0_0 i
  | 1 => hbmTy0_1 i
  | _ => ⟨S8x2048x512, .bf16⟩

abbrev bufTy : (tb : Table) → Fin (tcTables nBuf tb) → BufTy
  | .hbm, ⟨i, _⟩ => hbmTy i
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_call0_cst : Ref sig .tc := ⟨.hbm, 83, rfl⟩
abbrev main_call0_v0 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_7 : Ref sig .tc := ⟨.hbm, 90, rfl⟩
abbrev main_v71 : Ref sig .tc := ⟨.hbm, 91, rfl⟩
abbrev main_v72 : Ref sig .tc := ⟨.hbm, 92, rfl⟩
abbrev main_cst_8 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_9 : Ref sig .tc := ⟨.hbm, 103, rfl⟩
abbrev main_v82 : Ref sig .tc := ⟨.hbm, 104, rfl⟩
abbrev main_v83 : Ref sig .tc := ⟨.hbm, 105, rfl⟩
abbrev main_cst_10 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_11 : Ref sig .tc := ⟨.hbm, 112, rfl⟩
abbrev main_v89 : Ref sig .tc := ⟨.hbm, 113, rfl⟩
abbrev main_v90 : Ref sig .tc := ⟨.hbm, 114, rfl⟩
abbrev main_cst_12 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_13 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩

abbrev nD : Nat := 1
abbrev τ : Topo := Topo.v7x

variable {F : FTy → Type} [FloatOps F]
-- ==== OddTail.lean ====
abbrev S8x1x2048x512 : Shape := ⟨4, ![8, 1, 2048, 512]⟩
abbrev S8x4x512x512 : Shape := ⟨4, ![8, 4, 512, 512]⟩
abbrev S8x16x128x512 : Shape := ⟨4, ![8, 16, 128, 512]⟩
abbrev S8x1x2048x128 : Shape := ⟨4, ![8, 1, 2048, 128]⟩
abbrev S8x4x512x128 : Shape := ⟨4, ![8, 4, 512, 128]⟩
abbrev S8x16x128x128 : Shape := ⟨4, ![8, 16, 128, 128]⟩
abbrev S512x1024 : Shape := ⟨2, ![512, 1024]⟩
abbrev S8x2048x1024 : Shape := ⟨3, ![8, 2048, 1024]⟩
abbrev S8x6x1024 : Shape := ⟨3, ![8, 6, 1024]⟩
abbrev S2x2x1024 : Shape := ⟨3, ![2, 2, 1024]⟩
abbrev S2x1024x4096 : Shape := ⟨3, ![2, 1024, 4096]⟩
abbrev S2x4096x1024 : Shape := ⟨3, ![2, 4096, 1024]⟩
abbrev S1x1x512x512 : Shape := ⟨4, ![1, 1, 512, 512]⟩
abbrev S1x4x128x512 : Shape := ⟨4, ![1, 4, 128, 512]⟩
abbrev S1x16x32x512 : Shape := ⟨4, ![1, 16, 32, 512]⟩
abbrev S1x1x512x128 : Shape := ⟨4, ![1, 1, 512, 128]⟩
abbrev S1x4x128x128 : Shape := ⟨4, ![1, 4, 128, 128]⟩
abbrev S1x16x32x128 : Shape := ⟨4, ![1, 16, 32, 128]⟩
abbrev S1x512x1024 : Shape := ⟨3, ![1, 512, 1024]⟩
abbrev S1x6x1024 : Shape := ⟨3, ![1, 6, 1024]⟩
abbrev S1x2x1024 : Shape := ⟨3, ![1, 2, 1024]⟩
abbrev S1x1024x4096 : Shape := ⟨3, ![1, 1024, 4096]⟩
abbrev S1x4096x1024 : Shape := ⟨3, ![1, 4096, 1024]⟩
abbrev S4x512x128 : Shape := ⟨3, ![4, 512, 128]⟩
abbrev S1x512x128 : Shape := ⟨3, ![1, 512, 128]⟩
abbrev S512x512 : Shape := ⟨2, ![512, 512]⟩
abbrev S512x128 : Shape := ⟨2, ![512, 128]⟩
abbrev S1x1x128x128 : Shape := ⟨4, ![1, 1, 128, 128]⟩
abbrev S128x128 : Shape := ⟨2, ![128, 128]⟩
abbrev S1x128x128 : Shape := ⟨3, ![1, 128, 128]⟩
abbrev S1x1x32x128 : Shape := ⟨4, ![1, 1, 32, 128]⟩
abbrev S32x128 : Shape := ⟨2, ![32, 128]⟩
abbrev S1x32x128 : Shape := ⟨3, ![1, 32, 128]⟩
abbrev S128x512 : Shape := ⟨2, ![128, 512]⟩
abbrev S6x1024 : Shape := ⟨2, ![6, 1024]⟩
abbrev S256x512 : Shape := ⟨2, ![256, 512]⟩
abbrev S256x1024 : Shape := ⟨2, ![256, 1024]⟩
abbrev S1x256x1024 : Shape := ⟨3, ![1, 256, 1024]⟩
abbrev S1x1024 : Shape := ⟨2, ![1, 1024]⟩
abbrev S1x1x1024 : Shape := ⟨3, ![1, 1, 1024]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩

abbrev nBuf : Space → Nat
  | .hbm => 15
  | .vmem => 26
  | .smem => 0
  | _ => 0

abbrev bufTy : (tb : Table) → Fin (tcTables nBuf tb) → BufTy
  | .hbm, ⟨0, _⟩ => ⟨S8x1x2048x512, .bf16⟩
  | .hbm, ⟨1, _⟩ => ⟨S8x4x512x512, .bf16⟩
  | .hbm, ⟨2, _⟩ => ⟨S8x16x128x512, .bf16⟩
  | .hbm, ⟨3, _⟩ => ⟨S8x1x2048x128, .f32⟩
  | .hbm, ⟨4, _⟩ => ⟨S8x4x512x128, .f32⟩
  | .hbm, ⟨5, _⟩ => ⟨S8x16x128x128, .f32⟩
  | .hbm, ⟨6, _⟩ => ⟨S512x1024, .f32⟩
  | .hbm, ⟨7, _⟩ => ⟨S8x2048x1024, .f32⟩
  | .hbm, ⟨8, _⟩ => ⟨S8x6x1024, .f32⟩
  | .hbm, ⟨9, _⟩ => ⟨S2x2x1024, .f32⟩
  | .hbm, ⟨10, _⟩ => ⟨S2x2x1024, .f32⟩
  | .hbm, ⟨11, _⟩ => ⟨S2x1024x4096, .f32⟩
  | .hbm, ⟨12, _⟩ => ⟨S2x4096x1024, .f32⟩
  | .hbm, ⟨13, _⟩ => ⟨S512x1024, .bf16⟩
  | .hbm, ⟨14, _⟩ => ⟨S8x2048x1024, .f32⟩
  | .local _ .vmem, ⟨0, _⟩ => ⟨S1x1x512x512, .bf16⟩
  | .local _ .vmem, ⟨1, _⟩ => ⟨S1x1x512x512, .bf16⟩
  | .local _ .vmem, ⟨2, _⟩ => ⟨S1x4x128x512, .bf16⟩
  | .local _ .vmem, ⟨3, _⟩ => ⟨S1x4x128x512, .bf16⟩
  | .local _ .vmem, ⟨4, _⟩ => ⟨S1x16x32x512, .bf16⟩
  | .local _ .vmem, ⟨5, _⟩ => ⟨S1x16x32x512, .bf16⟩
  | .local _ .vmem, ⟨6, _⟩ => ⟨S1x1x512x128, .f32⟩
  | .local _ .vmem, ⟨7, _⟩ => ⟨S1x1x512x128, .f32⟩
  | .local _ .vmem, ⟨8, _⟩ => ⟨S1x4x128x128, .f32⟩
  | .local _ .vmem, ⟨9, _⟩ => ⟨S1x4x128x128, .f32⟩
  | .local _ .vmem, ⟨10, _⟩ => ⟨S1x16x32x128, .f32⟩
  | .local _ .vmem, ⟨11, _⟩ => ⟨S1x16x32x128, .f32⟩
  | .local _ .vmem, ⟨12, _⟩ => ⟨S512x1024, .bf16⟩
  | .local _ .vmem, ⟨13, _⟩ => ⟨S1x512x1024, .f32⟩
  | .local _ .vmem, ⟨14, _⟩ => ⟨S1x512x1024, .f32⟩
  | .local _ .vmem, ⟨15, _⟩ => ⟨S1x6x1024, .f32⟩
  | .local _ .vmem, ⟨16, _⟩ => ⟨S1x6x1024, .f32⟩
  | .local _ .vmem, ⟨17, _⟩ => ⟨S1x2x1024, .f32⟩
  | .local _ .vmem, ⟨18, _⟩ => ⟨S1x2x1024, .f32⟩
  | .local _ .vmem, ⟨19, _⟩ => ⟨S1x1024x4096, .f32⟩
  | .local _ .vmem, ⟨20, _⟩ => ⟨S1x4096x1024, .f32⟩
  | .local _ .vmem, ⟨21, _⟩ => ⟨S1x512x1024, .f32⟩
  | .local _ .vmem, ⟨22, _⟩ => ⟨S1x512x1024, .f32⟩
  | .local _ .vmem, ⟨23, _⟩ => ⟨S4x512x128, .f32⟩
  | .local _ .vmem, ⟨24, _⟩ => ⟨S1x512x128, .f32⟩
  | .local _ .vmem, ⟨25, _⟩ => ⟨S512x512, .bf16⟩
  | _, _ => ⟨S8x1x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x4096x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== OddTailRefIdeal.lean ====
abbrev S8x1x2048x512 : Shape := ⟨4, ![8, 1, 2048, 512]⟩
abbrev S8x4x512x512 : Shape := ⟨4, ![8, 4, 512, 512]⟩
abbrev S8x16x128x512 : Shape := ⟨4, ![8, 16, 128, 512]⟩
abbrev S8x1x2048x128 : Shape := ⟨4, ![8, 1, 2048, 128]⟩
abbrev S8x4x512x128 : Shape := ⟨4, ![8, 4, 512, 128]⟩
abbrev S8x16x128x128 : Shape := ⟨4, ![8, 16, 128, 128]⟩
abbrev S512x1024 : Shape := ⟨2, ![512, 1024]⟩
abbrev S8x2048x1024 : Shape := ⟨3, ![8, 2048, 1024]⟩
abbrev S8x6x1024 : Shape := ⟨3, ![8, 6, 1024]⟩
abbrev S2x2x1024 : Shape := ⟨3, ![2, 2, 1024]⟩
abbrev S2x1024x4096 : Shape := ⟨3, ![2, 1024, 4096]⟩
abbrev S2x4096x1024 : Shape := ⟨3, ![2, 4096, 1024]⟩
abbrev S8x2048x1x128 : Shape := ⟨4, ![8, 2048, 1, 128]⟩
abbrev S8x2048x128 : Shape := ⟨3, ![8, 2048, 128]⟩
abbrev S8x2048x8 : Shape := ⟨3, ![8, 2048, 8]⟩
abbrev S8x512x4x128 : Shape := ⟨4, ![8, 512, 4, 128]⟩
abbrev S8x128x16x128 : Shape := ⟨4, ![8, 128, 16, 128]⟩
abbrev S1x8x2048x8 : Shape := ⟨4, ![1, 8, 2048, 8]⟩
abbrev S3x8x2048x8 : Shape := ⟨4, ![3, 8, 2048, 8]⟩
abbrev S8x2048x1x512 : Shape := ⟨4, ![8, 2048, 1, 512]⟩
abbrev S8x2048x512 : Shape := ⟨3, ![8, 2048, 512]⟩
abbrev S8x2048x8x64 : Shape := ⟨4, ![8, 2048, 8, 64]⟩
abbrev S8x512x4x512 : Shape := ⟨4, ![8, 512, 4, 512]⟩
abbrev S8x128x16x512 : Shape := ⟨4, ![8, 128, 16, 512]⟩
abbrev S1x8x2048x8x64 : Shape := ⟨5, ![1, 8, 2048, 8, 64]⟩
abbrev S3x8x2048x8x64 : Shape := ⟨5, ![3, 8, 2048, 8, 64]⟩
abbrev S_ : Shape := ⟨0, ![]⟩
abbrev S3x8x2048x8x1 : Shape := ⟨5, ![3, 8, 2048, 8, 1]⟩
abbrev S8x1x1024 : Shape := ⟨3, ![8, 1, 1024]⟩
abbrev S8x1024 : Shape := ⟨2, ![8, 1024]⟩
abbrev S1x1x1024 : Shape := ⟨3, ![1, 1, 1024]⟩
abbrev S1024 : Shape := ⟨1, ![1024]⟩
abbrev S8x2048 : Shape := ⟨2, ![8, 2048]⟩
abbrev S8x2048x1 : Shape := ⟨3, ![8, 2048, 1]⟩
abbrev S1x1024x4096 : Shape := ⟨3, ![1, 1024, 4096]⟩
abbrev S1024x4096 : Shape := ⟨2, ![1024, 4096]⟩
abbrev S8x2048x4096 : Shape := ⟨3, ![8, 2048, 4096]⟩
abbrev S1x4096x1024 : Shape := ⟨3, ![1, 4096, 1024]⟩
abbrev S4096x1024 : Shape := ⟨2, ![4096, 1024]⟩

abbrev nBuf : Space → Nat
  | .hbm => 182
  | .vmem => 0
  | .smem => 0
  | _ => 0

abbrev hbmTy0_0 (i : Nat) : BufTy := match i % 128 with
  | 0 => ⟨S8x1x2048x512, .bf16⟩
  | 1 => ⟨S8x4x512x512, .bf16⟩
  | 2 => ⟨S8x16x128x512, .bf16⟩
  | 3 => ⟨S8x1x2048x128, .f32⟩
  | 4 => ⟨S8x4x512x128, .f32⟩
  | 5 => ⟨S8x16x128x128, .f32⟩
  | 6 => ⟨S512x1024, .f32⟩
  | 7 => ⟨S8x2048x1024, .f32⟩
  | 8 => ⟨S8x6x1024, .f32⟩
  | 9 => ⟨S2x2x1024, .f32⟩
  | 10 => ⟨S2x2x1024, .f32⟩
  | 11 => ⟨S2x1024x4096, .f32⟩
  | 12 => ⟨S2x4096x1024, .f32⟩
  | 13 => ⟨S8x2048x1x128, .f32⟩
  | 14 => ⟨S8x2048x128, .f32⟩
  | 15 => ⟨S8x2048x8, .f32⟩
  | 16 => ⟨S8x512x4x128, .f32⟩
  | 17 => ⟨S8x2048x128, .f32⟩
  | 18 => ⟨S8x2048x8, .f32⟩
  | 19 => ⟨S8x128x16x128, .f32⟩
  | 20 => ⟨S8x2048x128, .f32⟩
  | 21 => ⟨S8x2048x8, .f32⟩
  | 22 => ⟨S1x8x2048x8, .f32⟩
  | 23 => ⟨S1x8x2048x8, .f32⟩
  | 24 => ⟨S1x8x2048x8, .f32⟩
  | 25 => ⟨S3x8x2048x8, .f32⟩
  | 26 => ⟨S8x2048x1x512, .bf16⟩
  | 27 => ⟨S8x2048x512, .bf16⟩
  | 28 => ⟨S8x2048x512, .f32⟩
  | 29 => ⟨S8x2048x8x64, .f32⟩
  | 30 => ⟨S8x512x4x512, .bf16⟩
  | 31 => ⟨S8x2048x512, .bf16⟩
  | 32 => ⟨S8x2048x512, .f32⟩
  | 33 => ⟨S8x2048x8x64, .f32⟩
  | 34 => ⟨S8x128x16x512, .bf16⟩
  | 35 => ⟨S8x2048x512, .bf16⟩
  | 36 => ⟨S8x2048x512, .f32⟩
  | 37 => ⟨S8x2048x8x64, .f32⟩
  | 38 => ⟨S1x8x2048x8x64, .f32⟩
  | 39 => ⟨S1x8x2048x8x64, .f32⟩
  | 40 => ⟨S1x8x2048x8x64, .f32⟩
  | 41 => ⟨S3x8x2048x8x64, .f32⟩
  | 42 => ⟨S_, .f32⟩
  | 43 => ⟨S8x2048x8, .f32⟩
  | 44 => ⟨S_, .f32⟩
  | 45 => ⟨S8x2048x8, .f32⟩
  | 46 => ⟨S8x2048x8, .f32⟩
  | 47 => ⟨S1x8x2048x8, .f32⟩
  | 48 => ⟨S3x8x2048x8, .f32⟩
  | 49 => ⟨S3x8x2048x8, .f32⟩
  | 50 => ⟨S3x8x2048x8, .f32⟩
  | 51 => ⟨S_, .f32⟩
  | 52 => ⟨S8x2048x8, .f32⟩
  | 53 => ⟨S1x8x2048x8, .f32⟩
  | 54 => ⟨S3x8x2048x8, .f32⟩
  | 55 => ⟨S3x8x2048x8, .f32⟩
  | 56 => ⟨S3x8x2048x8x1, .f32⟩
  | 57 => ⟨S3x8x2048x8x64, .f32⟩
  | 58 => ⟨S3x8x2048x8x64, .f32⟩
  | 59 => ⟨S_, .f32⟩
  | 60 => ⟨S8x2048x8x64, .f32⟩
  | 61 => ⟨S8x2048x512, .f32⟩
  | 62 => ⟨S8x2048x1024, .f32⟩
  | 63 => ⟨S8x1x1024, .f32⟩
  | 64 => ⟨S8x1024, .f32⟩
  | 65 => ⟨S8x1x1024, .f32⟩
  | 66 => ⟨S8x1x1024, .f32⟩
  | 67 => ⟨S8x1024, .f32⟩
  | 68 => ⟨S8x1x1024, .f32⟩
  | 69 => ⟨S8x1x1024, .f32⟩
  | 70 => ⟨S8x1024, .f32⟩
  | 71 => ⟨S8x1x1024, .f32⟩
  | 72 => ⟨S8x1x1024, .f32⟩
  | 73 => ⟨S8x1024, .f32⟩
  | 74 => ⟨S8x1x1024, .f32⟩
  | 75 => ⟨S8x1x1024, .f32⟩
  | 76 => ⟨S8x1024, .f32⟩
  | 77 => ⟨S8x1x1024, .f32⟩
  | 78 => ⟨S8x1x1024, .f32⟩
  | 79 => ⟨S8x1024, .f32⟩
  | 80 => ⟨S8x1x1024, .f32⟩
  | 81 => ⟨S_, .f32⟩
  | 82 => ⟨S8x2048x1024, .f32⟩
  | 83 => ⟨S8x2048x1024, .f32⟩
  | 84 => ⟨S_, .f32⟩
  | 85 => ⟨S8x1x1024, .f32⟩
  | 86 => ⟨S8x1x1024, .f32⟩
  | 87 => ⟨S8x2048x1024, .f32⟩
  | 88 => ⟨S8x2048x1024, .f32⟩
  | 89 => ⟨S8x2048x1024, .f32⟩
  | 90 => ⟨S1x1x1024, .f32⟩
  | 91 => ⟨S1024, .f32⟩
  | 92 => ⟨S1x1x1024, .f32⟩
  | 93 => ⟨S1024, .f32⟩
  | 94 => ⟨S_, .f32⟩
  | 95 => ⟨S8x2048, .f32⟩
  | 96 => ⟨S8x2048x1, .f32⟩
  | 97 => ⟨S_, .f32⟩
  | 98 => ⟨S8x2048x1, .f32⟩
  | 99 => ⟨S8x2048x1, .f32⟩
  | 100 => ⟨S8x2048x1024, .f32⟩
  | 101 => ⟨S8x2048x1024, .f32⟩
  | 102 => ⟨S8x2048x1024, .f32⟩
  | 103 => ⟨S_, .f32⟩
  | 104 => ⟨S8x2048, .f32⟩
  | 105 => ⟨S8x2048x1, .f32⟩
  | 106 => ⟨S_, .f32⟩
  | 107 => ⟨S8x2048x1, .f32⟩
  | 108 => ⟨S8x2048x1, .f32⟩
  | 109 => ⟨S8x2048x1024, .f32⟩
  | 110 => ⟨S8x2048x1024, .f32⟩
  | 111 => ⟨S_, .f32⟩
  | 112 => ⟨S8x2048x1, .f32⟩
  | 113 => ⟨S8x2048x1, .f32⟩
  | 114 => ⟨S8x2048x1, .f32⟩
  | 115 => ⟨S8x2048x1024, .f32⟩
  | 116 => ⟨S8x2048x1024, .f32⟩
  | 117 => ⟨S1x1x1024, .f32⟩
  | 118 => ⟨S8x2048x1024, .f32⟩
  | 119 => ⟨S8x2048x1024, .f32⟩
  | 120 => ⟨S1x1x1024, .f32⟩
  | 121 => ⟨S8x2048x1024, .f32⟩
  | 122 => ⟨S8x2048x1024, .f32⟩
  | 123 => ⟨S_, .f32⟩
  | 124 => ⟨S8x1x1024, .f32⟩
  | 125 => ⟨S8x1x1024, .f32⟩
  | 126 => ⟨S8x2048x1024, .f32⟩
  | 127 => ⟨S8x2048x1024, .f32⟩
  | _ => ⟨S8x1x2048x512, .bf16⟩

abbrev hbmTy0_1 (i : Nat) : BufTy := match i % 128 with
  | 0 => ⟨S8x2048x1024, .f32⟩
  | 1 => ⟨S8x2048x1024, .f32⟩
  | 2 => ⟨S1x1024x4096, .f32⟩
  | 3 => ⟨S1024x4096, .f32⟩
  | 4 => ⟨S8x2048x4096, .f32⟩
  | 5 => ⟨S_, .f32⟩
  | 6 => ⟨S8x2048x4096, .f32⟩
  | 7 => ⟨S8x2048x4096, .f32⟩
  | 8 => ⟨S8x2048x4096, .f32⟩
  | 9 => ⟨S1x4096x1024, .f32⟩
  | 10 => ⟨S4096x1024, .f32⟩
  | 11 => ⟨S8x2048x1024, .f32⟩
  | 12 => ⟨S_, .f32⟩
  | 13 => ⟨S8x2048x1024, .f32⟩
  | 14 => ⟨S8x2048x1024, .f32⟩
  | 15 => ⟨S_, .f32⟩
  | 16 => ⟨S8x1x1024, .f32⟩
  | 17 => ⟨S8x1x1024, .f32⟩
  | 18 => ⟨S8x2048x1024, .f32⟩
  | 19 => ⟨S8x2048x1024, .f32⟩
  | 20 => ⟨S8x2048x1024, .f32⟩
  | 21 => ⟨S1x1x1024, .f32⟩
  | 22 => ⟨S1024, .f32⟩
  | 23 => ⟨S1x1x1024, .f32⟩
  | 24 => ⟨S1024, .f32⟩
  | 25 => ⟨S_, .f32⟩
  | 26 => ⟨S8x2048, .f32⟩
  | 27 => ⟨S8x2048x1, .f32⟩
  | 28 => ⟨S_, .f32⟩
  | 29 => ⟨S8x2048x1, .f32⟩
  | 30 => ⟨S8x2048x1, .f32⟩
  | 31 => ⟨S8x2048x1024, .f32⟩
  | 32 => ⟨S8x2048x1024, .f32⟩
  | 33 => ⟨S8x2048x1024, .f32⟩
  | 34 => ⟨S_, .f32⟩
  | 35 => ⟨S8x2048, .f32⟩
  | 36 => ⟨S8x2048x1, .f32⟩
  | 37 => ⟨S_, .f32⟩
  | 38 => ⟨S8x2048x1, .f32⟩
  | 39 => ⟨S8x2048x1, .f32⟩
  | 40 => ⟨S8x2048x1024, .f32⟩
  | 41 => ⟨S8x2048x1024, .f32⟩
  | 42 => ⟨S_, .f32⟩
  | 43 => ⟨S8x2048x1, .f32⟩
  | 44 => ⟨S8x2048x1, .f32⟩
  | 45 => ⟨S8x2048x1, .f32⟩
  | 46 => ⟨S8x2048x1024, .f32⟩
  | 47 => ⟨S8x2048x1024, .f32⟩
  | 48 => ⟨S1x1x1024, .f32⟩
  | 49 => ⟨S8x2048x1024, .f32⟩
  | 50 => ⟨S8x2048x1024, .f32⟩
  | 51 => ⟨S1x1x1024, .f32⟩
  | 52 => ⟨S8x2048x1024, .f32⟩
  | 53 => ⟨S8x2048x1024, .f32⟩
  | _ => ⟨S8x1x2048x512, .bf16⟩

abbrev hbmTy (i : Nat) : BufTy := match i / 128 with
  | 0 => hbmTy0_0 i
  | 1 => hbmTy0_1 i
  | _ => ⟨S8x1x2048x512, .bf16⟩

abbrev bufTy : (tb : Table) → Fin (tcTables nBuf tb) → BufTy
  | .hbm, ⟨i, _⟩ => hbmTy i
  | _, _ => ⟨S8x1x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_cst_0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_1 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_3 : Ref sig .tc := ⟨.hbm, 81, rfl⟩
abbrev main_v64 : Ref sig .tc := ⟨.hbm, 82, rfl⟩
abbrev main_v65 : Ref sig .tc := ⟨.hbm, 83, rfl⟩
abbrev main_cst_4 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_5 : Ref sig .tc := ⟨.hbm, 94, rfl⟩
abbrev main_v75 : Ref sig .tc := ⟨.hbm, 95, rfl⟩
abbrev main_v76 : Ref sig .tc := ⟨.hbm, 96, rfl⟩
abbrev main_cst_6 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_7 : Ref sig .tc := ⟨.hbm, 103, rfl⟩
abbrev main_v82 : Ref sig .tc := ⟨.hbm, 104, rfl⟩
abbrev main_v83 : Ref sig .tc := ⟨.hbm, 105, rfl⟩
abbrev main_cst_8 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_9 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_10 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_call0_cst : Ref sig .tc := ⟨.hbm, 133, rfl⟩
abbrev main_call0_v0 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_cst_11 : Ref sig .tc := ⟨.hbm, 140, rfl⟩
abbrev main_v113 : Ref sig .tc := ⟨.hbm, 141, rfl⟩
abbrev main_v114 : Ref sig .tc := ⟨.hbm, 142, rfl⟩
abbrev main_cst_12 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_cst_13 : Ref sig .tc := ⟨.hbm, 153, rfl⟩
abbrev main_v124 : Ref sig .tc := ⟨.hbm, 154, rfl⟩
abbrev main_v125 : Ref sig .tc := ⟨.hbm, 155, rfl⟩
abbrev main_cst_14 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_cst_15 : Ref sig .tc := ⟨.hbm, 162, rfl⟩
abbrev main_v131 : Ref sig .tc := ⟨.hbm, 163, rfl⟩
abbrev main_v132 : Ref sig .tc := ⟨.hbm, 164, rfl⟩
abbrev main_cst_16 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_cst_17 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩

abbrev nD : Nat := 1
abbrev τ : Topo := Topo.v7x

variable {F : FTy → Type} [FloatOps F]
-- ==== Qkv.lean ====
abbrev S8x2048x1024 : Shape := ⟨3, ![8, 2048, 1024]⟩
abbrev S8x6x1024 : Shape := ⟨3, ![8, 6, 1024]⟩
abbrev S1024x4608 : Shape := ⟨2, ![1024, 4608]⟩
abbrev S8x1x2048x1536 : Shape := ⟨4, ![8, 1, 2048, 1536]⟩
abbrev S8x4x512x1536 : Shape := ⟨4, ![8, 4, 512, 1536]⟩
abbrev S8x16x128x1536 : Shape := ⟨4, ![8, 16, 128, 1536]⟩
abbrev S1x1024x1024 : Shape := ⟨3, ![1, 1024, 1024]⟩
abbrev S1x6x1024 : Shape := ⟨3, ![1, 6, 1024]⟩
abbrev S1x1x1024x1536 : Shape := ⟨4, ![1, 1, 1024, 1536]⟩
abbrev S1x4x256x1536 : Shape := ⟨4, ![1, 4, 256, 1536]⟩
abbrev S1x16x64x1536 : Shape := ⟨4, ![1, 16, 64, 1536]⟩
abbrev S8x1024x128 : Shape := ⟨3, ![8, 1024, 128]⟩
abbrev S6x1024 : Shape := ⟨2, ![6, 1024]⟩
abbrev S1x1024 : Shape := ⟨2, ![1, 1024]⟩
abbrev S1x1024x128 : Shape := ⟨3, ![1, 1024, 128]⟩
abbrev S1024x128 : Shape := ⟨2, ![1024, 128]⟩
abbrev S1x256x128 : Shape := ⟨3, ![1, 256, 128]⟩
abbrev S256x128 : Shape := ⟨2, ![256, 128]⟩
abbrev S1x64x128 : Shape := ⟨3, ![1, 64, 128]⟩
abbrev S64x128 : Shape := ⟨2, ![64, 128]⟩
abbrev S1024x1024 : Shape := ⟨2, ![1024, 1024]⟩
abbrev S1024x1536 : Shape := ⟨2, ![1024, 1536]⟩
abbrev S256x1536 : Shape := ⟨2, ![256, 1536]⟩
abbrev S1x1x256x1536 : Shape := ⟨4, ![1, 1, 256, 1536]⟩
abbrev S64x1536 : Shape := ⟨2, ![64, 1536]⟩
abbrev S1x1x64x1536 : Shape := ⟨4, ![1, 1, 64, 1536]⟩

abbrev nBuf : Space → Nat
  | .hbm => 6
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x6x1024, .f32⟩
  | .hbm, ⟨2, _⟩ => ⟨S1024x4608, .f32⟩
  | .hbm, ⟨3, _⟩ => ⟨S8x1x2048x1536, .bf16⟩
  | .hbm, ⟨4, _⟩ => ⟨S8x4x512x1536, .bf16⟩
  | .hbm, ⟨5, _⟩ => ⟨S8x16x128x1536, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x4608, .f32⟩
  | .local _ .vmem, ⟨5, _⟩ => ⟨S1x1x1024x1536, .bf16⟩
  | .local _ .vmem, ⟨6, _⟩ => ⟨S1x1x1024x1536, .bf16⟩
  | .local _ .vmem, ⟨7, _⟩ => ⟨S1x4x256x1536, .bf16⟩
  | .local _ .vmem, ⟨8, _⟩ => ⟨S1x4x256x1536, .bf16⟩
  | .local _ .vmem, ⟨9, _⟩ => ⟨S1x16x64x1536, .bf16⟩
  | .local _ .vmem, ⟨10, _⟩ => ⟨S1x16x64x1536, .bf16⟩
  | .local _ .vmem, ⟨11, _⟩ => ⟨S8x1024x128, .f32⟩
  | .local _ .vmem, ⟨12, _⟩ => ⟨S8x1024x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x64x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkvRefIdeal.lean ====
abbrev S8x2048x1024 : Shape := ⟨3, ![8, 2048, 1024]⟩
abbrev S8x6x1024 : Shape := ⟨3, ![8, 6, 1024]⟩
abbrev S1024x4608 : Shape := ⟨2, ![1024, 4608]⟩
abbrev S8x1x1024 : Shape := ⟨3, ![8, 1, 1024]⟩
abbrev S8x1024 : Shape := ⟨2, ![8, 1024]⟩
abbrev S_ : Shape := ⟨0, ![]⟩
abbrev S8x2048x4608 : Shape := ⟨3, ![8, 2048, 4608]⟩
abbrev S8x2048x3x1536 : Shape := ⟨4, ![8, 2048, 3, 1536]⟩
abbrev S8x2048x1x1536 : Shape := ⟨4, ![8, 2048, 1, 1536]⟩
abbrev S8x2048x1536 : Shape := ⟨3, ![8, 2048, 1536]⟩
abbrev S8x1x2048x1536 : Shape := ⟨4, ![8, 1, 2048, 1536]⟩
abbrev S8x512x4x1536 : Shape := ⟨4, ![8, 512, 4, 1536]⟩
abbrev S8x4x512x1536 : Shape := ⟨4, ![8, 4, 512, 1536]⟩
abbrev S8x128x16x1536 : Shape := ⟨4, ![8, 128, 16, 1536]⟩
abbrev S8x16x128x1536 : Shape := ⟨4, ![8, 16, 128, 1536]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6x1024, .f32⟩
  | .hbm, ⟨2, _⟩ => ⟨S1024x4608, .f32⟩
  | .hbm, ⟨3, _⟩ => ⟨S8x1x1024, .f32⟩
  | .hbm, ⟨4, _⟩ => ⟨S8x1024, .f32⟩
  | .hbm, ⟨5, _⟩ => ⟨S8x1x1024, .f32⟩
  | .hbm, ⟨6, _⟩ => ⟨S_, .f32⟩
  | .hbm, ⟨7, _⟩ => ⟨S8x1x1024, .f32⟩
  | .hbm, ⟨8, _⟩ => ⟨S8x1x1024, .f32⟩
  | .hbm, ⟨9, _⟩ => ⟨S8x2048x1024, .f32⟩
  | .hbm, ⟨10, _⟩ => ⟨S8x2048x1024, .f32⟩
  | .hbm, ⟨11, _⟩ => ⟨S8x1x1024, .f32⟩
  | .hbm, ⟨12, _⟩ => ⟨S8x1024, .f32⟩
  | .hbm, ⟨13, _⟩ => ⟨S8x1x1024, .f32⟩
  | .hbm, ⟨14, _⟩ => ⟨S8x2048x1024, .f32⟩
  | .hbm, ⟨15, _⟩ => ⟨S8x2048x1024, .f32⟩
  | .hbm, ⟨16, _⟩ => ⟨S8x2048x4608, .f32⟩
  | .hbm, ⟨17, _⟩ => ⟨S8x2048x3x1536, .f32⟩
  | .hbm, ⟨18, _⟩ => ⟨S8x2048x1x1536, .f32⟩
  | .hbm, ⟨19, _⟩ => ⟨S8x2048x1536, .f32⟩
  | .hbm, ⟨20, _⟩ => ⟨S8x2048x1x1536, .f32⟩
  | .hbm, ⟨21, _⟩ => ⟨S8x1x2048x1536, .f32⟩
  | .hbm, ⟨22, _⟩ => ⟨S8x1x2048x1536, .bf16⟩
  | .hbm, ⟨23, _⟩ => ⟨S8x2048x1x1536, .f32⟩
  | .hbm, ⟨24, _⟩ => ⟨S8x2048x1536, .f32⟩
  | .hbm, ⟨25, _⟩ => ⟨S8x512x4x1536, .f32⟩
  | .hbm, ⟨26, _⟩ => ⟨S8x4x512x1536, .f32⟩
  | .hbm, ⟨27, _⟩ => ⟨S8x4x512x1536, .bf16⟩
  | .hbm, ⟨28, _⟩ => ⟨S8x2048x1x1536, .f32⟩
  | .hbm, ⟨29, _⟩ => ⟨S8x2048x1536, .f32⟩
  | .hbm, ⟨30, _⟩ => ⟨S8x128x16x1536, .f32⟩
  | .hbm, ⟨31, _⟩ => ⟨S8x16x128x1536, .f32⟩
  | .hbm, ⟨32, _⟩ => ⟨S8x16x128x1536, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩

abbrev nD : Nat := 1
abbrev τ : Topo := Topo.v7x

variable {F : FTy → Type} [FloatOps F]
-- ==== Attn.lean ====
abbrev S8x16x128x1536 : Shape := ⟨4, ![8, 16, 128, 1536]⟩
abbrev S32x24 : Shape := ⟨2, ![32, 24]⟩
abbrev S128x256 : Shape := ⟨2, ![128, 256]⟩
abbrev S129 : Shape := ⟨1, ![129]⟩
abbrev S_ : Shape := ⟨0, ![]⟩
abbrev S129x1 : Shape := ⟨2, ![129, 1]⟩
abbrev S129x24 : Shape := ⟨2, ![129, 24]⟩
abbrev S129x8 : Shape := ⟨2, ![129, 8]⟩
abbrev S8x129 : Shape := ⟨2, ![8, 129]⟩
abbrev S8x128 : Shape := ⟨2, ![8, 128]⟩
abbrev S8x257 : Shape := ⟨2, ![8, 257]⟩
abbrev S1x8x1x257 : Shape := ⟨4, ![1, 8, 1, 257]⟩
abbrev S1x8x128x257 : Shape := ⟨4, ![1, 8, 128, 257]⟩
abbrev S8x32896 : Shape := ⟨2, ![8, 32896]⟩
abbrev S8x32768 : Shape := ⟨2, ![8, 32768]⟩
abbrev S8x128x256 : Shape := ⟨3, ![8, 128, 256]⟩
abbrev S1x8x128x256 : Shape := ⟨4, ![1, 8, 128, 256]⟩
abbrev S3x8x128x256 : Shape := ⟨4, ![3, 8, 128, 256]⟩
abbrev S8x2048x1536 : Shape := ⟨3, ![8, 2048, 1536]⟩
abbrev S8x2048x512 : Shape := ⟨3, ![8, 2048, 512]⟩
abbrev S8x2048x128 : Shape := ⟨3, ![8, 2048, 128]⟩
abbrev S1x2048x512 : Shape := ⟨3, ![1, 2048, 512]⟩
abbrev S1x128x512 : Shape := ⟨3, ![1, 128, 512]⟩
abbrev S1x2048x128 : Shape := ⟨3, ![1, 2048, 128]⟩
abbrev S256x128 : Shape := ⟨2, ![256, 128]⟩
abbrev S128x128 : Shape := ⟨2, ![128, 128]⟩
abbrev S128x512 : Shape := ⟨2, ![128, 512]⟩
abbrev S1x128x128 : Shape := ⟨3, ![1, 128, 128]⟩
abbrev S128 : Shape := ⟨1, ![128]⟩
abbrev S128x1 : Shape := ⟨2, ![128, 1]⟩
abbrev S256x256 : Shape := ⟨2, ![256, 256]⟩

abbrev nBuf : Space → Nat
  | .hbm => 186
  | .vmem => 15
  | .smem => 0
  | _ => 0

abbrev hbmTy0_0 (i : Nat) : BufTy := match i % 128 with
  | 0 => ⟨S8x16x128x1536, .bf16⟩
  | 1 => ⟨S32x24, .f32⟩
  | 2 => ⟨S128x256, .i1⟩
  | 3 => ⟨S129, .i32⟩
  | 4 => ⟨S_, .i32⟩
  | 5 => ⟨S_, .i32⟩
  | 6 => ⟨S_, .i32⟩
  | 7 => ⟨S129, .i32⟩
  | 8 => ⟨S129, .i32⟩
  | 9 => ⟨S_, .i32⟩
  | 10 => ⟨S129, .i32⟩
  | 11 => ⟨S129, .i32⟩
  | 12 => ⟨S_, .i32⟩
  | 13 => ⟨S129, .i32⟩
  | 14 => ⟨S129, .i32⟩
  | 15 => ⟨S_, .i32⟩
  | 16 => ⟨S129, .i32⟩
  | 17 => ⟨S129, .i32⟩
  | 18 => ⟨S129, .f32⟩
  | 19 => ⟨S_, .f32⟩
  | 20 => ⟨S129, .f32⟩
  | 21 => ⟨S129, .f32⟩
  | 22 => ⟨S129, .f32⟩
  | 23 => ⟨S_, .f32⟩
  | 24 => ⟨S129, .f32⟩
  | 25 => ⟨S129, .f32⟩
  | 26 => ⟨S_, .f32⟩
  | 27 => ⟨S129, .f32⟩
  | 28 => ⟨S129, .f32⟩
  | 29 => ⟨S129, .i32⟩
  | 30 => ⟨S_, .i32⟩
  | 31 => ⟨S129, .i32⟩
  | 32 => ⟨S129, .i32⟩
  | 33 => ⟨S_, .i32⟩
  | 34 => ⟨S129, .i32⟩
  | 35 => ⟨S129, .i32⟩
  | 36 => ⟨S_, .i32⟩
  | 37 => ⟨S129, .i32⟩
  | 38 => ⟨S129, .i1⟩
  | 39 => ⟨S129, .i32⟩
  | 40 => ⟨S_, .i32⟩
  | 41 => ⟨S129, .i32⟩
  | 42 => ⟨S129, .i1⟩
  | 43 => ⟨S_, .i32⟩
  | 44 => ⟨S129, .i32⟩
  | 45 => ⟨S129, .i32⟩
  | 46 => ⟨S129, .i32⟩
  | 47 => ⟨S129x1, .i32⟩
  | 48 => ⟨S129x24, .f32⟩
  | 49 => ⟨S129x8, .f32⟩
  | 50 => ⟨S8x129, .f32⟩
  | 51 => ⟨S8x129, .f32⟩
  | 52 => ⟨S_, .f32⟩
  | 53 => ⟨S8x128, .f32⟩
  | 54 => ⟨S8x257, .f32⟩
  | 55 => ⟨S1x8x1x257, .f32⟩
  | 56 => ⟨S1x8x128x257, .f32⟩
  | 57 => ⟨S8x32896, .f32⟩
  | 58 => ⟨S8x32768, .f32⟩
  | 59 => ⟨S8x128x256, .f32⟩
  | 60 => ⟨S_, .i32⟩
  | 61 => ⟨S_, .i32⟩
  | 62 => ⟨S_, .i32⟩
  | 63 => ⟨S129, .i32⟩
  | 64 => ⟨S129, .i32⟩
  | 65 => ⟨S_, .i32⟩
  | 66 => ⟨S129, .i32⟩
  | 67 => ⟨S129, .i32⟩
  | 68 => ⟨S_, .i32⟩
  | 69 => ⟨S129, .i32⟩
  | 70 => ⟨S129, .i32⟩
  | 71 => ⟨S_, .i32⟩
  | 72 => ⟨S129, .i32⟩
  | 73 => ⟨S129, .i32⟩
  | 74 => ⟨S129, .f32⟩
  | 75 => ⟨S_, .f32⟩
  | 76 => ⟨S129, .f32⟩
  | 77 => ⟨S129, .f32⟩
  | 78 => ⟨S129, .f32⟩
  | 79 => ⟨S_, .f32⟩
  | 80 => ⟨S129, .f32⟩
  | 81 => ⟨S129, .f32⟩
  | 82 => ⟨S_, .f32⟩
  | 83 => ⟨S129, .f32⟩
  | 84 => ⟨S129, .f32⟩
  | 85 => ⟨S129, .i32⟩
  | 86 => ⟨S_, .i32⟩
  | 87 => ⟨S129, .i32⟩
  | 88 => ⟨S129, .i32⟩
  | 89 => ⟨S_, .i32⟩
  | 90 => ⟨S129, .i32⟩
  | 91 => ⟨S129, .i32⟩
  | 92 => ⟨S_, .i32⟩
  | 93 => ⟨S129, .i32⟩
  | 94 => ⟨S129, .i1⟩
  | 95 => ⟨S129, .i32⟩
  | 96 => ⟨S_, .i32⟩
  | 97 => ⟨S129, .i32⟩
  | 98 => ⟨S129, .i1⟩
  | 99 => ⟨S_, .i32⟩
  | 100 => ⟨S129, .i32⟩
  | 101 => ⟨S129, .i32⟩
  | 102 => ⟨S129, .i32⟩
  | 103 => ⟨S129x1, .i32⟩
  | 104 => ⟨S129x24, .f32⟩
  | 105 => ⟨S129x8, .f32⟩
  | 106 => ⟨S8x129, .f32⟩
  | 107 => ⟨S8x129, .f32⟩
  | 108 => ⟨S_, .f32⟩
  | 109 => ⟨S8x128, .f32⟩
  | 110 => ⟨S8x257, .f32⟩
  | 111 => ⟨S1x8x1x257, .f32⟩
  | 112 => ⟨S1x8x128x257, .f32⟩
  | 113 => ⟨S8x32896, .f32⟩
  | 114 => ⟨S8x32768, .f32⟩
  | 115 => ⟨S8x128x256, .f32⟩
  | 116 => ⟨S_, .i32⟩
  | 117 => ⟨S_, .i32⟩
  | 118 => ⟨S_, .i32⟩
  | 119 => ⟨S129, .i32⟩
  | 120 => ⟨S129, .i32⟩
  | 121 => ⟨S_, .i32⟩
  | 122 => ⟨S129, .i32⟩
  | 123 => ⟨S129, .i32⟩
  | 124 => ⟨S_, .i32⟩
  | 125 => ⟨S129, .i32⟩
  | 126 => ⟨S129, .i32⟩
  | 127 => ⟨S_, .i32⟩
  | _ => ⟨S8x16x128x1536, .bf16⟩

abbrev hbmTy0_1 (i : Nat) : BufTy := match i % 128 with
  | 0 => ⟨S129, .i32⟩
  | 1 => ⟨S129, .i32⟩
  | 2 => ⟨S129, .f32⟩
  | 3 => ⟨S_, .f32⟩
  | 4 => ⟨S129, .f32⟩
  | 5 => ⟨S129, .f32⟩
  | 6 => ⟨S129, .f32⟩
  | 7 => ⟨S_, .f32⟩
  | 8 => ⟨S129, .f32⟩
  | 9 => ⟨S129, .f32⟩
  | 10 => ⟨S_, .f32⟩
  | 11 => ⟨S129, .f32⟩
  | 12 => ⟨S129, .f32⟩
  | 13 => ⟨S129, .i32⟩
  | 14 => ⟨S_, .i32⟩
  | 15 => ⟨S129, .i32⟩
  | 16 => ⟨S129, .i32⟩
  | 17 => ⟨S_, .i32⟩
  | 18 => ⟨S129, .i32⟩
  | 19 => ⟨S129, .i32⟩
  | 20 => ⟨S_, .i32⟩
  | 21 => ⟨S129, .i32⟩
  | 22 => ⟨S129, .i1⟩
  | 23 => ⟨S129, .i32⟩
  | 24 => ⟨S_, .i32⟩
  | 25 => ⟨S129, .i32⟩
  | 26 => ⟨S129, .i1⟩
  | 27 => ⟨S_, .i32⟩
  | 28 => ⟨S129, .i32⟩
  | 29 => ⟨S129, .i32⟩
  | 30 => ⟨S129, .i32⟩
  | 31 => ⟨S129x1, .i32⟩
  | 32 => ⟨S129x24, .f32⟩
  | 33 => ⟨S129x8, .f32⟩
  | 34 => ⟨S8x129, .f32⟩
  | 35 => ⟨S8x129, .f32⟩
  | 36 => ⟨S_, .f32⟩
  | 37 => ⟨S8x128, .f32⟩
  | 38 => ⟨S8x257, .f32⟩
  | 39 => ⟨S1x8x1x257, .f32⟩
  | 40 => ⟨S1x8x128x257, .f32⟩
  | 41 => ⟨S8x32896, .f32⟩
  | 42 => ⟨S8x32768, .f32⟩
  | 43 => ⟨S8x128x256, .f32⟩
  | 44 => ⟨S1x8x128x256, .f32⟩
  | 45 => ⟨S1x8x128x256, .f32⟩
  | 46 => ⟨S1x8x128x256, .f32⟩
  | 47 => ⟨S3x8x128x256, .f32⟩
  | 48 => ⟨S_, .f32⟩
  | 49 => ⟨S_, .f32⟩
  | 50 => ⟨S3x8x128x256, .i1⟩
  | 51 => ⟨S3x8x128x256, .f32⟩
  | 52 => ⟨S3x8x128x256, .f32⟩
  | 53 => ⟨S1x8x128x256, .f32⟩
  | 54 => ⟨S8x128x256, .f32⟩
  | 55 => ⟨S8x2048x1536, .bf16⟩
  | 56 => ⟨S8x2048x512, .bf16⟩
  | 57 => ⟨S8x2048x128, .f32⟩
  | _ => ⟨S8x16x128x1536, .bf16⟩

abbrev hbmTy (i : Nat) : BufTy := match i / 128 with
  | 0 => hbmTy0_0 i
  | 1 => hbmTy0_1 i
  | _ => ⟨S8x16x128x1536, .bf16⟩

abbrev bufTy : (tb : Table) → Fin (tcTables nBuf tb) → BufTy
  | .hbm, ⟨i, _⟩ => hbmTy i
  | .local _ .vmem, ⟨0, _⟩ => ⟨S1x2048x512, .bf16⟩
  | .local _ .vmem, ⟨1, _⟩ => ⟨S1x2048x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S8x128x256, .f32⟩
  | .local _ .vmem, ⟨11, _⟩ => ⟨S1x2048x512, .bf16⟩
  | .local _ .vmem, ⟨12, _⟩ => ⟨S1x2048x512, .bf16⟩
  | .local _ .vmem, ⟨13, _⟩ => ⟨S1x2048x128, .f32⟩
  | .local _ .vmem, ⟨14, _⟩ => ⟨S1x2048x128, .f32⟩
  | _, _ => ⟨S8x16x128x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_c_1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_c_2 : Ref sig .tc := ⟨.hbm, 12, rfl⟩
abbrev main_v2 : Ref sig .tc := ⟨.hbm, 13, rfl⟩
abbrev main_v3 : Ref sig .tc := ⟨.hbm, 14, rfl⟩
abbrev main_c_3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_6 : Ref sig .tc := ⟨.hbm, 30, rfl⟩
abbrev main_v15 : Ref sig .tc := ⟨.hbm, 31, rfl⟩
abbrev main_v16 : Ref sig .tc := ⟨.hbm, 32, rfl⟩
abbrev main_c_7 : Ref sig .tc := ⟨.hbm, 33, rfl⟩
abbrev main_v17 : Ref sig .tc := ⟨.hbm, 34, rfl⟩
abbrev main_v18 : Ref sig .tc := ⟨.hbm, 35, rfl⟩
abbrev main_c_8 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_9 : Ref sig .tc := ⟨.hbm, 40, rfl⟩
abbrev main_v22 : Ref sig .tc := ⟨.hbm, 41, rfl⟩
abbrev main_v23 : Ref sig .tc := ⟨.hbm, 42, rfl⟩
abbrev main_c_10 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_12 : Ref sig .tc := ⟨.hbm, 60, rfl⟩
abbrev main_c_13 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v39 : Ref sig .tc := ⟨.hbm, 67, rfl⟩
abbrev main_c_14 : Ref sig .tc := ⟨.hbm, 68, rfl⟩
abbrev main_v40 : Ref sig .tc := ⟨.hbm, 69, rfl⟩
abbrev main_v41 : Ref sig .tc := ⟨.hbm, 70, rfl⟩
abbrev main_c_15 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_16 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_17 : Ref sig .tc := ⟨.hbm, 79, rfl⟩
abbrev main_v48 : Ref sig .tc := ⟨.hbm, 80, rfl⟩
abbrev main_v49 : Ref sig .tc := ⟨.hbm, 81, rfl⟩
abbrev main_cst_18 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_19 : Ref sig .tc := ⟨.hbm, 86, rfl⟩
abbrev main_v53 : Ref sig .tc := ⟨.hbm, 87, rfl⟩
abbrev main_v54 : Ref sig .tc := ⟨.hbm, 88, rfl⟩
abbrev main_c_20 : Ref sig .tc := ⟨.hbm, 89, rfl⟩
abbrev main_v55 : Ref sig .tc := ⟨.hbm, 90, rfl⟩
abbrev main_v56 : Ref sig .tc := ⟨.hbm, 91, rfl⟩
abbrev main_c_21 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_c_22 : Ref sig .tc := ⟨.hbm, 96, rfl⟩
abbrev main_v60 : Ref sig .tc := ⟨.hbm, 97, rfl⟩
abbrev main_v61 : Ref sig .tc := ⟨.hbm, 98, rfl⟩
abbrev main_c_23 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_24 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_25 : Ref sig .tc := ⟨.hbm, 116, rfl⟩
abbrev main_c_26 : Ref sig .tc := ⟨.hbm, 117, rfl⟩
abbrev main_call4_v0 : Ref sig .tc := ⟨.hbm, 118, rfl⟩
abbrev main_call4_v1 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_v77 : Ref sig .tc := ⟨.hbm, 123, rfl⟩
abbrev main_c_27 : Ref sig .tc := ⟨.hbm, 124, rfl⟩
abbrev main_v78 : Ref sig .tc := ⟨.hbm, 125, rfl⟩
abbrev main_v79 : Ref sig .tc := ⟨.hbm, 126, rfl⟩
abbrev main_c_28 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_29 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_30 : Ref sig .tc := ⟨.hbm, 135, rfl⟩
abbrev main_v86 : Ref sig .tc := ⟨.hbm, 136, rfl⟩
abbrev main_v87 : Ref sig .tc := ⟨.hbm, 137, rfl⟩
abbrev main_cst_31 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_c_32 : Ref sig .tc := ⟨.hbm, 142, rfl⟩
abbrev main_v91 : Ref sig .tc := ⟨.hbm, 143, rfl⟩
abbrev main_v92 : Ref sig .tc := ⟨.hbm, 144, rfl⟩
abbrev main_c_33 : Ref sig .tc := ⟨.hbm, 145, rfl⟩
abbrev main_v93 : Ref sig .tc := ⟨.hbm, 146, rfl⟩
abbrev main_v94 : Ref sig .tc := ⟨.hbm, 147, rfl⟩
abbrev main_c_34 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_c_35 : Ref sig .tc := ⟨.hbm, 152, rfl⟩
abbrev main_v98 : Ref sig .tc := ⟨.hbm, 153, rfl⟩
abbrev main_v99 : Ref sig .tc := ⟨.hbm, 154, rfl⟩
abbrev main_c_36 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_cst_37 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_cst_38 : Ref sig .tc := ⟨.hbm, 176, rfl⟩
abbrev main_call6_v0 : Ref sig .tc := ⟨.hbm, 177, rfl⟩
abbrev main_call6_v1 : Ref sig .tc := ⟨.hbm, 178, rfl⟩
abbrev main_call6_v2 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123_0 : Ref sig .tc := ⟨.hbm, 184, rfl⟩
abbrev main_v123_1 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnRefIdeal.lean ====
abbrev S8x16x128x1536 : Shape := ⟨4, ![8, 16, 128, 1536]⟩
abbrev S32x24 : Shape := ⟨2, ![32, 24]⟩
abbrev S8x16x128x3x8x64 : Shape := ⟨6, ![8, 16, 128, 3, 8, 64]⟩
abbrev S8x16x128x1x8x64 : Shape := ⟨6, ![8, 16, 128, 1, 8, 64]⟩
abbrev S8x16x128x8x64 : Shape := ⟨5, ![8, 16, 128, 8, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x128x1 : Shape := ⟨3, ![128, 128, 1]⟩
abbrev S128x128x24 : Shape := ⟨3, ![128, 128, 24]⟩
abbrev S128x128x8 : Shape := ⟨3, ![128, 128, 8]⟩
abbrev S8x128x128 : Shape := ⟨3, ![8, 128, 128]⟩
abbrev S8x16x8x128x128 : Shape := ⟨5, ![8, 16, 8, 128, 128]⟩
abbrev S1x1x8x128x128 : Shape := ⟨5, ![1, 1, 8, 128, 128]⟩
abbrev S8x16x8x128 : Shape := ⟨4, ![8, 16, 8, 128]⟩
abbrev S8x16x8x128x1 : Shape := ⟨5, ![8, 16, 8, 128, 1]⟩
abbrev S8x16x8x128x64 : Shape := ⟨5, ![8, 16, 8, 128, 64]⟩
abbrev S8x16x128x8 : Shape := ⟨4, ![8, 16, 128, 8]⟩
abbrev S8x2048x8 : Shape := ⟨3, ![8, 2048, 8]⟩
abbrev S8x2048x128 : Shape := ⟨3, ![8, 2048, 128]⟩
abbrev S8x2048x512 : Shape := ⟨3, ![8, 2048, 512]⟩

abbrev nBuf : Space → Nat
  | .hbm => 102
  | .vmem => 0
  | .smem => 0
  | _ => 0

abbrev bufTy : (tb : Table) → Fin (tcTables nBuf tb) → BufTy
  | .hbm, ⟨0, _⟩ => ⟨S8x16x128x1536, .bf16⟩
  | .hbm, ⟨1, _⟩ => ⟨S32x24, .f32⟩
  | .hbm, ⟨2, _⟩ => ⟨S8x16x128x1536, .f32⟩
  | .hbm, ⟨3, _⟩ => ⟨S8x16x128x3x8x64, .f32⟩
  | .hbm, ⟨4, _⟩ => ⟨S8x16x128x1x8x64, .f32⟩
  | .hbm, ⟨5, _⟩ => ⟨S8x16x128x8x64, .f32⟩
  | .hbm, ⟨6, _⟩ => ⟨S8x16x128x1x8x64, .f32⟩
  | .hbm, ⟨7, _⟩ => ⟨S8x16x128x8x64, .f32⟩
  | .hbm, ⟨8, _⟩ => ⟨S8x16x128x1x8x64, .f32⟩
  | .hbm, ⟨9, _⟩ => ⟨S8x16x128x8x64, .f32⟩
  | .hbm, ⟨10, _⟩ => ⟨S128, .i32⟩
  | .hbm, ⟨11, _⟩ => ⟨S128x1, .i32⟩
  | .hbm, ⟨12, _⟩ => ⟨S128, .i32⟩
  | .hbm, ⟨13, _⟩ => ⟨S1x128, .i32⟩
  | .hbm, ⟨14, _⟩ => ⟨S128x128, .i32⟩
  | .hbm, ⟨15, _⟩ => ⟨S128x128, .i32⟩
  | .hbm, ⟨16, _⟩ => ⟨S128x128, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S128x128, .i32⟩
  | .hbm, ⟨21, _⟩ => ⟨S128x128, .i32⟩
  | .hbm, ⟨22, _⟩ => ⟨S_, .i32⟩
  | .hbm, ⟨23, _⟩ => ⟨S128x128, .i32⟩
  | .hbm, ⟨24, _⟩ => ⟨S128x128, .i32⟩
  | .hbm, ⟨25, _⟩ => ⟨S_, .i32⟩
  | .hbm, ⟨26, _⟩ => ⟨S128x128, .i32⟩
  | .hbm, ⟨27, _⟩ => ⟨S128x128, .i32⟩
  | .hbm, ⟨28, _⟩ => ⟨S_, .i32⟩
  | .hbm, ⟨29, _⟩ => ⟨S128x128, .i32⟩
  | .hbm, ⟨30, _⟩ => ⟨S128x128, .i32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S_, .f32⟩
  | .hbm, ⟨37, _⟩ => ⟨S128x128, .f32⟩
  | .hbm, ⟨38, _⟩ => ⟨S128x128, .f32⟩
  | .hbm, ⟨39, _⟩ => ⟨S_, .f32⟩
  | .hbm, ⟨40, _⟩ => ⟨S128x128, .f32⟩
  | .hbm, ⟨41, _⟩ => ⟨S128x128, .f32⟩
  | .hbm, ⟨42, _⟩ => ⟨S128x128, .i32⟩
  | .hbm, ⟨43, _⟩ => ⟨S_, .i32⟩
  | .hbm, ⟨44, _⟩ => ⟨S128x128, .i32⟩
  | .hbm, ⟨45, _⟩ => ⟨S128x128, .i32⟩
  | .hbm, ⟨46, _⟩ => ⟨S_, .i32⟩
  | .hbm, ⟨47, _⟩ => ⟨S128x128, .i32⟩
  | .hbm, ⟨48, _⟩ => ⟨S128x128, .i32⟩
  | .hbm, ⟨49, _⟩ => ⟨S_, .i32⟩
  | .hbm, ⟨50, _⟩ => ⟨S128x128, .i32⟩
  | .hbm, ⟨51, _⟩ => ⟨S128x128, .i1⟩
  | .hbm, ⟨52, _⟩ => ⟨S128x128, .i32⟩
  | .hbm, ⟨53, _⟩ => ⟨S_, .i32⟩
  | .hbm, ⟨54, _⟩ => ⟨S128x128, .i32⟩
  | .hbm, ⟨55, _⟩ => ⟨S128x128, .i1⟩
  | .hbm, ⟨56, _⟩ => ⟨S_, .i32⟩
  | .hbm, ⟨57, _⟩ => ⟨S128x128, .i32⟩
  | .hbm, ⟨58, _⟩ => ⟨S128x128, .i32⟩
  | .hbm, ⟨59, _⟩ => ⟨S128x128, .i32⟩
  | .hbm, ⟨60, _⟩ => ⟨S128x128x1, .i32⟩
  | .hbm, ⟨61, _⟩ => ⟨S128x128x24, .f32⟩
  | .hbm, ⟨62, _⟩ => ⟨S128x128x8, .f32⟩
  | .hbm, ⟨63, _⟩ => ⟨S8x128x128, .f32⟩
  | .hbm, ⟨64, _⟩ => ⟨S_, .f32⟩
  | .hbm, ⟨65, _⟩ => ⟨S8x16x128x8x64, .f32⟩
  | .hbm, ⟨66, _⟩ => ⟨S8x16x128x8x64, .f32⟩
  | .hbm, ⟨67, _⟩ => ⟨S8x16x8x128x128, .f32⟩
  | .hbm, ⟨68, _⟩ => ⟨S1x1x8x128x128, .f32⟩
  | .hbm, ⟨69, _⟩ => ⟨S8x16x8x128x128, .f32⟩
  | .hbm, ⟨70, _⟩ => ⟨S8x16x8x128x128, .f32⟩
  | .hbm, ⟨71, _⟩ => ⟨S_, .i32⟩
  | .hbm, ⟨72, _⟩ => ⟨S128x128, .i32⟩
  | .hbm, ⟨73, _⟩ => ⟨S128x128, .i1⟩
  | .hbm, ⟨74, _⟩ => ⟨S_, .f32⟩
  | .hbm, ⟨75, _⟩ => ⟨S_, .f32⟩
  | .hbm, ⟨76, _⟩ => ⟨S8x16x8x128x128, .i1⟩
  | .hbm, ⟨77, _⟩ => ⟨S8x16x8x128x128, .f32⟩
  | .hbm, ⟨78, _⟩ => ⟨S8x16x8x128x128, .f32⟩
  | .hbm, ⟨79, _⟩ => ⟨S_, .f32⟩
  | .hbm, ⟨80, _⟩ => ⟨S8x16x8x128, .f32⟩
  | .hbm, ⟨81, _⟩ => ⟨S8x16x8x128x1, .f32⟩
  | .hbm, ⟨82, _⟩ => ⟨S8x16x8x128x128, .f32⟩
  | .hbm, ⟨83, _⟩ => ⟨S8x16x8x128x128, .f32⟩
  | .hbm, ⟨84, _⟩ => ⟨S8x16x8x128x128, .f32⟩
  | .hbm, ⟨85, _⟩ => ⟨S_, .f32⟩
  | .hbm, ⟨86, _⟩ => ⟨S8x16x8x128, .f32⟩
  | .hbm, ⟨87, _⟩ => ⟨S8x16x8x128x1, .f32⟩
  | .hbm, ⟨88, _⟩ => ⟨S8x16x8x128x64, .f32⟩
  | .hbm, ⟨89, _⟩ => ⟨S8x16x8x128x64, .f32⟩
  | .hbm, ⟨90, _⟩ => ⟨S8x16x8x128x64, .f32⟩
  | .hbm, ⟨91, _⟩ => ⟨S8x16x128x8x64, .f32⟩
  | .hbm, ⟨92, _⟩ => ⟨S8x16x8x128x1, .f32⟩
  | .hbm, ⟨93, _⟩ => ⟨S8x16x8x128x1, .f32⟩
  | .hbm, ⟨94, _⟩ => ⟨S8x16x8x128, .f32⟩
  | .hbm, ⟨95, _⟩ => ⟨S8x16x128x8, .f32⟩
  | .hbm, ⟨96, _⟩ => ⟨S8x2048x8, .f32⟩
  | .hbm, ⟨97, _⟩ => ⟨S_, .i32⟩
  | .hbm, ⟨98, _⟩ => ⟨S_, .f32⟩
  | .hbm, ⟨99, _⟩ => ⟨S8x2048x128, .f32⟩
  | .hbm, ⟨100, _⟩ => ⟨S8x2048x512, .f32⟩
  | .hbm, ⟨101, _⟩ => ⟨S8x2048x512, .bf16⟩
  | _, _ => ⟨S8x16x128x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_11 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_14 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_call3_v0 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]
-- ==== AttnMid.lean ====
abbrev S8x4x512x1536 : Shape := ⟨4, ![8, 4, 512, 1536]⟩
abbrev S32x24 : Shape := ⟨2, ![32, 24]⟩
abbrev S128x256 : Shape := ⟨2, ![128, 256]⟩
abbrev S129 : Shape := ⟨1, ![129]⟩
abbrev S_ : Shape := ⟨0, ![]⟩
abbrev S129x1 : Shape := ⟨2, ![129, 1]⟩
abbrev S129x24 : Shape := ⟨2, ![129, 24]⟩
abbrev S129x8 : Shape := ⟨2, ![129, 8]⟩
abbrev S8x129 : Shape := ⟨2, ![8, 129]⟩
abbrev S8x128 : Shape := ⟨2, ![8, 128]⟩
abbrev S8x257 : Shape := ⟨2, ![8, 257]⟩
abbrev S1x8x1x257 : Shape := ⟨4, ![1, 8, 1, 257]⟩
abbrev S1x8x128x257 : Shape := ⟨4, ![1, 8, 128, 257]⟩
abbrev S8x32896 : Shape := ⟨2, ![8, 32896]⟩
abbrev S8x32768 : Shape := ⟨2, ![8, 32768]⟩
abbrev S8x128x256 : Shape := ⟨3, ![8, 128, 256]⟩
abbrev S1x8x128x256 : Shape := ⟨4, ![1, 8, 128, 256]⟩
abbrev S3x8x128x256 : Shape := ⟨4, ![3, 8, 128, 256]⟩
abbrev S8x2048x1536 : Shape := ⟨3, ![8, 2048, 1536]⟩
abbrev S8x2048x512 : Shape := ⟨3, ![8, 2048, 512]⟩
abbrev S8x2048x128 : Shape := ⟨3, ![8, 2048, 128]⟩
abbrev S1x2048x512 : Shape := ⟨3, ![1, 2048, 512]⟩
abbrev S1x128x512 : Shape := ⟨3, ![1, 128, 512]⟩
abbrev S1x2048x128 : Shape := ⟨3, ![1, 2048, 128]⟩
abbrev S256x128 : Shape := ⟨2, ![256, 128]⟩
abbrev S128x128 : Shape := ⟨2, ![128, 128]⟩
abbrev S128x512 : Shape := ⟨2, ![128, 512]⟩
abbrev S1x128x128 : Shape := ⟨3, ![1, 128, 128]⟩
abbrev S128 : Shape := ⟨1, ![128]⟩
abbrev S128x1 : Shape := ⟨2, ![128, 1]⟩
abbrev S256x256 : Shape := ⟨2, ![256, 256]⟩

abbrev nBuf : Space → Nat
  | .hbm => 186
  | .vmem => 15
  | .smem => 0
  | _ => 0

abbrev hbmTy0_0 (i : Nat) : BufTy := match i % 128 with
  | 0 => ⟨S8x4x512x1536, .bf16⟩
  | 1 => ⟨S32x24, .f32⟩
  | 2 => ⟨S128x256, .i1⟩
  | 3 => ⟨S129, .i32⟩
  | 4 => ⟨S_, .i32⟩
  | 5 => ⟨S_, .i32⟩
  | 6 => ⟨S_, .i32⟩
  | 7 => ⟨S129, .i32⟩
  | 8 => ⟨S129, .i32⟩
  | 9 => ⟨S_, .i32⟩
  | 10 => ⟨S129, .i32⟩
  | 11 => ⟨S129, .i32⟩
  | 12 => ⟨S_, .i32⟩
  | 13 => ⟨S129, .i32⟩
  | 14 => ⟨S129, .i32⟩
  | 15 => ⟨S_, .i32⟩
  | 16 => ⟨S129, .i32⟩
  | 17 => ⟨S129, .i32⟩
  | 18 => ⟨S129, .f32⟩
  | 19 => ⟨S_, .f32⟩
  | 20 => ⟨S129, .f32⟩
  | 21 => ⟨S129, .f32⟩
  | 22 => ⟨S129, .f32⟩
  | 23 => ⟨S_, .f32⟩
  | 24 => ⟨S129, .f32⟩
  | 25 => ⟨S129, .f32⟩
  | 26 => ⟨S_, .f32⟩
  | 27 => ⟨S129, .f32⟩
  | 28 => ⟨S129, .f32⟩
  | 29 => ⟨S129, .i32⟩
  | 30 => ⟨S_, .i32⟩
  | 31 => ⟨S129, .i32⟩
  | 32 => ⟨S129, .i32⟩
  | 33 => ⟨S_, .i32⟩
  | 34 => ⟨S129, .i32⟩
  | 35 => ⟨S129, .i32⟩
  | 36 => ⟨S_, .i32⟩
  | 37 => ⟨S129, .i32⟩
  | 38 => ⟨S129, .i1⟩
  | 39 => ⟨S129, .i32⟩
  | 40 => ⟨S_, .i32⟩
  | 41 => ⟨S129, .i32⟩
  | 42 => ⟨S129, .i1⟩
  | 43 => ⟨S_, .i32⟩
  | 44 => ⟨S129, .i32⟩
  | 45 => ⟨S129, .i32⟩
  | 46 => ⟨S129, .i32⟩
  | 47 => ⟨S129x1, .i32⟩
  | 48 => ⟨S129x24, .f32⟩
  | 49 => ⟨S129x8, .f32⟩
  | 50 => ⟨S8x129, .f32⟩
  | 51 => ⟨S8x129, .f32⟩
  | 52 => ⟨S_, .f32⟩
  | 53 => ⟨S8x128, .f32⟩
  | 54 => ⟨S8x257, .f32⟩
  | 55 => ⟨S1x8x1x257, .f32⟩
  | 56 => ⟨S1x8x128x257, .f32⟩
  | 57 => ⟨S8x32896, .f32⟩
  | 58 => ⟨S8x32768, .f32⟩
  | 59 => ⟨S8x128x256, .f32⟩
  | 60 => ⟨S_, .i32⟩
  | 61 => ⟨S_, .i32⟩
  | 62 => ⟨S_, .i32⟩
  | 63 => ⟨S129, .i32⟩
  | 64 => ⟨S129, .i32⟩
  | 65 => ⟨S_, .i32⟩
  | 66 => ⟨S129, .i32⟩
  | 67 => ⟨S129, .i32⟩
  | 68 => ⟨S_, .i32⟩
  | 69 => ⟨S129, .i32⟩
  | 70 => ⟨S129, .i32⟩
  | 71 => ⟨S_, .i32⟩
  | 72 => ⟨S129, .i32⟩
  | 73 => ⟨S129, .i32⟩
  | 74 => ⟨S129, .f32⟩
  | 75 => ⟨S_, .f32⟩
  | 76 => ⟨S129, .f32⟩
  | 77 => ⟨S129, .f32⟩
  | 78 => ⟨S129, .f32⟩
  | 79 => ⟨S_, .f32⟩
  | 80 => ⟨S129, .f32⟩
  | 81 => ⟨S129, .f32⟩
  | 82 => ⟨S_, .f32⟩
  | 83 => ⟨S129, .f32⟩
  | 84 => ⟨S129, .f32⟩
  | 85 => ⟨S129, .i32⟩
  | 86 => ⟨S_, .i32⟩
  | 87 => ⟨S129, .i32⟩
  | 88 => ⟨S129, .i32⟩
  | 89 => ⟨S_, .i32⟩
  | 90 => ⟨S129, .i32⟩
  | 91 => ⟨S129, .i32⟩
  | 92 => ⟨S_, .i32⟩
  | 93 => ⟨S129, .i32⟩
  | 94 => ⟨S129, .i1⟩
  | 95 => ⟨S129, .i32⟩
  | 96 => ⟨S_, .i32⟩
  | 97 => ⟨S129, .i32⟩
  | 98 => ⟨S129, .i1⟩
  | 99 => ⟨S_, .i32⟩
  | 100 => ⟨S129, .i32⟩
  | 101 => ⟨S129, .i32⟩
  | 102 => ⟨S129, .i32⟩
  | 103 => ⟨S129x1, .i32⟩
  | 104 => ⟨S129x24, .f32⟩
  | 105 => ⟨S129x8, .f32⟩
  | 106 => ⟨S8x129, .f32⟩
  | 107 => ⟨S8x129, .f32⟩
  | 108 => ⟨S_, .f32⟩
  | 109 => ⟨S8x128, .f32⟩
  | 110 => ⟨S8x257, .f32⟩
  | 111 => ⟨S1x8x1x257, .f32⟩
  | 112 => ⟨S1x8x128x257, .f32⟩
  | 113 => ⟨S8x32896, .f32⟩
  | 114 => ⟨S8x32768, .f32⟩
  | 115 => ⟨S8x128x256, .f32⟩
  | 116 => ⟨S_, .i32⟩
  | 117 => ⟨S_, .i32⟩
  | 118 => ⟨S_, .i32⟩
  | 119 => ⟨S129, .i32⟩
  | 120 => ⟨S129, .i32⟩
  | 121 => ⟨S_, .i32⟩
  | 122 => ⟨S129, .i32⟩
  | 123 => ⟨S129, .i32⟩
  | 124 => ⟨S_, .i32⟩
  | 125 => ⟨S129, .i32⟩
  | 126 => ⟨S129, .i32⟩
  | 127 => ⟨S_, .i32⟩
  | _ => ⟨S8x4x512x1536, .bf16⟩

abbrev hbmTy0_1 (i : Nat) : BufTy := match i % 128 with
  | 0 => ⟨S129, .i32⟩
  | 1 => ⟨S129, .i32⟩
  | 2 => ⟨S129, .f32⟩
  | 3 => ⟨S_, .f32⟩
  | 4 => ⟨S129, .f32⟩
  | 5 => ⟨S129, .f32⟩
  | 6 => ⟨S129, .f32⟩
  | 7 => ⟨S_, .f32⟩
  | 8 => ⟨S129, .f32⟩
  | 9 => ⟨S129, .f32⟩
  | 10 => ⟨S_, .f32⟩
  | 11 => ⟨S129, .f32⟩
  | 12 => ⟨S129, .f32⟩
  | 13 => ⟨S129, .i32⟩
  | 14 => ⟨S_, .i32⟩
  | 15 => ⟨S129, .i32⟩
  | 16 => ⟨S129, .i32⟩
  | 17 => ⟨S_, .i32⟩
  | 18 => ⟨S129, .i32⟩
  | 19 => ⟨S129, .i32⟩
  | 20 => ⟨S_, .i32⟩
  | 21 => ⟨S129, .i32⟩
  | 22 => ⟨S129, .i1⟩
  | 23 => ⟨S129, .i32⟩
  | 24 => ⟨S_, .i32⟩
  | 25 => ⟨S129, .i32⟩
  | 26 => ⟨S129, .i1⟩
  | 27 => ⟨S_, .i32⟩
  | 28 => ⟨S129, .i32⟩
  | 29 => ⟨S129, .i32⟩
  | 30 => ⟨S129, .i32⟩
  | 31 => ⟨S129x1, .i32⟩
  | 32 => ⟨S129x24, .f32⟩
  | 33 => ⟨S129x8, .f32⟩
  | 34 => ⟨S8x129, .f32⟩
  | 35 => ⟨S8x129, .f32⟩
  | 36 => ⟨S_, .f32⟩
  | 37 => ⟨S8x128, .f32⟩
  | 38 => ⟨S8x257, .f32⟩
  | 39 => ⟨S1x8x1x257, .f32⟩
  | 40 => ⟨S1x8x128x257, .f32⟩
  | 41 => ⟨S8x32896, .f32⟩
  | 42 => ⟨S8x32768, .f32⟩
  | 43 => ⟨S8x128x256, .f32⟩
  | 44 => ⟨S1x8x128x256, .f32⟩
  | 45 => ⟨S1x8x128x256, .f32⟩
  | 46 => ⟨S1x8x128x256, .f32⟩
  | 47 => ⟨S3x8x128x256, .f32⟩
  | 48 => ⟨S_, .f32⟩
  | 49 => ⟨S_, .f32⟩
  | 50 => ⟨S3x8x128x256, .i1⟩
  | 51 => ⟨S3x8x128x256, .f32⟩
  | 52 => ⟨S3x8x128x256, .f32⟩
  | 53 => ⟨S1x8x128x256, .f32⟩
  | 54 => ⟨S8x128x256, .f32⟩
  | 55 => ⟨S8x2048x1536, .bf16⟩
  | 56 => ⟨S8x2048x512, .bf16⟩
  | 57 => ⟨S8x2048x128, .f32⟩
  | _ => ⟨S8x4x512x1536, .bf16⟩

abbrev hbmTy (i : Nat) : BufTy := match i / 128 with
  | 0 => hbmTy0_0 i
  | 1 => hbmTy0_1 i
  | _ => ⟨S8x4x512x1536, .bf16⟩

abbrev bufTy : (tb : Table) → Fin (tcTables nBuf tb) → BufTy
  | .hbm, ⟨i, _⟩ => hbmTy i
  | .local _ .vmem, ⟨0, _⟩ => ⟨S1x2048x512, .bf16⟩
  | .local _ .vmem, ⟨1, _⟩ => ⟨S1x2048x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S8x128x256, .f32⟩
  | .local _ .vmem, ⟨11, _⟩ => ⟨S1x2048x512, .bf16⟩
  | .local _ .vmem, ⟨12, _⟩ => ⟨S1x2048x512, .bf16⟩
  | .local _ .vmem, ⟨13, _⟩ => ⟨S1x2048x128, .f32⟩
  | .local _ .vmem, ⟨14, _⟩ => ⟨S1x2048x128, .f32⟩
  | _, _ => ⟨S8x4x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_c_1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_c_2 : Ref sig .tc := ⟨.hbm, 12, rfl⟩
abbrev main_v2 : Ref sig .tc := ⟨.hbm, 13, rfl⟩
abbrev main_v3 : Ref sig .tc := ⟨.hbm, 14, rfl⟩
abbrev main_c_3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_6 : Ref sig .tc := ⟨.hbm, 30, rfl⟩
abbrev main_v15 : Ref sig .tc := ⟨.hbm, 31, rfl⟩
abbrev main_v16 : Ref sig .tc := ⟨.hbm, 32, rfl⟩
abbrev main_c_7 : Ref sig .tc := ⟨.hbm, 33, rfl⟩
abbrev main_v17 : Ref sig .tc := ⟨.hbm, 34, rfl⟩
abbrev main_v18 : Ref sig .tc := ⟨.hbm, 35, rfl⟩
abbrev main_c_8 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_9 : Ref sig .tc := ⟨.hbm, 40, rfl⟩
abbrev main_v22 : Ref sig .tc := ⟨.hbm, 41, rfl⟩
abbrev main_v23 : Ref sig .tc := ⟨.hbm, 42, rfl⟩
abbrev main_c_10 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_12 : Ref sig .tc := ⟨.hbm, 60, rfl⟩
abbrev main_c_13 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v39 : Ref sig .tc := ⟨.hbm, 67, rfl⟩
abbrev main_c_14 : Ref sig .tc := ⟨.hbm, 68, rfl⟩
abbrev main_v40 : Ref sig .tc := ⟨.hbm, 69, rfl⟩
abbrev main_v41 : Ref sig .tc := ⟨.hbm, 70, rfl⟩
abbrev main_c_15 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_16 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_17 : Ref sig .tc := ⟨.hbm, 79, rfl⟩
abbrev main_v48 : Ref sig .tc := ⟨.hbm, 80, rfl⟩
abbrev main_v49 : Ref sig .tc := ⟨.hbm, 81, rfl⟩
abbrev main_cst_18 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_19 : Ref sig .tc := ⟨.hbm, 86, rfl⟩
abbrev main_v53 : Ref sig .tc := ⟨.hbm, 87, rfl⟩
abbrev main_v54 : Ref sig .tc := ⟨.hbm, 88, rfl⟩
abbrev main_c_20 : Ref sig .tc := ⟨.hbm, 89, rfl⟩
abbrev main_v55 : Ref sig .tc := ⟨.hbm, 90, rfl⟩
abbrev main_v56 : Ref sig .tc := ⟨.hbm, 91, rfl⟩
abbrev main_c_21 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_c_22 : Ref sig .tc := ⟨.hbm, 96, rfl⟩
abbrev main_v60 : Ref sig .tc := ⟨.hbm, 97, rfl⟩
abbrev main_v61 : Ref sig .tc := ⟨.hbm, 98, rfl⟩
abbrev main_c_23 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_24 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_25 : Ref sig .tc := ⟨.hbm, 116, rfl⟩
abbrev main_c_26 : Ref sig .tc := ⟨.hbm, 117, rfl⟩
abbrev main_call4_v0 : Ref sig .tc := ⟨.hbm, 118, rfl⟩
abbrev main_call4_v1 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_v77 : Ref sig .tc := ⟨.hbm, 123, rfl⟩
abbrev main_c_27 : Ref sig .tc := ⟨.hbm, 124, rfl⟩
abbrev main_v78 : Ref sig .tc := ⟨.hbm, 125, rfl⟩
abbrev main_v79 : Ref sig .tc := ⟨.hbm, 126, rfl⟩
abbrev main_c_28 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_29 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_30 : Ref sig .tc := ⟨.hbm, 135, rfl⟩
abbrev main_v86 : Ref sig .tc := ⟨.hbm, 136, rfl⟩
abbrev main_v87 : Ref sig .tc := ⟨.hbm, 137, rfl⟩
abbrev main_cst_31 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_c_32 : Ref sig .tc := ⟨.hbm, 142, rfl⟩
abbrev main_v91 : Ref sig .tc := ⟨.hbm, 143, rfl⟩
abbrev main_v92 : Ref sig .tc := ⟨.hbm, 144, rfl⟩
abbrev main_c_33 : Ref sig .tc := ⟨.hbm, 145, rfl⟩
abbrev main_v93 : Ref sig .tc := ⟨.hbm, 146, rfl⟩
abbrev main_v94 : Ref sig .tc := ⟨.hbm, 147, rfl⟩
abbrev main_c_34 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_c_35 : Ref sig .tc := ⟨.hbm, 152, rfl⟩
abbrev main_v98 : Ref sig .tc := ⟨.hbm, 153, rfl⟩
abbrev main_v99 : Ref sig .tc := ⟨.hbm, 154, rfl⟩
abbrev main_c_36 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_cst_37 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_cst_38 : Ref sig .tc := ⟨.hbm, 176, rfl⟩
abbrev main_call6_v0 : Ref sig .tc := ⟨.hbm, 177, rfl⟩
abbrev main_call6_v1 : Ref sig .tc := ⟨.hbm, 178, rfl⟩
abbrev main_call6_v2 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123_0 : Ref sig .tc := ⟨.hbm, 184, rfl⟩
abbrev main_v123_1 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnMidRefIdeal.lean ====
abbrev S8x4x512x1536 : Shape := ⟨4, ![8, 4, 512, 1536]⟩
abbrev S32x24 : Shape := ⟨2, ![32, 24]⟩
abbrev S8x4x512x3x8x64 : Shape := ⟨6, ![8, 4, 512, 3, 8, 64]⟩
abbrev S8x4x512x1x8x64 : Shape := ⟨6, ![8, 4, 512, 1, 8, 64]⟩
abbrev S8x4x512x8x64 : Shape := ⟨5, ![8, 4, 512, 8, 64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S512x512x1 : Shape := ⟨3, ![512, 512, 1]⟩
abbrev S512x512x24 : Shape := ⟨3, ![512, 512, 24]⟩
abbrev S512x512x8 : Shape := ⟨3, ![512, 512, 8]⟩
abbrev S8x512x512 : Shape := ⟨3, ![8, 512, 512]⟩
abbrev S8x4x8x512x512 : Shape := ⟨5, ![8, 4, 8, 512, 512]⟩
abbrev S1x1x8x512x512 : Shape := ⟨5, ![1, 1, 8, 512, 512]⟩
abbrev S8x4x8x512 : Shape := ⟨4, ![8, 4, 8, 512]⟩
abbrev S8x4x8x512x1 : Shape := ⟨5, ![8, 4, 8, 512, 1]⟩
abbrev S8x4x8x512x64 : Shape := ⟨5, ![8, 4, 8, 512, 64]⟩
abbrev S8x4x512x8 : Shape := ⟨4, ![8, 4, 512, 8]⟩
abbrev S8x2048x8 : Shape := ⟨3, ![8, 2048, 8]⟩
abbrev S8x2048x128 : Shape := ⟨3, ![8, 2048, 128]⟩
abbrev S8x2048x512 : Shape := ⟨3, ![8, 2048, 512]⟩

abbrev nBuf : Space → Nat
  | .hbm => 106
  | .vmem => 0
  | .smem => 0
  | _ => 0

abbrev bufTy : (tb : Table) → Fin (tcTables nBuf tb) → BufTy
  | .hbm, ⟨0, _⟩ => ⟨S8x4x512x1536, .bf16⟩
  | .hbm, ⟨1, _⟩ => ⟨S32x24, .f32⟩
  | .hbm, ⟨2, _⟩ => ⟨S8x4x512x1536, .f32⟩
  | .hbm, ⟨3, _⟩ => ⟨S8x4x512x3x8x64, .f32⟩
  | .hbm, ⟨4, _⟩ => ⟨S8x4x512x1x8x64, .f32⟩
  | .hbm, ⟨5, _⟩ => ⟨S8x4x512x8x64, .f32⟩
  | .hbm, ⟨6, _⟩ => ⟨S8x4x512x1x8x64, .f32⟩
  | .hbm, ⟨7, _⟩ => ⟨S8x4x512x8x64, .f32⟩
  | .hbm, ⟨8, _⟩ => ⟨S8x4x512x1x8x64, .f32⟩
  | .hbm, ⟨9, _⟩ => ⟨S8x4x512x8x64, .f32⟩
  | .hbm, ⟨10, _⟩ => ⟨S512, .i32⟩
  | .hbm, ⟨11, _⟩ => ⟨S512x1, .i32⟩
  | .hbm, ⟨12, _⟩ => ⟨S512, .i32⟩
  | .hbm, ⟨13, _⟩ => ⟨S1x512, .i32⟩
  | .hbm, ⟨14, _⟩ => ⟨S512x512, .i32⟩
  | .hbm, ⟨15, _⟩ => ⟨S512x512, .i32⟩
  | .hbm, ⟨16, _⟩ => ⟨S512x512, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S512x512, .i32⟩
  | .hbm, ⟨21, _⟩ => ⟨S512x512, .i32⟩
  | .hbm, ⟨22, _⟩ => ⟨S_, .i32⟩
  | .hbm, ⟨23, _⟩ => ⟨S512x512, .i32⟩
  | .hbm, ⟨24, _⟩ => ⟨S512x512, .i32⟩
  | .hbm, ⟨25, _⟩ => ⟨S_, .i32⟩
  | .hbm, ⟨26, _⟩ => ⟨S512x512, .i32⟩
  | .hbm, ⟨27, _⟩ => ⟨S512x512, .i32⟩
  | .hbm, ⟨28, _⟩ => ⟨S_, .i32⟩
  | .hbm, ⟨29, _⟩ => ⟨S512x512, .i32⟩
  | .hbm, ⟨30, _⟩ => ⟨S512x512, .i32⟩
  | .hbm, ⟨31, _⟩ => ⟨S512x512, .f32⟩
  | .hbm, ⟨32, _⟩ => ⟨S_, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S_, .f32⟩
  | .hbm, ⟨37, _⟩ => ⟨S512x512, .f32⟩
  | .hbm, ⟨38, _⟩ => ⟨S512x512, .f32⟩
  | .hbm, ⟨39, _⟩ => ⟨S_, .f32⟩
  | .hbm, ⟨40, _⟩ => ⟨S512x512, .f32⟩
  | .hbm, ⟨41, _⟩ => ⟨S512x512, .f32⟩
  | .hbm, ⟨42, _⟩ => ⟨S512x512, .i32⟩
  | .hbm, ⟨43, _⟩ => ⟨S_, .i32⟩
  | .hbm, ⟨44, _⟩ => ⟨S512x512, .i32⟩
  | .hbm, ⟨45, _⟩ => ⟨S512x512, .i32⟩
  | .hbm, ⟨46, _⟩ => ⟨S_, .i32⟩
  | .hbm, ⟨47, _⟩ => ⟨S512x512, .i32⟩
  | .hbm, ⟨48, _⟩ => ⟨S512x512, .i32⟩
  | .hbm, ⟨49, _⟩ => ⟨S_, .i32⟩
  | .hbm, ⟨50, _⟩ => ⟨S512x512, .i32⟩
  | .hbm, ⟨51, _⟩ => ⟨S512x512, .i1⟩
  | .hbm, ⟨52, _⟩ => ⟨S512x512, .i32⟩
  | .hbm, ⟨53, _⟩ => ⟨S_, .i32⟩
  | .hbm, ⟨54, _⟩ => ⟨S512x512, .i32⟩
  | .hbm, ⟨55, _⟩ => ⟨S512x512, .i1⟩
  | .hbm, ⟨56, _⟩ => ⟨S_, .i32⟩
  | .hbm, ⟨57, _⟩ => ⟨S512x512, .i32⟩
  | .hbm, ⟨58, _⟩ => ⟨S512x512, .i32⟩
  | .hbm, ⟨59, _⟩ => ⟨S512x512, .i32⟩
  | .hbm, ⟨60, _⟩ => ⟨S512x512x1, .i32⟩
  | .hbm, ⟨61, _⟩ => ⟨S512x512x24, .f32⟩
  | .hbm, ⟨62, _⟩ => ⟨S512x512x8, .f32⟩
  | .hbm, ⟨63, _⟩ => ⟨S8x512x512, .f32⟩
  | .hbm, ⟨64, _⟩ => ⟨S_, .f32⟩
  | .hbm, ⟨65, _⟩ => ⟨S8x4x512x8x64, .f32⟩
  | .hbm, ⟨66, _⟩ => ⟨S8x4x512x8x64, .f32⟩
  | .hbm, ⟨67, _⟩ => ⟨S8x4x8x512x512, .f32⟩
  | .hbm, ⟨68, _⟩ => ⟨S1x1x8x512x512, .f32⟩
  | .hbm, ⟨69, _⟩ => ⟨S8x4x8x512x512, .f32⟩
  | .hbm, ⟨70, _⟩ => ⟨S8x4x8x512x512, .f32⟩
  | .hbm, ⟨71, _⟩ => ⟨S_, .i32⟩
  | .hbm, ⟨72, _⟩ => ⟨S512x512, .i32⟩
  | .hbm, ⟨73, _⟩ => ⟨S512x512, .i1⟩
  | .hbm, ⟨74, _⟩ => ⟨S_, .i32⟩
  | .hbm, ⟨75, _⟩ => ⟨S512x512, .i32⟩
  | .hbm, ⟨76, _⟩ => ⟨S512x512, .i1⟩
  | .hbm, ⟨77, _⟩ => ⟨S512x512, .i1⟩
  | .hbm, ⟨78, _⟩ => ⟨S_, .f32⟩
  | .hbm, ⟨79, _⟩ => ⟨S_, .f32⟩
  | .hbm, ⟨80, _⟩ => ⟨S8x4x8x512x512, .i1⟩
  | .hbm, ⟨81, _⟩ => ⟨S8x4x8x512x512, .f32⟩
  | .hbm, ⟨82, _⟩ => ⟨S8x4x8x512x512, .f32⟩
  | .hbm, ⟨83, _⟩ => ⟨S_, .f32⟩
  | .hbm, ⟨84, _⟩ => ⟨S8x4x8x512, .f32⟩
  | .hbm, ⟨85, _⟩ => ⟨S8x4x8x512x1, .f32⟩
  | .hbm, ⟨86, _⟩ => ⟨S8x4x8x512x512, .f32⟩
  | .hbm, ⟨87, _⟩ => ⟨S8x4x8x512x512, .f32⟩
  | .hbm, ⟨88, _⟩ => ⟨S8x4x8x512x512, .f32⟩
  | .hbm, ⟨89, _⟩ => ⟨S_, .f32⟩
  | .hbm, ⟨90, _⟩ => ⟨S8x4x8x512, .f32⟩
  | .hbm, ⟨91, _⟩ => ⟨S8x4x8x512x1, .f32⟩
  | .hbm, ⟨92, _⟩ => ⟨S8x4x8x512x64, .f32⟩
  | .hbm, ⟨93, _⟩ => ⟨S8x4x8x512x64, .f32⟩
  | .hbm, ⟨94, _⟩ => ⟨S8x4x8x512x64, .f32⟩
  | .hbm, ⟨95, _⟩ => ⟨S8x4x512x8x64, .f32⟩
  | .hbm, ⟨96, _⟩ => ⟨S8x4x8x512x1, .f32⟩
  | .hbm, ⟨97, _⟩ => ⟨S8x4x8x512x1, .f32⟩
  | .hbm, ⟨98, _⟩ => ⟨S8x4x8x512, .f32⟩
  | .hbm, ⟨99, _⟩ => ⟨S8x4x512x8, .f32⟩
  | .hbm, ⟨100, _⟩ => ⟨S8x2048x8, .f32⟩
  | .hbm, ⟨101, _⟩ => ⟨S_, .i32⟩
  | .hbm, ⟨102, _⟩ => ⟨S_, .f32⟩
  | .hbm, ⟨103, _⟩ => ⟨S8x2048x128, .f32⟩
  | .hbm, ⟨104, _⟩ => ⟨S8x2048x512, .f32⟩
  | .hbm, ⟨105, _⟩ => ⟨S8x2048x512, .bf16⟩
  | _, _ => ⟨S8x4x512x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_11 : Ref sig .tc := ⟨.hbm, 71, rfl⟩
abbrev main_v51 : Ref sig .tc := ⟨.hbm, 72, rfl⟩
abbrev main_v52 : Ref sig .tc := ⟨.hbm, 73, rfl⟩
abbrev main_c_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_13 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v56 : Ref sig .tc := ⟨.hbm, 82, rfl⟩
abbrev main_cst_14 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_15 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_call3_v0 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩

abbrev nD : Nat := 1
abbrev τ : Topo := Topo.v7x

variable {F : FTy → Type} [FloatOps F]
-- ==== Ab.lean ====
abbrev S8x2048x1024 : Shape := ⟨3, ![8, 2048, 1024]⟩
abbrev S8x6x1024 : Shape := ⟨3, ![8, 6, 1024]⟩
abbrev S1024x3360 : Shape := ⟨2, ![1024, 3360]⟩
abbrev S1824 : Shape := ⟨1, ![1824]⟩
abbrev S3x512 : Shape := ⟨2, ![3, 512]⟩
abbrev S_ : Shape := ⟨0, ![]⟩
abbrev S96 : Shape := ⟨1, ![96]⟩
abbrev S3360x1024 : Shape := ⟨2, ![3360, 1024]⟩
abbrev S1920 : Shape := ⟨1, ![1920]⟩
abbrev S1x1920 : Shape := ⟨2, ![1, 1920]⟩
abbrev S8x2048x1536 : Shape := ⟨3, ![8, 2048, 1536]⟩
abbrev S8x2048x384 : Shape := ⟨3, ![8, 2048, 384]⟩
abbrev S8x2048x512 : Shape := ⟨3, ![8, 2048, 512]⟩
abbrev S1x1024x1024 : Shape := ⟨3, ![1, 1024, 1024]⟩
abbrev S1x6x1024 : Shape := ⟨3, ![1, 6, 1024]⟩
abbrev S1x1024x1536 : Shape := ⟨3, ![1, 1024, 1536]⟩
abbrev S1x1024x384 : Shape := ⟨3, ![1, 1024, 384]⟩
abbrev S1x1024x512 : Shape := ⟨3, ![1, 1024, 512]⟩
abbrev S8x1920 : Shape := ⟨2, ![8, 1920]⟩
abbrev S8x512 : Shape := ⟨2, ![8, 512]⟩
abbrev S6x1024 : Shape := ⟨2, ![6, 1024]⟩
abbrev S1024x1024 : Shape := ⟨2, ![1024, 1024]⟩
abbrev S1x1024 : Shape := ⟨2, ![1, 1024]⟩
abbrev S512x1024 : Shape := ⟨2, ![512, 1024]⟩
abbrev S1024x512 : Shape := ⟨2, ![1024, 512]⟩
abbrev S1x512 : Shape := ⟨2, ![1, 512]⟩
abbrev S1016x512 : Shape := ⟨2, ![1016, 512]⟩
abbrev S384x1024 : Shape := ⟨2, ![384, 1024]⟩
abbrev S1024x384 : Shape := ⟨2, ![1024, 384]⟩
abbrev S8x384 : Shape := ⟨2, ![8, 384]⟩
abbrev S1x384 : Shape := ⟨2, ![1, 384]⟩
abbrev S1016x384 : Shape := ⟨2, ![1016, 384]⟩

abbrev nBuf : Space → Nat
  | .hbm => 13
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x6x1024, .f32⟩
  | .hbm, ⟨2, _⟩ => ⟨S1024x3360, .f32⟩
  | .hbm, ⟨3, _⟩ => ⟨S1824, .f32⟩
  | .hbm, ⟨4, _⟩ => ⟨S3x512, .f32⟩
  | .hbm, ⟨5, _⟩ => ⟨S_, .f32⟩
  | .hbm, ⟨6, _⟩ => ⟨S96, .f32⟩
  | .hbm, ⟨7, _⟩ => ⟨S3360x1024, .f32⟩
  | .hbm, ⟨8, _⟩ => ⟨S1920, .f32⟩
  | .hbm, ⟨9, _⟩ => ⟨S1x1920, .f32⟩
  | .hbm, ⟨10, _⟩ => ⟨S8x2048x1536, .bf16⟩
  | .hbm, ⟨11, _⟩ => ⟨S8x2048x384, .bf16⟩
  | .hbm, ⟨12, _⟩ => ⟨S8x2048x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S3360x1024, .f32⟩
  | .local _ .vmem, ⟨5, _⟩ => ⟨S1x1920, .f32⟩
  | .local _ .vmem, ⟨6, _⟩ => ⟨S3x512, .f32⟩
  | .local _ .vmem, ⟨7, _⟩ => ⟨S1x1024x1536, .bf16⟩
  | .local _ .vmem, ⟨8, _⟩ => ⟨S1x1024x1536, .bf16⟩
  | .local _ .vmem, ⟨9, _⟩ => ⟨S1x1024x384, .bf16⟩
  | .local _ .vmem, ⟨10, _⟩ => ⟨S1x1024x384, .bf16⟩
  | .local _ .vmem, ⟨11, _⟩ => ⟨S1x1024x512, .bf16⟩
  | .local _ .vmem, ⟨12, _⟩ => ⟨S1x1024x512, .bf16⟩
  | .local _ .vmem, ⟨13, _⟩ => ⟨S8x1920, .f32⟩
  | .local _ .vmem, ⟨14, _⟩ => ⟨S8x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3360x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AbRefIdeal.lean ====
abbrev S8x2048x1024 : Shape := ⟨3, ![8, 2048, 1024]⟩
abbrev S8x6x1024 : Shape := ⟨3, ![8, 6, 1024]⟩
abbrev S1024x3360 : Shape := ⟨2, ![1024, 3360]⟩
abbrev S1824 : Shape := ⟨1, ![1824]⟩
abbrev S3x512 : Shape := ⟨2, ![3, 512]⟩
abbrev S8x1x1024 : Shape := ⟨3, ![8, 1, 1024]⟩
abbrev S8x1024 : Shape := ⟨2, ![8, 1024]⟩
abbrev S_ : Shape := ⟨0, ![]⟩
abbrev S8x2048x3360 : Shape := ⟨3, ![8, 2048, 3360]⟩
abbrev S96 : Shape := ⟨1, ![96]⟩
abbrev S1920 : Shape := ⟨1, ![1920]⟩
abbrev S8x2048x1920 : Shape := ⟨3, ![8, 2048, 1920]⟩
abbrev S8x2049x1920 : Shape := ⟨3, ![8, 2049, 1920]⟩
abbrev S1x1x1920 : Shape := ⟨3, ![1, 1, 1920]⟩
abbrev S8x2048x1536 : Shape := ⟨3, ![8, 2048, 1536]⟩
abbrev S8x2048x512 : Shape := ⟨3, ![8, 2048, 512]⟩
abbrev S1x512 : Shape := ⟨2, ![1, 512]⟩
abbrev S512 : Shape := ⟨1, ![512]⟩
abbrev S1x1x512 : Shape := ⟨3, ![1, 1, 512]⟩
abbrev S8x2049x512 : Shape := ⟨3, ![8, 2049, 512]⟩
abbrev S8x2050x512 : Shape := ⟨3, ![8, 2050, 512]⟩
abbrev S8x2048x384 : Shape := ⟨3, ![8, 2048, 384]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6x1024, .f32⟩
  | .hbm, ⟨2, _⟩ => ⟨S1024x3360, .f32⟩
  | .hbm, ⟨3, _⟩ => ⟨S1824, .f32⟩
  | .hbm, ⟨4, _⟩ => ⟨S3x512, .f32⟩
  | .hbm, ⟨5, _⟩ => ⟨S8x1x1024, .f32⟩
  | .hbm, ⟨6, _⟩ => ⟨S8x1024, .f32⟩
  | .hbm, ⟨7, _⟩ => ⟨S8x1x1024, .f32⟩
  | .hbm, ⟨8, _⟩ => ⟨S_, .f32⟩
  | .hbm, ⟨9, _⟩ => ⟨S8x1x1024, .f32⟩
  | .hbm, ⟨10, _⟩ => ⟨S8x1x1024, .f32⟩
  | .hbm, ⟨11, _⟩ => ⟨S8x2048x1024, .f32⟩
  | .hbm, ⟨12, _⟩ => ⟨S8x2048x1024, .f32⟩
  | .hbm, ⟨13, _⟩ => ⟨S8x1x1024, .f32⟩
  | .hbm, ⟨14, _⟩ => ⟨S8x1024, .f32⟩
  | .hbm, ⟨15, _⟩ => ⟨S8x1x1024, .f32⟩
  | .hbm, ⟨16, _⟩ => ⟨S8x2048x1024, .f32⟩
  | .hbm, ⟨17, _⟩ => ⟨S8x2048x1024, .f32⟩
  | .hbm, ⟨18, _⟩ => ⟨S8x2048x3360, .f32⟩
  | .hbm, ⟨19, _⟩ => ⟨S_, .f32⟩
  | .hbm, ⟨20, _⟩ => ⟨S96, .f32⟩
  | .hbm, ⟨21, _⟩ => ⟨S1920, .f32⟩
  | .hbm, ⟨22, _⟩ => ⟨S8x2048x1920, .f32⟩
  | .hbm, ⟨23, _⟩ => ⟨S_, .i32⟩
  | .hbm, ⟨24, _⟩ => ⟨S_, .f32⟩
  | .hbm, ⟨25, _⟩ => ⟨S8x2049x1920, .f32⟩
  | .hbm, ⟨26, _⟩ => ⟨S8x2048x1920, .f32⟩
  | .hbm, ⟨27, _⟩ => ⟨S8x2048x1920, .f32⟩
  | .hbm, ⟨28, _⟩ => ⟨S1x1x1920, .f32⟩
  | .hbm, ⟨29, _⟩ => ⟨S8x2048x1920, .f32⟩
  | .hbm, ⟨30, _⟩ => ⟨S8x2048x1920, .f32⟩
  | .hbm, ⟨31, _⟩ => ⟨S8x2048x1920, .f32⟩
  | .hbm, ⟨32, _⟩ => ⟨S8x2048x1920, .bf16⟩
  | .hbm, ⟨33, _⟩ => ⟨S8x2048x1536, .f32⟩
  | .hbm, ⟨34, _⟩ => ⟨S8x2048x512, .f32⟩
  | .hbm, ⟨35, _⟩ => ⟨S8x2048x512, .f32⟩
  | .hbm, ⟨36, _⟩ => ⟨S8x2048x512, .f32⟩
  | .hbm, ⟨37, _⟩ => ⟨S8x2048x512, .f32⟩
  | .hbm, ⟨38, _⟩ => ⟨S1x512, .f32⟩
  | .hbm, ⟨39, _⟩ => ⟨S512, .f32⟩
  | .hbm, ⟨40, _⟩ => ⟨S1x1x512, .f32⟩
  | .hbm, ⟨41, _⟩ => ⟨S8x2048x512, .f32⟩
  | .hbm, ⟨42, _⟩ => ⟨S8x2048x512, .f32⟩
  | .hbm, ⟨43, _⟩ => ⟨S1x512, .f32⟩
  | .hbm, ⟨44, _⟩ => ⟨S512, .f32⟩
  | .hbm, ⟨45, _⟩ => ⟨S_, .i32⟩
  | .hbm, ⟨46, _⟩ => ⟨S_, .f32⟩
  | .hbm, ⟨47, _⟩ => ⟨S8x2049x512, .f32⟩
  | .hbm, ⟨48, _⟩ => ⟨S8x2048x512, .f32⟩
  | .hbm, ⟨49, _⟩ => ⟨S1x1x512, .f32⟩
  | .hbm, ⟨50, _⟩ => ⟨S8x2048x512, .f32⟩
  | .hbm, ⟨51, _⟩ => ⟨S8x2048x512, .f32⟩
  | .hbm, ⟨52, _⟩ => ⟨S8x2048x512, .f32⟩
  | .hbm, ⟨53, _⟩ => ⟨S1x512, .f32⟩
  | .hbm, ⟨54, _⟩ => ⟨S512, .f32⟩
  | .hbm, ⟨55, _⟩ => ⟨S_, .i32⟩
  | .hbm, ⟨56, _⟩ => ⟨S_, .f32⟩
  | .hbm, ⟨57, _⟩ => ⟨S8x2050x512, .f32⟩
  | .hbm, ⟨58, _⟩ => ⟨S8x2048x512, .f32⟩
  | .hbm, ⟨59, _⟩ => ⟨S1x1x512, .f32⟩
  | .hbm, ⟨60, _⟩ => ⟨S8x2048x512, .f32⟩
  | .hbm, ⟨61, _⟩ => ⟨S8x2048x512, .f32⟩
  | .hbm, ⟨62, _⟩ => ⟨S8x2048x512, .f32⟩
  | .hbm, ⟨63, _⟩ => ⟨S8x2048x1536, .bf16⟩
  | .hbm, ⟨64, _⟩ => ⟨S8x2048x384, .bf16⟩
  | .hbm, ⟨65, _⟩ => ⟨S8x2048x512, .f32⟩
  | .hbm, ⟨66, _⟩ => ⟨S8x2048x512, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_1 : Ref sig .tc := ⟨.hbm, 45, rfl⟩
abbrev main_call1_v0 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_2 : Ref sig .tc := ⟨.hbm, 55, rfl⟩
abbrev main_call2_v0 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== Proof.TailRow.lean ====
/- One row of the layer's tail, as arithmetic of the extended reals on one token's 1024 numbers: the residual with its
   gate, the layer norm, and the squared-ReLU MLP. Both the kernels and the references of the two tails compute it. -/
module

public import Idealize.ShloMosaic.Lib.Pointwise
public import Idealize.ShloMosaic.PureOps.Ideal.Laws

@[expose] public section

noncomputable section

namespace Cert.Tail

open Idealize.ShloMosaic
open scoped BigOperators

/-- The float literal 1. -/
abbrev one : EReal := Ideal.ofBits .f32 0x3F800000#32

/-- The mean of a row: its sum divided by the literal 1024. -/
def mean (z : Fin 1024 → EReal) : EReal := Ideal.div (∑ k, z k) (Ideal.ofBits .f32 0x44800000#32)

/-- The layer norm of a row with gain `g` and offset `b`. -/
def lnorm (z g b : Fin 1024 → EReal) (j : Fin 1024) : EReal :=
  (z j - mean z) * Ideal.rsqrt (mean (fun k => (z k - mean z) * (z k - mean z)) + Ideal.ofBits .f32 0x3727C5AC#32) * g j + b j

/-- The gated residual `α x + (1 + gate) y` of a row. -/
def resid (x gate y : Fin 1024 → EReal) (j : Fin 1024) : EReal :=
  Ideal.ofBits .f32 0x3FB504F3#32 * x j + (one + gate j) * y j

/-- The input of the MLP: the row scaled and shifted. -/
def scaled (x sc sh : Fin 1024 → EReal) (j : Fin 1024) : EReal := x j * (one + sc j) + sh j

/-- The squared ReLU of one hidden unit. -/
def act (u : Fin 1024 → EReal) (w : Fin 1024 → EReal) : EReal :=
  max (∑ k, u k * w k) 0 * max (∑ k, u k * w k) 0

/-- The MLP of a row. -/
def mlp (u : Fin 1024 → EReal) (w1 : Fin 1024 → Fin 4096 → EReal) (w2 : Fin 4096 → Fin 1024 → EReal) (j : Fin 1024) : EReal :=
  ∑ f, act u (fun k => w1 k f) * w2 f j

/-- The first half of the tail: the normalised residual of the mixer's output `y`. -/
def first (y x : Fin 1024 → EReal) (mod : Fin 6 → Fin 1024 → EReal) (g b : Fin 2 → Fin 1024 → EReal) : Fin 1024 → EReal :=
  lnorm (resid x (mod 2) y) (g 0) (b 0)

/-- The second half of the tail, from the first half's row `x1`. -/
def second (x1 : Fin 1024 → EReal) (mod : Fin 6 → Fin 1024 → EReal) (g b : Fin 2 → Fin 1024 → EReal)
    (w1 : Fin 1024 → Fin 4096 → EReal) (w2 : Fin 4096 → Fin 1024 → EReal) : Fin 1024 → EReal :=
  lnorm (resid x1 (mod 5) (mlp (scaled x1 (mod 4) (mod 3)) w1 w2)) (g 1) (b 1)

/-- The row of the tail. -/
def row (y x : Fin 1024 → EReal) (mod : Fin 6 → Fin 1024 → EReal) (g b : Fin 2 → Fin 1024 → EReal)
    (w1 : Fin 1024 → Fin 4096 → EReal) (w2 : Fin 4096 → Fin 1024 → EReal) : Fin 1024 → EReal :=
  second (first y x mod g b) mod g b w1 w2

/-- The four chunks of 1024 hidden units. -/
def chunk (c : Fin 4) (k : Fin 1024) : Fin 4096 := ⟨1024 * c.val + k.val, by omega⟩

/-- The share of one chunk of hidden units in the MLP. -/
def part (u : Fin 1024 → EReal) (wa wb : Fin 1024 → Fin 1024 → EReal) (j : Fin 1024) : EReal :=
  ∑ k, act u (fun i => wa i k) * wb k j

/-- A sum over the 4096 hidden units, chunk by chunk. -/
theorem sum_chunks (f : Fin 4096 → EReal) :
    (∑ i, f i) = (∑ k, f (chunk 0 k)) + (∑ k, f (chunk 1 k)) + (∑ k, f (chunk 2 k)) + ∑ k, f (chunk 3 k) := by
  rw [← Equiv.sum_comp (finProdFinEquiv (m := 4) (n := 1024)) f, Fintype.sum_prod_type, Fin.sum_univ_four]
  have h : ∀ (c : Fin 4) (k : Fin 1024), finProdFinEquiv (c, k) = chunk c k := fun c k =>
    Fin.ext (by simp only [finProdFinEquiv, chunk, Equiv.coe_fn_mk]; omega)
  simp only [h]

/-- The MLP is the sum of its four chunks. -/
theorem mlp_eq (u : Fin 1024 → EReal) (w1 : Fin 1024 → Fin 4096 → EReal) (w2 : Fin 4096 → Fin 1024 → EReal) (j : Fin 1024) :
    mlp u w1 w2 j = part u (fun i k => w1 i (chunk 0 k)) (fun k => w2 (chunk 0 k)) j + part u (fun i k => w1 i (chunk 1 k)) (fun k => w2 (chunk 1 k)) j
      + part u (fun i k => w1 i (chunk 2 k)) (fun k => w2 (chunk 2 k)) j + part u (fun i k => w1 i (chunk 3 k)) (fun k => w2 (chunk 3 k)) j :=
  sum_chunks _

/-- A sum over 1024 positions, half by half. -/
theorem sum_halves (f : Fin 1024 → EReal) :
    (∑ i, f i) = (∑ k : Fin 512, f ⟨k.val, by omega⟩) + ∑ k : Fin 512, f ⟨512 + k.val, by omega⟩ := by
  rw [← Equiv.sum_comp (finProdFinEquiv (m := 2) (n := 512)) f, Fintype.sum_prod_type, Fin.sum_univ_two]
  congr 1 <;> refine Finset.sum_congr rfl fun k _ => congrArg f (Fin.ext ?_) <;>
    simp [finProdFinEquiv] <;> omega

end Cert.Tail

end
-- ==== Proof.EvenKernel.lean ====
/- What the even tail's kernel body computes, row by row. -/
module

public import proofs.«01_k».proof.Proof.Gen.EvenTailIdeal.Frame
public import proofs.«01_k».proof.Proof.TailRow

@[expose] public section

set_option maxRecDepth 16384

noncomputable section

namespace Cert.EvenTailIdeal.Val

open Idealize.ShloMosaic Cert.EvenTailIdeal.Gen Cert.Tail
open scoped BigOperators

/-- The first stored block: the second residual and layer norm. -/
theorem pay28_apply (v1 : FVec Ideal S6x1024 .f32) (x acc : FVec Ideal S256x1024 .f32) (g b : FVec Ideal S1x1x1024 .f32)
    (r : Fin 256) (j : Fin 1024) :
    k0_pay28 v1 x acc (Scalar.ofBits .f32 0x3FB504F3#32) g b (ix3 0 r j)
      = lnorm (resid (fun k => x (ix2 r k)) (fun k => v1 (ix2 5 k)) fun k => acc (ix2 r k)) (fun k => g (ix3 0 0 k)) (fun k => b (ix3 0 0 k)) j := by
  unfold lnorm mean resid
  pointwise [k0_pay28]

/-- The mixer's output of a row: the two halves of the projection. -/
def proj (ya yb : Fin 512 → EReal) (wa wb : Fin 512 → Fin 1024 → EReal) (j : Fin 1024) : EReal :=
  (∑ k, ya k * wa k j) + ∑ k, yb k * wb k j

/-- The residual of the upper rows. -/
theorem pay3_apply (v0 : Vec Ideal S1x6x1024 .f32) (ya yb : Vec Ideal S1x256x512 .bf16) (wa wb : Vec Ideal S512x1024 .bf16)
    (x : Vec Ideal S1x256x1024 .f32) (r : Fin 256) (j : Fin 1024) :
    k0_pay3 v0 ya yb wa wb x (ix2 r j) = resid (fun k => x (ix3 0 r k)) (fun k => v0 (ix3 0 2 k))
      (proj (fun k => ya (ix3 0 r k)) (fun k => yb (ix3 0 r k)) (fun k i => wa (ix2 k i)) fun k i => wb (ix2 k i)) j := by
  unfold resid proj
  pointwise [k0_pay3, k0_pay2]

/-- The first layer norm of the upper rows. -/
theorem pay8_apply (v0 : Vec Ideal S1x6x1024 .f32) (ya yb : Vec Ideal S1x256x512 .bf16) (wa wb : Vec Ideal S512x1024 .bf16)
    (x : Vec Ideal S1x256x1024 .f32) (g b : Vec Ideal S1x1x1024 .f32) (r : Fin 256) (j : Fin 1024) :
    k0_pay8 (k0_pay3 v0 ya yb wa wb x) (k0_pay4 g) (k0_pay5 b) (k0_pay6 v0 ya yb wa wb x) (k0_pay7 (F := Ideal)) (ix2 r j)
      = lnorm (fun k => k0_pay3 v0 ya yb wa wb x (ix2 r k)) (fun k => g (ix3 0 0 k)) (fun k => b (ix3 0 0 k)) j := by
  unfold k0_pay6
  generalize k0_pay3 v0 ya yb wa wb x = z
  unfold lnorm mean
  pointwise [k0_pay8, k0_pay4, k0_pay5, k0_pay7]

/-- The MLP's input of the upper rows. -/
theorem pay9_apply (v1 : FVec Ideal S6x1024 .f32) (v22 : FVec Ideal S256x1024 .f32) (v24 v26 : FVec Ideal S1x1024 .f32)
    (v28 v29 : FVec Ideal S256x1 .f32) (r : Fin 256) (j : Fin 1024) :
    k0_pay9 v1 v22 v24 v26 v28 v29 (ix2 r j)
      = scaled (fun k => k0_pay8 v22 v24 v26 v28 v29 (ix2 r k)) (fun k => v1 (ix2 4 k)) (fun k => v1 (ix2 3 k)) j := by
  unfold k0_pay9 scaled
  generalize k0_pay8 v22 v24 v26 v28 v29 = z
  pointwise []

/-- The projection of the lower rows. -/
theorem pay10_apply (ya yb : Vec Ideal S1x256x512 .bf16) (wa wb : Vec Ideal S512x1024 .bf16) (r : Fin 256) (j : Fin 1024) :
    k0_pay10 ya yb wa wb (ix2 r j)
      = proj (fun k => ya (ix3 0 r k)) (fun k => yb (ix3 0 r k)) (fun k i => wa (ix2 k i)) (fun k i => wb (ix2 k i)) j := by
  unfold proj
  pointwise [k0_pay10]

/-- The first layer norm of the lower rows. -/
theorem pay13_apply (v1 : FVec Ideal S6x1024 .f32) (y : FVec Ideal S256x1024 .f32) (x : Vec Ideal S1x256x1024 .f32)
    (g b : Vec Ideal S1x1x1024 .f32) (r : Fin 256) (j : Fin 1024) :
    k0_pay13 v1 y (k0_pay11 x) (k0_pay12 (F := Ideal)) g b (ix2 r j)
      = lnorm (resid (fun k => x (ix3 0 r k)) (fun k => v1 (ix2 2 k)) fun k => y (ix2 r k)) (fun k => g (ix3 0 0 k)) (fun k => b (ix3 0 0 k)) j := by
  unfold lnorm mean resid
  pointwise [k0_pay13, k0_pay11, k0_pay12]

/-- The MLP's input of the lower rows. -/
theorem pay14_apply (v1 : FVec Ideal S6x1024 .f32) (v66 v68 v69 : FVec Ideal S256x1024 .f32) (g b : Vec Ideal S1x1x1024 .f32)
    (r : Fin 256) (j : Fin 1024) :
    k0_pay14 v1 v66 v68 v69 g b (ix2 r j)
      = scaled (fun k => k0_pay13 v1 v66 v68 v69 g b (ix2 r k)) (fun k => v1 (ix2 4 k)) (fun k => v1 (ix2 3 k)) j := by
  unfold k0_pay14 scaled
  generalize k0_pay13 v1 v66 v68 v69 g b = z
  pointwise []

/-- The first two chunks of the MLP. -/
theorem pay19_apply (u : FVec Ideal S256x1024 .bf16) (a0 b0 a1 b1 : Vec Ideal S1x1024x1024 .f32) (r : Fin 256) (j : Fin 1024) :
    k0_pay19 u (k0_pay15 a0) b0 a1 b1 (ix2 r j)
      = part (fun k => u (ix2 r k)) (fun i k => a0 (ix3 0 i k)) (fun k i => b0 (ix3 0 k i)) j
        + part (fun k => u (ix2 r k)) (fun i k => a1 (ix3 0 i k)) (fun k i => b1 (ix3 0 k i)) j := by
  unfold part act
  pointwise [k0_pay19, k0_pay15, k0_pay16, k0_pay17, k0_pay18]

/-- The lower rows' first two chunks are computed as the upper rows'. -/
theorem pay20_eq : @k0_pay20 Ideal _ = @k0_pay19 Ideal _ := rfl

/-- The last two chunks of the MLP, added to the first two. -/
theorem pay26_apply (u : FVec Ideal S256x1024 .bf16) (acc : FVec Ideal S256x1024 .f32) (a0 b0 a1 b1 : Vec Ideal S1x1024x1024 .f32)
    (r : Fin 256) (j : Fin 1024) :
    k0_pay26 u acc (k0_pay21 a0) b0 a1 b1 (ix2 r j)
      = acc (ix2 r j) + part (fun k => u (ix2 r k)) (fun i k => a0 (ix3 0 i k)) (fun k i => b0 (ix3 0 k i)) j
        + part (fun k => u (ix2 r k)) (fun i k => a1 (ix3 0 i k)) (fun k i => b1 (ix3 0 k i)) j := by
  unfold part act
  pointwise [k0_pay26, k0_pay21, k0_pay22, k0_pay23, k0_pay24, k0_pay25]

/-- The lower rows' last two chunks are computed as the upper rows'. -/
theorem pay27_eq : @k0_pay27 Ideal _ = @k0_pay26 Ideal _ := rfl

/-- The second stored block: the lower rows' second residual and layer norm. -/
theorem pay1_apply (v1 : FVec Ideal S6x1024 .f32) (x acc : FVec Ideal S256x1024 .f32) (g b : FVec Ideal S1x1x1024 .f32)
    (r : Fin 256) (j : Fin 1024) :
    k0_pay1 (k0_pay29 x) (k0_pay30 v1 acc) g b (ix3 0 r j)
      = lnorm (resid (fun k => x (ix2 r k)) (fun k => v1 (ix2 5 k)) fun k => acc (ix2 r k)) (fun k => g (ix3 0 0 k)) (fun k => b (ix3 0 0 k)) j := by
  unfold lnorm mean resid
  pointwise [k0_pay1, k0_pay29, k0_pay30]

/-- The modulation rows. -/
theorem pay2_apply (v0 : Vec Ideal S1x6x1024 .f32) (a : Fin 6) (k : Fin 1024) : k0_pay2 v0 (ix2 a k) = v0 (ix3 0 a k) := by
  pointwise [k0_pay2]

end Cert.EvenTailIdeal.Val

end
-- ==== Proof.EvenBlock.lean ====
/- The block the even tail's kernel leaves, read at a row and a lane. -/
module

public import proofs.«01_k».proof.Proof.EvenKernel

@[expose] public section

set_option maxRecDepth 16384

noncomputable section

namespace Cert.EvenTailIdeal.Val

open Idealize.ShloMosaic Cert.EvenTailIdeal.Gen Cert.Tail
open scoped BigOperators

/-- A row of the upper half of a block of 512. -/
def up (r : Fin 256) : Fin 512 := ⟨r.val, by omega⟩
/-- A row of the lower half of a block of 512. -/
def lo (r : Fin 256) : Fin 512 := ⟨256 + r.val, by omega⟩
/-- A position of the first half of the projection. -/
def fst (k : Fin 512) : Fin 1024 := ⟨k.val, by omega⟩
/-- A position of the second half of the projection. -/
def snd (k : Fin 512) : Fin 1024 := ⟨512 + k.val, by omega⟩

/-- The MLP's output as the sum of its four chunks, for all lanes. -/
theorem mlp_chunks (u : Fin 1024 → EReal) (w1 : Fin 1024 → Fin 4096 → EReal) (w2 : Fin 4096 → Fin 1024 → EReal) :
    mlp u w1 w2 = fun j =>
      part u (fun i k => w1 i (chunk 0 k)) (fun k => w2 (chunk 0 k)) j + part u (fun i k => w1 i (chunk 1 k)) (fun k => w2 (chunk 1 k)) j
        + part u (fun i k => w1 i (chunk 2 k)) (fun k => w2 (chunk 2 k)) j + part u (fun i k => w1 i (chunk 3 k)) (fun k => w2 (chunk 3 k)) j :=
  funext (mlp_eq u w1 w2)

/-- The row of the tail that row `r` of the block should hold. -/
def rowOf (x0 x1 : Vec Ideal S1x512x512 .bf16) (x2 : Vec Ideal S1024x1024 .bf16) (x3 : Vec Ideal S1x512x1024 .f32)
    (x4 : Vec Ideal S1x6x1024 .f32) (x5 x6 : Vec Ideal S1x2x1024 .f32) (x7 : Vec Ideal S1x1024x4096 .f32) (x8 : Vec Ideal S1x4096x1024 .f32)
    (r : Fin 512) : Fin 1024 → EReal :=
  Tail.row (proj (fun k => x0 (ix3 0 r k)) (fun k => x1 (ix3 0 r k)) (fun k i => x2 (ix2 (fst k) i)) fun k i => x2 (ix2 (snd k) i))
    (fun k => x3 (ix3 0 r k)) (fun a k => x4 (ix3 0 a k)) (fun a k => x5 (ix3 0 a k)) (fun a k => x6 (ix3 0 a k))
    (fun k f => x7 (ix3 0 k f)) fun f k => x8 (ix3 0 f k)

/-- What the body leaves in the output's block, row by row. -/
theorem out_apply (x0 x1 : Vec Ideal S1x512x512 .bf16) (x2 : Vec Ideal S1024x1024 .bf16) (x3 : Vec Ideal S1x512x1024 .f32)
    (x4 : Vec Ideal S1x6x1024 .f32) (x5 x6 : Vec Ideal S1x2x1024 .f32) (x7 : Vec Ideal S1x1024x4096 .f32) (x8 : Vec Ideal S1x4096x1024 .f32)
    (r : Fin 512) (j : Fin 1024) :
    out0_9 x0 x1 x2 x3 x4 x5 x6 x7 x8 (ix3 0 r j) = rowOf x0 x1 x2 x3 x4 x5 x6 x7 x8 r j := by
  unfold_out out0_9
  by_cases h : r.val < 256
  · obtain ⟨q, rfl⟩ : ∃ q : Fin 256, up q = r := ⟨⟨r.val, h⟩, rfl⟩
    have e : (ix3 0 (up q) j : S1x512x1024.Idx) = r0_4.emb (ix3 0 q j) := by
      unfold up; funext a; apply Fin.ext
      match a with
      | ⟨0, _⟩ => rfl
      | ⟨1, _⟩ => simp [Rect.emb_apply, ix3]
      | ⟨2, _⟩ => simp [Rect.emb_apply, ix3]
    rw [View.canon_cons_of_not_mem]
    · rw [e, View.canon_cons_emb, pay28_apply]
      simp only [pay8_apply, pay9_apply, pay3_apply, pay19_apply, pay26_apply, pay2_apply]
      unfold rowOf Tail.row second first
      rw [mlp_chunks]
      unfold up fst snd chunk
      pointwise []
    · rw [e]
      show _ ∉ r0_7.set
      rw [Rect.mem_set_unit]
      intro hh
      have := (hh 1).1
      simp [Rect.emb_apply, ix3] at this
      omega
  · obtain ⟨q, rfl⟩ : ∃ q : Fin 256, lo q = r := ⟨⟨r.val - 256, by omega⟩, by unfold lo; ext; simp; omega⟩
    have e : (ix3 0 (lo q) j : S1x512x1024.Idx) = r0_7.emb (ix3 0 q j) := by
      unfold lo; funext a; apply Fin.ext
      match a with
      | ⟨0, _⟩ => rfl
      | ⟨1, _⟩ => simp [Rect.emb_apply, ix3]
      | ⟨2, _⟩ => simp [Rect.emb_apply, ix3]
    rw [e, View.canon_cons_emb]
    simp only [pay1_apply, pay13_apply, pay14_apply, pay10_apply, pay20_eq, pay27_eq, pay3_apply, pay19_apply, pay26_apply, pay2_apply]
    unfold rowOf Tail.row second first
    rw [mlp_chunks]
    unfold lo fst snd chunk
    pointwise []

end Cert.EvenTailIdeal.Val

end
-- ==== Proof.EvenValue.lean ====
/- The even tail's kernel leaves, in its result array, the row of the tail at every batch and token. -/
module

public import proofs.«01_k».proof.Proof.EvenBlock
public import proofs.«01_k».proof.Proof.Gen.EvenTailIdeal.Value

@[expose] public section

set_option maxRecDepth 16384

noncomputable section

namespace Cert.EvenTailIdeal.Val

open Idealize.ShloMosaic Idealize.ShloMosaic.TcCoe Idealize.SL.Sem Cert.EvenTailIdeal Cert.EvenTailIdeal.Gen Cert.Tail
open Idealize.ShloMosaic.Pipeline (Dat)

/-- The tail's result over the whole arrays. -/
def result (x0 x1 : FVec Ideal S8x2048x512 .bf16) (x2 : FVec Ideal S1024x1024 .f32) (x3 : FVec Ideal S8x2048x1024 .f32)
    (x4 : FVec Ideal S8x6x1024 .f32) (x5 x6 : FVec Ideal S2x2x1024 .f32) (x7 : FVec Ideal S2x1024x4096 .f32) (x8 : FVec Ideal S2x4096x1024 .f32) :
    FVec Ideal S8x2048x1024 .f32 := fun i =>
  Tail.row (proj (fun k => x0 (ix3 (i 0) (i 1) k)) (fun k => x1 (ix3 (i 0) (i 1) k)) (fun k i => x2 (ix2 (fst k) i)) fun k i => x2 (ix2 (snd k) i))
    (fun k => x3 (ix3 (i 0) (i 1) k)) (fun a k => x4 (ix3 (i 0) a k)) (fun a k => x5 (ix3 0 a k)) (fun a k => x6 (ix3 0 a k))
    (fun k f => x7 (ix3 0 k f)) (fun f k => x8 (ix3 0 f k)) (i 2)

/-- The batch of grid point `t`. -/
def batch (t : Fin cfg0.N) : Fin 8 := ⟨t.val / 4, by have h := t.isLt; have e : cfg0.N = 32 := N_0; omega⟩
/-- The token of row `r` of grid point `t`'s block. -/
def token (t : Fin cfg0.N) (r : Fin 512) : Fin 2048 := ⟨512 * (t.val % 4) + r.val, by omega⟩

theorem at0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
theorem at1 : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)
theorem at2 : ∀ t : Fin cfg0.N, win0_2.index t 0 = 0 ∧ win0_2.index t 1 = 0 :=
  (by decide +kernel : ∀ t : Fin grid0.N, win0_2.index t 0 = 0 ∧ win0_2.index t 1 = 0)
theorem at3 : ∀ t : Fin cfg0.N, win0_3.index t 0 = t.val / 4 ∧ win0_3.index t 1 = t.val % 4 ∧ win0_3.index t 2 = 0 :=
  (by decide +kernel : ∀ t : Fin grid0.N, win0_3.index t 0 = t.val / 4 ∧ win0_3.index t 1 = t.val % 4 ∧ win0_3.index t 2 = 0)
theorem at4 : ∀ t : Fin cfg0.N, win0_4.index t 0 = t.val / 4 ∧ win0_4.index t 1 = 0 ∧ win0_4.index t 2 = 0 :=
  (by decide +kernel : ∀ t : Fin grid0.N, win0_4.index t 0 = t.val / 4 ∧ win0_4.index t 1 = 0 ∧ win0_4.index t 2 = 0)
theorem at5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
theorem at6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)
theorem at7 : ∀ t : Fin cfg0.N, win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0)
theorem at8 : ∀ t : Fin cfg0.N, win0_8.index t 0 = 0 ∧ win0_8.index t 1 = 0 ∧ win0_8.index t 2 = 0 :=
  (by decide +kernel : ∀ t : Fin grid0.N, win0_8.index t 0 = 0 ∧ win0_8.index t 1 = 0 ∧ win0_8.index t 2 = 0)
theorem at9 : ∀ t : Fin cfg0.N, win0_9.index t 0 = t.val / 4 ∧ win0_9.index t 1 = t.val % 4 ∧ win0_9.index t 2 = 0 :=
  (by decide +kernel : ∀ t : Fin grid0.N, win0_9.index t 0 = t.val / 4 ∧ win0_9.index t 1 = t.val % 4 ∧ win0_9.index t 2 = 0)

variable (m : (ℓ : Loc nD τ sig) → Buf (Elt Ideal) ℓ) (ρ : Dev nD → PrngReg) (c : Dev nD) (t : Fin cfg0.N)
  (r : Fin 512) (k : Fin 512) (i j : Fin 1024) (f : Fin 4096)

theorem blk0 : iblk m c 0 t (ix3 0 r k) = m ((c : Thread nD τ).loc main_arg0) (ix3 (batch t) (token t r) k) := by
  show V m c main_arg0 _ = _
  rw [V_main_arg0]
  refine congrArg _ (funext fun a => Fin.ext ?_)
  match a with
  | ⟨0, _⟩ => show win0_0.index t 0 * 1 + 1 * 0 = t.val / 4; rw [(at0 t).1]; omega
  | ⟨1, _⟩ => show win0_0.index t 1 * 512 + 1 * r.val = 512 * (t.val % 4) + r.val; rw [(at0 t).2.1]; omega
  | ⟨2, _⟩ => show win0_0.index t 2 * 512 + 1 * k.val = k.val; rw [(at0 t).2.2]; omega

theorem blk1 : iblk m c 1 t (ix3 0 r k) = m ((c : Thread nD τ).loc main_arg1) (ix3 (batch t) (token t r) k) := by
  show V m c main_arg1 _ = _
  rw [V_main_arg1]
  refine congrArg _ (funext fun a => Fin.ext ?_)
  match a with
  | ⟨0, _⟩ => show win0_1.index t 0 * 1 + 1 * 0 = t.val / 4; rw [(at1 t).1]; omega
  | ⟨1, _⟩ => show win0_1.index t 1 * 512 + 1 * r.val = 512 * (t.val % 4) + r.val; rw [(at1 t).2.1]; omega
  | ⟨2, _⟩ => show win0_1.index t 2 * 512 + 1 * k.val = k.val; rw [(at1 t).2.2]; omega

/-- The projection's weights as the host hands them over: their values are unchanged. -/
theorem V_weights : V m c main_v0 = m ((c : Thread nD τ).loc main_arg2) := by
  show StableHlo.after hostOps0 (fun b => m (c, b)) (Proc.devRef .tc main_v0) = _
  unfold hostOps0
  after_results
  rfl

theorem blk2 : iblk m c 2 t (ix2 i j) = m ((c : Thread nD τ).loc main_arg2) (ix2 i j) := by
  show V m c main_v0 _ = _
  rw [V_weights]
  refine congrArg _ (funext fun a => Fin.ext ?_)
  match a with
  | ⟨0, _⟩ => show win0_2.index t 0 * 1024 + 1 * i.val = i.val; rw [(at2 t).1]; omega
  | ⟨1, _⟩ => show win0_2.index t 1 * 1024 + 1 * j.val = j.val; rw [(at2 t).2]; omega

theorem blk3 : iblk m c 3 t (ix3 0 r j) = m ((c : Thread nD τ).loc main_arg3) (ix3 (batch t) (token t r) j) := by
  show V m c main_arg3 _ = _
  rw [V_main_arg3]
  refine congrArg _ (funext fun a => Fin.ext ?_)
  match a with
  | ⟨0, _⟩ => show win0_3.index t 0 * 1 + 1 * 0 = t.val / 4; rw [(at3 t).1]; omega
  | ⟨1, _⟩ => show win0_3.index t 1 * 512 + 1 * r.val = 512 * (t.val % 4) + r.val; rw [(at3 t).2.1]; omega
  | ⟨2, _⟩ => show win0_3.index t 2 * 1024 + 1 * j.val = j.val; rw [(at3 t).2.2]; omega

theorem blk4 (q : Fin 6) : iblk m c 4 t (ix3 0 q j) = m ((c : Thread nD τ).loc main_arg4) (ix3 (batch t) q j) := by
  show V m c main_arg4 _ = _
  rw [V_main_arg4]
  refine congrArg _ (funext fun a => Fin.ext ?_)
  match a with
  | ⟨0, _⟩ => show win0_4.index t 0 * 1 + 1 * 0 = t.val / 4; rw [(at4 t).1]; omega
  | ⟨1, _⟩ => show win0_4.index t 1 * 6 + 1 * q.val = q.val; rw [(at4 t).2.1]; omega
  | ⟨2, _⟩ => show win0_4.index t 2 * 1024 + 1 * j.val = j.val; rw [(at4 t).2.2]; omega

theorem blk5 (q : Fin 2) : iblk m c 5 t (ix3 0 q j) = m ((c : Thread nD τ).loc main_arg5) (ix3 0 q j) := by
  show V m c main_arg5 _ = _
  rw [V_main_arg5]
  refine congrArg _ (funext fun a => Fin.ext ?_)
  match a with
  | ⟨0, _⟩ => show win0_5.index t 0 * 1 + 1 * 0 = 0; rw [(at5 t).1]
  | ⟨1, _⟩ => show win0_5.index t 1 * 2 + 1 * q.val = q.val; rw [(at5 t).2.1]; omega
  | ⟨2, _⟩ => show win0_5.index t 2 * 1024 + 1 * j.val = j.val; rw [(at5 t).2.2]; omega

theorem blk6 (q : Fin 2) : iblk m c 6 t (ix3 0 q j) = m ((c : Thread nD τ).loc main_arg6) (ix3 0 q j) := by
  show V m c main_arg6 _ = _
  rw [V_main_arg6]
  refine congrArg _ (funext fun a => Fin.ext ?_)
  match a with
  | ⟨0, _⟩ => show win0_6.index t 0 * 1 + 1 * 0 = 0; rw [(at6 t).1]
  | ⟨1, _⟩ => show win0_6.index t 1 * 2 + 1 * q.val = q.val; rw [(at6 t).2.1]; omega
  | ⟨2, _⟩ => show win0_6.index t 2 * 1024 + 1 * j.val = j.val; rw [(at6 t).2.2]; omega

theorem blk7 : iblk m c 7 t (ix3 0 i f) = m ((c : Thread nD τ).loc main_arg7) (ix3 0 i f) := by
  show V m c main_arg7 _ = _
  rw [V_main_arg7]
  refine congrArg _ (funext fun a => Fin.ext ?_)
  match a with
  | ⟨0, _⟩ => show win0_7.index t 0 * 1 + 1 * 0 = 0; rw [(at7 t).1]
  | ⟨1, _⟩ => show win0_7.index t 1 * 1024 + 1 * i.val = i.val; rw [(at7 t).2.1]; omega
  | ⟨2, _⟩ => show win0_7.index t 2 * 4096 + 1 * f.val = f.val; rw [(at7 t).2.2]; omega

theorem blk8 : iblk m c 8 t (ix3 0 f j) = m ((c : Thread nD τ).loc main_arg8) (ix3 0 f j) := by
  show V m c main_arg8 _ = _
  rw [V_main_arg8]
  refine congrArg _ (funext fun a => Fin.ext ?_)
  match a with
  | ⟨0, _⟩ => show win0_8.index t 0 * 1 + 1 * 0 = 0; rw [(at8 t).1]
  | ⟨1, _⟩ => show win0_8.index t 1 * 4096 + 1 * f.val = f.val; rw [(at8 t).2.1]; omega
  | ⟨2, _⟩ => show win0_8.index t 2 * 1024 + 1 * j.val = j.val; rw [(at8 t).2.2]; omega

/-- The tail's result over device `c`'s argument arrays. -/
abbrev final : Buf (Elt Ideal) ((c : Thread nD τ).loc main_v1) :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- Where row `r`, lane `j` of grid point `t`'s block lies in the result array. -/
theorem emb9 : ((cfg0.win 9).blk t).view.emb (ix3 0 r j) = (ix3 (batch t) (token t r) j : S8x2048x1024.Idx) := by
  refine funext fun a => Fin.ext ?_
  match a with
  | ⟨0, _⟩ => show win0_9.index t 0 * 1 + 1 * 0 = t.val / 4; rw [(at9 t).1]; omega
  | ⟨1, _⟩ => show win0_9.index t 1 * 512 + 1 * r.val = 512 * (t.val % 4) + r.val; rw [(at9 t).2.1]; omega
  | ⟨2, _⟩ => show win0_9.index t 2 * 1024 + 1 * j.val = j.val; rw [(at9 t).2.2]; omega

/-- Grid point `t` writes back its block of the result. -/
theorem flushed_eq : (dats m 0 c).flushed 9 t = ((cfg0.win 9).blk t).view.read (Elt Ideal) (final m c) := by
  rw [Value.flushed9]
  funext y
  obtain ⟨z, r, j, rfl⟩ : ∃ (z : Fin 1) (r : Fin 512) (j : Fin 1024), (ix3 z r j : S1x512x1024.Idx) = y := ⟨y 0, y 1, y 2, ix3_eta y⟩
  obtain rfl : z = 0 := Subsingleton.elim _ _
  show out0_9 _ _ _ _ _ _ _ _ _ (ix3 0 r j) = final m c (((cfg0.win 9).blk t).view.emb (ix3 0 r j))
  rw [out_apply, emb9]
  unfold final result rowOf
  simp only [blk0, blk1, blk2, blk3, blk4, blk5, blk6, blk7, blk8]
  rfl

/-- The blocks tile the result array. -/
theorem cover (y : S8x2048x1024.Idx) : ∃ t : Fin cfg0.N, (cfg0.win 9).flush t = true ∧ y ∈ ((cfg0.win 9).blk t).view.set := by
  have hN : cfg0.N = 32 := N_0
  have h0 : (y 0).val < 8 := (y 0).isLt
  have h1 : (y 1).val < 2048 := (y 1).isLt
  have lt : 4 * (y 0).val + (y 1).val / 512 < cfg0.N := by omega
  have g : (ix3 (batch ⟨_, lt⟩) (token ⟨_, lt⟩ ⟨(y 1).val % 512, by omega⟩) (y 2) : S8x2048x1024.Idx) = y := by
    refine funext fun a => Fin.ext ?_
    match a with
    | ⟨0, _⟩ => show (4 * (y 0).val + (y 1).val / 512) / 4 = (y 0).val; omega
    | ⟨1, _⟩ => show 512 * ((4 * (y 0).val + (y 1).val / 512) % 4) + (y 1).val % 512 = (y 1).val; omega
    | ⟨2, _⟩ => rfl
  exact ⟨⟨_, lt⟩, flush0_9 _, Finset.mem_map.mpr ⟨_, Finset.mem_univ _, (emb9 ⟨_, lt⟩ ⟨(y 1).val % 512, by omega⟩ (y 2)).trans g⟩⟩

/-- The kernel's result array after the run. -/
theorem final_eq : (dats m 0 c).arrAt 9 cfg0.N = final m c :=
  (dats m 0 c).arrAt_eq_of_cover 9 (final m c) (fun t _ => flushed_eq m c t) cover

end Cert.EvenTailIdeal.Val

end
-- ==== Proof.EvenRef.lean ====
/- The even tail's reference, read at a batch, a token and a lane. -/
module

public import proofs.«01_k».proof.Proof.Gen.EvenTailRefIdeal.Read
public import proofs.«01_k».proof.Proof.TailRow
public import Idealize.ShloMosaic.Lib.Pointwise

@[expose] public section

set_option maxRecDepth 16384

noncomputable section

namespace Cert.EvenTailRefIdeal.Val

open Idealize.ShloMosaic Cert.EvenTailRefIdeal Cert.EvenTailRefIdeal.Gen Cert.EvenTailRefIdeal.Read Cert.Tail
open scoped BigOperators

section
variable (x0 x1 : FVec Ideal S8x2048x512 .bf16) (x2 : FVec Ideal S1024x1024 .f32) (x3 : FVec Ideal S8x2048x1024 .f32)
  (x4 : FVec Ideal S8x6x1024 .f32) (x5 x6 : FVec Ideal S2x2x1024 .f32) (x7 : FVec Ideal S2x1024x4096 .f32) (x8 : FVec Ideal S2x4096x1024 .f32)
  (b : Fin 8) (t : Fin 2048) (j : Fin 1024)

/-- The projection: the two halves of the mixer's output laid side by side. -/
theorem v3_apply : val_main_v3 (F := Ideal) x0 x1 x2 (ix3 b t j)
    = (∑ k : Fin 512, x0 (ix3 b t k) * x2 (ix2 ⟨k.val, by omega⟩ j)) + ∑ k : Fin 512, x1 (ix3 b t k) * x2 (ix2 ⟨512 + k.val, by omega⟩ j) := by
  rw [val_main_v3_apply, sum_halves]
  congr 1
  · refine Finset.sum_congr rfl fun k _ => ?_
    rw [show lidx_main_v3 (ix3 b t j) ⟨k.val, by omega⟩ = ix3 b t ⟨k.val, by omega⟩ from by funext a; match a with | ⟨0, _⟩ => rfl | ⟨1, _⟩ => rfl | ⟨2, _⟩ => rfl,
      show ridx_main_v3 (ix3 b t j) ⟨k.val, by omega⟩ = ix2 ⟨k.val, by omega⟩ j from by funext a; match a with | ⟨0, _⟩ => rfl | ⟨1, _⟩ => rfl]
    congr 1
    pointwise [val_main_v2, val_main_v0, val_main_v1]
  · refine Finset.sum_congr rfl fun k _ => ?_
    rw [show lidx_main_v3 (ix3 b t j) ⟨512 + k.val, by omega⟩ = ix3 b t ⟨512 + k.val, by omega⟩ from by funext a; match a with | ⟨0, _⟩ => rfl | ⟨1, _⟩ => rfl | ⟨2, _⟩ => rfl,
      show ridx_main_v3 (ix3 b t j) ⟨512 + k.val, by omega⟩ = ix2 ⟨512 + k.val, by omega⟩ j from by funext a; match a with | ⟨0, _⟩ => rfl | ⟨1, _⟩ => rfl]
    congr 1
    pointwise [val_main_v2, val_main_v0, val_main_v1]

/-- The first residual. -/
theorem v28_apply : val_main_v28 (F := Ideal) x0 x1 x2 x3 x4 (ix3 b t j)
    = resid (fun k => x3 (ix3 b t k)) (fun k => x4 (ix3 b 2 k)) (fun k => val_main_v3 (F := Ideal) x0 x1 x2 (ix3 b t k)) j := by
  unfold val_main_v28 val_main_v27 resid
  generalize val_main_v3 (F := Ideal) x0 x1 x2 = y
  pointwise [val_main_v23, val_main_v22, val_main_cst, val_main_v26, val_main_v25, val_main_v24, val_main_cst_0, val_main_v12, val_main_v11, val_main_v10]

/-- The first layer norm. -/
theorem v56_apply : val_main_v56 (F := Ideal) x0 x1 x2 x3 x4 x5 x6 (ix3 b t j)
    = lnorm (fun k => val_main_v28 (F := Ideal) x0 x1 x2 x3 x4 (ix3 b t k)) (fun k => x5 (ix3 0 0 k)) (fun k => x6 (ix3 0 0 k)) j := by
  unfold val_main_v56 val_main_v53 val_main_v50 val_main_v49 val_main_v48 val_main_v47 val_main_v45 val_main_v44 val_main_v43 val_main_v41 val_main_v40 val_main_v39 val_main_v38 val_main_v37 val_main_v36 val_main_v34 val_main_v33
  generalize val_main_v28 (F := Ideal) x0 x1 x2 x3 x4 = z
  unfold lnorm mean
  pointwise [val_main_cst_1, val_main_cst_2, val_main_cst_3, val_main_cst_4, val_main_cst_5, val_main_v35, val_main_v42, val_main_v46, val_main_v52, val_main_v51, val_main_v30, val_main_v29, val_main_v55, val_main_v54, val_main_v32, val_main_v31]

/-- The MLP's input. -/
theorem v62_apply : val_main_v62 (F := Ideal) x0 x1 x2 x3 x4 x5 x6 (ix3 b t j)
    = scaled (fun k => val_main_v56 (F := Ideal) x0 x1 x2 x3 x4 x5 x6 (ix3 b t k)) (fun k => x4 (ix3 b 4 k)) (fun k => x4 (ix3 b 3 k)) j := by
  unfold val_main_v62 val_main_v60
  generalize val_main_v56 (F := Ideal) x0 x1 x2 x3 x4 x5 x6 = z
  unfold scaled
  pointwise [val_main_v59, val_main_v58, val_main_v57, val_main_cst_6, val_main_v18, val_main_v17, val_main_v16, val_main_v61, val_main_v15, val_main_v14, val_main_v13]

/-- The MLP's hidden layer. -/
theorem v67_apply (f : Fin 4096) : val_main_v67 (F := Ideal) x0 x1 x2 x3 x4 x5 x6 x7 (ix3 b t f)
    = act (fun k => val_main_v62 (F := Ideal) x0 x1 x2 x3 x4 x5 x6 (ix3 b t k)) fun k => x7 (ix3 0 k f) := by
  have e : val_main_v65 (F := Ideal) x0 x1 x2 x3 x4 x5 x6 x7 (ix3 b t f)
      = ∑ k, val_main_v62 (F := Ideal) x0 x1 x2 x3 x4 x5 x6 (ix3 b t k) * x7 (ix3 0 k f) := by
    rw [val_main_v65_apply]
    refine Finset.sum_congr rfl fun k _ => ?_
    rw [show lidx_main_v65 (ix3 b t f) k = ix3 b t k from by funext a; match a with | ⟨0, _⟩ => rfl | ⟨1, _⟩ => rfl | ⟨2, _⟩ => rfl,
      show ridx_main_v65 (ix3 b t f) k = ix2 k f from by funext a; match a with | ⟨0, _⟩ => rfl | ⟨1, _⟩ => rfl]
    congr 1
    pointwise [val_main_v64, val_main_v63]
  unfold act
  rw [← e]
  unfold val_main_v67 val_main_v66
  pointwise [val_main_call0_v0, val_main_call0_cst]

/-- The MLP's output. -/
theorem v70_apply : val_main_v70 (F := Ideal) x0 x1 x2 x3 x4 x5 x6 x7 x8 (ix3 b t j)
    = mlp (fun k => val_main_v62 (F := Ideal) x0 x1 x2 x3 x4 x5 x6 (ix3 b t k)) (fun k f => x7 (ix3 0 k f)) (fun f k => x8 (ix3 0 f k)) j := by
  rw [val_main_v70_apply]
  refine Finset.sum_congr rfl fun f _ => ?_
  rw [show lidx_main_v70 (ix3 b t j) f = ix3 b t f from by funext a; match a with | ⟨0, _⟩ => rfl | ⟨1, _⟩ => rfl | ⟨2, _⟩ => rfl,
    show ridx_main_v70 (ix3 b t j) f = ix2 f j from by funext a; match a with | ⟨0, _⟩ => rfl | ⟨1, _⟩ => rfl, v67_apply]
  congr 1
  pointwise [val_main_v69, val_main_v68]

/-- The second residual. -/
theorem v77_apply : val_main_v77 (F := Ideal) x0 x1 x2 x3 x4 x5 x6 x7 x8 (ix3 b t j)
    = resid (fun k => val_main_v56 (F := Ideal) x0 x1 x2 x3 x4 x5 x6 (ix3 b t k)) (fun k => x4 (ix3 b 5 k))
        (fun k => val_main_v70 (F := Ideal) x0 x1 x2 x3 x4 x5 x6 x7 x8 (ix3 b t k)) j := by
  unfold val_main_v77 val_main_v72 val_main_v76 resid
  generalize val_main_v70 (F := Ideal) x0 x1 x2 x3 x4 x5 x6 x7 x8 = y
  generalize val_main_v56 (F := Ideal) x0 x1 x2 x3 x4 x5 x6 = z
  pointwise [val_main_v71, val_main_cst_7, val_main_v75, val_main_v74, val_main_v73, val_main_cst_8, val_main_v21, val_main_v20, val_main_v19]

/-- The second layer norm. -/
theorem v105_apply : val_main_v105 (F := Ideal) x0 x1 x2 x3 x4 x5 x6 x7 x8 (ix3 b t j)
    = lnorm (fun k => val_main_v77 (F := Ideal) x0 x1 x2 x3 x4 x5 x6 x7 x8 (ix3 b t k)) (fun k => x5 (ix3 0 1 k)) (fun k => x6 (ix3 0 1 k)) j := by
  unfold val_main_v105 val_main_v102 val_main_v99 val_main_v98 val_main_v97 val_main_v96 val_main_v94 val_main_v93 val_main_v92 val_main_v90 val_main_v89 val_main_v88 val_main_v87 val_main_v86 val_main_v85 val_main_v83 val_main_v82
  generalize val_main_v77 (F := Ideal) x0 x1 x2 x3 x4 x5 x6 x7 x8 = z
  unfold lnorm mean
  pointwise [val_main_cst_9, val_main_cst_10, val_main_cst_11, val_main_cst_12, val_main_cst_13, val_main_v84, val_main_v91, val_main_v95, val_main_v101, val_main_v100, val_main_v79, val_main_v78, val_main_v104, val_main_v103, val_main_v81, val_main_v80]

/-- The reference's result, row by row. -/
theorem result_apply : val_main_v105 (F := Ideal) x0 x1 x2 x3 x4 x5 x6 x7 x8 (ix3 b t j)
    = Tail.row (fun i => (∑ k : Fin 512, x0 (ix3 b t k) * x2 (ix2 ⟨k.val, by omega⟩ i)) + ∑ k : Fin 512, x1 (ix3 b t k) * x2 (ix2 ⟨512 + k.val, by omega⟩ i))
        (fun k => x3 (ix3 b t k)) (fun a k => x4 (ix3 b a k)) (fun a k => x5 (ix3 0 a k)) (fun a k => x6 (ix3 0 a k))
        (fun k f => x7 (ix3 0 k f)) (fun f k => x8 (ix3 0 f k)) j := by
  rw [v105_apply]
  simp only [v77_apply, v70_apply, v62_apply, v56_apply, v28_apply, v3_apply]
  rfl

end

end Cert.EvenTailRefIdeal.Val

end
-- ==== Proof.EvenClaim.lean ====
/- The even tail's value claim: the kernel and its reference leave the same array. -/
module

public import proofs.«01_k».proof.Defs
public import proofs.«01_k».proof.Proof.Gen.EvenTail
public import proofs.«01_k».proof.Proof.EvenValue
public import proofs.«01_k».proof.Proof.EvenRef

@[expose] public section

set_option maxRecDepth 16384

noncomputable section

namespace Cert.EvenTailIdeal.Val

open Idealize.ShloMosaic Idealize.ShloMosaic.TcCoe Idealize.SL.Sem

/-- The reference's result is the tail's result over the whole arrays. -/
theorem reference_eq (x0 x1 : FVec Ideal S8x2048x512 .bf16) (x2 : FVec Ideal S1024x1024 .f32) (x3 : FVec Ideal S8x2048x1024 .f32)
    (x4 : FVec Ideal S8x6x1024 .f32) (x5 x6 : FVec Ideal S2x2x1024 .f32) (x7 : FVec Ideal S2x1024x4096 .f32) (x8 : FVec Ideal S2x4096x1024 .f32) :
    EvenTailRefIdeal.Read.val_main_v105 (F := Ideal) x0 x1 x2 x3 x4 x5 x6 x7 x8 = result x0 x1 x2 x3 x4 x5 x6 x7 x8 := by
  funext y
  obtain ⟨b, t, j, rfl⟩ : ∃ (b : Fin 8) (t : Fin 2048) (j : Fin 1024), (ix3 b t j : S8x2048x1024.Idx) = y := ⟨y 0, y 1, y 2, ix3_eta y⟩
  exact EvenTailRefIdeal.Val.result_apply x0 x1 x2 x3 x4 x5 x6 x7 x8 b t j

/-- Equal arguments have equal results. -/
theorem result_congr {x0 x1 y0 y1 : FVec Ideal S8x2048x512 .bf16} {x2 y2 : FVec Ideal S1024x1024 .f32} {x3 y3 : FVec Ideal S8x2048x1024 .f32}
    {x4 y4 : FVec Ideal S8x6x1024 .f32} {x5 x6 y5 y6 : FVec Ideal S2x2x1024 .f32} {x7 y7 : FVec Ideal S2x1024x4096 .f32} {x8 y8 : FVec Ideal S2x4096x1024 .f32}
    (e0 : x0 = y0) (e1 : x1 = y1) (e2 : x2 = y2) (e3 : x3 = y3) (e4 : x4 = y4) (e5 : x5 = y5) (e6 : x6 = y6) (e7 : x7 = y7) (e8 : x8 = y8) :
    result x0 x1 x2 x3 x4 x5 x6 x7 x8 = result y0 y1 y2 y3 y4 y5 y6 y7 y8 := by
  rw [e0, e1, e2, e3, e4, e5, e6, e7, e8]

/-- From arguments that agree, the kernel and the reference both end with the tail's result, their arguments unchanged. -/
theorem claim : algebraic_EvenTailIdeal_EvenTailRefIdeal := by
  intro m g m' g' _ e
  refine ⟨fun c => final m c, (θ_run _ _ _).mono (fun r h c => ⟨((h c).1).trans (final_eq m c), (h c).2⟩) (Value.run_blocks m g),
    (θ_run _ _ _).mono (fun r h c => ⟨?_, (h c).2⟩) (EvenTailRefIdeal.Value.run m' g')⟩
  obtain ⟨e0, e1, e2, e3, e4, e5, e6, e7, e8⟩ := e c
  rw [(h c).1, EvenTailRefIdeal.Read.val_main_v105_eq, reference_eq]
  exact result_congr e0 e1 e2 e3 e4 e5 e6 e7 e8

end Cert.EvenTailIdeal.Val

end
-- ==== Proof.OddMerge.lean ====
/- What the odd tail's kernel body gathers into its two natural-order scratch buffers. -/
module

public import proofs.«01_k».proof.Proof.Gen.OddTailIdeal.Frame
public import proofs.«01_k».proof.Proof.TailRow
public import Idealize.ShloMosaic.Lib.Pipeline.ReadBack
import all proofs.«01_k».proof.Proof.Gen.OddTailIdeal.Frame.RunA
import all proofs.«01_k».proof.Proof.Gen.OddTailIdeal.Frame

@[expose] public section

set_option maxRecDepth 16384

noncomputable section

namespace Cert.OddTailIdeal.Val

open Idealize.ShloMosaic Cert.OddTailIdeal.Gen
open scoped BigOperators

/-- The outputs of the group of dilation 4, in natural order: token `t` is row `t / 4` of residue `t % 4`. -/
def onat4 (x : Vec Ideal S1x4x128x512 .bf16) (y : S4x512x128.Idx) : EReal :=
  x (ix4 0 ⟨(y 1).val % 4, Nat.mod_lt _ (by decide)⟩ ⟨(y 1).val / 4, by have : (y 1).val < 512 := (y 1).2; show _ < 128; omega⟩
    ⟨128 * (y 0).val + (y 2).val, by have : (y 0).val < 4 := (y 0).2; have : (y 2).val < 128 := (y 2).2; show _ < 512; omega⟩)

/-- The outputs of the group of dilation 16, in natural order. -/
def onat16 (x : Vec Ideal S1x16x32x512 .bf16) (y : S4x512x128.Idx) : EReal :=
  x (ix4 0 ⟨(y 1).val % 16, Nat.mod_lt _ (by decide)⟩ ⟨(y 1).val / 16, by have : (y 1).val < 512 := (y 1).2; show _ < 32; omega⟩
    ⟨128 * (y 0).val + (y 2).val, by have : (y 0).val < 4 := (y 0).2; have : (y 2).val < 128 := (y 2).2; show _ < 512; omega⟩)

/-- The statistics of the group of dilation 4, in natural order. -/
def lnat4 (x : Vec Ideal S1x4x128x128 .f32) (y : S1x512x128.Idx) : EReal :=
  x (ix4 0 ⟨(y 1).val % 4, Nat.mod_lt _ (by decide)⟩ ⟨(y 1).val / 4, by have : (y 1).val < 512 := (y 1).2; show _ < 128; omega⟩ (y 2))

/-- The statistics of the group of dilation 16, in natural order. -/
def lnat16 (x : Vec Ideal S1x16x32x128 .f32) (y : S1x512x128.Idx) : EReal :=
  x (ix4 0 ⟨(y 1).val % 16, Nat.mod_lt _ (by decide)⟩ ⟨(y 1).val / 16, by have : (y 1).val < 512 := (y 1).2; show _ < 32; omega⟩ (y 2))

/-- One strided store of the outputs of dilation 4. -/
theorem piece_o4 (a : Memref sig .tc .vmem S1x4x128x512 .bf16) (ha : a.IsWhole) (x : Vec Ideal S1x4x128x512 .bf16) {c r o : ℕ}
    (hr : r < 4) (ho : o = 128 * c) {i1 i2 i3} (y : S1x128x128.Idx) :
    k0_pay54 (View.readAt (Elt Ideal) a.view (Rect.unit (s := S1x4x128x512) ![0, r, 0, o] S1x1x128x128.size i1).toLoadRect (ha.unread x)) y
      = onat4 x (Rect.emb (s := S4x512x128) { off := ![c, r, 0], size := S1x128x128.size, stride := ![1, 4, 1], inb := i2, stride_pos := i3 } y) := by
  obtain ⟨u, v, w, rfl⟩ : ∃ u v w, y = ix3 u v w := ⟨_, _, _, eq_ix3 y⟩
  rw [View.readAt_eq_ld, ha.read_unread]
  unfold onat4
  pointwise [k0_pay54]
  refine congrArg x (funext fun a => Fin.ext ?_)
  match a with
  | ⟨0, _⟩ => rfl
  | ⟨1, _⟩ => show r = (r + 4 * v.val) % 4; omega
  | ⟨2, _⟩ => show v.val = (r + 4 * v.val) / 4; omega
  | ⟨3, _⟩ => show o + w.val = 128 * (c + 1 * u.val) + (0 + 1 * w.val); omega

/-- One strided store of the outputs of dilation 16. -/
theorem piece_o16 (a : Memref sig .tc .vmem S1x16x32x512 .bf16) (ha : a.IsWhole) (x : Vec Ideal S1x16x32x512 .bf16) {c r o : ℕ}
    (hr : r < 16) (ho : o = 128 * c) {i1 i2 i3} (y : S1x32x128.Idx) :
    k0_pay128 (View.readAt (Elt Ideal) a.view (Rect.unit (s := S1x16x32x512) ![0, r, 0, o] S1x1x32x128.size i1).toLoadRect (ha.unread x)) y
      = onat16 x (Rect.emb (s := S4x512x128) { off := ![c, r, 0], size := S1x32x128.size, stride := ![1, 16, 1], inb := i2, stride_pos := i3 } y) := by
  obtain ⟨u, v, w, rfl⟩ : ∃ u v w, y = ix3 u v w := ⟨_, _, _, eq_ix3 y⟩
  rw [View.readAt_eq_ld, ha.read_unread]
  unfold onat16
  pointwise [k0_pay128]
  refine congrArg x (funext fun a => Fin.ext ?_)
  match a with
  | ⟨0, _⟩ => rfl
  | ⟨1, _⟩ => show r = (r + 16 * v.val) % 16; omega
  | ⟨2, _⟩ => show v.val = (r + 16 * v.val) / 16; omega
  | ⟨3, _⟩ => show o + w.val = 128 * (c + 1 * u.val) + (0 + 1 * w.val); omega

/-- One strided store of the statistics of dilation 4. -/
theorem piece_l4 (a : Memref sig .tc .vmem S1x4x128x128 .f32) (ha : a.IsWhole) (x : Vec Ideal S1x4x128x128 .f32) {r : ℕ}
    (hr : r < 4) {i1 i2 i3} (y : S1x128x128.Idx) :
    k0_pay3 (View.readAt (Elt Ideal) a.view (Rect.unit (s := S1x4x128x128) ![0, r, 0, 0] S1x1x128x128.size i1).toLoadRect (ha.unread x)) y
      = lnat4 x (Rect.emb (s := S1x512x128) { off := ![0, r, 0], size := S1x128x128.size, stride := ![1, 4, 1], inb := i2, stride_pos := i3 } y) := by
  obtain ⟨u, v, w, rfl⟩ : ∃ u v w, y = ix3 u v w := ⟨_, _, _, eq_ix3 y⟩
  rw [View.readAt_eq_ld, ha.read_unread]
  unfold lnat4
  pointwise [k0_pay3]
  refine congrArg x (funext fun a => Fin.ext ?_)
  match a with
  | ⟨0, _⟩ => rfl
  | ⟨1, _⟩ => show r = (r + 4 * v.val) % 4; omega
  | ⟨2, _⟩ => show v.val = (r + 4 * v.val) / 4; omega
  | ⟨3, _⟩ => show w.val = 0 + 1 * w.val; omega

/-- One strided store of the statistics of dilation 16. -/
theorem piece_l16 (a : Memref sig .tc .vmem S1x16x32x128 .f32) (ha : a.IsWhole) (x : Vec Ideal S1x16x32x128 .f32) {r : ℕ}
    (hr : r < 16) {i1 i2 i3} (y : S1x32x128.Idx) :
    k0_pay25 (View.readAt (Elt Ideal) a.view (Rect.unit (s := S1x16x32x128) ![0, r, 0, 0] S1x1x32x128.size i1).toLoadRect (ha.unread x)) y
      = lnat16 x (Rect.emb (s := S1x512x128) { off := ![0, r, 0], size := S1x32x128.size, stride := ![1, 16, 1], inb := i2, stride_pos := i3 } y) := by
  obtain ⟨u, v, w, rfl⟩ : ∃ u v w, y = ix3 u v w := ⟨_, _, _, eq_ix3 y⟩
  rw [View.readAt_eq_ld, ha.read_unread]
  unfold lnat16
  pointwise [k0_pay25]
  refine congrArg x (funext fun a => Fin.ext ?_)
  match a with
  | ⟨0, _⟩ => rfl
  | ⟨1, _⟩ => show r = (r + 16 * v.val) % 16; omega
  | ⟨2, _⟩ => show v.val = (r + 16 * v.val) / 16; omega
  | ⟨3, _⟩ => show w.val = 0 + 1 * w.val; omega

variable (c : Dev nD) (a3 : Memref sig .tc .vmem S1x4x128x512 .bf16) (h3 : a3.IsWhole) (a4 : Memref sig .tc .vmem S1x16x32x512 .bf16) (h4 : a4.IsWhole)
  (a6 : Memref sig .tc .vmem S1x4x128x128 .f32) (h6 : a6.IsWhole) (a7 : Memref sig .tc .vmem S1x16x32x128 .f32) (h7 : a7.IsWhole)
  (x1 : Vec Ideal S1x4x128x512 .bf16) (x2 : Vec Ideal S1x16x32x512 .bf16) (x4 : Vec Ideal S1x4x128x128 .f32) (x5 : Vec Ideal S1x16x32x128 .f32)

/-- The stores of the outputs of dilation 4. -/
theorem o4_pieces : View.PiecesOf (onat4 x1) (kernelRun0_A.sl.HS0_16 c a3 h3 x1) := by
  repeat' first | exact trivial | refine ⟨piece_o4 a3 h3 x1 (by decide) (by decide), ?_⟩

set_option maxHeartbeats 2000000 in
/-- The stores of the outputs of dilation 16. -/
theorem o16_pieces : View.PiecesOf (onat16 x2) ((kernelRun0_A.sl.HS0_80 c a3 h3 a4 h4 x1 x2).take 64) := by
  unfold kernelRun0_A.sl.HS0_80
  simp only [List.take_succ_cons, List.take_zero]
  repeat' first | exact trivial | refine ⟨piece_o16 a4 h4 x2 (by decide) (by decide), ?_⟩

/-- The stores of the statistics of dilation 4. -/
theorem l4_pieces : View.PiecesOf (lnat4 x4) (kernelRun0_A.sl.HS1_4 c a6 h6 x4) := by
  repeat' first | exact trivial | refine ⟨piece_l4 a6 h6 x4 (by decide), ?_⟩

/-- The stores of the statistics of dilation 16. -/
theorem l16_pieces : View.PiecesOf (lnat16 x5) ((kernelRun0_A.sl.HS1_20 c a6 h6 a7 h7 x4 x5).take 16) := by
  repeat' first | exact trivial | refine ⟨piece_l16 a7 h7 x5 (by decide), ?_⟩

/-- The stores of the outputs of dilation 4 cover the buffer. -/
theorem o4_cover (y : S4x512x128.Idx) : ∃ p ∈ kernelRun0_A.sl.HS0_16 c a3 h3 x1, y ∈ p.1.set := by
  have y0 : (y 0).val < 4 := (y 0).2
  have y1 : (y 1).val < 512 := (y 1).2
  have hl : (kernelRun0_A.sl.HS0_16 c a3 h3 x1).length = 16 := rfl
  have key : ∀ (e : Fin 4) (r : Fin 4), ∃ p ∈ kernelRun0_A.sl.HS0_16 c a3 h3 x1, p.1.off = ![e.val, r.val, 0]
      ∧ p.1.size = S1x128x128.size ∧ p.1.stride = ![1, 4, 1] := by
    intro e r
    have hk : (3 - e.val) * 4 + (3 - r.val) < (kernelRun0_A.sl.HS0_16 c a3 h3 x1).length := by omega
    refine ⟨_, List.getElem_mem hk, ?_⟩
    fin_cases e <;> fin_cases r <;> exact ⟨rfl, rfl, rfl⟩
  obtain ⟨p, hp, ho, hs, ht⟩ := key ⟨(y 0).val, y0⟩ ⟨(y 1).val % 4, by omega⟩
  refine ⟨p, hp, p.1.mem_set.mpr ?_⟩
  rw [ho, hs, ht]
  intro a
  match a with
  | ⟨0, _⟩ => exact ⟨0, show 0 < 1 from Nat.one_pos, show (y 0).val = (y 0).val + 1 * 0 by omega⟩
  | ⟨1, _⟩ => exact ⟨(y 1).val / 4, show _ < 128 by omega, show (y 1).val = (y 1).val % 4 + 4 * ((y 1).val / 4) by omega⟩
  | ⟨2, _⟩ => exact ⟨(y 2).val, (y 2).2, show (y 2).val = 0 + 1 * (y 2).val by omega⟩

/-- The stores of the outputs of dilation 16 cover the buffer. -/
theorem o16_cover (y : S4x512x128.Idx) : ∃ p ∈ (kernelRun0_A.sl.HS0_80 c a3 h3 a4 h4 x1 x2).take 64, y ∈ p.1.set := by
  have y0 : (y 0).val < 4 := (y 0).2
  have y1 : (y 1).val < 512 := (y 1).2
  have hl : ((kernelRun0_A.sl.HS0_80 c a3 h3 a4 h4 x1 x2).take 64).length = 64 := rfl
  have key : ∀ (e : Fin 4) (r : Fin 16), ∃ p ∈ (kernelRun0_A.sl.HS0_80 c a3 h3 a4 h4 x1 x2).take 64, p.1.off = ![e.val, r.val, 0]
      ∧ p.1.size = S1x32x128.size ∧ p.1.stride = ![1, 16, 1] := by
    intro e r
    have hk : (3 - e.val) * 16 + (15 - r.val) < ((kernelRun0_A.sl.HS0_80 c a3 h3 a4 h4 x1 x2).take 64).length := by omega
    refine ⟨_, List.getElem_mem hk, ?_⟩
    fin_cases e <;> fin_cases r <;> exact ⟨rfl, rfl, rfl⟩
  obtain ⟨p, hp, ho, hs, ht⟩ := key ⟨(y 0).val, y0⟩ ⟨(y 1).val % 16, by omega⟩
  refine ⟨p, hp, p.1.mem_set.mpr ?_⟩
  rw [ho, hs, ht]
  intro a
  match a with
  | ⟨0, _⟩ => exact ⟨0, show 0 < 1 from Nat.one_pos, show (y 0).val = (y 0).val + 1 * 0 by omega⟩
  | ⟨1, _⟩ => exact ⟨(y 1).val / 16, show _ < 32 by omega, show (y 1).val = (y 1).val % 16 + 16 * ((y 1).val / 16) by omega⟩
  | ⟨2, _⟩ => exact ⟨(y 2).val, (y 2).2, show (y 2).val = 0 + 1 * (y 2).val by omega⟩

/-- The stores of the statistics of dilation 4 cover the buffer. -/
theorem l4_cover (y : S1x512x128.Idx) : ∃ p ∈ kernelRun0_A.sl.HS1_4 c a6 h6 x4, y ∈ p.1.set := by
  have y0 : (y 0).val < 1 := (y 0).2
  have y1 : (y 1).val < 512 := (y 1).2
  have hl : (kernelRun0_A.sl.HS1_4 c a6 h6 x4).length = 4 := rfl
  have key : ∀ (r : Fin 4), ∃ p ∈ kernelRun0_A.sl.HS1_4 c a6 h6 x4, p.1.off = ![0, r.val, 0]
      ∧ p.1.size = S1x128x128.size ∧ p.1.stride = ![1, 4, 1] := by
    intro r
    have hk : 3 - r.val < (kernelRun0_A.sl.HS1_4 c a6 h6 x4).length := by omega
    refine ⟨_, List.getElem_mem hk, ?_⟩
    fin_cases r <;> exact ⟨rfl, rfl, rfl⟩
  obtain ⟨p, hp, ho, hs, ht⟩ := key ⟨(y 1).val % 4, by omega⟩
  refine ⟨p, hp, p.1.mem_set.mpr ?_⟩
  rw [ho, hs, ht]
  intro a
  match a with
  | ⟨0, _⟩ => exact ⟨0, show 0 < 1 from Nat.one_pos, show (y 0).val = 0 + 1 * 0 by omega⟩
  | ⟨1, _⟩ => exact ⟨(y 1).val / 4, show _ < 128 by omega, show (y 1).val = (y 1).val % 4 + 4 * ((y 1).val / 4) by omega⟩
  | ⟨2, _⟩ => exact ⟨(y 2).val, (y 2).2, show (y 2).val = 0 + 1 * (y 2).val by omega⟩

/-- The stores of the statistics of dilation 16 cover the buffer. -/
theorem l16_cover (y : S1x512x128.Idx) : ∃ p ∈ (kernelRun0_A.sl.HS1_20 c a6 h6 a7 h7 x4 x5).take 16, y ∈ p.1.set := by
  have y0 : (y 0).val < 1 := (y 0).2
  have y1 : (y 1).val < 512 := (y 1).2
  have hl : ((kernelRun0_A.sl.HS1_20 c a6 h6 a7 h7 x4 x5).take 16).length = 16 := rfl
  have key : ∀ (r : Fin 16), ∃ p ∈ (kernelRun0_A.sl.HS1_20 c a6 h6 a7 h7 x4 x5).take 16, p.1.off = ![0, r.val, 0]
      ∧ p.1.size = S1x32x128.size ∧ p.1.stride = ![1, 16, 1] := by
    intro r
    have hk : 15 - r.val < ((kernelRun0_A.sl.HS1_20 c a6 h6 a7 h7 x4 x5).take 16).length := by omega
    refine ⟨_, List.getElem_mem hk, ?_⟩
    fin_cases r <;> exact ⟨rfl, rfl, rfl⟩
  obtain ⟨p, hp, ho, hs, ht⟩ := key ⟨(y 1).val % 16, by omega⟩
  refine ⟨p, hp, p.1.mem_set.mpr ?_⟩
  rw [ho, hs, ht]
  intro a
  match a with
  | ⟨0, _⟩ => exact ⟨0, show 0 < 1 from Nat.one_pos, show (y 0).val = 0 + 1 * 0 by omega⟩
  | ⟨1, _⟩ => exact ⟨(y 1).val / 16, show _ < 32 by omega, show (y 1).val = (y 1).val % 16 + 16 * ((y 1).val / 16) by omega⟩
  | ⟨2, _⟩ => exact ⟨(y 2).val, (y 2).2, show (y 2).val = 0 + 1 * (y 2).val by omega⟩

/-- The buffer of outputs after the stores of dilation 4. -/
theorem o4_canon : View.canon (kernelRun0_A.sl.HS0_16 c a3 h3 x1) = onat4 x1 :=
  funext fun y => View.canon_apply_of_pieces _ _ (o4_pieces c a3 h3 x1).mem y (o4_cover c a3 h3 x1 y)

/-- The buffer of outputs after the stores of dilation 16. -/
theorem o16_canon : View.canon (kernelRun0_A.sl.HS0_80 c a3 h3 a4 h4 x1 x2) = onat16 x2 :=
  funext fun y => (congrArg (fun L => View.canon L y) (List.take_append_drop 64 _).symm).trans
    (View.canon_append_of_piecesOf _ _ _ (o16_pieces c a3 h3 a4 h4 x1 x2) y (o16_cover c a3 h3 a4 h4 x1 x2 y))

/-- The buffer of statistics after the stores of dilation 4. -/
theorem l4_canon : View.canon (kernelRun0_A.sl.HS1_4 c a6 h6 x4) = lnat4 x4 :=
  funext fun y => View.canon_apply_of_pieces _ _ (l4_pieces c a6 h6 x4).mem y (l4_cover c a6 h6 x4 y)

/-- The buffer of statistics after the stores of dilation 16. -/
theorem l16_canon : View.canon (kernelRun0_A.sl.HS1_20 c a6 h6 a7 h7 x4 x5) = lnat16 x5 :=
  funext fun y => (congrArg (fun L => View.canon L y) (List.take_append_drop 16 _).symm).trans
    (View.canon_append_of_piecesOf _ _ _ (l16_pieces c a6 h6 a7 h7 x4 x5) y (l16_cover c a6 h6 a7 h7 x4 x5 y))

end Cert.OddTailIdeal.Val

end
-- ==== Proof.MergeRow.lean ====
/- The weights that merge three attention groups: the softmax of their three log denominators, as the kernel forms it and
   as the reference does, and why the two agree on finite numbers. -/
module

public import Idealize.ShloMosaic.Lib.Pointwise
public import Idealize.ShloMosaic.Lib.IdealHost
public import proofs.«01_k».proof.Proof.TailRow

@[expose] public section

noncomputable section

namespace Cert.Tail

open Idealize.ShloMosaic
open scoped BigOperators

/-- The sum of the three exponentials, each shifted by the largest. -/
def total (a b c : EReal) : EReal :=
  Ideal.exp (a - max (max a b) c) + Ideal.exp (b - max (max a b) c) + Ideal.exp (c - max (max a b) c)

/-- The weight of the group with statistic `s` among three with statistics `a`, `b`, `c`, as the kernel computes it. -/
def weight (a b c s : EReal) : EReal := Ideal.exp (s - max (max a b) c) * Ideal.div one (total a b c)

/-- The weight as the reference computes it. -/
def soft (a b c s : EReal) : EReal := Ideal.div (Ideal.exp (s - max (max a b) c)) (total a b c)

/-- The sum of the exponentials of finite statistics is not 0. -/
theorem total_ne_zero (a b c : ℝ) : total (a : EReal) b c ≠ 0 := by
  obtain ⟨m, hm⟩ : ∃ m : ℝ, max (max (a : EReal) b) c = m := ⟨max (max a b) c, by
    rw [EReal.coe_strictMono.monotone.map_max, EReal.coe_strictMono.monotone.map_max]⟩
  unfold total
  rw [hm, ← EReal.coe_sub, ← EReal.coe_sub, ← EReal.coe_sub, Ideal.exp_coe, Ideal.exp_coe, Ideal.exp_coe, ← EReal.coe_add, ← EReal.coe_add]
  have : 0 < Real.exp (a - m) + Real.exp (b - m) + Real.exp (c - m) := by positivity
  exact_mod_cast this.ne'

/-- Where the statistics are finite, dividing and multiplying by the reciprocal give the same weight. -/
theorem soft_eq_weight (a b c : ℝ) (s : EReal) : soft a b c s = weight a b c s := by
  unfold soft weight Ideal.div
  rw [if_neg (total_ne_zero a b c), if_neg (total_ne_zero a b c)]
  simp only [one, Ideal.ofBits_one_f32, one_mul]

/-- A maximum over three, from −∞. -/
theorem fold_three (f : Fin 3 → EReal) : max (Ideal.ofBits .f32 0xFF800000#32) (Finset.univ.fold max (Ideal.ofBits .f32 0xFF800000#32) f)
    = max (max (f 0) (f 1)) (f 2) := by
  have hb : Ideal.ofBits .f32 0xFF800000#32 = ⊥ := by simp [Ideal.ofBits, Ideal.ieee]
  rw [hb, max_eq_right bot_le, show (Finset.univ : Finset (Fin 3)) = {0, 1, 2} from rfl, Finset.fold_insert (by decide), Finset.fold_insert (by decide),
    Finset.fold_singleton, max_eq_left (bot_le : ⊥ ≤ f 2), max_assoc]

end Cert.Tail

end
-- ==== Proof.OddMix.lean ====
/- What the odd tail's kernel body merges: the three groups' outputs with the softmax of their statistics. -/
module

public import proofs.«01_k».proof.Proof.OddMerge
public import proofs.«01_k».proof.Proof.MergeRow
import all proofs.«01_k».proof.Proof.Gen.OddTailIdeal.Frame.RunA
import all proofs.«01_k».proof.Proof.Gen.OddTailIdeal.Frame

@[expose] public section

set_option maxRecDepth 16384

noncomputable section

namespace Cert.OddTailIdeal.Val

open Idealize.ShloMosaic Cert.OddTailIdeal.Gen Cert.Tail
open scoped BigOperators

/-- The first group's weight. -/
theorem pay28_apply (a b : FVec Ideal S512x128 .f32) (c : Vec Ideal S1x512x128 .f32) (t : Fin 512) (l : Fin 128) :
    k0_pay28 a b c (ix2 t l) * k0_pay31 a b c (ix2 t l) = weight (a (ix2 t l)) (b (ix2 t l)) (c (ix3 0 t l)) (a (ix2 t l)) := by
  unfold weight total
  pointwise [k0_pay28, k0_pay31, k0_pay29, k0_pay30, k0_pay27, k0_pay26]

/-- The second group's weight. -/
theorem pay29_apply (a b : FVec Ideal S512x128 .f32) (c : Vec Ideal S1x512x128 .f32) (t : Fin 512) (l : Fin 128) :
    k0_pay29 a b c (ix2 t l) * k0_pay31 a b c (ix2 t l) = weight (a (ix2 t l)) (b (ix2 t l)) (c (ix3 0 t l)) (b (ix2 t l)) := by
  unfold weight total
  pointwise [k0_pay28, k0_pay31, k0_pay29, k0_pay30, k0_pay27, k0_pay26]

/-- The third group's weight. -/
theorem pay30_apply (a b : FVec Ideal S512x128 .f32) (c : Vec Ideal S1x512x128 .f32) (t : Fin 512) (l : Fin 128) :
    k0_pay30 a b c (ix2 t l) * k0_pay31 a b c (ix2 t l) = weight (a (ix2 t l)) (b (ix2 t l)) (c (ix3 0 t l)) (c (ix3 0 t l)) := by
  unfold weight total
  pointwise [k0_pay28, k0_pay31, k0_pay29, k0_pay30, k0_pay27, k0_pay26]

/-- The head of a lane: lanes go 64 to a head. -/
def head (j : Fin 512) : Fin 128 := ⟨j.val / 64, by omega⟩

/-- The kernel's floor division of a lane by 64. -/
theorem floor64 : ∀ j : Fin 512, Scalar.select
          (IntOp.andi
            (IntOp.cmpi CmpIPredicate.ne
              (IntOp.subi (BitVec.setWidth 32 (IntOp.cmpi CmpIPredicate.sgt (BitVec.ofNat 32 j.val) 0#32))
                (BitVec.setWidth 32 (IntOp.cmpi CmpIPredicate.slt (BitVec.ofNat 32 j.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 j.val) 64#32) 0#32))
          (IntOp.subi (IntOp.divsi ArithUnit.vector (BitVec.ofNat 32 j.val) 64#32) 1#32)
          (IntOp.divsi ArithUnit.vector (BitVec.ofNat 32 j.val) 64#32) = BitVec.ofNat 32 (j.val / 64) := by
  decide +kernel

/-- The 0/1 matrix that spreads a head's number over its 64 lanes. -/
theorem spread_apply (k : Fin 128) (j : Fin 512) :
    k0_pay34 (F := Ideal) kernelRun0_A.sl.v118 kernelRun0_A.sl.v119 64#32
      k0_pay32 k0_pay33 (ix2 k j) = if k = head j then 1 else 0 := by
  unfold kernelRun0_A.sl.v118 kernelRun0_A.sl.v119
  pointwise [k0_pay34, k0_pay32, k0_pay33]
  rw [floor64 j]
  by_cases h : k = head j
  · subst h
    simp [head, Scalar.select, IntOp.cmpi]
  · have hn : BitVec.ofNat 32 k.val ≠ BitVec.ofNat 32 (j.val / 64) := fun e => h (Fin.ext (by
      have := congrArg BitVec.toNat e
      simp only [BitVec.toNat_ofNat] at this
      show k.val = j.val / 64
      omega))
    simp [h, beq_false_of_ne hn, Scalar.select, IntOp.cmpi]

/-- Multiplying by that matrix reads the head's number. -/
theorem spread_sum (a : Fin 128 → EReal) (j : Fin 512) :
    (∑ k, a k * k0_pay34 (F := Ideal) kernelRun0_A.sl.v118 kernelRun0_A.sl.v119 64#32 k0_pay32 k0_pay33 (ix2 k j)) = a (head j) := by
  simp only [spread_apply, mul_ite, mul_one, mul_zero, Finset.sum_ite_eq', Finset.mem_univ, if_true]

/-- The first group's share. -/
theorem pay35_apply (e v : FVec Ideal S512x128 .f32) (p q : IVec S128x512 32) (n : BitVec 32) (p' q' : IVec S128x512 32) (o : Vec Ideal S1x1x512x512 .bf16)
   (t j : Fin 512) : k0_pay35 e v p q n p' q' o (ix2 t j) = (∑ k, e (ix2 t k) * v (ix2 t k) * k0_pay34 (F := Ideal) p q n p' q' (ix2 k j)) * o (ix4 0 0 t j) := by
  unfold k0_pay35
  generalize k0_pay34 (F := Ideal) p q n p' q' = w
  pointwise []

/-- The second group's weight, spread. -/
theorem pay36_apply (e v : FVec Ideal S512x128 .f32) (p q : IVec S128x512 32) (n : BitVec 32) (p' q' : IVec S128x512 32)
   (t j : Fin 512) : k0_pay36 e v p q n p' q' (ix2 t j) = ∑ k, e (ix2 t k) * v (ix2 t k) * k0_pay34 (F := Ideal) p q n p' q' (ix2 k j) := by
  unfold k0_pay36
  generalize k0_pay34 (F := Ideal) p q n p' q' = w
  pointwise []

/-- The third group's weight, spread. -/
theorem pay56_apply (e v : FVec Ideal S512x128 .f32) (w : FVec Ideal S128x512 .bf16)
   (t j : Fin 512) : k0_pay56 e v w (ix2 t j) = ∑ k, e (ix2 t k) * v (ix2 t k) * w (ix2 k j) := by
  pointwise [k0_pay56]

/-- Four buffers of 128 lanes side by side, read at a lane of 512. -/
theorem lanes_apply (n : Vec Ideal S4x512x128 .f32) (v0 v1 v2 v3 : Vec Ideal S1x512x128 .f32)
    (h0 : ∀ t l, v0 (ix3 0 t l) = n (ix3 0 t l)) (h1 : ∀ t l, v1 (ix3 0 t l) = n (ix3 1 t l)) (h2 : ∀ t l, v2 (ix3 0 t l) = n (ix3 2 t l))
    (h3 : ∀ t l, v3 (ix3 0 t l) = n (ix3 3 t l)) (t j : Fin 512) :
    (if h : j.val < 128 then v0 (ix3 0 t ⟨j.val, h⟩)
      else if h : j.val - 128 < 128 then v1 (ix3 0 t ⟨j.val - 128, h⟩)
      else if h : j.val - 128 - 128 < 128 then v2 (ix3 0 t ⟨j.val - 128 - 128, h⟩)
      else v3 (ix3 0 t ⟨j.val - 128 - 128 - 128, by omega⟩)) = n (ix3 ⟨j.val / 128, by omega⟩ t ⟨j.val % 128, by omega⟩) := by
  have e : ∀ (c : Fin 4) (l : Fin 128), c.val = j.val / 128 → l.val = j.val % 128 →
      n (ix3 c t l) = n (ix3 ⟨j.val / 128, by omega⟩ t ⟨j.val % 128, by omega⟩) := fun c l hc hl => by
    rw [show c = ⟨j.val / 128, by omega⟩ from Fin.ext hc, show l = ⟨j.val % 128, by omega⟩ from Fin.ext hl]
  split_ifs
  · rw [h0]; exact e 0 _ (by show 0 = _; omega) (by show j.val = _; omega)
  · rw [h1]; exact e 1 _ (by show 1 = _; omega) (by show j.val - 128 = _; omega)
  · rw [h2]; exact e 2 _ (by show 2 = _; omega) (by show j.val - 128 - 128 = _; omega)
  · rw [h3]; exact e 3 _ (by show 3 = _; omega) (by show j.val - 128 - 128 - 128 = _; omega)

/-- The second group's share added. -/
theorem pay55_apply (a b : FVec Ideal S512x512 .f32) (n : Vec Ideal S4x512x128 .f32) (v0 v1 v2 v3 : Vec Ideal S1x512x128 .f32)
    (h0 : ∀ t l, v0 (ix3 0 t l) = n (ix3 0 t l)) (h1 : ∀ t l, v1 (ix3 0 t l) = n (ix3 1 t l)) (h2 : ∀ t l, v2 (ix3 0 t l) = n (ix3 2 t l))
    (h3 : ∀ t l, v3 (ix3 0 t l) = n (ix3 3 t l)) (t j : Fin 512) :
    k0_pay55 a b v0 v1 v2 v3 (ix2 t j) = a (ix2 t j) + b (ix2 t j) * n (ix3 ⟨j.val / 128, by omega⟩ t ⟨j.val % 128, by omega⟩) := by
  rw [← lanes_apply n v0 v1 v2 v3 h0 h1 h2 h3]
  pointwise [k0_pay55]

/-- The third group's share added. -/
theorem pay130_apply (a b : FVec Ideal S512x512 .f32) (n : Vec Ideal S4x512x128 .f32) (v0 v1 v2 v3 : Vec Ideal S1x512x128 .f32)
    (h0 : ∀ t l, v0 (ix3 0 t l) = n (ix3 0 t l)) (h1 : ∀ t l, v1 (ix3 0 t l) = n (ix3 1 t l)) (h2 : ∀ t l, v2 (ix3 0 t l) = n (ix3 2 t l))
    (h3 : ∀ t l, v3 (ix3 0 t l) = n (ix3 3 t l)) (t j : Fin 512) :
    k0_pay130 a b (k0_pay129 v0) v1 v2 v3 (ix2 t j) = a (ix2 t j) + b (ix2 t j) * n (ix3 ⟨j.val / 128, by omega⟩ t ⟨j.val % 128, by omega⟩) := by
  rw [← lanes_apply n v0 v1 v2 v3 h0 h1 h2 h3]
  pointwise [k0_pay130, k0_pay129]

variable (c : Dev nD) (a2 : Memref sig .tc .vmem S1x1x512x512 .bf16) (h2 : a2.IsWhole) (a3 : Memref sig .tc .vmem S1x4x128x512 .bf16) (h3 : a3.IsWhole) (a4 : Memref sig .tc .vmem S1x16x32x512 .bf16) (h4 : a4.IsWhole)
  (a5 : Memref sig .tc .vmem S1x1x512x128 .f32) (h5 : a5.IsWhole) (a6 : Memref sig .tc .vmem S1x4x128x128 .f32) (h6 : a6.IsWhole) (a7 : Memref sig .tc .vmem S1x16x32x128 .f32) (h7 : a7.IsWhole)
  (a16 : Memref sig .tc .vmem S4x512x128 .f32) (a17 : Memref sig .tc .vmem S1x512x128 .f32)
  (x0 : Vec Ideal S1x1x512x512 .bf16) (x1 : Vec Ideal S1x4x128x512 .bf16) (x2 : Vec Ideal S1x16x32x512 .bf16)
  (x3 : Vec Ideal S1x1x512x128 .f32) (x4 : Vec Ideal S1x4x128x128 .f32) (x5 : Vec Ideal S1x16x32x128 .f32)

theorem v1_apply (t : Fin 512) (l : Fin 128) : kernelRun0_A.sl.v1 c a5 h5 x3 (ix2 t l) = x3 (ix4 0 0 t l) := by
  unfold kernelRun0_A.sl.v1
  rw [View.readAt_eq_ld, h5.read_unread]
  pointwise []

theorem v23_apply (t : Fin 512) (l : Fin 128) : kernelRun0_A.sl.v23 c a6 h6 a17 x4 (ix2 t l) = lnat4 x4 (ix3 0 t l) := by
  unfold kernelRun0_A.sl.v23 kernelRun0_A.sl.v22
  rw [View.readCov_eq_canon', l4_canon]
  pointwise []

theorem v104_apply (t : Fin 512) (l : Fin 128) : kernelRun0_A.sl.v104 c a6 h6 a7 h7 a17 x4 x5 (ix3 0 t l) = lnat16 x5 (ix3 0 t l) := by
  unfold kernelRun0_A.sl.v104
  rw [View.readCov_eq_canon', l16_canon]
  refine congrArg (lnat16 x5) (funext fun a => Fin.ext ?_)
  match a with
  | ⟨0, _⟩ => rfl
  | ⟨1, _⟩ => show 0 + 1 * t.val = t.val; omega
  | ⟨2, _⟩ => show 0 + 1 * l.val = l.val; omega

/-- A lane block of the buffer of outputs of dilation 4. -/
theorem rd4 (e : Fin 4) {i} (t : Fin 512) (l : Fin 128) :
    a16.view.readCov (kernelRun0_A.sl.HS0_16 c a3 h3 x1) (Rect.unit (s := S4x512x128) ![e.val, 0, 0] S1x512x128.size i).toLoadRect (ix3 0 t l)
      = onat4 x1 (ix3 e t l) := by
  rw [View.readCov_eq_canon', o4_canon]
  refine congrArg (onat4 x1) (funext fun a => Fin.ext ?_)
  match a with
  | ⟨0, _⟩ => show e.val + 1 * 0 = e.val; omega
  | ⟨1, _⟩ => show 0 + 1 * t.val = t.val; omega
  | ⟨2, _⟩ => show 0 + 1 * l.val = l.val; omega

/-- A lane block of the buffer of outputs of dilation 16. -/
theorem rd16 (e : Fin 4) {i} (t : Fin 512) (l : Fin 128) :
    a16.view.readCov (kernelRun0_A.sl.HS0_80 c a3 h3 a4 h4 x1 x2) (Rect.unit (s := S4x512x128) ![e.val, 0, 0] S1x512x128.size i).toLoadRect (ix3 0 t l)
      = onat16 x2 (ix3 e t l) := by
  rw [View.readCov_eq_canon', o16_canon]
  refine congrArg (onat16 x2) (funext fun a => Fin.ext ?_)
  match a with
  | ⟨0, _⟩ => show e.val + 1 * 0 = e.val; omega
  | ⟨1, _⟩ => show 0 + 1 * t.val = t.val; omega
  | ⟨2, _⟩ => show 0 + 1 * l.val = l.val; omega

/-- The merged row: each group's output with its head's weight. -/
def merged (t j : Fin 512) : EReal :=
  weight (x3 (ix4 0 0 t (head j))) (lnat4 x4 (ix3 0 t (head j))) (lnat16 x5 (ix3 0 t (head j))) (x3 (ix4 0 0 t (head j))) * x0 (ix4 0 0 t j)
    + weight (x3 (ix4 0 0 t (head j))) (lnat4 x4 (ix3 0 t (head j))) (lnat16 x5 (ix3 0 t (head j))) (lnat4 x4 (ix3 0 t (head j)))
      * onat4 x1 (ix3 ⟨j.val / 128, by omega⟩ t ⟨j.val % 128, by omega⟩)
    + weight (x3 (ix4 0 0 t (head j))) (lnat4 x4 (ix3 0 t (head j))) (lnat16 x5 (ix3 0 t (head j))) (lnat16 x5 (ix3 0 t (head j)))
      * onat16 x2 (ix3 ⟨j.val / 128, by omega⟩ t ⟨j.val % 128, by omega⟩)

/-- What the kernel stores as the merged tile. -/
theorem mix_apply (t j : Fin 512) :
    k0_pay130 (kernelRun0_A.sl.r_10 c a2 h2 a3 h3 a5 h5 a6 h6 a7 h7 a16 a17 x0 x1 x3 x4 x5) (kernelRun0_A.sl.r_11 c a5 h5 a6 h6 a7 h7 a17 x3 x4 x5)
      (kernelRun0_A.sl.r_20 c a3 h3 a4 h4 a16 x1 x2) (kernelRun0_A.sl.v655 c a3 h3 a4 h4 a16 x1 x2) (kernelRun0_A.sl.v657 c a3 h3 a4 h4 a16 x1 x2)
      (kernelRun0_A.sl.v659 c a3 h3 a4 h4 a16 x1 x2) (ix2 t j) = merged x0 x1 x2 x3 x4 x5 t j := by
  unfold kernelRun0_A.sl.r_20
  refine (pay130_apply _ _ (onat16 x2) _ _ _ _ (rd16 c a3 h3 a4 h4 a16 x1 x2 0) (rd16 c a3 h3 a4 h4 a16 x1 x2 1) (rd16 c a3 h3 a4 h4 a16 x1 x2 2)
    (rd16 c a3 h3 a4 h4 a16 x1 x2 3) t j).trans ?_
  unfold kernelRun0_A.sl.r_10
  refine (congrArg (· + _) (pay55_apply _ _ (onat4 x1) _ _ _ _ (rd4 c a3 h3 a16 x1 0) (rd4 c a3 h3 a16 x1 1) (rd4 c a3 h3 a16 x1 2)
    (rd4 c a3 h3 a16 x1 3) t j)).trans ?_
  unfold kernelRun0_A.sl.r_5 kernelRun0_A.sl.r_6 kernelRun0_A.sl.r_11 kernelRun0_A.sl.r_4
  rw [pay35_apply, pay36_apply, pay56_apply, spread_sum (fun k => _ * _), spread_sum (fun k => _ * _), spread_sum (fun k => _ * _)]
  unfold kernelRun0_A.sl.r kernelRun0_A.sl.r_1 kernelRun0_A.sl.r_2 kernelRun0_A.sl.r_3
  rw [pay28_apply, pay29_apply, pay30_apply, v1_apply, v23_apply, v104_apply, View.readAt_eq_ld, h2.read_unread]
  unfold merged
  pointwise []

end Cert.OddTailIdeal.Val

end
-- ==== Proof.OddKernel.lean ====
/- What the odd tail's kernel body computes after the merge, row by row. -/
module

public import proofs.«01_k».proof.Proof.Gen.OddTailIdeal.Frame
public import proofs.«01_k».proof.Proof.TailRow

@[expose] public section

set_option maxRecDepth 16384

noncomputable section

namespace Cert.OddTailIdeal.Val

open Idealize.ShloMosaic Cert.OddTailIdeal.Gen Cert.Tail
open scoped BigOperators

/-- The modulation rows. -/
theorem pay131_apply (v : Vec Ideal S1x6x1024 .f32) (a : Fin 6) (k : Fin 1024) : k0_pay131 v (ix2 a k) = v (ix3 0 a k) := by
  pointwise [k0_pay131]

/-- The residual of the upper rows. -/
theorem pay132_apply (v : Vec Ideal S1x6x1024 .f32) (y : Vec Ideal S256x512 .bf16) (w : Vec Ideal S512x1024 .bf16)
    (x : Vec Ideal S1x256x1024 .f32) (r : Fin 256) (j : Fin 1024) :
    k0_pay132 v y w x (ix2 r j) = resid (fun k => x (ix3 0 r k)) (fun k => v (ix3 0 2 k)) (fun i => ∑ k, y (ix2 r k) * w (ix2 k i)) j := by
  unfold resid
  pointwise [k0_pay132, k0_pay131]

/-- The first layer norm of the upper rows. -/
theorem pay134_apply (z : FVec Ideal S256x1024 .f32) (g b : Vec Ideal S1x1x1024 .f32) (r : Fin 256) (j : Fin 1024) :
    k0_pay134 z (k0_pay133 g) b (ix2 r j)
      = lnorm (fun k => z (ix2 r k)) (fun k => g (ix3 0 0 k)) (fun k => b (ix3 0 0 k)) j := by
  unfold lnorm mean
  pointwise [k0_pay134, k0_pay133]

/-- The MLP's input of the upper rows. -/
theorem pay135_apply (v : FVec Ideal S6x1024 .f32) (z : FVec Ideal S256x1024 .f32) (g : FVec Ideal S1x1024 .f32)
    (b : Vec Ideal S1x1x1024 .f32) (r : Fin 256) (j : Fin 1024) :
    k0_pay135 v z g b (ix2 r j) = scaled (fun k => k0_pay134 z g b (ix2 r k)) (fun k => v (ix2 4 k)) (fun k => v (ix2 3 k)) j := by
  unfold k0_pay135 scaled
  generalize k0_pay134 z g b = z
  pointwise []

/-- The projection of the lower rows. -/
theorem pay136_apply (y : Vec Ideal S256x512 .bf16) (w : Vec Ideal S512x1024 .bf16) (r : Fin 256) (j : Fin 1024) :
    k0_pay136 y w (ix2 r j) = ∑ k, y (ix2 r k) * w (ix2 k j) := by
  pointwise [k0_pay136]

/-- The first layer norm of the lower rows. -/
theorem pay139_apply (v : FVec Ideal S6x1024 .f32) (y : FVec Ideal S256x1024 .f32) (x : Vec Ideal S1x256x1024 .f32)
    (g b : Vec Ideal S1x1x1024 .f32) (r : Fin 256) (j : Fin 1024) :
    k0_pay139 y (k0_pay137 x) (k0_pay138 v) g b (ix2 r j)
      = lnorm (resid (fun k => x (ix3 0 r k)) (fun k => v (ix2 2 k)) fun k => y (ix2 r k)) (fun k => g (ix3 0 0 k)) (fun k => b (ix3 0 0 k)) j := by
  unfold lnorm mean resid
  pointwise [k0_pay139, k0_pay137, k0_pay138]

/-- The MLP's input of the lower rows. -/
theorem pay140_apply (v : FVec Ideal S6x1024 .f32) (y x w : FVec Ideal S256x1024 .f32) (g b : Vec Ideal S1x1x1024 .f32)
    (r : Fin 256) (j : Fin 1024) :
    k0_pay140 v y x w g b (ix2 r j)
      = scaled (fun k => k0_pay139 y x w g b (ix2 r k)) (fun k => v (ix2 4 k)) (fun k => v (ix2 3 k)) j := by
  unfold k0_pay140 scaled
  generalize k0_pay139 y x w g b = z
  pointwise []

/-- The first two chunks of the MLP. -/
theorem pay146_apply (u : FVec Ideal S256x1024 .bf16) (a0 b0 a1 b1 : Vec Ideal S1x1024x1024 .f32) (r : Fin 256) (j : Fin 1024) :
    k0_pay146 u (k0_pay141 a0) (k0_pay142 b0) a1 b1 (ix2 r j)
      = part (fun k => u (ix2 r k)) (fun i k => a0 (ix3 0 i k)) (fun k i => b0 (ix3 0 k i)) j
        + part (fun k => u (ix2 r k)) (fun i k => a1 (ix3 0 i k)) (fun k i => b1 (ix3 0 k i)) j := by
  unfold part act
  pointwise [k0_pay146, k0_pay141, k0_pay142, k0_pay143, k0_pay144]

/-- The upper rows' first two chunks are computed as the lower rows'. -/
theorem pay145_eq (u : FVec Ideal S256x1024 .bf16) (a b : FVec Ideal S1024x1024 .bf16) (a1 b1 : Vec Ideal S1x1024x1024 .f32) :
    k0_pay145 u a b (constant S256x1024 .f32 0x00000000#32) a1 b1 = k0_pay146 u a b a1 b1 := rfl

/-- The last two chunks of the MLP, added to the first two. -/
theorem pay152_apply (u : FVec Ideal S256x1024 .bf16) (acc : FVec Ideal S256x1024 .f32) (a0 b0 a1 b1 : Vec Ideal S1x1024x1024 .f32)
    (r : Fin 256) (j : Fin 1024) :
    k0_pay152 u acc (k0_pay147 a0) (k0_pay148 b0) a1 b1 (ix2 r j)
      = acc (ix2 r j) + part (fun k => u (ix2 r k)) (fun i k => a0 (ix3 0 i k)) (fun k i => b0 (ix3 0 k i)) j
        + part (fun k => u (ix2 r k)) (fun i k => a1 (ix3 0 i k)) (fun k i => b1 (ix3 0 k i)) j := by
  unfold part act
  pointwise [k0_pay152, k0_pay147, k0_pay148, k0_pay149, k0_pay150, k0_pay151]

/-- The lower rows' last two chunks are computed as the upper rows'. -/
theorem pay153_eq : @k0_pay153 Ideal _ = @k0_pay152 Ideal _ := rfl

/-- The first stored block: the upper rows' second residual and layer norm. -/
theorem pay156_apply (v : FVec Ideal S6x1024 .f32) (x acc : FVec Ideal S256x1024 .f32) (g b : Vec Ideal S1x1x1024 .f32)
    (r : Fin 256) (j : Fin 1024) :
    k0_pay156 acc (k0_pay154 x) (k0_pay155 v) g b (ix3 0 r j)
      = lnorm (resid (fun k => x (ix2 r k)) (fun k => v (ix2 5 k)) fun k => acc (ix2 r k)) (fun k => g (ix3 0 0 k)) (fun k => b (ix3 0 0 k)) j := by
  unfold lnorm mean resid
  pointwise [k0_pay156, k0_pay154, k0_pay155]

/-- The second stored block: the lower rows' second residual and layer norm. -/
theorem pay1_apply (v : FVec Ideal S6x1024 .f32) (x acc : FVec Ideal S256x1024 .f32) (g b : Vec Ideal S1x1x1024 .f32)
    (r : Fin 256) (j : Fin 1024) :
    k0_pay1 (k0_pay159 (k0_pay157 v x acc) (k0_pay158 g)) (k0_pay160 b) (ix3 0 r j)
      = lnorm (resid (fun k => x (ix2 r k)) (fun k => v (ix2 5 k)) fun k => acc (ix2 r k)) (fun k => g (ix3 0 0 k)) (fun k => b (ix3 0 0 k)) j := by
  unfold lnorm mean resid
  pointwise [k0_pay1, k0_pay157, k0_pay158, k0_pay159, k0_pay160]

end Cert.OddTailIdeal.Val

end
-- ==== Proof.OddBlock.lean ====
/- The block the odd tail's kernel leaves, read at a row and a lane. -/
module

public import proofs.«01_k».proof.Proof.OddMix
public import proofs.«01_k».proof.Proof.OddKernel
public import proofs.«01_k».proof.Proof.EvenBlock
import all proofs.«01_k».proof.Proof.Gen.OddTailIdeal.Frame.RunA
import all proofs.«01_k».proof.Proof.Gen.OddTailIdeal.Frame

@[expose] public section

set_option maxRecDepth 16384

noncomputable section

namespace Cert.OddTailIdeal.Val

open Idealize.ShloMosaic Cert.OddTailIdeal.Gen Cert.Tail
open Cert.EvenTailIdeal.Val (up lo mlp_chunks)
open scoped BigOperators

variable (c : Dev nD) (i : grid0.Coords) (a2 : Memref sig .tc .vmem S1x1x512x512 .bf16) (h2 : a2.IsWhole) (a3 : Memref sig .tc .vmem S1x4x128x512 .bf16) (h3 : a3.IsWhole) (a4 :
  Memref sig .tc .vmem S1x16x32x512 .bf16) (h4 : a4.IsWhole) (a5 : Memref sig .tc .vmem S1x1x512x128 .f32) (h5 : a5.IsWhole) (a6 : Memref sig
  .tc .vmem S1x4x128x128 .f32) (h6 : a6.IsWhole) (a7 : Memref sig .tc .vmem S1x16x32x128 .f32) (h7 : a7.IsWhole) (a8 : Memref sig .tc .vmem
  S512x1024 .bf16) (h8 : a8.IsWhole) (a9 : Memref sig .tc .vmem S1x512x1024 .f32) (h9 : a9.IsWhole) (a10 : Memref sig .tc .vmem S1x6x1024
  .f32) (h10 : a10.IsWhole) (a11 : Memref sig .tc .vmem S1x2x1024 .f32) (h11 : a11.IsWhole) (a12 : Memref sig .tc .vmem S1x2x1024 .f32) (h12 :
  a12.IsWhole) (a13 : Memref sig .tc .vmem S1x1024x4096 .f32) (h13 : a13.IsWhole) (a14 : Memref sig .tc .vmem S1x4096x1024 .f32) (h14 :
  a14.IsWhole) (a15 : Memref sig .tc .vmem S1x512x1024 .f32) (h15 : a15.IsWhole) (a16 : Memref sig .tc .vmem S4x512x128 .f32) (h16 :
  a16.IsWhole) (a17 : Memref sig .tc .vmem S1x512x128 .f32) (h17 : a17.IsWhole) (a18 : Memref sig .tc .vmem S512x512 .bf16) (h18 :
  a18.IsWhole)
  (x0 : Vec Ideal S1x1x512x512 .bf16) (x1 : Vec Ideal S1x4x128x512 .bf16) (x2 : Vec Ideal S1x16x32x512 .bf16) (x3 : Vec Ideal S1x1x512x128
  .f32) (x4 : Vec Ideal S1x4x128x128 .f32) (x5 : Vec Ideal S1x16x32x128 .f32) (x6 : Vec Ideal S512x1024 .bf16) (x7 : Vec Ideal S1x512x1024
  .f32) (x8 : Vec Ideal S1x6x1024 .f32) (x9 : Vec Ideal S1x2x1024 .f32) (x10 : Vec Ideal S1x2x1024 .f32) (x11 : Vec Ideal S1x1024x4096 .f32)
  (x12 : Vec Ideal S1x4096x1024 .f32)

/-- The rows of the stored tile that the upper half reads. -/
theorem v670_apply (r : Fin 256) (k : Fin 512) : kernelRun0_A.sl.v670 c a2 h2 a3 h3 a4 h4 a5 h5 a6 h6 a7 h7 a16 a17 a18 x0 x1 x2 x3 x4 x5 (ix2 r k) = merged x0 x1 x2 x3 x4 x5 (up r) k := by
  unfold kernelRun0_A.sl.v670 kernelRun0_A.sl.HS2_1
  rw [View.readCov_eq_canon', View.canon_unit_zero (S := S512x512) (by decide), ← mix_apply c a2 h2 a3 h3 a4 h4 a5 h5 a6 h6 a7 h7 a16 a17]
  refine congrArg _ (funext fun a => Fin.ext ?_)
  match a with
  | ⟨0, _⟩ => show 0 + 1 * r.val = r.val; omega
  | ⟨1, _⟩ => show 0 + 1 * k.val = k.val; omega

/-- The rows of the stored tile that the lower half reads. -/
theorem v717_apply (r : Fin 256) (k : Fin 512) : kernelRun0_A.sl.v717 c a2 h2 a3 h3 a4 h4 a5 h5 a6 h6 a7 h7 a16 a17 a18 x0 x1 x2 x3 x4 x5 (ix2 r k) = merged x0 x1 x2 x3 x4 x5 (lo r) k := by
  unfold kernelRun0_A.sl.v717 kernelRun0_A.sl.HS2_1
  rw [View.readCov_eq_canon', View.canon_unit_zero (S := S512x512) (by decide), ← mix_apply c a2 h2 a3 h3 a4 h4 a5 h5 a6 h6 a7 h7 a16 a17]
  refine congrArg _ (funext fun a => Fin.ext ?_)
  match a with
  | ⟨0, _⟩ => show 256 + 1 * r.val = 256 + r.val; omega
  | ⟨1, _⟩ => show 0 + 1 * k.val = k.val; omega

/-- The row of the tail that row `r` of the block should hold. -/
def rowOf (r : Fin 512) : Fin 1024 → EReal :=
  Tail.row (fun i => ∑ k, merged x0 x1 x2 x3 x4 x5 r k * x6 (ix2 k i))
    (fun k => x7 (ix3 0 r k)) (fun a k => x8 (ix3 0 a k)) (fun a k => x9 (ix3 0 a k)) (fun a k => x10 (ix3 0 a k))
    (fun k f => x11 (ix3 0 k f)) fun f k => x12 (ix3 0 f k)

/-- What the body leaves in the output's block, row by row. -/
theorem out_apply (r : Fin 512) (j : Fin 1024) :
    out0_A_13 c i a2 h2 a3 h3 a4 h4 a5 h5 a6 h6 a7 h7 a8 h8 a9 h9 a10 h10 a11 h11 a12 h12 a13 h13 a14 h14 a15 h15 a16 h16 a17 h17 a18 h18
      x0 x1 x2 x3 x4 x5 x6 x7 x8 x9 x10 x11 x12 (ix3 0 r j) = rowOf x0 x1 x2 x3 x4 x5 x6 x7 x8 x9 x10 x11 x12 r j := by
  unfold out0_A_13
  rw [View.read_writes_eq_canon _ _ _ (cover0_A_13 c i a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12)]
  unfold kernelRun0_A
  dsimp only
  by_cases h : r.val < 256
  · obtain ⟨q, rfl⟩ : ∃ q : Fin 256, up q = r := ⟨⟨r.val, h⟩, rfl⟩
    have e : (ix3 0 (up q) j : S1x512x1024.Idx)
        = (Rect.unit (s := S1x512x1024) ![0, 0, 0] S1x256x1024.size inb_S1x512x1024_S1x256x1024_0_0_0).emb (ix3 0 q j) := by
      unfold up; funext a; apply Fin.ext
      match a with
      | ⟨0, _⟩ => rfl
      | ⟨1, _⟩ => simp [Rect.emb_apply, ix3]
      | ⟨2, _⟩ => simp [Rect.emb_apply, ix3]
    rw [View.canon_cons_of_not_mem]
    · rw [e, View.canon_cons_emb]
      simp only [kernelRun0_A.sl.r_21, kernelRun0_A.sl.r_22, kernelRun0_A.sl.r_23, kernelRun0_A.sl.r_24, kernelRun0_A.sl.r_25, kernelRun0_A.sl.r_26,
        kernelRun0_A.sl.r_27, kernelRun0_A.sl.r_28, kernelRun0_A.sl.r_29, kernelRun0_A.sl.r_30, kernelRun0_A.sl.r_31, kernelRun0_A.sl.r_32,
        kernelRun0_A.sl.r_33, kernelRun0_A.sl.r_34, kernelRun0_A.sl.r_35, kernelRun0_A.sl.r_36, kernelRun0_A.sl.r_37, kernelRun0_A.sl.r_38,
        kernelRun0_A.sl.r_39, kernelRun0_A.sl.r_40, kernelRun0_A.sl.r_41, kernelRun0_A.sl.r_42, kernelRun0_A.sl.r_43, kernelRun0_A.sl.r_44]
      simp only [View.readAt_eq_ld, h8.read_unread, h9.read_unread, h10.read_unread, h11.read_unread, h12.read_unread, h13.read_unread, h14.read_unread]
      unfold kernelRun0_A.sl.cst_783
      simp only [pay156_apply, pay145_eq, pay146_apply, pay152_apply, pay131_apply, pay134_apply, pay135_apply, pay132_apply, v670_apply]
      unfold rowOf Tail.row second first
      rw [mlp_chunks]
      unfold up chunk
      pointwise []
    · rw [e]
      rw [Rect.mem_set_unit]
      intro hh
      have := (hh 1).1
      simp [Rect.emb_apply, ix3] at this
      omega
  · obtain ⟨q, rfl⟩ : ∃ q : Fin 256, lo q = r := ⟨⟨r.val - 256, by omega⟩, by unfold lo; ext; simp; omega⟩
    have e : (ix3 0 (lo q) j : S1x512x1024.Idx)
        = (Rect.unit (s := S1x512x1024) ![0, 256, 0] ![1, 256, 1024] inb_S1x512x1024_S1x256x1024_0_256_0).emb (ix3 0 q j) := by
      unfold lo; funext a; apply Fin.ext
      match a with
      | ⟨0, _⟩ => rfl
      | ⟨1, _⟩ => simp [Rect.emb_apply, ix3]
      | ⟨2, _⟩ => simp [Rect.emb_apply, ix3]
    rw [e, View.canon_cons_emb]
    simp only [kernelRun0_A.sl.r_21, kernelRun0_A.sl.r_22, kernelRun0_A.sl.r_23, kernelRun0_A.sl.r_24, kernelRun0_A.sl.r_25, kernelRun0_A.sl.r_26,
        kernelRun0_A.sl.r_27, kernelRun0_A.sl.r_28, kernelRun0_A.sl.r_29, kernelRun0_A.sl.r_30, kernelRun0_A.sl.r_31, kernelRun0_A.sl.r_32,
        kernelRun0_A.sl.r_33, kernelRun0_A.sl.r_34, kernelRun0_A.sl.r_35, kernelRun0_A.sl.r_36, kernelRun0_A.sl.r_37, kernelRun0_A.sl.r_38,
        kernelRun0_A.sl.r_39, kernelRun0_A.sl.r_40, kernelRun0_A.sl.r_41, kernelRun0_A.sl.r_42, kernelRun0_A.sl.r_43, kernelRun0_A.sl.r_44]
    simp only [View.readAt_eq_ld, h8.read_unread, h9.read_unread, h10.read_unread, h11.read_unread, h12.read_unread, h13.read_unread, h14.read_unread]
    simp only [pay1_apply, pay153_eq, pay146_apply, pay152_apply, pay131_apply, pay139_apply, pay140_apply, pay136_apply, v717_apply]
    unfold rowOf Tail.row second first
    rw [mlp_chunks]
    unfold lo chunk
    pointwise []

end Cert.OddTailIdeal.Val

end
-- ==== Proof.OddValue.lean ====
/- The odd tail's kernel leaves, in its result array, the row of the tail at every batch and token. -/
module

public import proofs.«01_k».proof.Proof.OddBlock
public import proofs.«01_k».proof.Proof.Gen.OddTailIdeal.Value

@[expose] public section

set_option maxRecDepth 16384

noncomputable section

namespace Cert.OddTailIdeal.Val

open Idealize.ShloMosaic Idealize.ShloMosaic.TcCoe Idealize.SL.Sem Cert.OddTailIdeal Cert.OddTailIdeal.Gen Cert.Tail
open Idealize.ShloMosaic.Pipeline (Dat)
open scoped BigOperators

section
variable (x0 : FVec Ideal S8x1x2048x512 .bf16) (x1 : FVec Ideal S8x4x512x512 .bf16) (x2 : FVec Ideal S8x16x128x512 .bf16)
  (x3 : FVec Ideal S8x1x2048x128 .f32) (x4 : FVec Ideal S8x4x512x128 .f32) (x5 : FVec Ideal S8x16x128x128 .f32)
  (x6 : FVec Ideal S512x1024 .f32) (x7 : FVec Ideal S8x2048x1024 .f32) (x8 : FVec Ideal S8x6x1024 .f32) (x9 x10 : FVec Ideal S2x2x1024 .f32)
  (x11 : FVec Ideal S2x1024x4096 .f32) (x12 : FVec Ideal S2x4096x1024 .f32)

/-- The statistic of the group of dilation 4 at a token and a lane. -/
def stat4 (b : Fin 8) (t : Fin 2048) (l : Fin 128) : EReal := x4 (ix4 b ⟨t.val % 4, by omega⟩ ⟨t.val / 4, by omega⟩ l)
/-- The statistic of the group of dilation 16 at a token and a lane. -/
def stat16 (b : Fin 8) (t : Fin 2048) (l : Fin 128) : EReal := x5 (ix4 b ⟨t.val % 16, by omega⟩ ⟨t.val / 16, by omega⟩ l)

/-- The merged outputs at a batch, a token and a lane. -/
def mergedAt (b : Fin 8) (t : Fin 2048) (j : Fin 512) : EReal :=
  weight (x3 (ix4 b 0 t (head j))) (stat4 x4 b t (head j)) (stat16 x5 b t (head j)) (x3 (ix4 b 0 t (head j))) * x0 (ix4 b 0 t j)
    + weight (x3 (ix4 b 0 t (head j))) (stat4 x4 b t (head j)) (stat16 x5 b t (head j)) (stat4 x4 b t (head j))
      * x1 (ix4 b ⟨t.val % 4, by omega⟩ ⟨t.val / 4, by omega⟩ j)
    + weight (x3 (ix4 b 0 t (head j))) (stat4 x4 b t (head j)) (stat16 x5 b t (head j)) (stat16 x5 b t (head j))
      * x2 (ix4 b ⟨t.val % 16, by omega⟩ ⟨t.val / 16, by omega⟩ j)

/-- The tail's result over the whole arrays. -/
def result : FVec Ideal S8x2048x1024 .f32 := fun i =>
  Tail.row (fun j => ∑ k, mergedAt x0 x1 x2 x3 x4 x5 (i 0) (i 1) k * x6 (ix2 k j))
    (fun k => x7 (ix3 (i 0) (i 1) k)) (fun a k => x8 (ix3 (i 0) a k)) (fun a k => x9 (ix3 1 a k)) (fun a k => x10 (ix3 1 a k))
    (fun k f => x11 (ix3 1 k f)) (fun f k => x12 (ix3 1 f k)) (i 2)

end

/-- The batch of grid point `t`. -/
def batch (t : Fin cfg0.N) : Fin 8 := ⟨t.val / 4, by have h := t.isLt; have e : cfg0.N = 32 := N_0; omega⟩
/-- The token of row `r` of grid point `t`'s block. -/
def token (t : Fin cfg0.N) (r : Fin 512) : Fin 2048 := ⟨512 * (t.val % 4) + r.val, by omega⟩
/-- The row, among a residue's 512, of row `q` of grid point `t`'s block. -/
def row4 (t : Fin cfg0.N) (q : Fin 128) : Fin 512 := ⟨128 * (t.val % 4) + q.val, by omega⟩
/-- The row, among a residue's 128, of row `q` of grid point `t`'s block. -/
def row16 (t : Fin cfg0.N) (q : Fin 32) : Fin 128 := ⟨32 * (t.val % 4) + q.val, by omega⟩

theorem at0 : ∀ t : Fin cfg0.N, win0_0.index t 0 = t.val / 4 ∧ win0_0.index t 1 = 0 ∧ win0_0.index t 2 = t.val % 4 ∧ win0_0.index t 3 = 0 :=
  (by decide +kernel : ∀ t : Fin grid0.N, win0_0.index t 0 = t.val / 4 ∧ win0_0.index t 1 = 0 ∧ win0_0.index t 2 = t.val % 4 ∧ win0_0.index t 3 = 0)
theorem at1 : ∀ t : Fin cfg0.N, win0_1.index t 0 = t.val / 4 ∧ win0_1.index t 1 = 0 ∧ win0_1.index t 2 = t.val % 4 ∧ win0_1.index t 3 = 0 :=
  (by decide +kernel : ∀ t : Fin grid0.N, win0_1.index t 0 = t.val / 4 ∧ win0_1.index t 1 = 0 ∧ win0_1.index t 2 = t.val % 4 ∧ win0_1.index t 3 = 0)
theorem at2 : ∀ t : Fin cfg0.N, win0_2.index t 0 = t.val / 4 ∧ win0_2.index t 1 = 0 ∧ win0_2.index t 2 = t.val % 4 ∧ win0_2.index t 3 = 0 :=
  (by decide +kernel : ∀ t : Fin grid0.N, win0_2.index t 0 = t.val / 4 ∧ win0_2.index t 1 = 0 ∧ win0_2.index t 2 = t.val % 4 ∧ win0_2.index t 3 = 0)
theorem at3 : ∀ t : Fin cfg0.N, win0_3.index t 0 = t.val / 4 ∧ win0_3.index t 1 = 0 ∧ win0_3.index t 2 = t.val % 4 ∧ win0_3.index t 3 = 0 :=
  (by decide +kernel : ∀ t : Fin grid0.N, win0_3.index t 0 = t.val / 4 ∧ win0_3.index t 1 = 0 ∧ win0_3.index t 2 = t.val % 4 ∧ win0_3.index t 3 = 0)
theorem at4 : ∀ t : Fin cfg0.N, win0_4.index t 0 = t.val / 4 ∧ win0_4.index t 1 = 0 ∧ win0_4.index t 2 = t.val % 4 ∧ win0_4.index t 3 = 0 :=
  (by decide +kernel : ∀ t : Fin grid0.N, win0_4.index t 0 = t.val / 4 ∧ win0_4.index t 1 = 0 ∧ win0_4.index t 2 = t.val % 4 ∧ win0_4.index t 3 = 0)
theorem at5 : ∀ t : Fin cfg0.N, win0_5.index t 0 = t.val / 4 ∧ win0_5.index t 1 = 0 ∧ win0_5.index t 2 = t.val % 4 ∧ win0_5.index t 3 = 0 :=
  (by decide +kernel : ∀ t : Fin grid0.N, win0_5.index t 0 = t.val / 4 ∧ win0_5.index t 1 = 0 ∧ win0_5.index t 2 = t.val % 4 ∧ win0_5.index t 3 = 0)
theorem at6 : ∀ t : Fin cfg0.N, win0_6.index t 0 = 0 ∧ win0_6.index t 1 = 0 :=
  (by decide +kernel : ∀ t : Fin grid0.N, win0_6.index t 0 = 0 ∧ win0_6.index t 1 = 0)
theorem at7 : ∀ t : Fin cfg0.N, win0_7.index t 0 = t.val / 4 ∧ win0_7.index t 1 = t.val % 4 ∧ win0_7.index t 2 = 0 :=
  (by decide +kernel : ∀ t : Fin grid0.N, win0_7.index t 0 = t.val / 4 ∧ win0_7.index t 1 = t.val % 4 ∧ win0_7.index t 2 = 0)
theorem at8 : ∀ t : Fin cfg0.N, win0_8.index t 0 = t.val / 4 ∧ win0_8.index t 1 = 0 ∧ win0_8.index t 2 = 0 :=
  (by decide +kernel : ∀ t : Fin grid0.N, win0_8.index t 0 = t.val / 4 ∧ win0_8.index t 1 = 0 ∧ win0_8.index t 2 = 0)
theorem at9 : ∀ t : Fin cfg0.N, win0_9.index t 0 = 1 ∧ win0_9.index t 1 = 0 ∧ win0_9.index t 2 = 0 :=
  (by decide +kernel : ∀ t : Fin grid0.N, win0_9.index t 0 = 1 ∧ win0_9.index t 1 = 0 ∧ win0_9.index t 2 = 0)
theorem at10 : ∀ t : Fin cfg0.N, win0_10.index t 0 = 1 ∧ win0_10.index t 1 = 0 ∧ win0_10.index t 2 = 0 :=
  (by decide +kernel : ∀ t : Fin grid0.N, win0_10.index t 0 = 1 ∧ win0_10.index t 1 = 0 ∧ win0_10.index t 2 = 0)
theorem at11 : ∀ t : Fin cfg0.N, win0_11.index t 0 = 1 ∧ win0_11.index t 1 = 0 ∧ win0_11.index t 2 = 0 :=
  (by decide +kernel : ∀ t : Fin grid0.N, win0_11.index t 0 = 1 ∧ win0_11.index t 1 = 0 ∧ win0_11.index t 2 = 0)
theorem at12 : ∀ t : Fin cfg0.N, win0_12.index t 0 = 1 ∧ win0_12.index t 1 = 0 ∧ win0_12.index t 2 = 0 :=
  (by decide +kernel : ∀ t : Fin grid0.N, win0_12.index t 0 = 1 ∧ win0_12.index t 1 = 0 ∧ win0_12.index t 2 = 0)
theorem at13 : ∀ t : Fin cfg0.N, win0_13.index t 0 = t.val / 4 ∧ win0_13.index t 1 = t.val % 4 ∧ win0_13.index t 2 = 0 :=
  (by decide +kernel : ∀ t : Fin grid0.N, win0_13.index t 0 = t.val / 4 ∧ win0_13.index t 1 = t.val % 4 ∧ win0_13.index t 2 = 0)

variable (m : (ℓ : Loc nD τ sig) → Buf (Elt Ideal) ℓ) (ρ : Dev nD → PrngReg) (c : Dev nD) (t : Fin cfg0.N)
  (r : Fin 512) (k : Fin 512) (l : Fin 128) (i j : Fin 1024) (f : Fin 4096)

/-- The projection's weights as the host hands them over: their values are unchanged. -/
theorem V_weights : V m c main_v0 = m ((c : Thread nD τ).loc main_arg6) := by
  show StableHlo.after hostOps0 (fun b => m (c, b)) (Proc.devRef .tc main_v0) = _
  unfold hostOps0
  after_results
  rfl

theorem blk0 : iblk m c 0 t (ix4 0 0 r k) = m ((c : Thread nD τ).loc main_arg0) (ix4 (batch t) 0 (token t r) k) := by
  show V m c main_arg0 _ = _
  rw [V_main_arg0]
  refine congrArg _ (funext fun z => Fin.ext ?_)
  match z with
  | ⟨0, _⟩ => show win0_0.index t 0 * 1 + 1 * 0 = t.val / 4; rw [(at0 t).1]; omega
  | ⟨1, _⟩ => show win0_0.index t 1 * 1 + 1 * 0 = 0; rw [(at0 t).2.1]
  | ⟨2, _⟩ => show win0_0.index t 2 * 512 + 1 * r.val = 512 * (t.val % 4) + r.val; rw [(at0 t).2.2.1]; omega
  | ⟨3, _⟩ => show win0_0.index t 3 * 512 + 1 * k.val = k.val; rw [(at0 t).2.2.2]; omega

theorem blk1 (a : Fin 4) (q : Fin 128) : iblk m c 1 t (ix4 0 a q k) = m ((c : Thread nD τ).loc main_arg1) (ix4 (batch t) a (row4 t q) k) := by
  show V m c main_arg1 _ = _
  rw [V_main_arg1]
  refine congrArg _ (funext fun z => Fin.ext ?_)
  match z with
  | ⟨0, _⟩ => show win0_1.index t 0 * 1 + 1 * 0 = t.val / 4; rw [(at1 t).1]; omega
  | ⟨1, _⟩ => show win0_1.index t 1 * 4 + 1 * a.val = a.val; rw [(at1 t).2.1]; omega
  | ⟨2, _⟩ => show win0_1.index t 2 * 128 + 1 * q.val = 128 * (t.val % 4) + q.val; rw [(at1 t).2.2.1]; omega
  | ⟨3, _⟩ => show win0_1.index t 3 * 512 + 1 * k.val = k.val; rw [(at1 t).2.2.2]; omega

theorem blk2 (a : Fin 16) (q : Fin 32) : iblk m c 2 t (ix4 0 a q k) = m ((c : Thread nD τ).loc main_arg2) (ix4 (batch t) a (row16 t q) k) := by
  show V m c main_arg2 _ = _
  rw [V_main_arg2]
  refine congrArg _ (funext fun z => Fin.ext ?_)
  match z with
  | ⟨0, _⟩ => show win0_2.index t 0 * 1 + 1 * 0 = t.val / 4; rw [(at2 t).1]; omega
  | ⟨1, _⟩ => show win0_2.index t 1 * 16 + 1 * a.val = a.val; rw [(at2 t).2.1]; omega
  | ⟨2, _⟩ => show win0_2.index t 2 * 32 + 1 * q.val = 32 * (t.val % 4) + q.val; rw [(at2 t).2.2.1]; omega
  | ⟨3, _⟩ => show win0_2.index t 3 * 512 + 1 * k.val = k.val; rw [(at2 t).2.2.2]; omega

theorem blk3 : iblk m c 3 t (ix4 0 0 r l) = m ((c : Thread nD τ).loc main_arg3) (ix4 (batch t) 0 (token t r) l) := by
  show V m c main_arg3 _ = _
  rw [V_main_arg3]
  refine congrArg _ (funext fun z => Fin.ext ?_)
  match z with
  | ⟨0, _⟩ => show win0_3.index t 0 * 1 + 1 * 0 = t.val / 4; rw [(at3 t).1]; omega
  | ⟨1, _⟩ => show win0_3.index t 1 * 1 + 1 * 0 = 0; rw [(at3 t).2.1]
  | ⟨2, _⟩ => show win0_3.index t 2 * 512 + 1 * r.val = 512 * (t.val % 4) + r.val; rw [(at3 t).2.2.1]; omega
  | ⟨3, _⟩ => show win0_3.index t 3 * 128 + 1 * l.val = l.val; rw [(at3 t).2.2.2]; omega

theorem blk4 (a : Fin 4) (q : Fin 128) : iblk m c 4 t (ix4 0 a q l) = m ((c : Thread nD τ).loc main_arg4) (ix4 (batch t) a (row4 t q) l) := by
  show V m c main_arg4 _ = _
  rw [V_main_arg4]
  refine congrArg _ (funext fun z => Fin.ext ?_)
  match z with
  | ⟨0, _⟩ => show win0_4.index t 0 * 1 + 1 * 0 = t.val / 4; rw [(at4 t).1]; omega
  | ⟨1, _⟩ => show win0_4.index t 1 * 4 + 1 * a.val = a.val; rw [(at4 t).2.1]; omega
  | ⟨2, _⟩ => show win0_4.index t 2 * 128 + 1 * q.val = 128 * (t.val % 4) + q.val; rw [(at4 t).2.2.1]; omega
  | ⟨3, _⟩ => show win0_4.index t 3 * 128 + 1 * l.val = l.val; rw [(at4 t).2.2.2]; omega

theorem blk5 (a : Fin 16) (q : Fin 32) : iblk m c 5 t (ix4 0 a q l) = m ((c : Thread nD τ).loc main_arg5) (ix4 (batch t) a (row16 t q) l) := by
  show V m c main_arg5 _ = _
  rw [V_main_arg5]
  refine congrArg _ (funext fun z => Fin.ext ?_)
  match z with
  | ⟨0, _⟩ => show win0_5.index t 0 * 1 + 1 * 0 = t.val / 4; rw [(at5 t).1]; omega
  | ⟨1, _⟩ => show win0_5.index t 1 * 16 + 1 * a.val = a.val; rw [(at5 t).2.1]; omega
  | ⟨2, _⟩ => show win0_5.index t 2 * 32 + 1 * q.val = 32 * (t.val % 4) + q.val; rw [(at5 t).2.2.1]; omega
  | ⟨3, _⟩ => show win0_5.index t 3 * 128 + 1 * l.val = l.val; rw [(at5 t).2.2.2]; omega

theorem blk6 : iblk m c 6 t (ix2 k j) = m ((c : Thread nD τ).loc main_arg6) (ix2 k j) := by
  show V m c main_v0 _ = _
  rw [V_weights]
  refine congrArg _ (funext fun z => Fin.ext ?_)
  match z with
  | ⟨0, _⟩ => show win0_6.index t 0 * 512 + 1 * k.val = k.val; rw [(at6 t).1]; omega
  | ⟨1, _⟩ => show win0_6.index t 1 * 1024 + 1 * j.val = j.val; rw [(at6 t).2]; omega

theorem blk7 : iblk m c 7 t (ix3 0 r j) = m ((c : Thread nD τ).loc main_arg7) (ix3 (batch t) (token t r) j) := by
  show V m c main_arg7 _ = _
  rw [V_main_arg7]
  refine congrArg _ (funext fun z => Fin.ext ?_)
  match z with
  | ⟨0, _⟩ => show win0_7.index t 0 * 1 + 1 * 0 = t.val / 4; rw [(at7 t).1]; omega
  | ⟨1, _⟩ => show win0_7.index t 1 * 512 + 1 * r.val = 512 * (t.val % 4) + r.val; rw [(at7 t).2.1]; omega
  | ⟨2, _⟩ => show win0_7.index t 2 * 1024 + 1 * j.val = j.val; rw [(at7 t).2.2]; omega

theorem blk8 (q : Fin 6) : iblk m c 8 t (ix3 0 q j) = m ((c : Thread nD τ).loc main_arg8) (ix3 (batch t) q j) := by
  show V m c main_arg8 _ = _
  rw [V_main_arg8]
  refine congrArg _ (funext fun z => Fin.ext ?_)
  match z with
  | ⟨0, _⟩ => show win0_8.index t 0 * 1 + 1 * 0 = t.val / 4; rw [(at8 t).1]; omega
  | ⟨1, _⟩ => show win0_8.index t 1 * 6 + 1 * q.val = q.val; rw [(at8 t).2.1]; omega
  | ⟨2, _⟩ => show win0_8.index t 2 * 1024 + 1 * j.val = j.val; rw [(at8 t).2.2]; omega

theorem blk9 (q : Fin 2) : iblk m c 9 t (ix3 0 q j) = m ((c : Thread nD τ).loc main_arg9) (ix3 1 q j) := by
  show V m c main_arg9 _ = _
  rw [V_main_arg9]
  refine congrArg _ (funext fun z => Fin.ext ?_)
  match z with
  | ⟨0, _⟩ => show win0_9.index t 0 * 1 + 1 * 0 = 1; rw [(at9 t).1]
  | ⟨1, _⟩ => show win0_9.index t 1 * 2 + 1 * q.val = q.val; rw [(at9 t).2.1]; omega
  | ⟨2, _⟩ => show win0_9.index t 2 * 1024 + 1 * j.val = j.val; rw [(at9 t).2.2]; omega

theorem blk10 (q : Fin 2) : iblk m c 10 t (ix3 0 q j) = m ((c : Thread nD τ).loc main_arg10) (ix3 1 q j) := by
  show V m c main_arg10 _ = _
  rw [V_main_arg10]
  refine congrArg _ (funext fun z => Fin.ext ?_)
  match z with
  | ⟨0, _⟩ => show win0_10.index t 0 * 1 + 1 * 0 = 1; rw [(at10 t).1]
  | ⟨1, _⟩ => show win0_10.index t 1 * 2 + 1 * q.val = q.val; rw [(at10 t).2.1]; omega
  | ⟨2, _⟩ => show win0_10.index t 2 * 1024 + 1 * j.val = j.val; rw [(at10 t).2.2]; omega

theorem blk11 : iblk m c 11 t (ix3 0 i f) = m ((c : Thread nD τ).loc main_arg11) (ix3 1 i f) := by
  show V m c main_arg11 _ = _
  rw [V_main_arg11]
  refine congrArg _ (funext fun z => Fin.ext ?_)
  match z with
  | ⟨0, _⟩ => show win0_11.index t 0 * 1 + 1 * 0 = 1; rw [(at11 t).1]
  | ⟨1, _⟩ => show win0_11.index t 1 * 1024 + 1 * i.val = i.val; rw [(at11 t).2.1]; omega
  | ⟨2, _⟩ => show win0_11.index t 2 * 4096 + 1 * f.val = f.val; rw [(at11 t).2.2]; omega

theorem blk12 : iblk m c 12 t (ix3 0 f j) = m ((c : Thread nD τ).loc main_arg12) (ix3 1 f j) := by
  show V m c main_arg12 _ = _
  rw [V_main_arg12]
  refine congrArg _ (funext fun z => Fin.ext ?_)
  match z with
  | ⟨0, _⟩ => show win0_12.index t 0 * 1 + 1 * 0 = 1; rw [(at12 t).1]
  | ⟨1, _⟩ => show win0_12.index t 1 * 4096 + 1 * f.val = f.val; rw [(at12 t).2.1]; omega
  | ⟨2, _⟩ => show win0_12.index t 2 * 1024 + 1 * j.val = j.val; rw [(at12 t).2.2]; omega

/-- A token of the outputs of dilation 4. -/
theorem out4 : onat4 (iblk m c 1 t) (ix3 ⟨k.val / 128, by omega⟩ r ⟨k.val % 128, by omega⟩)
    = m ((c : Thread nD τ).loc main_arg1) (ix4 (batch t) ⟨(token t r).val % 4, by omega⟩ ⟨(token t r).val / 4, by omega⟩ k) := by
  refine (blk1 m c t _ _ _).trans (congrArg _ (funext fun a => Fin.ext ?_))
  match a with
  | ⟨0, _⟩ => rfl
  | ⟨1, _⟩ => show r.val % 4 = (512 * (t.val % 4) + r.val) % 4; omega
  | ⟨2, _⟩ => show 128 * (t.val % 4) + r.val / 4 = (512 * (t.val % 4) + r.val) / 4; omega
  | ⟨3, _⟩ => show 128 * (k.val / 128) + k.val % 128 = k.val; omega

/-- A token of the outputs of dilation 16. -/
theorem out16 : onat16 (iblk m c 2 t) (ix3 ⟨k.val / 128, by omega⟩ r ⟨k.val % 128, by omega⟩)
    = m ((c : Thread nD τ).loc main_arg2) (ix4 (batch t) ⟨(token t r).val % 16, by omega⟩ ⟨(token t r).val / 16, by omega⟩ k) := by
  refine (blk2 m c t _ _ _).trans (congrArg _ (funext fun a => Fin.ext ?_))
  match a with
  | ⟨0, _⟩ => rfl
  | ⟨1, _⟩ => show r.val % 16 = (512 * (t.val % 4) + r.val) % 16; omega
  | ⟨2, _⟩ => show 32 * (t.val % 4) + r.val / 16 = (512 * (t.val % 4) + r.val) / 16; omega
  | ⟨3, _⟩ => show 128 * (k.val / 128) + k.val % 128 = k.val; omega

/-- A token of the statistics of dilation 4. -/
theorem sta4 : lnat4 (iblk m c 4 t) (ix3 0 r l)
    = stat4 (m ((c : Thread nD τ).loc main_arg4)) (batch t) (token t r) l := by
  refine (blk4 m c t _ _ _).trans (congrArg _ (funext fun a => Fin.ext ?_))
  match a with
  | ⟨0, _⟩ => rfl
  | ⟨1, _⟩ => show r.val % 4 = (512 * (t.val % 4) + r.val) % 4; omega
  | ⟨2, _⟩ => show 128 * (t.val % 4) + r.val / 4 = (512 * (t.val % 4) + r.val) / 4; omega
  | ⟨3, _⟩ => rfl

/-- A token of the statistics of dilation 16. -/
theorem sta16 : lnat16 (iblk m c 5 t) (ix3 0 r l)
    = stat16 (m ((c : Thread nD τ).loc main_arg5)) (batch t) (token t r) l := by
  refine (blk5 m c t _ _ _).trans (congrArg _ (funext fun a => Fin.ext ?_))
  match a with
  | ⟨0, _⟩ => rfl
  | ⟨1, _⟩ => show r.val % 16 = (512 * (t.val % 4) + r.val) % 16; omega
  | ⟨2, _⟩ => show 32 * (t.val % 4) + r.val / 16 = (512 * (t.val % 4) + r.val) / 16; omega
  | ⟨3, _⟩ => rfl

/-- A token of the merged outputs. -/
theorem merged_eq : merged (iblk m c 0 t) (iblk m c 1 t) (iblk m c 2 t) (iblk m c 3 t) (iblk m c 4 t) (iblk m c 5 t) r k
    = mergedAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (batch t) (token t r) k := by
  unfold merged mergedAt
  rw [out4, out16, sta4, sta16, blk0, blk3]

/-- The tail's result over device `c`'s argument arrays. -/
abbrev final : Buf (Elt Ideal) ((c : Thread nD τ).loc main_v1) :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (m ((c : Thread nD τ).loc main_arg12))

/-- Where row `r`, lane `j` of grid point `t`'s block lies in the result array. -/
theorem emb13 : ((cfg0.win 13).blk t).view.emb (ix3 0 r j) = (ix3 (batch t) (token t r) j : S8x2048x1024.Idx) := by
  refine funext fun a => Fin.ext ?_
  match a with
  | ⟨0, _⟩ => show win0_13.index t 0 * 1 + 1 * 0 = t.val / 4; rw [(at13 t).1]; omega
  | ⟨1, _⟩ => show win0_13.index t 1 * 512 + 1 * r.val = 512 * (t.val % 4) + r.val; rw [(at13 t).2.1]; omega
  | ⟨2, _⟩ => show win0_13.index t 2 * 1024 + 1 * j.val = j.val; rw [(at13 t).2.2]; omega

/-- Grid point `t` writes back its block of the result. -/
theorem flushed_eq : (dats m 0 c).flushed 13 t = ((cfg0.win 13).blk t).view.read (Elt Ideal) (final m c) := by
  rw [Value.flushed13_A]
  funext y
  obtain ⟨z, r, j, rfl⟩ : ∃ (z : Fin 1) (r : Fin 512) (j : Fin 1024), (ix3 z r j : S1x512x1024.Idx) = y := ⟨y 0, y 1, y 2, ix3_eta y⟩
  obtain rfl : z = 0 := Subsingleton.elim _ _
  refine (out_apply _ _ _ _ _ _ _ _ _ _ _ _ _ _ _ _ _ _ _ _ _ _ _ _ _ _ _ _ _ _ _ _ _ _ _ _ _ _ _ _ _ _ _ _ _ _ _ _ _ r j).trans ?_
  show _ = final m c (((cfg0.win 13).blk t).view.emb (ix3 0 r j))
  rw [emb13]
  unfold final result rowOf
  simp only [merged_eq, blk6, blk7, blk8, blk9, blk10, blk11, blk12]
  rfl

/-- The blocks tile the result array. -/
theorem cover (y : S8x2048x1024.Idx) : ∃ t : Fin cfg0.N, (cfg0.win 13).flush t = true ∧ y ∈ ((cfg0.win 13).blk t).view.set := by
  have hN : cfg0.N = 32 := N_0
  have h0 : (y 0).val < 8 := (y 0).isLt
  have h1 : (y 1).val < 2048 := (y 1).isLt
  have lt : 4 * (y 0).val + (y 1).val / 512 < cfg0.N := by omega
  have g : (ix3 (batch ⟨_, lt⟩) (token ⟨_, lt⟩ ⟨(y 1).val % 512, by omega⟩) (y 2) : S8x2048x1024.Idx) = y := by
    refine funext fun a => Fin.ext ?_
    match a with
    | ⟨0, _⟩ => show (4 * (y 0).val + (y 1).val / 512) / 4 = (y 0).val; omega
    | ⟨1, _⟩ => show 512 * ((4 * (y 0).val + (y 1).val / 512) % 4) + (y 1).val % 512 = (y 1).val; omega
    | ⟨2, _⟩ => rfl
  exact ⟨⟨_, lt⟩, flush0_13 _, Finset.mem_map.mpr ⟨_, Finset.mem_univ _, (emb13 ⟨_, lt⟩ ⟨(y 1).val % 512, by omega⟩ (y 2)).trans g⟩⟩

/-- The kernel's result array after the run. -/
theorem final_eq : (dats m 0 c).arrAt 13 cfg0.N = final m c :=
  (dats m 0 c).arrAt_eq_of_cover 13 (final m c) (fun t _ => flushed_eq m c t) cover

end Cert.OddTailIdeal.Val

end
-- ==== Proof.OddRef.lean ====
/- The odd tail's reference, read at a batch, a token and a lane. -/
module

public import proofs.«01_k».proof.Proof.Gen.OddTailRefIdeal.Read
public import proofs.«01_k».proof.Proof.TailRow
public import proofs.«01_k».proof.Proof.MergeRow

@[expose] public section

set_option maxRecDepth 16384

noncomputable section

namespace Cert.OddTailRefIdeal.Val

open Idealize.ShloMosaic Cert.OddTailRefIdeal Cert.OddTailRefIdeal.Gen Cert.OddTailRefIdeal.Read Cert.Tail
open scoped BigOperators

section
variable (x0 : FVec Ideal S8x1x2048x512 .bf16) (x1 : FVec Ideal S8x4x512x512 .bf16) (x2 : FVec Ideal S8x16x128x512 .bf16)
  (x3 : FVec Ideal S8x1x2048x128 .f32) (x4 : FVec Ideal S8x4x512x128 .f32) (x5 : FVec Ideal S8x16x128x128 .f32)
  (b : Fin 8) (t : Fin 2048) (h : Fin 8) (d : Fin 64)

/-- The lane of a head among the statistics. -/
def lane (h : Fin 8) : Fin 128 := ⟨h.val, by omega⟩
/-- The lane of a head's number among the outputs. -/
def wide (h : Fin 8) (d : Fin 64) : Fin 512 := ⟨h.val * 64 + d.val, by omega⟩

theorem v2_apply : val_main_v2 (F := Ideal) x3 (ix3 b t h) = x3 (ix4 b 0 t (lane h)) := by
  unfold lane
  pointwise [val_main_v2, val_main_v1, val_main_v0]

theorem v5_apply : val_main_v5 (F := Ideal) x4 (ix3 b t h) = x4 (ix4 b ⟨t.val % 4, by omega⟩ ⟨t.val / 4, by omega⟩ (lane h)) := by
  unfold lane
  pointwise [val_main_v5, val_main_v4, val_main_v3]

theorem v8_apply : val_main_v8 (F := Ideal) x5 (ix3 b t h) = x5 (ix4 b ⟨t.val % 16, by omega⟩ ⟨t.val / 16, by omega⟩ (lane h)) := by
  unfold lane
  pointwise [val_main_v8, val_main_v7, val_main_v6]

theorem v16_apply : val_main_v16 (F := Ideal) x0 (ix4 b t h d) = x0 (ix4 b 0 t (wide h d)) := by
  unfold wide
  pointwise [val_main_v16, val_main_v15, val_main_v14, val_main_v13]

theorem v20_apply : val_main_v20 (F := Ideal) x1 (ix4 b t h d) = x1 (ix4 b ⟨t.val % 4, by omega⟩ ⟨t.val / 4, by omega⟩ (wide h d)) := by
  unfold wide
  pointwise [val_main_v20, val_main_v19, val_main_v18, val_main_v17]

theorem v24_apply : val_main_v24 (F := Ideal) x2 (ix4 b t h d) = x2 (ix4 b ⟨t.val % 16, by omega⟩ ⟨t.val / 16, by omega⟩ (wide h d)) := by
  unfold wide
  pointwise [val_main_v24, val_main_v23, val_main_v22, val_main_v21]

/-- The largest of the three statistics. -/
theorem v31_apply : val_main_v31 (F := Ideal) x3 x4 x5 (ix3 b t h)
    = max (max (val_main_v2 (F := Ideal) x3 (ix3 b t h)) (val_main_v5 (F := Ideal) x4 (ix3 b t h))) (val_main_v8 (F := Ideal) x5 (ix3 b t h)) := by
  unfold val_main_v31 val_main_v29 val_main_v12 val_main_v11 val_main_v10 val_main_v9
  generalize val_main_v2 (F := Ideal) x3 = p
  generalize val_main_v5 (F := Ideal) x4 = q
  generalize val_main_v8 (F := Ideal) x5 = r
  pointwise [val_main_v30, val_main_cst_0, val_main_cst]
  exact fold_three _

/-- The statistics side by side. -/
theorem v12_apply (g : Fin 3) : val_main_v12 (F := Ideal) x3 x4 x5 (ix4 g b t h)
    = ![val_main_v2 (F := Ideal) x3 (ix3 b t h), val_main_v5 (F := Ideal) x4 (ix3 b t h), val_main_v8 (F := Ideal) x5 (ix3 b t h)] g := by
  unfold val_main_v12 val_main_v11 val_main_v10 val_main_v9
  generalize val_main_v2 (F := Ideal) x3 = p
  generalize val_main_v5 (F := Ideal) x4 = q
  generalize val_main_v8 (F := Ideal) x5 = r
  fin_cases g <;> pointwise []

/-- The outputs side by side. -/
theorem v28_apply (g : Fin 3) : val_main_v28 (F := Ideal) x0 x1 x2 (ix5 g b t h d)
    = ![val_main_v16 (F := Ideal) x0 (ix4 b t h d), val_main_v20 (F := Ideal) x1 (ix4 b t h d), val_main_v24 (F := Ideal) x2 (ix4 b t h d)] g := by
  unfold val_main_v28 val_main_v27 val_main_v26 val_main_v25
  generalize val_main_v16 (F := Ideal) x0 = p
  generalize val_main_v20 (F := Ideal) x1 = q
  generalize val_main_v24 (F := Ideal) x2 = r
  fin_cases g <;> pointwise []

/-- A shifted exponential. -/
theorem v35_apply (g : Fin 3) : val_main_v35 (F := Ideal) x3 x4 x5 (ix4 g b t h)
    = Ideal.exp (val_main_v12 (F := Ideal) x3 x4 x5 (ix4 g b t h) - val_main_v31 (F := Ideal) x3 x4 x5 (ix3 b t h)) := by
  unfold val_main_v35 val_main_v34 val_main_v33 val_main_v32
  generalize val_main_v12 (F := Ideal) x3 x4 x5 = p
  generalize val_main_v31 (F := Ideal) x3 x4 x5 = q
  pointwise []

/-- A weight. -/
theorem v39_apply (g : Fin 3) : val_main_v39 (F := Ideal) x3 x4 x5 (ix4 g b t h)
    = Ideal.div (val_main_v35 (F := Ideal) x3 x4 x5 (ix4 g b t h)) (∑ e : Fin 3, val_main_v35 (F := Ideal) x3 x4 x5 (ix4 e b t h)) := by
  unfold val_main_v39 val_main_v38 val_main_v37 val_main_v36
  generalize val_main_v35 (F := Ideal) x3 x4 x5 = p
  pointwise [val_main_cst_1]

/-- The merged output of a head. -/
theorem v44_apply (j : Fin 512) : val_main_v44 (F := Ideal) x0 x1 x2 x3 x4 x5 (ix3 b t j)
    = ∑ g : Fin 3, val_main_v39 (F := Ideal) x3 x4 x5 (ix4 g b t ⟨j.val / 64, by omega⟩)
        * val_main_v28 (F := Ideal) x0 x1 x2 (ix5 g b t ⟨j.val / 64, by omega⟩ ⟨j.val % 64, by omega⟩) := by
  unfold val_main_v44 val_main_v43 val_main_v42 val_main_v41 val_main_v40
  generalize val_main_v39 (F := Ideal) x3 x4 x5 = p
  generalize val_main_v28 (F := Ideal) x0 x1 x2 = q
  pointwise [val_main_cst_2]

end

end Cert.OddTailRefIdeal.Val

end
-- ==== Proof.OddRefTail.lean ====
/- The odd tail's reference after the merge, read at a batch, a token and a lane. -/
module

public import proofs.«01_k».proof.Proof.OddRef

@[expose] public section

set_option maxRecDepth 16384

noncomputable section

namespace Cert.OddTailRefIdeal.Val

open Idealize.ShloMosaic Cert.OddTailRefIdeal Cert.OddTailRefIdeal.Gen Cert.OddTailRefIdeal.Read Cert.Tail
open scoped BigOperators

variable (x0 : FVec Ideal S8x1x2048x512 .bf16) (x1 : FVec Ideal S8x4x512x512 .bf16) (x2 : FVec Ideal S8x16x128x512 .bf16)
  (x3 : FVec Ideal S8x1x2048x128 .f32) (x4 : FVec Ideal S8x4x512x128 .f32) (x5 : FVec Ideal S8x16x128x128 .f32)
  (x6 : FVec Ideal S512x1024 .f32) (x7 : FVec Ideal S8x2048x1024 .f32) (x8 : FVec Ideal S8x6x1024 .f32) (x9 x10 : FVec Ideal S2x2x1024 .f32)
  (x11 : FVec Ideal S2x1024x4096 .f32) (x12 : FVec Ideal S2x4096x1024 .f32) (b : Fin 8) (t : Fin 2048) (j : Fin 1024)

/-- The projection of the merged outputs. -/
theorem v45_apply : val_main_v45 (F := Ideal) x0 x1 x2 x3 x4 x5 x6 (ix3 b t j)
    = ∑ k : Fin 512, val_main_v44 (F := Ideal) x0 x1 x2 x3 x4 x5 (ix3 b t k) * x6 (ix2 k j) := by
  rw [val_main_v45_apply]
  refine Finset.sum_congr rfl fun k _ => ?_
  rw [show lidx_main_v45 (ix3 b t j) k = ix3 b t k from by funext a; match a with | ⟨0, _⟩ => rfl | ⟨1, _⟩ => rfl | ⟨2, _⟩ => rfl,
    show ridx_main_v45 (ix3 b t j) k = ix2 k j from by funext a; match a with | ⟨0, _⟩ => rfl | ⟨1, _⟩ => rfl]

/-- The first residual. -/
theorem v70_apply : val_main_v70 (F := Ideal) x0 x1 x2 x3 x4 x5 x6 x7 x8 (ix3 b t j)
    = resid (fun k => x7 (ix3 b t k)) (fun k => x8 (ix3 b 2 k)) (fun k => val_main_v45 (F := Ideal) x0 x1 x2 x3 x4 x5 x6 (ix3 b t k)) j := by
  unfold val_main_v70 val_main_v69 resid
  generalize val_main_v45 (F := Ideal) x0 x1 x2 x3 x4 x5 x6 = y
  pointwise [val_main_v65, val_main_v64, val_main_cst_3, val_main_v68, val_main_v67, val_main_v66, val_main_cst_4, val_main_v54, val_main_v53, val_main_v52]

/-- The first layer norm. -/
theorem v98_apply : val_main_v98 (F := Ideal) x0 x1 x2 x3 x4 x5 x6 x7 x8 x9 x10 (ix3 b t j)
    = lnorm (fun k => val_main_v70 (F := Ideal) x0 x1 x2 x3 x4 x5 x6 x7 x8 (ix3 b t k)) (fun k => x9 (ix3 1 0 k)) (fun k => x10 (ix3 1 0 k)) j := by
  unfold val_main_v98 val_main_v95 val_main_v92 val_main_v91 val_main_v90 val_main_v89 val_main_v87 val_main_v86 val_main_v85 val_main_v83 val_main_v82 val_main_v81 val_main_v80 val_main_v79 val_main_v78 val_main_v76 val_main_v75
  generalize val_main_v70 (F := Ideal) x0 x1 x2 x3 x4 x5 x6 x7 x8 = z
  unfold lnorm mean
  pointwise [val_main_cst_5, val_main_cst_6, val_main_cst_7, val_main_cst_8, val_main_cst_9, val_main_v77, val_main_v84, val_main_v88, val_main_v94, val_main_v93, val_main_v72, val_main_v71, val_main_v97, val_main_v96, val_main_v74, val_main_v73]

/-- The MLP's input. -/
theorem v104_apply : val_main_v104 (F := Ideal) x0 x1 x2 x3 x4 x5 x6 x7 x8 x9 x10 (ix3 b t j)
    = scaled (fun k => val_main_v98 (F := Ideal) x0 x1 x2 x3 x4 x5 x6 x7 x8 x9 x10 (ix3 b t k)) (fun k => x8 (ix3 b 4 k)) (fun k => x8 (ix3 b 3 k)) j := by
  unfold val_main_v104 val_main_v102
  generalize val_main_v98 (F := Ideal) x0 x1 x2 x3 x4 x5 x6 x7 x8 x9 x10 = z
  unfold scaled
  pointwise [val_main_v101, val_main_v100, val_main_v99, val_main_cst_10, val_main_v60, val_main_v59, val_main_v58, val_main_v103, val_main_v57, val_main_v56, val_main_v55]

/-- The MLP's hidden layer. -/
theorem v109_apply (f : Fin 4096) : val_main_v109 (F := Ideal) x0 x1 x2 x3 x4 x5 x6 x7 x8 x9 x10 x11 (ix3 b t f)
    = act (fun k => val_main_v104 (F := Ideal) x0 x1 x2 x3 x4 x5 x6 x7 x8 x9 x10 (ix3 b t k)) fun k => x11 (ix3 1 k f) := by
  have e : val_main_v107 (F := Ideal) x0 x1 x2 x3 x4 x5 x6 x7 x8 x9 x10 x11 (ix3 b t f)
      = ∑ k, val_main_v104 (F := Ideal) x0 x1 x2 x3 x4 x5 x6 x7 x8 x9 x10 (ix3 b t k) * x11 (ix3 1 k f) := by
    rw [val_main_v107_apply]
    refine Finset.sum_congr rfl fun k _ => ?_
    rw [show lidx_main_v107 (ix3 b t f) k = ix3 b t k from by funext a; match a with | ⟨0, _⟩ => rfl | ⟨1, _⟩ => rfl | ⟨2, _⟩ => rfl,
      show ridx_main_v107 (ix3 b t f) k = ix2 k f from by funext a; match a with | ⟨0, _⟩ => rfl | ⟨1, _⟩ => rfl]
    congr 1
    pointwise [val_main_v106, val_main_v105]
  unfold act
  rw [← e]
  unfold val_main_v109 val_main_v108
  pointwise [val_main_call0_v0, val_main_call0_cst]

/-- The MLP's output. -/
theorem v112_apply : val_main_v112 (F := Ideal) x0 x1 x2 x3 x4 x5 x6 x7 x8 x9 x10 x11 x12 (ix3 b t j)
    = mlp (fun k => val_main_v104 (F := Ideal) x0 x1 x2 x3 x4 x5 x6 x7 x8 x9 x10 (ix3 b t k)) (fun k f => x11 (ix3 1 k f)) (fun f k => x12 (ix3 1 f k)) j := by
  rw [val_main_v112_apply]
  refine Finset.sum_congr rfl fun f _ => ?_
  rw [show lidx_main_v112 (ix3 b t j) f = ix3 b t f from by funext a; match a with | ⟨0, _⟩ => rfl | ⟨1, _⟩ => rfl | ⟨2, _⟩ => rfl,
    show ridx_main_v112 (ix3 b t j) f = ix2 f j from by funext a; match a with | ⟨0, _⟩ => rfl | ⟨1, _⟩ => rfl, v109_apply]
  congr 1
  pointwise [val_main_v111, val_main_v110]

/-- The second residual. -/
theorem v119_apply : val_main_v119 (F := Ideal) x0 x1 x2 x3 x4 x5 x6 x7 x8 x9 x10 x11 x12 (ix3 b t j)
    = resid (fun k => val_main_v98 (F := Ideal) x0 x1 x2 x3 x4 x5 x6 x7 x8 x9 x10 (ix3 b t k)) (fun k => x8 (ix3 b 5 k))
        (fun k => val_main_v112 (F := Ideal) x0 x1 x2 x3 x4 x5 x6 x7 x8 x9 x10 x11 x12 (ix3 b t k)) j := by
  unfold val_main_v119 val_main_v114 val_main_v118 resid
  generalize val_main_v112 (F := Ideal) x0 x1 x2 x3 x4 x5 x6 x7 x8 x9 x10 x11 x12 = y
  generalize val_main_v98 (F := Ideal) x0 x1 x2 x3 x4 x5 x6 x7 x8 x9 x10 = z
  pointwise [val_main_v113, val_main_cst_11, val_main_v117, val_main_v116, val_main_v115, val_main_cst_12, val_main_v63, val_main_v62, val_main_v61]

/-- The second layer norm. -/
theorem v147_apply : val_main_v147 (F := Ideal) x0 x1 x2 x3 x4 x5 x6 x7 x8 x9 x10 x11 x12 (ix3 b t j)
    = lnorm (fun k => val_main_v119 (F := Ideal) x0 x1 x2 x3 x4 x5 x6 x7 x8 x9 x10 x11 x12 (ix3 b t k)) (fun k => x9 (ix3 1 1 k)) (fun k => x10 (ix3 1 1 k)) j := by
  unfold val_main_v147 val_main_v144 val_main_v141 val_main_v140 val_main_v139 val_main_v138 val_main_v136 val_main_v135 val_main_v134 val_main_v132 val_main_v131 val_main_v130 val_main_v129 val_main_v128 val_main_v127 val_main_v125 val_main_v124
  generalize val_main_v119 (F := Ideal) x0 x1 x2 x3 x4 x5 x6 x7 x8 x9 x10 x11 x12 = z
  unfold lnorm mean
  pointwise [val_main_cst_13, val_main_cst_14, val_main_cst_15, val_main_cst_16, val_main_cst_17, val_main_v126, val_main_v133, val_main_v137, val_main_v143, val_main_v142, val_main_v121, val_main_v120, val_main_v146, val_main_v145, val_main_v123, val_main_v122]

/-- The reference's result, row by row. -/
theorem result_apply : val_main_v147 (F := Ideal) x0 x1 x2 x3 x4 x5 x6 x7 x8 x9 x10 x11 x12 (ix3 b t j)
    = Tail.row (fun i => ∑ k : Fin 512, val_main_v44 (F := Ideal) x0 x1 x2 x3 x4 x5 (ix3 b t k) * x6 (ix2 k i))
        (fun k => x7 (ix3 b t k)) (fun a k => x8 (ix3 b a k)) (fun a k => x9 (ix3 1 a k)) (fun a k => x10 (ix3 1 a k))
        (fun k f => x11 (ix3 1 k f)) (fun f k => x12 (ix3 1 f k)) j := by
  rw [v147_apply]
  simp only [v119_apply, v112_apply, v104_apply, v98_apply, v70_apply, v45_apply]
  rfl

end Cert.OddTailRefIdeal.Val

end
-- ==== Proof.OddClaim.lean ====
/- The odd tail's value claim: where the groups' statistics are finite, the kernel and its reference leave the same array. -/
module

public import proofs.«01_k».proof.Defs
public import proofs.«01_k».proof.Proof.Gen.OddTail
public import proofs.«01_k».proof.Proof.Gen.Pre_finite_lses
public import proofs.«01_k».proof.Proof.OddValue
public import proofs.«01_k».proof.Proof.OddRefTail

@[expose] public section

set_option maxRecDepth 16384

noncomputable section

namespace Cert.OddTailIdeal.Val

open Idealize.ShloMosaic Idealize.ShloMosaic.TcCoe Idealize.SL.Sem Cert.Tail
open Cert.OddTailRefIdeal.Val (lane wide)
open scoped BigOperators

/-- A value whose magnitude is below infinity is real. -/
theorem real_of_lt {x : EReal} (h : Ideal.cmp .olt (max x (-x)) (Ideal.ofBits .f32 0x7F800000#32) = 1#1) : ∃ a : ℝ, x = a := by
  have hb : Ideal.ofBits .f32 0x7F800000#32 = ⊤ := by simp [Ideal.ofBits, Ideal.ieee]
  rw [hb] at h
  induction x using EReal.rec with
  | coe a => exact ⟨a, rfl⟩
  | bot => simp [Ideal.cmp] at h
  | top => simp [Ideal.cmp] at h

section
variable (x0 : FVec Ideal S8x1x2048x512 .bf16) (x1 : FVec Ideal S8x4x512x512 .bf16) (x2 : FVec Ideal S8x16x128x512 .bf16)
  (x3 : FVec Ideal S8x1x2048x128 .f32) (x4 : FVec Ideal S8x4x512x128 .f32) (x5 : FVec Ideal S8x16x128x128 .f32)
  (x6 : FVec Ideal S512x1024 .f32) (x7 : FVec Ideal S8x2048x1024 .f32) (x8 : FVec Ideal S8x6x1024 .f32) (x9 x10 : FVec Ideal S2x2x1024 .f32)
  (x11 : FVec Ideal S2x1024x4096 .f32) (x12 : FVec Ideal S2x4096x1024 .f32)

/-- The heads' statistics are real. -/
def Real1 : Prop := ∀ (b : Fin 8) (t : Fin 2048) (h : Fin 8), ∃ a : ℝ, x3 (ix4 b 0 t (lane h)) = a
def Real4 : Prop := ∀ (b : Fin 8) (r : Fin 4) (t : Fin 512) (h : Fin 8), ∃ a : ℝ, x4 (ix4 b r t (lane h)) = a
def Real16 : Prop := ∀ (b : Fin 8) (r : Fin 16) (t : Fin 128) (h : Fin 8), ∃ a : ℝ, x5 (ix4 b r t (lane h)) = a

theorem real1 (h : (Cert.Pre_finite_lses.fn (F := Ideal) x0 x1 x2 x3 x4 x5 x6 x7 x8 x9 x10 x11 x12).1 = fun _ => 1#1) : Real1 x3 := by
  intro b t g
  have e := congrFun h (ix4 b 0 t g)
  refine real_of_lt (Eq.trans ?_ e)
  unfold lane
  dsimp only [Cert.Pre_finite_lses.fn]
  pointwise []
  rfl

theorem real4 (h : (Cert.Pre_finite_lses.fn (F := Ideal) x0 x1 x2 x3 x4 x5 x6 x7 x8 x9 x10 x11 x12).2.1 = fun _ => 1#1) : Real4 x4 := by
  intro b r t g
  have e := congrFun h (ix4 b r t g)
  refine real_of_lt (Eq.trans ?_ e)
  unfold lane
  dsimp only [Cert.Pre_finite_lses.fn]
  pointwise []
  rfl

theorem real16 (h : (Cert.Pre_finite_lses.fn (F := Ideal) x0 x1 x2 x3 x4 x5 x6 x7 x8 x9 x10 x11 x12).2.2 = fun _ => 1#1) : Real16 x5 := by
  intro b r t g
  have e := congrFun h (ix4 b r t g)
  refine real_of_lt (Eq.trans ?_ e)
  unfold lane
  dsimp only [Cert.Pre_finite_lses.fn]
  pointwise []
  rfl

/-- Of finite statistics, the reference's merged output is the kernel's. -/
theorem merged_ref (h1 : Real1 x3) (h4 : Real4 x4) (h16 : Real16 x5) (b : Fin 8) (t : Fin 2048) (j : Fin 512) :
    OddTailRefIdeal.Read.val_main_v44 (F := Ideal) x0 x1 x2 x3 x4 x5 (ix3 b t j) = mergedAt x0 x1 x2 x3 x4 x5 b t j := by
  have w : wide ⟨j.val / 64, by omega⟩ ⟨j.val % 64, by omega⟩ = j := Fin.ext (by show j.val / 64 * 64 + j.val % 64 = j.val; omega)
  obtain ⟨p, hp⟩ := h1 b t ⟨j.val / 64, by omega⟩
  obtain ⟨q, hq⟩ := h4 b ⟨t.val % 4, by omega⟩ ⟨t.val / 4, by omega⟩ ⟨j.val / 64, by omega⟩
  obtain ⟨r, hr⟩ := h16 b ⟨t.val % 16, by omega⟩ ⟨t.val / 16, by omega⟩ ⟨j.val / 64, by omega⟩
  have hl : lane ⟨j.val / 64, by omega⟩ = head j := rfl
  rw [hl] at hp hq hr
  rw [OddTailRefIdeal.Val.v44_apply]
  simp only [Fin.sum_univ_three, OddTailRefIdeal.Val.v39_apply, OddTailRefIdeal.Val.v35_apply, OddTailRefIdeal.Val.v12_apply,
    OddTailRefIdeal.Val.v31_apply, OddTailRefIdeal.Val.v28_apply, OddTailRefIdeal.Val.v2_apply, OddTailRefIdeal.Val.v5_apply,
    OddTailRefIdeal.Val.v8_apply, OddTailRefIdeal.Val.v16_apply, OddTailRefIdeal.Val.v20_apply, OddTailRefIdeal.Val.v24_apply, w, hl,
    Matrix.cons_val_zero, Matrix.cons_val_one, Matrix.cons_val]
  unfold mergedAt stat4 stat16
  rw [hp, hq, hr, ← soft_eq_weight, ← soft_eq_weight, ← soft_eq_weight]
  rfl

/-- Of finite statistics, the reference's result is the tail's result over the whole arrays. -/
theorem reference_eq (h1 : Real1 x3) (h4 : Real4 x4) (h16 : Real16 x5) :
    OddTailRefIdeal.Read.val_main_v147 (F := Ideal) x0 x1 x2 x3 x4 x5 x6 x7 x8 x9 x10 x11 x12 = result x0 x1 x2 x3 x4 x5 x6 x7 x8 x9 x10 x11 x12 := by
  funext y
  obtain ⟨b, t, j, rfl⟩ : ∃ (b : Fin 8) (t : Fin 2048) (j : Fin 1024), (ix3 b t j : S8x2048x1024.Idx) = y := ⟨y 0, y 1, y 2, ix3_eta y⟩
  refine (OddTailRefIdeal.Val.result_apply x0 x1 x2 x3 x4 x5 x6 x7 x8 x9 x10 x11 x12 b t j).trans ?_
  simp only [merged_ref x0 x1 x2 x3 x4 x5 h1 h4 h16]
  rfl

/-- The same of arguments equal to them. -/
theorem reference_of {y0 : FVec Ideal S8x1x2048x512 .bf16} {y1 : FVec Ideal S8x4x512x512 .bf16} {y2 : FVec Ideal S8x16x128x512 .bf16}
    {y3 : FVec Ideal S8x1x2048x128 .f32} {y4 : FVec Ideal S8x4x512x128 .f32} {y5 : FVec Ideal S8x16x128x128 .f32}
    {y6 : FVec Ideal S512x1024 .f32} {y7 : FVec Ideal S8x2048x1024 .f32} {y8 : FVec Ideal S8x6x1024 .f32} {y9 y10 : FVec Ideal S2x2x1024 .f32}
    {y11 : FVec Ideal S2x1024x4096 .f32} {y12 : FVec Ideal S2x4096x1024 .f32}
    (e0 : y0 = x0) (e1 : y1 = x1) (e2 : y2 = x2) (e3 : y3 = x3) (e4 : y4 = x4) (e5 : y5 = x5) (e6 : y6 = x6) (e7 : y7 = x7) (e8 : y8 = x8)
    (e9 : y9 = x9) (e10 : y10 = x10) (e11 : y11 = x11) (e12 : y12 = x12) (h1 : Real1 x3) (h4 : Real4 x4) (h16 : Real16 x5) :
    OddTailRefIdeal.Read.val_main_v147 (F := Ideal) y0 y1 y2 y3 y4 y5 y6 y7 y8 y9 y10 y11 y12 = result x0 x1 x2 x3 x4 x5 x6 x7 x8 x9 x10 x11 x12 := by
  rw [e0, e1, e2, e3, e4, e5, e6, e7, e8, e9, e10, e11, e12]
  exact reference_eq x0 x1 x2 x3 x4 x5 x6 x7 x8 x9 x10 x11 x12 h1 h4 h16

end

/-- From arguments that agree and whose statistics are finite, the kernel and the reference both end with the tail's result, their arguments unchanged. -/
theorem claim : algebraic_OddTailIdeal_OddTailRefIdeal_pre_finite_lses := by
  intro m g m' g' hpre e
  refine ⟨fun c => final m c, (θ_run _ _ _).mono (fun r h c => ⟨((h c).1).trans (final_eq m c), (h c).2⟩) (Value.run_blocks m g),
    (θ_run _ _ _).mono (fun r h c => ⟨?_, (h c).2⟩) (OddTailRefIdeal.Value.run m' g')⟩
  obtain ⟨e0, e1, e2, e3, e4, e5, e6, e7, e8, e9, e10, e11, e12⟩ := e c
  obtain ⟨p1, p4, p16⟩ := hpre c
  rw [(h c).1, OddTailRefIdeal.Read.val_main_v147_eq]
  exact reference_of _ _ _ _ _ _ _ _ _ _ _ _ _ e0 e1 e2 e3 e4 e5 e6 e7 e8 e9 e10 e11 e12
    (real1 _ _ _ _ _ _ _ _ _ _ _ _ _ p1) (real4 _ _ _ _ _ _ _ _ _ _ _ _ _ p4) (real16 _ _ _ _ _ _ _ _ _ _ _ _ _ p16)

end Cert.OddTailIdeal.Val

end
-- ==== Proof.QkvBlock.lean ====
/- What the projection ahead of the dilated attention leaves in its three blocks: the tokens of one tile gathered by
   residue, modulated, and multiplied by the weights of one group. -/
module

public import proofs.«01_k».proof.Proof.Gen.QkvIdeal.Frame
public import Idealize.ShloMosaic.Lib.Pointwise
public import Idealize.ShloMosaic.PureOps.Ideal.Laws
public import Idealize.ShloMosaic.Lib.Pipeline.ReadBack
import all proofs.«01_k».proof.Proof.Gen.QkvIdeal.Frame.RunA
import all proofs.«01_k».proof.Proof.Gen.QkvIdeal.Frame

@[expose] public section

set_option maxRecDepth 16384

noncomputable section

namespace Cert.QkvIdeal.Val

open Idealize.ShloMosaic Cert.QkvIdeal.Gen
open scoped BigOperators

/-- Four strided quarters laid below one another: row `ρ` is row `ρ % 256` of quarter `ρ / 256`. -/
theorem piled4 (f : Fin 1024 → Fin 128 → EReal) {q0 q1 q2 q3 : Vec Ideal S1x256x128 .f32}
    (e0 : ∀ r l, q0 (ix3 0 r l) = f ⟨0 + 4 * r.val, by omega⟩ l) (e1 : ∀ r l, q1 (ix3 0 r l) = f ⟨1 + 4 * r.val, by omega⟩ l)
    (e2 : ∀ r l, q2 (ix3 0 r l) = f ⟨2 + 4 * r.val, by omega⟩ l) (e3 : ∀ r l, q3 (ix3 0 r l) = f ⟨3 + 4 * r.val, by omega⟩ l)
    (ρ : Fin 1024) (l : Fin 128) :
    k0_pay17 q0 q1 q2 q3 (ix2 ρ l) = f ⟨ρ.val / 256 + 4 * (ρ.val % 256), by omega⟩ l := by
  pointwise [k0_pay17, e0, e1, e2, e3]
  split_ifs <;> refine congrArg (fun t => f t l) (Fin.ext ?_) <;> dsimp only <;> omega

/-- Sixteen parts laid below one another: row `ρ` is row `ρ % 64` of part `ρ / 64`. -/
theorem piled16 (q : Fin 16 → FVec Ideal S64x128 .f32) (ρ : Fin 1024) (l : Fin 128) :
    concatenate S1024x128 0 [⟨S64x128, q 0⟩, ⟨S64x128, q 1⟩, ⟨S64x128, q 2⟩, ⟨S64x128, q 3⟩, ⟨S64x128, q 4⟩, ⟨S64x128, q 5⟩, ⟨S64x128, q 6⟩, ⟨S64x128, q 7⟩, ⟨S64x128, q 8⟩, ⟨S64x128, q 9⟩, ⟨S64x128, q 10⟩, ⟨S64x128, q 11⟩, ⟨S64x128, q 12⟩, ⟨S64x128, q 13⟩, ⟨S64x128, q 14⟩, ⟨S64x128, q 15⟩]
      concatenates_S64x128_S64x128_S64x128_S64x128_S64x128_S64x128_S64x128_S64x128_S64x128_S64x128_S64x128_S64x128_S64x128_S64x128_S64x128_S64x128_S1024x128_d0 (ix2 ρ l)
      = q ⟨ρ.val / 64, by omega⟩ (ix2 ⟨ρ.val % 64, Nat.mod_lt _ (by decide)⟩ l) :=
  concatenate_ofFn_apply (t := S1024x128) (s₁ := S64x128) 0 q concatenates_S64x128_S64x128_S64x128_S64x128_S64x128_S64x128_S64x128_S64x128_S64x128_S64x128_S64x128_S64x128_S64x128_S64x128_S64x128_S64x128_S1024x128_d0 rfl 64 rfl (ix2 ρ l) ⟨ρ.val / 64, by omega⟩ rfl _ rfl
    (fun b hb => by
      match b with
      | ⟨0, _⟩ => exact absurd rfl hb
      | ⟨1, _⟩ => rfl)

/-- Eight lane tiles side by side. -/
theorem lanes8 (f : Fin 1024 → Fin 1024 → EReal) {t0 t1 t2 t3 t4 t5 t6 t7 : FVec Ideal S1024x128 .f32}
    (e0 : ∀ r l, t0 (ix2 r l) = f r ⟨128 * 0 + l.val, by omega⟩) (e1 : ∀ r l, t1 (ix2 r l) = f r ⟨128 * 1 + l.val, by omega⟩)
    (e2 : ∀ r l, t2 (ix2 r l) = f r ⟨128 * 2 + l.val, by omega⟩) (e3 : ∀ r l, t3 (ix2 r l) = f r ⟨128 * 3 + l.val, by omega⟩)
    (e4 : ∀ r l, t4 (ix2 r l) = f r ⟨128 * 4 + l.val, by omega⟩) (e5 : ∀ r l, t5 (ix2 r l) = f r ⟨128 * 5 + l.val, by omega⟩)
    (e6 : ∀ r l, t6 (ix2 r l) = f r ⟨128 * 6 + l.val, by omega⟩) (e7 : ∀ r l, t7 (ix2 r l) = f r ⟨128 * 7 + l.val, by omega⟩)
    (ρ k : Fin 1024) :
    concatenate S1024x1024 1 [⟨S1024x128, t0⟩, ⟨S1024x128, t1⟩, ⟨S1024x128, t2⟩, ⟨S1024x128, t3⟩, ⟨S1024x128, t4⟩,
      ⟨S1024x128, t5⟩, ⟨S1024x128, t6⟩, ⟨S1024x128, t7⟩]
      concatenates_S1024x128_S1024x128_S1024x128_S1024x128_S1024x128_S1024x128_S1024x128_S1024x128_S1024x1024_d1 (ix2 ρ k) = f ρ k := by
  pointwise [e0, e1, e2, e3, e4, e5, e6, e7]
  split_ifs <;> refine congrArg (f ρ) (Fin.ext ?_) <;> dsimp only <;> omega

variable (c : Dev nD) (i : grid0.Coords) (a2 : Memref sig .tc .vmem S1x1024x1024 .f32) (h2 : a2.IsWhole)
  (a3 : Memref sig .tc .vmem S1x6x1024 .f32) (h3 : a3.IsWhole) (a4 : Memref sig .tc .vmem S1024x4608 .f32) (h4 : a4.IsWhole)
  (a5 : Memref sig .tc .vmem S1x1x1024x1536 .bf16) (h5 : a5.IsWhole) (a6 : Memref sig .tc .vmem S1x4x256x1536 .bf16) (h6 : a6.IsWhole)
  (a7 : Memref sig .tc .vmem S1x16x64x1536 .bf16) (h7 : a7.IsWhole) (a8 : Memref sig .tc .vmem S8x1024x128 .f32) (h8 : a8.IsWhole)
  (a9 : Memref sig .tc .vmem S8x1024x128 .f32) (h9 : a9.IsWhole)
  (x0 : Vec Ideal S1x1024x1024 .f32) (x1 : Vec Ideal S1x6x1024 .f32) (x2 : Vec Ideal S1024x4608 .f32)

/-- The tile in natural order, by lane tiles. -/
def nat1 (y : S8x1024x128.Idx) : EReal :=
  x0 (ix3 0 (y 1) ⟨128 * (y 0).val + (y 2).val, by have : (y 0).val < 8 := (y 0).2; have : (y 2).val < 128 := (y 2).2; show _ < 1024; omega⟩)

/-- The tile with its residues of four gathered, by lane tiles. -/
def nat4 (y : S8x1024x128.Idx) : EReal :=
  x0 (ix3 0 ⟨(y 1).val / 256 + 4 * ((y 1).val % 256), by have : (y 1).val < 1024 := (y 1).2; show _ < 1024; omega⟩
    ⟨128 * (y 0).val + (y 2).val, by have : (y 0).val < 8 := (y 0).2; have : (y 2).val < 128 := (y 2).2; show _ < 1024; omega⟩)

/-- One lane tile's store in natural order. -/
theorem piece1 {k o : ℕ} (ho : o = 128 * k) {i1} (i2) (y : S1x1024x128.Idx) :
    k0_pay6 (View.readAt (Elt Ideal) a2.view (Rect.unit (s := S1x1024x1024) ![0, 0, o] S1x1024x128.size i1).toLoadRect (h2.unread x0)) y
      = nat1 x0 (Rect.emb (Rect.unit (s := S8x1024x128) ![k, 0, 0] S1x1024x128.size i2) y) := by
  obtain ⟨u, v, w, rfl⟩ : ∃ u v w, y = ix3 u v w := ⟨_, _, _, eq_ix3 y⟩
  rw [View.readAt_eq_ld, h2.read_unread]
  unfold nat1
  pointwise [k0_pay6]
  refine congrArg x0 (funext fun a => Fin.ext ?_)
  match a with
  | ⟨0, _⟩ => rfl
  | ⟨1, _⟩ => show v.val = 0 + 1 * v.val; omega
  | ⟨2, _⟩ => show o + w.val = 128 * (k + 1 * u.val) + (0 + 1 * w.val); omega

theorem pieces1 : View.PiecesOf (nat1 x0) (kernelRun0_A.sl.HS0_8 (F := Ideal) c a2 h2 x0) := by
  unfold kernelRun0_A.sl.HS0_8
  repeat' first | exact trivial | refine ⟨piece1 a2 h2 x0 (by decide) (by decide), ?_⟩

/-- Eight stores of lane tiles cover the buffer. -/
theorem cover8 (L : List (View.Piece (Elt Ideal) S8x1024x128 .f32))
    (key : ∀ e : Fin 8, ∃ p ∈ L, p.1.off = ![e.val, 0, 0] ∧ p.1.size = S1x1024x128.size ∧ p.1.stride = ![1, 1, 1]) (y : S8x1024x128.Idx) :
    ∃ p ∈ L, y ∈ p.1.set := by
  obtain ⟨p, hp, ho, hs, ht⟩ := key ⟨(y 0).val, (y 0).2⟩
  refine ⟨p, hp, p.1.mem_set.mpr ?_⟩
  rw [ho, hs, ht]
  intro a
  match a with
  | ⟨0, _⟩ => exact ⟨0, show 0 < 1 from Nat.one_pos, show (y 0).val = (y 0).val + 1 * 0 by omega⟩
  | ⟨1, _⟩ => exact ⟨(y 1).val, (y 1).2, show (y 1).val = 0 + 1 * (y 1).val by omega⟩
  | ⟨2, _⟩ => exact ⟨(y 2).val, (y 2).2, show (y 2).val = 0 + 1 * (y 2).val by omega⟩

theorem canon1 : View.canon (kernelRun0_A.sl.HS0_8 (F := Ideal) c a2 h2 x0) = nat1 x0 := by
  refine funext fun y => View.canon_apply_of_pieces _ _ (pieces1 c a2 h2 x0).mem y (cover8 _ (fun e => ?_) y)
  have hl : (kernelRun0_A.sl.HS0_8 (F := Ideal) c a2 h2 x0).length = 8 := rfl
  have hk : 7 - e.val < (kernelRun0_A.sl.HS0_8 (F := Ideal) c a2 h2 x0).length := by omega
  refine ⟨_, List.getElem_mem hk, ?_⟩
  fin_cases e <;> exact ⟨rfl, rfl, by funext a; fin_cases a <;> rfl⟩

/-- One strided read of the tile in natural order. -/
theorem read1 {k o : ℕ} (hk : k < 8) (ho : o < 4) {i1} (r : Fin 256) (l : Fin 128) :
    a8.view.readCov (kernelRun0_A.sl.HS0_8 (F := Ideal) c a2 h2 x0)
      { off := ![k, o, 0], size := S1x256x128.size, stride := ![1, 4, 1], inb := i1 } (ix3 0 r l)
      = x0 (ix3 0 ⟨o + 4 * r.val, by omega⟩ ⟨128 * k + l.val, by omega⟩) := by
  rw [View.readCov_eq_canon', canon1]
  unfold nat1
  refine congrArg x0 (funext fun a => Fin.ext ?_)
  match a with
  | ⟨0, _⟩ => rfl
  | ⟨1, _⟩ => show o + 4 * r.val = o + 4 * r.val; rfl
  | ⟨2, _⟩ => show 128 * (k + 1 * 0) + (0 + 1 * l.val) = 128 * k + l.val; omega

/-- A lane tile with its residues of four gathered. -/
theorem tile4 (k : Fin 8) (q : Fin 4 → Vec Ideal S1x256x128 .f32)
    (e : ∀ o r l, q o (ix3 0 r l) = x0 (ix3 0 ⟨o.val + 4 * r.val, by omega⟩ ⟨128 * k.val + l.val, by omega⟩)) (ρ : Fin 1024) (l : Fin 128) :
    k0_pay17 (q 0) (q 1) (q 2) (q 3) (ix2 ρ l) = nat4 x0 (ix3 k ρ l) :=
  piled4 (fun t l => x0 (ix3 0 t ⟨128 * k.val + l.val, by omega⟩)) (e 0) (e 1) (e 2) (e 3) ρ l

set_option maxHeartbeats 4000000 in
/-- The eight lane tiles with their residues of four gathered. -/
theorem tiles4 (ρ : Fin 1024) (l : Fin 128) :
    kernelRun0_A.sl.r_4 c a2 h2 a8 x0 (ix2 ρ l) = nat4 x0 (ix3 0 ρ l) ∧
    kernelRun0_A.sl.r_5 c a2 h2 a8 x0 (ix2 ρ l) = nat4 x0 (ix3 1 ρ l) ∧
    kernelRun0_A.sl.r_6 c a2 h2 a8 x0 (ix2 ρ l) = nat4 x0 (ix3 2 ρ l) ∧
    kernelRun0_A.sl.r_8 c a2 h2 a8 x0 (ix2 ρ l) = nat4 x0 (ix3 3 ρ l) ∧
    kernelRun0_A.sl.r_9 c a2 h2 a8 x0 (ix2 ρ l) = nat4 x0 (ix3 4 ρ l) ∧
    kernelRun0_A.sl.r_10 c a2 h2 a8 x0 (ix2 ρ l) = nat4 x0 (ix3 5 ρ l) ∧
    kernelRun0_A.sl.r_12 c a2 h2 a8 x0 (ix2 ρ l) = nat4 x0 (ix3 6 ρ l) ∧
    kernelRun0_A.sl.r_13 c a2 h2 a8 x0 (ix2 ρ l) = nat4 x0 (ix3 7 ρ l) :=
  ⟨tile4 x0 0 ![kernelRun0_A.sl.v46 c a2 h2 a8 x0, kernelRun0_A.sl.v48 c a2 h2 a8 x0, kernelRun0_A.sl.v50 c a2 h2 a8 x0, kernelRun0_A.sl.v52 c a2 h2 a8 x0] (fun o r l => by fin_cases o <;> exact read1 c a2 h2 a8 x0 (by decide) (by decide) r l) ρ l,
    tile4 x0 1 ![kernelRun0_A.sl.v55 c a2 h2 a8 x0, kernelRun0_A.sl.v57 c a2 h2 a8 x0, kernelRun0_A.sl.v59 c a2 h2 a8 x0, kernelRun0_A.sl.v61 c a2 h2 a8 x0] (fun o r l => by fin_cases o <;> exact read1 c a2 h2 a8 x0 (by decide) (by decide) r l) ρ l,
    tile4 x0 2 ![kernelRun0_A.sl.v64 c a2 h2 a8 x0, kernelRun0_A.sl.v66 c a2 h2 a8 x0, kernelRun0_A.sl.v68 c a2 h2 a8 x0, kernelRun0_A.sl.v70 c a2 h2 a8 x0] (fun o r l => by fin_cases o <;> exact read1 c a2 h2 a8 x0 (by decide) (by decide) r l) ρ l,
    tile4 x0 3 ![kernelRun0_A.sl.v73 c a2 h2 a8 x0, kernelRun0_A.sl.v75 c a2 h2 a8 x0, kernelRun0_A.sl.v77 c a2 h2 a8 x0, kernelRun0_A.sl.v79 c a2 h2 a8 x0] (fun o r l => by fin_cases o <;> exact read1 c a2 h2 a8 x0 (by decide) (by decide) r l) ρ l,
    tile4 x0 4 ![kernelRun0_A.sl.v82 c a2 h2 a8 x0, kernelRun0_A.sl.v84 c a2 h2 a8 x0, kernelRun0_A.sl.v86 c a2 h2 a8 x0, kernelRun0_A.sl.v88 c a2 h2 a8 x0] (fun o r l => by fin_cases o <;> exact read1 c a2 h2 a8 x0 (by decide) (by decide) r l) ρ l,
    tile4 x0 5 ![kernelRun0_A.sl.v91 c a2 h2 a8 x0, kernelRun0_A.sl.v93 c a2 h2 a8 x0, kernelRun0_A.sl.v95 c a2 h2 a8 x0, kernelRun0_A.sl.v97 c a2 h2 a8 x0] (fun o r l => by fin_cases o <;> exact read1 c a2 h2 a8 x0 (by decide) (by decide) r l) ρ l,
    tile4 x0 6 ![kernelRun0_A.sl.v100 c a2 h2 a8 x0, kernelRun0_A.sl.v102 c a2 h2 a8 x0, kernelRun0_A.sl.v104 c a2 h2 a8 x0, kernelRun0_A.sl.v106 c a2 h2 a8 x0] (fun o r l => by fin_cases o <;> exact read1 c a2 h2 a8 x0 (by decide) (by decide) r l) ρ l,
    tile4 x0 7 ![kernelRun0_A.sl.v109 c a2 h2 a8 x0, kernelRun0_A.sl.v111 c a2 h2 a8 x0, kernelRun0_A.sl.v113 c a2 h2 a8 x0, kernelRun0_A.sl.v115 c a2 h2 a8 x0] (fun o r l => by fin_cases o <;> exact read1 c a2 h2 a8 x0 (by decide) (by decide) r l) ρ l⟩

/-- One lane tile's store with its residues of four gathered. -/
theorem piece4 {k : ℕ} (hk : k < 8) {T : FVec Ideal S1024x128 .f32} (e : ∀ ρ l, T (ix2 ρ l) = nat4 x0 (ix3 ⟨k, hk⟩ ρ l)) (i2) (y : S1x1024x128.Idx) :
    k0_pay26 T y = nat4 x0 (Rect.emb (Rect.unit (s := S8x1024x128) ![k, 0, 0] S1x1024x128.size i2) y) := by
  obtain ⟨u, v, w, rfl⟩ : ∃ u v w, y = ix3 u v w := ⟨_, _, _, eq_ix3 y⟩
  pointwise [k0_pay26]
  rw [e]
  refine congrArg (nat4 x0) (funext fun a => Fin.ext ?_)
  match a with
  | ⟨0, _⟩ => show k = k + 1 * u.val; omega
  | ⟨1, _⟩ => show v.val = 0 + 1 * v.val; omega
  | ⟨2, _⟩ => show w.val = 0 + 1 * w.val; omega

theorem pieces4 : View.PiecesOf (nat4 x0) (kernelRun0_A.sl.HS1_8 (F := Ideal) c a2 h2 a8 x0) := by
  have h := tiles4 c a2 h2 a8 x0
  exact ⟨piece4 x0 (k := 7) (by decide) (fun ρ l => (h ρ l).2.2.2.2.2.2.2) (by decide), piece4 x0 (k := 6) (by decide) (fun ρ l => (h ρ l).2.2.2.2.2.2.1) (by decide),
    piece4 x0 (k := 5) (by decide) (fun ρ l => (h ρ l).2.2.2.2.2.1) (by decide), piece4 x0 (k := 4) (by decide) (fun ρ l => (h ρ l).2.2.2.2.1) (by decide),
    piece4 x0 (k := 3) (by decide) (fun ρ l => (h ρ l).2.2.2.1) (by decide), piece4 x0 (k := 2) (by decide) (fun ρ l => (h ρ l).2.2.1) (by decide),
    piece4 x0 (k := 1) (by decide) (fun ρ l => (h ρ l).2.1) (by decide), piece4 x0 (k := 0) (by decide) (fun ρ l => (h ρ l).1) (by decide), trivial⟩

theorem canon4 : View.canon (kernelRun0_A.sl.HS1_8 (F := Ideal) c a2 h2 a8 x0) = nat4 x0 := by
  refine funext fun y => View.canon_apply_of_pieces _ _ (pieces4 c a2 h2 a8 x0).mem y (cover8 _ (fun e => ?_) y)
  have hl : (kernelRun0_A.sl.HS1_8 (F := Ideal) c a2 h2 a8 x0).length = 8 := rfl
  have hk : 7 - e.val < (kernelRun0_A.sl.HS1_8 (F := Ideal) c a2 h2 a8 x0).length := by omega
  refine ⟨_, List.getElem_mem hk, ?_⟩
  fin_cases e <;> exact ⟨rfl, rfl, by funext a; fin_cases a <;> rfl⟩

/-- One strided read of the tile with its residues of four gathered. -/
theorem read4 {k o : ℕ} (hk : k < 8) (ho : o % 256 < 4) (ho' : o < 1024) {i1} (r : Fin 64) (l : Fin 128) :
    a9.view.readCov (kernelRun0_A.sl.HS1_8 (F := Ideal) c a2 h2 a8 x0)
      { off := ![k, o, 0], size := S1x64x128.size, stride := ![1, 4, 1], inb := i1 } (ix3 0 r l)
      = x0 (ix3 0 ⟨o / 256 + 4 * (o % 256) + 16 * r.val, by omega⟩ ⟨128 * k + l.val, by omega⟩) := by
  rw [View.readCov_eq_canon', canon4]
  unfold nat4
  refine congrArg x0 (funext fun a => Fin.ext ?_)
  match a with
  | ⟨0, _⟩ => rfl
  | ⟨1, _⟩ => show (o + 4 * r.val) / 256 + 4 * ((o + 4 * r.val) % 256) = o / 256 + 4 * (o % 256) + 16 * r.val; omega
  | ⟨2, _⟩ => show 128 * (k + 1 * 0) + (0 + 1 * l.val) = 128 * k + l.val; omega

/-- The token that row `ρ` holds when the residues of sixteen are gathered: part `ρ / 64` is residue `a + 4 b` at `4 a + b`. -/
def tok16 (ρ : Fin 1024) : Fin 1024 :=
  ⟨ρ.val / 64 / 4 + 4 * (ρ.val / 64 % 4) + 16 * (ρ.val % 64), by omega⟩

/-- A lane tile with its residues of sixteen gathered. -/
theorem tile16 (k : Fin 8) (q : Fin 16 → Vec Ideal S1x64x128 .f32)
    (e : ∀ o r l, q o (ix3 0 r l) = x0 (ix3 0 ⟨o.val / 4 + 4 * (o.val % 4) + 16 * r.val, by omega⟩ ⟨128 * k.val + l.val, by omega⟩))
    (ρ : Fin 1024) (l : Fin 128) :
    k0_pay39 (k0_pay34 (q 0)) (k0_pay34 (q 1)) (k0_pay34 (q 2)) (k0_pay34 (q 3)) (k0_pay34 (q 4)) (q 5) (q 6) (q 7) (q 8) (q 9) (q 10) (q 11)
      (q 12) (q 13) (q 14) (q 15) (ix2 ρ l) = x0 (ix3 0 (tok16 ρ) ⟨128 * k.val + l.val, by omega⟩) := by
  refine (piled16 (fun o => k0_pay34 (q o)) ρ l).trans ?_
  pointwise [k0_pay34]
  exact e _ _ _

set_option maxHeartbeats 8000000 in
/-- The eight lane tiles with their residues of sixteen gathered, side by side. -/
theorem tiles16 (ρ : Fin 1024) (k : Fin 1024) : kernelRun0_A.sl.r_89 c a2 h2 a8 a9 x0 (ix2 ρ k) = x0 (ix3 0 (tok16 ρ) k) := by
  unfold kernelRun0_A.sl.r_89
  refine lanes8 (fun ρ k => x0 (ix3 0 (tok16 ρ) k)) (fun ρ l => ?_) (fun ρ l => ?_) (fun ρ l => ?_) (fun ρ l => ?_) (fun ρ l => ?_) (fun ρ l => ?_)
    (fun ρ l => ?_) (fun ρ l => ?_) ρ k
  · exact tile16 x0 0 ![kernelRun0_A.sl.v142 c a2 h2 a8 a9 x0, kernelRun0_A.sl.v144 c a2 h2 a8 a9 x0, kernelRun0_A.sl.v146 c a2 h2 a8 a9 x0, kernelRun0_A.sl.v148 c a2 h2 a8 a9 x0, kernelRun0_A.sl.v150 c a2 h2 a8 a9 x0, kernelRun0_A.sl.v152 c a2 h2 a8 a9 x0, kernelRun0_A.sl.v154 c a2 h2 a8 a9 x0, kernelRun0_A.sl.v156 c a2 h2 a8 a9 x0, kernelRun0_A.sl.v158 c a2 h2 a8 a9 x0, kernelRun0_A.sl.v160 c a2 h2 a8 a9 x0, kernelRun0_A.sl.v162 c a2 h2 a8 a9 x0, kernelRun0_A.sl.v164 c a2 h2 a8 a9 x0, kernelRun0_A.sl.v166 c a2 h2 a8 a9 x0, kernelRun0_A.sl.v168 c a2 h2 a8 a9 x0, kernelRun0_A.sl.v170 c a2 h2 a8 a9 x0, kernelRun0_A.sl.v172 c a2 h2 a8 a9 x0] (fun o r l => by fin_cases o <;> exact read4 c a2 h2 a8 a9 x0 (by decide) (by decide) (by decide) r l) ρ l
  · exact tile16 x0 1 ![kernelRun0_A.sl.v175 c a2 h2 a8 a9 x0, kernelRun0_A.sl.v177 c a2 h2 a8 a9 x0, kernelRun0_A.sl.v179 c a2 h2 a8 a9 x0, kernelRun0_A.sl.v181 c a2 h2 a8 a9 x0, kernelRun0_A.sl.v183 c a2 h2 a8 a9 x0, kernelRun0_A.sl.v185 c a2 h2 a8 a9 x0, kernelRun0_A.sl.v187 c a2 h2 a8 a9 x0, kernelRun0_A.sl.v189 c a2 h2 a8 a9 x0, kernelRun0_A.sl.v191 c a2 h2 a8 a9 x0, kernelRun0_A.sl.v193 c a2 h2 a8 a9 x0, kernelRun0_A.sl.v195 c a2 h2 a8 a9 x0, kernelRun0_A.sl.v197 c a2 h2 a8 a9 x0, kernelRun0_A.sl.v199 c a2 h2 a8 a9 x0, kernelRun0_A.sl.v201 c a2 h2 a8 a9 x0, kernelRun0_A.sl.v203 c a2 h2 a8 a9 x0, kernelRun0_A.sl.v205 c a2 h2 a8 a9 x0] (fun o r l => by fin_cases o <;> exact read4 c a2 h2 a8 a9 x0 (by decide) (by decide) (by decide) r l) ρ l
  · exact tile16 x0 2 ![kernelRun0_A.sl.v208 c a2 h2 a8 a9 x0, kernelRun0_A.sl.v210 c a2 h2 a8 a9 x0, kernelRun0_A.sl.v212 c a2 h2 a8 a9 x0, kernelRun0_A.sl.v214 c a2 h2 a8 a9 x0, kernelRun0_A.sl.v216 c a2 h2 a8 a9 x0, kernelRun0_A.sl.v218 c a2 h2 a8 a9 x0, kernelRun0_A.sl.v220 c a2 h2 a8 a9 x0, kernelRun0_A.sl.v222 c a2 h2 a8 a9 x0, kernelRun0_A.sl.v224 c a2 h2 a8 a9 x0, kernelRun0_A.sl.v226 c a2 h2 a8 a9 x0, kernelRun0_A.sl.v228 c a2 h2 a8 a9 x0, kernelRun0_A.sl.v230 c a2 h2 a8 a9 x0, kernelRun0_A.sl.v232 c a2 h2 a8 a9 x0, kernelRun0_A.sl.v234 c a2 h2 a8 a9 x0, kernelRun0_A.sl.v236 c a2 h2 a8 a9 x0, kernelRun0_A.sl.v238 c a2 h2 a8 a9 x0] (fun o r l => by fin_cases o <;> exact read4 c a2 h2 a8 a9 x0 (by decide) (by decide) (by decide) r l) ρ l
  · exact tile16 x0 3 ![kernelRun0_A.sl.v241 c a2 h2 a8 a9 x0, kernelRun0_A.sl.v243 c a2 h2 a8 a9 x0, kernelRun0_A.sl.v245 c a2 h2 a8 a9 x0, kernelRun0_A.sl.v247 c a2 h2 a8 a9 x0, kernelRun0_A.sl.v249 c a2 h2 a8 a9 x0, kernelRun0_A.sl.v251 c a2 h2 a8 a9 x0, kernelRun0_A.sl.v253 c a2 h2 a8 a9 x0, kernelRun0_A.sl.v255 c a2 h2 a8 a9 x0, kernelRun0_A.sl.v257 c a2 h2 a8 a9 x0, kernelRun0_A.sl.v259 c a2 h2 a8 a9 x0, kernelRun0_A.sl.v261 c a2 h2 a8 a9 x0, kernelRun0_A.sl.v263 c a2 h2 a8 a9 x0, kernelRun0_A.sl.v265 c a2 h2 a8 a9 x0, kernelRun0_A.sl.v267 c a2 h2 a8 a9 x0, kernelRun0_A.sl.v269 c a2 h2 a8 a9 x0, kernelRun0_A.sl.v271 c a2 h2 a8 a9 x0] (fun o r l => by fin_cases o <;> exact read4 c a2 h2 a8 a9 x0 (by decide) (by decide) (by decide) r l) ρ l
  · exact tile16 x0 4 ![kernelRun0_A.sl.v274 c a2 h2 a8 a9 x0, kernelRun0_A.sl.v276 c a2 h2 a8 a9 x0, kernelRun0_A.sl.v278 c a2 h2 a8 a9 x0, kernelRun0_A.sl.v280 c a2 h2 a8 a9 x0, kernelRun0_A.sl.v282 c a2 h2 a8 a9 x0, kernelRun0_A.sl.v284 c a2 h2 a8 a9 x0, kernelRun0_A.sl.v286 c a2 h2 a8 a9 x0, kernelRun0_A.sl.v288 c a2 h2 a8 a9 x0, kernelRun0_A.sl.v290 c a2 h2 a8 a9 x0, kernelRun0_A.sl.v292 c a2 h2 a8 a9 x0, kernelRun0_A.sl.v294 c a2 h2 a8 a9 x0, kernelRun0_A.sl.v296 c a2 h2 a8 a9 x0, kernelRun0_A.sl.v298 c a2 h2 a8 a9 x0, kernelRun0_A.sl.v300 c a2 h2 a8 a9 x0, kernelRun0_A.sl.v302 c a2 h2 a8 a9 x0, kernelRun0_A.sl.v304 c a2 h2 a8 a9 x0] (fun o r l => by fin_cases o <;> exact read4 c a2 h2 a8 a9 x0 (by decide) (by decide) (by decide) r l) ρ l
  · exact tile16 x0 5 ![kernelRun0_A.sl.v307 c a2 h2 a8 a9 x0, kernelRun0_A.sl.v309 c a2 h2 a8 a9 x0, kernelRun0_A.sl.v311 c a2 h2 a8 a9 x0, kernelRun0_A.sl.v313 c a2 h2 a8 a9 x0, kernelRun0_A.sl.v315 c a2 h2 a8 a9 x0, kernelRun0_A.sl.v317 c a2 h2 a8 a9 x0, kernelRun0_A.sl.v319 c a2 h2 a8 a9 x0, kernelRun0_A.sl.v321 c a2 h2 a8 a9 x0, kernelRun0_A.sl.v323 c a2 h2 a8 a9 x0, kernelRun0_A.sl.v325 c a2 h2 a8 a9 x0, kernelRun0_A.sl.v327 c a2 h2 a8 a9 x0, kernelRun0_A.sl.v329 c a2 h2 a8 a9 x0, kernelRun0_A.sl.v331 c a2 h2 a8 a9 x0, kernelRun0_A.sl.v333 c a2 h2 a8 a9 x0, kernelRun0_A.sl.v335 c a2 h2 a8 a9 x0, kernelRun0_A.sl.v337 c a2 h2 a8 a9 x0] (fun o r l => by fin_cases o <;> exact read4 c a2 h2 a8 a9 x0 (by decide) (by decide) (by decide) r l) ρ l
  · exact tile16 x0 6 ![kernelRun0_A.sl.v340 c a2 h2 a8 a9 x0, kernelRun0_A.sl.v342 c a2 h2 a8 a9 x0, kernelRun0_A.sl.v344 c a2 h2 a8 a9 x0, kernelRun0_A.sl.v346 c a2 h2 a8 a9 x0, kernelRun0_A.sl.v348 c a2 h2 a8 a9 x0, kernelRun0_A.sl.v350 c a2 h2 a8 a9 x0, kernelRun0_A.sl.v352 c a2 h2 a8 a9 x0, kernelRun0_A.sl.v354 c a2 h2 a8 a9 x0, kernelRun0_A.sl.v356 c a2 h2 a8 a9 x0, kernelRun0_A.sl.v358 c a2 h2 a8 a9 x0, kernelRun0_A.sl.v360 c a2 h2 a8 a9 x0, kernelRun0_A.sl.v362 c a2 h2 a8 a9 x0, kernelRun0_A.sl.v364 c a2 h2 a8 a9 x0, kernelRun0_A.sl.v366 c a2 h2 a8 a9 x0, kernelRun0_A.sl.v368 c a2 h2 a8 a9 x0, kernelRun0_A.sl.v370 c a2 h2 a8 a9 x0] (fun o r l => by fin_cases o <;> exact read4 c a2 h2 a8 a9 x0 (by decide) (by decide) (by decide) r l) ρ l
  · exact tile16 x0 7 ![kernelRun0_A.sl.v373 c a2 h2 a8 a9 x0, kernelRun0_A.sl.v375 c a2 h2 a8 a9 x0, kernelRun0_A.sl.v377 c a2 h2 a8 a9 x0, kernelRun0_A.sl.v379 c a2 h2 a8 a9 x0, kernelRun0_A.sl.v381 c a2 h2 a8 a9 x0, kernelRun0_A.sl.v383 c a2 h2 a8 a9 x0, kernelRun0_A.sl.v385 c a2 h2 a8 a9 x0, kernelRun0_A.sl.v387 c a2 h2 a8 a9 x0, kernelRun0_A.sl.v389 c a2 h2 a8 a9 x0, kernelRun0_A.sl.v391 c a2 h2 a8 a9 x0, kernelRun0_A.sl.v393 c a2 h2 a8 a9 x0, kernelRun0_A.sl.v395 c a2 h2 a8 a9 x0, kernelRun0_A.sl.v397 c a2 h2 a8 a9 x0, kernelRun0_A.sl.v399 c a2 h2 a8 a9 x0, kernelRun0_A.sl.v401 c a2 h2 a8 a9 x0, kernelRun0_A.sl.v403 c a2 h2 a8 a9 x0] (fun o r l => by fin_cases o <;> exact read4 c a2 h2 a8 a9 x0 (by decide) (by decide) (by decide) r l) ρ l

end Cert.QkvIdeal.Val

end
-- ==== Proof.QkvOut.lean ====
/- The three blocks that the projection ahead of the dilated attention leaves, index by index. -/
module

public import proofs.«01_k».proof.Proof.QkvBlock
import all proofs.«01_k».proof.Proof.Gen.QkvIdeal.Frame.RunA
import all proofs.«01_k».proof.Proof.Gen.QkvIdeal.Frame

@[expose] public section

set_option maxRecDepth 16384

noncomputable section

namespace Cert.QkvIdeal.Val

open Idealize.ShloMosaic Cert.QkvIdeal.Gen
open scoped BigOperators

/-- A tile of tokens modulated and multiplied by one group's weights. -/
theorem pay117_apply (s b : FVec Ideal S1x1024 .f32) (X : FVec Ideal S1024x1024 .f32) (w : Vec Ideal S1024x1536 .f32) (ρ : Fin 1024) (n : Fin 1536) :
    k0_pay117 s b X w (ix2 ρ n) = ∑ k, (X (ix2 ρ k) * s (ix2 0 k) + b (ix2 0 k)) * w (ix2 k n) := by
  pointwise [k0_pay117]

theorem pay4_apply (v : Vec Ideal S1x6x1024 .f32) (k : Fin 1024) : k0_pay4 v (ix2 0 k) = 1 + v (ix3 0 1 k) := by
  pointwise [k0_pay4, k0_pay3]

theorem pay5_apply (v : Vec Ideal S1x6x1024 .f32) (k : Fin 1024) : k0_pay5 v (ix2 0 k) = v (ix3 0 0 k) := by
  pointwise [k0_pay5, k0_pay3]

variable (c : Dev nD) (i : grid0.Coords) (a2 : Memref sig .tc .vmem S1x1024x1024 .f32) (h2 : a2.IsWhole)
  (a3 : Memref sig .tc .vmem S1x6x1024 .f32) (h3 : a3.IsWhole) (a4 : Memref sig .tc .vmem S1024x4608 .f32) (h4 : a4.IsWhole)
  (a5 : Memref sig .tc .vmem S1x1x1024x1536 .bf16) (h5 : a5.IsWhole) (a6 : Memref sig .tc .vmem S1x4x256x1536 .bf16) (h6 : a6.IsWhole)
  (a7 : Memref sig .tc .vmem S1x16x64x1536 .bf16) (h7 : a7.IsWhole) (a8 : Memref sig .tc .vmem S8x1024x128 .f32) (h8 : a8.IsWhole)
  (a9 : Memref sig .tc .vmem S8x1024x128 .f32) (h9 : a9.IsWhole)
  (x0 : Vec Ideal S1x1024x1024 .f32) (x1 : Vec Ideal S1x6x1024 .f32) (x2 : Vec Ideal S1024x4608 .f32)

/-- Column `n` of the projection of token `t` of the tile. -/
def row (t : Fin 1024) (n : Fin 4608) : EReal := ∑ k, (x0 (ix3 0 t k) * (1 + x1 (ix3 0 1 k)) + x1 (ix3 0 0 k)) * x2 (ix2 k n)

/-- The projection of a tile whose row `ρ` is token `f ρ`, by the columns from `o` on. -/
theorem proj_apply {o : ℕ} (ho : o ≤ 3072) (f : Fin 1024 → Fin 1024) {X : FVec Ideal S1024x1024 .f32} (e : ∀ ρ k, X (ix2 ρ k) = x0 (ix3 0 (f ρ) k))
    {i1} (ρ : Fin 1024) (n : Fin 1536) :
    k0_pay117 (kernelRun0_A.sl.r c a3 h3 x1) (kernelRun0_A.sl.r_1 c a3 h3 x1) X
      (View.readAt (Elt Ideal) a4.view (Rect.unit (s := S1024x4608) ![0, o] S1024x1536.size i1).toLoadRect (h4.unread x2)) (ix2 ρ n)
      = row x0 x1 x2 (f ρ) ⟨o + n.val, by omega⟩ := by
  rw [pay117_apply]
  unfold row
  refine Finset.sum_congr rfl fun k _ => ?_
  unfold kernelRun0_A.sl.r kernelRun0_A.sl.r_1
  rw [pay4_apply, pay5_apply, e]
  simp only [View.readAt_eq_ld, h3.read_unread, h4.read_unread]
  have e1 : ∀ (q : Fin 6), View.ld x1 (Rect.unit (s := S1x6x1024) ![0, 0, 0] S1x6x1024.size inb_S1x6x1024_S1x6x1024_0_0_0) (ix3 0 q k) = x1 (ix3 0 q k) := by
    intro q
    refine congrArg x1 (funext fun a => Fin.ext ?_)
    match a with
    | ⟨0, _⟩ => rfl
    | ⟨1, _⟩ => show 0 + 1 * q.val = q.val; omega
    | ⟨2, _⟩ => show 0 + 1 * k.val = k.val; omega
  have e2 : View.ld x2 (Rect.unit (s := S1024x4608) ![0, o] S1024x1536.size i1) (ix2 k n) = x2 (ix2 k ⟨o + n.val, by omega⟩) := by
    refine congrArg x2 (funext fun a => Fin.ext ?_)
    match a with
    | ⟨0, _⟩ => show 0 + 1 * k.val = k.val; omega
    | ⟨1, _⟩ => show o + 1 * n.val = o + n.val; omega
  rw [e2]
  exact congrArg₂ (fun u v => (x0 (ix3 0 (f ρ) k) * (1 + u) + v) * x2 (ix2 k ⟨o + n.val, by omega⟩)) (e1 1) (e1 0)

/-- What the block of the group of dilation 4 should hold. -/
def block4 (y : S1x4x256x1536.Idx) : EReal :=
  row x0 x1 x2 ⟨(y 1).val + 4 * (y 2).val, by have : (y 1).val < 4 := (y 1).2; have : (y 2).val < 256 := (y 2).2; omega⟩
    ⟨1536 + (y 3).val, by have : (y 3).val < 1536 := (y 3).2; omega⟩

/-- What the block of the group of dilation 16 should hold. -/
def block16 (y : S1x16x64x1536.Idx) : EReal :=
  row x0 x1 x2 ⟨(y 1).val + 16 * (y 2).val, by have : (y 1).val < 16 := (y 1).2; have : (y 2).val < 64 := (y 2).2; omega⟩
    ⟨3072 + (y 3).val, by have : (y 3).val < 1536 := (y 3).2; omega⟩

/-- The projection of the tile with its residues of four gathered. -/
theorem proj4_apply (ρ : Fin 1024) (n : Fin 1536) : kernelRun0_A.sl.r_90 c a2 h2 a3 h3 a4 h4 a8 x0 x1 x2 (ix2 ρ n)
    = row x0 x1 x2 ⟨ρ.val / 256 + 4 * (ρ.val % 256), by omega⟩ ⟨1536 + n.val, by omega⟩ := by
  have h := tiles4 c a2 h2 a8 x0
  exact proj_apply c a3 h3 a4 h4 x0 x1 x2 (by decide) (fun ρ => ⟨ρ.val / 256 + 4 * (ρ.val % 256), by omega⟩)
    (fun ρ k => lanes8 (fun ρ k => x0 (ix3 0 ⟨ρ.val / 256 + 4 * (ρ.val % 256), by omega⟩ k)) (fun r l => (h r l).1) (fun r l => (h r l).2.1)
      (fun r l => (h r l).2.2.1) (fun r l => (h r l).2.2.2.1) (fun r l => (h r l).2.2.2.2.1) (fun r l => (h r l).2.2.2.2.2.1)
      (fun r l => (h r l).2.2.2.2.2.2.1) (fun r l => (h r l).2.2.2.2.2.2.2) ρ k) ρ n

/-- The projection of the tile with its residues of sixteen gathered. -/
theorem proj16_apply (ρ : Fin 1024) (n : Fin 1536) : kernelRun0_A.sl.r_92 c a2 h2 a3 h3 a4 h4 a8 a9 x0 x1 x2 (ix2 ρ n)
    = row x0 x1 x2 (tok16 ρ) ⟨3072 + n.val, by omega⟩ :=
  proj_apply c a3 h3 a4 h4 x0 x1 x2 (by decide) tok16 (tiles16 c a2 h2 a8 a9 x0) ρ n

/-- One residue's store in the block of dilation 4. -/
theorem out_piece4 {v : FVec Ideal S1024x1536 .bf16}
    (e : ∀ ρ n, v (ix2 ρ n) = row x0 x1 x2 ⟨ρ.val / 256 + 4 * (ρ.val % 256), by omega⟩ ⟨1536 + n.val, by omega⟩)
    {o R : ℕ} (hR : o = 256 * R) (hR' : R < 4) (hs) {hc} (i2) (y : S1x1x256x1536.Idx) :
    shapeCast S1x1x256x1536 (extractStridedSlice S256x1536 ![o, 0] v hs) hc y
      = block4 x0 x1 x2 (Rect.emb (Rect.unit (s := S1x4x256x1536) ![0, R, 0, 0] ![1, 1, 256, 1536] i2) y) := by
  obtain ⟨p, q, u, w, rfl⟩ : ∃ p q u w, y = ix4 p q u w := ⟨_, _, _, _, eq_ix4 y⟩
  pointwise []
  rw [e]
  unfold block4
  congr 1
  · refine Fin.ext ?_
    show (o + u.val) / 256 + 4 * ((o + u.val) % 256) = (R + 1 * q.val) + 4 * (0 + 1 * u.val)
    omega
  · refine Fin.ext ?_
    show 1536 + w.val = 1536 + (0 + 1 * w.val)
    omega

/-- One residue's store in the block of dilation 16. -/
theorem out_piece16 {v : FVec Ideal S1024x1536 .bf16} (e : ∀ ρ n, v (ix2 ρ n) = row x0 x1 x2 (tok16 ρ) ⟨3072 + n.val, by omega⟩)
    {o R : ℕ} (ho : o % 64 = 0) (hR : R = o / 64 / 4 + 4 * (o / 64 % 4)) (hR' : o < 1024) (hs) {hc} (i2) (y : S1x1x64x1536.Idx) :
    shapeCast S1x1x64x1536 (extractStridedSlice S64x1536 ![o, 0] v hs) hc y
      = block16 x0 x1 x2 (Rect.emb (Rect.unit (s := S1x16x64x1536) ![0, R, 0, 0] ![1, 1, 64, 1536] i2) y) := by
  obtain ⟨p, q, u, w, rfl⟩ : ∃ p q u w, y = ix4 p q u w := ⟨_, _, _, _, eq_ix4 y⟩
  pointwise []
  rw [e]
  unfold block16 tok16
  congr 1
  · refine Fin.ext ?_
    show (o + u.val) / 64 / 4 + 4 * ((o + u.val) / 64 % 4) + 16 * ((o + u.val) % 64) = (R + 1 * q.val) + 16 * (0 + 1 * u.val)
    omega
  · refine Fin.ext ?_
    show 3072 + w.val = 3072 + (0 + 1 * w.val)
    omega

/-- The block left for the group of dilation 1. -/
theorem out1_apply (r : Fin 1024) (n : Fin 1536) : out0_A_3 c i a2 h2 a3 h3 a4 h4 a5 h5 a6 h6 a7 h7 a8 h8 a9 h9 x0 x1 x2 (ix4 0 0 r n)
    = row x0 x1 x2 r ⟨n.val, by omega⟩ := by
  unfold out0_A_3
  rw [View.read_writes_eq_canon _ _ _ (cover0_A_3 c i a2 h2 a3 h3 a4 h4 a5 h5 a6 h6 a7 h7 a8 h8 a9 h9 x0 x1 x2)]
  unfold kernelRun0_A
  dsimp only
  rw [View.canon_unit_zero (S := S1x1x1024x1536) (by decide)]
  have g := proj_apply c a3 h3 a4 h4 x0 x1 x2 (o := 0) (by decide) (fun ρ => ρ)
    (X := shapeCast S1024x1024 (View.readAt (Elt Ideal) a2.view (Rect.unit (s := S1x1024x1024) ![0, 0, 0] ![1, 1024, 1024] inb_S1x1024x1024_S1x1024x1024_0_0_0).toLoadRect (h2.unread x0))
      shapeCasts_S1x1024x1024_S1024x1024) (fun ρ k => by
        rw [View.readAt_eq_ld, h2.read_unread]
        pointwise []) (i1 := inb_S1024x4608_S1024x1536_0_0) r n
  simp only [Nat.zero_add] at g
  refine Eq.trans ?_ g
  unfold k0_pay110 k0_pay117
  pointwise []

set_option maxHeartbeats 4000000 in
/-- The block left for the group of dilation 4. -/
theorem out4_eq : out0_A_4 c i a2 h2 a3 h3 a4 h4 a5 h5 a6 h6 a7 h7 a8 h8 a9 h9 x0 x1 x2 = block4 x0 x1 x2 := by
  unfold out0_A_4
  rw [View.read_writes_eq_canon _ _ _ (cover0_A_4 c i a2 h2 a3 h3 a4 h4 a5 h5 a6 h6 a7 h7 a8 h8 a9 h9 x0 x1 x2)]
  refine funext fun y => View.canon_apply_of_pieces _ _ (View.PiecesOf.mem ?_) y (cover0_A_4 c i a2 h2 a3 h3 a4 h4 a5 h5 a6 h6 a7 h7 a8 h8 a9 h9 x0 x1 x2 y)
  unfold kernelRun0_A
  dsimp only
  have e := proj4_apply c a2 h2 a3 h3 a4 h4 a8 x0 x1 x2
  repeat' first | exact trivial | refine ⟨out_piece4 x0 x1 x2 e (by decide) (by decide) (by decide) (by decide), ?_⟩

set_option maxHeartbeats 4000000 in
/-- The block left for the group of dilation 16. -/
theorem out16_eq : out0_A_5 c i a2 h2 a3 h3 a4 h4 a5 h5 a6 h6 a7 h7 a8 h8 a9 h9 x0 x1 x2 = block16 x0 x1 x2 := by
  unfold out0_A_5
  rw [View.read_writes_eq_canon _ _ _ (cover0_A_5 c i a2 h2 a3 h3 a4 h4 a5 h5 a6 h6 a7 h7 a8 h8 a9 h9 x0 x1 x2)]
  refine funext fun y => View.canon_apply_of_pieces _ _ (View.PiecesOf.mem ?_) y (cover0_A_5 c i a2 h2 a3 h3 a4 h4 a5 h5 a6 h6 a7 h7 a8 h8 a9 h9 x0 x1 x2 y)
  unfold kernelRun0_A
  dsimp only
  have e := proj16_apply c a2 h2 a3 h3 a4 h4 a8 a9 x0 x1 x2
  repeat' first | exact trivial | refine ⟨out_piece16 x0 x1 x2 e (by decide) (by decide) (by decide) (by decide) (by decide), ?_⟩

end Cert.QkvIdeal.Val

end
-- ==== Proof.QkvRef.lean ====
/- The reference of the projection ahead of the dilated attention, read index by index. -/
module

public import proofs.«01_k».proof.Proof.Gen.QkvRefIdeal.Read
public import Idealize.ShloMosaic.Lib.Pointwise

@[expose] public section

set_option maxRecDepth 16384

noncomputable section

namespace Cert.QkvRefIdeal.Val

open Idealize.ShloMosaic Cert.QkvRefIdeal Cert.QkvRefIdeal.Gen Cert.QkvRefIdeal.Read
open scoped BigOperators

variable (x0 : FVec Ideal S8x2048x1024 .f32) (x1 : FVec Ideal S8x6x1024 .f32) (x2 : FVec Ideal S1024x4608 .f32)

/-- Column `n` of the projection of token `t` of batch `b`. -/
def at3 (b : Fin 8) (t : Fin 2048) (n : Fin 4608) : EReal :=
  ∑ k, (x0 (ix3 b t k) * (1 + x1 (ix3 b 1 k)) + x1 (ix3 b 0 k)) * x2 (ix2 k n)

theorem v11_apply (b : Fin 8) (t : Fin 2048) (k : Fin 1024) : val_main_v11 (F := Ideal) x0 x1 (ix3 b t k)
    = x0 (ix3 b t k) * (1 + x1 (ix3 b 1 k)) + x1 (ix3 b 0 k) := by
  pointwise [val_main_v11, val_main_v10, val_main_v9, val_main_v8, val_main_v7, val_main_v6, val_main_v5, val_main_v4, val_main_v3, val_main_cst, val_main_v2, val_main_v1, val_main_v0]

theorem v13_apply (b : Fin 8) (t : Fin 2048) (g : Fin 3) (n : Fin 1536) : val_main_v13 (F := Ideal) x0 x1 x2 (ix4 b t g n)
    = at3 x0 x1 x2 b t ⟨1536 * g.val + n.val, by omega⟩ := by
  rw [val_main_v13_apply, val_main_v12_apply]
  unfold at3
  refine Finset.sum_congr rfl fun k _ => ?_
  rw [show lidx_main_v12 (idx_main_v13 (ix4 b t g n)) k = ix3 b t k from by
      funext a
      refine Fin.ext ?_
      match a with
      | ⟨0, _⟩ => show (((b.val * 2048 + t.val) * 3 + g.val) * 1536 + n.val) / 9437184 = b.val; omega
      | ⟨1, _⟩ => show (((b.val * 2048 + t.val) * 3 + g.val) * 1536 + n.val) / 4608 % 2048 = t.val; omega
      | ⟨2, _⟩ => rfl,
    show ridx_main_v12 (idx_main_v13 (ix4 b t g n)) k = ix2 k ⟨1536 * g.val + n.val, by omega⟩ from by
      funext a
      refine Fin.ext ?_
      match a with
      | ⟨0, _⟩ => rfl
      | ⟨1, _⟩ => show (((b.val * 2048 + t.val) * 3 + g.val) * 1536 + n.val) % 4608 = 1536 * g.val + n.val; omega,
    v11_apply]

/-- The part of the group of dilation 1. -/
theorem v18_apply (b : Fin 8) (r : Fin 2048) (n : Fin 1536) : val_main_v18 (F := Ideal) x0 x1 x2 (ix4 b 0 r n)
    = at3 x0 x1 x2 b r ⟨n.val, by omega⟩ := by
  rw [show (⟨n.val, by omega⟩ : Fin 4608) = ⟨1536 * (0 : Fin 3).val + n.val, by show 1536 * 0 + n.val < 4608; omega⟩ from Fin.ext (by show n.val = 1536 * 0 + n.val; omega), ← v13_apply]
  unfold val_main_v18 val_main_v17 val_main_v16 val_main_v15 val_main_v14
  generalize val_main_v13 (F := Ideal) x0 x1 x2 = y
  pointwise []

/-- The part of the group of dilation 4. -/
theorem v23_apply (b : Fin 8) (p : Fin 4) (r : Fin 512) (n : Fin 1536) : val_main_v23 (F := Ideal) x0 x1 x2 (ix4 b p r n)
    = at3 x0 x1 x2 b ⟨4 * r.val + p.val, by omega⟩ ⟨1536 + n.val, by omega⟩ := by
  rw [show (⟨1536 + n.val, by omega⟩ : Fin 4608) = ⟨1536 * (1 : Fin 3).val + n.val, by show 1536 * 1 + n.val < 4608; omega⟩ from Fin.ext (by show 1536 + n.val = 1536 * 1 + n.val; omega), ← v13_apply,
    val_main_v23_apply, val_main_v22_apply, val_main_v21_apply, val_main_v20_apply, val_main_v19_apply]
  refine congrArg (val_main_v13 (F := Ideal) x0 x1 x2) (funext fun a => Fin.ext ?_)
  have hb := b.isLt; have hr := r.isLt; have hp := p.isLt; have hn := n.isLt
  match a with
  | ⟨0, _⟩ => simp [ix4]; omega
  | ⟨1, _⟩ => simp [ix4]; omega
  | ⟨2, _⟩ => simp [ix4]
  | ⟨3, _⟩ => simp [ix4]

/-- The part of the group of dilation 16. -/
theorem v28_apply (b : Fin 8) (p : Fin 16) (r : Fin 128) (n : Fin 1536) : val_main_v28 (F := Ideal) x0 x1 x2 (ix4 b p r n)
    = at3 x0 x1 x2 b ⟨16 * r.val + p.val, by omega⟩ ⟨3072 + n.val, by omega⟩ := by
  rw [show (⟨3072 + n.val, by omega⟩ : Fin 4608) = ⟨1536 * (2 : Fin 3).val + n.val, by show 1536 * 2 + n.val < 4608; omega⟩ from Fin.ext (by show 3072 + n.val = 1536 * 2 + n.val; omega), ← v13_apply,
    val_main_v28_apply, val_main_v27_apply, val_main_v26_apply, val_main_v25_apply, val_main_v24_apply]
  refine congrArg (val_main_v13 (F := Ideal) x0 x1 x2) (funext fun a => Fin.ext ?_)
  have hb := b.isLt; have hr := r.isLt; have hp := p.isLt; have hn := n.isLt
  match a with
  | ⟨0, _⟩ => simp [ix4]; omega
  | ⟨1, _⟩ => simp [ix4]; omega
  | ⟨2, _⟩ => simp [ix4]
  | ⟨3, _⟩ => simp [ix4]

end Cert.QkvRefIdeal.Val

end
-- ==== Proof.QkvValue.lean ====
/- The projection's kernel leaves, in its three result arrays, the projection of every batch and token. -/
module

public import proofs.«01_k».proof.Proof.QkvOut
public import proofs.«01_k».proof.Proof.QkvRef
public import proofs.«01_k».proof.Proof.Gen.QkvIdeal.Value

@[expose] public section

set_option maxRecDepth 16384

noncomputable section

namespace Cert.QkvIdeal.Val

open Idealize.ShloMosaic Idealize.ShloMosaic.TcCoe Idealize.SL.Sem Cert.QkvIdeal Cert.QkvIdeal.Gen
open Cert.QkvRefIdeal.Val (at3)

section
variable (x0 : FVec Ideal S8x2048x1024 .f32) (x1 : FVec Ideal S8x6x1024 .f32) (x2 : FVec Ideal S1024x4608 .f32)

/-- The result of the group of dilation 1 over the whole arrays. -/
def result1 : FVec Ideal S8x1x2048x1536 .bf16 := fun y => at3 x0 x1 x2 (y 0) (y 2) ⟨(y 3).val, lt_trans (y 3).2 (show (1536 : ℕ) < 4608 by decide)⟩
/-- The result of the group of dilation 4 over the whole arrays. -/
def result4 : FVec Ideal S8x4x512x1536 .bf16 := fun y => at3 x0 x1 x2 (y 0)
  ⟨4 * (y 2).val + (y 1).val, by have : (y 1).val < 4 := (y 1).2; have : (y 2).val < 512 := (y 2).2; omega⟩
  ⟨1536 + (y 3).val, by have : (y 3).val < 1536 := (y 3).2; omega⟩
/-- The result of the group of dilation 16 over the whole arrays. -/
def result16 : FVec Ideal S8x16x128x1536 .bf16 := fun y => at3 x0 x1 x2 (y 0)
  ⟨16 * (y 2).val + (y 1).val, by have : (y 1).val < 16 := (y 1).2; have : (y 2).val < 128 := (y 2).2; omega⟩
  ⟨3072 + (y 3).val, by have : (y 3).val < 1536 := (y 3).2; omega⟩

end

/-- The batch of grid point `t`. -/
def batch (t : Fin cfg0.N) : Fin 8 := ⟨t.val / 2, by have h := t.isLt; have e : cfg0.N = 16 := N_0; omega⟩

theorem at0 : ∀ t : Fin cfg0.N, win0_0.index t 0 = t.val / 2 ∧ win0_0.index t 1 = t.val % 2 ∧ win0_0.index t 2 = 0 :=
  (by decide +kernel : ∀ t : Fin grid0.N, win0_0.index t 0 = t.val / 2 ∧ win0_0.index t 1 = t.val % 2 ∧ win0_0.index t 2 = 0)
theorem at1 : ∀ t : Fin cfg0.N, win0_1.index t 0 = t.val / 2 ∧ win0_1.index t 1 = 0 ∧ win0_1.index t 2 = 0 :=
  (by decide +kernel : ∀ t : Fin grid0.N, win0_1.index t 0 = t.val / 2 ∧ win0_1.index t 1 = 0 ∧ win0_1.index t 2 = 0)
theorem at2 : ∀ t : Fin cfg0.N, win0_2.index t 0 = 0 ∧ win0_2.index t 1 = 0 :=
  (by decide +kernel : ∀ t : Fin grid0.N, win0_2.index t 0 = 0 ∧ win0_2.index t 1 = 0)
theorem at3' : ∀ t : Fin cfg0.N, win0_3.index t 0 = t.val / 2 ∧ win0_3.index t 1 = 0 ∧ win0_3.index t 2 = t.val % 2 ∧ win0_3.index t 3 = 0 :=
  (by decide +kernel : ∀ t : Fin grid0.N, win0_3.index t 0 = t.val / 2 ∧ win0_3.index t 1 = 0 ∧ win0_3.index t 2 = t.val % 2 ∧ win0_3.index t 3 = 0)
theorem at4 : ∀ t : Fin cfg0.N, win0_4.index t 0 = t.val / 2 ∧ win0_4.index t 1 = 0 ∧ win0_4.index t 2 = t.val % 2 ∧ win0_4.index t 3 = 0 :=
  (by decide +kernel : ∀ t : Fin grid0.N, win0_4.index t 0 = t.val / 2 ∧ win0_4.index t 1 = 0 ∧ win0_4.index t 2 = t.val % 2 ∧ win0_4.index t 3 = 0)
theorem at5 : ∀ t : Fin cfg0.N, win0_5.index t 0 = t.val / 2 ∧ win0_5.index t 1 = 0 ∧ win0_5.index t 2 = t.val % 2 ∧ win0_5.index t 3 = 0 :=
  (by decide +kernel : ∀ t : Fin grid0.N, win0_5.index t 0 = t.val / 2 ∧ win0_5.index t 1 = 0 ∧ win0_5.index t 2 = t.val % 2 ∧ win0_5.index t 3 = 0)

variable (m : (ℓ : Loc nD τ sig) → Buf (Elt Ideal) ℓ) (ρ : Dev nD → PrngReg) (c : Dev nD) (t : Fin cfg0.N)

theorem blk0 (r k : Fin 1024) : iblk m c 0 t (ix3 0 r k) = m ((c : Thread nD τ).loc main_arg0) (ix3 (batch t) ⟨1024 * (t.val % 2) + r.val, by omega⟩ k) := by
  show V m c main_arg0 _ = _
  rw [V_main_arg0]
  refine congrArg _ (funext fun a => Fin.ext ?_)
  match a with
  | ⟨0, _⟩ => show win0_0.index t 0 * 1 + 1 * 0 = t.val / 2; rw [(at0 t).1]; omega
  | ⟨1, _⟩ => show win0_0.index t 1 * 1024 + 1 * r.val = 1024 * (t.val % 2) + r.val; rw [(at0 t).2.1]; omega
  | ⟨2, _⟩ => show win0_0.index t 2 * 1024 + 1 * k.val = k.val; rw [(at0 t).2.2]; omega

theorem blk1 (q : Fin 6) (k : Fin 1024) : iblk m c 1 t (ix3 0 q k) = m ((c : Thread nD τ).loc main_arg1) (ix3 (batch t) q k) := by
  show V m c main_arg1 _ = _
  rw [V_main_arg1]
  refine congrArg _ (funext fun a => Fin.ext ?_)
  match a with
  | ⟨0, _⟩ => show win0_1.index t 0 * 1 + 1 * 0 = t.val / 2; rw [(at1 t).1]; omega
  | ⟨1, _⟩ => show win0_1.index t 1 * 6 + 1 * q.val = q.val; rw [(at1 t).2.1]; omega
  | ⟨2, _⟩ => show win0_1.index t 2 * 1024 + 1 * k.val = k.val; rw [(at1 t).2.2]; omega

theorem blk2 (k : Fin 1024) (n : Fin 4608) : iblk m c 2 t (ix2 k n) = m ((c : Thread nD τ).loc main_arg2) (ix2 k n) := by
  show V m c main_arg2 _ = _
  rw [V_main_arg2]
  refine congrArg _ (funext fun a => Fin.ext ?_)
  match a with
  | ⟨0, _⟩ => show win0_2.index t 0 * 1024 + 1 * k.val = k.val; rw [(at2 t).1]; omega
  | ⟨1, _⟩ => show win0_2.index t 1 * 4608 + 1 * n.val = n.val; rw [(at2 t).2]; omega

/-- A tile's projection is that of its tokens. -/
theorem row_eq (r : Fin 1024) (n : Fin 4608) : row (iblk m c 0 t) (iblk m c 1 t) (iblk m c 2 t) r n
    = at3 (m ((c : Thread nD τ).loc main_arg0)) (m ((c : Thread nD τ).loc main_arg1)) (m ((c : Thread nD τ).loc main_arg2)) (batch t)
      ⟨1024 * (t.val % 2) + r.val, by omega⟩ n := by
  unfold row at3
  refine Finset.sum_congr rfl fun k _ => ?_
  rw [blk0, blk2]
  have g : ∀ {X W u u' v v' : EReal}, u = u' → v = v' → (X * (1 + u) + v) * W = (X * (1 + u') + v') * W := by
    rintro X W u _ v _ rfl rfl
    rfl
  exact g (blk1 m c t 1 k) (blk1 m c t 0 k)

/-- The three results over device `c`'s argument arrays. -/
abbrev final1 : Buf (Elt Ideal) ((c : Thread nD τ).loc main_v0_0) :=
  result1 (m ((c : Thread nD τ).loc main_arg0)) (m ((c : Thread nD τ).loc main_arg1)) (m ((c : Thread nD τ).loc main_arg2))
abbrev final4 : Buf (Elt Ideal) ((c : Thread nD τ).loc main_v0_1) :=
  result4 (m ((c : Thread nD τ).loc main_arg0)) (m ((c : Thread nD τ).loc main_arg1)) (m ((c : Thread nD τ).loc main_arg2))
abbrev final16 : Buf (Elt Ideal) ((c : Thread nD τ).loc main_v0_2) :=
  result16 (m ((c : Thread nD τ).loc main_arg0)) (m ((c : Thread nD τ).loc main_arg1)) (m ((c : Thread nD τ).loc main_arg2))

theorem emb3 (r : Fin 1024) (n : Fin 1536) : ((cfg0.win 3).blk t).view.emb (ix4 0 0 r n)
    = (ix4 (batch t) 0 ⟨1024 * (t.val % 2) + r.val, by omega⟩ n : S8x1x2048x1536.Idx) := by
  refine funext fun a => Fin.ext ?_
  match a with
  | ⟨0, _⟩ => show win0_3.index t 0 * 1 + 1 * 0 = t.val / 2; rw [(at3' t).1]; omega
  | ⟨1, _⟩ => show win0_3.index t 1 * 1 + 1 * 0 = 0; rw [(at3' t).2.1]
  | ⟨2, _⟩ => show win0_3.index t 2 * 1024 + 1 * r.val = 1024 * (t.val % 2) + r.val; rw [(at3' t).2.2.1]; omega
  | ⟨3, _⟩ => show win0_3.index t 3 * 1536 + 1 * n.val = n.val; rw [(at3' t).2.2.2]; omega

theorem emb4 (p : Fin 4) (r : Fin 256) (n : Fin 1536) : ((cfg0.win 4).blk t).view.emb (ix4 0 p r n)
    = (ix4 (batch t) p ⟨256 * (t.val % 2) + r.val, by omega⟩ n : S8x4x512x1536.Idx) := by
  refine funext fun a => Fin.ext ?_
  match a with
  | ⟨0, _⟩ => show win0_4.index t 0 * 1 + 1 * 0 = t.val / 2; rw [(at4 t).1]; omega
  | ⟨1, _⟩ => show win0_4.index t 1 * 4 + 1 * p.val = p.val; rw [(at4 t).2.1]; omega
  | ⟨2, _⟩ => show win0_4.index t 2 * 256 + 1 * r.val = 256 * (t.val % 2) + r.val; rw [(at4 t).2.2.1]; omega
  | ⟨3, _⟩ => show win0_4.index t 3 * 1536 + 1 * n.val = n.val; rw [(at4 t).2.2.2]; omega

theorem emb5 (p : Fin 16) (r : Fin 64) (n : Fin 1536) : ((cfg0.win 5).blk t).view.emb (ix4 0 p r n)
    = (ix4 (batch t) p ⟨64 * (t.val % 2) + r.val, by omega⟩ n : S8x16x128x1536.Idx) := by
  refine funext fun a => Fin.ext ?_
  match a with
  | ⟨0, _⟩ => show win0_5.index t 0 * 1 + 1 * 0 = t.val / 2; rw [(at5 t).1]; omega
  | ⟨1, _⟩ => show win0_5.index t 1 * 16 + 1 * p.val = p.val; rw [(at5 t).2.1]; omega
  | ⟨2, _⟩ => show win0_5.index t 2 * 64 + 1 * r.val = 64 * (t.val % 2) + r.val; rw [(at5 t).2.2.1]; omega
  | ⟨3, _⟩ => show win0_5.index t 3 * 1536 + 1 * n.val = n.val; rw [(at5 t).2.2.2]; omega

/-- Grid point `t` writes back its block of the group of dilation 1. -/
theorem flushed1 : (dats m 0 c).flushed 3 t = ((cfg0.win 3).blk t).view.read (Elt Ideal) (final1 m c) := by
  rw [Value.flushed3_A]
  funext y
  obtain ⟨z, z', r, n, rfl⟩ : ∃ (z z' : Fin 1) (r : Fin 1024) (n : Fin 1536), (ix4 z z' r n : S1x1x1024x1536.Idx) = y := ⟨y 0, y 1, y 2, y 3, (eq_ix4 y).symm⟩
  obtain rfl : z = 0 := Subsingleton.elim _ _
  obtain rfl : z' = 0 := Subsingleton.elim _ _
  refine (out1_apply _ _ _ _ _ _ _ _ _ _ _ _ _ _ _ _ _ _ _ _ _ r n).trans ?_
  show _ = final1 m c (((cfg0.win 3).blk t).view.emb (ix4 0 0 r n))
  rw [emb3, row_eq]
  rfl

/-- Grid point `t` writes back its block of the group of dilation 4. -/
theorem flushed4 : (dats m 0 c).flushed 4 t = ((cfg0.win 4).blk t).view.read (Elt Ideal) (final4 m c) := by
  rw [Value.flushed4_A]
  funext y
  obtain ⟨z, p, r, n, rfl⟩ : ∃ (z : Fin 1) (p : Fin 4) (r : Fin 256) (n : Fin 1536), (ix4 z p r n : S1x4x256x1536.Idx) = y := ⟨y 0, y 1, y 2, y 3, (eq_ix4 y).symm⟩
  obtain rfl : z = 0 := Subsingleton.elim _ _
  refine (congrFun (out4_eq _ _ _ _ _ _ _ _ _ _ _ _ _ _ _ _ _ _ _ _ _) (ix4 0 p r n)).trans ?_
  show block4 _ _ _ (ix4 0 p r n) = final4 m c (((cfg0.win 4).blk t).view.emb (ix4 0 p r n))
  rw [emb4]
  unfold block4 final4 result4
  rw [row_eq]
  refine congrArg (fun u => at3 _ _ _ _ u _) (Fin.ext ?_)
  show 1024 * (t.val % 2) + (p.val + 4 * r.val) = 4 * (256 * (t.val % 2) + r.val) + p.val
  omega

/-- Grid point `t` writes back its block of the group of dilation 16. -/
theorem flushed16 : (dats m 0 c).flushed 5 t = ((cfg0.win 5).blk t).view.read (Elt Ideal) (final16 m c) := by
  rw [Value.flushed5_A]
  funext y
  obtain ⟨z, p, r, n, rfl⟩ : ∃ (z : Fin 1) (p : Fin 16) (r : Fin 64) (n : Fin 1536), (ix4 z p r n : S1x16x64x1536.Idx) = y := ⟨y 0, y 1, y 2, y 3, (eq_ix4 y).symm⟩
  obtain rfl : z = 0 := Subsingleton.elim _ _
  refine (congrFun (out16_eq _ _ _ _ _ _ _ _ _ _ _ _ _ _ _ _ _ _ _ _ _) (ix4 0 p r n)).trans ?_
  show block16 _ _ _ (ix4 0 p r n) = final16 m c (((cfg0.win 5).blk t).view.emb (ix4 0 p r n))
  rw [emb5]
  unfold block16 final16 result16
  rw [row_eq]
  refine congrArg (fun u => at3 _ _ _ _ u _) (Fin.ext ?_)
  show 1024 * (t.val % 2) + (p.val + 16 * r.val) = 16 * (64 * (t.val % 2) + r.val) + p.val
  omega

theorem cover1 (y : S8x1x2048x1536.Idx) : ∃ t : Fin cfg0.N, (cfg0.win 3).flush t = true ∧ y ∈ ((cfg0.win 3).blk t).view.set := by
  have hN : cfg0.N = 16 := N_0
  have h0 : (y 0).val < 8 := (y 0).isLt
  have h1 : (y 1).val < 1 := (y 1).isLt
  have h2 : (y 2).val < 2048 := (y 2).isLt
  have lt : 2 * (y 0).val + (y 2).val / 1024 < cfg0.N := by omega
  refine ⟨⟨_, lt⟩, flush0_3 _, Finset.mem_map.mpr ⟨_, Finset.mem_univ _, (emb3 ⟨_, lt⟩ ⟨(y 2).val % 1024, by omega⟩ (y 3)).trans ?_⟩⟩
  refine funext fun a => Fin.ext ?_
  match a with
  | ⟨0, _⟩ => show (2 * (y 0).val + (y 2).val / 1024) / 2 = (y 0).val; omega
  | ⟨1, _⟩ => show 0 = (y 1).val; omega
  | ⟨2, _⟩ => show 1024 * ((2 * (y 0).val + (y 2).val / 1024) % 2) + (y 2).val % 1024 = (y 2).val; omega
  | ⟨3, _⟩ => rfl

theorem cover4 (y : S8x4x512x1536.Idx) : ∃ t : Fin cfg0.N, (cfg0.win 4).flush t = true ∧ y ∈ ((cfg0.win 4).blk t).view.set := by
  have hN : cfg0.N = 16 := N_0
  have h0 : (y 0).val < 8 := (y 0).isLt
  have h2 : (y 2).val < 512 := (y 2).isLt
  have lt : 2 * (y 0).val + (y 2).val / 256 < cfg0.N := by omega
  refine ⟨⟨_, lt⟩, flush0_4 _, Finset.mem_map.mpr ⟨_, Finset.mem_univ _, (emb4 ⟨_, lt⟩ (y 1) ⟨(y 2).val % 256, by omega⟩ (y 3)).trans ?_⟩⟩
  refine funext fun a => Fin.ext ?_
  match a with
  | ⟨0, _⟩ => show (2 * (y 0).val + (y 2).val / 256) / 2 = (y 0).val; omega
  | ⟨1, _⟩ => rfl
  | ⟨2, _⟩ => show 256 * ((2 * (y 0).val + (y 2).val / 256) % 2) + (y 2).val % 256 = (y 2).val; omega
  | ⟨3, _⟩ => rfl

theorem cover16 (y : S8x16x128x1536.Idx) : ∃ t : Fin cfg0.N, (cfg0.win 5).flush t = true ∧ y ∈ ((cfg0.win 5).blk t).view.set := by
  have hN : cfg0.N = 16 := N_0
  have h0 : (y 0).val < 8 := (y 0).isLt
  have h2 : (y 2).val < 128 := (y 2).isLt
  have lt : 2 * (y 0).val + (y 2).val / 64 < cfg0.N := by omega
  refine ⟨⟨_, lt⟩, flush0_5 _, Finset.mem_map.mpr ⟨_, Finset.mem_univ _, (emb5 ⟨_, lt⟩ (y 1) ⟨(y 2).val % 64, by omega⟩ (y 3)).trans ?_⟩⟩
  refine funext fun a => Fin.ext ?_
  match a with
  | ⟨0, _⟩ => show (2 * (y 0).val + (y 2).val / 64) / 2 = (y 0).val; omega
  | ⟨1, _⟩ => rfl
  | ⟨2, _⟩ => show 64 * ((2 * (y 0).val + (y 2).val / 64) % 2) + (y 2).val % 64 = (y 2).val; omega
  | ⟨3, _⟩ => rfl

/-- The kernel's three result arrays after the run. -/
theorem final1_eq : (dats m 0 c).arrAt 3 cfg0.N = final1 m c := (dats m 0 c).arrAt_eq_of_cover 3 (final1 m c) (fun t _ => flushed1 m c t) cover1
theorem final4_eq : (dats m 0 c).arrAt 4 cfg0.N = final4 m c := (dats m 0 c).arrAt_eq_of_cover 4 (final4 m c) (fun t _ => flushed4 m c t) cover4
theorem final16_eq : (dats m 0 c).arrAt 5 cfg0.N = final16 m c := (dats m 0 c).arrAt_eq_of_cover 5 (final16 m c) (fun t _ => flushed16 m c t) cover16

end Cert.QkvIdeal.Val

end
-- ==== Proof.QkvClaim.lean ====
/- The projection's value claim: the kernel and its reference leave the same three arrays. -/
module

public import proofs.«01_k».proof.Defs
public import proofs.«01_k».proof.Proof.Gen.Qkv
public import proofs.«01_k».proof.Proof.QkvValue

@[expose] public section

set_option maxRecDepth 16384

noncomputable section

namespace Cert.QkvIdeal.Val

open Idealize.ShloMosaic Idealize.ShloMosaic.TcCoe Idealize.SL.Sem

/-- The reference's results are the projection over the whole arrays, whichever equal arrays it reads. -/
theorem reference1 {x0 y0 : FVec Ideal S8x2048x1024 .f32} {x1 y1 : FVec Ideal S8x6x1024 .f32} {x2 y2 : FVec Ideal S1024x4608 .f32}
    (e0 : x0 = y0) (e1 : x1 = y1) (e2 : x2 = y2) : QkvRefIdeal.Read.val_main_v18 (F := Ideal) x0 x1 x2 = result1 y0 y1 y2 := by
  subst e0 e1 e2
  funext y
  obtain ⟨b, z, r, n, rfl⟩ : ∃ (b : Fin 8) (z : Fin 1) (r : Fin 2048) (n : Fin 1536), (ix4 b z r n : S8x1x2048x1536.Idx) = y := ⟨y 0, y 1, y 2, y 3, (eq_ix4 y).symm⟩
  obtain rfl : z = 0 := Subsingleton.elim _ _
  exact QkvRefIdeal.Val.v18_apply x0 x1 x2 b r n

theorem reference4 {x0 y0 : FVec Ideal S8x2048x1024 .f32} {x1 y1 : FVec Ideal S8x6x1024 .f32} {x2 y2 : FVec Ideal S1024x4608 .f32}
    (e0 : x0 = y0) (e1 : x1 = y1) (e2 : x2 = y2) : QkvRefIdeal.Read.val_main_v23 (F := Ideal) x0 x1 x2 = result4 y0 y1 y2 := by
  subst e0 e1 e2
  funext y
  obtain ⟨b, p, r, n, rfl⟩ : ∃ (b : Fin 8) (p : Fin 4) (r : Fin 512) (n : Fin 1536), (ix4 b p r n : S8x4x512x1536.Idx) = y := ⟨y 0, y 1, y 2, y 3, (eq_ix4 y).symm⟩
  exact QkvRefIdeal.Val.v23_apply x0 x1 x2 b p r n

theorem reference16 {x0 y0 : FVec Ideal S8x2048x1024 .f32} {x1 y1 : FVec Ideal S8x6x1024 .f32} {x2 y2 : FVec Ideal S1024x4608 .f32}
    (e0 : x0 = y0) (e1 : x1 = y1) (e2 : x2 = y2) : QkvRefIdeal.Read.val_main_v28 (F := Ideal) x0 x1 x2 = result16 y0 y1 y2 := by
  subst e0 e1 e2
  funext y
  obtain ⟨b, p, r, n, rfl⟩ : ∃ (b : Fin 8) (p : Fin 16) (r : Fin 128) (n : Fin 1536), (ix4 b p r n : S8x16x128x1536.Idx) = y := ⟨y 0, y 1, y 2, y 3, (eq_ix4 y).symm⟩
  exact QkvRefIdeal.Val.v28_apply x0 x1 x2 b p r n

/-- From arguments that agree, the kernel and the reference both end with the projection, their arguments unchanged. -/
theorem claim : algebraic_QkvIdeal_QkvRefIdeal := by
  intro m g m' g' _ e
  refine ⟨fun c => final1 m c, fun c => final4 m c, fun c => final16 m c,
    (θ_run _ _ _).mono (fun r h c => ⟨((h c).1).trans (final1_eq m c), ((h c).2.1).trans (final4_eq m c), ((h c).2.2.1).trans (final16_eq m c), (h c).2.2.2⟩) (Value.run_blocks m g),
    (θ_run _ _ _).mono (fun r h c => ⟨?_, ?_, ?_, (h c).2.2.2⟩) (QkvRefIdeal.Value.run m' g')⟩
  · obtain ⟨e0, e1, e2⟩ := e c
    rw [(h c).1]
    exact (QkvRefIdeal.Read.val_main_v18_eq _ _ _).trans (reference1 e0 e1 e2)
  · obtain ⟨e0, e1, e2⟩ := e c
    rw [(h c).2.1]
    exact (QkvRefIdeal.Read.val_main_v23_eq _ _ _).trans (reference4 e0 e1 e2)
  · obtain ⟨e0, e1, e2⟩ := e c
    rw [(h c).2.2.1]
    exact (QkvRefIdeal.Read.val_main_v28_eq _ _ _).trans (reference16 e0 e1 e2)

end Cert.QkvIdeal.Val

end
-- ==== Proof.AttnUnit.lean ====
/- One block of 128 queries and one pair of heads of the dilated attention: what the kernel's vector operations hold,
   index by index. -/
module

public import proofs.«01_k».proof.Proof.Gen.AttnIdeal
public import Idealize.ShloMosaic.Lib.Pointwise
public import Idealize.ShloMosaic.PureOps.Ideal.Laws

@[expose] public section

set_option maxRecDepth 16384

noncomputable section

namespace Cert.AttnIdeal.Val

open Idealize.ShloMosaic Cert.AttnIdeal Cert.AttnIdeal.Gen
open scoped BigOperators

/-! ### Plain sums and maxima -/

/-- The largest of 128 numbers. -/
def top (f : Fin 128 → EReal) : EReal := Finset.univ.fold max (FloatOps.ofBits (F := Ideal) .f32 0xFF800000#32) f

/-- A sum over 256 indices, by halves. -/
theorem sum_256 (f : Fin 256 → EReal) : (∑ i, f i) = (∑ k : Fin 128, f ⟨k.val, by omega⟩) + ∑ k : Fin 128, f ⟨128 + k.val, by omega⟩ := by
  rw [← Equiv.sum_comp (finProdFinEquiv (m := 2) (n := 128)) f, Fintype.sum_prod_type, Fin.sum_univ_two]
  congr 1 <;> refine Finset.sum_congr rfl fun k _ => congrArg f (Fin.ext ?_) <;>
    simp [finProdFinEquiv] <;> omega

/-- A sum over 128 indices, by halves. -/
theorem sum_128 (f : Fin 128 → EReal) : (∑ i, f i) = (∑ k : Fin 64, f ⟨k.val, by omega⟩) + ∑ k : Fin 64, f ⟨64 + k.val, by omega⟩ := by
  rw [← Equiv.sum_comp (finProdFinEquiv (m := 2) (n := 64)) f, Fintype.sum_prod_type, Fin.sum_univ_two]
  congr 1 <;> refine Finset.sum_congr rfl fun k _ => congrArg f (Fin.ext ?_) <;>
    simp [finProdFinEquiv] <;> omega

theorem sum_own128 (f g : Fin 128 → EReal) (a : Fin 2) :
    (∑ x : Fin 128, f x * (if a.val = x.val / 64 then g x else 0))
      = ∑ d : Fin 64, f ⟨64 * a.val + d.val, by omega⟩ * g ⟨64 * a.val + d.val, by omega⟩ := by
  rw [sum_128]
  match a with
  | ⟨0, _⟩ =>
    refine Eq.trans (congrArg₂ (· + ·) (Finset.sum_congr rfl fun d _ => ?_) (Finset.sum_eq_zero fun d _ => ?_)) (add_zero _)
    · rw [if_pos (by dsimp only; omega)]
      exact congrArg (fun z => f z * g z) (Fin.ext (by simp))
    · rw [if_neg (by dsimp only; omega), mul_zero]
  | ⟨1, _⟩ =>
    refine Eq.trans (congrArg₂ (· + ·) (Finset.sum_eq_zero fun d _ => ?_) (Finset.sum_congr rfl fun d _ => ?_)) (zero_add _)
    · rw [if_neg (by dsimp only; omega), mul_zero]
    · rw [if_pos (by dsimp only; omega)]
      rfl

theorem sum_own256 (f g : Fin 256 → EReal) (a : ℕ) (ha : a < 2) :
    (∑ x : Fin 256, f x * (if x.val / 128 = a then g x else 0))
      = ∑ κ : Fin 128, f ⟨128 * a + κ.val, by omega⟩ * g ⟨128 * a + κ.val, by omega⟩ := by
  rw [sum_256]
  match a, ha with
  | 0, _ =>
    refine Eq.trans (congrArg₂ (· + ·) (Finset.sum_congr rfl fun d _ => ?_) (Finset.sum_eq_zero fun d _ => ?_)) (add_zero _)
    · rw [if_pos (by dsimp only; omega)]
      exact congrArg (fun z => f z * g z) (Fin.ext (by simp))
    · rw [if_neg (by dsimp only; omega), mul_zero]
  | 1, _ =>
    refine Eq.trans (congrArg₂ (· + ·) (Finset.sum_eq_zero fun d _ => ?_) (Finset.sum_congr rfl fun d _ => ?_)) (zero_add _)
    · rw [if_neg (by dsimp only; omega), mul_zero]
    · rw [if_pos (by dsimp only; omega)]

/-! ### The vector operations -/

/-- The row's half of 256 and the lane's half of 128, as the kernel divides them out of counters. -/
def rowHalf : IVec S256x128 32 :=
  let v0 := iota .tc S256x128 32 [0] iota_S256x128_d0_w32
  let v2 := divsi v0 (broadcast S256x128 128#32)
  let v9 := subi (extui 32 (cmpi .sgt v0 (broadcast S256x128 0#32)) natLt_1_32) (extui 32 (cmpi .slt v0 (broadcast S256x128 0#32)) natLt_1_32)
  let v14 : BitVec 32 := Scalar.subi (Scalar.extui (Scalar.cmpi .sgt 128#32 0#32)) (Scalar.extui (Scalar.cmpi .slt 128#32 0#32))
  select (andi (cmpi .ne v9 (broadcast S256x128 v14)) (cmpi .ne (remsi v0 (broadcast S256x128 128#32)) (broadcast S256x128 0#32)))
    (subi v2 (broadcast S256x128 1#32)) v2

def laneHalf : IVec S256x128 32 :=
  let v0 := iota .tc S256x128 32 [1] iota_S256x128_d1_w32
  let v2 := divsi v0 (broadcast S256x128 64#32)
  let v9 := subi (extui 32 (cmpi .sgt v0 (broadcast S256x128 0#32)) natLt_1_32) (extui 32 (cmpi .slt v0 (broadcast S256x128 0#32)) natLt_1_32)
  let v14 : BitVec 32 := Scalar.subi (Scalar.extui (Scalar.cmpi .sgt 64#32 0#32)) (Scalar.extui (Scalar.cmpi .slt 64#32 0#32))
  select (andi (cmpi .ne v9 (broadcast S256x128 v14)) (cmpi .ne (remsi v0 (broadcast S256x128 64#32)) (broadcast S256x128 0#32)))
    (subi v2 (broadcast S256x128 1#32)) v2

/-- A row meets the lanes of its own half. -/
def own : IVec S256x128 1 := cmpi .eq rowHalf laneHalf

theorem rowHalf_apply (i : Fin 256) (l : Fin 128) : rowHalf (ix2 i l) = BitVec.ofNat 32 (i.val / 128) := by
  pointwise [rowHalf]
  revert i
  decide +kernel

theorem laneHalf_apply (i : Fin 256) (l : Fin 128) : laneHalf (ix2 i l) = BitVec.ofNat 32 (l.val / 64) := by
  pointwise [laneHalf]
  revert l
  decide +kernel

theorem own_apply (i : Fin 256) (l : Fin 128) : own (ix2 i l) = if i.val / 128 = l.val / 64 then 1#1 else 0#1 := by
  have e : own (ix2 i l) = Scalar.cmpi .eq (rowHalf (ix2 i l)) (laneHalf (ix2 i l)) := rfl
  rw [e, rowHalf_apply, laneHalf_apply]
  have g : ∀ a b : Fin 2, Scalar.cmpi .eq (BitVec.ofNat 32 a.val) (BitVec.ofNat 32 b.val) = if a.val = b.val then 1#1 else 0#1 := by decide
  exact g ⟨i.val / 128, by omega⟩ ⟨l.val / 64, by omega⟩

def zeros : FVec Ideal S256x128 .bf16 := broadcast S256x128 (Scalar.ofBits (F := Ideal) .bf16 0x0000#16)

def ones : FVec Ideal S256x128 .bf16 :=
  truncf .bf16 (select own (broadcast S256x128 (Scalar.ofBits (F := Ideal) .f32 0x3F800000#32)) (broadcast S256x128 (Scalar.ofBits (F := Ideal) .f32 0x00000000#32))) bitsLt_bf16_f32

/-- The scores of a block of queries against a block of keys, the two heads side by side. -/
def score (o : ℕ) (hs : S128x512.Slices ![0, o] S128x128) (q k : Vec Ideal S1x128x512 .bf16) (b0 b1 : Vec Ideal S1x128x128 .f32) : FVec Ideal S128x256 .f32 :=
  addf (matmul dot_S128x128_S256x128_S128x256_1_1_0_0_n_n none
      (mulf (extractStridedSlice S128x128 ![0, o] (shapeCast S128x512 q shapeCasts_S1x128x512_S128x512) hs)
        (broadcast S128x128 (Scalar.ofBits (F := Ideal) .bf16 0x3E00#16)))
      (select own (concatenate S256x128 0
        [⟨S128x128, extractStridedSlice S128x128 ![0, o] (shapeCast S128x512 k shapeCasts_S1x128x512_S128x512) hs⟩,
          ⟨S128x128, extractStridedSlice S128x128 ![0, o] (shapeCast S128x512 k shapeCasts_S1x128x512_S128x512) hs⟩]
        concatenates_S128x128_S128x128_S256x128_d0) zeros) (constant S128x256 .f32 0x00000000#32))
    (concatenate S128x256 1 [⟨S128x128, shapeCast S128x128 b0 shapeCasts_S1x128x128_S128x128⟩, ⟨S128x128, shapeCast S128x128 b1 shapeCasts_S1x128x128_S128x128⟩]
      concatenates_S128x128_S128x128_S128x256_d1)

/-- The row maxima of one head's scores. -/
def rowMax (o : ℕ) (hs : S128x256.Slices ![0, o] S128x128) (s : FVec Ideal S128x256 .f32) : FVec Ideal S128x1 .f32 :=
  shapeCast S128x1 (multiReduction .maximumf [1] S128 (extractStridedSlice S128x128 ![0, o] s hs) 0xFF800000#32 reduces_S128x128_S128 (.inl rfl) rfl) shapeCasts_S128_S128x1

/-- The weights: the exponentials of the scores less their row's maximum. -/
def weights (s : FVec Ideal S128x256 .f32) (m0 m1 : FVec Ideal S128x1 .f32) : FVec Ideal S128x256 .bf16 :=
  exp (truncf .bf16 (subf s (concatenate S128x256 1
    [⟨S128x128, broadcastTo S128x128 (shapeCast S128x1 m0 shapeCasts_S128x1_S128x1) broadcasts_S128x1_S128x128⟩,
      ⟨S128x128, broadcastTo S128x128 (shapeCast S128x1 m1 shapeCasts_S128x1_S128x1) broadcasts_S128x1_S128x128⟩]
    concatenates_S128x128_S128x128_S128x256_d1)) bitsLt_bf16_f32)

/-- The weighted values in the lower lanes, the weights' sums in the upper. -/
def sums (o : ℕ) (hs : S128x512.Slices ![0, o] S128x128) (v : Vec Ideal S1x128x512 .bf16) (e : FVec Ideal S128x256 .bf16) : FVec Ideal S128x256 .f32 :=
  addf (broadcast S128x256 (Scalar.ofBits (F := Ideal) .f32 0x00000000#32))
    (matmul dot_S128x256_S256x256_S128x256_1_0_0_1_n_n none e
      (concatenate S256x256 1
        [⟨S256x128, select own (concatenate S256x128 0
          [⟨S128x128, extractStridedSlice S128x128 ![0, o] (shapeCast S128x512 v shapeCasts_S1x128x512_S128x512) hs⟩,
            ⟨S128x128, extractStridedSlice S128x128 ![0, o] (shapeCast S128x512 v shapeCasts_S1x128x512_S128x512) hs⟩]
          concatenates_S128x128_S128x128_S256x128_d0) zeros⟩, ⟨S256x128, ones⟩]
        concatenates_S256x128_S256x128_S256x256_d1) (constant S128x256 .f32 0x00000000#32))

/-- The quotient of the two halves. -/
def quotient (n : FVec Ideal S128x256 .f32) : FVec Ideal S1x128x128 .bf16 :=
  shapeCast S1x128x128 (truncf .bf16 (divf (extractStridedSlice S128x128 ![0, 0] n slices_S128x256_o0_0_S128x128)
    (extractStridedSlice S128x128 ![0, 128] n slices_S128x256_o0_128_S128x128)) bitsLt_bf16_f32) shapeCasts_S128x128_S1x128x128

/-! ### Read at an index -/

/-- Head `g`'s score of query row `r` against key row `k`. -/
def sc (o : ℕ) (ho : o ≤ 384) (q k : Vec Ideal S1x128x512 .bf16) (b : Vec Ideal S1x128x128 .f32) (g : Fin 2) (r κ : Fin 128) : EReal :=
  (∑ d : Fin 64, q (ix3 0 r ⟨o + (64 * g.val + d.val), by omega⟩) * FloatOps.ofBits (F := Ideal) .bf16 0x3E00#16
    * k (ix3 0 κ ⟨o + (64 * g.val + d.val), by omega⟩)) + b (ix3 0 r κ)

section Pair

variable {o : ℕ} (ho : o ≤ 384) {hs : S128x512.Slices ![0, o] S128x128} (q k v : Vec Ideal S1x128x512 .bf16) (b0 b1 : Vec Ideal S1x128x128 .f32)

theorem ofBits_zero : FloatOps.ofBits (F := Ideal) .bf16 0x0000#16 = (0 : EReal) := by
  pointwise []

/-- The stacked keys or values, off its own half blanked. -/
theorem stacked_apply (x : Vec Ideal S1x128x512 .bf16) (i : Fin 256) (l : Fin 128) :
    (select own (concatenate S256x128 0
      [⟨S128x128, extractStridedSlice S128x128 ![0, o] (shapeCast S128x512 x shapeCasts_S1x128x512_S128x512) hs⟩,
        ⟨S128x128, extractStridedSlice S128x128 ![0, o] (shapeCast S128x512 x shapeCasts_S1x128x512_S128x512) hs⟩]
      concatenates_S128x128_S128x128_S256x128_d0) zeros : FVec Ideal S256x128 .bf16) (ix2 i l)
      = if i.val / 128 = l.val / 64 then x (ix3 0 ⟨i.val % 128, by omega⟩ ⟨o + l.val, by omega⟩) else 0 := by
  have e := own_apply i l
  pointwise [zeros, e]
  by_cases h : i.val / 128 = l.val / 64
  · rw [if_pos h, if_pos h]
    have g : ∀ a b : EReal, Scalar.select (1#1) a b = a := fun _ _ => rfl
    rw [g]
    split
    · exact congrArg (fun z => x (ix3 0 z ⟨o + l.val, by omega⟩)) (Fin.ext (by simp; omega))
    · exact congrArg (fun z => x (ix3 0 z ⟨o + l.val, by omega⟩)) (Fin.ext (by simp; omega))
  · rw [if_neg h, if_neg h]
    rfl

theorem score_apply (r : Fin 128) (j : Fin 256) :
    score o hs q k b0 b1 (ix2 r j)
      = if h : j.val < 128 then sc o ho q k b0 0 r ⟨j.val, h⟩ else sc o ho q k b1 1 r ⟨j.val - 128, by omega⟩ := by
  have e := stacked_apply (hs := hs) ho k j
  generalize hg : (select own (concatenate S256x128 0
      [⟨S128x128, extractStridedSlice S128x128 ![0, o] (shapeCast S128x512 k shapeCasts_S1x128x512_S128x512) hs⟩,
        ⟨S128x128, extractStridedSlice S128x128 ![0, o] (shapeCast S128x512 k shapeCasts_S1x128x512_S128x512) hs⟩]
      concatenates_S128x128_S128x128_S256x128_d0) zeros : FVec Ideal S256x128 .bf16) = kk at e
  unfold score
  rw [hg]
  pointwise [e]
  refine Eq.trans (congrArg (· + _) (sum_own128 (fun x => q (ix3 0 r ⟨o + x.val, by omega⟩) * FloatOps.ofBits (F := Ideal) .bf16 0x3E00#16)
    (fun x => k (ix3 0 ⟨j.val % 128, by omega⟩ ⟨o + x.val, by omega⟩)) ⟨j.val / 128, by omega⟩)) ?_
  have hk : ∀ (a a' : ℕ) (p : ∀ d : Fin 64, o + (64 * a + d.val) < 512) (p' : ∀ d : Fin 64, o + (64 * a' + d.val) < 512) (κ κ' : Fin 128), a = a' → κ = κ' →
      (∑ d : Fin 64, q (ix3 0 r ⟨o + (64 * a + d.val), p d⟩) * FloatOps.ofBits (F := Ideal) .bf16 0x3E00#16 * k (ix3 0 κ ⟨o + (64 * a + d.val), p d⟩))
        = ∑ d : Fin 64, q (ix3 0 r ⟨o + (64 * a' + d.val), p' d⟩) * FloatOps.ofBits (F := Ideal) .bf16 0x3E00#16 * k (ix3 0 κ' ⟨o + (64 * a' + d.val), p' d⟩) := by
    intro a a' p p' κ κ' h h'
    subst h h'
    rfl
  by_cases h : j.val < 128
  · rw [dif_pos h, dif_pos h]
    exact congrArg (· + _) (hk _ _ _ _ _ _ (by simp; omega) (Fin.ext (by simp; omega)))
  · rw [dif_neg h, dif_neg h]
    exact congrArg (· + _) (hk _ _ _ _ _ _ (by simp; omega) (Fin.ext (by simp; omega)))

theorem rowMax_apply {o : ℕ} (ho : o ≤ 128) {hs : S128x256.Slices ![0, o] S128x128} (s : FVec Ideal S128x256 .f32) (r : Fin 128) :
    rowMax o hs s (ix2 r 0) = top (fun κ : Fin 128 => s (ix2 r ⟨o + κ.val, by omega⟩)) := by
  unfold rowMax top
  pointwise []

theorem weights_apply (s : FVec Ideal S128x256 .f32) (m0 m1 : FVec Ideal S128x1 .f32) (r : Fin 128) (j : Fin 256) :
    weights s m0 m1 (ix2 r j) = Ideal.exp (s (ix2 r j) - if j.val < 128 then m0 (ix2 r 0) else m1 (ix2 r 0)) := by
  unfold weights
  pointwise []
  by_cases h : j.val < 128 <;> simp [h]

theorem ones_apply (i : Fin 256) (l : Fin 128) : ones (ix2 i l) = if i.val / 128 = l.val / 64 then 1 else 0 := by
  have e := own_apply i l
  pointwise [ones, e]
  by_cases h : i.val / 128 = l.val / 64
  · rw [if_pos h, if_pos h]
    rfl
  · rw [if_neg h, if_neg h]
    rfl

theorem sums_apply (e : FVec Ideal S128x256 .bf16) (r : Fin 128) (j : Fin 256) :
    sums o hs v e (ix2 r j)
      = if h : j.val < 128 then ∑ κ : Fin 128, e (ix2 r ⟨128 * (j.val / 64) + κ.val, by omega⟩) * v (ix3 0 κ ⟨o + j.val, by omega⟩)
        else ∑ κ : Fin 128, e (ix2 r ⟨128 * ((j.val - 128) / 64) + κ.val, by omega⟩) := by
  have ev := stacked_apply (hs := hs) ho v
  generalize hg : (select own (concatenate S256x128 0
      [⟨S128x128, extractStridedSlice S128x128 ![0, o] (shapeCast S128x512 v shapeCasts_S1x128x512_S128x512) hs⟩,
        ⟨S128x128, extractStridedSlice S128x128 ![0, o] (shapeCast S128x512 v shapeCasts_S1x128x512_S128x512) hs⟩]
      concatenates_S128x128_S128x128_S256x128_d0) zeros : FVec Ideal S256x128 .bf16) = vv at ev
  unfold sums
  rw [hg]
  pointwise [ev, ones_apply]
  by_cases h : j.val < 128
  · simp only [h, dite_true]
    refine Eq.trans (sum_own256 (fun x => e (ix2 r x)) (fun x => v (ix3 0 ⟨x.val % 128, by omega⟩ ⟨o + j.val, by omega⟩)) (j.val / 64) (by omega)) ?_
    refine Finset.sum_congr rfl fun κ _ => congrArg (_ * ·) (congrArg (fun z => v (ix3 0 z ⟨o + j.val, by omega⟩)) (Fin.ext (by simp)))
  · simp only [h, dite_false]
    refine Eq.trans (sum_own256 (fun x => e (ix2 r x)) (fun _ => 1) ((j.val - 128) / 64) (by omega)) ?_
    exact Finset.sum_congr rfl fun κ _ => mul_one _

theorem quotient_apply (n : FVec Ideal S128x256 .f32) (r l : Fin 128) :
    quotient n (ix3 0 r l) = Ideal.div (n (ix2 r ⟨l.val, by omega⟩)) (n (ix2 r ⟨128 + l.val, by omega⟩)) := by
  pointwise [quotient]

end Pair

/-! ### The log-sum-exps, one lane per head -/

def lane : IVec S128x128 32 := iota .tc S128x128 32 [1] iota_S128x128_d1_w32

/-- Two heads' maxima put into their lanes. -/
def putMax (a b : BitVec 32) (m0 m1 : FVec Ideal S128x1 .f32) (acc : FVec Ideal S128x128 .f32) : FVec Ideal S128x128 .f32 :=
  select (cmpi .eq lane (broadcast S128x128 a)) (broadcastTo S128x128 (shapeCast S128x1 m0 shapeCasts_S128x1_S128x1) broadcasts_S128x1_S128x128)
    (select (cmpi .eq lane (broadcast S128x128 b)) (broadcastTo S128x128 (shapeCast S128x1 m1 shapeCasts_S128x1_S128x1) broadcasts_S128x1_S128x128) acc)

/-- Two heads' sums put into their lanes, the second's turned into the lower half first. -/
def putSum (a b : BitVec 32) (n : FVec Ideal S128x256 .f32) (acc : FVec Ideal S128x128 .f32) : FVec Ideal S128x128 .f32 :=
  select (cmpi .eq lane (broadcast S128x128 a)) (extractStridedSlice S128x128 ![0, 128] n slices_S128x256_o0_128_S128x128)
    (select (cmpi .eq lane (broadcast S128x128 b))
      (dynamicRotate 1 64#32 none (extractStridedSlice S128x128 ![0, 128] n slices_S128x256_o0_128_S128x128) rotates_S128x128_d1) acc)

/-- The log-sum-exps of a block of rows. -/
def lse (m : Fin 8 → FVec Ideal S128x1 .f32) (n : Fin 4 → FVec Ideal S128x256 .f32) : FVec Ideal S1x128x128 .f32 :=
  shapeCast S1x128x128 (addf
    (putMax 6#32 7#32 (m 6) (m 7) (putMax 4#32 5#32 (m 4) (m 5) (putMax 2#32 3#32 (m 2) (m 3) (putMax 0#32 1#32 (m 0) (m 1)
      (broadcast S128x128 (Scalar.ofBits (F := Ideal) .f32 0x00000000#32))))))
    (log (putSum 6#32 7#32 (n 3) (putSum 4#32 5#32 (n 2) (putSum 2#32 3#32 (n 1) (putSum 0#32 1#32 (n 0)
      (broadcast S128x128 (Scalar.ofBits (F := Ideal) .f32 0x3F800000#32)))))))) shapeCasts_S128x128_S1x128x128

theorem cmp_lane (l : Fin 128) (a : Fin 8) :
    IntOp.cmpi .eq (BitVec.ofNat 32 l.val) (BitVec.ofNat 32 a.val) = if l.val = a.val then 1#1 else 0#1 := by
  revert l a
  decide

theorem select_ite (p : Prop) [Decidable p] (u w : EReal) : Scalar.select (if p then 1#1 else 0#1) u w = if p then u else w := by
  by_cases h : p
  · rw [if_pos h, if_pos h]
    rfl
  · rw [if_neg h, if_neg h]
    rfl

theorem putMax_apply (a b : Fin 8) (m0 m1 : FVec Ideal S128x1 .f32) (acc : FVec Ideal S128x128 .f32) (r l : Fin 128) :
    putMax (BitVec.ofNat 32 a.val) (BitVec.ofNat 32 b.val) m0 m1 acc (ix2 r l)
      = if l.val = a.val then m0 (ix2 r 0) else if l.val = b.val then m1 (ix2 r 0) else acc (ix2 r l) := by
  pointwise [putMax, lane]
  rw [cmp_lane, cmp_lane, select_ite, select_ite]

theorem putSum_apply (a b : Fin 8) (n : FVec Ideal S128x256 .f32) (acc : FVec Ideal S128x128 .f32) (r l : Fin 128) :
    putSum (BitVec.ofNat 32 a.val) (BitVec.ofNat 32 b.val) n acc (ix2 r l)
      = if l.val = a.val then n (ix2 r ⟨128 + l.val, by omega⟩) else if l.val = b.val then n (ix2 r ⟨128 + (l.val + 64) % 128, by omega⟩) else acc (ix2 r l) := by
  pointwise [putSum, lane]
  rw [cmp_lane, cmp_lane, select_ite, select_ite]
  have h : (⟨128 + (l.val + 128 - 64) % 128, by omega⟩ : Fin 256) = ⟨128 + (l.val + 64) % 128, by omega⟩ := Fin.ext (by dsimp only; omega)
  rw [h]

/-- The log-sum-exps lane by lane. -/
theorem lse_apply (m : Fin 8 → FVec Ideal S128x1 .f32) (n : Fin 4 → FVec Ideal S128x256 .f32) (r l : Fin 128) :
    lse m n (ix3 0 r l) = if h : l.val < 8 then
        m ⟨l.val, h⟩ (ix2 r 0) + Ideal.log (n ⟨l.val / 2, by omega⟩ (ix2 r ⟨128 + (l.val + 64 * (l.val % 2)) % 128, by omega⟩))
      else 0 + Ideal.log 1 := by
  have e1 := fun u w a => putMax_apply 6 7 u w a r l
  have e2 := fun u w a => putMax_apply 4 5 u w a r l
  have e3 := fun u w a => putMax_apply 2 3 u w a r l
  have e4 := fun u w a => putMax_apply 0 1 u w a r l
  have f1 := fun u a => putSum_apply 6 7 u a r l
  have f2 := fun u a => putSum_apply 4 5 u a r l
  have f3 := fun u a => putSum_apply 2 3 u a r l
  have f4 := fun u a => putSum_apply 0 1 u a r l
  have e : lse m n (ix3 0 r l) = (putMax 6#32 7#32 (m 6) (m 7) (putMax 4#32 5#32 (m 4) (m 5) (putMax 2#32 3#32 (m 2) (m 3) (putMax 0#32 1#32 (m 0) (m 1)
      (broadcast S128x128 (Scalar.ofBits (F := Ideal) .f32 0x00000000#32)))))) (ix2 r l)
      + Ideal.log ((putSum 6#32 7#32 (n 3) (putSum 4#32 5#32 (n 2) (putSum 2#32 3#32 (n 1) (putSum 0#32 1#32 (n 0)
      (broadcast S128x128 (Scalar.ofBits (F := Ideal) .f32 0x3F800000#32)))))) (ix2 r l)) := by
    pointwise [lse]
  rw [e]
  erw [e1, e2, e3, e4, f1, f2, f3, f4]
  by_cases h : l.val < 8
  · rw [dif_pos h]
    obtain ⟨l, hl⟩ := l
    dsimp only at h ⊢
    interval_cases l <;> simp
  · rw [dif_neg h]
    have h0 : l.val ≠ 0 := by omega
    have h1 : l.val ≠ 1 := by omega
    have h2 : l.val ≠ 2 := by omega
    have h3 : l.val ≠ 3 := by omega
    have h4 : l.val ≠ 4 := by omega
    have h5 : l.val ≠ 5 := by omega
    have h6 : l.val ≠ 6 := by omega
    have h7 : l.val ≠ 7 := by omega
    simp [h0, h1, h2, h3, h4, h5, h6, h7]
    exact zero_add _

/-! ### One block of queries and one pair of heads, whole -/

variable {o : ℕ} (ho : o ≤ 384) {hs : S128x512.Slices ![0, o] S128x128} (q k v : Vec Ideal S1x128x512 .bf16) (b0 b1 : Vec Ideal S1x128x128 .f32)

/-- The sums of a block: weights times values, and weights. -/
def unit (o : ℕ) (hs : S128x512.Slices ![0, o] S128x128) (q k v : Vec Ideal S1x128x512 .bf16) (b0 b1 : Vec Ideal S1x128x128 .f32) : FVec Ideal S128x256 .f32 :=
  sums o hs v (weights (score o hs q k b0 b1) (rowMax 0 slices_S128x256_o0_0_S128x128 (score o hs q k b0 b1))
    (rowMax 128 slices_S128x256_o0_128_S128x128 (score o hs q k b0 b1)))

/-- A head's largest score of a row. -/
def mx (o : ℕ) (ho : o ≤ 384) (q k : Vec Ideal S1x128x512 .bf16) (b : Vec Ideal S1x128x128 .f32) (g : Fin 2) (r : Fin 128) : EReal :=
  top (sc o ho q k b g r)

/-- A head's weight of a key row. -/
def ex (o : ℕ) (ho : o ≤ 384) (q k : Vec Ideal S1x128x512 .bf16) (b : Vec Ideal S1x128x128 .f32) (g : Fin 2) (r κ : Fin 128) : EReal :=
  Ideal.exp (sc o ho q k b g r κ - mx o ho q k b g r)

theorem max0_apply (r : Fin 128) : rowMax 0 slices_S128x256_o0_0_S128x128 (score o hs q k b0 b1) (ix2 r 0) = mx o ho q k b0 0 r := by
  rw [rowMax_apply (o := 0) (by decide)]
  refine congrArg top (funext fun κ => ?_)
  rw [score_apply ho, dif_pos (by dsimp only; omega)]
  exact congrArg (sc o ho q k b0 0 r) (Fin.ext (by simp))

theorem max1_apply (r : Fin 128) : rowMax 128 slices_S128x256_o0_128_S128x128 (score o hs q k b0 b1) (ix2 r 0) = mx o ho q k b1 1 r := by
  rw [rowMax_apply (o := 128) (by decide)]
  refine congrArg top (funext fun κ => ?_)
  rw [score_apply ho, dif_neg (by dsimp only; omega)]
  exact congrArg (sc o ho q k b1 1 r) (Fin.ext (by simp))

/-- The weights of the pair of heads side by side. -/
theorem weight_apply (r : Fin 128) (g : Fin 2) (κ : Fin 128) (j : Fin 256) (hj : j.val = 128 * g.val + κ.val) :
    weights (score o hs q k b0 b1) (rowMax 0 slices_S128x256_o0_0_S128x128 (score o hs q k b0 b1))
      (rowMax 128 slices_S128x256_o0_128_S128x128 (score o hs q k b0 b1)) (ix2 r j)
      = ex o ho q k (if g.val = 0 then b0 else b1) g r κ := by
  rw [weights_apply, score_apply ho, max0_apply ho, max1_apply ho]
  unfold ex
  match g with
  | ⟨0, _⟩ =>
    have h : j.val < 128 := by dsimp only at hj; omega
    have h' : (⟨j.val, h⟩ : Fin 128) = κ := Fin.ext (by dsimp only at hj ⊢; omega)
    rw [if_pos h, dif_pos h, h']
    rfl
  | ⟨1, _⟩ =>
    have h : ¬ j.val < 128 := by dsimp only at hj; omega
    have h' : (⟨j.val - 128, by omega⟩ : Fin 128) = κ := Fin.ext (by dsimp only at hj ⊢; omega)
    rw [if_neg h, dif_neg h, h']
    rfl

/-- The lower lanes: weights times values. -/
theorem unit_low (r : Fin 128) (g : Fin 2) (d : Fin 64) (j : Fin 256) (hj : j.val = 64 * g.val + d.val) :
    unit o hs q k v b0 b1 (ix2 r j)
      = ∑ κ : Fin 128, ex o ho q k (if g.val = 0 then b0 else b1) g r κ * v (ix3 0 κ ⟨o + (64 * g.val + d.val), by omega⟩) := by
  unfold unit
  rw [sums_apply ho, dif_pos (by omega)]
  refine Finset.sum_congr rfl fun κ _ => ?_
  rw [weight_apply ho q k b0 b1 r g κ _ (by dsimp only; omega)]
  exact congrArg (_ * ·) (congrArg (fun z => v (ix3 0 κ z)) (Fin.ext (by dsimp only; omega)))

/-- The upper lanes: the weights' sums. -/
theorem unit_high (r : Fin 128) (g : Fin 2) (d : Fin 64) (j : Fin 256) (hj : j.val = 128 + (64 * g.val + d.val)) :
    unit o hs q k v b0 b1 (ix2 r j) = ∑ κ : Fin 128, ex o ho q k (if g.val = 0 then b0 else b1) g r κ := by
  unfold unit
  rw [sums_apply ho, dif_neg (by omega)]
  refine Finset.sum_congr rfl fun κ _ => ?_
  rw [weight_apply ho q k b0 b1 r g κ _ (by dsimp only; omega)]

end Cert.AttnIdeal.Val

end
-- ==== Proof.AttnBlock.lean ====
/- The blocks that the dilated attention leaves for one sequence, index by index. -/
module

public import proofs.«01_k».proof.Proof.AttnUnit
public import proofs.«01_k».proof.Proof.Gen.AttnIdeal.Frame
public import Idealize.ShloMosaic.Lib.Pipeline.ReadBack
import all proofs.«01_k».proof.Proof.Gen.AttnIdeal.Frame

@[expose] public section

set_option maxRecDepth 16384

noncomputable section

namespace Cert.AttnIdeal.Val

open Idealize.ShloMosaic Cert.AttnIdeal Cert.AttnIdeal.Gen
open scoped BigOperators

variable (x0 x2 x4 : Vec Ideal S1x2048x512 .bf16) (x5 : Vec Ideal S8x128x256 .f32)

/-- Head `h`'s score of token `t` against key `κ` of its residue. -/
def bScore (h : Fin 8) (t : Fin 2048) (κ : Fin 128) : EReal :=
  (∑ d : Fin 64, x0 (ix3 0 t ⟨64 * h.val + d.val, by omega⟩) * FloatOps.ofBits (F := Ideal) .bf16 0x3E00#16
    * x2 (ix3 0 ⟨128 * (t.val / 128) + κ.val, by omega⟩ ⟨64 * h.val + d.val, by omega⟩)) + x5 (ix3 h ⟨t.val % 128, by omega⟩ ⟨128 + κ.val, by omega⟩)

def bMax (h : Fin 8) (t : Fin 2048) : EReal := top (bScore x0 x2 x5 h t)

def bExp (h : Fin 8) (t : Fin 2048) (κ : Fin 128) : EReal := Ideal.exp (bScore x0 x2 x5 h t κ - bMax x0 x2 x5 h t)

def bDen (h : Fin 8) (t : Fin 2048) : EReal := ∑ κ, bExp x0 x2 x5 h t κ

/-- The block of outputs. -/
def blockO (y : S1x2048x512.Idx) : EReal :=
  have hc : (y 2).val < 512 := (y 2).2
  have ht : (y 1).val < 2048 := (y 1).2
  Ideal.div (∑ κ : Fin 128, bExp x0 x2 x5 ⟨(y 2).val / 64, by omega⟩ ⟨(y 1).val, ht⟩ κ
    * x4 (ix3 0 ⟨128 * ((y 1).val / 128) + κ.val, by omega⟩ ⟨(y 2).val, hc⟩)) (bDen x0 x2 x5 ⟨(y 2).val / 64, by omega⟩ ⟨(y 1).val, ht⟩)

/-- The block of log-sum-exps, a lane per head and the other lanes zero. -/
def blockL (y : S1x2048x128.Idx) : EReal :=
  have ht : (y 1).val < 2048 := (y 1).2
  if h : (y 2).val < 8 then bMax x0 x2 x5 ⟨(y 2).val, h⟩ ⟨(y 1).val, ht⟩ + Ideal.log (bDen x0 x2 x5 ⟨(y 2).val, h⟩ ⟨(y 1).val, ht⟩)
    else 0 + Ideal.log 1

/-- The rows of a residue. -/
theorem ld_rows (x : Vec Ideal S1x2048x512 .bf16) {ρ : ℕ} (hρ : ρ ≤ 1920) (i1) (r : Fin 128) (c : Fin 512) :
    View.ld x (Rect.unit (s := S1x2048x512) ![0, ρ, 0] S1x128x512.size i1) (ix3 0 r c) = x (ix3 0 ⟨ρ + r.val, by omega⟩ c) := by
  refine congrArg x (funext fun a => Fin.ext ?_)
  match a with
  | ⟨0, _⟩ => rfl
  | ⟨1, _⟩ => show ρ + 1 * r.val = ρ + r.val; omega
  | ⟨2, _⟩ => show 0 + 1 * c.val = c.val; omega

/-- One head's biases of the residue against itself. -/
theorem ld_bias {h : ℕ} (hh : h < 8) (i1) (r κ : Fin 128) :
    View.ld x5 (Rect.unit (s := S8x128x256) ![h, 0, 128] S1x128x128.size i1) (ix3 0 r κ) = x5 (ix3 ⟨h, hh⟩ r ⟨128 + κ.val, by omega⟩) := by
  refine congrArg x5 (funext fun a => Fin.ext ?_)
  match a with
  | ⟨0, _⟩ => rfl
  | ⟨1, _⟩ => show 0 + 1 * r.val = r.val; omega
  | ⟨2, _⟩ => show 128 + 1 * κ.val = 128 + κ.val; omega

section

variable {ρ o : ℕ} (hρ : ρ % 128 = 0) (hρ' : ρ ≤ 1920) {h0 h1 : ℕ} (ho : 64 * h0 = o) (e1 : h1 = h0 + 1) (hh : h1 < 8) (iq ib0 ib1)

theorem sc_ld (g : Fin 2) (r κ : Fin 128) :
    sc o (by omega) (View.ld x0 (Rect.unit (s := S1x2048x512) ![0, ρ, 0] S1x128x512.size iq)) (View.ld x2 (Rect.unit (s := S1x2048x512) ![0, ρ, 0] S1x128x512.size iq))
      (if g.val = 0 then View.ld x5 (Rect.unit (s := S8x128x256) ![h0, 0, 128] S1x128x128.size ib0) else View.ld x5 (Rect.unit (s := S8x128x256) ![h1, 0, 128] S1x128x128.size ib1)) g r κ
      = bScore x0 x2 x5 ⟨h0 + g.val, by omega⟩ ⟨ρ + r.val, by omega⟩ κ := by
  unfold sc bScore
  refine congrArg₂ (· + ·) (Finset.sum_congr rfl fun d _ => ?_) ?_
  · rw [ld_rows x0 hρ', ld_rows x2 hρ']
    refine congrArg₂ (fun u v => u * FloatOps.ofBits (F := Ideal) .bf16 0x3E00#16 * v) (congrArg (fun z => x0 (ix3 0 _ z)) (Fin.ext (by dsimp only; omega)))
      (congrArg₂ (fun w z => x2 (ix3 0 w z)) (Fin.ext (by dsimp only; omega)) (Fin.ext (by dsimp only; omega)))
  · subst e1
    have hr : (⟨(ρ + r.val) % 128, by omega⟩ : Fin 128) = r := Fin.ext (by dsimp only; omega)
    match g with
    | ⟨0, _⟩ => exact (ld_bias x5 (by omega) ib0 r κ).trans (congrArg (fun w => x5 (ix3 _ w _)) hr.symm)
    | ⟨1, _⟩ => exact (ld_bias x5 (by omega) ib1 r κ).trans (congrArg (fun w => x5 (ix3 _ w _)) hr.symm)

theorem mx_ld (g : Fin 2) (r : Fin 128) :
    mx o (by omega) (View.ld x0 (Rect.unit (s := S1x2048x512) ![0, ρ, 0] S1x128x512.size iq)) (View.ld x2 (Rect.unit (s := S1x2048x512) ![0, ρ, 0] S1x128x512.size iq))
      (if g.val = 0 then View.ld x5 (Rect.unit (s := S8x128x256) ![h0, 0, 128] S1x128x128.size ib0) else View.ld x5 (Rect.unit (s := S8x128x256) ![h1, 0, 128] S1x128x128.size ib1)) g r
      = bMax x0 x2 x5 ⟨h0 + g.val, by omega⟩ ⟨ρ + r.val, by omega⟩ :=
  congrArg top (funext fun κ => sc_ld x0 x2 x5 hρ hρ' ho e1 hh iq ib0 ib1 g r κ)

theorem ex_ld (g : Fin 2) (r κ : Fin 128) :
    ex o (by omega) (View.ld x0 (Rect.unit (s := S1x2048x512) ![0, ρ, 0] S1x128x512.size iq)) (View.ld x2 (Rect.unit (s := S1x2048x512) ![0, ρ, 0] S1x128x512.size iq))
      (if g.val = 0 then View.ld x5 (Rect.unit (s := S8x128x256) ![h0, 0, 128] S1x128x128.size ib0) else View.ld x5 (Rect.unit (s := S8x128x256) ![h1, 0, 128] S1x128x128.size ib1)) g r κ
      = bExp x0 x2 x5 ⟨h0 + g.val, by omega⟩ ⟨ρ + r.val, by omega⟩ κ := by
  unfold ex bExp
  rw [sc_ld x0 x2 x5 hρ hρ' ho e1 hh iq ib0 ib1, mx_ld x0 x2 x5 hρ hρ' ho e1 hh iq ib0 ib1]

include hρ hρ' ho e1 hh in
/-- A block's store of one pair of heads' outputs. -/
theorem out_piece (hs : S128x512.Slices ![0, o] S128x128) (i2) (y : S1x128x128.Idx) :
    quotient (unit o hs (View.ld x0 (Rect.unit (s := S1x2048x512) ![0, ρ, 0] S1x128x512.size iq)) (View.ld x2 (Rect.unit (s := S1x2048x512) ![0, ρ, 0] S1x128x512.size iq))
      (View.ld x4 (Rect.unit (s := S1x2048x512) ![0, ρ, 0] S1x128x512.size iq))
      (View.ld x5 (Rect.unit (s := S8x128x256) ![h0, 0, 128] S1x128x128.size ib0)) (View.ld x5 (Rect.unit (s := S8x128x256) ![h1, 0, 128] S1x128x128.size ib1))) y
      = blockO x0 x2 x4 x5 (Rect.emb (Rect.unit (s := S1x2048x512) ![0, ρ, o] ![1, 128, 128] i2) y) := by
  obtain ⟨z, r, l, rfl⟩ : ∃ (z : Fin 1) (r l : Fin 128), y = ix3 z r l := ⟨_, _, _, eq_ix3 y⟩
  obtain rfl : z = 0 := Subsingleton.elim _ _
  have hy : (Rect.emb (Rect.unit (s := S1x2048x512) ![0, ρ, o] ![1, 128, 128] i2) (ix3 (0 : Fin 1) r l)) = ix3 (0 : Fin 1) (⟨ρ + r.val, by omega⟩ : Fin 2048) (⟨o + l.val, by omega⟩ : Fin 512) := by
    refine funext fun a => Fin.ext ?_
    match a with
    | ⟨0, _⟩ => rfl
    | ⟨1, _⟩ => show ρ + 1 * r.val = ρ + r.val; omega
    | ⟨2, _⟩ => show o + 1 * l.val = o + l.val; omega
  rw [hy]
  rw [quotient_apply (o := o)]
  rw [unit_low (o := o) (by omega) _ _ _ _ _ r ⟨l.val / 64, by omega⟩ ⟨l.val % 64, by omega⟩ ⟨l.val, by omega⟩ (by dsimp only; omega),
    unit_high (o := o) (by omega) _ _ _ _ _ r ⟨l.val / 64, by omega⟩ ⟨l.val % 64, by omega⟩ ⟨128 + l.val, by omega⟩ (by dsimp only; omega)]
  have hg : (⟨h0 + l.val / 64, by omega⟩ : Fin 8) = ⟨(o + l.val) / 64, by omega⟩ := Fin.ext (by dsimp only; omega)
  show _ = Ideal.div (∑ κ : Fin 128, bExp x0 x2 x5 ⟨(o + l.val) / 64, by omega⟩ ⟨ρ + r.val, by omega⟩ κ
    * x4 (ix3 0 ⟨128 * ((ρ + r.val) / 128) + κ.val, by omega⟩ ⟨o + l.val, by omega⟩)) (bDen x0 x2 x5 ⟨(o + l.val) / 64, by omega⟩ ⟨ρ + r.val, by omega⟩)
  unfold bDen
  refine congrArg₂ Ideal.div (Finset.sum_congr rfl fun κ _ => ?_) (Finset.sum_congr rfl fun κ _ => ?_)
  · rw [ex_ld x0 x2 x5 hρ hρ' ho e1 hh iq ib0 ib1, ld_rows x4 hρ', ← hg]
    exact congrArg (_ * ·) (congrArg₂ (fun w z => x4 (ix3 0 w z)) (Fin.ext (by dsimp only; omega)) (Fin.ext (by dsimp only; omega)))
  · rw [ex_ld x0 x2 x5 hρ hρ' ho e1 hh iq ib0 ib1, ← hg]

end

variable (x1 x3 : Vec Ideal S1x128x512 .bf16)

set_option maxHeartbeats 4000000 in
theorem out0_6_eq : out0_6 x0 x1 x2 x3 x4 x5 = blockO x0 x2 x4 x5 := by
  refine funext fun y => View.canon_apply_of_pieces _ _ (View.PiecesOf.mem ?_) y (cover0_6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  repeat' first | exact trivial | refine ⟨out_piece x0 x2 x4 x5 (by decide) (by decide) (by decide) (by decide) (by decide) (by decide) (by decide) (by decide) (by decide) (by decide), ?_⟩

/-- The lanes of a pair of heads. -/
theorem slicesPair : ∀ p : Fin 4, S128x512.Slices ![0, 128 * p.val] S128x128 := by decide

theorem slicesHead : ∀ g : Fin 2, S128x256.Slices ![0, 128 * g.val] S128x128 := by decide

theorem inbBias : ∀ h : Fin 8, ∀ a, ![h.val, 0, 128] a + S1x128x128.size a ≤ S8x128x256.size a := by decide

section

variable {ρ : ℕ} (iq : ∀ a, ![0, ρ, 0] a + S1x128x512.size a ≤ S1x2048x512.size a)

/-- The scores of one pair of heads. -/
def pairScore (p : Fin 4) : FVec Ideal S128x256 .f32 :=
  score (128 * p.val) (slicesPair p) (View.ld x0 (Rect.unit (s := S1x2048x512) ![0, ρ, 0] S1x128x512.size iq)) (View.ld x2 (Rect.unit (s := S1x2048x512) ![0, ρ, 0] S1x128x512.size iq))
    (View.ld x5 (Rect.unit (s := S8x128x256) ![2 * p.val, 0, 128] S1x128x128.size (inbBias ⟨2 * p.val, by omega⟩)))
    (View.ld x5 (Rect.unit (s := S8x128x256) ![2 * p.val + 1, 0, 128] S1x128x128.size (inbBias ⟨2 * p.val + 1, by omega⟩)))

/-- The sums of one pair of heads. -/
def pairSums (p : Fin 4) : FVec Ideal S128x256 .f32 :=
  unit (128 * p.val) (slicesPair p) (View.ld x0 (Rect.unit (s := S1x2048x512) ![0, ρ, 0] S1x128x512.size iq)) (View.ld x2 (Rect.unit (s := S1x2048x512) ![0, ρ, 0] S1x128x512.size iq))
    (View.ld x4 (Rect.unit (s := S1x2048x512) ![0, ρ, 0] S1x128x512.size iq))
    (View.ld x5 (Rect.unit (s := S8x128x256) ![2 * p.val, 0, 128] S1x128x128.size (inbBias ⟨2 * p.val, by omega⟩)))
    (View.ld x5 (Rect.unit (s := S8x128x256) ![2 * p.val + 1, 0, 128] S1x128x128.size (inbBias ⟨2 * p.val + 1, by omega⟩)))

variable (hρ : ρ % 128 = 0) (hρ' : ρ ≤ 1920)

include hρ hρ' in
theorem max_pair (p : Fin 4) (g : Fin 2) (r : Fin 128) :
    rowMax (128 * g.val) (slicesHead g) (pairScore x0 x2 x5 iq p) (ix2 r 0) = bMax x0 x2 x5 ⟨2 * p.val + g.val, by omega⟩ ⟨ρ + r.val, by omega⟩ := by
  have e := mx_ld x0 x2 x5 hρ hρ' (h0 := 2 * p.val) (h1 := 2 * p.val + 1) (o := 128 * p.val) (by omega) rfl (by omega) iq
    (inbBias ⟨2 * p.val, by omega⟩) (inbBias ⟨2 * p.val + 1, by omega⟩) g r
  refine Eq.trans ?_ e
  match g with
  | ⟨0, _⟩ => exact max0_apply (o := 128 * p.val) (by omega) _ _ _ _ r
  | ⟨1, _⟩ => exact max1_apply (o := 128 * p.val) (by omega) _ _ _ _ r

include hρ hρ' in
theorem den_pair (p : Fin 4) (g : Fin 2) (r : Fin 128) (j : Fin 256) (d : Fin 64) (hj : j.val = 128 + (64 * g.val + d.val)) :
    pairSums x0 x2 x4 x5 iq p (ix2 r j) = bDen x0 x2 x5 ⟨2 * p.val + g.val, by omega⟩ ⟨ρ + r.val, by omega⟩ := by
  refine (unit_high (o := 128 * p.val) (by omega) _ _ _ _ _ r g d j hj).trans ?_
  exact Finset.sum_congr rfl fun κ _ => ex_ld x0 x2 x5 hρ hρ' (h0 := 2 * p.val) (h1 := 2 * p.val + 1) (o := 128 * p.val) (by omega) rfl (by omega) iq
    (inbBias ⟨2 * p.val, by omega⟩) (inbBias ⟨2 * p.val + 1, by omega⟩) g r κ

include hρ hρ' in
/-- A block's store of log-sum-exps. -/
theorem lse_piece (i2) (y : S1x128x128.Idx) :
    lse (fun h => rowMax (128 * (h.val % 2)) (slicesHead ⟨h.val % 2, by omega⟩) (pairScore x0 x2 x5 iq ⟨h.val / 2, by omega⟩)) (pairSums x0 x2 x4 x5 iq) y
      = blockL x0 x2 x5 (Rect.emb (Rect.unit (s := S1x2048x128) ![0, ρ, 0] ![1, 128, 128] i2) y) := by
  obtain ⟨z, r, l, rfl⟩ : ∃ (z : Fin 1) (r l : Fin 128), y = ix3 z r l := ⟨_, _, _, eq_ix3 y⟩
  obtain rfl : z = 0 := Subsingleton.elim _ _
  have hy : (Rect.emb (Rect.unit (s := S1x2048x128) ![0, ρ, 0] ![1, 128, 128] i2) (ix3 (0 : Fin 1) r l)) = ix3 (0 : Fin 1) (⟨ρ + r.val, by omega⟩ : Fin 2048) l := by
    refine funext fun a => Fin.ext ?_
    match a with
    | ⟨0, _⟩ => rfl
    | ⟨1, _⟩ => show ρ + 1 * r.val = ρ + r.val; omega
    | ⟨2, _⟩ => show 0 + 1 * l.val = l.val; omega
  rw [hy, lse_apply]
  show _ = if h : l.val < 8 then bMax x0 x2 x5 ⟨l.val, h⟩ ⟨ρ + r.val, by omega⟩ + Ideal.log (bDen x0 x2 x5 ⟨l.val, h⟩ ⟨ρ + r.val, by omega⟩) else 0 + Ideal.log 1
  by_cases h : l.val < 8
  · rw [dif_pos h, dif_pos h]
    have hl : (⟨2 * (l.val / 2) + l.val % 2, by omega⟩ : Fin 8) = ⟨l.val, h⟩ := Fin.ext (by dsimp only; omega)
    have e1 := max_pair x0 x2 x5 iq hρ hρ' ⟨l.val / 2, by omega⟩ ⟨l.val % 2, by omega⟩ r
    have e2 := den_pair x0 x2 x4 x5 iq hρ hρ' ⟨l.val / 2, by omega⟩ ⟨l.val % 2, by omega⟩ r ⟨128 + (l.val + 64 * (l.val % 2)) % 128, by omega⟩ ⟨l.val, by omega⟩ (by dsimp only; omega)
    rw [hl] at e1 e2
    exact congrArg₂ (fun u v => u + Ideal.log v) e1 e2
  · rw [dif_neg h, dif_neg h]

end

set_option maxRecDepth 200000 in
theorem out0_7_eq : out0_7 x0 x1 x2 x3 x4 x5 = blockL x0 x2 x5 := by
  refine funext fun y => View.canon_apply_of_pieces _ _ (View.PiecesOf.mem ?_) y (cover0_7 _ _ _ _ _ _ _ _ _ _ _ _ _ _ _ _ y)
  repeat' first | exact trivial | refine ⟨lse_piece x0 x2 x4 x5 (by decide) (by decide) (by decide) (by decide), ?_⟩

end Cert.AttnIdeal.Val

end
-- ==== Proof.AttnTable.lean ====
/- The bias of one head between two positions: the bucket of their distance, the row of the table it reads, and both
   gathers read at an entry. -/
module

public import proofs.«01_k».proof.Proof.AttnBlock
public import proofs.«01_k».proof.Proof.Gen.AttnRefIdeal.Read

@[expose] public section

set_option maxRecDepth 16384

noncomputable section

namespace Cert.Attn

open Idealize.ShloMosaic

/-- The bucket of a distance, in steps of the group's dilation. -/
def bucket (d : BitVec 32) : BitVec 32 :=
  Scalar.select (IntOp.cmpi .slt (IntOp.muli (IntOp.minsi 128#32 (IntOp.maxsi 0#32 d)) 16#32) 16#32)
    (IntOp.muli (IntOp.minsi 128#32 (IntOp.maxsi 0#32 d)) 16#32)
    (IntOp.minsi (IntOp.addi 16#32 (FloatOps.fptosi (F := Ideal) (φ := .f32) 32 (FloatOps.mulf (φ := .f32) (FloatOps.hostDivf (φ := .f32) (FloatOps.hostUnary (φ := .f32) .log
      (FloatOps.hostDivf (φ := .f32) (FloatOps.sitofp .f32 (IntOp.maxsi (IntOp.muli (IntOp.minsi 128#32 (IntOp.maxsi 0#32 d)) 16#32) 1#32)) (FloatOps.ofBits .f32 0x41800000#32)))
      (FloatOps.ofBits .f32 0x409B43D5#32)) (FloatOps.ofBits .f32 0x41800000#32)))) 31#32)

/-- A row index with a negative one counted from the end. -/
def wrap (b : BitVec 32) : BitVec 32 := Scalar.select (IntOp.cmpi .slt b 0#32) (IntOp.addi b 32#32) b

/-- The table's row for an index, held inside the table. -/
def row (b : BitVec 32) : Fin 32 := ⟨min b.toInt.toNat 31, by omega⟩

/-- The bias of head `h` at a distance. -/
def biasAt (T : FVec Ideal AttnIdeal.S32x24 .f32) (h : Fin 8) (d : BitVec 32) : EReal := T (ix2 (row (wrap (bucket d))) ⟨16 + h.val, by omega⟩)

section

variable (A : FVec Ideal AttnIdeal.S8x16x128x1536 .bf16) (T : FVec Ideal AttnIdeal.S32x24 .f32) (b : Fin 8) (r : Fin 16) (h : Fin 8) (q : Fin 128)

/-- The score of query `q` and key `κ` of residue `r`: minus infinity at a later key. -/
def score (κ : Fin 128) : EReal :=
  (∑ d : Fin 64, A (ix4 b r q ⟨64 * h.val + d.val, by omega⟩) * FloatOps.ofBits (F := Ideal) .bf16 0x3E00#16 * A (ix4 b r κ ⟨512 + (64 * h.val + d.val), by omega⟩))
    + if κ.val ≤ q.val then biasAt T h (BitVec.ofNat 32 (q.val - κ.val)) else FloatOps.ofBits (F := Ideal) .f32 0xFF800000#32

/-- The largest score of a query. -/
def peak : EReal := AttnIdeal.Val.top (score A T b r h q)

/-- The exponential of a score. -/
def weight (κ : Fin 128) : EReal := Ideal.exp (score A T b r h q κ - peak A T b r h q)

/-- The sum of a query's exponentials. -/
def total : EReal := ∑ κ, weight A T b r h q κ

/-- The output of head `h` at a query, in lane `d`. -/
def outAt (d : Fin 64) : EReal :=
  Ideal.div (∑ κ : Fin 128, weight A T b r h q κ * A (ix4 b r κ ⟨1024 + (64 * h.val + d.val), by omega⟩)) (total A T b r h q)

/-- The log-sum-exp of head `h` at a query. -/
def lseAt : EReal := peak A T b r h q + Ideal.log (total A T b r h q)

end

theorem gatherTable (T : FVec Ideal AttnIdeal.S32x24 .f32) (idx : IVec AttnIdeal.S129x1 32) (n : Fin 129) (e : Fin 24) :
    Host.gather AttnIdeal.gather_S32x24_S129x1_S129x24_1_0_n_n_0_1_124 T idx (ix2 n e) = T (ix2 (row (idx (ix2 n 0))) e) := by
  unfold Host.gather
  congr 1
  funext a
  refine Fin.ext ?_
  rcases (show a = 0 ∨ a = 1 from match a with | ⟨0, _⟩ => Or.inl rfl | ⟨1, _⟩ => Or.inr rfl) with rfl | rfl
  · show GatherDims.start AttnIdeal.gather_S32x24_S129x1_S129x24_1_0_n_n_0_1_124 (ix2 n e) idx 0 + GatherDims.batchCoord AttnIdeal.gather_S32x24_S129x1_S129x24_1_0_n_n_0_1_124 (ix2 n e) 0 + GatherDims.offCoord AttnIdeal.gather_S32x24_S129x1_S129x24_1_0_n_n_0_1_124 (ix2 n e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap AttnIdeal.gather_S32x24_S129x1_S129x24_1_0_n_n_0_1_124 from List.mem_singleton.mpr rfl)]
    have hsi : GatherDims.siIdx AttnIdeal.gather_S32x24_S129x1_S129x24_1_0_n_n_0_1_124 (ix2 n e) ⟨List.idxOf (0 : Fin 2) (GatherDims.startIndexMap AttnIdeal.gather_S32x24_S129x1_S129x24_1_0_n_n_0_1_124),
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  · show GatherDims.start AttnIdeal.gather_S32x24_S129x1_S129x24_1_0_n_n_0_1_124 (ix2 n e) idx 1 + GatherDims.batchCoord AttnIdeal.gather_S32x24_S129x1_S129x24_1_0_n_n_0_1_124 (ix2 n e) 1 + GatherDims.offCoord AttnIdeal.gather_S32x24_S129x1_S129x24_1_0_n_n_0_1_124 (ix2 n e) 1 = _
    rw [GatherDims.batchCoord_eq_zero _ _ _ List.not_mem_nil]
    unfold GatherDims.start GatherDims.offCoord
    rw [dif_neg (show ¬ (1 : Fin 2) ∈ GatherDims.startIndexMap AttnIdeal.gather_S32x24_S129x1_S129x24_1_0_n_n_0_1_124 from fun h => absurd (List.mem_singleton.mp h) (by decide)),
      dif_pos ((GatherDims.mem_sKept _ _).mpr ⟨fun h => absurd (List.mem_singleton.mp h) (by decide), List.not_mem_nil⟩)]
    simp only [Nat.zero_add]
    rfl

theorem gatherPair (T : FVec Ideal AttnIdeal.S32x24 .f32) (idx : IVec AttnRefIdeal.S128x128x1 32) (q κ : Fin 128) (e : Fin 24) :
    Host.gather AttnRefIdeal.gather_S32x24_S128x128x1_S128x128x24_2_0_n_n_0_2_124 T idx (ix3 q κ e) = T (ix2 (row (idx (ix3 q κ 0))) e) := by
  unfold Host.gather
  congr 1
  funext a
  refine Fin.ext ?_
  rcases (show a = 0 ∨ a = 1 from match a with | ⟨0, _⟩ => Or.inl rfl | ⟨1, _⟩ => Or.inr rfl) with rfl | rfl
  · show GatherDims.start AttnRefIdeal.gather_S32x24_S128x128x1_S128x128x24_2_0_n_n_0_2_124 (ix3 q κ e) idx 0 + GatherDims.batchCoord AttnRefIdeal.gather_S32x24_S128x128x1_S128x128x24_2_0_n_n_0_2_124 (ix3 q κ e) 0 + GatherDims.offCoord AttnRefIdeal.gather_S32x24_S128x128x1_S128x128x24_2_0_n_n_0_2_124 (ix3 q κ e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap AttnRefIdeal.gather_S32x24_S128x128x1_S128x128x24_2_0_n_n_0_2_124 from List.mem_singleton.mpr rfl)]
    have hsi : GatherDims.siIdx AttnRefIdeal.gather_S32x24_S128x128x1_S128x128x24_2_0_n_n_0_2_124 (ix3 q κ e) ⟨List.idxOf (0 : Fin 2) (GatherDims.startIndexMap AttnRefIdeal.gather_S32x24_S128x128x1_S128x128x24_2_0_n_n_0_2_124),
        List.idxOf_lt_length_iff.2 (List.mem_singleton.mpr rfl)⟩ = ix3 q κ 0 := by
      funext b; refine Fin.ext ?_
      match b with
      | ⟨0, _⟩ => rfl
      | ⟨1, _⟩ => rfl
      | ⟨2, _⟩ => rfl
    rw [hsi]
    rfl
  · show GatherDims.start AttnRefIdeal.gather_S32x24_S128x128x1_S128x128x24_2_0_n_n_0_2_124 (ix3 q κ e) idx 1 + GatherDims.batchCoord AttnRefIdeal.gather_S32x24_S128x128x1_S128x128x24_2_0_n_n_0_2_124 (ix3 q κ e) 1 + GatherDims.offCoord AttnRefIdeal.gather_S32x24_S128x128x1_S128x128x24_2_0_n_n_0_2_124 (ix3 q κ e) 1 = _
    rw [GatherDims.batchCoord_eq_zero _ _ _ List.not_mem_nil]
    unfold GatherDims.start GatherDims.offCoord
    rw [dif_neg (show ¬ (1 : Fin 2) ∈ GatherDims.startIndexMap AttnRefIdeal.gather_S32x24_S128x128x1_S128x128x24_2_0_n_n_0_2_124 from fun h => absurd (List.mem_singleton.mp h) (by decide)),
      dif_pos ((GatherDims.mem_sKept _ _).mpr ⟨fun h => absurd (List.mem_singleton.mp h) (by decide), List.not_mem_nil⟩)]
    simp only [Nat.zero_add]
    rfl

end Cert.Attn

end
-- ==== Proof.AttnMask.lean ====
/- The kernel's table of which positions a query sees, against the comparison of the two positions. -/
module

public import proofs.«01_k».proof.AttnIdeal

@[expose] public section

set_option maxRecDepth 16384

noncomputable section

namespace Cert.Attn

open Idealize.ShloMosaic

theorem sub_eq (q κ : Fin 128) (h : κ.val ≤ q.val) : IntOp.subi (BitVec.ofNat 32 q.val) (BitVec.ofNat 32 κ.val) = BitVec.ofNat 32 (q.val - κ.val) := by
  revert h; revert q κ; decide +kernel

theorem sge_eq (q κ : Fin 128) : IntOp.cmpi .sge (IntOp.subi (BitVec.ofNat 32 q.val) (BitVec.ofNat 32 κ.val)) 0#32 = if κ.val ≤ q.val then 1#1 else 0#1 := by
  revert q κ; decide +kernel

theorem lit0_eq (q κ : Fin 128) : AttnIdeal.lit0 ⟨256 * q.val + (128 + κ.val), by omega⟩ = if κ.val ≤ q.val then 1#1 else 0#1 := by
  revert q κ; decide +kernel

end Cert.Attn

end
-- ==== Proof.AttnHost.lean ====
/- The arrays the attention kernel is called with: the projection with its rows joined, and the group's bias table. -/
module

public import proofs.«01_k».proof.Proof.AttnTable
public import proofs.«01_k».proof.Proof.AttnMask
public import proofs.«01_k».proof.Proof.Gen.AttnIdeal.Value
public import Idealize.ShloMosaic.Lib.StableHlo.RunRead

@[expose] public section

set_option maxRecDepth 16384

noncomputable section

namespace Cert.AttnIdeal.Val

open Idealize.ShloMosaic Idealize.ShloMosaic.TcCoe Idealize.SL.Sem Cert.AttnIdeal Cert.AttnIdeal.Gen Cert.Attn

section Stages

variable (σ : Valuation τ sig (Elt Ideal))

theorem after_split (l l' : List (HloOp τ sig (Elt Ideal))) (σ : Valuation τ sig (Elt Ideal)) :
    StableHlo.after (l ++ l') σ = StableHlo.after l' (StableHlo.after l σ) := by
  induction l generalizing σ with
  | nil => rfl
  | cons op l ih => exact ih _

/-- The table passed to the kernel: the group's part of the three tables, outside the mask minus infinity. -/
def masked (M : IVec S128x256 1) (B : FVec Ideal S3x8x128x256 .f32) (z : FVec Ideal S_ .f32) : FVec Ideal S8x128x256 .f32 :=
  shapeCast S8x128x256 (extractStridedSlice S1x8x128x256 ![2, 0, 0, 0]
    (select (broadcastInDim S3x8x128x256 ![2, 3] bcast_S128x256_S3x8x128x256_2_3 M) B (broadcastInDim S3x8x128x256 ![] bcast_S_S3x8x128x256 z))
    slices_S3x8x128x256_S1x8x128x256_2_0_0_0) shapeCasts_S1x8x128x256_S8x128x256

set_option maxHeartbeats 4000000 in
theorem last : StableHlo.after (hostOps0_13 ++ hostOps0_14) σ (Proc.devRef .tc main_v121)
    = masked (σ (Proc.devRef .tc main_c)) (σ (Proc.devRef .tc main_v118)) (σ (Proc.devRef .tc main_cst_38)) := by
  simp only [List.cons_append, List.nil_append, hostOps0_13, hostOps0_14]
  after_results
  rfl

/-- The group's table of biases before the mask: the distances' rows reversed, padded, and laid out one diagonal per query. -/
def spread (b : IVec S129 32) (T : FVec Ideal S32x24 .f32) : FVec Ideal S8x128x256 .f32 :=
  shapeCast S8x128x256 (extractStridedSlice S8x32768 ![0, 0] (shapeCast S8x32896 (broadcastInDim S1x8x128x257 ![0, 1, 2, 3] bcast_S1x8x1x257_S1x8x128x257_0_1_2_3
    (shapeCast S1x8x1x257 (concatenate S8x257 1 [⟨S8x129, Host.reverse [1] (transpose S8x129 [1, 0] (extractStridedSlice S129x8 ![0, 16]
      (Host.gather gather_S32x24_S129x1_S129x24_1_0_n_n_0_1_124 T (broadcastInDim S129x1 ![0] bcast_S129_S129x1_0
        (select (cmpi .slt b (broadcastInDim S129 ![] bcast_S_S129 (constantI S_ 32 0#32))) (addi b (broadcastInDim S129 ![] bcast_S_S129 (constantI S_ 32 32#32))) b)))
      slices_S129x24_S129x8_0_16) transposes_S129x8_S8x129_1_0)⟩,
      ⟨S8x128, broadcastInDim S8x128 ![] bcast_S_S8x128 (constant (F := Ideal) S_ .f32 0x00000000#32)⟩] concatenates_S8x129_S8x128_S8x257_d1) shapeCasts_S8x257_S1x8x1x257))
    shapeCasts_S1x8x128x257_S8x32896) slices_S8x32896_S8x32768_0_0) shapeCasts_S8x32768_S8x128x256

set_option maxHeartbeats 4000000 in
theorem third : StableHlo.after (hostOps0_12.take 23) σ (Proc.devRef .tc main_v117)
    = broadcastInDim S1x8x128x256 ![1, 2, 3] bcast_S8x128x256_S1x8x128x256_1_2_3 (spread (σ (Proc.devRef .tc main_v97)) (σ (Proc.devRef .tc main_arg1))) := by
  simp only [List.take, hostOps0_12]
  after_results
  rfl

theorem three (u v w : FVec Ideal S1x8x128x256 .f32) (h : Fin 8) (q : Fin 128) (j : Fin 256) :
    concatenate S3x8x128x256 0 [⟨S1x8x128x256, u⟩, ⟨S1x8x128x256, v⟩, ⟨S1x8x128x256, w⟩] concatenates_S1x8x128x256_S1x8x128x256_S1x8x128x256_S3x8x128x256_d0 (ix4 2 h q j)
      = w (ix4 0 h q j) := by
  pointwise []

set_option maxHeartbeats 4000000 in
theorem stack (h : Fin 8) (q : Fin 128) (j : Fin 256) : StableHlo.after hostOps0_12 σ (Proc.devRef .tc main_v118) (ix4 2 h q j)
    = spread (σ (Proc.devRef .tc main_v97)) (σ (Proc.devRef .tc main_arg1)) (ix3 h q j) := by
  rw [StableHlo.after_last_write (i := 23) [main_cst_38] rfl rfl (by decide) σ]
  rw [StableHlo.nary_result']
  refine (three _ _ _ h q j).trans ?_
  refine (congrFun (third σ) _).trans ?_
  pointwise []

/-- The distances in steps of the dilation, held between the two bounds. -/
def steps (lo hi : IVec S_ 32) (d : IVec S129 32) : IVec S129 32 :=
  muli (minsi (broadcastInDim S129 ![] bcast_S_S129 (id hi)) (maxsi (broadcastInDim S129 ![] bcast_S_S129 (id lo)) d))
    (broadcastInDim S129 ![] bcast_S_S129 (constantI S_ 32 16#32))

/-- The buckets of the distances. -/
def bucketed (n : IVec S129 32) : IVec S129 32 :=
  select (cmpi .slt n (broadcastInDim S129 ![] bcast_S_S129 (constantI S_ 32 16#32))) n
    (minsi (addi (broadcastInDim S129 ![] bcast_S_S129 (constantI S_ 32 16#32)) (fptosi 32 (mulf (Host.divf (Host.log (Host.divf
      (sitofp (F := Ideal) .f32 (maxsi n (broadcastInDim S129 ![] bcast_S_S129 (constantI S_ 32 1#32))))
      (broadcastInDim S129 ![] bcast_S_S129 (constant S_ .f32 0x41800000#32))))
      (broadcastInDim S129 ![] bcast_S_S129 (constant S_ .f32 0x409B43D5#32)))
      (broadcastInDim S129 ![] bcast_S_S129 (constant S_ .f32 0x41800000#32)))))
      (broadcastInDim S129 ![] bcast_S_S129 (constantI S_ 32 31#32)))

set_option maxHeartbeats 4000000 in
theorem buckets : StableHlo.after (hostOps0_9 ++ hostOps0_10 ++ hostOps0_11) σ (Proc.devRef .tc main_v97)
    = bucketed (steps (σ (Proc.devRef .tc main_c_25)) (σ (Proc.devRef .tc main_c_26)) (σ (Proc.devRef .tc main_v0))) := by
  simp only [List.cons_append, List.nil_append, hostOps0_9, hostOps0_10, hostOps0_11]
  after_results
  rfl

theorem bucketed_apply (n : Fin 129) : bucketed (steps (constantI S_ 32 0#32) (constantI S_ 32 128#32) (iotaInDim S129 32 0)) (ix1 n)
    = bucket (BitVec.ofNat 32 n.val) := by
  rfl

/-- An entry of the table: at query `q` and key `κ` of the same block, the bias at their distance. -/
theorem spread_apply (b : IVec S129 32) (T : FVec Ideal S32x24 .f32) (h : Fin 8) (q κ : Fin 128) (e : κ.val ≤ q.val) :
    spread b T (ix3 h q ⟨128 + κ.val, by omega⟩) = T (ix2 (row (wrap (b (ix1 ⟨q.val - κ.val, by omega⟩)))) ⟨16 + h.val, by omega⟩) := by
  unfold spread
  pointwise [gatherTable]
  have hd : (q.val * 256 + (128 + κ.val)) % 257 = 128 + κ.val - q.val := by omega
  rw [dif_pos (by omega)]
  have hi : (ix1 (if (1 : Fin 2) ∈ [(1 : Fin 2)] then Fin.rev (⟨(q.val * 256 + (128 + κ.val)) % 257, by omega⟩ : Fin 129) else ⟨(q.val * 256 + (128 + κ.val)) % 257, by omega⟩) : S129.Idx)
      = ix1 ⟨q.val - κ.val, by omega⟩ := by
    rw [if_pos (by decide)]
    refine congrArg ix1 (Fin.ext ?_)
    simp only [Fin.val_rev]
    omega
  exact congrArg (fun i : S129.Idx => T (ix2 (row (wrap (b i))) ⟨16 + h.val, by omega⟩)) hi

theorem masked_apply (M : IVec S128x256 1) (B : FVec Ideal S3x8x128x256 .f32) (z : FVec Ideal S_ .f32) (h : Fin 8) (q : Fin 128) (j : Fin 256) :
    masked M B z (ix3 h q j) = Scalar.select (M (ix2 q j)) (B (ix4 2 h q j)) (z ix0) := by
  unfold masked
  pointwise []

/-- The operations before the group's own buckets. -/
abbrev before : List (HloOp τ sig (Elt Ideal)) :=
  hostOps0 ++ hostOps0_1 ++ hostOps0_2 ++ hostOps0_3 ++ hostOps0_4 ++ hostOps0_5 ++ hostOps0_6 ++ hostOps0_7 ++ hostOps0_8

set_option maxHeartbeats 4000000 in
theorem before_mask : StableHlo.after before σ (Proc.devRef .tc main_c) = fun i => lit0 (S128x256.rowMajor i) := by
  simp only [List.cons_append, List.nil_append, before, hostOps0, hostOps0_1, hostOps0_2, hostOps0_3, hostOps0_4, hostOps0_5, hostOps0_6, hostOps0_7, hostOps0_8]
  after_results
  rfl

set_option maxHeartbeats 4000000 in
theorem before_lo : StableHlo.after before σ (Proc.devRef .tc main_c_25) = constantI S_ 32 0#32 := by
  simp only [List.cons_append, List.nil_append, before, hostOps0, hostOps0_1, hostOps0_2, hostOps0_3, hostOps0_4, hostOps0_5, hostOps0_6, hostOps0_7, hostOps0_8]
  after_results

set_option maxHeartbeats 4000000 in
theorem before_hi : StableHlo.after before σ (Proc.devRef .tc main_c_26) = constantI S_ 32 128#32 := by
  simp only [List.cons_append, List.nil_append, before, hostOps0, hostOps0_1, hostOps0_2, hostOps0_3, hostOps0_4, hostOps0_5, hostOps0_6, hostOps0_7, hostOps0_8]
  after_results

set_option maxHeartbeats 4000000 in
theorem before_count : StableHlo.after before σ (Proc.devRef .tc main_v0) = iotaInDim S129 32 0 := by
  simp only [List.cons_append, List.nil_append, before, hostOps0, hostOps0_1, hostOps0_2, hostOps0_3, hostOps0_4, hostOps0_5, hostOps0_6, hostOps0_7, hostOps0_8]
  after_results

set_option maxHeartbeats 4000000 in
theorem before_table : StableHlo.after before σ (Proc.devRef .tc main_arg1) = σ (Proc.devRef .tc main_arg1) := by
  simp only [List.cons_append, List.nil_append, before, hostOps0, hostOps0_1, hostOps0_2, hostOps0_3, hostOps0_4, hostOps0_5, hostOps0_6, hostOps0_7, hostOps0_8]
  after_results

set_option maxHeartbeats 4000000 in
theorem buckets_table : StableHlo.after (hostOps0_9 ++ hostOps0_10 ++ hostOps0_11) σ (Proc.devRef .tc main_arg1) = σ (Proc.devRef .tc main_arg1) := by
  simp only [List.cons_append, List.nil_append, hostOps0_9, hostOps0_10, hostOps0_11]
  after_results

set_option maxHeartbeats 4000000 in
theorem buckets_mask : StableHlo.after (hostOps0_9 ++ hostOps0_10 ++ hostOps0_11) σ (Proc.devRef .tc main_c) = σ (Proc.devRef .tc main_c) := by
  simp only [List.cons_append, List.nil_append, hostOps0_9, hostOps0_10, hostOps0_11]
  after_results

set_option maxHeartbeats 4000000 in
theorem stack_mask : StableHlo.after hostOps0_12 σ (Proc.devRef .tc main_c) = σ (Proc.devRef .tc main_c) := by
  after_results

set_option maxHeartbeats 4000000 in
theorem stack_floor : StableHlo.after hostOps0_12 σ (Proc.devRef .tc main_cst_38) = constant (F := Ideal) S_ .f32 0xFF800000#32 := by
  after_results

theorem mask_apply (q κ : Fin 128) : lit0 (S128x256.rowMajor (ix2 q ⟨128 + κ.val, by omega⟩)) = if κ.val ≤ q.val then 1#1 else 0#1 :=
  (congrArg lit0 (Fin.ext ((Shape.rowMajor_val_two _).trans (by show q.val * 256 + (128 + κ.val) = 256 * q.val + (128 + κ.val); omega)))).trans (lit0_eq q κ)

end Stages

variable (m : (ℓ : Loc nD τ sig) → Buf (Elt Ideal) ℓ) (c : Dev nD)

set_option maxHeartbeats 4000000 in
theorem V_flat : V m c main_v122 = shapeCast S8x2048x1536 (m ((c : Thread nD τ).loc main_arg0)) shapeCasts_S8x16x128x1536_S8x2048x1536 := by
  show StableHlo.after _ (fun b => m (c, b)) (Proc.devRef .tc main_v122) = _
  simp only [List.flatten, List.append_nil, List.cons_append, List.nil_append, List.append_eq, hostOps0, hostOps0_1, hostOps0_2, hostOps0_3, hostOps0_4, hostOps0_5, hostOps0_6, hostOps0_7, hostOps0_8, hostOps0_9, hostOps0_10, hostOps0_11, hostOps0_12, hostOps0_13, hostOps0_14]
  after_results
  rfl

/-- The bias the kernel adds for a key in the query's own block: minus infinity at a later key. -/
theorem V_bias (h : Fin 8) (q κ : Fin 128) : (V m c main_v121 : FVec Ideal S8x128x256 .f32) (ix3 h q ⟨128 + κ.val, by omega⟩)
    = if κ.val ≤ q.val then biasAt (m ((c : Thread nD τ).loc main_arg1)) h (BitVec.ofNat 32 (q.val - κ.val)) else FloatOps.ofBits (F := Ideal) .f32 0xFF800000#32 := by
  show StableHlo.after (before ++ (hostOps0_9 ++ hostOps0_10 ++ hostOps0_11) ++ hostOps0_12 ++ (hostOps0_13 ++ hostOps0_14)) (fun b => m (c, b)) (Proc.devRef .tc main_v121) _ = _
  rw [after_split]
  refine (congrFun (last _) _).trans ?_
  rw [after_split _ hostOps0_12, after_split before]
  rw [masked_apply, stack_mask, stack_floor, buckets_mask, before_mask, stack, buckets, buckets_table, before_table, before_lo, before_hi, before_count]
  beta_reduce
  rw [mask_apply]
  split
  · next e => rw [spread_apply _ _ _ _ _ e, bucketed_apply]; rfl
  · rfl

end Cert.AttnIdeal.Val

end
-- ==== Proof.AttnValue.lean ====
/- The attention kernel leaves, in its two result arrays, the outputs and the log-sum-exps of every batch and token. -/
module

public import proofs.«01_k».proof.Proof.AttnHost

@[expose] public section

set_option maxRecDepth 16384

noncomputable section

namespace Cert.AttnIdeal.Val

open Idealize.ShloMosaic Idealize.ShloMosaic.TcCoe Idealize.SL.Sem Cert.AttnIdeal Cert.AttnIdeal.Gen Cert.Attn

section
variable (A : FVec Ideal S8x16x128x1536 .bf16) (T : FVec Ideal S32x24 .f32)

/-- The outputs over the whole arrays. -/
def resultO : FVec Ideal S8x2048x512 .bf16 := fun y =>
  have h1 : (y 1).val < 2048 := (y 1).2
  have h2 : (y 2).val < 512 := (y 2).2
  outAt A T (y 0) ⟨(y 1).val / 128, by omega⟩ ⟨(y 2).val / 64, by omega⟩ ⟨(y 1).val % 128, by omega⟩ ⟨(y 2).val % 64, by omega⟩

/-- The log-sum-exps over the whole arrays, a lane per head and the other lanes zero. -/
def resultL : FVec Ideal S8x2048x128 .f32 := fun y =>
  have h1 : (y 1).val < 2048 := (y 1).2
  if hn : (y 2).val < 8 then lseAt A T (y 0) ⟨(y 1).val / 128, by omega⟩ ⟨(y 2).val, hn⟩ ⟨(y 1).val % 128, by omega⟩ else (0 : EReal)

end

/-- The batch of grid point `t`. -/
def batch (t : Fin cfg0.N) : Fin 8 := ⟨t.val, by have h := t.isLt; have e : cfg0.N = 8 := N_0; omega⟩

theorem at0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem at2 : ∀ t : Fin cfg0.N, win0_2.index t 0 = t.val ∧ win0_2.index t 1 = 0 ∧ win0_2.index t 2 = 1 :=
  (by decide +kernel : ∀ t : Fin grid0.N, win0_2.index t 0 = t.val ∧ win0_2.index t 1 = 0 ∧ win0_2.index t 2 = 1)
theorem at4 : ∀ t : Fin cfg0.N, win0_4.index t 0 = t.val ∧ win0_4.index t 1 = 0 ∧ win0_4.index t 2 = 2 :=
  (by decide +kernel : ∀ t : Fin grid0.N, win0_4.index t 0 = t.val ∧ win0_4.index t 1 = 0 ∧ win0_4.index t 2 = 2)
theorem at5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
theorem at6 : ∀ t : Fin cfg0.N, win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0)
theorem at7 : ∀ t : Fin cfg0.N, win0_7.index t 0 = t.val ∧ win0_7.index t 1 = 0 ∧ win0_7.index t 2 = 0 :=
  (by decide +kernel : ∀ t : Fin grid0.N, win0_7.index t 0 = t.val ∧ win0_7.index t 1 = 0 ∧ win0_7.index t 2 = 0)

variable (m : (ℓ : Loc nD τ sig) → Buf (Elt Ideal) ℓ) (ρ : Dev nD → PrngReg) (c : Dev nD) (t : Fin cfg0.N)

/-- The projection and the table the kernel was called with. -/
abbrev argA : FVec Ideal S8x16x128x1536 .bf16 := m ((c : Thread nD τ).loc main_arg0)
abbrev argT : FVec Ideal S32x24 .f32 := m ((c : Thread nD τ).loc main_arg1)

theorem flat_apply (b : Fin 8) (r : Fin 2048) (n : Fin 1536) :
    (V m c main_v122 : FVec Ideal S8x2048x1536 .bf16) (ix3 b r n) = argA m c (ix4 b ⟨r.val / 128, by omega⟩ ⟨r.val % 128, by omega⟩ n) := by
  rw [V_flat]
  show shapeCast S8x2048x1536 (argA m c) shapeCasts_S8x16x128x1536_S8x2048x1536 (ix3 b r n) = _
  pointwise []

theorem blk0 (r : Fin 2048) (k : Fin 512) : iblk m c 0 t (ix3 0 r k) = argA m c (ix4 (batch t) ⟨r.val / 128, by omega⟩ ⟨r.val % 128, by omega⟩ ⟨k.val, by omega⟩) := by
  refine Eq.trans ?_ (flat_apply m c (batch t) r ⟨k.val, by omega⟩)
  show V m c main_v122 _ = _
  refine congrArg _ (funext fun a => Fin.ext ?_)
  match a with
  | ⟨0, _⟩ => show win0_0.index t 0 * 1 + 1 * 0 = t.val; rw [(at0 t).1]; omega
  | ⟨1, _⟩ => show win0_0.index t 1 * 2048 + 1 * r.val = r.val; rw [(at0 t).2.1]; omega
  | ⟨2, _⟩ => show win0_0.index t 2 * 512 + 1 * k.val = k.val; rw [(at0 t).2.2]; omega

theorem blk2 (r : Fin 2048) (k : Fin 512) : iblk m c 2 t (ix3 0 r k) = argA m c (ix4 (batch t) ⟨r.val / 128, by omega⟩ ⟨r.val % 128, by omega⟩ ⟨512 + k.val, by omega⟩) := by
  refine Eq.trans ?_ (flat_apply m c (batch t) r ⟨512 + k.val, by omega⟩)
  show V m c main_v122 _ = _
  refine congrArg _ (funext fun a => Fin.ext ?_)
  match a with
  | ⟨0, _⟩ => show win0_2.index t 0 * 1 + 1 * 0 = t.val; rw [(at2 t).1]; omega
  | ⟨1, _⟩ => show win0_2.index t 1 * 2048 + 1 * r.val = r.val; rw [(at2 t).2.1]; omega
  | ⟨2, _⟩ => show win0_2.index t 2 * 512 + 1 * k.val = 512 + k.val; rw [(at2 t).2.2]; omega

theorem blk4 (r : Fin 2048) (k : Fin 512) : iblk m c 4 t (ix3 0 r k) = argA m c (ix4 (batch t) ⟨r.val / 128, by omega⟩ ⟨r.val % 128, by omega⟩ ⟨1024 + k.val, by omega⟩) := by
  refine Eq.trans ?_ (flat_apply m c (batch t) r ⟨1024 + k.val, by omega⟩)
  show V m c main_v122 _ = _
  refine congrArg _ (funext fun a => Fin.ext ?_)
  match a with
  | ⟨0, _⟩ => show win0_4.index t 0 * 1 + 1 * 0 = t.val; rw [(at4 t).1]; omega
  | ⟨1, _⟩ => show win0_4.index t 1 * 2048 + 1 * r.val = r.val; rw [(at4 t).2.1]; omega
  | ⟨2, _⟩ => show win0_4.index t 2 * 512 + 1 * k.val = 1024 + k.val; rw [(at4 t).2.2]; omega

theorem blk5 (h : Fin 8) (q κ : Fin 128) : iblk m c 5 t (ix3 h q ⟨128 + κ.val, by omega⟩)
    = if κ.val ≤ q.val then biasAt (argT m c) h (BitVec.ofNat 32 (q.val - κ.val)) else FloatOps.ofBits (F := Ideal) .f32 0xFF800000#32 := by
  refine Eq.trans ?_ (V_bias m c h q κ)
  show V m c main_v121 _ = _
  refine congrArg _ (funext fun a => Fin.ext ?_)
  match a with
  | ⟨0, _⟩ => show win0_5.index t 0 * 8 + 1 * h.val = h.val; rw [(at5 t).1]; omega
  | ⟨1, _⟩ => show win0_5.index t 1 * 128 + 1 * q.val = q.val; rw [(at5 t).2.1]; omega
  | ⟨2, _⟩ => show win0_5.index t 2 * 256 + 1 * (128 + κ.val) = 128 + κ.val; rw [(at5 t).2.2]; omega

/-- A block's scores are those of its tokens. -/
theorem score_eq (h : Fin 8) (r : Fin 2048) (κ : Fin 128) : bScore (iblk m c 0 t) (iblk m c 2 t) (iblk m c 5 t) h r κ
    = Attn.score (argA m c) (argT m c) (batch t) ⟨r.val / 128, by omega⟩ h ⟨r.val % 128, by omega⟩ κ := by
  unfold bScore Attn.score
  refine congrArg₂ (fun u v : EReal => u + v) (Finset.sum_congr rfl fun d _ => ?_) (blk5 m c t h ⟨r.val % 128, by omega⟩ κ)
  rw [blk0, blk2]
  refine congrArg (fun u : EReal => _ * FloatOps.ofBits (F := Ideal) .bf16 0x3E00#16 * u) (congrArg₂ (fun p s => argA m c (ix4 (batch t) p s _)) (Fin.ext ?_) (Fin.ext ?_))
  · dsimp only; omega
  · dsimp only; omega

theorem peak_eq (h : Fin 8) (r : Fin 2048) : bMax (iblk m c 0 t) (iblk m c 2 t) (iblk m c 5 t) h r
    = peak (argA m c) (argT m c) (batch t) ⟨r.val / 128, by omega⟩ h ⟨r.val % 128, by omega⟩ :=
  congrArg top (funext fun κ => score_eq m c t h r κ)

theorem weight_eq (h : Fin 8) (r : Fin 2048) (κ : Fin 128) : bExp (iblk m c 0 t) (iblk m c 2 t) (iblk m c 5 t) h r κ
    = weight (argA m c) (argT m c) (batch t) ⟨r.val / 128, by omega⟩ h ⟨r.val % 128, by omega⟩ κ := by
  unfold bExp weight
  rw [score_eq, peak_eq]

theorem total_eq (h : Fin 8) (r : Fin 2048) : bDen (iblk m c 0 t) (iblk m c 2 t) (iblk m c 5 t) h r
    = total (argA m c) (argT m c) (batch t) ⟨r.val / 128, by omega⟩ h ⟨r.val % 128, by omega⟩ :=
  Finset.sum_congr rfl fun κ _ => weight_eq m c t h r κ

/-- The two results over device `c`'s argument arrays. -/
abbrev finalO : Buf (Elt Ideal) ((c : Thread nD τ).loc main_v123_0) := resultO (argA m c) (argT m c)
abbrev finalL : Buf (Elt Ideal) ((c : Thread nD τ).loc main_v123_1) := resultL (argA m c) (argT m c)

theorem emb6 (r : Fin 2048) (n : Fin 512) : ((cfg0.win 6).blk t).view.emb (ix3 0 r n) = (ix3 (batch t) r n : S8x2048x512.Idx) := by
  refine funext fun a => Fin.ext ?_
  match a with
  | ⟨0, _⟩ => show win0_6.index t 0 * 1 + 1 * 0 = t.val; rw [(at6 t).1]; omega
  | ⟨1, _⟩ => show win0_6.index t 1 * 2048 + 1 * r.val = r.val; rw [(at6 t).2.1]; omega
  | ⟨2, _⟩ => show win0_6.index t 2 * 512 + 1 * n.val = n.val; rw [(at6 t).2.2]; omega

theorem emb7 (r : Fin 2048) (n : Fin 128) : ((cfg0.win 7).blk t).view.emb (ix3 0 r n) = (ix3 (batch t) r n : S8x2048x128.Idx) := by
  refine funext fun a => Fin.ext ?_
  match a with
  | ⟨0, _⟩ => show win0_7.index t 0 * 1 + 1 * 0 = t.val; rw [(at7 t).1]; omega
  | ⟨1, _⟩ => show win0_7.index t 1 * 2048 + 1 * r.val = r.val; rw [(at7 t).2.1]; omega
  | ⟨2, _⟩ => show win0_7.index t 2 * 128 + 1 * n.val = n.val; rw [(at7 t).2.2]; omega

/-- Grid point `t` writes back its batch's outputs. -/
theorem flushedO : (dats m 0 c).flushed 6 t = ((cfg0.win 6).blk t).view.read (Elt Ideal) (finalO m c) := by
  rw [Value.flushed6]
  funext y
  obtain ⟨z, r, n, rfl⟩ : ∃ (z : Fin 1) (r : Fin 2048) (n : Fin 512), (ix3 z r n : S1x2048x512.Idx) = y := ⟨y 0, y 1, y 2, (eq_ix3 y).symm⟩
  obtain rfl : z = 0 := Subsingleton.elim _ _
  refine (congrFun (out0_6_eq _ _ _ _ _ _) (ix3 0 r n)).trans ?_
  show blockO _ _ _ _ (ix3 0 r n) = finalO m c (((cfg0.win 6).blk t).view.emb (ix3 0 r n))
  rw [emb6]
  show Ideal.div (∑ κ : Fin 128, bExp _ _ _ ⟨n.val / 64, by omega⟩ r κ * _) (bDen _ _ _ ⟨n.val / 64, by omega⟩ r)
    = Ideal.div (∑ κ : Fin 128, weight _ _ _ _ _ _ κ * argA m c (ix4 (batch t) ⟨r.val / 128, by omega⟩ κ ⟨1024 + (64 * (n.val / 64) + n.val % 64), by omega⟩)) (total _ _ _ _ _ _)
  rw [total_eq]
  refine congrArg (fun u => Ideal.div u _) (Finset.sum_congr rfl fun κ _ => ?_)
  rw [weight_eq, blk4]
  refine congrArg (fun u : EReal => _ * u) (congrArg (argA m c) (funext fun a => Fin.ext ?_))
  match a with
  | ⟨0, _⟩ => rfl
  | ⟨1, _⟩ => show (128 * (r.val / 128) + κ.val) / 128 = r.val / 128; omega
  | ⟨2, _⟩ => show (128 * (r.val / 128) + κ.val) % 128 = κ.val; omega
  | ⟨3, _⟩ => show 1024 + n.val = 1024 + (64 * (n.val / 64) + n.val % 64); omega

/-- Grid point `t` writes back its batch's log-sum-exps. -/
theorem flushedL : (dats m 0 c).flushed 7 t = ((cfg0.win 7).blk t).view.read (Elt Ideal) (finalL m c) := by
  rw [Value.flushed7]
  funext y
  obtain ⟨z, r, n, rfl⟩ : ∃ (z : Fin 1) (r : Fin 2048) (n : Fin 128), (ix3 z r n : S1x2048x128.Idx) = y := ⟨y 0, y 1, y 2, (eq_ix3 y).symm⟩
  obtain rfl : z = 0 := Subsingleton.elim _ _
  refine (congrFun (out0_7_eq _ _ _ _ _ _) (ix3 0 r n)).trans ?_
  show blockL _ _ _ (ix3 0 r n) = finalL m c (((cfg0.win 7).blk t).view.emb (ix3 0 r n))
  rw [emb7]
  show (if h : n.val < 8 then bMax _ _ _ ⟨n.val, h⟩ r + Ideal.log (bDen _ _ _ ⟨n.val, h⟩ r) else 0 + Ideal.log 1)
    = if h : n.val < 8 then lseAt _ _ (batch t) ⟨r.val / 128, by omega⟩ ⟨n.val, h⟩ ⟨r.val % 128, by omega⟩ else (0 : EReal)
  split
  · rw [peak_eq, total_eq]; rfl
  · rw [zero_add]
    show (if (1 : ℝ) ≤ 0 then ⊥ else ((Real.log 1 : ℝ) : EReal)) = 0
    rw [if_neg (by norm_num), Real.log_one]; rfl

theorem coverO (y : S8x2048x512.Idx) : ∃ t : Fin cfg0.N, (cfg0.win 6).flush t = true ∧ y ∈ ((cfg0.win 6).blk t).view.set := by
  have hN : cfg0.N = 8 := N_0
  have h0 : (y 0).val < 8 := (y 0).isLt
  refine ⟨⟨(y 0).val, by omega⟩, flush0_6 _, Finset.mem_map.mpr ⟨_, Finset.mem_univ _, (emb6 ⟨(y 0).val, by omega⟩ (y 1) (y 2)).trans ?_⟩⟩
  exact (eq_ix3 y).symm

theorem coverL (y : S8x2048x128.Idx) : ∃ t : Fin cfg0.N, (cfg0.win 7).flush t = true ∧ y ∈ ((cfg0.win 7).blk t).view.set := by
  have hN : cfg0.N = 8 := N_0
  have h0 : (y 0).val < 8 := (y 0).isLt
  refine ⟨⟨(y 0).val, by omega⟩, flush0_7 _, Finset.mem_map.mpr ⟨_, Finset.mem_univ _, (emb7 ⟨(y 0).val, by omega⟩ (y 1) (y 2)).trans ?_⟩⟩
  exact (eq_ix3 y).symm

/-- The kernel's two result arrays after the run. -/
theorem finalO_eq : (dats m 0 c).arrAt 6 cfg0.N = finalO m c := (dats m 0 c).arrAt_eq_of_cover 6 (finalO m c) (fun t _ => flushedO m c t) coverO
theorem finalL_eq : (dats m 0 c).arrAt 7 cfg0.N = finalL m c := (dats m 0 c).arrAt_eq_of_cover 7 (finalL m c) (fun t _ => flushedL m c t) coverL

end Cert.AttnIdeal.Val

end
-- ==== Proof.AttnRef.lean ====
/- The attention's reference, read at an entry. -/
module

public import proofs.«01_k».proof.Proof.AttnTable
public import proofs.«01_k».proof.Proof.AttnMask
public import proofs.«01_k».proof.Proof.Gen.AttnRefIdeal.Read

@[expose] public section

set_option maxRecDepth 16384

noncomputable section

namespace Cert.AttnRefIdeal.Val

open Idealize.ShloMosaic Idealize.ShloMosaic.TcCoe Idealize.SL.Sem Cert.AttnRefIdeal Cert.AttnRefIdeal.Read Cert.Attn

variable (A : FVec Ideal S8x16x128x1536 .bf16) (T : FVec Ideal S32x24 .f32) (b : Fin 8) (r : Fin 16) (h : Fin 8) (q κ : Fin 128) (d : Fin 64)

theorem query : val_main_v3 (F := Ideal) A (ix5 b r q h d) = A (ix4 b r q ⟨64 * h.val + d.val, by omega⟩) := by
  unfold val_main_v3 val_main_v2 val_main_v1 val_main_v0
  pointwise []
  exact congrArg (fun z => A (ix4 b r q z)) (Fin.ext (by dsimp only; omega))

theorem key : val_main_v5 (F := Ideal) A (ix5 b r q h d) = A (ix4 b r q ⟨512 + (64 * h.val + d.val), by omega⟩) := by
  unfold val_main_v5 val_main_v4 val_main_v1 val_main_v0
  pointwise []
  exact congrArg (fun z => A (ix4 b r q z)) (Fin.ext (by dsimp only; omega))

theorem value : val_main_v7 (F := Ideal) A (ix5 b r q h d) = A (ix4 b r q ⟨1024 + (64 * h.val + d.val), by omega⟩) := by
  unfold val_main_v7 val_main_v6 val_main_v1 val_main_v0
  pointwise []
  exact congrArg (fun z => A (ix4 b r q z)) (Fin.ext (by dsimp only; omega))

theorem gap : val_main_v14 (F := Ideal) (ix2 q κ) = IntOp.subi (BitVec.ofNat 32 q.val) (BitVec.ofNat 32 κ.val) := rfl

theorem bucketed : val_main_v35 (F := Ideal) (ix2 q κ) = bucket (IntOp.subi (BitVec.ofNat 32 q.val) (BitVec.ofNat 32 κ.val)) := by
  rfl

theorem wrapped : val_main_v41 (F := Ideal) (ix3 q κ 0) = wrap (bucket (IntOp.subi (BitVec.ofNat 32 q.val) (BitVec.ofNat 32 κ.val))) := by
  rfl

theorem bias : val_main_v49 (F := Ideal) T (ix5 b r h q κ) = biasAt T h (IntOp.subi (BitVec.ofNat 32 q.val) (BitVec.ofNat 32 κ.val)) := by
  rw [val_main_v49_apply, val_main_v48_apply, val_main_v44_apply, val_main_v43_apply]
  have e : idx_main_v43 (idx_main_v44 (idx_main_v48 (idx_main_v49 (ix5 b r h q κ)))) = ix3 q κ (⟨16 + h.val, by omega⟩ : Fin 24) := by
    refine funext fun a => Fin.ext ?_
    match a with
    | ⟨0, _⟩ => rfl
    | ⟨1, _⟩ => rfl
    | ⟨2, _⟩ => rfl
  rw [e]
  unfold val_main_v42
  rw [gatherPair, wrapped]
  rfl

theorem eighth : FloatOps.ofBits (F := Ideal) .f32 0x3E000000#32 = FloatOps.ofBits (F := Ideal) .bf16 0x3E00#16 := by
  show Ideal.ofBits .f32 0x3E000000#32 = Ideal.ofBits .bf16 0x3E00#16
  simp only [Ideal.ofBits, Ideal.ieee]
  simp
  rw [← EReal.coe_mul, ← EReal.coe_mul]
  norm_num

theorem floor_eq : FloatOps.ofBits (F := Ideal) .f32 0xFF800000#32 = (⊥ : EReal) := by
  show Ideal.ofBits .f32 0xFF800000#32 = ⊥
  simp [Ideal.ofBits, Ideal.ieee]

theorem scores : val_main_v53 (F := Ideal) A T (ix5 b r h q κ) = score A T b r h q κ := by
  rw [val_main_v53_apply, val_main_call2_v1_apply, val_main_v50_apply, bias]
  have hs : val_main_v52 (F := Ideal) (idx_main_call2_v1 (ix5 b r h q κ)) = if κ.val ≤ q.val then 1#1 else 0#1 := sge_eq q κ
  rw [hs]
  have hd : val_main_v47 (F := Ideal) A (ix5 b r h q κ)
      = ∑ d : Fin 64, A (ix4 b r q ⟨64 * h.val + d.val, by omega⟩) * FloatOps.ofBits (F := Ideal) .bf16 0x3E00#16 * A (ix4 b r κ ⟨512 + (64 * h.val + d.val), by omega⟩) := by
    rw [val_main_v47_apply]
    refine Finset.sum_congr rfl fun d _ => ?_
    refine congrArg₂ (fun u v : EReal => u * v) ?_ (key A b r h κ d)
    rw [val_main_v46_apply]
    exact congrArg₂ (fun u v : EReal => u * v) (query A b r h q d) eighth
  rw [hd]
  unfold score
  split
  · next e => rw [sub_eq q κ e]; rfl
  · rw [floor_eq, EReal.add_bot]
    exact floor_eq

theorem peaks : val_main_v54 (F := Ideal) A T (ix4 b r h q) = peak A T b r h q := by
  unfold val_main_v54
  pointwise [scores]
  rfl

theorem weights : val_main_v58 (F := Ideal) A T (ix5 b r h q κ) = weight A T b r h q κ := by
  have e : idx_main_v55 (idx_main_v56 (ix5 b r h q κ)) = ix4 b r h q := by
    refine funext fun a => Fin.ext ?_
    match a with
    | ⟨0, _⟩ => rfl
    | ⟨1, _⟩ => rfl
    | ⟨2, _⟩ => rfl
    | ⟨3, _⟩ => rfl
  rw [val_main_v58_apply, val_main_v57_apply, val_main_v56_apply, val_main_v55_apply, scores, e]
  exact congrArg (fun u : EReal => Ideal.exp (score A T b r h q κ - u)) (peaks A T b r h q)

theorem totals : val_main_v60 (F := Ideal) A T (ix5 b r h q 0) = total A T b r h q := by
  have e (κ : Fin 128) : idx_main_v59 (idx_main_v60 (ix5 b r h q 0)) κ = ix5 b r h q κ := by
    refine funext fun a => Fin.ext ?_
    match a with
    | ⟨0, _⟩ => rfl
    | ⟨1, _⟩ => rfl
    | ⟨2, _⟩ => rfl
    | ⟨3, _⟩ => rfl
    | ⟨4, _⟩ => rfl
  have z : (val_main_cst_14 (F := Ideal)) (Shape.Idx.first Gen.h_S_) = (0 : EReal) := by
    show Ideal.ofBits .f32 0x00000000#32 = 0
    simp [Ideal.ofBits, Ideal.ieee]
  rw [val_main_v60_apply, val_main_v59_apply, z, zero_add]
  unfold total
  refine Finset.sum_congr rfl fun κ _ => ?_
  rw [e]
  exact weights A T b r h q κ

theorem outs : val_main_v63 (F := Ideal) A T (ix5 b r h q d) = outAt A T b r h q d := by
  have e : idx_main_v62 (ix5 b r h q d) = ix5 b r h q 0 := by
    refine funext fun a => Fin.ext ?_
    match a with
    | ⟨0, _⟩ => rfl
    | ⟨1, _⟩ => rfl
    | ⟨2, _⟩ => rfl
    | ⟨3, _⟩ => rfl
    | ⟨4, _⟩ => rfl
  have el (κ : Fin 128) : lidx_main_v61 (ix5 b r h q d) κ = ix5 b r h q κ := by
    refine funext fun a => Fin.ext ?_
    match a with
    | ⟨0, _⟩ => rfl
    | ⟨1, _⟩ => rfl
    | ⟨2, _⟩ => rfl
    | ⟨3, _⟩ => rfl
    | ⟨4, _⟩ => rfl
  have er (κ : Fin 128) : ridx_main_v61 (ix5 b r h q d) κ = ix5 b r κ h d := by
    refine funext fun a => Fin.ext ?_
    match a with
    | ⟨0, _⟩ => rfl
    | ⟨1, _⟩ => rfl
    | ⟨2, _⟩ => rfl
    | ⟨3, _⟩ => rfl
    | ⟨4, _⟩ => rfl
  have hn : val_main_v61 (F := Ideal) A T (ix5 b r h q d) = ∑ κ : Fin 128, weight A T b r h q κ * A (ix4 b r κ ⟨1024 + (64 * h.val + d.val), by omega⟩) := by
    rw [val_main_v61_apply]
    refine Finset.sum_congr rfl fun κ _ => ?_
    rw [el, er, weights, value]
  rw [val_main_v63_apply, val_main_v62_apply, e, totals, hn]
  rfl

theorem lses : val_main_v66 (F := Ideal) A T (ix5 b r h q 0) = lseAt A T b r h q := by
  have e : idx_main_v55 (ix5 b r h q 0) = ix4 b r h q := by
    refine funext fun a => Fin.ext ?_
    match a with
    | ⟨0, _⟩ => rfl
    | ⟨1, _⟩ => rfl
    | ⟨2, _⟩ => rfl
    | ⟨3, _⟩ => rfl
  rw [val_main_v66_apply, val_main_v55_apply, val_main_v65_apply, totals, e, peaks]
  rfl

/-- The reference's outputs, flat. -/
theorem v72_apply (t : Fin 2048) (n : Fin 512) : val_main_v72 (F := Ideal) A T (ix3 b t n)
    = outAt A T b ⟨t.val / 128, by omega⟩ ⟨n.val / 64, by omega⟩ ⟨t.val % 128, by omega⟩ ⟨n.val % 64, by omega⟩ := by
  rw [val_main_v72_apply, val_main_v71_apply, val_main_v64_apply]
  refine (congrArg (val_main_v63 (F := Ideal) A T) (funext fun a => Fin.ext ?_)).trans (outs A T b ⟨t.val / 128, by omega⟩ ⟨n.val / 64, by omega⟩ ⟨t.val % 128, by omega⟩ ⟨n.val % 64, by omega⟩)
  match a with
  | ⟨0, _⟩ => show ((b.val * 2048 + t.val) * 512 + n.val) / 1048576 = b.val; omega
  | ⟨1, _⟩ => show ((b.val * 2048 + t.val) * 512 + n.val) / 65536 % 16 = t.val / 128; omega
  | ⟨2, _⟩ => show ((b.val * 2048 + t.val) * 512 + n.val) / 64 % 8 = n.val / 64; omega
  | ⟨3, _⟩ => show ((b.val * 2048 + t.val) * 512 + n.val) / 512 % 128 = t.val % 128; omega
  | ⟨4, _⟩ => show ((b.val * 2048 + t.val) * 512 + n.val) % 64 = n.val % 64; omega

theorem v69_apply (t : Fin 2048) : val_main_v69 (F := Ideal) A T (ix3 b t h)
    = lseAt A T b ⟨t.val / 128, by omega⟩ h ⟨t.val % 128, by omega⟩ := by
  have e69 : idx_main_v69 (ix3 b t h) = ix4 b (⟨t.val / 128, by omega⟩ : Fin 16) (⟨t.val % 128, by omega⟩ : Fin 128) h := by
    refine funext fun a => Fin.ext ?_
    match a with
    | ⟨0, _⟩ => show ((b.val * 2048 + t.val) * 8 + h.val) / 16384 = b.val; omega
    | ⟨1, _⟩ => show ((b.val * 2048 + t.val) * 8 + h.val) / 1024 % 16 = t.val / 128; omega
    | ⟨2, _⟩ => show ((b.val * 2048 + t.val) * 8 + h.val) / 8 % 128 = t.val % 128; omega
    | ⟨3, _⟩ => show ((b.val * 2048 + t.val) * 8 + h.val) % 8 = h.val; omega
  have e68 (r : Fin 16) (q : Fin 128) : idx_main_v68 (ix4 b r q h) = ix4 b r h q := by
    refine funext fun a => Fin.ext ?_
    match a with
    | ⟨0, _⟩ => rfl
    | ⟨1, _⟩ => rfl
    | ⟨2, _⟩ => rfl
    | ⟨3, _⟩ => rfl
  have e67 (r : Fin 16) (q : Fin 128) : idx_main_v67 (ix4 b r h q) = ix5 b r h q 0 := by
    refine funext fun a => Fin.ext ?_
    match a with
    | ⟨0, _⟩ => show (((b.val * 16 + r.val) * 8 + h.val) * 128 + q.val) / 16384 = b.val; omega
    | ⟨1, _⟩ => show (((b.val * 16 + r.val) * 8 + h.val) * 128 + q.val) / 1024 % 16 = r.val; omega
    | ⟨2, _⟩ => show (((b.val * 16 + r.val) * 8 + h.val) * 128 + q.val) / 128 % 8 = h.val; omega
    | ⟨3, _⟩ => show (((b.val * 16 + r.val) * 8 + h.val) * 128 + q.val) / 1 % 128 = q.val; omega
    | ⟨4, _⟩ => rfl
  rw [val_main_v69_apply, e69, val_main_v68_apply, e68, val_main_v67_apply, e67, lses]

/-- The reference's log-sum-exps, a lane per head and the other lanes zero. -/
theorem v70_apply (t : Fin 2048) (n : Fin 128) : val_main_v70 (F := Ideal) A T (ix3 b t n)
    = if hn : n.val < 8 then lseAt A T b ⟨t.val / 128, by omega⟩ ⟨n.val, hn⟩ ⟨t.val % 128, by omega⟩ else 0 := by
  unfold val_main_v70
  pointwise [v69_apply]
  split
  · rfl
  · show FloatOps.sitofp (F := Ideal) .f32 0#32 = (0 : EReal)
    simp [FloatOps.sitofp]

end Cert.AttnRefIdeal.Val

end
-- ==== Proof.AttnClaim.lean ====
/- The attention's value claim: the kernel and its reference leave the same outputs and log-sum-exps. -/
module

public import proofs.«01_k».proof.Defs
public import proofs.«01_k».proof.Proof.Gen.Attn
public import proofs.«01_k».proof.Proof.Gen.AttnRefIdeal.Run
public import proofs.«01_k».proof.Proof.AttnValue
public import proofs.«01_k».proof.Proof.AttnRef

@[expose] public section

set_option maxRecDepth 16384

noncomputable section

namespace Cert.AttnIdeal.Val

open Idealize.ShloMosaic Idealize.ShloMosaic.TcCoe Idealize.SL.Sem

/-- The reference's results are the attention over the whole arrays, whichever equal arrays it reads. -/
theorem referenceO {x0 y0 : FVec Ideal S8x16x128x1536 .bf16} {x1 y1 : FVec Ideal S32x24 .f32}
    (e0 : x0 = y0) (e1 : x1 = y1) : AttnRefIdeal.Read.val_main_v72 (F := Ideal) x0 x1 = resultO y0 y1 := by
  subst e0 e1
  funext y
  obtain ⟨b, r, n, rfl⟩ : ∃ (b : Fin 8) (r : Fin 2048) (n : Fin 512), (ix3 b r n : S8x2048x512.Idx) = y := ⟨y 0, y 1, y 2, (eq_ix3 y).symm⟩
  exact AttnRefIdeal.Val.v72_apply x0 x1 b r n

theorem referenceL {x0 y0 : FVec Ideal S8x16x128x1536 .bf16} {x1 y1 : FVec Ideal S32x24 .f32}
    (e0 : x0 = y0) (e1 : x1 = y1) : AttnRefIdeal.Read.val_main_v70 (F := Ideal) x0 x1 = resultL y0 y1 := by
  subst e0 e1
  funext y
  obtain ⟨b, r, n, rfl⟩ : ∃ (b : Fin 8) (r : Fin 2048) (n : Fin 128), (ix3 b r n : S8x2048x128.Idx) = y := ⟨y 0, y 1, y 2, (eq_ix3 y).symm⟩
  exact AttnRefIdeal.Val.v70_apply x0 x1 b r n

/-- From arguments that agree, the kernel and the reference both end with the attention, their arguments unchanged. -/
theorem claim : algebraic_AttnIdeal_AttnRefIdeal := by
  intro m g m' g' _ e
  refine ⟨fun c => finalO m c, fun c => finalL m c,
    (θ_run _ _ _).mono (fun r h c => ⟨((h c).1).trans (finalO_eq m c), ((h c).2.1).trans (finalL_eq m c), (h c).2.2⟩) (Value.run_blocks m g),
    (θ_run _ _ _).mono (fun r h c => ⟨?_, ?_, (h c).2.2⟩) (AttnRefIdeal.Value.run m' g')⟩
  · obtain ⟨e0, e1⟩ := e c
    rw [(h c).1]
    exact (AttnRefIdeal.Read.val_main_v72_eq _ _).trans (referenceO e0 e1)
  · obtain ⟨e0, e1⟩ := e c
    rw [(h c).2.1]
    exact (AttnRefIdeal.Read.val_main_v70_eq _ _).trans (referenceL e0 e1)

end Cert.AttnIdeal.Val

end
-- ==== Proof.MidUnit.lean ====
/- One block of 128 queries and one pair of heads against two blocks of keys, the one before and the block's own: what
   the kernel's vector operations hold, index by index; and sums and maxima over a residue of 512 keys by blocks. -/
module

public import proofs.«01_k».proof.Proof.AttnUnit

@[expose] public section

set_option maxRecDepth 16384

noncomputable section

namespace Cert.AttnIdeal.Val

open Idealize.ShloMosaic Cert.AttnIdeal Cert.AttnIdeal.Gen
open scoped BigOperators

/-! ### Sums and maxima over 512 keys -/

/-- The largest of 512 numbers. -/
def wide (f : Fin 512 → EReal) : EReal := Finset.univ.fold max (FloatOps.ofBits (F := Ideal) .f32 0xFF800000#32) f

theorem bottom_eq : FloatOps.ofBits (F := Ideal) .f32 0xFF800000#32 = (⊥ : EReal) := by
  show Ideal.ofBits .f32 0xFF800000#32 = ⊥
  simp [Ideal.ofBits, Ideal.ieee]

theorem top_le (f : Fin 128 → EReal) (c : EReal) : top f ≤ c ↔ ∀ κ, f κ ≤ c := by
  unfold top
  rw [Finset.fold_max_le, bottom_eq]
  simp

theorem wide_le (f : Fin 512 → EReal) (c : EReal) : wide f ≤ c ↔ ∀ κ, f κ ≤ c := by
  unfold wide
  rw [Finset.fold_max_le, bottom_eq]
  simp

/-- A sum over 512 keys, by blocks of 128. -/
theorem sum_blocks (f : Fin 512 → EReal) : (∑ i, f i) = ∑ B : Fin 4, ∑ κ : Fin 128, f ⟨128 * B.val + κ.val, by omega⟩ := by
  rw [← Equiv.sum_comp (finProdFinEquiv (m := 4) (n := 128)) f, Fintype.sum_prod_type]
  refine Finset.sum_congr rfl fun B _ => Finset.sum_congr rfl fun κ _ => congrArg f (Fin.ext ?_)
  simp [finProdFinEquiv]
  omega

/-- A sum whose terms vanish outside one block. -/
theorem sum_one (f : Fin 512 → EReal) (B : Fin 4) (h : ∀ κ : Fin 512, κ.val / 128 ≠ B.val → f κ = 0) :
    (∑ i, f i) = ∑ κ : Fin 128, f ⟨128 * B.val + κ.val, by omega⟩ := by
  rw [sum_blocks]
  refine Finset.sum_eq_single B (fun B' _ ne => Finset.sum_eq_zero fun κ _ => h _ fun e => ne (Fin.ext ?_)) (fun n => absurd (Finset.mem_univ _) n)
  dsimp only at e
  omega

/-- A sum whose terms vanish outside two blocks. -/
theorem sum_pair (f : Fin 512 → EReal) (P B : Fin 4) (hPB : P ≠ B) (h : ∀ κ : Fin 512, κ.val / 128 ≠ P.val → κ.val / 128 ≠ B.val → f κ = 0) :
    (∑ i, f i) = (∑ κ : Fin 128, f ⟨128 * P.val + κ.val, by omega⟩) + ∑ κ : Fin 128, f ⟨128 * B.val + κ.val, by omega⟩ := by
  rw [sum_blocks]
  refine Finset.sum_eq_add P B hPB (fun B' _ ne => Finset.sum_eq_zero fun κ _ => h _ (fun e => ne.1 (Fin.ext ?_)) fun e => ne.2 (Fin.ext ?_))
    (fun n => absurd (Finset.mem_univ _) n) (fun n => absurd (Finset.mem_univ _) n)
  · dsimp only at e
    omega
  · dsimp only at e
    omega

/-- The largest of 512 numbers that are bottom outside one block. -/
theorem wide_one (f : Fin 512 → EReal) (B : Fin 4) (h : ∀ κ : Fin 512, κ.val / 128 ≠ B.val → f κ = ⊥) :
    wide f = top (fun κ : Fin 128 => f ⟨128 * B.val + κ.val, by omega⟩) := by
  refine eq_of_forall_ge_iff fun c => ?_
  rw [wide_le, top_le]
  refine ⟨fun g κ => g _, fun g κ => ?_⟩
  by_cases e : κ.val / 128 = B.val
  · have hk : κ = ⟨128 * B.val + κ.val % 128, by omega⟩ := Fin.ext (by dsimp only; omega)
    rw [hk]
    exact g ⟨κ.val % 128, by omega⟩
  · rw [h κ e]
    exact bot_le

theorem wide_pair (f : Fin 512 → EReal) (P B : Fin 4) (h : ∀ κ : Fin 512, κ.val / 128 ≠ P.val → κ.val / 128 ≠ B.val → f κ = ⊥) :
    wide f = max (top (fun κ : Fin 128 => f ⟨128 * P.val + κ.val, by omega⟩)) (top (fun κ : Fin 128 => f ⟨128 * B.val + κ.val, by omega⟩)) := by
  refine eq_of_forall_ge_iff fun c => ?_
  rw [wide_le, max_le_iff, top_le, top_le]
  refine ⟨fun g => ⟨fun κ => g _, fun κ => g _⟩, fun g κ => ?_⟩
  by_cases e : κ.val / 128 = P.val
  · have hk : κ = ⟨128 * P.val + κ.val % 128, by omega⟩ := Fin.ext (by dsimp only; omega)
    rw [hk]
    exact g.1 ⟨κ.val % 128, by omega⟩
  · by_cases e' : κ.val / 128 = B.val
    · have hk : κ = ⟨128 * B.val + κ.val % 128, by omega⟩ := Fin.ext (by dsimp only; omega)
      rw [hk]
      exact g.2 ⟨κ.val % 128, by omega⟩
    · rw [h κ e e']
      exact bot_le

/-! ### Two blocks of keys -/

/-- The row maxima of one head's scores over two blocks of keys. -/
def pairMax (o : ℕ) (hs : S128x256.Slices ![0, o] S128x128) (sp s : FVec Ideal S128x256 .f32) : FVec Ideal S128x1 .f32 :=
  maximumf (rowMax o hs sp) (rowMax o hs s)

/-- The weighted values in the lower lanes, the weights' sums in the upper, of one block of keys. -/
def product (o : ℕ) (hs : S128x512.Slices ![0, o] S128x128) (v : Vec Ideal S1x128x512 .bf16) (e : FVec Ideal S128x256 .bf16) : FVec Ideal S128x256 .f32 :=
  matmul dot_S128x256_S256x256_S128x256_1_0_0_1_n_n none e
    (concatenate S256x256 1
      [⟨S256x128, select own (concatenate S256x128 0
        [⟨S128x128, extractStridedSlice S128x128 ![0, o] (shapeCast S128x512 v shapeCasts_S1x128x512_S128x512) hs⟩,
          ⟨S128x128, extractStridedSlice S128x128 ![0, o] (shapeCast S128x512 v shapeCasts_S1x128x512_S128x512) hs⟩]
        concatenates_S128x128_S128x128_S256x128_d0) zeros⟩, ⟨S256x128, ones⟩]
      concatenates_S256x128_S256x128_S256x256_d1) (constant S128x256 .f32 0x00000000#32)

/-- The sums of a block of queries over two blocks of keys. -/
def both (o : ℕ) (hs : S128x512.Slices ![0, o] S128x128) (q kp k vp v : Vec Ideal S1x128x512 .bf16) (p0 p1 b0 b1 : Vec Ideal S1x128x128 .f32) : FVec Ideal S128x256 .f32 :=
  addf (sums o hs vp (weights (score o hs q kp p0 p1) (pairMax 0 slices_S128x256_o0_0_S128x128 (score o hs q kp p0 p1) (score o hs q k b0 b1))
      (pairMax 128 slices_S128x256_o0_128_S128x128 (score o hs q kp p0 p1) (score o hs q k b0 b1))))
    (product o hs v (weights (score o hs q k b0 b1) (pairMax 0 slices_S128x256_o0_0_S128x128 (score o hs q kp p0 p1) (score o hs q k b0 b1))
      (pairMax 128 slices_S128x256_o0_128_S128x128 (score o hs q kp p0 p1) (score o hs q k b0 b1))))

variable {o : ℕ} (ho : o ≤ 384) {hs : S128x512.Slices ![0, o] S128x128} (q kp k vp v : Vec Ideal S1x128x512 .bf16) (p0 p1 b0 b1 : Vec Ideal S1x128x128 .f32)

theorem product_eq (e : FVec Ideal S128x256 .bf16) (i : S128x256.Idx) : product o hs v e i = sums o hs v e i := by
  have h : sums o hs v e i = FloatOps.ofBits (F := Ideal) .f32 0x00000000#32 + product o hs v e i := rfl
  have z : FloatOps.ofBits (F := Ideal) .f32 0x00000000#32 = (0 : EReal) := by
    show Ideal.ofBits .f32 0x00000000#32 = 0
    simp [Ideal.ofBits, Ideal.ieee]
  rw [h, z, zero_add]

/-- A head's largest score of a row over both blocks. -/
def mx2 (o : ℕ) (ho : o ≤ 384) (q kp k : Vec Ideal S1x128x512 .bf16) (p b : Vec Ideal S1x128x128 .f32) (g : Fin 2) (r : Fin 128) : EReal :=
  max (mx o ho q kp p g r) (mx o ho q k b g r)

theorem pairMax0 (r : Fin 128) : pairMax 0 slices_S128x256_o0_0_S128x128 (score o hs q kp p0 p1) (score o hs q k b0 b1) (ix2 r 0) = mx2 o ho q kp k p0 b0 0 r :=
  congrArg₂ (fun u w : EReal => max u w) (max0_apply ho q kp p0 p1 r) (max0_apply ho q k b0 b1 r)

theorem pairMax1 (r : Fin 128) : pairMax 128 slices_S128x256_o0_128_S128x128 (score o hs q kp p0 p1) (score o hs q k b0 b1) (ix2 r 0) = mx2 o ho q kp k p1 b1 1 r :=
  congrArg₂ (fun u w : EReal => max u w) (max1_apply ho q kp p0 p1 r) (max1_apply ho q k b0 b1 r)

/-- The weights of the pair of heads side by side, below any maxima. -/
theorem weights_pair (m0 m1 : FVec Ideal S128x1 .f32) (r : Fin 128) (g : Fin 2) (κ : Fin 128) (j : Fin 256) (hj : j.val = 128 * g.val + κ.val) :
    weights (score o hs q k b0 b1) m0 m1 (ix2 r j)
      = Ideal.exp (sc o ho q k (if g.val = 0 then b0 else b1) g r κ - (if g.val = 0 then m0 else m1) (ix2 r 0)) := by
  rw [weights_apply, score_apply ho]
  match g with
  | ⟨0, _⟩ =>
    have h : j.val < 128 := by dsimp only at hj; omega
    have h' : (⟨j.val, h⟩ : Fin 128) = κ := Fin.ext (by dsimp only at hj ⊢; omega)
    rw [if_pos h, dif_pos h, h']
    rfl
  | ⟨1, _⟩ =>
    have h : ¬ j.val < 128 := by dsimp only at hj; omega
    have h' : (⟨j.val - 128, by omega⟩ : Fin 128) = κ := Fin.ext (by dsimp only at hj ⊢; omega)
    rw [if_neg h, dif_neg h, h']
    rfl

theorem pairMax_eq (g : Fin 2) (r : Fin 128) :
    (if g.val = 0 then pairMax 0 slices_S128x256_o0_0_S128x128 (score o hs q kp p0 p1) (score o hs q k b0 b1)
      else pairMax 128 slices_S128x256_o0_128_S128x128 (score o hs q kp p0 p1) (score o hs q k b0 b1)) (ix2 r 0)
      = mx2 o ho q kp k (if g.val = 0 then p0 else p1) (if g.val = 0 then b0 else b1) g r := by
  match g with
  | ⟨0, _⟩ => exact pairMax0 ho q kp k p0 p1 b0 b1 r
  | ⟨1, _⟩ => exact pairMax1 ho q kp k p0 p1 b0 b1 r

/-- The lower lanes: weights times values, over both blocks. -/
theorem both_low (r : Fin 128) (g : Fin 2) (d : Fin 64) (j : Fin 256) (hj : j.val = 64 * g.val + d.val) :
    both o hs q kp k vp v p0 p1 b0 b1 (ix2 r j)
      = (∑ κ : Fin 128, Ideal.exp (sc o ho q kp (if g.val = 0 then p0 else p1) g r κ - mx2 o ho q kp k (if g.val = 0 then p0 else p1) (if g.val = 0 then b0 else b1) g r)
          * vp (ix3 0 κ ⟨o + (64 * g.val + d.val), by omega⟩))
        + ∑ κ : Fin 128, Ideal.exp (sc o ho q k (if g.val = 0 then b0 else b1) g r κ - mx2 o ho q kp k (if g.val = 0 then p0 else p1) (if g.val = 0 then b0 else b1) g r)
          * v (ix3 0 κ ⟨o + (64 * g.val + d.val), by omega⟩) := by
  have hl : (⟨o + j.val, by omega⟩ : Fin 512) = ⟨o + (64 * g.val + d.val), by omega⟩ := Fin.ext (by dsimp only; omega)
  refine congrArg₂ (fun u w : EReal => u + w) ?_ ((product_eq v _ _).trans ?_)
  all_goals
    rw [sums_apply ho, dif_pos (by omega), hl]
    refine Finset.sum_congr rfl fun κ _ => ?_
    rw [weights_pair ho _ _ _ _ _ _ r g κ _ (by dsimp only; omega), pairMax_eq ho]

/-- The upper lanes: the weights' sums, over both blocks. -/
theorem both_high (r : Fin 128) (g : Fin 2) (d : Fin 64) (j : Fin 256) (hj : j.val = 128 + (64 * g.val + d.val)) :
    both o hs q kp k vp v p0 p1 b0 b1 (ix2 r j)
      = (∑ κ : Fin 128, Ideal.exp (sc o ho q kp (if g.val = 0 then p0 else p1) g r κ - mx2 o ho q kp k (if g.val = 0 then p0 else p1) (if g.val = 0 then b0 else b1) g r))
        + ∑ κ : Fin 128, Ideal.exp (sc o ho q k (if g.val = 0 then b0 else b1) g r κ - mx2 o ho q kp k (if g.val = 0 then p0 else p1) (if g.val = 0 then b0 else b1) g r) := by
  refine congrArg₂ (fun u w : EReal => u + w) ?_ ((product_eq v _ _).trans ?_)
  all_goals
    rw [sums_apply ho, dif_neg (by omega)]
    refine Finset.sum_congr rfl fun κ _ => ?_
    rw [weights_pair ho _ _ _ _ _ _ r g κ _ (by dsimp only; omega), pairMax_eq ho]

end Cert.AttnIdeal.Val

end
-- ==== Proof.MidBlock.lean ====
/- The blocks that the attention of the middle head group leaves for one sequence, index by index. -/
module

public import proofs.«01_k».proof.Proof.MidUnit
public import proofs.«01_k».proof.Proof.Gen.AttnMidIdeal.Frame
public import Idealize.ShloMosaic.Lib.Pipeline.ReadBack
import all proofs.«01_k».proof.Proof.Gen.AttnMidIdeal.Frame

@[expose] public section

set_option maxRecDepth 16384

noncomputable section

namespace Cert.AttnMidIdeal.Val

open Idealize.ShloMosaic Cert.AttnMidIdeal Cert.AttnMidIdeal.Gen
open Cert.AttnIdeal.Val (top wide sc mx mx2 both unit score rowMax pairMax quotient lse quotient_apply lse_apply)
open scoped BigOperators

variable (x0 x2 x4 : Vec Ideal S1x2048x512 .bf16) (x5 : Vec Ideal S8x128x256 .f32)

/-- What is added to head `h`'s score of token `t` against key `κ` of its residue: the table's entry when the key's block
    is the token's or the one before it, minus infinity otherwise. -/
def bPen (h : Fin 8) (t : Fin 2048) (κ : Fin 512) : EReal :=
  if e : 128 * (t.val % 512 / 128) ≤ κ.val + 128 ∧ κ.val < 128 * (t.val % 512 / 128) + 128 then
    x5 (ix3 h ⟨t.val % 128, by omega⟩ ⟨κ.val + 128 - 128 * (t.val % 512 / 128), by omega⟩) else ⊥

/-- Head `h`'s score of token `t` against key `κ` of its residue. -/
def bScore (h : Fin 8) (t : Fin 2048) (κ : Fin 512) : EReal :=
  (∑ d : Fin 64, x0 (ix3 0 t ⟨64 * h.val + d.val, by omega⟩) * FloatOps.ofBits (F := Ideal) .bf16 0x3E00#16
    * x2 (ix3 0 ⟨512 * (t.val / 512) + κ.val, by omega⟩ ⟨64 * h.val + d.val, by omega⟩)) + bPen x5 h t κ

def bMax (h : Fin 8) (t : Fin 2048) : EReal := wide (bScore x0 x2 x5 h t)

def bExp (h : Fin 8) (t : Fin 2048) (κ : Fin 512) : EReal := Ideal.exp (bScore x0 x2 x5 h t κ - bMax x0 x2 x5 h t)

def bDen (h : Fin 8) (t : Fin 2048) : EReal := ∑ κ, bExp x0 x2 x5 h t κ

/-- A token's weighted values. -/
def bNum (t : Fin 2048) (n : Fin 512) : EReal :=
  ∑ κ : Fin 512, bExp x0 x2 x5 ⟨n.val / 64, by omega⟩ t κ * x4 (ix3 0 ⟨512 * (t.val / 512) + κ.val, by omega⟩ n)

/-- The block of outputs. -/
def blockO (y : S1x2048x512.Idx) : EReal :=
  have hc : (y 2).val < 512 := (y 2).2
  have ht : (y 1).val < 2048 := (y 1).2
  Ideal.div (bNum x0 x2 x4 x5 ⟨(y 1).val, ht⟩ ⟨(y 2).val, hc⟩) (bDen x0 x2 x5 ⟨(y 2).val / 64, by omega⟩ ⟨(y 1).val, ht⟩)

/-- The block of log-sum-exps, a lane per head and the other lanes zero. -/
def blockL (y : S1x2048x128.Idx) : EReal :=
  have ht : (y 1).val < 2048 := (y 1).2
  if h : (y 2).val < 8 then bMax x0 x2 x5 ⟨(y 2).val, h⟩ ⟨(y 1).val, ht⟩ + Ideal.log (bDen x0 x2 x5 ⟨(y 2).val, h⟩ ⟨(y 1).val, ht⟩)
    else 0 + Ideal.log 1

/-! ### Keys outside the two blocks -/

theorem bScore_out (h : Fin 8) (t : Fin 2048) (κ : Fin 512) (e : κ.val / 128 ≠ t.val % 512 / 128) (e' : κ.val / 128 + 1 ≠ t.val % 512 / 128) :
    bScore x0 x2 x5 h t κ = ⊥ := by
  unfold bScore bPen
  rw [dif_neg (by omega)]
  exact EReal.add_bot _

theorem bExp_out (h : Fin 8) (t : Fin 2048) (κ : Fin 512) (e : κ.val / 128 ≠ t.val % 512 / 128) (e' : κ.val / 128 + 1 ≠ t.val % 512 / 128) :
    bExp x0 x2 x5 h t κ = 0 := by
  unfold bExp
  rw [bScore_out x0 x2 x5 h t κ e e', EReal.bot_sub]
  rfl

/-! ### Loads -/

/-- The rows of a block. -/
theorem ld_rows (x : Vec Ideal S1x2048x512 .bf16) {ρ : ℕ} (hρ : ρ ≤ 1920) (i1) (r : Fin 128) (c : Fin 512) :
    View.ld x (Rect.unit (s := S1x2048x512) ![0, ρ, 0] S1x128x512.size i1) (ix3 0 r c) = x (ix3 0 ⟨ρ + r.val, by omega⟩ c) := by
  refine congrArg x (funext fun a => Fin.ext ?_)
  match a with
  | ⟨0, _⟩ => rfl
  | ⟨1, _⟩ => show ρ + 1 * r.val = ρ + r.val; omega
  | ⟨2, _⟩ => show 0 + 1 * c.val = c.val; omega

/-- One head's biases of a block against the block before, or itself. -/
theorem ld_bias {h k : ℕ} (hh : h < 8) (hk : k ≤ 128) (i1) (r κ : Fin 128) :
    View.ld x5 (Rect.unit (s := S8x128x256) ![h, 0, k] S1x128x128.size i1) (ix3 0 r κ) = x5 (ix3 ⟨h, hh⟩ r ⟨k + κ.val, by omega⟩) := by
  refine congrArg x5 (funext fun a => Fin.ext ?_)
  match a with
  | ⟨0, _⟩ => rfl
  | ⟨1, _⟩ => show 0 + 1 * r.val = r.val; omega
  | ⟨2, _⟩ => show k + 1 * κ.val = k + κ.val; omega

section

variable {ρ σ k o : ℕ} (hρ : ρ % 128 = 0) (hρ' : ρ ≤ 1920) (hk : k ≤ 128) (hσ : σ + 128 = ρ + k) (hb : σ % 128 = 0) (hw : σ / 512 = ρ / 512)
  {h0 h1 : ℕ} (ho : 64 * h0 = o) (e1 : h1 = h0 + 1) (hh : h1 < 8) (iq ik ib0 ib1)

include hρ hρ' hk hσ hb hw ho e1 hh in
theorem sc_ld (g : Fin 2) (r κ : Fin 128) :
    sc o (by omega) (View.ld x0 (Rect.unit (s := S1x2048x512) ![0, ρ, 0] S1x128x512.size iq)) (View.ld x2 (Rect.unit (s := S1x2048x512) ![0, σ, 0] S1x128x512.size ik))
      (if g.val = 0 then View.ld x5 (Rect.unit (s := S8x128x256) ![h0, 0, k] S1x128x128.size ib0) else View.ld x5 (Rect.unit (s := S8x128x256) ![h1, 0, k] S1x128x128.size ib1)) g r κ
      = bScore x0 x2 x5 ⟨h0 + g.val, by omega⟩ ⟨ρ + r.val, by omega⟩ ⟨128 * (σ % 512 / 128) + κ.val, by omega⟩ := by
  unfold sc bScore
  refine congrArg₂ (· + ·) (Finset.sum_congr rfl fun d _ => ?_) ?_
  · rw [ld_rows x0 hρ', ld_rows x2 (by omega)]
    refine congrArg₂ (fun u v => u * FloatOps.ofBits (F := Ideal) .bf16 0x3E00#16 * v) (congrArg (fun z => x0 (ix3 0 _ z)) (Fin.ext (by dsimp only; omega)))
      (congrArg₂ (fun w z => x2 (ix3 0 w z)) (Fin.ext (by dsimp only; omega)) (Fin.ext (by dsimp only; omega)))
  · subst e1
    unfold bPen
    dsimp only
    rw [dif_pos (by omega)]
    have hr : r = (⟨(ρ + r.val) % 128, by omega⟩ : Fin 128) := Fin.ext (by dsimp only; omega)
    have hc : (⟨k + κ.val, by omega⟩ : Fin 256) = ⟨128 * (σ % 512 / 128) + κ.val + 128 - 128 * ((ρ + r.val) % 512 / 128), by omega⟩ := Fin.ext (by dsimp only; omega)
    match g with
    | ⟨0, _⟩ => exact (ld_bias x5 (by omega) hk ib0 r κ).trans (congrArg₂ (fun w z => x5 (ix3 _ w z)) hr hc)
    | ⟨1, _⟩ => exact (ld_bias x5 (by omega) hk ib1 r κ).trans (congrArg₂ (fun w z => x5 (ix3 _ w z)) hr hc)

include hρ hρ' hk hσ hb hw ho e1 hh in
theorem mx_ld (g : Fin 2) (r : Fin 128) :
    mx o (by omega) (View.ld x0 (Rect.unit (s := S1x2048x512) ![0, ρ, 0] S1x128x512.size iq)) (View.ld x2 (Rect.unit (s := S1x2048x512) ![0, σ, 0] S1x128x512.size ik))
      (if g.val = 0 then View.ld x5 (Rect.unit (s := S8x128x256) ![h0, 0, k] S1x128x128.size ib0) else View.ld x5 (Rect.unit (s := S8x128x256) ![h1, 0, k] S1x128x128.size ib1)) g r
      = top (fun κ : Fin 128 => bScore x0 x2 x5 ⟨h0 + g.val, by omega⟩ ⟨ρ + r.val, by omega⟩ ⟨128 * (σ % 512 / 128) + κ.val, by omega⟩) :=
  congrArg top (funext fun κ => sc_ld x0 x2 x5 hρ hρ' hk hσ hb hw ho e1 hh iq ik ib0 ib1 g r κ)

end

/-! ### A block of queries: from its row maxima and sums to its stores -/

/-- The row maxima are the heads'. -/
def IsMax (ρ : ℕ) (hρ : ρ ≤ 1920) (M : Fin 8 → FVec Ideal S128x1 .f32) : Prop :=
  ∀ (h : Fin 8) (r : Fin 128), M h (ix2 r 0) = bMax x0 x2 x5 h ⟨ρ + r.val, by omega⟩

/-- The sums of one pair of heads are the weighted values and the weights' sums. -/
def IsSums (ρ : ℕ) (hρ : ρ ≤ 1920) (p : Fin 4) (U : FVec Ideal S128x256 .f32) : Prop :=
  (∀ r l : Fin 128, U (ix2 r ⟨l.val, by omega⟩) = bNum x0 x2 x4 x5 ⟨ρ + r.val, by omega⟩ ⟨128 * p.val + l.val, by omega⟩)
    ∧ ∀ (r : Fin 128) (l : Fin 128), U (ix2 r ⟨128 + l.val, by omega⟩) = bDen x0 x2 x5 ⟨2 * p.val + l.val / 64, by omega⟩ ⟨ρ + r.val, by omega⟩

theorem quotient_piece {ρ : ℕ} (hρ : ρ ≤ 1920) (p : Fin 4) (U : FVec Ideal S128x256 .f32) (hU : IsSums x0 x2 x4 x5 ρ hρ p U) (i2) (y : S1x128x128.Idx) :
    quotient U y = blockO x0 x2 x4 x5 (Rect.emb (Rect.unit (s := S1x2048x512) ![0, ρ, 128 * p.val] ![1, 128, 128] i2) y) := by
  obtain ⟨z, r, l, rfl⟩ : ∃ (z : Fin 1) (r l : Fin 128), y = ix3 z r l := ⟨_, _, _, eq_ix3 y⟩
  obtain rfl : z = 0 := Subsingleton.elim _ _
  have hy : (Rect.emb (Rect.unit (s := S1x2048x512) ![0, ρ, 128 * p.val] ![1, 128, 128] i2) (ix3 (0 : Fin 1) r l)) = ix3 (0 : Fin 1) (⟨ρ + r.val, by omega⟩ : Fin 2048) (⟨128 * p.val + l.val, by omega⟩ : Fin 512) := by
    refine funext fun a => Fin.ext ?_
    match a with
    | ⟨0, _⟩ => rfl
    | ⟨1, _⟩ => show ρ + 1 * r.val = ρ + r.val; omega
    | ⟨2, _⟩ => show 128 * p.val + 1 * l.val = 128 * p.val + l.val; omega
  rw [hy]
  refine (quotient_apply (o := 128 * p.val) U r l).trans ?_
  show _ = Ideal.div (bNum x0 x2 x4 x5 ⟨ρ + r.val, by omega⟩ ⟨128 * p.val + l.val, by omega⟩) (bDen x0 x2 x5 ⟨(128 * p.val + l.val) / 64, by omega⟩ ⟨ρ + r.val, by omega⟩)
  have hg : (⟨(128 * p.val + l.val) / 64, by omega⟩ : Fin 8) = ⟨2 * p.val + l.val / 64, by omega⟩ := Fin.ext (by dsimp only; omega)
  rw [hg]
  exact congrArg₂ Ideal.div (hU.1 r l) (hU.2 r l)

theorem lse_both {ρ : ℕ} (hρ : ρ ≤ 1920) (M : Fin 8 → FVec Ideal S128x1 .f32) (U : Fin 4 → FVec Ideal S128x256 .f32) (hM : IsMax x0 x2 x5 ρ hρ M)
    (hU : ∀ p, IsSums x0 x2 x4 x5 ρ hρ p (U p)) (i2) (y : S1x128x128.Idx) :
    lse M U y = blockL x0 x2 x5 (Rect.emb (Rect.unit (s := S1x2048x128) ![0, ρ, 0] ![1, 128, 128] i2) y) := by
  obtain ⟨z, r, l, rfl⟩ : ∃ (z : Fin 1) (r l : Fin 128), y = ix3 z r l := ⟨_, _, _, eq_ix3 y⟩
  obtain rfl : z = 0 := Subsingleton.elim _ _
  have hy : (Rect.emb (Rect.unit (s := S1x2048x128) ![0, ρ, 0] ![1, 128, 128] i2) (ix3 (0 : Fin 1) r l)) = ix3 (0 : Fin 1) (⟨ρ + r.val, by omega⟩ : Fin 2048) l := by
    refine funext fun a => Fin.ext ?_
    match a with
    | ⟨0, _⟩ => rfl
    | ⟨1, _⟩ => show ρ + 1 * r.val = ρ + r.val; omega
    | ⟨2, _⟩ => show 0 + 1 * l.val = l.val; omega
  rw [hy]
  refine (lse_apply M U r l).trans ?_
  show _ = if h : l.val < 8 then bMax x0 x2 x5 ⟨l.val, h⟩ ⟨ρ + r.val, by omega⟩ + Ideal.log (bDen x0 x2 x5 ⟨l.val, h⟩ ⟨ρ + r.val, by omega⟩) else 0 + Ideal.log 1
  by_cases h : l.val < 8
  · rw [dif_pos h, dif_pos h]
    have e2 := (hU ⟨l.val / 2, by omega⟩).2 r ⟨(l.val + 64 * (l.val % 2)) % 128, by omega⟩
    have hm : (l.val + 64 * (l.val % 2)) % 128 = l.val + 64 * (l.val % 2) := Nat.mod_eq_of_lt (by omega)
    have hl : (⟨2 * (l.val / 2) + (l.val + 64 * (l.val % 2)) % 128 / 64, by omega⟩ : Fin 8) = ⟨l.val, h⟩ := Fin.ext (by dsimp only; omega)
    exact congrArg₂ (fun u v => u + Ideal.log v) (hM ⟨l.val, h⟩ r) (e2.trans (congrArg (fun z => bDen x0 x2 x5 z _) hl))
  · rw [dif_neg h, dif_neg h]

/-! ### A residue's first block: its own keys alone -/

section

variable {ρ o : ℕ} (hρ : ρ % 512 = 0) (hρ' : ρ ≤ 1920) {h0 h1 : ℕ} (ho : 64 * h0 = o) (e1 : h1 = h0 + 1) (hh : h1 < 8) (iq ib0 ib1)

include hρ hρ' ho e1 hh in
theorem max_first (g : Fin 2) (r : Fin 128) :
    mx o (by omega) (View.ld x0 (Rect.unit (s := S1x2048x512) ![0, ρ, 0] S1x128x512.size iq)) (View.ld x2 (Rect.unit (s := S1x2048x512) ![0, ρ, 0] S1x128x512.size iq))
      (if g.val = 0 then View.ld x5 (Rect.unit (s := S8x128x256) ![h0, 0, 128] S1x128x128.size ib0) else View.ld x5 (Rect.unit (s := S8x128x256) ![h1, 0, 128] S1x128x128.size ib1)) g r
      = bMax x0 x2 x5 ⟨h0 + g.val, by omega⟩ ⟨ρ + r.val, by omega⟩ := by
  refine (mx_ld x0 x2 x5 (by omega) hρ' (le_refl 128) rfl (by omega) rfl ho e1 hh iq iq ib0 ib1 g r).trans ?_
  unfold bMax
  rw [AttnIdeal.Val.wide_one _ ⟨ρ % 512 / 128, by omega⟩ fun κ e => bScore_out x0 x2 x5 _ _ κ (by dsimp only at e ⊢; omega) (by dsimp only at e ⊢; omega)]

include hρ hρ' ho e1 hh in
theorem ex_first (g : Fin 2) (r κ : Fin 128) :
    AttnIdeal.Val.ex o (by omega) (View.ld x0 (Rect.unit (s := S1x2048x512) ![0, ρ, 0] S1x128x512.size iq)) (View.ld x2 (Rect.unit (s := S1x2048x512) ![0, ρ, 0] S1x128x512.size iq))
      (if g.val = 0 then View.ld x5 (Rect.unit (s := S8x128x256) ![h0, 0, 128] S1x128x128.size ib0) else View.ld x5 (Rect.unit (s := S8x128x256) ![h1, 0, 128] S1x128x128.size ib1)) g r κ
      = bExp x0 x2 x5 ⟨h0 + g.val, by omega⟩ ⟨ρ + r.val, by omega⟩ ⟨128 * (ρ % 512 / 128) + κ.val, by omega⟩ := by
  unfold AttnIdeal.Val.ex bExp
  rw [sc_ld x0 x2 x5 (by omega) hρ' (le_refl 128) rfl (by omega) rfl ho e1 hh iq iq ib0 ib1, max_first x0 x2 x5 hρ hρ' ho e1 hh iq ib0 ib1]

include hρ ho e1 hh in
theorem sums_first (p : Fin 4) (hp : 2 * p.val = h0) (hs : AttnIdeal.S128x512.Slices ![0, o] AttnIdeal.S128x128) : IsSums x0 x2 x4 x5 ρ hρ' p
    (unit o hs (View.ld x0 (Rect.unit (s := S1x2048x512) ![0, ρ, 0] S1x128x512.size iq)) (View.ld x2 (Rect.unit (s := S1x2048x512) ![0, ρ, 0] S1x128x512.size iq))
      (View.ld x4 (Rect.unit (s := S1x2048x512) ![0, ρ, 0] S1x128x512.size iq))
      (View.ld x5 (Rect.unit (s := S8x128x256) ![h0, 0, 128] S1x128x128.size ib0)) (View.ld x5 (Rect.unit (s := S8x128x256) ![h1, 0, 128] S1x128x128.size ib1))) := by
  refine ⟨fun r l => ?_, fun r l => ?_⟩
  · refine (AttnIdeal.Val.unit_low (o := o) (by omega) _ _ _ _ _ r ⟨l.val / 64, by omega⟩ ⟨l.val % 64, by omega⟩ ⟨l.val, by omega⟩ (by dsimp only; omega)).trans ?_
    unfold bNum
    rw [AttnIdeal.Val.sum_one _ ⟨ρ % 512 / 128, by omega⟩ fun κ e => by
      rw [bExp_out x0 x2 x5 _ _ κ (by dsimp only at e ⊢; omega) (by dsimp only at e ⊢; omega), zero_mul]]
    have hg : (⟨h0 + l.val / 64, by omega⟩ : Fin 8) = ⟨(128 * p.val + l.val) / 64, by omega⟩ := Fin.ext (by dsimp only; omega)
    refine Finset.sum_congr rfl fun κ _ => ?_
    rw [ex_first x0 x2 x5 hρ hρ' ho e1 hh iq ib0 ib1, ld_rows x4 hρ', ← hg]
    exact congrArg (_ * ·) (congrArg₂ (fun w z => x4 (ix3 0 w z)) (Fin.ext (by dsimp only; omega)) (Fin.ext (by dsimp only; omega)))
  · refine (AttnIdeal.Val.unit_high (o := o) (by omega) _ _ _ _ _ r ⟨l.val / 64, by omega⟩ ⟨l.val % 64, by omega⟩ ⟨128 + l.val, by omega⟩ (by dsimp only; omega)).trans ?_
    unfold bDen
    rw [AttnIdeal.Val.sum_one _ ⟨ρ % 512 / 128, by omega⟩ fun κ e => bExp_out x0 x2 x5 _ _ κ (by dsimp only at e ⊢; omega) (by dsimp only at e ⊢; omega)]
    have hg : (⟨h0 + l.val / 64, by omega⟩ : Fin 8) = ⟨2 * p.val + l.val / 64, by omega⟩ := Fin.ext (by dsimp only; omega)
    refine Finset.sum_congr rfl fun κ _ => ?_
    rw [ex_first x0 x2 x5 hρ hρ' ho e1 hh iq ib0 ib1, ← hg]

end

/-! ### A later block: the block before and its own -/

section

variable {ρ σ o : ℕ} (hρ : ρ % 128 = 0) (hρ' : ρ ≤ 1920) (hσ : σ + 128 = ρ) (hw : σ / 512 = ρ / 512)
  {h0 h1 : ℕ} (ho : 64 * h0 = o) (e1 : h1 = h0 + 1) (hh : h1 < 8) (iq ik ip0 ip1 ib0 ib1)

include hρ hρ' hσ hw ho e1 hh in
theorem max_later (g : Fin 2) (r : Fin 128) :
    mx2 o (by omega) (View.ld x0 (Rect.unit (s := S1x2048x512) ![0, ρ, 0] S1x128x512.size iq)) (View.ld x2 (Rect.unit (s := S1x2048x512) ![0, σ, 0] S1x128x512.size ik))
      (View.ld x2 (Rect.unit (s := S1x2048x512) ![0, ρ, 0] S1x128x512.size iq))
      (if g.val = 0 then View.ld x5 (Rect.unit (s := S8x128x256) ![h0, 0, 0] S1x128x128.size ip0) else View.ld x5 (Rect.unit (s := S8x128x256) ![h1, 0, 0] S1x128x128.size ip1))
      (if g.val = 0 then View.ld x5 (Rect.unit (s := S8x128x256) ![h0, 0, 128] S1x128x128.size ib0) else View.ld x5 (Rect.unit (s := S8x128x256) ![h1, 0, 128] S1x128x128.size ib1)) g r
      = bMax x0 x2 x5 ⟨h0 + g.val, by omega⟩ ⟨ρ + r.val, by omega⟩ := by
  unfold mx2 bMax
  rw [mx_ld x0 x2 x5 hρ hρ' (le_refl 128) rfl (by omega) rfl ho e1 hh iq iq ib0 ib1 g r,
    mx_ld x0 x2 x5 hρ hρ' (Nat.zero_le 128) hσ (by omega) hw ho e1 hh iq ik ip0 ip1 g r,
    AttnIdeal.Val.wide_pair _ ⟨σ % 512 / 128, by omega⟩ ⟨ρ % 512 / 128, by omega⟩
      fun κ e e' => bScore_out x0 x2 x5 _ _ κ (by dsimp only at e e' ⊢; omega) (by dsimp only at e e' ⊢; omega)]

include hρ ho e1 hh hσ hw in
theorem sums_later (p : Fin 4) (hp : 2 * p.val = h0) (hs : AttnIdeal.S128x512.Slices ![0, o] AttnIdeal.S128x128) : IsSums x0 x2 x4 x5 ρ hρ' p
    (both o hs (View.ld x0 (Rect.unit (s := S1x2048x512) ![0, ρ, 0] S1x128x512.size iq)) (View.ld x2 (Rect.unit (s := S1x2048x512) ![0, σ, 0] S1x128x512.size ik))
      (View.ld x2 (Rect.unit (s := S1x2048x512) ![0, ρ, 0] S1x128x512.size iq)) (View.ld x4 (Rect.unit (s := S1x2048x512) ![0, σ, 0] S1x128x512.size ik))
      (View.ld x4 (Rect.unit (s := S1x2048x512) ![0, ρ, 0] S1x128x512.size iq))
      (View.ld x5 (Rect.unit (s := S8x128x256) ![h0, 0, 0] S1x128x128.size ip0)) (View.ld x5 (Rect.unit (s := S8x128x256) ![h1, 0, 0] S1x128x128.size ip1))
      (View.ld x5 (Rect.unit (s := S8x128x256) ![h0, 0, 128] S1x128x128.size ib0)) (View.ld x5 (Rect.unit (s := S8x128x256) ![h1, 0, 128] S1x128x128.size ib1))) := by
  have hne : (⟨σ % 512 / 128, by omega⟩ : Fin 4) ≠ ⟨ρ % 512 / 128, by omega⟩ := fun e => by
    have := congrArg Fin.val e
    dsimp only at this
    omega
  refine ⟨fun r l => ?_, fun r l => ?_⟩
  · refine (AttnIdeal.Val.both_low (o := o) (by omega) _ _ _ _ _ _ _ _ _ r ⟨l.val / 64, by omega⟩ ⟨l.val % 64, by omega⟩ ⟨l.val, by omega⟩ (by dsimp only; omega)).trans ?_
    unfold bNum
    rw [AttnIdeal.Val.sum_pair _ ⟨σ % 512 / 128, by omega⟩ ⟨ρ % 512 / 128, by omega⟩ hne fun κ e e' => by
      rw [bExp_out x0 x2 x5 _ _ κ (by dsimp only at e e' ⊢; omega) (by dsimp only at e e' ⊢; omega), zero_mul]]
    have hg : (⟨h0 + l.val / 64, by omega⟩ : Fin 8) = ⟨(128 * p.val + l.val) / 64, by omega⟩ := Fin.ext (by dsimp only; omega)
    rw [max_later x0 x2 x5 hρ hρ' hσ hw ho e1 hh iq ik ip0 ip1 ib0 ib1 ⟨l.val / 64, by omega⟩ r]
    refine congrArg₂ (fun u w : EReal => u + w) (Finset.sum_congr rfl fun κ _ => ?_) (Finset.sum_congr rfl fun κ _ => ?_)
    · rw [sc_ld x0 x2 x5 hρ hρ' (Nat.zero_le 128) hσ (by omega) hw ho e1 hh iq ik ip0 ip1, ld_rows x4 (by omega), ← hg]
      exact congrArg (_ * ·) (congrArg₂ (fun w z => x4 (ix3 0 w z)) (Fin.ext (by dsimp only; omega)) (Fin.ext (by dsimp only; omega)))
    · rw [sc_ld x0 x2 x5 hρ hρ' (le_refl 128) rfl (by omega) rfl ho e1 hh iq iq ib0 ib1, ld_rows x4 hρ', ← hg]
      exact congrArg (_ * ·) (congrArg₂ (fun w z => x4 (ix3 0 w z)) (Fin.ext (by dsimp only; omega)) (Fin.ext (by dsimp only; omega)))
  · refine (AttnIdeal.Val.both_high (o := o) (by omega) _ _ _ _ _ _ _ _ _ r ⟨l.val / 64, by omega⟩ ⟨l.val % 64, by omega⟩ ⟨128 + l.val, by omega⟩ (by dsimp only; omega)).trans ?_
    unfold bDen
    rw [AttnIdeal.Val.sum_pair _ ⟨σ % 512 / 128, by omega⟩ ⟨ρ % 512 / 128, by omega⟩ hne
      fun κ e e' => bExp_out x0 x2 x5 _ _ κ (by dsimp only at e e' ⊢; omega) (by dsimp only at e e' ⊢; omega)]
    have hg : (⟨h0 + l.val / 64, by omega⟩ : Fin 8) = ⟨2 * p.val + l.val / 64, by omega⟩ := Fin.ext (by dsimp only; omega)
    rw [max_later x0 x2 x5 hρ hρ' hσ hw ho e1 hh iq ik ip0 ip1 ib0 ib1 ⟨l.val / 64, by omega⟩ r]
    refine congrArg₂ (fun u w : EReal => u + w) (Finset.sum_congr rfl fun κ _ => ?_) (Finset.sum_congr rfl fun κ _ => ?_)
    · rw [sc_ld x0 x2 x5 hρ hρ' (Nat.zero_le 128) hσ (by omega) hw ho e1 hh iq ik ip0 ip1, ← hg]
      rfl
    · rw [sc_ld x0 x2 x5 hρ hρ' (le_refl 128) rfl (by omega) rfl ho e1 hh iq iq ib0 ib1, ← hg]
      rfl

end

end Cert.AttnMidIdeal.Val

end
-- ==== Proof.MidTable.lean ====
/- The bias of one head of the middle group between two positions, and the attention of one residue of 512 positions. -/
module

public import proofs.«01_k».proof.Proof.AttnTable
public import proofs.«01_k».proof.Proof.MidBlock
public import proofs.«01_k».proof.Proof.Gen.AttnMidRefIdeal.Read

@[expose] public section

set_option maxRecDepth 16384

noncomputable section

namespace Cert.AttnMid

open Idealize.ShloMosaic Cert.Attn

/-- The bucket of a distance, in steps of the group's dilation. -/
def bucket (d : BitVec 32) : BitVec 32 :=
  Scalar.select (IntOp.cmpi .slt (IntOp.muli (IntOp.minsi 128#32 (IntOp.maxsi 0#32 d)) 4#32) 16#32)
    (IntOp.muli (IntOp.minsi 128#32 (IntOp.maxsi 0#32 d)) 4#32)
    (IntOp.minsi (IntOp.addi 16#32 (FloatOps.fptosi (F := Ideal) (φ := .f32) 32 (FloatOps.mulf (φ := .f32) (FloatOps.hostDivf (φ := .f32) (FloatOps.hostUnary (φ := .f32) .log
      (FloatOps.hostDivf (φ := .f32) (FloatOps.sitofp .f32 (IntOp.maxsi (IntOp.muli (IntOp.minsi 128#32 (IntOp.maxsi 0#32 d)) 4#32) 1#32)) (FloatOps.ofBits .f32 0x41800000#32)))
      (FloatOps.ofBits .f32 0x409B43D5#32)) (FloatOps.ofBits .f32 0x41800000#32)))) 31#32)

/-- The bias of head `h` at a distance. -/
def biasAt (T : FVec Ideal AttnMidIdeal.S32x24 .f32) (h : Fin 8) (d : BitVec 32) : EReal := T (ix2 (row (wrap (AttnMid.bucket d))) ⟨8 + h.val, by omega⟩)

section

variable (A : FVec Ideal AttnMidIdeal.S8x4x512x1536 .bf16) (T : FVec Ideal AttnMidIdeal.S32x24 .f32) (b : Fin 8) (r : Fin 4) (h : Fin 8) (q : Fin 512)

/-- The score of query `q` and key `κ` of residue `r`: minus infinity at a later key and more than 128 positions back. -/
def score (κ : Fin 512) : EReal :=
  (∑ d : Fin 64, A (ix4 b r q ⟨64 * h.val + d.val, by omega⟩) * FloatOps.ofBits (F := Ideal) .bf16 0x3E00#16 * A (ix4 b r κ ⟨512 + (64 * h.val + d.val), by omega⟩))
    + if κ.val ≤ q.val ∧ q.val ≤ κ.val + 128 then AttnMid.biasAt T h (BitVec.ofNat 32 (q.val - κ.val)) else ⊥

/-- The largest score of a query. -/
def peak : EReal := AttnIdeal.Val.wide (AttnMid.score A T b r h q)

/-- The exponential of a score. -/
def weight (κ : Fin 512) : EReal := Ideal.exp (AttnMid.score A T b r h q κ - AttnMid.peak A T b r h q)

/-- The sum of a query's exponentials. -/
def total : EReal := ∑ κ, AttnMid.weight A T b r h q κ

/-- The output of head `h` at a query, in lane `d`. -/
def outAt (d : Fin 64) : EReal :=
  Ideal.div (∑ κ : Fin 512, AttnMid.weight A T b r h q κ * A (ix4 b r κ ⟨1024 + (64 * h.val + d.val), by omega⟩)) (AttnMid.total A T b r h q)

/-- The log-sum-exp of head `h` at a query. -/
def lseAt : EReal := AttnMid.peak A T b r h q + Ideal.log (AttnMid.total A T b r h q)

end

theorem gatherTable (T : FVec Ideal AttnMidIdeal.S32x24 .f32) (idx : IVec AttnMidIdeal.S129x1 32) (n : Fin 129) (e : Fin 24) :
    Host.gather AttnMidIdeal.gather_S32x24_S129x1_S129x24_1_0_n_n_0_1_124 T idx (ix2 n e) = T (ix2 (row (idx (ix2 n 0))) e) :=
  Attn.gatherTable T idx n e

theorem gatherPair (T : FVec Ideal AttnMidIdeal.S32x24 .f32) (idx : IVec AttnMidRefIdeal.S512x512x1 32) (q κ : Fin 512) (e : Fin 24) :
    Host.gather AttnMidRefIdeal.gather_S32x24_S512x512x1_S512x512x24_2_0_n_n_0_2_124 T idx (ix3 q κ e) = T (ix2 (row (idx (ix3 q κ 0))) e) := by
  unfold Host.gather
  congr 1
  funext a
  refine Fin.ext ?_
  rcases (show a = 0 ∨ a = 1 from match a with | ⟨0, _⟩ => Or.inl rfl | ⟨1, _⟩ => Or.inr rfl) with rfl | rfl
  · show GatherDims.start AttnMidRefIdeal.gather_S32x24_S512x512x1_S512x512x24_2_0_n_n_0_2_124 (ix3 q κ e) idx 0 + GatherDims.batchCoord AttnMidRefIdeal.gather_S32x24_S512x512x1_S512x512x24_2_0_n_n_0_2_124 (ix3 q κ e) 0 + GatherDims.offCoord AttnMidRefIdeal.gather_S32x24_S512x512x1_S512x512x24_2_0_n_n_0_2_124 (ix3 q κ e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap AttnMidRefIdeal.gather_S32x24_S512x512x1_S512x512x24_2_0_n_n_0_2_124 from List.mem_singleton.mpr rfl)]
    have hsi : GatherDims.siIdx AttnMidRefIdeal.gather_S32x24_S512x512x1_S512x512x24_2_0_n_n_0_2_124 (ix3 q κ e) ⟨List.idxOf (0 : Fin 2) (GatherDims.startIndexMap AttnMidRefIdeal.gather_S32x24_S512x512x1_S512x512x24_2_0_n_n_0_2_124),
        List.idxOf_lt_length_iff.2 (List.mem_singleton.mpr rfl)⟩ = ix3 q κ 0 := by
      funext b; refine Fin.ext ?_
      match b with
      | ⟨0, _⟩ => rfl
      | ⟨1, _⟩ => rfl
      | ⟨2, _⟩ => rfl
    rw [hsi]
    rfl
  · show GatherDims.start AttnMidRefIdeal.gather_S32x24_S512x512x1_S512x512x24_2_0_n_n_0_2_124 (ix3 q κ e) idx 1 + GatherDims.batchCoord AttnMidRefIdeal.gather_S32x24_S512x512x1_S512x512x24_2_0_n_n_0_2_124 (ix3 q κ e) 1 + GatherDims.offCoord AttnMidRefIdeal.gather_S32x24_S512x512x1_S512x512x24_2_0_n_n_0_2_124 (ix3 q κ e) 1 = _
    rw [GatherDims.batchCoord_eq_zero _ _ _ List.not_mem_nil]
    unfold GatherDims.start GatherDims.offCoord
    rw [dif_neg (show ¬ (1 : Fin 2) ∈ GatherDims.startIndexMap AttnMidRefIdeal.gather_S32x24_S512x512x1_S512x512x24_2_0_n_n_0_2_124 from fun h => absurd (List.mem_singleton.mp h) (by decide)),
      dif_pos ((GatherDims.mem_sKept _ _).mpr ⟨fun h => absurd (List.mem_singleton.mp h) (by decide), List.not_mem_nil⟩)]
    simp only [Nat.zero_add]
    rfl

end Cert.AttnMid

end
-- ==== Proof.MidMask.lean ====
/- The kernel's table of which positions a query sees, and the reference's comparisons of two positions of a residue of
   512, against the distance of the positions. -/
module

public import proofs.«01_k».proof.AttnMidIdeal

@[expose] public section

set_option maxRecDepth 16384

noncomputable section

namespace Cert.AttnMid

open Idealize.ShloMosaic

theorem sub_eq (q κ : Fin 512) (h : κ.val ≤ q.val) : IntOp.subi (BitVec.ofNat 32 q.val) (BitVec.ofNat 32 κ.val) = BitVec.ofNat 32 (q.val - κ.val) := by
  show BitVec.ofNat 32 q.val - BitVec.ofNat 32 κ.val = _
  refine BitVec.eq_of_toNat_eq ?_
  simp only [BitVec.toNat_sub, BitVec.toNat_ofNat]
  omega

theorem sub_neg (q κ : Fin 512) (h : q.val < κ.val) : IntOp.subi (BitVec.ofNat 32 q.val) (BitVec.ofNat 32 κ.val) = IntOp.subi 0#32 (BitVec.ofNat 32 (κ.val - q.val)) := by
  show BitVec.ofNat 32 q.val - BitVec.ofNat 32 κ.val = 0#32 - BitVec.ofNat 32 (κ.val - q.val)
  refine BitVec.eq_of_toNat_eq ?_
  simp only [BitVec.toNat_sub, BitVec.toNat_ofNat]
  omega

theorem ahead_eq (n : Fin 512) : IntOp.andi (IntOp.cmpi .sge (BitVec.ofNat 32 n.val) 0#32) (IntOp.cmpi .sle (BitVec.ofNat 32 n.val) 128#32)
    = if n.val ≤ 128 then 1#1 else 0#1 := by
  revert n; decide +kernel

theorem behind_eq (n : Fin 512) (h : 0 < n.val) : IntOp.andi (IntOp.cmpi .sge (IntOp.subi 0#32 (BitVec.ofNat 32 n.val)) 0#32)
    (IntOp.cmpi .sle (IntOp.subi 0#32 (BitVec.ofNat 32 n.val)) 128#32) = 0#1 := by
  revert h; revert n; decide +kernel

/-- A query sees itself and the 128 positions before it. -/
theorem seen_eq (q κ : Fin 512) : IntOp.andi (IntOp.cmpi .sge (IntOp.subi (BitVec.ofNat 32 q.val) (BitVec.ofNat 32 κ.val)) 0#32)
    (IntOp.cmpi .sle (IntOp.subi (BitVec.ofNat 32 q.val) (BitVec.ofNat 32 κ.val)) 128#32) = if κ.val ≤ q.val ∧ q.val ≤ κ.val + 128 then 1#1 else 0#1 := by
  by_cases h : κ.val ≤ q.val
  · rw [sub_eq q κ h]
    refine (ahead_eq ⟨q.val - κ.val, by omega⟩).trans ?_
    dsimp only
    by_cases e : q.val ≤ κ.val + 128
    · rw [if_pos (by omega), if_pos ⟨h, e⟩]
    · rw [if_neg (by omega), if_neg fun e' => e e'.2]
  · rw [sub_neg q κ (by omega), if_neg fun e => h e.1]
    exact behind_eq ⟨κ.val - q.val, by omega⟩ (by dsimp only; omega)

theorem lit0_prev (q κ : Fin 128) : AttnMidIdeal.lit0 ⟨256 * q.val + κ.val, by omega⟩ = if q.val ≤ κ.val then 1#1 else 0#1 := by
  revert q κ; decide +kernel

theorem lit0_own (q κ : Fin 128) : AttnMidIdeal.lit0 ⟨256 * q.val + (128 + κ.val), by omega⟩ = if κ.val ≤ q.val then 1#1 else 0#1 := by
  revert q κ; decide +kernel

/-- The kernel's mask: the 129 columns from the query's own. -/
theorem lit0_eq (q : Fin 128) (j : Fin 256) : AttnMidIdeal.lit0 ⟨256 * q.val + j.val, by omega⟩ = if q.val ≤ j.val ∧ j.val ≤ q.val + 128 then 1#1 else 0#1 := by
  by_cases h : j.val < 128
  · refine (lit0_prev q ⟨j.val, h⟩).trans ?_
    dsimp only
    by_cases e : q.val ≤ j.val
    · rw [if_pos e, if_pos ⟨e, by omega⟩]
    · rw [if_neg e, if_neg fun e' => e e'.1]
  · have hj : (⟨256 * q.val + j.val, by omega⟩ : Fin 32768) = ⟨256 * q.val + (128 + (j.val - 128)), by omega⟩ := Fin.ext (by dsimp only; omega)
    refine (congrArg AttnMidIdeal.lit0 hj).trans ((lit0_own q ⟨j.val - 128, by omega⟩).trans ?_)
    dsimp only
    by_cases e : j.val - 128 ≤ q.val
    · rw [if_pos e, if_pos ⟨by omega, by omega⟩]
    · rw [if_neg e, if_neg fun e' => e (by omega)]

end Cert.AttnMid

end
-- ==== Proof.MidHost.lean ====
/- The arrays the middle group's kernel is called with: the projection with its rows joined, and the group's bias table. -/
module

public import proofs.«01_k».proof.Proof.MidTable
public import proofs.«01_k».proof.Proof.MidMask
public import proofs.«01_k».proof.Proof.Gen.AttnMidIdeal.Value
public import Idealize.ShloMosaic.Lib.StableHlo.RunRead

@[expose] public section

set_option maxRecDepth 16384

noncomputable section

namespace Cert.AttnMidIdeal.Val

open Idealize.ShloMosaic Idealize.ShloMosaic.TcCoe Idealize.SL.Sem Cert.AttnMidIdeal Cert.AttnMidIdeal.Gen
open Cert.Attn (row wrap)
open Cert.AttnMid (gatherTable)

section Stages

variable (σ : Valuation τ sig (Elt Ideal))

theorem after_split (l l' : List (HloOp τ sig (Elt Ideal))) (σ : Valuation τ sig (Elt Ideal)) :
    StableHlo.after (l ++ l') σ = StableHlo.after l' (StableHlo.after l σ) := by
  induction l generalizing σ with
  | nil => rfl
  | cons op l ih => exact ih _

/-- The table passed to the kernel: the group's part of the three tables, outside the mask minus infinity. -/
def masked (M : IVec S128x256 1) (B : FVec Ideal S3x8x128x256 .f32) (z : FVec Ideal S_ .f32) : FVec Ideal S8x128x256 .f32 :=
  shapeCast S8x128x256 (extractStridedSlice S1x8x128x256 ![1, 0, 0, 0]
    (select (broadcastInDim S3x8x128x256 ![2, 3] bcast_S128x256_S3x8x128x256_2_3 M) B (broadcastInDim S3x8x128x256 ![] bcast_S_S3x8x128x256 z))
    slices_S3x8x128x256_S1x8x128x256_1_0_0_0) shapeCasts_S1x8x128x256_S8x128x256

set_option maxHeartbeats 4000000 in
theorem last : StableHlo.after (hostOps0_13 ++ hostOps0_14) σ (Proc.devRef .tc main_v121)
    = masked (σ (Proc.devRef .tc main_c)) (σ (Proc.devRef .tc main_v118)) (σ (Proc.devRef .tc main_cst_38)) := by
  simp only [List.cons_append, List.nil_append, hostOps0_13, hostOps0_14]
  after_results
  rfl

/-- The group's table of biases before the mask: the distances' rows reversed, padded, and laid out one diagonal per query. -/
def spread (b : IVec S129 32) (T : FVec Ideal S32x24 .f32) : FVec Ideal S8x128x256 .f32 :=
  shapeCast S8x128x256 (extractStridedSlice S8x32768 ![0, 0] (shapeCast S8x32896 (broadcastInDim S1x8x128x257 ![0, 1, 2, 3] bcast_S1x8x1x257_S1x8x128x257_0_1_2_3
    (shapeCast S1x8x1x257 (concatenate S8x257 1 [⟨S8x129, Host.reverse [1] (transpose S8x129 [1, 0] (extractStridedSlice S129x8 ![0, 8]
      (Host.gather gather_S32x24_S129x1_S129x24_1_0_n_n_0_1_124 T (broadcastInDim S129x1 ![0] bcast_S129_S129x1_0
        (select (cmpi .slt b (broadcastInDim S129 ![] bcast_S_S129 (constantI S_ 32 0#32))) (addi b (broadcastInDim S129 ![] bcast_S_S129 (constantI S_ 32 32#32))) b)))
      slices_S129x24_S129x8_0_8) transposes_S129x8_S8x129_1_0)⟩,
      ⟨S8x128, broadcastInDim S8x128 ![] bcast_S_S8x128 (constant (F := Ideal) S_ .f32 0x00000000#32)⟩] concatenates_S8x129_S8x128_S8x257_d1) shapeCasts_S8x257_S1x8x1x257))
    shapeCasts_S1x8x128x257_S8x32896) slices_S8x32896_S8x32768_0_0) shapeCasts_S8x32768_S8x128x256

set_option maxHeartbeats 4000000 in
theorem laid : StableHlo.after hostOps0_8 σ (Proc.devRef .tc main_v76) = spread (σ (Proc.devRef .tc main_v59)) (σ (Proc.devRef .tc main_arg1)) := by
  simp only [hostOps0_8]
  after_results
  rfl

set_option maxHeartbeats 4000000 in
theorem second : StableHlo.after (hostOps0_12.take 23) σ (Proc.devRef .tc main_v116)
    = broadcastInDim S1x8x128x256 ![1, 2, 3] bcast_S8x128x256_S1x8x128x256_1_2_3 (σ (Proc.devRef .tc main_v76)) := by
  simp only [List.take, hostOps0_12]
  after_results

theorem three (u v w : FVec Ideal S1x8x128x256 .f32) (h : Fin 8) (q : Fin 128) (j : Fin 256) :
    concatenate S3x8x128x256 0 [⟨S1x8x128x256, u⟩, ⟨S1x8x128x256, v⟩, ⟨S1x8x128x256, w⟩] concatenates_S1x8x128x256_S1x8x128x256_S1x8x128x256_S3x8x128x256_d0 (ix4 1 h q j)
      = v (ix4 0 h q j) := by
  pointwise []

set_option maxHeartbeats 4000000 in
theorem stack (h : Fin 8) (q : Fin 128) (j : Fin 256) : StableHlo.after hostOps0_12 σ (Proc.devRef .tc main_v118) (ix4 1 h q j)
    = (σ (Proc.devRef .tc main_v76) : FVec Ideal S8x128x256 .f32) (ix3 h q j) := by
  rw [StableHlo.after_last_write (i := 23) [main_cst_38] rfl rfl (by decide) σ]
  rw [StableHlo.nary_result']
  refine (three _ _ _ h q j).trans ?_
  refine (congrFun (second σ) _).trans ?_
  pointwise []

/-- The distances in steps of the dilation, held between the two bounds. -/
def steps (lo hi : IVec S_ 32) (d : IVec S129 32) : IVec S129 32 :=
  muli (minsi (broadcastInDim S129 ![] bcast_S_S129 (id hi)) (maxsi (broadcastInDim S129 ![] bcast_S_S129 (id lo)) d))
    (broadcastInDim S129 ![] bcast_S_S129 (constantI S_ 32 4#32))

/-- The buckets of the distances. -/
def bucketed (n : IVec S129 32) : IVec S129 32 :=
  select (cmpi .slt n (broadcastInDim S129 ![] bcast_S_S129 (constantI S_ 32 16#32))) n
    (minsi (addi (broadcastInDim S129 ![] bcast_S_S129 (constantI S_ 32 16#32)) (fptosi 32 (mulf (Host.divf (Host.log (Host.divf
      (sitofp (F := Ideal) .f32 (maxsi n (broadcastInDim S129 ![] bcast_S_S129 (constantI S_ 32 1#32))))
      (broadcastInDim S129 ![] bcast_S_S129 (constant S_ .f32 0x41800000#32))))
      (broadcastInDim S129 ![] bcast_S_S129 (constant S_ .f32 0x409B43D5#32)))
      (broadcastInDim S129 ![] bcast_S_S129 (constant S_ .f32 0x41800000#32)))))
      (broadcastInDim S129 ![] bcast_S_S129 (constantI S_ 32 31#32)))

set_option maxHeartbeats 4000000 in
theorem buckets : StableHlo.after (hostOps0_5 ++ hostOps0_6 ++ hostOps0_7) σ (Proc.devRef .tc main_v59)
    = bucketed (steps (σ (Proc.devRef .tc main_c_12)) (σ (Proc.devRef .tc main_c_13)) (σ (Proc.devRef .tc main_v0))) := by
  simp only [List.cons_append, List.nil_append, hostOps0_5, hostOps0_6, hostOps0_7]
  after_results
  rfl

theorem bucketed_apply (n : Fin 129) : bucketed (steps (constantI S_ 32 0#32) (constantI S_ 32 128#32) (iotaInDim S129 32 0)) (ix1 n)
    = AttnMid.bucket (BitVec.ofNat 32 n.val) := by
  rfl

/-- An entry of the table: at query `q` and column `j`, the bias at the distance the column stands for. -/
theorem spread_apply (b : IVec S129 32) (T : FVec Ideal S32x24 .f32) (h : Fin 8) (q : Fin 128) (j : Fin 256) (e : q.val ≤ j.val ∧ j.val ≤ q.val + 128) :
    spread b T (ix3 h q j) = T (ix2 (row (wrap (b (ix1 ⟨q.val + 128 - j.val, by omega⟩)))) ⟨8 + h.val, by omega⟩) := by
  unfold spread
  pointwise [gatherTable]
  have hd : (q.val * 256 + j.val) % 257 = j.val - q.val := by omega
  rw [dif_pos (by omega)]
  have hi : (ix1 (if (1 : Fin 2) ∈ [(1 : Fin 2)] then Fin.rev (⟨(q.val * 256 + j.val) % 257, by omega⟩ : Fin 129) else ⟨(q.val * 256 + j.val) % 257, by omega⟩) : S129.Idx)
      = ix1 ⟨q.val + 128 - j.val, by omega⟩ := by
    rw [if_pos (by decide)]
    refine congrArg ix1 (Fin.ext ?_)
    simp only [Fin.val_rev]
    omega
  exact congrArg (fun i : S129.Idx => T (ix2 (row (wrap (b i))) ⟨8 + h.val, by omega⟩)) hi

theorem masked_apply (M : IVec S128x256 1) (B : FVec Ideal S3x8x128x256 .f32) (z : FVec Ideal S_ .f32) (h : Fin 8) (q : Fin 128) (j : Fin 256) :
    masked M B z (ix3 h q j) = Scalar.select (M (ix2 q j)) (B (ix4 1 h q j)) (z ix0) := by
  unfold masked
  pointwise []

/-- The operations before the group's own buckets. -/
abbrev before : List (HloOp τ sig (Elt Ideal)) := hostOps0 ++ hostOps0_1 ++ hostOps0_2 ++ hostOps0_3 ++ hostOps0_4

/-- The operations between the group's table and the three tables' joining. -/
abbrev between : List (HloOp τ sig (Elt Ideal)) := hostOps0_9 ++ hostOps0_10 ++ hostOps0_11

set_option maxHeartbeats 4000000 in
theorem before_mask : StableHlo.after before σ (Proc.devRef .tc main_c) = fun i => lit0 (S128x256.rowMajor i) := by
  simp only [List.cons_append, List.nil_append, before, hostOps0, hostOps0_1, hostOps0_2, hostOps0_3, hostOps0_4]
  after_results
  rfl

set_option maxHeartbeats 4000000 in
theorem before_lo : StableHlo.after before σ (Proc.devRef .tc main_c_12) = constantI S_ 32 0#32 := by
  simp only [List.cons_append, List.nil_append, before, hostOps0, hostOps0_1, hostOps0_2, hostOps0_3, hostOps0_4]
  after_results

set_option maxHeartbeats 4000000 in
theorem before_hi : StableHlo.after before σ (Proc.devRef .tc main_c_13) = constantI S_ 32 128#32 := by
  simp only [List.cons_append, List.nil_append, before, hostOps0, hostOps0_1, hostOps0_2, hostOps0_3, hostOps0_4]
  after_results

set_option maxHeartbeats 4000000 in
theorem before_count : StableHlo.after before σ (Proc.devRef .tc main_v0) = iotaInDim S129 32 0 := by
  simp only [List.cons_append, List.nil_append, before, hostOps0, hostOps0_1, hostOps0_2, hostOps0_3, hostOps0_4]
  after_results

set_option maxHeartbeats 4000000 in
theorem before_table : StableHlo.after before σ (Proc.devRef .tc main_arg1) = σ (Proc.devRef .tc main_arg1) := by
  simp only [List.cons_append, List.nil_append, before, hostOps0, hostOps0_1, hostOps0_2, hostOps0_3, hostOps0_4]
  after_results

set_option maxHeartbeats 4000000 in
theorem buckets_table : StableHlo.after (hostOps0_5 ++ hostOps0_6 ++ hostOps0_7) σ (Proc.devRef .tc main_arg1) = σ (Proc.devRef .tc main_arg1) := by
  simp only [List.cons_append, List.nil_append, hostOps0_5, hostOps0_6, hostOps0_7]
  after_results

set_option maxHeartbeats 4000000 in
theorem buckets_mask : StableHlo.after (hostOps0_5 ++ hostOps0_6 ++ hostOps0_7) σ (Proc.devRef .tc main_c) = σ (Proc.devRef .tc main_c) := by
  simp only [List.cons_append, List.nil_append, hostOps0_5, hostOps0_6, hostOps0_7]
  after_results

set_option maxHeartbeats 4000000 in
theorem laid_mask : StableHlo.after hostOps0_8 σ (Proc.devRef .tc main_c) = σ (Proc.devRef .tc main_c) := by
  after_results

set_option maxHeartbeats 4000000 in
theorem between_mask : StableHlo.after between σ (Proc.devRef .tc main_c) = σ (Proc.devRef .tc main_c) := by
  simp only [List.cons_append, List.nil_append, between, hostOps0_9, hostOps0_10, hostOps0_11]
  after_results

set_option maxHeartbeats 4000000 in
theorem between_laid : StableHlo.after between σ (Proc.devRef .tc main_v76) = σ (Proc.devRef .tc main_v76) := by
  simp only [List.cons_append, List.nil_append, between, hostOps0_9, hostOps0_10, hostOps0_11]
  after_results

set_option maxHeartbeats 4000000 in
theorem stack_mask : StableHlo.after hostOps0_12 σ (Proc.devRef .tc main_c) = σ (Proc.devRef .tc main_c) := by
  after_results

set_option maxHeartbeats 4000000 in
theorem stack_floor : StableHlo.after hostOps0_12 σ (Proc.devRef .tc main_cst_38) = constant (F := Ideal) S_ .f32 0xFF800000#32 := by
  after_results

theorem mask_apply (q : Fin 128) (j : Fin 256) : lit0 (S128x256.rowMajor (ix2 q j)) = if q.val ≤ j.val ∧ j.val ≤ q.val + 128 then 1#1 else 0#1 :=
  (congrArg lit0 (Fin.ext ((Shape.rowMajor_val_two _).trans (by show q.val * 256 + j.val = 256 * q.val + j.val; omega)))).trans (AttnMid.lit0_eq q j)

end Stages

variable (m : (ℓ : Loc nD τ sig) → Buf (Elt Ideal) ℓ) (c : Dev nD)

set_option maxHeartbeats 4000000 in
theorem V_flat : V m c main_v122 = shapeCast S8x2048x1536 (m ((c : Thread nD τ).loc main_arg0)) shapeCasts_S8x4x512x1536_S8x2048x1536 := by
  show StableHlo.after _ (fun b => m (c, b)) (Proc.devRef .tc main_v122) = _
  simp only [List.flatten, List.append_nil, List.cons_append, List.nil_append, List.append_eq, hostOps0, hostOps0_1, hostOps0_2, hostOps0_3, hostOps0_4, hostOps0_5, hostOps0_6, hostOps0_7, hostOps0_8, hostOps0_9, hostOps0_10, hostOps0_11, hostOps0_12, hostOps0_13, hostOps0_14]
  after_results
  rfl

/-- The bias the kernel adds at a query's row and a column of the two blocks: minus infinity outside the 129 columns from the query's own. -/
theorem V_bias (h : Fin 8) (q : Fin 128) (j : Fin 256) : (V m c main_v121 : FVec Ideal S8x128x256 .f32) (ix3 h q j)
    = if q.val ≤ j.val ∧ j.val ≤ q.val + 128 then AttnMid.biasAt (m ((c : Thread nD τ).loc main_arg1)) h (BitVec.ofNat 32 (q.val + 128 - j.val)) else ⊥ := by
  show StableHlo.after (before ++ (hostOps0_5 ++ hostOps0_6 ++ hostOps0_7) ++ hostOps0_8 ++ between ++ hostOps0_12 ++ (hostOps0_13 ++ hostOps0_14)) (fun b => m (c, b)) (Proc.devRef .tc main_v121) _ = _
  rw [after_split]
  refine (congrFun (last _) _).trans ?_
  rw [after_split _ hostOps0_12, after_split _ between, after_split _ hostOps0_8, after_split before]
  rw [masked_apply, stack_mask, stack_floor, between_mask, laid_mask, buckets_mask, before_mask, stack, between_laid, laid, buckets, buckets_table, before_table,
    before_lo, before_hi, before_count]
  beta_reduce
  rw [mask_apply]
  split
  · next e => rw [spread_apply _ _ _ _ _ e, bucketed_apply]; rfl
  · exact AttnIdeal.Val.bottom_eq

end Cert.AttnMidIdeal.Val

end
-- ==== Proof.MidOut.lean ====
/- The stores of every block, put together: the two blocks the middle head group's kernel leaves for one sequence. -/
module

public import proofs.«01_k».proof.Proof.MidBlock
import all proofs.«01_k».proof.Proof.Gen.AttnMidIdeal.Frame

@[expose] public section

set_option maxRecDepth 16384

noncomputable section

namespace Cert.AttnMidIdeal.Val

open Idealize.ShloMosaic Cert.AttnMidIdeal Cert.AttnMidIdeal.Gen
open Cert.AttnIdeal.Val (mx mx2 both unit score rowMax pairMax quotient lse max0_apply max1_apply pairMax0 pairMax1)
open scoped BigOperators

variable (x0 x2 x4 : Vec Ideal S1x2048x512 .bf16) (x5 : Vec Ideal S8x128x256 .f32) (x1 x3 : Vec Ideal S1x128x512 .bf16)

section

variable {ρ σ o : ℕ} (hρ' : ρ ≤ 1920) {h0 h1 : ℕ} (ho : 64 * h0 = o) (he : h0 % 2 = 0) (e1 : h1 = h0 + 1) (hh : h1 < 8) (iq ik ip0 ip1 ib0 ib1)

include hρ' ho he e1 hh in
/-- The store of one pair of heads in a residue's first block. -/
theorem out_first (hρ : ρ % 512 = 0) (hs : AttnIdeal.S128x512.Slices ![0, o] AttnIdeal.S128x128) (i2) (y : S1x128x128.Idx) :
    quotient (unit o hs (View.ld x0 (Rect.unit (s := S1x2048x512) ![0, ρ, 0] S1x128x512.size iq)) (View.ld x2 (Rect.unit (s := S1x2048x512) ![0, ρ, 0] S1x128x512.size iq))
      (View.ld x4 (Rect.unit (s := S1x2048x512) ![0, ρ, 0] S1x128x512.size iq))
      (View.ld x5 (Rect.unit (s := S8x128x256) ![h0, 0, 128] S1x128x128.size ib0)) (View.ld x5 (Rect.unit (s := S8x128x256) ![h1, 0, 128] S1x128x128.size ib1))) y
      = blockO x0 x2 x4 x5 (Rect.emb (Rect.unit (s := S1x2048x512) ![0, ρ, o] ![1, 128, 128] i2) y) := by
  obtain ⟨p, rfl⟩ : ∃ p : Fin 4, 2 * p.val = h0 := ⟨⟨h0 / 2, by omega⟩, by dsimp only; omega⟩
  obtain rfl : 128 * p.val = o := by omega
  exact quotient_piece x0 x2 x4 x5 hρ' p _ (sums_first x0 x2 x4 x5 hρ hρ' ho e1 hh iq ib0 ib1 p rfl hs) i2 y

include hρ' ho he e1 hh in
/-- The store of one pair of heads in a later block. -/
theorem out_later (hρ : ρ % 128 = 0) (hσ : σ + 128 = ρ) (hw : σ / 512 = ρ / 512) (hs : AttnIdeal.S128x512.Slices ![0, o] AttnIdeal.S128x128) (i2) (y : S1x128x128.Idx) :
    quotient (both o hs (View.ld x0 (Rect.unit (s := S1x2048x512) ![0, ρ, 0] S1x128x512.size iq)) (View.ld x2 (Rect.unit (s := S1x2048x512) ![0, σ, 0] S1x128x512.size ik))
      (View.ld x2 (Rect.unit (s := S1x2048x512) ![0, ρ, 0] S1x128x512.size iq)) (View.ld x4 (Rect.unit (s := S1x2048x512) ![0, σ, 0] S1x128x512.size ik))
      (View.ld x4 (Rect.unit (s := S1x2048x512) ![0, ρ, 0] S1x128x512.size iq))
      (View.ld x5 (Rect.unit (s := S8x128x256) ![h0, 0, 0] S1x128x128.size ip0)) (View.ld x5 (Rect.unit (s := S8x128x256) ![h1, 0, 0] S1x128x128.size ip1))
      (View.ld x5 (Rect.unit (s := S8x128x256) ![h0, 0, 128] S1x128x128.size ib0)) (View.ld x5 (Rect.unit (s := S8x128x256) ![h1, 0, 128] S1x128x128.size ib1))) y
      = blockO x0 x2 x4 x5 (Rect.emb (Rect.unit (s := S1x2048x512) ![0, ρ, o] ![1, 128, 128] i2) y) := by
  obtain ⟨p, rfl⟩ : ∃ p : Fin 4, 2 * p.val = h0 := ⟨⟨h0 / 2, by omega⟩, by dsimp only; omega⟩
  obtain rfl : 128 * p.val = o := by omega
  exact quotient_piece x0 x2 x4 x5 hρ' p _ (sums_later x0 x2 x4 x5 hρ hρ' hσ hw ho e1 hh iq ik ip0 ip1 ib0 ib1 p rfl hs) i2 y

end

set_option maxRecDepth 200000 in
set_option maxHeartbeats 16000000 in
theorem out0_6_eq : out0_6 x0 x1 x2 x3 x4 x5 = blockO x0 x2 x4 x5 := by
  refine funext fun y => View.canon_apply_of_pieces _ _ (View.PiecesOf.mem ?_) y (cover0_6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  iterate 4
    iterate 12 refine ⟨out_later x0 x2 x4 x5 (by decide) (by decide) (by decide) (by decide) (by decide) (by decide) (by decide) (by decide) (by decide) (by decide) (by decide) (by decide) (by decide) (by decide) (by decide) (by decide), ?_⟩
    iterate 4 refine ⟨out_first x0 x2 x4 x5 (by decide) (by decide) (by decide) (by decide) (by decide) (by decide) (by decide) (by decide) (by decide) (by decide) (by decide), ?_⟩
  exact trivial

end Cert.AttnMidIdeal.Val

end
-- ==== Proof.MidLse.lean ====
/- The log-sum-exps of every block, put together. -/
module

public import proofs.«01_k».proof.Proof.MidBlock
import all proofs.«01_k».proof.Proof.Gen.AttnMidIdeal.Frame

@[expose] public section

set_option maxRecDepth 16384

noncomputable section

namespace Cert.AttnMidIdeal.Val

open Idealize.ShloMosaic Cert.AttnMidIdeal Cert.AttnMidIdeal.Gen
open Cert.AttnIdeal.Val (mx mx2 both unit score rowMax pairMax quotient lse max0_apply max1_apply pairMax0 pairMax1)
open scoped BigOperators

variable (x0 x2 x4 : Vec Ideal S1x2048x512 .bf16) (x5 : Vec Ideal S8x128x256 .f32) (x1 x3 : Vec Ideal S1x128x512 .bf16)

theorem slicesPair : ∀ p : Fin 4, S128x512.Slices ![0, 128 * p.val] S128x128 := by decide

theorem slicesHead : ∀ g : Fin 2, S128x256.Slices ![0, 128 * g.val] S128x128 := by decide

theorem inbOwn : ∀ h : Fin 8, ∀ a, ![h.val, 0, 128] a + S1x128x128.size a ≤ S8x128x256.size a := by decide

theorem inbPrev : ∀ h : Fin 8, ∀ a, ![h.val, 0, 0] a + S1x128x128.size a ≤ S8x128x256.size a := by decide

section

variable {ρ σ : ℕ} (iq : ∀ a, ![0, ρ, 0] a + S1x128x512.size a ≤ S1x2048x512.size a) (ik : ∀ a, ![0, σ, 0] a + S1x128x512.size a ≤ S1x2048x512.size a)

/-- The scores of one pair of heads against the block's own keys, and against those of the block before. -/
def ownScore (p : Fin 4) : FVec Ideal S128x256 .f32 :=
  score (128 * p.val) (slicesPair p) (View.ld x0 (Rect.unit (s := S1x2048x512) ![0, ρ, 0] S1x128x512.size iq)) (View.ld x2 (Rect.unit (s := S1x2048x512) ![0, ρ, 0] S1x128x512.size iq))
    (View.ld x5 (Rect.unit (s := S8x128x256) ![2 * p.val, 0, 128] S1x128x128.size (inbOwn ⟨2 * p.val, by omega⟩)))
    (View.ld x5 (Rect.unit (s := S8x128x256) ![2 * p.val + 1, 0, 128] S1x128x128.size (inbOwn ⟨2 * p.val + 1, by omega⟩)))

def prevScore (p : Fin 4) : FVec Ideal S128x256 .f32 :=
  score (128 * p.val) (slicesPair p) (View.ld x0 (Rect.unit (s := S1x2048x512) ![0, ρ, 0] S1x128x512.size iq)) (View.ld x2 (Rect.unit (s := S1x2048x512) ![0, σ, 0] S1x128x512.size ik))
    (View.ld x5 (Rect.unit (s := S8x128x256) ![2 * p.val, 0, 0] S1x128x128.size (inbPrev ⟨2 * p.val, by omega⟩)))
    (View.ld x5 (Rect.unit (s := S8x128x256) ![2 * p.val + 1, 0, 0] S1x128x128.size (inbPrev ⟨2 * p.val + 1, by omega⟩)))

/-- The sums of one pair of heads over the block's own keys, and over both blocks' keys. -/
def ownSums (p : Fin 4) : FVec Ideal S128x256 .f32 :=
  unit (128 * p.val) (slicesPair p) (View.ld x0 (Rect.unit (s := S1x2048x512) ![0, ρ, 0] S1x128x512.size iq)) (View.ld x2 (Rect.unit (s := S1x2048x512) ![0, ρ, 0] S1x128x512.size iq))
    (View.ld x4 (Rect.unit (s := S1x2048x512) ![0, ρ, 0] S1x128x512.size iq))
    (View.ld x5 (Rect.unit (s := S8x128x256) ![2 * p.val, 0, 128] S1x128x128.size (inbOwn ⟨2 * p.val, by omega⟩)))
    (View.ld x5 (Rect.unit (s := S8x128x256) ![2 * p.val + 1, 0, 128] S1x128x128.size (inbOwn ⟨2 * p.val + 1, by omega⟩)))

def bothSums (p : Fin 4) : FVec Ideal S128x256 .f32 :=
  both (128 * p.val) (slicesPair p) (View.ld x0 (Rect.unit (s := S1x2048x512) ![0, ρ, 0] S1x128x512.size iq)) (View.ld x2 (Rect.unit (s := S1x2048x512) ![0, σ, 0] S1x128x512.size ik))
    (View.ld x2 (Rect.unit (s := S1x2048x512) ![0, ρ, 0] S1x128x512.size iq)) (View.ld x4 (Rect.unit (s := S1x2048x512) ![0, σ, 0] S1x128x512.size ik))
    (View.ld x4 (Rect.unit (s := S1x2048x512) ![0, ρ, 0] S1x128x512.size iq))
    (View.ld x5 (Rect.unit (s := S8x128x256) ![2 * p.val, 0, 0] S1x128x128.size (inbPrev ⟨2 * p.val, by omega⟩)))
    (View.ld x5 (Rect.unit (s := S8x128x256) ![2 * p.val + 1, 0, 0] S1x128x128.size (inbPrev ⟨2 * p.val + 1, by omega⟩)))
    (View.ld x5 (Rect.unit (s := S8x128x256) ![2 * p.val, 0, 128] S1x128x128.size (inbOwn ⟨2 * p.val, by omega⟩)))
    (View.ld x5 (Rect.unit (s := S8x128x256) ![2 * p.val + 1, 0, 128] S1x128x128.size (inbOwn ⟨2 * p.val + 1, by omega⟩)))

theorem head_eq (h : Fin 8) : (⟨2 * (h.val / 2) + h.val % 2, by omega⟩ : Fin 8) = h := Fin.ext (by dsimp only; omega)

/-- The store of log-sum-exps in a residue's first block. -/
theorem lse_first (hρ' : ρ ≤ 1920) (hρ : ρ % 512 = 0) (i2) (y : S1x128x128.Idx) :
    lse (fun h => rowMax (128 * (h.val % 2)) (slicesHead ⟨h.val % 2, by omega⟩) (ownScore x0 x2 x5 iq ⟨h.val / 2, by omega⟩)) (ownSums x0 x2 x4 x5 iq) y
      = blockL x0 x2 x5 (Rect.emb (Rect.unit (s := S1x2048x128) ![0, ρ, 0] ![1, 128, 128] i2) y) := by
  refine lse_both x0 x2 x4 x5 hρ' _ _ (fun h r => ?_) (fun p => sums_first x0 x2 x4 x5 hρ hρ' (by omega) rfl (by omega) iq _ _ p rfl (slicesPair p)) i2 y
  have e (p : Fin 4) (g : Fin 2) : rowMax (128 * g.val) (slicesHead g) (ownScore x0 x2 x5 iq p) (ix2 r 0) = bMax x0 x2 x5 ⟨2 * p.val + g.val, by omega⟩ ⟨ρ + r.val, by omega⟩ := by
    refine Eq.trans ?_ (max_first x0 x2 x5 hρ hρ' (h0 := 2 * p.val) (h1 := 2 * p.val + 1) (o := 128 * p.val) (by omega) rfl (by omega) iq
      (inbOwn ⟨2 * p.val, by omega⟩) (inbOwn ⟨2 * p.val + 1, by omega⟩) g r)
    match g with
    | ⟨0, _⟩ => exact max0_apply (o := 128 * p.val) (by omega) _ _ _ _ r
    | ⟨1, _⟩ => exact max1_apply (o := 128 * p.val) (by omega) _ _ _ _ r
  exact (e ⟨h.val / 2, by omega⟩ ⟨h.val % 2, by omega⟩).trans (congrArg (fun z => bMax x0 x2 x5 z _) (head_eq h))

/-- The store of log-sum-exps in a later block. -/
theorem lse_later (hρ' : ρ ≤ 1920) (hρ : ρ % 128 = 0) (hσ : σ + 128 = ρ) (hw : σ / 512 = ρ / 512) (i2) (y : S1x128x128.Idx) :
    lse (fun h => pairMax (128 * (h.val % 2)) (slicesHead ⟨h.val % 2, by omega⟩) (prevScore x0 x2 x5 iq ik ⟨h.val / 2, by omega⟩) (ownScore x0 x2 x5 iq ⟨h.val / 2, by omega⟩))
      (bothSums x0 x2 x4 x5 iq ik) y
      = blockL x0 x2 x5 (Rect.emb (Rect.unit (s := S1x2048x128) ![0, ρ, 0] ![1, 128, 128] i2) y) := by
  refine lse_both x0 x2 x4 x5 hρ' _ _ (fun h r => ?_) (fun p => sums_later x0 x2 x4 x5 hρ hρ' hσ hw (by omega) rfl (by omega) iq ik _ _ _ _ p rfl (slicesPair p)) i2 y
  have e (p : Fin 4) (g : Fin 2) : pairMax (128 * g.val) (slicesHead g) (prevScore x0 x2 x5 iq ik p) (ownScore x0 x2 x5 iq p) (ix2 r 0)
      = bMax x0 x2 x5 ⟨2 * p.val + g.val, by omega⟩ ⟨ρ + r.val, by omega⟩ := by
    refine Eq.trans ?_ (max_later x0 x2 x5 hρ hρ' hσ hw (h0 := 2 * p.val) (h1 := 2 * p.val + 1) (o := 128 * p.val) (by omega) rfl (by omega) iq ik
      (inbPrev ⟨2 * p.val, by omega⟩) (inbPrev ⟨2 * p.val + 1, by omega⟩) (inbOwn ⟨2 * p.val, by omega⟩) (inbOwn ⟨2 * p.val + 1, by omega⟩) g r)
    match g with
    | ⟨0, _⟩ => exact pairMax0 (o := 128 * p.val) (by omega) _ _ _ _ _ _ _ r
    | ⟨1, _⟩ => exact pairMax1 (o := 128 * p.val) (by omega) _ _ _ _ _ _ _ r
  exact (e ⟨h.val / 2, by omega⟩ ⟨h.val % 2, by omega⟩).trans (congrArg (fun z => bMax x0 x2 x5 z _) (head_eq h))

end

set_option maxRecDepth 200000 in
set_option maxHeartbeats 16000000 in
theorem out0_7_eq : out0_7 x0 x1 x2 x3 x4 x5 = blockL x0 x2 x5 := by
  refine funext fun y => View.canon_apply_of_pieces _ _ (View.PiecesOf.mem ?_) y (cover0_7 _ _ _ _ _ _ _ _ _ _ _ _ _ _ _ _ y)
  iterate 4
    iterate 3 refine ⟨lse_later x0 x2 x4 x5 (by decide) (by decide) (by decide) (by decide) (by decide) (by decide) (by decide), ?_⟩
    refine ⟨lse_first x0 x2 x4 x5 (by decide) (by decide) (by decide) (by decide), ?_⟩
  exact trivial

end Cert.AttnMidIdeal.Val

end
-- ==== Proof.MidValue.lean ====
/- The middle group's attention kernel leaves, in its two result arrays, the outputs and the log-sum-exps of every batch and token. -/
module

public import proofs.«01_k».proof.Proof.MidHost
public import proofs.«01_k».proof.Proof.MidOut
public import proofs.«01_k».proof.Proof.MidLse

@[expose] public section

set_option maxRecDepth 16384

noncomputable section

namespace Cert.AttnMidIdeal.Val

open Idealize.ShloMosaic Idealize.ShloMosaic.TcCoe Idealize.SL.Sem Cert.AttnMidIdeal Cert.AttnMidIdeal.Gen
open Cert.AttnIdeal.Val (wide)
open Cert.AttnMid (biasAt peak weight total outAt lseAt)

section
variable (A : FVec Ideal S8x4x512x1536 .bf16) (T : FVec Ideal S32x24 .f32)

/-- The outputs over the whole arrays. -/
def resultO : FVec Ideal S8x2048x512 .bf16 := fun y =>
  have h1 : (y 1).val < 2048 := (y 1).2
  have h2 : (y 2).val < 512 := (y 2).2
  outAt A T (y 0) ⟨(y 1).val / 512, by omega⟩ ⟨(y 2).val / 64, by omega⟩ ⟨(y 1).val % 512, by omega⟩ ⟨(y 2).val % 64, by omega⟩

/-- The log-sum-exps over the whole arrays, a lane per head and the other lanes zero. -/
def resultL : FVec Ideal S8x2048x128 .f32 := fun y =>
  have h1 : (y 1).val < 2048 := (y 1).2
  if hn : (y 2).val < 8 then lseAt A T (y 0) ⟨(y 1).val / 512, by omega⟩ ⟨(y 2).val, hn⟩ ⟨(y 1).val % 512, by omega⟩ else (0 : EReal)

end

/-- The batch of grid point `t`. -/
def batch (t : Fin cfg0.N) : Fin 8 := ⟨t.val, by have h := t.isLt; have e : cfg0.N = 8 := N_0; omega⟩

theorem at0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem at2 : ∀ t : Fin cfg0.N, win0_2.index t 0 = t.val ∧ win0_2.index t 1 = 0 ∧ win0_2.index t 2 = 1 :=
  (by decide +kernel : ∀ t : Fin grid0.N, win0_2.index t 0 = t.val ∧ win0_2.index t 1 = 0 ∧ win0_2.index t 2 = 1)
theorem at4 : ∀ t : Fin cfg0.N, win0_4.index t 0 = t.val ∧ win0_4.index t 1 = 0 ∧ win0_4.index t 2 = 2 :=
  (by decide +kernel : ∀ t : Fin grid0.N, win0_4.index t 0 = t.val ∧ win0_4.index t 1 = 0 ∧ win0_4.index t 2 = 2)
theorem at5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
theorem at6 : ∀ t : Fin cfg0.N, win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0)
theorem at7 : ∀ t : Fin cfg0.N, win0_7.index t 0 = t.val ∧ win0_7.index t 1 = 0 ∧ win0_7.index t 2 = 0 :=
  (by decide +kernel : ∀ t : Fin grid0.N, win0_7.index t 0 = t.val ∧ win0_7.index t 1 = 0 ∧ win0_7.index t 2 = 0)

variable (m : (ℓ : Loc nD τ sig) → Buf (Elt Ideal) ℓ) (ρ : Dev nD → PrngReg) (c : Dev nD) (t : Fin cfg0.N)

/-- The projection and the table the kernel was called with. -/
abbrev argA : FVec Ideal S8x4x512x1536 .bf16 := m ((c : Thread nD τ).loc main_arg0)
abbrev argT : FVec Ideal S32x24 .f32 := m ((c : Thread nD τ).loc main_arg1)

theorem flat_apply (b : Fin 8) (r : Fin 2048) (n : Fin 1536) :
    (V m c main_v122 : FVec Ideal S8x2048x1536 .bf16) (ix3 b r n) = argA m c (ix4 b ⟨r.val / 512, by omega⟩ ⟨r.val % 512, by omega⟩ n) := by
  rw [V_flat]
  show shapeCast S8x2048x1536 (argA m c) shapeCasts_S8x4x512x1536_S8x2048x1536 (ix3 b r n) = _
  pointwise []

theorem blk0 (r : Fin 2048) (k : Fin 512) : iblk m c 0 t (ix3 0 r k) = argA m c (ix4 (batch t) ⟨r.val / 512, by omega⟩ ⟨r.val % 512, by omega⟩ ⟨k.val, by omega⟩) := by
  refine Eq.trans ?_ (flat_apply m c (batch t) r ⟨k.val, by omega⟩)
  show V m c main_v122 _ = _
  refine congrArg _ (funext fun a => Fin.ext ?_)
  match a with
  | ⟨0, _⟩ => show win0_0.index t 0 * 1 + 1 * 0 = t.val; rw [(at0 t).1]; omega
  | ⟨1, _⟩ => show win0_0.index t 1 * 2048 + 1 * r.val = r.val; rw [(at0 t).2.1]; omega
  | ⟨2, _⟩ => show win0_0.index t 2 * 512 + 1 * k.val = k.val; rw [(at0 t).2.2]; omega

theorem blk2 (r : Fin 2048) (k : Fin 512) : iblk m c 2 t (ix3 0 r k) = argA m c (ix4 (batch t) ⟨r.val / 512, by omega⟩ ⟨r.val % 512, by omega⟩ ⟨512 + k.val, by omega⟩) := by
  refine Eq.trans ?_ (flat_apply m c (batch t) r ⟨512 + k.val, by omega⟩)
  show V m c main_v122 _ = _
  refine congrArg _ (funext fun a => Fin.ext ?_)
  match a with
  | ⟨0, _⟩ => show win0_2.index t 0 * 1 + 1 * 0 = t.val; rw [(at2 t).1]; omega
  | ⟨1, _⟩ => show win0_2.index t 1 * 2048 + 1 * r.val = r.val; rw [(at2 t).2.1]; omega
  | ⟨2, _⟩ => show win0_2.index t 2 * 512 + 1 * k.val = 512 + k.val; rw [(at2 t).2.2]; omega

theorem blk4 (r : Fin 2048) (k : Fin 512) : iblk m c 4 t (ix3 0 r k) = argA m c (ix4 (batch t) ⟨r.val / 512, by omega⟩ ⟨r.val % 512, by omega⟩ ⟨1024 + k.val, by omega⟩) := by
  refine Eq.trans ?_ (flat_apply m c (batch t) r ⟨1024 + k.val, by omega⟩)
  show V m c main_v122 _ = _
  refine congrArg _ (funext fun a => Fin.ext ?_)
  match a with
  | ⟨0, _⟩ => show win0_4.index t 0 * 1 + 1 * 0 = t.val; rw [(at4 t).1]; omega
  | ⟨1, _⟩ => show win0_4.index t 1 * 2048 + 1 * r.val = r.val; rw [(at4 t).2.1]; omega
  | ⟨2, _⟩ => show win0_4.index t 2 * 512 + 1 * k.val = 1024 + k.val; rw [(at4 t).2.2]; omega

theorem blk5 (h : Fin 8) (q : Fin 128) (j : Fin 256) : iblk m c 5 t (ix3 h q j)
    = if q.val ≤ j.val ∧ j.val ≤ q.val + 128 then biasAt (argT m c) h (BitVec.ofNat 32 (q.val + 128 - j.val)) else ⊥ := by
  refine Eq.trans ?_ (V_bias m c h q j)
  show V m c main_v121 _ = _
  refine congrArg _ (funext fun a => Fin.ext ?_)
  match a with
  | ⟨0, _⟩ => show win0_5.index t 0 * 8 + 1 * h.val = h.val; rw [(at5 t).1]; omega
  | ⟨1, _⟩ => show win0_5.index t 1 * 128 + 1 * q.val = q.val; rw [(at5 t).2.1]; omega
  | ⟨2, _⟩ => show win0_5.index t 2 * 256 + 1 * j.val = j.val; rw [(at5 t).2.2]; omega

/-- What is added to a score: the bias at the two positions' distance, minus infinity at a position the query does not see. -/
theorem pen_eq (h : Fin 8) (r : Fin 2048) (κ : Fin 512) : bPen (iblk m c 5 t) h r κ
    = if κ.val ≤ r.val % 512 ∧ r.val % 512 ≤ κ.val + 128 then biasAt (argT m c) h (BitVec.ofNat 32 (r.val % 512 - κ.val)) else ⊥ := by
  unfold bPen
  by_cases e : 128 * (r.val % 512 / 128) ≤ κ.val + 128 ∧ κ.val < 128 * (r.val % 512 / 128) + 128
  · rw [dif_pos e, blk5]
    dsimp only
    by_cases g : κ.val ≤ r.val % 512 ∧ r.val % 512 ≤ κ.val + 128
    · have hd : r.val % 128 + 128 - (κ.val + 128 - 128 * (r.val % 512 / 128)) = r.val % 512 - κ.val := by omega
      rw [if_pos g, if_pos (by omega), hd]
    · rw [if_neg g, if_neg (by omega)]
  · rw [dif_neg e, if_neg (by omega)]

/-- A block's scores are those of its tokens. -/
theorem score_eq (h : Fin 8) (r : Fin 2048) (κ : Fin 512) : bScore (iblk m c 0 t) (iblk m c 2 t) (iblk m c 5 t) h r κ
    = AttnMid.score (argA m c) (argT m c) (batch t) ⟨r.val / 512, by omega⟩ h ⟨r.val % 512, by omega⟩ κ := by
  unfold bScore AttnMid.score
  refine congrArg₂ (fun u v : EReal => u + v) (Finset.sum_congr rfl fun d _ => ?_) (pen_eq m c t h r κ)
  rw [blk0, blk2]
  refine congrArg (fun u : EReal => _ * FloatOps.ofBits (F := Ideal) .bf16 0x3E00#16 * u) (congrArg₂ (fun p s => argA m c (ix4 (batch t) p s _)) (Fin.ext ?_) (Fin.ext ?_))
  · dsimp only; omega
  · dsimp only; omega

theorem peak_eq (h : Fin 8) (r : Fin 2048) : bMax (iblk m c 0 t) (iblk m c 2 t) (iblk m c 5 t) h r
    = peak (argA m c) (argT m c) (batch t) ⟨r.val / 512, by omega⟩ h ⟨r.val % 512, by omega⟩ :=
  congrArg wide (funext fun κ => score_eq m c t h r κ)

theorem weight_eq (h : Fin 8) (r : Fin 2048) (κ : Fin 512) : bExp (iblk m c 0 t) (iblk m c 2 t) (iblk m c 5 t) h r κ
    = weight (argA m c) (argT m c) (batch t) ⟨r.val / 512, by omega⟩ h ⟨r.val % 512, by omega⟩ κ := by
  unfold bExp weight
  rw [score_eq, peak_eq]

theorem total_eq (h : Fin 8) (r : Fin 2048) : bDen (iblk m c 0 t) (iblk m c 2 t) (iblk m c 5 t) h r
    = total (argA m c) (argT m c) (batch t) ⟨r.val / 512, by omega⟩ h ⟨r.val % 512, by omega⟩ :=
  Finset.sum_congr rfl fun κ _ => weight_eq m c t h r κ

/-- The two results over device `c`'s argument arrays. -/
abbrev finalO : Buf (Elt Ideal) ((c : Thread nD τ).loc main_v123_0) := resultO (argA m c) (argT m c)
abbrev finalL : Buf (Elt Ideal) ((c : Thread nD τ).loc main_v123_1) := resultL (argA m c) (argT m c)

theorem emb6 (r : Fin 2048) (n : Fin 512) : ((cfg0.win 6).blk t).view.emb (ix3 0 r n) = (ix3 (batch t) r n : S8x2048x512.Idx) := by
  refine funext fun a => Fin.ext ?_
  match a with
  | ⟨0, _⟩ => show win0_6.index t 0 * 1 + 1 * 0 = t.val; rw [(at6 t).1]; omega
  | ⟨1, _⟩ => show win0_6.index t 1 * 2048 + 1 * r.val = r.val; rw [(at6 t).2.1]; omega
  | ⟨2, _⟩ => show win0_6.index t 2 * 512 + 1 * n.val = n.val; rw [(at6 t).2.2]; omega

theorem emb7 (r : Fin 2048) (n : Fin 128) : ((cfg0.win 7).blk t).view.emb (ix3 0 r n) = (ix3 (batch t) r n : S8x2048x128.Idx) := by
  refine funext fun a => Fin.ext ?_
  match a with
  | ⟨0, _⟩ => show win0_7.index t 0 * 1 + 1 * 0 = t.val; rw [(at7 t).1]; omega
  | ⟨1, _⟩ => show win0_7.index t 1 * 2048 + 1 * r.val = r.val; rw [(at7 t).2.1]; omega
  | ⟨2, _⟩ => show win0_7.index t 2 * 128 + 1 * n.val = n.val; rw [(at7 t).2.2]; omega

/-- Grid point `t` writes back its batch's outputs. -/
theorem flushedO : (dats m 0 c).flushed 6 t = ((cfg0.win 6).blk t).view.read (Elt Ideal) (finalO m c) := by
  rw [Value.flushed6]
  funext y
  obtain ⟨z, r, n, rfl⟩ : ∃ (z : Fin 1) (r : Fin 2048) (n : Fin 512), (ix3 z r n : S1x2048x512.Idx) = y := ⟨y 0, y 1, y 2, (eq_ix3 y).symm⟩
  obtain rfl : z = 0 := Subsingleton.elim _ _
  refine (congrFun (out0_6_eq _ _ _ _ _ _) (ix3 0 r n)).trans ?_
  show blockO _ _ _ _ (ix3 0 r n) = finalO m c (((cfg0.win 6).blk t).view.emb (ix3 0 r n))
  rw [emb6]
  show Ideal.div (bNum _ _ _ _ r n) (bDen _ _ _ ⟨n.val / 64, by omega⟩ r)
    = Ideal.div (∑ κ : Fin 512, weight _ _ _ _ _ _ κ * argA m c (ix4 (batch t) ⟨r.val / 512, by omega⟩ κ ⟨1024 + (64 * (n.val / 64) + n.val % 64), by omega⟩)) (total _ _ _ _ _ _)
  rw [total_eq]
  unfold bNum
  refine congrArg (fun u => Ideal.div u _) (Finset.sum_congr rfl fun κ _ => ?_)
  rw [weight_eq, blk4]
  refine congrArg (fun u : EReal => _ * u) (congrArg (argA m c) (funext fun a => Fin.ext ?_))
  match a with
  | ⟨0, _⟩ => rfl
  | ⟨1, _⟩ => show (512 * (r.val / 512) + κ.val) / 512 = r.val / 512; omega
  | ⟨2, _⟩ => show (512 * (r.val / 512) + κ.val) % 512 = κ.val; omega
  | ⟨3, _⟩ => show 1024 + n.val = 1024 + (64 * (n.val / 64) + n.val % 64); omega

/-- Grid point `t` writes back its batch's log-sum-exps. -/
theorem flushedL : (dats m 0 c).flushed 7 t = ((cfg0.win 7).blk t).view.read (Elt Ideal) (finalL m c) := by
  rw [Value.flushed7]
  funext y
  obtain ⟨z, r, n, rfl⟩ : ∃ (z : Fin 1) (r : Fin 2048) (n : Fin 128), (ix3 z r n : S1x2048x128.Idx) = y := ⟨y 0, y 1, y 2, (eq_ix3 y).symm⟩
  obtain rfl : z = 0 := Subsingleton.elim _ _
  refine (congrFun (out0_7_eq _ _ _ _ _ _) (ix3 0 r n)).trans ?_
  show blockL _ _ _ (ix3 0 r n) = finalL m c (((cfg0.win 7).blk t).view.emb (ix3 0 r n))
  rw [emb7]
  show (if h : n.val < 8 then bMax _ _ _ ⟨n.val, h⟩ r + Ideal.log (bDen _ _ _ ⟨n.val, h⟩ r) else 0 + Ideal.log 1)
    = if h : n.val < 8 then lseAt _ _ (batch t) ⟨r.val / 512, by omega⟩ ⟨n.val, h⟩ ⟨r.val % 512, by omega⟩ else (0 : EReal)
  split
  · rw [peak_eq, total_eq]; rfl
  · rw [zero_add]
    show (if (1 : ℝ) ≤ 0 then ⊥ else ((Real.log 1 : ℝ) : EReal)) = 0
    rw [if_neg (by norm_num), Real.log_one]; rfl

theorem coverO (y : S8x2048x512.Idx) : ∃ t : Fin cfg0.N, (cfg0.win 6).flush t = true ∧ y ∈ ((cfg0.win 6).blk t).view.set := by
  have hN : cfg0.N = 8 := N_0
  have h0 : (y 0).val < 8 := (y 0).isLt
  refine ⟨⟨(y 0).val, by omega⟩, flush0_6 _, Finset.mem_map.mpr ⟨_, Finset.mem_univ _, (emb6 ⟨(y 0).val, by omega⟩ (y 1) (y 2)).trans ?_⟩⟩
  exact (eq_ix3 y).symm

theorem coverL (y : S8x2048x128.Idx) : ∃ t : Fin cfg0.N, (cfg0.win 7).flush t = true ∧ y ∈ ((cfg0.win 7).blk t).view.set := by
  have hN : cfg0.N = 8 := N_0
  have h0 : (y 0).val < 8 := (y 0).isLt
  refine ⟨⟨(y 0).val, by omega⟩, flush0_7 _, Finset.mem_map.mpr ⟨_, Finset.mem_univ _, (emb7 ⟨(y 0).val, by omega⟩ (y 1) (y 2)).trans ?_⟩⟩
  exact (eq_ix3 y).symm

/-- The kernel's two result arrays after the run. -/
theorem finalO_eq : (dats m 0 c).arrAt 6 cfg0.N = finalO m c := (dats m 0 c).arrAt_eq_of_cover 6 (finalO m c) (fun t _ => flushedO m c t) coverO
theorem finalL_eq : (dats m 0 c).arrAt 7 cfg0.N = finalL m c := (dats m 0 c).arrAt_eq_of_cover 7 (finalL m c) (fun t _ => flushedL m c t) coverL

end Cert.AttnMidIdeal.Val

end
-- ==== Proof.MidRef.lean ====
/- The reference of the middle group's attention, read at an entry. -/
module

public import proofs.«01_k».proof.Proof.MidTable
public import proofs.«01_k».proof.Proof.MidMask
public import proofs.«01_k».proof.Proof.Gen.AttnMidRefIdeal.Read

@[expose] public section

set_option maxRecDepth 16384

noncomputable section

namespace Cert.AttnMidRefIdeal.Val

open Idealize.ShloMosaic Idealize.ShloMosaic.TcCoe Idealize.SL.Sem Cert.AttnMidRefIdeal Cert.AttnMidRefIdeal.Read
open Cert.Attn (row wrap)
open Cert.AttnMid

variable (A : FVec Ideal S8x4x512x1536 .bf16) (T : FVec Ideal S32x24 .f32) (b : Fin 8) (r : Fin 4) (h : Fin 8) (q κ : Fin 512) (d : Fin 64)

theorem query : val_main_v3 (F := Ideal) A (ix5 b r q h d) = A (ix4 b r q ⟨64 * h.val + d.val, by omega⟩) := by
  unfold val_main_v3 val_main_v2 val_main_v1 val_main_v0
  pointwise []
  exact congrArg (fun z => A (ix4 b r q z)) (Fin.ext (by dsimp only; omega))

theorem key : val_main_v5 (F := Ideal) A (ix5 b r q h d) = A (ix4 b r q ⟨512 + (64 * h.val + d.val), by omega⟩) := by
  unfold val_main_v5 val_main_v4 val_main_v1 val_main_v0
  pointwise []
  exact congrArg (fun z => A (ix4 b r q z)) (Fin.ext (by dsimp only; omega))

theorem value : val_main_v7 (F := Ideal) A (ix5 b r q h d) = A (ix4 b r q ⟨1024 + (64 * h.val + d.val), by omega⟩) := by
  unfold val_main_v7 val_main_v6 val_main_v1 val_main_v0
  pointwise []
  exact congrArg (fun z => A (ix4 b r q z)) (Fin.ext (by dsimp only; omega))

theorem gap : val_main_v14 (F := Ideal) (ix2 q κ) = IntOp.subi (BitVec.ofNat 32 q.val) (BitVec.ofNat 32 κ.val) := rfl

theorem bucketed : val_main_v35 (F := Ideal) (ix2 q κ) = AttnMid.bucket (IntOp.subi (BitVec.ofNat 32 q.val) (BitVec.ofNat 32 κ.val)) := by
  rfl

theorem wrapped : val_main_v41 (F := Ideal) (ix3 q κ 0) = wrap (AttnMid.bucket (IntOp.subi (BitVec.ofNat 32 q.val) (BitVec.ofNat 32 κ.val))) := by
  rfl

theorem bias : val_main_v49 (F := Ideal) T (ix5 b r h q κ) = AttnMid.biasAt T h (IntOp.subi (BitVec.ofNat 32 q.val) (BitVec.ofNat 32 κ.val)) := by
  rw [val_main_v49_apply, val_main_v48_apply, val_main_v44_apply, val_main_v43_apply]
  have e : idx_main_v43 (idx_main_v44 (idx_main_v48 (idx_main_v49 (ix5 b r h q κ)))) = ix3 q κ (⟨8 + h.val, by omega⟩ : Fin 24) := by
    refine funext fun a => Fin.ext ?_
    match a with
    | ⟨0, _⟩ => rfl
    | ⟨1, _⟩ => rfl
    | ⟨2, _⟩ => rfl
  rw [e]
  unfold val_main_v42
  rw [gatherPair, wrapped]
  rfl

theorem eighth : FloatOps.ofBits (F := Ideal) .f32 0x3E000000#32 = FloatOps.ofBits (F := Ideal) .bf16 0x3E00#16 := by
  show Ideal.ofBits .f32 0x3E000000#32 = Ideal.ofBits .bf16 0x3E00#16
  simp only [Ideal.ofBits, Ideal.ieee]
  simp
  rw [← EReal.coe_mul, ← EReal.coe_mul]
  norm_num

theorem scores : val_main_v56 (F := Ideal) A T (ix5 b r h q κ) = AttnMid.score A T b r h q κ := by
  rw [val_main_v56_apply, val_main_call2_v1_apply, val_main_v50_apply, bias]
  have hs : val_main_v55 (F := Ideal) (idx_main_call2_v1 (ix5 b r h q κ)) = if κ.val ≤ q.val ∧ q.val ≤ κ.val + 128 then 1#1 else 0#1 := seen_eq q κ
  rw [hs]
  have hd : val_main_v47 (F := Ideal) A (ix5 b r h q κ)
      = ∑ d : Fin 64, A (ix4 b r q ⟨64 * h.val + d.val, by omega⟩) * FloatOps.ofBits (F := Ideal) .bf16 0x3E00#16 * A (ix4 b r κ ⟨512 + (64 * h.val + d.val), by omega⟩) := by
    rw [val_main_v47_apply]
    refine Finset.sum_congr rfl fun d _ => ?_
    refine congrArg₂ (fun u v : EReal => u * v) ?_ (key A b r h κ d)
    rw [val_main_v46_apply]
    exact congrArg₂ (fun u v : EReal => u * v) (query A b r h q d) eighth
  rw [hd]
  unfold score
  split
  · next e => rw [sub_eq q κ e.1]; rfl
  · rw [EReal.add_bot]
    exact AttnIdeal.Val.bottom_eq

theorem peaks : val_main_v57 (F := Ideal) A T (ix4 b r h q) = AttnMid.peak A T b r h q := by
  unfold val_main_v57
  pointwise [scores]
  rfl

theorem weights : val_main_v61 (F := Ideal) A T (ix5 b r h q κ) = AttnMid.weight A T b r h q κ := by
  have e : idx_main_v58 (idx_main_v59 (ix5 b r h q κ)) = ix4 b r h q := by
    refine funext fun a => Fin.ext ?_
    match a with
    | ⟨0, _⟩ => rfl
    | ⟨1, _⟩ => rfl
    | ⟨2, _⟩ => rfl
    | ⟨3, _⟩ => rfl
  rw [val_main_v61_apply, val_main_v60_apply, val_main_v59_apply, val_main_v58_apply, scores, e]
  exact congrArg (fun u : EReal => Ideal.exp (AttnMid.score A T b r h q κ - u)) (peaks A T b r h q)

theorem totals : val_main_v63 (F := Ideal) A T (ix5 b r h q 0) = AttnMid.total A T b r h q := by
  have e (κ : Fin 512) : idx_main_v62 (idx_main_v63 (ix5 b r h q 0)) κ = ix5 b r h q κ := by
    refine funext fun a => Fin.ext ?_
    match a with
    | ⟨0, _⟩ => rfl
    | ⟨1, _⟩ => rfl
    | ⟨2, _⟩ => rfl
    | ⟨3, _⟩ => rfl
    | ⟨4, _⟩ => rfl
  have z : (val_main_cst_15 (F := Ideal)) (Shape.Idx.first Gen.h_S_) = (0 : EReal) := by
    show Ideal.ofBits .f32 0x00000000#32 = 0
    simp [Ideal.ofBits, Ideal.ieee]
  rw [val_main_v63_apply, val_main_v62_apply, z, zero_add]
  unfold total
  refine Finset.sum_congr rfl fun κ _ => ?_
  rw [e]
  exact weights A T b r h q κ

theorem outs : val_main_v66 (F := Ideal) A T (ix5 b r h q d) = AttnMid.outAt A T b r h q d := by
  have e : idx_main_v65 (ix5 b r h q d) = ix5 b r h q 0 := by
    refine funext fun a => Fin.ext ?_
    match a with
    | ⟨0, _⟩ => rfl
    | ⟨1, _⟩ => rfl
    | ⟨2, _⟩ => rfl
    | ⟨3, _⟩ => rfl
    | ⟨4, _⟩ => rfl
  have el (κ : Fin 512) : lidx_main_v64 (ix5 b r h q d) κ = ix5 b r h q κ := by
    refine funext fun a => Fin.ext ?_
    match a with
    | ⟨0, _⟩ => rfl
    | ⟨1, _⟩ => rfl
    | ⟨2, _⟩ => rfl
    | ⟨3, _⟩ => rfl
    | ⟨4, _⟩ => rfl
  have er (κ : Fin 512) : ridx_main_v64 (ix5 b r h q d) κ = ix5 b r κ h d := by
    refine funext fun a => Fin.ext ?_
    match a with
    | ⟨0, _⟩ => rfl
    | ⟨1, _⟩ => rfl
    | ⟨2, _⟩ => rfl
    | ⟨3, _⟩ => rfl
    | ⟨4, _⟩ => rfl
  have hn : val_main_v64 (F := Ideal) A T (ix5 b r h q d) = ∑ κ : Fin 512, AttnMid.weight A T b r h q κ * A (ix4 b r κ ⟨1024 + (64 * h.val + d.val), by omega⟩) := by
    rw [val_main_v64_apply]
    refine Finset.sum_congr rfl fun κ _ => ?_
    rw [el, er, weights, value]
  rw [val_main_v66_apply, val_main_v65_apply, e, totals, hn]
  rfl

theorem lses : val_main_v69 (F := Ideal) A T (ix5 b r h q 0) = AttnMid.lseAt A T b r h q := by
  have e : idx_main_v58 (ix5 b r h q 0) = ix4 b r h q := by
    refine funext fun a => Fin.ext ?_
    match a with
    | ⟨0, _⟩ => rfl
    | ⟨1, _⟩ => rfl
    | ⟨2, _⟩ => rfl
    | ⟨3, _⟩ => rfl
  rw [val_main_v69_apply, val_main_v58_apply, val_main_v68_apply, totals, e, peaks]
  rfl

/-- The reference's outputs, flat. -/
theorem v75_apply (t : Fin 2048) (n : Fin 512) : val_main_v75 (F := Ideal) A T (ix3 b t n)
    = AttnMid.outAt A T b ⟨t.val / 512, by omega⟩ ⟨n.val / 64, by omega⟩ ⟨t.val % 512, by omega⟩ ⟨n.val % 64, by omega⟩ := by
  rw [val_main_v75_apply, val_main_v74_apply, val_main_v67_apply]
  refine (congrArg (val_main_v66 (F := Ideal) A T) (funext fun a => Fin.ext ?_)).trans (outs A T b ⟨t.val / 512, by omega⟩ ⟨n.val / 64, by omega⟩ ⟨t.val % 512, by omega⟩ ⟨n.val % 64, by omega⟩)
  match a with
  | ⟨0, _⟩ => show ((b.val * 2048 + t.val) * 512 + n.val) / 1048576 = b.val; omega
  | ⟨1, _⟩ => show ((b.val * 2048 + t.val) * 512 + n.val) / 262144 % 4 = t.val / 512; omega
  | ⟨2, _⟩ => show ((b.val * 2048 + t.val) * 512 + n.val) / 64 % 8 = n.val / 64; omega
  | ⟨3, _⟩ => show ((b.val * 2048 + t.val) * 512 + n.val) / 512 % 512 = t.val % 512; omega
  | ⟨4, _⟩ => show ((b.val * 2048 + t.val) * 512 + n.val) % 64 = n.val % 64; omega

theorem v72_apply (t : Fin 2048) : val_main_v72 (F := Ideal) A T (ix3 b t h)
    = AttnMid.lseAt A T b ⟨t.val / 512, by omega⟩ h ⟨t.val % 512, by omega⟩ := by
  have e72 : idx_main_v72 (ix3 b t h) = ix4 b (⟨t.val / 512, by omega⟩ : Fin 4) (⟨t.val % 512, by omega⟩ : Fin 512) h := by
    refine funext fun a => Fin.ext ?_
    match a with
    | ⟨0, _⟩ => show ((b.val * 2048 + t.val) * 8 + h.val) / 16384 = b.val; omega
    | ⟨1, _⟩ => show ((b.val * 2048 + t.val) * 8 + h.val) / 4096 % 4 = t.val / 512; omega
    | ⟨2, _⟩ => show ((b.val * 2048 + t.val) * 8 + h.val) / 8 % 512 = t.val % 512; omega
    | ⟨3, _⟩ => show ((b.val * 2048 + t.val) * 8 + h.val) % 8 = h.val; omega
  have e71 (r : Fin 4) (q : Fin 512) : idx_main_v71 (ix4 b r q h) = ix4 b r h q := by
    refine funext fun a => Fin.ext ?_
    match a with
    | ⟨0, _⟩ => rfl
    | ⟨1, _⟩ => rfl
    | ⟨2, _⟩ => rfl
    | ⟨3, _⟩ => rfl
  have e70 (r : Fin 4) (q : Fin 512) : idx_main_v70 (ix4 b r h q) = ix5 b r h q 0 := by
    refine funext fun a => Fin.ext ?_
    match a with
    | ⟨0, _⟩ => show (((b.val * 4 + r.val) * 8 + h.val) * 512 + q.val) / 16384 = b.val; omega
    | ⟨1, _⟩ => show (((b.val * 4 + r.val) * 8 + h.val) * 512 + q.val) / 4096 % 4 = r.val; omega
    | ⟨2, _⟩ => show (((b.val * 4 + r.val) * 8 + h.val) * 512 + q.val) / 512 % 8 = h.val; omega
    | ⟨3, _⟩ => show (((b.val * 4 + r.val) * 8 + h.val) * 512 + q.val) / 1 % 512 = q.val; omega
    | ⟨4, _⟩ => rfl
  rw [val_main_v72_apply, e72, val_main_v71_apply, e71, val_main_v70_apply, e70, lses]

/-- The reference's log-sum-exps, a lane per head and the other lanes zero. -/
theorem v73_apply (t : Fin 2048) (n : Fin 128) : val_main_v73 (F := Ideal) A T (ix3 b t n)
    = if hn : n.val < 8 then AttnMid.lseAt A T b ⟨t.val / 512, by omega⟩ ⟨n.val, hn⟩ ⟨t.val % 512, by omega⟩ else 0 := by
  unfold val_main_v73
  pointwise [v72_apply]
  split
  · rfl
  · show FloatOps.sitofp (F := Ideal) .f32 0#32 = (0 : EReal)
    simp [FloatOps.sitofp]

end Cert.AttnMidRefIdeal.Val

end
-- ==== Proof.MidClaim.lean ====
/- The value claim of the middle group's attention: the kernel and its reference leave the same outputs and log-sum-exps. -/
module

public import proofs.«01_k».proof.Defs
public import proofs.«01_k».proof.Proof.Gen.AttnMid
public import proofs.«01_k».proof.Proof.Gen.AttnMidRefIdeal.Run
public import proofs.«01_k».proof.Proof.MidValue
public import proofs.«01_k».proof.Proof.MidRef

@[expose] public section

set_option maxRecDepth 16384

noncomputable section

namespace Cert.AttnMidIdeal.Val

open Idealize.ShloMosaic Idealize.ShloMosaic.TcCoe Idealize.SL.Sem

/-- The reference's results are the attention over the whole arrays, whichever equal arrays it reads. -/
theorem referenceO {x0 y0 : FVec Ideal S8x4x512x1536 .bf16} {x1 y1 : FVec Ideal S32x24 .f32}
    (e0 : x0 = y0) (e1 : x1 = y1) : AttnMidRefIdeal.Read.val_main_v75 (F := Ideal) x0 x1 = resultO y0 y1 := by
  subst e0 e1
  funext y
  obtain ⟨b, r, n, rfl⟩ : ∃ (b : Fin 8) (r : Fin 2048) (n : Fin 512), (ix3 b r n : S8x2048x512.Idx) = y := ⟨y 0, y 1, y 2, (eq_ix3 y).symm⟩
  exact AttnMidRefIdeal.Val.v75_apply x0 x1 b r n

theorem referenceL {x0 y0 : FVec Ideal S8x4x512x1536 .bf16} {x1 y1 : FVec Ideal S32x24 .f32}
    (e0 : x0 = y0) (e1 : x1 = y1) : AttnMidRefIdeal.Read.val_main_v73 (F := Ideal) x0 x1 = resultL y0 y1 := by
  subst e0 e1
  funext y
  obtain ⟨b, r, n, rfl⟩ : ∃ (b : Fin 8) (r : Fin 2048) (n : Fin 128), (ix3 b r n : S8x2048x128.Idx) = y := ⟨y 0, y 1, y 2, (eq_ix3 y).symm⟩
  exact AttnMidRefIdeal.Val.v73_apply x0 x1 b r n

/-- From arguments that agree, the kernel and the reference both end with the attention, their arguments unchanged. -/
theorem claim : algebraic_AttnMidIdeal_AttnMidRefIdeal := by
  intro m g m' g' _ e
  refine ⟨fun c => finalO m c, fun c => finalL m c,
    (θ_run _ _ _).mono (fun r h c => ⟨((h c).1).trans (finalO_eq m c), ((h c).2.1).trans (finalL_eq m c), (h c).2.2⟩) (Value.run_blocks m g),
    (θ_run _ _ _).mono (fun r h c => ⟨?_, ?_, (h c).2.2⟩) (AttnMidRefIdeal.Value.run m' g')⟩
  · obtain ⟨e0, e1⟩ := e c
    rw [(h c).1]
    exact (AttnMidRefIdeal.Read.val_main_v75_eq _ _).trans (referenceO e0 e1)
  · obtain ⟨e0, e1⟩ := e c
    rw [(h c).2.1]
    exact (AttnMidRefIdeal.Read.val_main_v73_eq _ _).trans (referenceL e0 e1)

end Cert.AttnMidIdeal.Val

end
-- ==== Proof.AbKernel.lean ====
/- The steps of the projection ahead of the even layer's mixers, index by index: the modulated tokens multiplied by a
   group of weights, the mix of each row with the row before it, and the short gated convolution over three rows. -/
module

public import proofs.«01_k».proof.Proof.Gen.AbIdeal.Frame
public import Idealize.ShloMosaic.Lib.Pointwise
public import Idealize.ShloMosaic.PureOps.Ideal.Laws
public import Idealize.ShloMosaic.Lib.Pipeline.ReadBack

@[expose] public section

set_option maxRecDepth 16384

noncomputable section

namespace Cert.AbIdeal.Val

open Idealize.ShloMosaic Cert.AbIdeal.Gen
open scoped BigOperators

/-- Row `r - 1` of a tile, or `q` ahead of its first row. -/
def prev1 (a : Fin 1024 → EReal) (q : EReal) (r : Fin 1024) : EReal :=
  if r.val = 0 then q else a ⟨r.val - 1, by omega⟩

/-- Row `r - 2` of a tile, or `q2`, `q1` ahead of its first row. -/
def prev2 (a : Fin 1024 → EReal) (q1 q2 : EReal) (r : Fin 1024) : EReal :=
  if r.val = 0 then q2 else if r.val = 1 then q1 else a ⟨r.val - 2, by omega⟩

/-- A choice by the row's number, among the first eight rows. -/
theorem pick (r k : Fin 8) (a b : EReal) :
    Scalar.select (IntOp.cmpi CmpIPredicate.eq (BitVec.ofNat 32 r.val) (BitVec.ofNat 32 k.val)) a b = if r.val = k.val then a else b := by
  fin_cases r <;> fin_cases k <;> rfl

/-- Rows rotated by one with the first replaced. -/
theorem shift1 (a : Fin 1024 → EReal) (q : EReal) (r : Fin 1024) :
    (if h : r.val < 8 then Scalar.select (IntOp.cmpi CmpIPredicate.eq (BitVec.ofNat 32 r.val) 0#32) q
        (a ⟨(r.val + 1024 - 1) % 1024, Nat.mod_lt _ (by decide)⟩)
      else a ⟨(8 + (r.val - 8) + 1024 - 1) % 1024, Nat.mod_lt _ (by decide)⟩) = prev1 a q r := by
  unfold prev1
  by_cases h : r.val < 8
  · rw [dif_pos h, show Scalar.select (IntOp.cmpi CmpIPredicate.eq (BitVec.ofNat 32 r.val) 0#32) q _ = _ from pick ⟨r.val, h⟩ 0 q _]
    show (if r.val = 0 then _ else _) = _
    by_cases h0 : r.val = 0
    · rw [if_pos h0, if_pos h0]
    · rw [if_neg h0, if_neg h0]
      exact congrArg a (Fin.ext (show (r.val + 1024 - 1) % 1024 = r.val - 1 by omega))
  · rw [dif_neg h, if_neg (by omega)]
    exact congrArg a (Fin.ext (show (8 + (r.val - 8) + 1024 - 1) % 1024 = r.val - 1 by omega))

/-- Rows rotated by two with the first two replaced. -/
theorem shift2 (a : Fin 1024 → EReal) (q1 q2 : EReal) (r : Fin 1024) :
    (if h : r.val < 8 then Scalar.select (IntOp.cmpi CmpIPredicate.eq (BitVec.ofNat 32 r.val) 1#32) q1
        (Scalar.select (IntOp.cmpi CmpIPredicate.eq (BitVec.ofNat 32 r.val) 0#32) q2
          (a ⟨(r.val + 1024 - 2) % 1024, Nat.mod_lt _ (by decide)⟩))
      else a ⟨(8 + (r.val - 8) + 1024 - 2) % 1024, Nat.mod_lt _ (by decide)⟩) = prev2 a q1 q2 r := by
  unfold prev2
  by_cases h : r.val < 8
  · rw [dif_pos h, show Scalar.select (IntOp.cmpi CmpIPredicate.eq (BitVec.ofNat 32 r.val) 1#32) q1 _ = _ from pick ⟨r.val, h⟩ 1 q1 _,
      show Scalar.select (IntOp.cmpi CmpIPredicate.eq (BitVec.ofNat 32 r.val) 0#32) q2 _ = _ from pick ⟨r.val, h⟩ 0 q2 _]
    show (if r.val = 1 then _ else if r.val = 0 then _ else _) = _
    by_cases h0 : r.val = 0
    · rw [if_neg (by omega), if_pos h0, if_pos h0]
    · rw [if_neg h0, if_neg h0]
      by_cases h1 : r.val = 1
      · rw [if_pos h1, if_pos h1]
      · rw [if_neg h1, if_neg h1]
        exact congrArg a (Fin.ext (show (r.val + 1024 - 2) % 1024 = r.val - 2 by omega))
  · rw [dif_neg h, if_neg (by omega), if_neg (by omega)]
    exact congrArg a (Fin.ext (show (8 + (r.val - 8) + 1024 - 2) % 1024 = r.val - 2 by omega))

section
variable (u : FVec Ideal S1024x1024 .bf16)

/-- Row `r` of the modulated tokens against row `n` of a group of weights. -/
def dot {N : ℕ} (w : Vec Ideal (⟨2, ![N, 1024]⟩ : Shape) .f32) (n : Fin N) (r : Fin 1024) : EReal := ∑ k, u (ix2 r k) * w (ix2 n k)

theorem pay3_apply (v : Vec Ideal S1x6x1024 .f32) (x : Vec Ideal S1x1024x1024 .f32) (r k : Fin 1024) :
    k0_pay3 v x (ix2 r k) = x (ix3 0 r k) * (1 + v (ix3 0 1 k)) + v (ix3 0 0 k) := by
  pointwise [k0_pay3]

theorem pay8_apply (w : Vec Ideal S512x1024 .f32) (r : Fin 1024) (n : Fin 512) : k0_pay8 u w (ix2 r n) = dot u w n r := by
  unfold dot
  pointwise [k0_pay8]

theorem pay14_apply (w : Vec Ideal S384x1024 .f32) (r : Fin 1024) (n : Fin 384) : k0_pay14 u w (ix2 r n) = dot u w n r := by
  unfold dot
  pointwise [k0_pay14]

theorem pay9_apply (w : Vec Ideal S512x1024 .f32) (r : Fin 8) (n : Fin 512) : k0_pay9 u w (ix2 r n) = dot u w n ⟨1016 + r.val, by omega⟩ := by
  pointwise [k0_pay9, pay8_apply]

theorem pay17_apply (w : Vec Ideal S384x1024 .f32) (r : Fin 8) (n : Fin 384) :
    k0_pay17 (k0_pay14 u w) (ix2 r n) = dot u w n ⟨1016 + r.val, by omega⟩ := by
  pointwise [k0_pay17, pay14_apply]

/-- A group of 512 columns mixed with the row before. -/
theorem pay10_apply (w : Vec Ideal S512x1024 .f32) (q : Vec Ideal S8x512 .f32) (μ : Vec Ideal S1x512 .f32) (r : Fin 1024) (n : Fin 512) :
    k0_pay10 u w q μ (ix3 0 r n) = dot u w n r + μ (ix2 0 n) * (prev1 (dot u w n) (q (ix2 7 n)) r - dot u w n r) := by
  rw [← shift1]
  pointwise [k0_pay10, pay8_apply]

/-- The last 384 columns mixed with the row before. -/
theorem pay18_apply (w : Vec Ideal S384x1024 .f32) (q : Vec Ideal S8x384 .f32) (μ : Vec Ideal S1x384 .f32) (r : Fin 1024) (n : Fin 384) :
    k0_pay18 (k0_pay14 u w) q (k0_pay15 u w) (k0_pay16 u w) (iota .tc S8x384 32 [0] iota_S8x384_d0_w32) μ (ix3 0 r n)
      = dot u w n r + μ (ix2 0 n) * (prev1 (dot u w n) (q (ix2 7 n)) r - dot u w n r) := by
  rw [← shift1]
  pointwise [k0_pay18, k0_pay15, k0_pay16, pay14_apply]

variable (wh wc : Vec Ideal S512x1024 .f32)

/-- What the convolution runs over. -/
def gate (d : Fin 512) (r : Fin 1024) : EReal := dot u wc d r * dot u wh d r

theorem pay19_apply (r : Fin 1024) (d : Fin 512) : k0_pay19 u wh wc (ix2 r d) = gate u wh wc d r := by
  unfold gate dot
  pointwise [k0_pay19]

theorem pay24_apply (r : Fin 8) (d : Fin 512) : k0_pay24 (k0_pay19 u wh wc) (ix2 r d) = gate u wh wc d ⟨1016 + r.val, by omega⟩ := by
  pointwise [k0_pay24, pay19_apply]

/-- The gated convolution over three rows. -/
theorem pay25_apply (q : Vec Ideal S8x512 .f32) (κ : Vec Ideal S3x512 .f32) (wb : Vec Ideal S512x1024 .f32) (r : Fin 1024) (d : Fin 512) :
    k0_pay25 u (k0_pay19 u wh wc) q κ (k0_pay20 u wh wc κ) (k0_pay21 κ) (k0_pay22 u wh wc) (k0_pay23 u wh wc) wb (ix3 0 r d)
      = dot u wb d r * (κ (ix2 2 d) * gate u wh wc d r + κ (ix2 1 d) * prev1 (gate u wh wc d) (q (ix2 7 d)) r
        + κ (ix2 0 d) * prev2 (gate u wh wc d) (q (ix2 7 d)) (q (ix2 6 d)) r) := by
  rw [← shift1, ← shift2]
  unfold dot
  pointwise [k0_pay25, k0_pay20, k0_pay21, k0_pay22, k0_pay23, pay19_apply]

end

end Cert.AbIdeal.Val

end
-- ==== Proof.AbBlock.lean ====
/- What the projection ahead of the even layer's mixers leaves for one tile: its three result blocks and the rows it keeps for the
   tile after it. -/
module

public import proofs.«01_k».proof.Proof.AbKernel
import all proofs.«01_k».proof.Proof.Gen.AbIdeal.Frame.RunA
import all proofs.«01_k».proof.Proof.Gen.AbIdeal.Frame.RunB
import all proofs.«01_k».proof.Proof.Gen.AbIdeal.Frame

@[expose] public section

set_option maxRecDepth 16384

noncomputable section

namespace Cert.AbIdeal.Val

open Idealize.ShloMosaic Cert.AbIdeal.Gen
open scoped BigOperators

variable (c : Dev nD) (i : grid0.Coords) (a2 : Memref sig .tc .vmem S1x1024x1024 .f32) (h2 : a2.IsWhole)
  (a3 : Memref sig .tc .vmem S1x6x1024 .f32) (h3 : a3.IsWhole) (a4 : Memref sig .tc .vmem S3360x1024 .f32) (h4 : a4.IsWhole)
  (a5 : Memref sig .tc .vmem S1x1920 .f32) (h5 : a5.IsWhole) (a6 : Memref sig .tc .vmem S3x512 .f32) (h6 : a6.IsWhole)
  (a7 : Memref sig .tc .vmem S1x1024x1536 .bf16) (h7 : a7.IsWhole) (a8 : Memref sig .tc .vmem S1x1024x384 .bf16) (h8 : a8.IsWhole)
  (a9 : Memref sig .tc .vmem S1x1024x512 .bf16) (h9 : a9.IsWhole) (a10 : Memref sig .tc .vmem S8x1920 .f32) (h10 : a10.IsWhole)
  (a11 : Memref sig .tc .vmem S8x512 .f32) (h11 : a11.IsWhole)
  (x0 : Vec Ideal S1x1024x1024 .f32) (x1 : Vec Ideal S1x6x1024 .f32) (x2 : Vec Ideal S3360x1024 .f32) (x3 : Vec Ideal S1x1920 .f32)
  (x4 : Vec Ideal S3x512 .f32)

/-- Column `n` of the projection of token `r` of the tile. -/
def prj (n : Fin 3360) (r : Fin 1024) : EReal := ∑ k, (x0 (ix3 0 r k) * (1 + x1 (ix3 0 1 k)) + x1 (ix3 0 0 k)) * x2 (ix2 n k)

/-- Column `n` mixed with the row before, `q` being the last row of the tile before. -/
def mixed (q : EReal) (n : Fin 1920) (r : Fin 1024) : EReal :=
  prj x0 x1 x2 ⟨n.val, by omega⟩ r
    + x3 (ix2 0 n) * (prev1 (prj x0 x1 x2 ⟨n.val, by omega⟩) q r - prj x0 x1 x2 ⟨n.val, by omega⟩ r)

/-- What the convolution runs over. -/
def gated (d : Fin 512) (r : Fin 1024) : EReal := prj x0 x1 x2 ⟨2848 + d.val, by omega⟩ r * prj x0 x1 x2 ⟨1824 + d.val, by omega⟩ r

/-- The gated convolution, `q1` and `q2` being the last two rows of the tile before. -/
def conv (q1 q2 : EReal) (d : Fin 512) (r : Fin 1024) : EReal :=
  prj x0 x1 x2 ⟨2336 + d.val, by omega⟩ r * (x4 (ix2 2 d) * gated x0 x1 x2 d r + x4 (ix2 1 d) * prev1 (gated x0 x1 x2 d) q1 r
    + x4 (ix2 0 d) * prev2 (gated x0 x1 x2 d) q1 q2 r)

/-- The tile's tokens after the modulation, as the kernel reads them. -/
abbrev tokens : FVec Ideal S1024x1024 .bf16 :=
  k0_pay3 (View.readAt (Elt Ideal) a3.view (Rect.unit ![0, 0, 0] S1x6x1024.size inb_S1x6x1024_S1x6x1024_0_0_0).toLoadRect (h3.unread x1))
    (View.readAt (Elt Ideal) a2.view (Rect.unit ![0, 0, 0] S1x1024x1024.size inb_S1x1024x1024_S1x1024x1024_0_0_0).toLoadRect (h2.unread x0))

theorem tokens_apply (r k : Fin 1024) : tokens a2 h2 a3 h3 x0 x1 (ix2 r k) = x0 (ix3 0 r k) * (1 + x1 (ix3 0 1 k)) + x1 (ix3 0 0 k) := by
  unfold tokens
  rw [pay3_apply]
  simp only [View.readAt_eq_ld, h2.read_unread, h3.read_unread]
  have e0 : View.ld x0 (Rect.unit (s := S1x1024x1024) ![0, 0, 0] S1x1024x1024.size inb_S1x1024x1024_S1x1024x1024_0_0_0) (ix3 0 r k) = x0 (ix3 0 r k) := by
    refine congrArg x0 (funext fun a => Fin.ext ?_)
    match a with
    | ⟨0, _⟩ => rfl
    | ⟨1, _⟩ => show 0 + 1 * r.val = r.val; omega
    | ⟨2, _⟩ => show 0 + 1 * k.val = k.val; omega
  have e1 : ∀ q : Fin 6, View.ld x1 (Rect.unit (s := S1x6x1024) ![0, 0, 0] S1x6x1024.size inb_S1x6x1024_S1x6x1024_0_0_0) (ix3 0 q k) = x1 (ix3 0 q k) := by
    intro q
    refine congrArg x1 (funext fun a => Fin.ext ?_)
    match a with
    | ⟨0, _⟩ => rfl
    | ⟨1, _⟩ => show 0 + 1 * q.val = q.val; omega
    | ⟨2, _⟩ => show 0 + 1 * k.val = k.val; omega
  have g : ∀ {X X' u u' v v' : EReal}, X = X' → u = u' → v = v' → X * (1 + u) + v = X' * (1 + u') + v' := by
    rintro X _ u _ v _ rfl rfl rfl
    rfl
  exact g e0 (e1 1) (e1 0)

/-- The tokens against the weights from row `o` on. -/
theorem dot_tokens {N o : ℕ} (ho : o + N ≤ 3360) (i1) (n : Fin N) :
    dot (tokens a2 h2 a3 h3 x0 x1)
      (View.readAt (Elt Ideal) a4.view (Rect.unit (s := S3360x1024) ![o, 0] ![N, 1024] i1).toLoadRect (h4.unread x2)) n
      = prj x0 x1 x2 ⟨o + n.val, by omega⟩ := by
  funext r
  unfold dot prj
  refine Finset.sum_congr rfl fun k _ => ?_
  rw [tokens_apply]
  simp only [View.readAt_eq_ld, h4.read_unread]
  refine congrArg (fun u => (x0 (ix3 0 r k) * (1 + x1 (ix3 0 1 k)) + x1 (ix3 0 0 k)) * x2 u) (funext fun a => Fin.ext ?_)
  match a with
  | ⟨0, _⟩ => show o + 1 * n.val = o + n.val; omega
  | ⟨1, _⟩ => show 0 + 1 * k.val = k.val; omega

theorem gate_tokens (d : Fin 512) :
    gate (tokens a2 h2 a3 h3 x0 x1)
      (View.readAt (Elt Ideal) a4.view (Rect.unit (s := S3360x1024) ![1824, 0] ![512, 1024] inb_S3360x1024_S512x1024_1824_0).toLoadRect (h4.unread x2))
      (View.readAt (Elt Ideal) a4.view (Rect.unit (s := S3360x1024) ![2848, 0] ![512, 1024] inb_S3360x1024_S512x1024_2848_0).toLoadRect (h4.unread x2)) d
      = gated x0 x1 x2 d := by
  funext r
  unfold gate gated
  rw [dot_tokens a2 h2 a3 h3 a4 h4 x0 x1 x2 (by decide), dot_tokens a2 h2 a3 h3 a4 h4 x0 x1 x2 (by decide)]

theorem shares {N o : ℕ} (ho : o + N ≤ 1920) (i1) (n : Fin N) :
    (View.readAt (Elt Ideal) a5.view (Rect.unit (s := S1x1920) ![0, o] ![1, N] i1).toLoadRect (h5.unread x3)) (ix2 0 n)
      = x3 (ix2 0 ⟨o + n.val, by omega⟩) := by
  simp only [View.readAt_eq_ld, h5.read_unread]
  refine congrArg x3 (funext fun a => Fin.ext ?_)
  match a with
  | ⟨0, _⟩ => rfl
  | ⟨1, _⟩ => show o + 1 * n.val = o + n.val; omega

/-- What the first block should hold. -/
def block5 (q : Fin 1920 → EReal) (y : S1x1024x1536.Idx) : EReal :=
  mixed x0 x1 x2 x3 (q ⟨(y 2).val, by have : (y 2).val < 1536 := (y 2).2; omega⟩) ⟨(y 2).val, by have : (y 2).val < 1536 := (y 2).2; omega⟩ (y 1)

/-- One store of 512 columns in the first block. -/
theorem piece5 {o : ℕ} (ho : o + 512 ≤ 1536) (q : Fin 1920 → EReal) {k : Vec Ideal S8x512 .f32} (e : ∀ n : Fin 512, k (ix2 7 n) = q ⟨o + n.val, by omega⟩)
    (i1 i2 i3) (y : S1x1024x512.Idx) :
    k0_pay10 (tokens a2 h2 a3 h3 x0 x1)
      (View.readAt (Elt Ideal) a4.view (Rect.unit (s := S3360x1024) ![o, 0] ![512, 1024] i1).toLoadRect (h4.unread x2)) k
      (View.readAt (Elt Ideal) a5.view (Rect.unit (s := S1x1920) ![0, o] ![1, 512] i2).toLoadRect (h5.unread x3)) y
      = block5 x0 x1 x2 x3 q (Rect.emb (Rect.unit (s := S1x1024x1536) ![0, 0, o] ![1, 1024, 512] i3) y) := by
  obtain ⟨z, r, n, rfl⟩ : ∃ (z : Fin 1) (r : Fin 1024) (n : Fin 512), y = ix3 z r n := ⟨_, _, _, eq_ix3 y⟩
  obtain rfl : z = 0 := Subsingleton.elim _ _
  rw [pay10_apply, dot_tokens a2 h2 a3 h3 a4 h4 x0 x1 x2 (by omega), shares a5 h5 x3 (by omega), e]
  unfold block5
  have en : (⟨(Rect.emb (Rect.unit (s := S1x1024x1536) ![0, 0, o] ![1, 1024, 512] i3) (ix3 0 r n) 2).val, by
      have : (Rect.emb (Rect.unit (s := S1x1024x1536) ![0, 0, o] ![1, 1024, 512] i3) (ix3 0 r n) 2).val < 1536 := Fin.isLt _
      omega⟩ : Fin 1920) = ⟨o + n.val, by omega⟩ := Fin.ext (show o + 1 * n.val = o + n.val by omega)
  have er : Rect.emb (Rect.unit (s := S1x1024x1536) ![0, 0, o] ![1, 1024, 512] i3) (ix3 0 r n) 1 = r := Fin.ext (show 0 + 1 * r.val = r.val by omega)
  simp only [en, er]
  rfl

/-- The second block: the last 384 columns. -/
theorem block6 (q : Fin 1920 → EReal) {k : Vec Ideal S8x384 .f32} (e : ∀ n : Fin 384, k (ix2 7 n) = q ⟨1536 + n.val, by omega⟩)
    (i1 i2) (r : Fin 1024) (n : Fin 384) :
    k0_pay18 (k0_pay14 (tokens a2 h2 a3 h3 x0 x1)
        (View.readAt (Elt Ideal) a4.view (Rect.unit (s := S3360x1024) ![1536, 0] ![384, 1024] i1).toLoadRect (h4.unread x2))) k
      (k0_pay15 (tokens a2 h2 a3 h3 x0 x1)
        (View.readAt (Elt Ideal) a4.view (Rect.unit (s := S3360x1024) ![1536, 0] ![384, 1024] i1).toLoadRect (h4.unread x2)))
      (k0_pay16 (tokens a2 h2 a3 h3 x0 x1)
        (View.readAt (Elt Ideal) a4.view (Rect.unit (s := S3360x1024) ![1536, 0] ![384, 1024] i1).toLoadRect (h4.unread x2)))
      (iota .tc S8x384 32 [0] iota_S8x384_d0_w32)
      (View.readAt (Elt Ideal) a5.view (Rect.unit (s := S1x1920) ![0, 1536] ![1, 384] i2).toLoadRect (h5.unread x3)) (ix3 0 r n)
      = mixed x0 x1 x2 x3 (q ⟨1536 + n.val, by omega⟩) ⟨1536 + n.val, by omega⟩ r := by
  rw [pay18_apply, dot_tokens a2 h2 a3 h3 a4 h4 x0 x1 x2 (by decide), shares a5 h5 x3 (by decide), e]
  rfl

/-- The third block: the gated convolution. -/
theorem block7 {k : Vec Ideal S8x512 .f32} (i1 i2) (r : Fin 1024) (d : Fin 512) :
    k0_pay25 (tokens a2 h2 a3 h3 x0 x1)
      (k0_pay19 (tokens a2 h2 a3 h3 x0 x1)
        (View.readAt (Elt Ideal) a4.view (Rect.unit (s := S3360x1024) ![1824, 0] ![512, 1024] inb_S3360x1024_S512x1024_1824_0).toLoadRect (h4.unread x2))
        (View.readAt (Elt Ideal) a4.view (Rect.unit (s := S3360x1024) ![2848, 0] ![512, 1024] inb_S3360x1024_S512x1024_2848_0).toLoadRect (h4.unread x2)))
      k (View.readAt (Elt Ideal) a6.view (Rect.unit (s := S3x512) ![0, 0] ![3, 512] i1).toLoadRect (h6.unread x4))
      (k0_pay20 (tokens a2 h2 a3 h3 x0 x1)
        (View.readAt (Elt Ideal) a4.view (Rect.unit (s := S3360x1024) ![1824, 0] ![512, 1024] inb_S3360x1024_S512x1024_1824_0).toLoadRect (h4.unread x2))
        (View.readAt (Elt Ideal) a4.view (Rect.unit (s := S3360x1024) ![2848, 0] ![512, 1024] inb_S3360x1024_S512x1024_2848_0).toLoadRect (h4.unread x2))
        (View.readAt (Elt Ideal) a6.view (Rect.unit (s := S3x512) ![0, 0] ![3, 512] i1).toLoadRect (h6.unread x4)))
      (k0_pay21 (View.readAt (Elt Ideal) a6.view (Rect.unit (s := S3x512) ![0, 0] ![3, 512] i1).toLoadRect (h6.unread x4)))
      (k0_pay22 (tokens a2 h2 a3 h3 x0 x1)
        (View.readAt (Elt Ideal) a4.view (Rect.unit (s := S3360x1024) ![1824, 0] ![512, 1024] inb_S3360x1024_S512x1024_1824_0).toLoadRect (h4.unread x2))
        (View.readAt (Elt Ideal) a4.view (Rect.unit (s := S3360x1024) ![2848, 0] ![512, 1024] inb_S3360x1024_S512x1024_2848_0).toLoadRect (h4.unread x2)))
      (k0_pay23 (tokens a2 h2 a3 h3 x0 x1)
        (View.readAt (Elt Ideal) a4.view (Rect.unit (s := S3360x1024) ![1824, 0] ![512, 1024] inb_S3360x1024_S512x1024_1824_0).toLoadRect (h4.unread x2))
        (View.readAt (Elt Ideal) a4.view (Rect.unit (s := S3360x1024) ![2848, 0] ![512, 1024] inb_S3360x1024_S512x1024_2848_0).toLoadRect (h4.unread x2)))
      (View.readAt (Elt Ideal) a4.view (Rect.unit (s := S3360x1024) ![2336, 0] ![512, 1024] i2).toLoadRect (h4.unread x2)) (ix3 0 r d)
      = conv x0 x1 x2 x4 (k (ix2 7 d)) (k (ix2 6 d)) d r := by
  rw [pay25_apply, dot_tokens a2 h2 a3 h3 a4 h4 x0 x1 x2 (by decide), gate_tokens]
  have e6 : ∀ j : Fin 3, (View.readAt (Elt Ideal) a6.view (Rect.unit (s := S3x512) ![0, 0] ![3, 512] i1).toLoadRect (h6.unread x4)) (ix2 j d) = x4 (ix2 j d) := by
    intro j
    simp only [View.readAt_eq_ld, h6.read_unread]
    refine congrArg x4 (funext fun a => Fin.ext ?_)
    match a with
    | ⟨0, _⟩ => show 0 + 1 * j.val = j.val; omega
    | ⟨1, _⟩ => show 0 + 1 * d.val = d.val; omega
  unfold conv
  have g : ∀ {A B C D u u' v v' w w' : EReal}, u = u' → v = v' → w = w' → A * (u * B + v * C + w * D) = A * (u' * B + v' * C + w' * D) := by
    rintro A B C D u _ v _ w _ rfl rfl rfl
    rfl
  exact g (e6 2) (e6 1) (e6 0)

end Cert.AbIdeal.Val

end
-- ==== Proof.AbOut.lean ====
/- The blocks of a batch's first tile, which starts from rows of zeros, and of its second, which starts from the rows the first kept. -/
module

public import proofs.«01_k».proof.Proof.AbBlock
import all proofs.«01_k».proof.Proof.Gen.AbIdeal.Frame.RunA
import all proofs.«01_k».proof.Proof.Gen.AbIdeal.Frame.RunB
import all proofs.«01_k».proof.Proof.Gen.AbIdeal.Frame

@[expose] public section

set_option maxRecDepth 16384

noncomputable section

namespace Cert.AbIdeal.Val

open Idealize.ShloMosaic Cert.AbIdeal.Gen
open scoped BigOperators

variable (c : Dev nD) (i : grid0.Coords) (a2 : Memref sig .tc .vmem S1x1024x1024 .f32) (h2 : a2.IsWhole)
  (a3 : Memref sig .tc .vmem S1x6x1024 .f32) (h3 : a3.IsWhole) (a4 : Memref sig .tc .vmem S3360x1024 .f32) (h4 : a4.IsWhole)
  (a5 : Memref sig .tc .vmem S1x1920 .f32) (h5 : a5.IsWhole) (a6 : Memref sig .tc .vmem S3x512 .f32) (h6 : a6.IsWhole)
  (a7 : Memref sig .tc .vmem S1x1024x1536 .bf16) (h7 : a7.IsWhole) (a8 : Memref sig .tc .vmem S1x1024x384 .bf16) (h8 : a8.IsWhole)
  (a9 : Memref sig .tc .vmem S1x1024x512 .bf16) (h9 : a9.IsWhole) (a10 : Memref sig .tc .vmem S8x1920 .f32) (h10 : a10.IsWhole)
  (a11 : Memref sig .tc .vmem S8x512 .f32) (h11 : a11.IsWhole)
  (x0 : Vec Ideal S1x1024x1024 .f32) (x1 : Vec Ideal S1x6x1024 .f32) (x2 : Vec Ideal S3360x1024 .f32) (x3 : Vec Ideal S1x1920 .f32)
  (x4 : Vec Ideal S3x512 .f32)

theorem pay13_eq (u : FVec Ideal S1024x1024 .bf16) (w : Vec Ideal S512x1024 .f32) (k : Vec Ideal S8x512 .f32) (μ : Vec Ideal S1x512 .f32) :
    k0_pay13 u w k μ = k0_pay10 u w k μ := rfl

theorem pay7_eq (v : Vec Ideal S1x6x1024 .f32) (x : Vec Ideal S1x1024x1024 .f32) (w : Vec Ideal S512x1024 .f32) (k : Vec Ideal S8x512 .f32)
    (μ : Vec Ideal S1x512 .f32) : k0_pay7 (k0_pay4 v x w) (k0_pay5 v x w k) μ = k0_pay10 (k0_pay3 v x) w k μ := rfl

theorem pay12_eq (u : FVec Ideal S1024x1024 .bf16) (w : Vec Ideal S512x1024 .f32) : k0_pay12 u w = k0_pay9 u w := rfl

theorem pay6_eq (v : Vec Ideal S1x6x1024 .f32) (x : Vec Ideal S1x1024x1024 .f32) (w : Vec Ideal S512x1024 .f32) :
    k0_pay6 v x w = k0_pay9 (k0_pay3 v x) w := rfl

/-- An entry right of a store's columns reads what lies below the store. -/
theorem below {N o : ℕ} (i1) (w) (L : List (View.Piece (Elt Ideal) S8x1920 .f32)) (r : Fin 8) (n : Fin 1920) (h : n.val < o ∨ o + N ≤ n.val) :
    View.canon (⟨Rect.unit (s := S8x1920) ![0, o] ![8, N] i1, w⟩ :: L) (ix2 r n) = View.canon L (ix2 r n) := by
  refine View.canon_cons_of_not_mem _ _ fun m => ?_
  obtain ⟨k, hk, e⟩ := (Rect.unit (s := S8x1920) ![0, o] ![8, N] i1).mem_set.mp m 1
  have hk' : k < N := hk
  have e' : n.val = o + 1 * k := e
  omega

/-- An entry in a store's columns reads the store. -/
theorem within {N o : ℕ} (i1) (w : (Rect.unit (s := S8x1920) ![0, o] ![8, N] i1).shape.Idx → Elt Ideal .f32) (L : List (View.Piece (Elt Ideal) S8x1920 .f32))
    (r : Fin 8) (n : Fin 1920) (k : Fin N) (e : n.val = o + k.val) :
    View.canon (⟨Rect.unit (s := S8x1920) ![0, o] ![8, N] i1, w⟩ :: L) (ix2 r n) = w (ix2 r k) := by
  refine Eq.trans (congrArg (View.canon _) (funext fun a => Fin.ext ?_)) (View.canon_cons_emb _ w L (ix2 r k))
  match a with
  | ⟨0, _⟩ => show r.val = 0 + 1 * r.val; omega
  | ⟨1, _⟩ => show n.val = o + 1 * k.val; omega

/-- An entry of a whole store reads the store. -/
theorem whole (i1) (w : (Rect.unit (s := S8x512) ![0, 0] S8x512.size i1).shape.Idx → Elt Ideal .f32) (L : List (View.Piece (Elt Ideal) S8x512 .f32))
    (r : Fin 8) (d : Fin 512) : View.canon (⟨Rect.unit (s := S8x512) ![0, 0] S8x512.size i1, w⟩ :: L) (ix2 r d) = w (ix2 r d) := by
  refine Eq.trans (congrArg (View.canon _) (funext fun a => Fin.ext ?_)) (View.canon_cons_emb _ w L (ix2 r d))
  match a with
  | ⟨0, _⟩ => show r.val = 0 + 1 * r.val; omega
  | ⟨1, _⟩ => show d.val = 0 + 1 * d.val; omega

theorem zeros (r : Fin 8) (n : Fin 1920) : View.canon (kernelRun0_A.sl.HS0_1 (F := Ideal)) (ix2 r n) = 0 := by
  unfold kernelRun0_A.sl.HS0_1
  rw [View.canon_unit_zero (S := S8x1920) (by decide)]
  pointwise [k0_pay1]

theorem zeros2 (r : Fin 8) (n : Fin 1920) (h : 512 ≤ n.val) :
    View.canon (kernelRun0_A.sl.HS0_2 (F := Ideal) c a2 h2 a3 h3 a4 h4 x0 x1 x2) (ix2 r n) = 0 := by
  unfold kernelRun0_A.sl.HS0_2
  exact (below _ _ _ r n (Or.inr (by omega))).trans (zeros r n)

theorem zeros3 (r : Fin 8) (n : Fin 1920) (h : 1024 ≤ n.val) :
    View.canon (kernelRun0_A.sl.HS0_3 (F := Ideal) c a2 h2 a3 h3 a4 h4 x0 x1 x2) (ix2 r n) = 0 := by
  unfold kernelRun0_A.sl.HS0_3
  exact (below _ _ _ r n (Or.inr (by omega))).trans (zeros2 c a2 h2 a3 h3 a4 h4 x0 x1 x2 r n (by omega))

theorem zeros4 (r : Fin 8) (n : Fin 1920) (h : 1536 ≤ n.val) :
    View.canon (kernelRun0_A.sl.HS0_4 (F := Ideal) c a2 h2 a3 h3 a4 h4 x0 x1 x2) (ix2 r n) = 0 := by
  unfold kernelRun0_A.sl.HS0_4
  exact (below _ _ _ r n (Or.inr (by omega))).trans (zeros3 c a2 h2 a3 h3 a4 h4 x0 x1 x2 r n (by omega))

/-- A read of the kept rows at columns `o` on. -/
theorem kept_read {N o : ℕ} (ho : o + N ≤ 1920) (L : List (View.Piece (Elt Ideal) S8x1920 .f32)) (i1) (r : Fin 8) (n : Fin N) :
    a10.view.readCov L (Rect.unit (s := S8x1920) ![0, o] ![8, N] i1).toLoadRect (ix2 r n) = View.canon L (ix2 r ⟨o + n.val, by omega⟩) := by
  rw [View.readCov_eq_canon']
  refine congrArg (View.canon L) (funext fun a => Fin.ext ?_)
  match a with
  | ⟨0, _⟩ => show 0 + 1 * r.val = r.val; omega
  | ⟨1, _⟩ => show o + 1 * n.val = o + n.val; omega

section First
variable (hc : cond0_0 i)

/-- The first tile's first block. -/
theorem first5 : out0_A_5 c i a2 h2 a3 h3 a4 h4 a5 h5 a6 h6 a7 h7 a8 h8 a9 h9 a10 h10 a11 h11 hc x0 x1 x2 x3 x4
    = block5 x0 x1 x2 x3 (fun _ => 0) := by
  unfold out0_A_5
  rw [View.read_writes_eq_canon _ _ _ (cover0_A_5 c i a2 h2 a3 h3 a4 h4 a5 h5 a6 h6 a7 h7 a8 h8 a9 h9 a10 h10 a11 h11 hc x0 x1 x2 x3 x4)]
  refine funext fun y => View.canon_apply_of_pieces _ _ (View.PiecesOf.mem ?_) y
    (cover0_A_5 c i a2 h2 a3 h3 a4 h4 a5 h5 a6 h6 a7 h7 a8 h8 a9 h9 a10 h10 a11 h11 hc x0 x1 x2 x3 x4 y)
  unfold kernelRun0_A
  dsimp only
  unfold kernelRun0_A.sl.r_1 kernelRun0_A.sl.r_2
  refine ⟨?_, ?_, ?_, trivial⟩
  · intro y
    rw [pay13_eq]
    refine piece5 a2 h2 a3 h3 a4 h4 a5 h5 x0 x1 x2 x3 (o := 1024) (by decide) (fun _ => 0) (fun n => ?_) _ _ inb_S1x1024x1536_S1x1024x512_0_0_1024 y
    exact (kept_read a10 (by decide) _ _ _ n).trans (zeros3 c a2 h2 a3 h3 a4 h4 x0 x1 x2 _ _ (by show 1024 ≤ 1024 + n.val; omega))
  · intro y
    refine piece5 a2 h2 a3 h3 a4 h4 a5 h5 x0 x1 x2 x3 (o := 512) (by decide) (fun _ => 0) (fun n => ?_) _ _ inb_S1x1024x1536_S1x1024x512_0_0_512 y
    exact (kept_read a10 (by decide) _ _ _ n).trans (zeros2 c a2 h2 a3 h3 a4 h4 x0 x1 x2 _ _ (by show 512 ≤ 512 + n.val; omega))
  · intro y
    rw [pay7_eq]
    refine piece5 a2 h2 a3 h3 a4 h4 a5 h5 x0 x1 x2 x3 (o := 0) (by decide) (fun _ => 0) (fun n => ?_) _ _ inb_S1x1024x1536_S1x1024x512_0_0_0 y
    exact (kept_read a10 (by decide) _ _ _ n).trans (zeros _ _)

/-- The first tile's second block. -/
theorem first6 (r : Fin 1024) (n : Fin 384) :
    out0_A_6 c i a2 h2 a3 h3 a4 h4 a5 h5 a6 h6 a7 h7 a8 h8 a9 h9 a10 h10 a11 h11 hc x0 x1 x2 x3 x4 (ix3 0 r n)
      = mixed x0 x1 x2 x3 0 ⟨1536 + n.val, by omega⟩ r := by
  unfold out0_A_6
  rw [View.read_writes_eq_canon _ _ _ (cover0_A_6 c i a2 h2 a3 h3 a4 h4 a5 h5 a6 h6 a7 h7 a8 h8 a9 h9 a10 h10 a11 h11 hc x0 x1 x2 x3 x4)]
  unfold kernelRun0_A
  dsimp only
  rw [View.canon_unit_zero (S := S1x1024x384) (by decide)]
  exact block6 a2 h2 a3 h3 a4 h4 a5 h5 x0 x1 x2 x3 (fun _ => 0)
    (fun n => (kept_read a10 (by decide) _ _ _ n).trans (zeros4 c a2 h2 a3 h3 a4 h4 x0 x1 x2 _ _ (by show 1536 ≤ 1536 + n.val; omega))) _ _ r n

theorem start (r : Fin 8) (d : Fin 512) : kernelRun0_A.sl.v145 (F := Ideal) c a11 (ix2 r d) = 0 := by
  unfold kernelRun0_A.sl.v145 kernelRun0_A.sl.HS1_1
  rw [View.readCov_eq_canon', View.canon_unit_zero (S := S8x512) (by decide)]
  show k0_pay2 (F := Ideal) _ = 0
  obtain ⟨p, q, e⟩ : ∃ p q, (Rect.unit (s := S8x512) ![0, 0] S8x512.size inb_S8x512_S8x512_0_0).toLoadRect.idx (ix2 r d) = ix2 p q := ⟨_, _, eq_ix2 _⟩
  rw [show k0_pay2 (F := Ideal) _ = k0_pay2 (F := Ideal) (ix2 p q) from congrArg _ e]
  pointwise [k0_pay2]

/-- The first tile's third block. -/
theorem first7 (r : Fin 1024) (d : Fin 512) :
    out0_A_7 c i a2 h2 a3 h3 a4 h4 a5 h5 a6 h6 a7 h7 a8 h8 a9 h9 a10 h10 a11 h11 hc x0 x1 x2 x3 x4 (ix3 0 r d)
      = conv x0 x1 x2 x4 0 0 d r := by
  unfold out0_A_7
  rw [View.read_writes_eq_canon _ _ _ (cover0_A_7 c i a2 h2 a3 h3 a4 h4 a5 h5 a6 h6 a7 h7 a8 h8 a9 h9 a10 h10 a11 h11 hc x0 x1 x2 x3 x4)]
  unfold kernelRun0_A
  dsimp only
  rw [View.canon_unit_zero (S := S1x1024x512) (by decide)]
  refine (block7 a2 h2 a3 h3 a4 h4 a6 h6 x0 x1 x2 x4 (k := kernelRun0_A.sl.v145 (F := Ideal) c a11) _ _ r d).trans ?_
  rw [start, start]

/-- The last of the rows that the first tile keeps of the projection. -/
theorem kept0 (n : Fin 1920) :
    sout0_A_0 c i a2 h2 a3 h3 a4 h4 a5 h5 a6 h6 a7 h7 a8 h8 a9 h9 a10 h10 a11 h11 hc x0 x1 x2 x3 x4 (ix2 7 n)
      = prj x0 x1 x2 ⟨n.val, by omega⟩ ⟨1023, by decide⟩ := by
  unfold sout0_A_0
  rw [View.read_writes_eq_canon _ _ _ (scover0_A_0 c i a2 h2 a3 h3 a4 h4 a5 h5 a6 h6 a7 h7 a8 h8 a9 h9 a10 h10 a11 h11 hc x0 x1 x2 x3 x4)]
  unfold kernelRun0_A
  dsimp only
  by_cases h3' : 1536 ≤ n.val
  · obtain ⟨k, e⟩ : ∃ k : Fin 384, n.val = 1536 + k.val := ⟨⟨n.val - 1536, by omega⟩, by show n.val = 1536 + (n.val - 1536); omega⟩
    refine (within _ _ _ 7 n k e).trans ((pay17_apply _ _ 7 k).trans ?_)
    exact (congrFun (dot_tokens a2 h2 a3 h3 a4 h4 x0 x1 x2 (by decide) _ k) _).trans (congrArg (fun v => prj x0 x1 x2 v _) (Fin.ext e.symm))
  refine (below _ _ _ 7 n (Or.inl (by omega))).trans ?_
  unfold kernelRun0_A.sl.HS0_4
  by_cases h2' : 1024 ≤ n.val
  · obtain ⟨k, e⟩ : ∃ k : Fin 512, n.val = 1024 + k.val := ⟨⟨n.val - 1024, by omega⟩, by show n.val = 1024 + (n.val - 1024); omega⟩
    rw [pay12_eq]
    refine (within _ _ _ 7 n k e).trans ((pay9_apply _ _ 7 k).trans ?_)
    exact (congrFun (dot_tokens a2 h2 a3 h3 a4 h4 x0 x1 x2 (by decide) _ k) _).trans (congrArg (fun v => prj x0 x1 x2 v _) (Fin.ext e.symm))
  refine (below _ _ _ 7 n (Or.inl (by omega))).trans ?_
  unfold kernelRun0_A.sl.HS0_3
  by_cases h1' : 512 ≤ n.val
  · obtain ⟨k, e⟩ : ∃ k : Fin 512, n.val = 512 + k.val := ⟨⟨n.val - 512, by omega⟩, by show n.val = 512 + (n.val - 512); omega⟩
    refine (within _ _ _ 7 n k e).trans ((pay9_apply _ _ 7 k).trans ?_)
    exact (congrFun (dot_tokens a2 h2 a3 h3 a4 h4 x0 x1 x2 (by decide) _ k) _).trans (congrArg (fun v => prj x0 x1 x2 v _) (Fin.ext e.symm))
  refine (below _ _ _ 7 n (Or.inl (by omega))).trans ?_
  unfold kernelRun0_A.sl.HS0_2
  obtain ⟨k, e⟩ : ∃ k : Fin 512, n.val = 0 + k.val := ⟨⟨n.val, by omega⟩, by show n.val = 0 + n.val; omega⟩
  rw [pay6_eq]
  refine (within _ _ _ 7 n k e).trans ((pay9_apply _ _ 7 k).trans ?_)
  exact (congrFun (dot_tokens a2 h2 a3 h3 a4 h4 x0 x1 x2 (by decide) _ k) _).trans (congrArg (fun v => prj x0 x1 x2 v _) (Fin.ext e.symm))

/-- The rows that the first tile keeps of what the convolution runs over. -/
theorem kept1 (r : Fin 8) (d : Fin 512) :
    sout0_A_1 c i a2 h2 a3 h3 a4 h4 a5 h5 a6 h6 a7 h7 a8 h8 a9 h9 a10 h10 a11 h11 hc x0 x1 x2 x3 x4 (ix2 r d)
      = gated x0 x1 x2 d ⟨1016 + r.val, by omega⟩ := by
  unfold sout0_A_1
  rw [View.read_writes_eq_canon _ _ _ (scover0_A_1 c i a2 h2 a3 h3 a4 h4 a5 h5 a6 h6 a7 h7 a8 h8 a9 h9 a10 h10 a11 h11 hc x0 x1 x2 x3 x4)]
  unfold kernelRun0_A
  dsimp only
  refine (whole _ _ _ r d).trans ((pay24_apply _ _ _ r d).trans ?_)
  exact congrFun (gate_tokens a2 h2 a3 h3 a4 h4 x0 x1 x2 d) _

end First

section Second
variable (hc : ¬ cond0_0 i) (k0 : Vec Ideal S8x1920 .f32) (k1 : Vec Ideal S8x512 .f32)

theorem kept_ld {N o : ℕ} (ho : o + N ≤ 1920) (i1) (r : Fin 8) (n : Fin N) :
    (View.readAt (Elt Ideal) a10.view (Rect.unit (s := S8x1920) ![0, o] ![8, N] i1).toLoadRect (h10.unread k0)) (ix2 r n)
      = k0 (ix2 r ⟨o + n.val, by omega⟩) := by
  simp only [View.readAt_eq_ld, h10.read_unread]
  refine congrArg k0 (funext fun a => Fin.ext ?_)
  match a with
  | ⟨0, _⟩ => show 0 + 1 * r.val = r.val; omega
  | ⟨1, _⟩ => show o + 1 * n.val = o + n.val; omega

/-- The second tile's first block. -/
theorem second5 : out0_B_5 c i a2 h2 a3 h3 a4 h4 a5 h5 a6 h6 a7 h7 a8 h8 a9 h9 a10 h10 a11 h11 hc x0 x1 x2 x3 x4 k0 k1
    = block5 x0 x1 x2 x3 (fun n => k0 (ix2 7 n)) := by
  unfold out0_B_5
  rw [View.read_writes_eq_canon _ _ _ (cover0_B_5 c i a2 h2 a3 h3 a4 h4 a5 h5 a6 h6 a7 h7 a8 h8 a9 h9 a10 h10 a11 h11 hc x0 x1 x2 x3 x4 k0 k1)]
  refine funext fun y => View.canon_apply_of_pieces _ _ (View.PiecesOf.mem ?_) y
    (cover0_B_5 c i a2 h2 a3 h3 a4 h4 a5 h5 a6 h6 a7 h7 a8 h8 a9 h9 a10 h10 a11 h11 hc x0 x1 x2 x3 x4 k0 k1 y)
  unfold kernelRun0_B
  dsimp only
  unfold kernelRun0_B.sl.r_1 kernelRun0_B.sl.r_2
  refine ⟨?_, ?_, ?_, trivial⟩
  · intro y
    rw [pay13_eq]
    exact piece5 a2 h2 a3 h3 a4 h4 a5 h5 x0 x1 x2 x3 (o := 1024) (by decide) (fun n => k0 (ix2 7 n)) (fun n => kept_ld a10 h10 k0 (by decide) _ 7 n) _ _ inb_S1x1024x1536_S1x1024x512_0_0_1024 y
  · exact fun y => piece5 a2 h2 a3 h3 a4 h4 a5 h5 x0 x1 x2 x3 (o := 512) (by decide) (fun n => k0 (ix2 7 n)) (fun n => kept_ld a10 h10 k0 (by decide) _ 7 n) _ _ inb_S1x1024x1536_S1x1024x512_0_0_512 y
  · intro y
    rw [pay7_eq]
    exact piece5 a2 h2 a3 h3 a4 h4 a5 h5 x0 x1 x2 x3 (o := 0) (by decide) (fun n => k0 (ix2 7 n)) (fun n => kept_ld a10 h10 k0 (by decide) _ 7 n) _ _ inb_S1x1024x1536_S1x1024x512_0_0_0 y

/-- The second tile's second block. -/
theorem second6 (r : Fin 1024) (n : Fin 384) :
    out0_B_6 c i a2 h2 a3 h3 a4 h4 a5 h5 a6 h6 a7 h7 a8 h8 a9 h9 a10 h10 a11 h11 hc x0 x1 x2 x3 x4 k0 k1 (ix3 0 r n)
      = mixed x0 x1 x2 x3 (k0 (ix2 7 ⟨1536 + n.val, by omega⟩)) ⟨1536 + n.val, by omega⟩ r := by
  unfold out0_B_6
  rw [View.read_writes_eq_canon _ _ _ (cover0_B_6 c i a2 h2 a3 h3 a4 h4 a5 h5 a6 h6 a7 h7 a8 h8 a9 h9 a10 h10 a11 h11 hc x0 x1 x2 x3 x4 k0 k1)]
  unfold kernelRun0_B
  dsimp only
  rw [View.canon_unit_zero (S := S1x1024x384) (by decide)]
  exact block6 a2 h2 a3 h3 a4 h4 a5 h5 x0 x1 x2 x3 (fun n => k0 (ix2 7 n)) (fun n => kept_ld a10 h10 k0 (by decide) _ 7 n) _ _ r n

theorem goes_on (r : Fin 8) (d : Fin 512) : kernelRun0_B.sl.r_7 (F := Ideal) c a11 h11 k1 (ix2 r d) = k1 (ix2 r d) := by
  unfold kernelRun0_B.sl.r_7
  simp only [View.readAt_eq_ld, h11.read_unread]
  refine congrArg k1 (funext fun a => Fin.ext ?_)
  match a with
  | ⟨0, _⟩ => show 0 + 1 * r.val = r.val; omega
  | ⟨1, _⟩ => show 0 + 1 * d.val = d.val; omega

/-- The second tile's third block. -/
theorem second7 (r : Fin 1024) (d : Fin 512) :
    out0_B_7 c i a2 h2 a3 h3 a4 h4 a5 h5 a6 h6 a7 h7 a8 h8 a9 h9 a10 h10 a11 h11 hc x0 x1 x2 x3 x4 k0 k1 (ix3 0 r d)
      = conv x0 x1 x2 x4 (k1 (ix2 7 d)) (k1 (ix2 6 d)) d r := by
  unfold out0_B_7
  rw [View.read_writes_eq_canon _ _ _ (cover0_B_7 c i a2 h2 a3 h3 a4 h4 a5 h5 a6 h6 a7 h7 a8 h8 a9 h9 a10 h10 a11 h11 hc x0 x1 x2 x3 x4 k0 k1)]
  unfold kernelRun0_B
  dsimp only
  rw [View.canon_unit_zero (S := S1x1024x512) (by decide)]
  refine (block7 a2 h2 a3 h3 a4 h4 a6 h6 x0 x1 x2 x4 (k := kernelRun0_B.sl.r_7 (F := Ideal) c a11 h11 k1) _ _ r d).trans ?_
  rw [goes_on, goes_on]

end Second

end Cert.AbIdeal.Val

end
-- ==== Proof.AbRef.lean ====
/- The reference of the projection ahead of the even layer's mixers, read index by index. -/
module

public import proofs.«01_k».proof.Proof.Gen.AbRefIdeal.Read
public import Idealize.ShloMosaic.Lib.Pointwise

@[expose] public section

set_option maxRecDepth 16384

noncomputable section

namespace Cert.AbRefIdeal.Val

open Idealize.ShloMosaic Cert.AbRefIdeal Cert.AbRefIdeal.Gen Cert.AbRefIdeal.Read
open scoped BigOperators

variable (x0 : FVec Ideal S8x2048x1024 .f32) (x1 : FVec Ideal S8x6x1024 .f32) (x2 : FVec Ideal S1024x3360 .f32)
  (x3 : FVec Ideal S1824 .f32) (x4 : FVec Ideal S3x512 .f32)

/-- Column `n` of the projection of token `t` of batch `b`. -/
def col (b : Fin 8) (n : Fin 3360) (t : Fin 2048) : EReal :=
  ∑ k, (x0 (ix3 b t k) * (1 + x1 (ix3 b 1 k)) + x1 (ix3 b 0 k)) * x2 (ix2 k n)

/-- A batch's values `k` tokens earlier, zero ahead of the first. -/
def earlier (k : ℕ) (a : Fin 2048 → EReal) (t : Fin 2048) : EReal := if h : k ≤ t.val then a ⟨t.val - k, by omega⟩ else 0

/-- The share of the token before in column `n`. -/
def share (n : Fin 1920) : EReal := if h : n.val < 1824 then x3 (ix1 ⟨n.val, h⟩) else 0

/-- Column `n` mixed with the token before. -/
def mix (b : Fin 8) (n : Fin 1920) (t : Fin 2048) : EReal :=
  col x0 x1 x2 b ⟨n.val, by omega⟩ t
    + share x3 n * (earlier 1 (col x0 x1 x2 b ⟨n.val, by omega⟩) t - col x0 x1 x2 b ⟨n.val, by omega⟩ t)

/-- What the convolution runs over. -/
def gates (b : Fin 8) (d : Fin 512) (t : Fin 2048) : EReal := col x0 x1 x2 b ⟨2848 + d.val, by omega⟩ t * col x0 x1 x2 b ⟨1824 + d.val, by omega⟩ t

/-- The gated convolution. -/
def short (b : Fin 8) (d : Fin 512) (t : Fin 2048) : EReal :=
  col x0 x1 x2 b ⟨2336 + d.val, by omega⟩ t * (x4 (ix2 2 d) * gates x0 x1 x2 b d t + x4 (ix2 1 d) * earlier 1 (gates x0 x1 x2 b d) t
    + x4 (ix2 0 d) * earlier 2 (gates x0 x1 x2 b d) t)

theorem pad_zero : FloatOps.sitofp (F := Ideal) FTy.f32 (0#32) = 0 := by
  show (((0#32 : BitVec 32).toInt : ℝ) : EReal) = 0
  simp

theorem padded (k : ℕ) (a : Fin 2048 → EReal) (t : Fin 2048) :
    (if h : k ≤ t.val ∧ t.val - k < 2048 then a ⟨t.val - k, h.2⟩ else FloatOps.sitofp (F := Ideal) FTy.f32 (0#32)) = earlier k a t := by
  unfold earlier
  by_cases h : k ≤ t.val
  · rw [dif_pos ⟨h, by omega⟩, dif_pos h]
  · rw [dif_neg (fun e => h e.1), dif_neg h, pad_zero]

theorem v11_apply (b : Fin 8) (t : Fin 2048) (k : Fin 1024) : val_main_v11 (F := Ideal) x0 x1 (ix3 b t k)
    = x0 (ix3 b t k) * (1 + x1 (ix3 b 1 k)) + x1 (ix3 b 0 k) := by
  pointwise [val_main_v11, val_main_v10, val_main_v9, val_main_v8, val_main_v7, val_main_v6, val_main_v5, val_main_v4, val_main_v3, val_main_cst, val_main_v2, val_main_v1, val_main_v0]

theorem v12_apply (b : Fin 8) (t : Fin 2048) (n : Fin 3360) : val_main_v12 (F := Ideal) x0 x1 x2 (ix3 b t n) = col x0 x1 x2 b n t := by
  unfold col
  pointwise [val_main_v12, v11_apply]

theorem v14_apply (n : Fin 1920) : val_main_v14 (F := Ideal) x3 (ix1 n) = share x3 n := by
  unfold share
  pointwise [val_main_v14, val_main_v13, val_main_cst_0]

theorem v23_apply (b : Fin 8) (t : Fin 2048) (n : Fin 1920) : val_main_v23 (F := Ideal) x0 x1 x2 x3 (ix3 b t n) = mix x0 x1 x2 x3 b n t := by
  unfold mix
  pointwise [val_main_v23, val_main_v22, val_main_v21, val_main_v20, val_main_v19, val_main_v18, val_main_v17, val_main_v16, val_main_call0_v0, val_main_c, val_main_v15, v12_apply, v14_apply]
  rw [← padded]

theorem v50_apply (b : Fin 8) (t : Fin 2048) (n : Fin 1536) : val_main_v50 (F := Ideal) x0 x1 x2 x3 (ix3 b t n)
    = mix x0 x1 x2 x3 b ⟨n.val, by omega⟩ t := by
  rw [← v23_apply]
  unfold val_main_v50
  pointwise []

theorem v51_apply (b : Fin 8) (t : Fin 2048) (n : Fin 384) : val_main_v51 (F := Ideal) x0 x1 x2 x3 (ix3 b t n)
    = mix x0 x1 x2 x3 b ⟨1536 + n.val, by omega⟩ t := by
  rw [← v23_apply]
  unfold val_main_v51
  pointwise []

theorem v28_apply (b : Fin 8) (t : Fin 2048) (d : Fin 512) : val_main_v28 (F := Ideal) x0 x1 x2 (ix3 b t d) = gates x0 x1 x2 b d t := by
  unfold gates
  pointwise [val_main_v28, val_main_v27, val_main_v25, val_main_v24, v12_apply]
  rw [show (⟨1824 + (1024 + d.val), by omega⟩ : Fin 3360) = ⟨2848 + d.val, by omega⟩ from Fin.ext (by show 1824 + (1024 + d.val) = 2848 + d.val; omega)]

theorem v37_apply (b : Fin 8) (t : Fin 2048) (d : Fin 512) : val_main_v37 (F := Ideal) x0 x1 x2 (ix3 b t d) = earlier 1 (gates x0 x1 x2 b d) t := by
  rw [← padded]
  pointwise [val_main_v37, val_main_v36, val_main_call1_v0, val_main_c_1, v28_apply]

theorem v45_apply (b : Fin 8) (t : Fin 2048) (d : Fin 512) : val_main_v45 (F := Ideal) x0 x1 x2 (ix3 b t d) = earlier 2 (gates x0 x1 x2 b d) t := by
  rw [← padded]
  pointwise [val_main_v45, val_main_v44, val_main_call2_v0, val_main_c_2, v28_apply]

theorem v53_apply (b : Fin 8) (t : Fin 2048) (d : Fin 512) : val_main_v53 (F := Ideal) x0 x1 x2 x4 (ix3 b t d) = short x0 x1 x2 x4 b d t := by
  unfold short
  pointwise [val_main_v53, val_main_v52, val_main_v49, val_main_v48, val_main_v47, val_main_v46, val_main_v43, val_main_v42, val_main_v41, val_main_v40, val_main_v39, val_main_v38, val_main_v35, val_main_v34, val_main_v33, val_main_v32, val_main_v31, val_main_v30, val_main_v29, val_main_v26, val_main_v24, v28_apply, v37_apply, v45_apply, v12_apply]
  rw [show (⟨1824 + (512 + d.val), by omega⟩ : Fin 3360) = ⟨2336 + d.val, by omega⟩ from Fin.ext (by show 1824 + (512 + d.val) = 2336 + d.val; omega)]

end Cert.AbRefIdeal.Val

end
-- ==== Proof.AbValue.lean ====
/- The kernel ahead of the even layer's mixers leaves, in its three result arrays, the mixed columns and the gated convolution of every
   batch and token. -/
module

public import proofs.«01_k».proof.Proof.AbOut
public import proofs.«01_k».proof.Proof.AbRef
public import proofs.«01_k».proof.Proof.Gen.AbIdeal.Value
public import Idealize.ShloMosaic.Lib.StableHlo.RunRead

@[expose] public section

set_option maxRecDepth 16384

noncomputable section

namespace Cert.AbIdeal.Val

open Idealize.ShloMosaic Idealize.ShloMosaic.TcCoe Idealize.SL.Sem Cert.AbIdeal Cert.AbIdeal.Gen
open Cert.AbRefIdeal.Val (col earlier share mix gates short)

section
variable (x0 : FVec Ideal S8x2048x1024 .f32) (x1 : FVec Ideal S8x6x1024 .f32) (x2 : FVec Ideal S1024x3360 .f32)
  (x3 : FVec Ideal S1824 .f32) (x4 : FVec Ideal S3x512 .f32)

/-- The first 1536 mixed columns over the whole arrays. -/
def resultA : FVec Ideal S8x2048x1536 .bf16 := fun y => mix x0 x1 x2 x3 (y 0) ⟨(y 2).val, lt_trans (y 2).2 (show (1536 : ℕ) < 1920 by decide)⟩ (y 1)
/-- The last 384 mixed columns over the whole arrays. -/
def resultB : FVec Ideal S8x2048x384 .bf16 := fun y => mix x0 x1 x2 x3 (y 0) ⟨1536 + (y 2).val, by have : (y 2).val < 384 := (y 2).2; omega⟩ (y 1)
/-- The gated convolution over the whole arrays. -/
def resultC : FVec Ideal S8x2048x512 .bf16 := fun y => short x0 x1 x2 x4 (y 0) (y 2) (y 1)

end

section Tiles

variable (a : Fin 2048 → EReal) {h : ℕ} (hh : h < 2) (p : Fin 1024 → EReal) (e : ∀ r : Fin 1024, p r = a ⟨1024 * h + r.val, by omega⟩)

include e in
/-- One row back in a tile is one token back in the batch. -/
theorem back1 {q : EReal} (e1 : q = earlier 1 a ⟨1024 * h, by omega⟩) (r : Fin 1024) :
    prev1 p q r = earlier 1 a ⟨1024 * h + r.val, by omega⟩ := by
  unfold prev1
  by_cases z : r.val = 0
  · rw [if_pos z, e1]
    exact congrArg (earlier 1 a) (Fin.ext (by show 1024 * h = 1024 * h + r.val; omega))
  · rw [if_neg z, e]
    unfold earlier
    rw [dif_pos (by show 1 ≤ 1024 * h + r.val; omega)]
    exact congrArg a (Fin.ext (by show 1024 * h + (r.val - 1) = 1024 * h + r.val - 1; omega))

include e in
/-- Two rows back in a tile are two tokens back in the batch. -/
theorem back2 {q1 q2 : EReal} (e1 : q1 = earlier 1 a ⟨1024 * h, by omega⟩) (e2 : q2 = earlier 2 a ⟨1024 * h, by omega⟩) (r : Fin 1024) :
    prev2 p q1 q2 r = earlier 2 a ⟨1024 * h + r.val, by omega⟩ := by
  unfold prev2
  by_cases z : r.val = 0
  · rw [if_pos z, e2]
    exact congrArg (earlier 2 a) (Fin.ext (by show 1024 * h = 1024 * h + r.val; omega))
  · rw [if_neg z]
    by_cases o : r.val = 1
    · rw [if_pos o, e1]
      unfold earlier
      by_cases g : h = 0
      · subst g
        rw [dif_neg (by show ¬ 1 ≤ 1024 * 0; omega), dif_neg (by show ¬ 2 ≤ 1024 * 0 + r.val; omega)]
      · rw [dif_pos (by show 1 ≤ 1024 * h; omega), dif_pos (by show 2 ≤ 1024 * h + r.val; omega)]
        exact congrArg a (Fin.ext (by show 1024 * h - 1 = 1024 * h + r.val - 2; omega))
    · rw [if_neg o, e]
      unfold earlier
      rw [dif_pos (by show 2 ≤ 1024 * h + r.val; omega)]
      exact congrArg a (Fin.ext (by show 1024 * h + (r.val - 2) = 1024 * h + r.val - 2; omega))

end Tiles

/-- The batch of grid point `t`. -/
def batch (t : Fin cfg0.N) : Fin 8 := ⟨t.val / 2, by have h := t.isLt; have e : cfg0.N = 16 := N_0; omega⟩

theorem at0 : ∀ t : Fin cfg0.N, win0_0.index t 0 = t.val / 2 ∧ win0_0.index t 1 = t.val % 2 ∧ win0_0.index t 2 = 0 :=
  (by decide +kernel : ∀ t : Fin grid0.N, win0_0.index t 0 = t.val / 2 ∧ win0_0.index t 1 = t.val % 2 ∧ win0_0.index t 2 = 0)
theorem at1 : ∀ t : Fin cfg0.N, win0_1.index t 0 = t.val / 2 ∧ win0_1.index t 1 = 0 ∧ win0_1.index t 2 = 0 :=
  (by decide +kernel : ∀ t : Fin grid0.N, win0_1.index t 0 = t.val / 2 ∧ win0_1.index t 1 = 0 ∧ win0_1.index t 2 = 0)
theorem at2 : ∀ t : Fin cfg0.N, win0_2.index t 0 = 0 ∧ win0_2.index t 1 = 0 :=
  (by decide +kernel : ∀ t : Fin grid0.N, win0_2.index t 0 = 0 ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = 0 ∧ win0_4.index t 1 = 0 :=
  (by decide +kernel : ∀ t : Fin grid0.N, win0_4.index t 0 = 0 ∧ win0_4.index t 1 = 0)
theorem at5 : ∀ t : Fin cfg0.N, win0_5.index t 0 = t.val / 2 ∧ win0_5.index t 1 = t.val % 2 ∧ win0_5.index t 2 = 0 :=
  (by decide +kernel : ∀ t : Fin grid0.N, win0_5.index t 0 = t.val / 2 ∧ win0_5.index t 1 = t.val % 2 ∧ win0_5.index t 2 = 0)
theorem at6 : ∀ t : Fin cfg0.N, win0_6.index t 0 = t.val / 2 ∧ win0_6.index t 1 = t.val % 2 ∧ win0_6.index t 2 = 0 :=
  (by decide +kernel : ∀ t : Fin grid0.N, win0_6.index t 0 = t.val / 2 ∧ win0_6.index t 1 = t.val % 2 ∧ win0_6.index t 2 = 0)
theorem at7 : ∀ t : Fin cfg0.N, win0_7.index t 0 = t.val / 2 ∧ win0_7.index t 1 = t.val % 2 ∧ win0_7.index t 2 = 0 :=
  (by decide +kernel : ∀ t : Fin grid0.N, win0_7.index t 0 = t.val / 2 ∧ win0_7.index t 1 = t.val % 2 ∧ win0_7.index t 2 = 0)

variable (m : (ℓ : Loc nD τ sig) → Buf (Elt Ideal) ℓ) (ρ : Dev nD → PrngReg) (c : Dev nD) (t : Fin cfg0.N)

/-- The weights the kernel is called with: the argument turned over. -/
theorem V_weights : V m c main_v1 = transpose S3360x1024 [1, 0] (m ((c : Thread nD τ).loc main_arg2) : FVec Ideal S1024x3360 .f32) transposes_S1024x3360_S3360x1024_1_0 := by
  show StableHlo.after hostOps0 (fun b => m (c, b)) (Proc.devRef .tc main_v1) = _
  after_results

/-- The shares the kernel is called with: the argument with zeros after it. -/
theorem V_shares : V m c main_v3 = shapeCast S1x1920 (concatenate S1920 0 [⟨S1824, (m ((c : Thread nD τ).loc main_arg3) : FVec Ideal S1824 .f32)⟩,
      ⟨S96, broadcastInDim S96 ![] bcast_S_S96 (constant (F := Ideal) S_ .f32 0x00000000#32)⟩] concatenates_S1824_S96_S1920_d0) shapeCasts_S1920_S1x1920 := by
  show StableHlo.after hostOps0 (fun b => m (c, b)) (Proc.devRef .tc main_v3) = _
  after_results
  rfl

theorem weights_apply (n : Fin 3360) (k : Fin 1024) : (V m c main_v1 : FVec Ideal S3360x1024 .f32) (ix2 n k) = (m ((c : Thread nD τ).loc main_arg2) : FVec Ideal S1024x3360 .f32) (ix2 k n) := by
  rw [V_weights]
  pointwise []

theorem shares_apply (n : Fin 1920) : (V m c main_v3 : FVec Ideal S1x1920 .f32) (ix2 0 n) = share (m ((c : Thread nD τ).loc main_arg3)) n := by
  rw [V_shares]
  unfold share
  pointwise []

theorem blk0 (r k : Fin 1024) : iblk m c 0 t (ix3 0 r k) = m ((c : Thread nD τ).loc main_arg0) (ix3 (batch t) ⟨1024 * (t.val % 2) + r.val, by omega⟩ k) := by
  show V m c main_arg0 _ = _
  rw [V_main_arg0]
  refine congrArg _ (funext fun a => Fin.ext ?_)
  match a with
  | ⟨0, _⟩ => show win0_0.index t 0 * 1 + 1 * 0 = t.val / 2; rw [(at0 t).1]; omega
  | ⟨1, _⟩ => show win0_0.index t 1 * 1024 + 1 * r.val = 1024 * (t.val % 2) + r.val; rw [(at0 t).2.1]; omega
  | ⟨2, _⟩ => show win0_0.index t 2 * 1024 + 1 * k.val = k.val; rw [(at0 t).2.2]; omega

theorem blk1 (q : Fin 6) (k : Fin 1024) : iblk m c 1 t (ix3 0 q k) = m ((c : Thread nD τ).loc main_arg1) (ix3 (batch t) q k) := by
  show V m c main_arg1 _ = _
  rw [V_main_arg1]
  refine congrArg _ (funext fun a => Fin.ext ?_)
  match a with
  | ⟨0, _⟩ => show win0_1.index t 0 * 1 + 1 * 0 = t.val / 2; rw [(at1 t).1]; omega
  | ⟨1, _⟩ => show win0_1.index t 1 * 6 + 1 * q.val = q.val; rw [(at1 t).2.1]; omega
  | ⟨2, _⟩ => show win0_1.index t 2 * 1024 + 1 * k.val = k.val; rw [(at1 t).2.2]; omega

theorem blk2 (n : Fin 3360) (k : Fin 1024) : iblk m c 2 t (ix2 n k) = m ((c : Thread nD τ).loc main_arg2) (ix2 k n) := by
  refine Eq.trans (congrArg (V m c main_v1) (funext fun a => Fin.ext ?_)) (weights_apply m c n k)
  match a with
  | ⟨0, _⟩ => show win0_2.index t 0 * 3360 + 1 * n.val = n.val; rw [(at2 t).1]; omega
  | ⟨1, _⟩ => show win0_2.index t 1 * 1024 + 1 * k.val = k.val; rw [(at2 t).2]; omega

theorem blk3 (n : Fin 1920) : iblk m c 3 t (ix2 0 n) = share (m ((c : Thread nD τ).loc main_arg3)) n := by
  refine Eq.trans (congrArg (V m c main_v3) (funext fun a => Fin.ext ?_)) (shares_apply m c n)
  match a with
  | ⟨0, _⟩ => show win0_3.index t 0 * 1 + 1 * 0 = 0; rw [(at3 t).1]
  | ⟨1, _⟩ => show win0_3.index t 1 * 1920 + 1 * n.val = n.val; rw [(at3 t).2]; omega

theorem blk4 (q : Fin 3) (d : Fin 512) : iblk m c 4 t (ix2 q d) = m ((c : Thread nD τ).loc main_arg4) (ix2 q d) := by
  show V m c main_arg4 _ = _
  rw [V_main_arg4]
  refine congrArg _ (funext fun a => Fin.ext ?_)
  match a with
  | ⟨0, _⟩ => show win0_4.index t 0 * 3 + 1 * q.val = q.val; rw [(at4 t).1]; omega
  | ⟨1, _⟩ => show win0_4.index t 1 * 512 + 1 * d.val = d.val; rw [(at4 t).2]; omega

/-- Column `n` of the projection of the batch of grid point `t`. -/
abbrev colAt (n : Fin 3360) : Fin 2048 → EReal :=
  col (m ((c : Thread nD τ).loc main_arg0)) (m ((c : Thread nD τ).loc main_arg1)) (m ((c : Thread nD τ).loc main_arg2)) (batch t) n
/-- What the convolution of the batch of grid point `t` runs over. -/
abbrev gatesAt (d : Fin 512) : Fin 2048 → EReal :=
  gates (m ((c : Thread nD τ).loc main_arg0)) (m ((c : Thread nD τ).loc main_arg1)) (m ((c : Thread nD τ).loc main_arg2)) (batch t) d

/-- A tile's projection is that of its tokens. -/
theorem prj_eq (n : Fin 3360) (r : Fin 1024) : prj (iblk m c 0 t) (iblk m c 1 t) (iblk m c 2 t) n r
    = colAt m c t n ⟨1024 * (t.val % 2) + r.val, by omega⟩ := by
  unfold prj colAt col
  refine Finset.sum_congr rfl fun k _ => ?_
  rw [blk0, blk2]
  have g : ∀ {X W u u' v v' : EReal}, u = u' → v = v' → (X * (1 + u) + v) * W = (X * (1 + u') + v') * W := by
    rintro X W u _ v _ rfl rfl
    rfl
  exact g (blk1 m c t 1 k) (blk1 m c t 0 k)

theorem gated_eq (d : Fin 512) (r : Fin 1024) : gated (iblk m c 0 t) (iblk m c 1 t) (iblk m c 2 t) d r
    = gatesAt m c t d ⟨1024 * (t.val % 2) + r.val, by omega⟩ := by
  unfold gated gatesAt gates
  rw [prj_eq, prj_eq]

theorem mixed_eq {q : EReal} (n : Fin 1920) (e : q = earlier 1 (colAt m c t ⟨n.val, by omega⟩) ⟨1024 * (t.val % 2), by omega⟩) (r : Fin 1024) :
    mixed (iblk m c 0 t) (iblk m c 1 t) (iblk m c 2 t) (iblk m c 3 t) q n r
      = mix (m ((c : Thread nD τ).loc main_arg0)) (m ((c : Thread nD τ).loc main_arg1)) (m ((c : Thread nD τ).loc main_arg2)) (m ((c : Thread nD τ).loc main_arg3))
        (batch t) n ⟨1024 * (t.val % 2) + r.val, by omega⟩ := by
  unfold mixed mix
  rw [back1 _ (by omega : t.val % 2 < 2) _ (prj_eq m c t ⟨n.val, by omega⟩) e, prj_eq, blk3]

theorem conv_eq {q1 q2 : EReal} (d : Fin 512) (e1 : q1 = earlier 1 (gatesAt m c t d) ⟨1024 * (t.val % 2), by omega⟩)
    (e2 : q2 = earlier 2 (gatesAt m c t d) ⟨1024 * (t.val % 2), by omega⟩) (r : Fin 1024) :
    conv (iblk m c 0 t) (iblk m c 1 t) (iblk m c 2 t) (iblk m c 4 t) q1 q2 d r
      = short (m ((c : Thread nD τ).loc main_arg0)) (m ((c : Thread nD τ).loc main_arg1)) (m ((c : Thread nD τ).loc main_arg2)) (m ((c : Thread nD τ).loc main_arg4))
        (batch t) d ⟨1024 * (t.val % 2) + r.val, by omega⟩ := by
  unfold conv short
  rw [back1 _ (by omega : t.val % 2 < 2) _ (gated_eq m c t d) e1, back2 _ (by omega : t.val % 2 < 2) _ (gated_eq m c t d) e1 e2, gated_eq, prj_eq, blk4, blk4, blk4]

/-- Ahead of a batch's first token there is nothing. -/
theorem nothing (k : ℕ) (hk : 0 < k) (a : Fin 2048 → EReal) {h : ℕ} (e : h = 0) (b) : 0 = earlier k a ⟨1024 * h, b⟩ := by
  subst e
  unfold earlier
  rw [dif_neg (by show ¬ k ≤ 1024 * 0; omega)]

/-- What the first tile of a batch keeps: the last row of its projection. -/
theorem carried0 (h0 : t.val % 2 = 0) (n : Fin 1920) : (outsAt0 m c t.val t.isLt).2.2.2.1 (ix2 7 n)
    = colAt m c t ⟨n.val, by omega⟩ ⟨1023, by decide⟩ := by
  rw [outsAt0_A m c t h0]
  dsimp only
  rw [kept0, prj_eq]
  refine congrArg _ (Fin.ext ?_)
  show 1024 * (t.val % 2) + 1023 = 1023
  omega

/-- What the first tile of a batch keeps: the last rows of what the convolution runs over. -/
theorem carried1 (h0 : t.val % 2 = 0) (r : Fin 8) (d : Fin 512) : (outsAt0 m c t.val t.isLt).2.2.2.2 (ix2 r d)
    = gatesAt m c t d ⟨1016 + r.val, by omega⟩ := by
  rw [outsAt0_A m c t h0]
  dsimp only
  rw [kept1, gated_eq]
  refine congrArg _ (Fin.ext ?_)
  show 1024 * (t.val % 2) + (1016 + r.val) = 1016 + r.val
  omega

section Second

variable (h0 : ¬ t.val % 2 = 0)

include h0 in
theorem same_batch : batch ⟨t.val - 1, Nat.lt_of_le_of_lt (Nat.sub_le _ _) t.isLt⟩ = batch t :=
  Fin.ext (by show (t.val - 1) / 2 = t.val / 2; omega)

include h0 in
/-- The second tile of a batch starts from the last row of the first. -/
theorem starts0 (n : Fin 1920) : (outsAt0 m c (t.val - 1) (Nat.lt_of_le_of_lt (Nat.sub_le _ _) t.isLt)).2.2.2.1 (ix2 7 n)
    = earlier 1 (colAt m c t ⟨n.val, by omega⟩) ⟨1024 * (t.val % 2), by omega⟩ := by
  refine (carried0 m c ⟨t.val - 1, Nat.lt_of_le_of_lt (Nat.sub_le _ _) t.isLt⟩ (by show (t.val - 1) % 2 = 0; omega) n).trans ?_
  unfold colAt earlier
  rw [same_batch t h0, dif_pos (by show 1 ≤ 1024 * (t.val % 2); omega)]
  exact congrArg _ (Fin.ext (by show 1023 = 1024 * (t.val % 2) - 1; omega))

include h0 in
theorem starts1 (k : ℕ) (hk : 0 < k) (r : Fin 8) (e : r.val + k = 8) (d : Fin 512) :
    (outsAt0 m c (t.val - 1) (Nat.lt_of_le_of_lt (Nat.sub_le _ _) t.isLt)).2.2.2.2 (ix2 r d)
      = earlier k (gatesAt m c t d) ⟨1024 * (t.val % 2), by omega⟩ := by
  refine (carried1 m c ⟨t.val - 1, Nat.lt_of_le_of_lt (Nat.sub_le _ _) t.isLt⟩ (by show (t.val - 1) % 2 = 0; omega) r d).trans ?_
  unfold gatesAt earlier
  rw [same_batch t h0, dif_pos (by show k ≤ 1024 * (t.val % 2); omega)]
  exact congrArg _ (Fin.ext (by show 1016 + r.val = 1024 * (t.val % 2) - k; omega))

end Second

/-- The three results over device `c`'s argument arrays. -/
abbrev finalA : Buf (Elt Ideal) ((c : Thread nD τ).loc main_v4_0) :=
  resultA (m ((c : Thread nD τ).loc main_arg0)) (m ((c : Thread nD τ).loc main_arg1)) (m ((c : Thread nD τ).loc main_arg2)) (m ((c : Thread nD τ).loc main_arg3))
abbrev finalB : Buf (Elt Ideal) ((c : Thread nD τ).loc main_v4_1) :=
  resultB (m ((c : Thread nD τ).loc main_arg0)) (m ((c : Thread nD τ).loc main_arg1)) (m ((c : Thread nD τ).loc main_arg2)) (m ((c : Thread nD τ).loc main_arg3))
abbrev finalC : Buf (Elt Ideal) ((c : Thread nD τ).loc main_v4_2) :=
  resultC (m ((c : Thread nD τ).loc main_arg0)) (m ((c : Thread nD τ).loc main_arg1)) (m ((c : Thread nD τ).loc main_arg2)) (m ((c : Thread nD τ).loc main_arg4))

theorem emb5 (r : Fin 1024) (n : Fin 1536) : ((cfg0.win 5).blk t).view.emb (ix3 0 r n)
    = (ix3 (batch t) ⟨1024 * (t.val % 2) + r.val, by omega⟩ n : S8x2048x1536.Idx) := by
  refine funext fun a => Fin.ext ?_
  match a with
  | ⟨0, _⟩ => show win0_5.index t 0 * 1 + 1 * 0 = t.val / 2; rw [(at5 t).1]; omega
  | ⟨1, _⟩ => show win0_5.index t 1 * 1024 + 1 * r.val = 1024 * (t.val % 2) + r.val; rw [(at5 t).2.1]; omega
  | ⟨2, _⟩ => show win0_5.index t 2 * 1536 + 1 * n.val = n.val; rw [(at5 t).2.2]; omega

theorem emb6 (r : Fin 1024) (n : Fin 384) : ((cfg0.win 6).blk t).view.emb (ix3 0 r n)
    = (ix3 (batch t) ⟨1024 * (t.val % 2) + r.val, by omega⟩ n : S8x2048x384.Idx) := by
  refine funext fun a => Fin.ext ?_
  match a with
  | ⟨0, _⟩ => show win0_6.index t 0 * 1 + 1 * 0 = t.val / 2; rw [(at6 t).1]; omega
  | ⟨1, _⟩ => show win0_6.index t 1 * 1024 + 1 * r.val = 1024 * (t.val % 2) + r.val; rw [(at6 t).2.1]; omega
  | ⟨2, _⟩ => show win0_6.index t 2 * 384 + 1 * n.val = n.val; rw [(at6 t).2.2]; omega

theorem emb7 (r : Fin 1024) (d : Fin 512) : ((cfg0.win 7).blk t).view.emb (ix3 0 r d)
    = (ix3 (batch t) ⟨1024 * (t.val % 2) + r.val, by omega⟩ d : S8x2048x512.Idx) := by
  refine funext fun a => Fin.ext ?_
  match a with
  | ⟨0, _⟩ => show win0_7.index t 0 * 1 + 1 * 0 = t.val / 2; rw [(at7 t).1]; omega
  | ⟨1, _⟩ => show win0_7.index t 1 * 1024 + 1 * r.val = 1024 * (t.val % 2) + r.val; rw [(at7 t).2.1]; omega
  | ⟨2, _⟩ => show win0_7.index t 2 * 512 + 1 * d.val = d.val; rw [(at7 t).2.2]; omega

/-- Grid point `t` writes back its block of the first result. -/
theorem flushedA : (dats m 0 c).flushed 5 t = ((cfg0.win 5).blk t).view.read (Elt Ideal) (finalA m c) := by
  funext y
  obtain ⟨z, r, n, rfl⟩ : ∃ (z : Fin 1) (r : Fin 1024) (n : Fin 1536), (ix3 z r n : S1x1024x1536.Idx) = y := ⟨y 0, y 1, y 2, (eq_ix3 y).symm⟩
  obtain rfl : z = 0 := Subsingleton.elim _ _
  show _ = finalA m c (((cfg0.win 5).blk t).view.emb (ix3 0 r n))
  rw [emb5]
  by_cases h0 : t.val % 2 = 0
  · rw [Value.flushed5_A m c t h0]
    exact (congrFun (first5 _ _ _ _ _ _ _ _ _ _ _ _ _ _ _ _ _ _ _ _ _ _ _ _ _ _ _ _) (ix3 0 r n)).trans
      (mixed_eq m c t ⟨n.val, by omega⟩ (nothing 1 (by decide) _ h0 _) r)
  · rw [Value.flushed5_B m c t h0]
    exact (congrFun (second5 _ _ _ _ _ _ _ _ _ _ _ _ _ _ _ _ _ _ _ _ _ _ _ _ _ _ _ _ _ _) (ix3 0 r n)).trans
      (mixed_eq m c t ⟨n.val, by omega⟩ (starts0 m c t h0 _) r)

/-- Grid point `t` writes back its block of the second result. -/
theorem flushedB : (dats m 0 c).flushed 6 t = ((cfg0.win 6).blk t).view.read (Elt Ideal) (finalB m c) := by
  funext y
  obtain ⟨z, r, n, rfl⟩ : ∃ (z : Fin 1) (r : Fin 1024) (n : Fin 384), (ix3 z r n : S1x1024x384.Idx) = y := ⟨y 0, y 1, y 2, (eq_ix3 y).symm⟩
  obtain rfl : z = 0 := Subsingleton.elim _ _
  show _ = finalB m c (((cfg0.win 6).blk t).view.emb (ix3 0 r n))
  rw [emb6]
  by_cases h0 : t.val % 2 = 0
  · rw [Value.flushed6_A m c t h0]
    exact (first6 _ _ _ _ _ _ _ _ _ _ _ _ _ _ _ _ _ _ _ _ _ _ _ _ _ _ _ _ r n).trans
      (mixed_eq m c t ⟨1536 + n.val, by omega⟩ (nothing 1 (by decide) _ h0 _) r)
  · rw [Value.flushed6_B m c t h0]
    exact (second6 _ _ _ _ _ _ _ _ _ _ _ _ _ _ _ _ _ _ _ _ _ _ _ _ _ _ _ _ _ _ r n).trans
      (mixed_eq m c t ⟨1536 + n.val, by omega⟩ (starts0 m c t h0 _) r)

/-- Grid point `t` writes back its block of the third result. -/
theorem flushedC : (dats m 0 c).flushed 7 t = ((cfg0.win 7).blk t).view.read (Elt Ideal) (finalC m c) := by
  funext y
  obtain ⟨z, r, d, rfl⟩ : ∃ (z : Fin 1) (r : Fin 1024) (d : Fin 512), (ix3 z r d : S1x1024x512.Idx) = y := ⟨y 0, y 1, y 2, (eq_ix3 y).symm⟩
  obtain rfl : z = 0 := Subsingleton.elim _ _
  show _ = finalC m c (((cfg0.win 7).blk t).view.emb (ix3 0 r d))
  rw [emb7]
  by_cases h0 : t.val % 2 = 0
  · rw [Value.flushed7_A m c t h0]
    exact (first7 _ _ _ _ _ _ _ _ _ _ _ _ _ _ _ _ _ _ _ _ _ _ _ _ _ _ _ _ r d).trans
      (conv_eq m c t d (nothing 1 (by decide) _ h0 _) (nothing 2 (by decide) _ h0 _) r)
  · rw [Value.flushed7_B m c t h0]
    exact (second7 _ _ _ _ _ _ _ _ _ _ _ _ _ _ _ _ _ _ _ _ _ _ _ _ _ _ _ _ _ _ r d).trans
      (conv_eq m c t d (starts1 m c t h0 1 (by decide) 7 rfl d) (starts1 m c t h0 2 (by decide) 6 rfl d) r)

theorem coverA (y : S8x2048x1536.Idx) : ∃ t : Fin cfg0.N, (cfg0.win 5).flush t = true ∧ y ∈ ((cfg0.win 5).blk t).view.set := by
  have hN : cfg0.N = 16 := N_0
  have h0 : (y 0).val < 8 := (y 0).isLt
  have h1 : (y 1).val < 2048 := (y 1).isLt
  have lt : 2 * (y 0).val + (y 1).val / 1024 < cfg0.N := by omega
  refine ⟨⟨_, lt⟩, flush0_5 _, Finset.mem_map.mpr ⟨_, Finset.mem_univ _, (emb5 ⟨_, lt⟩ ⟨(y 1).val % 1024, by omega⟩ (y 2)).trans ?_⟩⟩
  refine funext fun a => Fin.ext ?_
  match a with
  | ⟨0, _⟩ => show (2 * (y 0).val + (y 1).val / 1024) / 2 = (y 0).val; omega
  | ⟨1, _⟩ => show 1024 * ((2 * (y 0).val + (y 1).val / 1024) % 2) + (y 1).val % 1024 = (y 1).val; omega
  | ⟨2, _⟩ => rfl

theorem coverB (y : S8x2048x384.Idx) : ∃ t : Fin cfg0.N, (cfg0.win 6).flush t = true ∧ y ∈ ((cfg0.win 6).blk t).view.set := by
  have hN : cfg0.N = 16 := N_0
  have h0 : (y 0).val < 8 := (y 0).isLt
  have h1 : (y 1).val < 2048 := (y 1).isLt
  have lt : 2 * (y 0).val + (y 1).val / 1024 < cfg0.N := by omega
  refine ⟨⟨_, lt⟩, flush0_6 _, Finset.mem_map.mpr ⟨_, Finset.mem_univ _, (emb6 ⟨_, lt⟩ ⟨(y 1).val % 1024, by omega⟩ (y 2)).trans ?_⟩⟩
  refine funext fun a => Fin.ext ?_
  match a with
  | ⟨0, _⟩ => show (2 * (y 0).val + (y 1).val / 1024) / 2 = (y 0).val; omega
  | ⟨1, _⟩ => show 1024 * ((2 * (y 0).val + (y 1).val / 1024) % 2) + (y 1).val % 1024 = (y 1).val; omega
  | ⟨2, _⟩ => rfl

theorem coverC (y : S8x2048x512.Idx) : ∃ t : Fin cfg0.N, (cfg0.win 7).flush t = true ∧ y ∈ ((cfg0.win 7).blk t).view.set := by
  have hN : cfg0.N = 16 := N_0
  have h0 : (y 0).val < 8 := (y 0).isLt
  have h1 : (y 1).val < 2048 := (y 1).isLt
  have lt : 2 * (y 0).val + (y 1).val / 1024 < cfg0.N := by omega
  refine ⟨⟨_, lt⟩, flush0_7 _, Finset.mem_map.mpr ⟨_, Finset.mem_univ _, (emb7 ⟨_, lt⟩ ⟨(y 1).val % 1024, by omega⟩ (y 2)).trans ?_⟩⟩
  refine funext fun a => Fin.ext ?_
  match a with
  | ⟨0, _⟩ => show (2 * (y 0).val + (y 1).val / 1024) / 2 = (y 0).val; omega
  | ⟨1, _⟩ => show 1024 * ((2 * (y 0).val + (y 1).val / 1024) % 2) + (y 1).val % 1024 = (y 1).val; omega
  | ⟨2, _⟩ => rfl

/-- The kernel's three result arrays after the run. -/
theorem finalA_eq : (dats m 0 c).arrAt 5 cfg0.N = finalA m c := (dats m 0 c).arrAt_eq_of_cover 5 (finalA m c) (fun t _ => flushedA m c t) coverA
theorem finalB_eq : (dats m 0 c).arrAt 6 cfg0.N = finalB m c := (dats m 0 c).arrAt_eq_of_cover 6 (finalB m c) (fun t _ => flushedB m c t) coverB
theorem finalC_eq : (dats m 0 c).arrAt 7 cfg0.N = finalC m c := (dats m 0 c).arrAt_eq_of_cover 7 (finalC m c) (fun t _ => flushedC m c t) coverC

end Cert.AbIdeal.Val

end
-- ==== Proof.AbClaim.lean ====
/- The value claim ahead of the even layer's mixers: the kernel and its reference leave the same three arrays. -/
module

public import proofs.«01_k».proof.Defs
public import proofs.«01_k».proof.Proof.Gen.Ab
public import proofs.«01_k».proof.Proof.AbValue

@[expose] public section

set_option maxRecDepth 16384

noncomputable section

namespace Cert.AbIdeal.Val

open Idealize.ShloMosaic Idealize.ShloMosaic.TcCoe Idealize.SL.Sem

section
variable {x0 y0 : FVec Ideal S8x2048x1024 .f32} {x1 y1 : FVec Ideal S8x6x1024 .f32} {x2 y2 : FVec Ideal S1024x3360 .f32}
  {x3 y3 : FVec Ideal S1824 .f32} {x4 y4 : FVec Ideal S3x512 .f32} (e0 : x0 = y0) (e1 : x1 = y1) (e2 : x2 = y2) (e3 : x3 = y3) (e4 : x4 = y4)

include e0 e1 e2 e3 in
/-- The reference's results are the mixed columns and the gated convolution over the whole arrays, whichever equal arrays it reads. -/
theorem referenceA : AbRefIdeal.Read.val_main_v50 (F := Ideal) x0 x1 x2 x3 = resultA y0 y1 y2 y3 := by
  subst e0 e1 e2 e3
  funext y
  obtain ⟨b, r, n, rfl⟩ : ∃ (b : Fin 8) (r : Fin 2048) (n : Fin 1536), (ix3 b r n : S8x2048x1536.Idx) = y := ⟨y 0, y 1, y 2, (eq_ix3 y).symm⟩
  exact AbRefIdeal.Val.v50_apply x0 x1 x2 x3 b r n

include e0 e1 e2 e3 in
theorem referenceB : AbRefIdeal.Read.val_main_v51 (F := Ideal) x0 x1 x2 x3 = resultB y0 y1 y2 y3 := by
  subst e0 e1 e2 e3
  funext y
  obtain ⟨b, r, n, rfl⟩ : ∃ (b : Fin 8) (r : Fin 2048) (n : Fin 384), (ix3 b r n : S8x2048x384.Idx) = y := ⟨y 0, y 1, y 2, (eq_ix3 y).symm⟩
  exact AbRefIdeal.Val.v51_apply x0 x1 x2 x3 b r n

include e0 e1 e2 e4 in
theorem referenceC : AbRefIdeal.Read.val_main_v53 (F := Ideal) x0 x1 x2 x4 = resultC y0 y1 y2 y4 := by
  subst e0 e1 e2 e4
  funext y
  obtain ⟨b, r, d, rfl⟩ : ∃ (b : Fin 8) (r : Fin 2048) (d : Fin 512), (ix3 b r d : S8x2048x512.Idx) = y := ⟨y 0, y 1, y 2, (eq_ix3 y).symm⟩
  exact AbRefIdeal.Val.v53_apply x0 x1 x2 x4 b r d

end

/-- From arguments that agree, the kernel and the reference end with the same three arrays, their arguments unchanged. -/
theorem claim : algebraic_AbIdeal_AbRefIdeal := by
  intro m g m' g' _ e
  refine ⟨fun c => finalA m c, fun c => finalB m c, fun c => finalC m c,
    (θ_run _ _ _).mono (fun r h c => ⟨((h c).1).trans (finalA_eq m c), ((h c).2.1).trans (finalB_eq m c), ((h c).2.2.1).trans (finalC_eq m c), (h c).2.2.2⟩) (Value.run_blocks m g),
    (θ_run _ _ _).mono (fun r h c => ⟨?_, ?_, ?_, (h c).2.2.2⟩) (AbRefIdeal.Value.run m' g')⟩
  · obtain ⟨e0, e1, e2, e3, e4⟩ := e c
    rw [(h c).1]
    exact (AbRefIdeal.Read.val_main_v50_eq _ _ _ _).trans (referenceA e0 e1 e2 e3)
  · obtain ⟨e0, e1, e2, e3, e4⟩ := e c
    rw [(h c).2.1]
    exact (AbRefIdeal.Read.val_main_v51_eq _ _ _ _).trans (referenceB e0 e1 e2 e3)
  · obtain ⟨e0, e1, e2, e3, e4⟩ := e c
    rw [(h c).2.2.1]
    exact (AbRefIdeal.Read.val_main_v53_eq _ _).trans (referenceC e0 e1 e2 e4)

end Cert.AbIdeal.Val

end
-- ==== Proof.lean ====
module

public import proofs.«01_k».proof.Defs
public import proofs.«01_k».proof.Proof.Gen.EvenTail
public import proofs.«01_k».proof.Proof.Gen.EvenTail.Skeleton
public import proofs.«01_k».proof.Proof.Gen.EvenTail.Launch
public import proofs.«01_k».proof.Proof.Gen.EvenTail.Points
public import proofs.«01_k».proof.Proof.Gen.EvenTail.Frame
public import proofs.«01_k».proof.Proof.Gen.EvenTailIdeal
public import proofs.«01_k».proof.Proof.Gen.EvenTailIdeal.Skeleton
public import proofs.«01_k».proof.Proof.Gen.EvenTailIdeal.Launch
public import proofs.«01_k».proof.Proof.Gen.EvenTailIdeal.Points
public import proofs.«01_k».proof.Proof.Gen.EvenTailIdeal.Frame
public import proofs.«01_k».proof.Proof.Gen.EvenTailRefIdeal
public import proofs.«01_k».proof.Proof.Gen.OddTail
public import proofs.«01_k».proof.Proof.Gen.OddTail.Skeleton
public import proofs.«01_k».proof.Proof.Gen.OddTail.Launch
public import proofs.«01_k».proof.Proof.Gen.OddTail.Points
public import proofs.«01_k».proof.Proof.Gen.OddTail.Frame
public import proofs.«01_k».proof.Proof.Gen.OddTailIdeal
public import proofs.«01_k».proof.Proof.Gen.OddTailIdeal.Skeleton
public import proofs.«01_k».proof.Proof.Gen.OddTailIdeal.Launch
public import proofs.«01_k».proof.Proof.Gen.OddTailIdeal.Points
public import proofs.«01_k».proof.Proof.Gen.OddTailIdeal.Frame
public import proofs.«01_k».proof.Proof.Gen.OddTailRefIdeal
public import proofs.«01_k».proof.Proof.Gen.EvenTailIdeal.Value
public import proofs.«01_k».proof.Proof.Gen.OddTailIdeal.Value
public import proofs.«01_k».proof.Proof.Gen.EvenTailRefIdeal.Run
public import proofs.«01_k».proof.Proof.Gen.EvenTailRefIdeal.Read
public import proofs.«01_k».proof.Proof.Gen.OddTailRefIdeal.Run
public import proofs.«01_k».proof.Proof.Gen.OddTailRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Ab
public import proofs.«01_k».proof.Proof.Gen.Ab.Skeleton
public import proofs.«01_k».proof.Proof.Gen.Ab.Launch
public import proofs.«01_k».proof.Proof.Gen.Ab.Points
public import proofs.«01_k».proof.Proof.Gen.Ab.Frame
public import proofs.«01_k».proof.Proof.Gen.AbIdeal
public import proofs.«01_k».proof.Proof.Gen.AbIdeal.Skeleton
public import proofs.«01_k».proof.Proof.Gen.AbIdeal.Launch
public import proofs.«01_k».proof.Proof.Gen.AbIdeal.Points
public import proofs.«01_k».proof.Proof.Gen.AbIdeal.Frame
public import proofs.«01_k».proof.Proof.Gen.AbIdeal.Value
public import proofs.«01_k».proof.Proof.Gen.AbRefIdeal
public import proofs.«01_k».proof.Proof.Gen.AbRefIdeal.Run
public import proofs.«01_k».proof.Proof.Gen.AbRefIdeal.Read
public import proofs.«01_k».proof.Proof.Gen.AttnMid
public import proofs.«01_k».proof.Proof.Gen.AttnMid.Skeleton
public import proofs.«01_k».proof.Proof.Gen.AttnMid.Launch
public import proofs.«01_k».proof.Proof.Gen.AttnMid.Points
public import proofs.«01_k».proof.Proof.Gen.AttnMid.Frame
public import proofs.«01_k».proof.Proof.Gen.AttnMidIdeal
public import proofs.«01_k».proof.Proof.Gen.AttnMidIdeal.Skeleton
public import proofs.«01_k».proof.Proof.Gen.AttnMidIdeal.Launch
public import proofs.«01_k».proof.Proof.Gen.AttnMidIdeal.Points
public import proofs.«01_k».proof.Proof.Gen.AttnMidIdeal.Frame
public import proofs.«01_k».proof.Proof.Gen.AttnMidIdeal.Value
public import proofs.«01_k».proof.Proof.Gen.AttnMidRefIdeal
public import proofs.«01_k».proof.Proof.Gen.AttnMidRefIdeal.Run
public import proofs.«01_k».proof.Proof.Gen.AttnMidRefIdeal.Read
public import proofs.«01_k».proof.Proof.Gen.Pre_finite_lses
public import proofs.«01_k».proof.Proof.EvenClaim
public import proofs.«01_k».proof.Proof.OddClaim
public import proofs.«01_k».proof.Proof.QkvClaim
public import proofs.«01_k».proof.Proof.AttnClaim
public import proofs.«01_k».proof.Proof.MidClaim
public import proofs.«01_k».proof.Proof.AbClaim
public import Idealize.ShloMosaic.Adequacy
public import Idealize.ShloMosaic.Init

@[expose] public section

noncomputable section

namespace Cert.Proof

open Idealize.ShloMosaic Idealize.SL.Sem Cert.EvenTail

/-- The reference of the even layer's tail runs on the host and declares no semaphore. -/
theorem frame_evenRef : Cert.quiescent_EvenTailRefIdeal := fun m ρ _ =>
  (θ_run Cert.EvenTailRefIdeal.defs _ _).mono (fun r h => ⟨fun c => (h c).2, sem_eq_zero_of_no_sems (by decide) r.2⟩)
    (Cert.EvenTailRefIdeal.Value.run (F := Ideal) m ρ)

/-- The reference of the odd layer's tail runs on the host and declares no semaphore. -/
theorem frame_oddRef : Cert.quiescent_OddTailRefIdeal := fun m ρ _ =>
  (θ_run Cert.OddTailRefIdeal.defs _ _).mono (fun r h => ⟨fun c => (h c).2, sem_eq_zero_of_no_sems (by decide) r.2⟩)
    (Cert.OddTailRefIdeal.Value.run (F := Ideal) m ρ)

/-- The reference of the projections to queries, keys and values runs on the host and declares no semaphore. -/
theorem frame_qkvRef : Cert.quiescent_QkvRefIdeal := fun m ρ _ =>
  (θ_run Cert.QkvRefIdeal.defs _ _).mono (fun r h => ⟨fun c => (h c).2.2.2, sem_eq_zero_of_no_sems (by decide) r.2⟩)
    (Cert.QkvRefIdeal.Value.run (F := Ideal) m ρ)

/-- The attention's reference runs on the host and declares no semaphore. -/
theorem frame_attnRef : Cert.quiescent_AttnRefIdeal := fun m ρ _ =>
  (θ_run Cert.AttnRefIdeal.defs _ _).mono (fun r h => ⟨fun c => (h c).2.2, sem_eq_zero_of_no_sems (by decide) r.2⟩)
    (Cert.AttnRefIdeal.Value.run (F := Ideal) m ρ)

/-- The reference of the projection ahead of the even layer's mixers runs on the host and declares no semaphore. -/
theorem frame_abRef : Cert.quiescent_AbRefIdeal := fun m ρ _ =>
  (θ_run Cert.AbRefIdeal.defs _ _).mono (fun r h => ⟨fun c => (h c).2.2.2, sem_eq_zero_of_no_sems (by decide) r.2⟩)
    (Cert.AbRefIdeal.Value.run (F := Ideal) m ρ)

/-- The reference of the middle group's attention runs on the host and declares no semaphore. -/
theorem frame_midRef : Cert.quiescent_AttnMidRefIdeal := fun m ρ _ =>
  (θ_run Cert.AttnMidRefIdeal.defs _ _).mono (fun r h => ⟨fun c => (h c).2.2, sem_eq_zero_of_no_sems (by decide) r.2⟩)
    (Cert.AttnMidRefIdeal.Value.run (F := Ideal) m ρ)

theorem claim : Cert.Claim := ⟨Cert.EvenTail.Gen.facts, Cert.EvenTailIdeal.Gen.facts, Cert.EvenTailRefIdeal.Gen.facts, Cert.OddTail.Gen.facts, Cert.OddTailIdeal.Gen.facts, Cert.OddTailRefIdeal.Gen.facts, Cert.Qkv.Gen.facts, Cert.QkvIdeal.Gen.facts, Cert.QkvRefIdeal.Gen.facts, Cert.Attn.Gen.facts, Cert.AttnIdeal.Gen.facts, Cert.AttnRefIdeal.Gen.facts, Cert.AttnMid.Gen.facts, Cert.AttnMidIdeal.Gen.facts, Cert.AttnMidRefIdeal.Gen.facts, Cert.Ab.Gen.facts, Cert.AbIdeal.Gen.facts, Cert.AbRefIdeal.Gen.facts, Cert.Pre_finite_lses.Gen.facts,
  fun m ρ _ => Cert.EvenTail.Gen.frame m ρ, fun m ρ _ => Cert.EvenTailIdeal.Gen.frame m ρ, frame_evenRef,
  fun m ρ _ => Cert.OddTail.Gen.frame m ρ, fun m ρ _ => Cert.OddTailIdeal.Gen.frame m ρ, fun m ρ _ => Cert.OddTailIdeal.Gen.frame m ρ,
  frame_oddRef, fun m ρ _ => frame_oddRef m ρ trivial,
  fun m ρ _ => Cert.Qkv.Gen.frame m ρ, fun m ρ _ => Cert.QkvIdeal.Gen.frame m ρ, frame_qkvRef,
  fun m ρ _ => Cert.Attn.Gen.frame m ρ, fun m ρ _ => Cert.AttnIdeal.Gen.frame m ρ, frame_attnRef,
  fun m ρ _ => Cert.AttnMid.Gen.frame m ρ, fun m ρ _ => Cert.AttnMidIdeal.Gen.frame m ρ, frame_midRef,
  fun m ρ _ => Cert.Ab.Gen.frame m ρ, fun m ρ _ => Cert.AbIdeal.Gen.frame m ρ, frame_abRef,
  trivial, Cert.EvenTailIdeal.Val.claim, trivial, Cert.OddTailIdeal.Val.claim, trivial, Cert.QkvIdeal.Val.claim, trivial, Cert.AttnIdeal.Val.claim, trivial, Cert.AttnMidIdeal.Val.claim, trivial, Cert.AbIdeal.Val.claim⟩

end Cert.Proof

end
